-- ==== Defs.lean ====
def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_finite_ln [hPre_finite_ln : Cert.Pre_finite_ln.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_finite_ln.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_finite_ln [hPre_finite_ln : Cert.Pre_finite_ln.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_finite_ln.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3))) = (fun _ => 1#1)

def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def Pre_ScReferenceIdeal (m : (ℓ : Loc Cert.ScReferenceIdeal.nD Cert.ScReferenceIdeal.τ Cert.ScReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_finite_up [hPre_finite_up : Cert.Pre_finite_up.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_finite_up.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_finite_up [hPre_finite_up : Cert.Pre_finite_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_finite_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_MixrKernel (m : (ℓ : Loc Cert.MixrKernel.nD Cert.MixrKernel.τ Cert.MixrKernel.sig) → Buf (Elt Bits) ℓ) : Prop :=
  True

def Pre_MixrKernelIdeal (m : (ℓ : Loc Cert.MixrKernelIdeal.nD Cert.MixrKernelIdeal.τ Cert.MixrKernelIdeal.sig) → Buf (Elt Ideal) ℓ) : Prop :=
  True

def Pre_MixrKernelIdeal_finite_mixr [hPre_finite_mixr : Cert.Pre_finite_mixr.Facts] (m : (ℓ : Loc Cert.MixrKernelIdeal.nD Cert.MixrKernelIdeal.τ Cert.MixrKernelIdeal.sig) → Buf (Elt Ideal) ℓ) : Prop :=
  ∀ c : Dev Cert.MixrKernelIdeal.nD,
    (Cert.Pre_finite_mixr.fn (F := Ideal) (m ((c.tc : Thread Cert.MixrKernelIdeal.nD Cert.MixrKernelIdeal.τ).loc Cert.MixrKernelIdeal.main_arg0)) (m ((c.tc : Thread Cert.MixrKernelIdeal.nD Cert.MixrKernelIdeal.τ).loc Cert.MixrKernelIdeal.main_arg1)) (m ((c.tc : Thread Cert.MixrKernelIdeal.nD Cert.MixrKernelIdeal.τ).loc Cert.MixrKernelIdeal.main_arg2)) (m ((c.tc : Thread Cert.MixrKernelIdeal.nD Cert.MixrKernelIdeal.τ).loc Cert.MixrKernelIdeal.main_arg3)) (m ((c.tc : Thread Cert.MixrKernelIdeal.nD Cert.MixrKernelIdeal.τ).loc Cert.MixrKernelIdeal.main_arg4)) (m ((c.tc : Thread Cert.MixrKernelIdeal.nD Cert.MixrKernelIdeal.τ).loc Cert.MixrKernelIdeal.main_arg5))) = (fun _ => 1#1)

def Pre_MixrReferenceIdeal (m : (ℓ : Loc Cert.MixrReferenceIdeal.nD Cert.MixrReferenceIdeal.τ Cert.MixrReferenceIdeal.sig) → Buf (Elt Ideal) ℓ) : Prop :=
  True

def Pre_MixrReferenceIdeal_finite_mixr [hPre_finite_mixr : Cert.Pre_finite_mixr.Facts] (m : (ℓ : Loc Cert.MixrReferenceIdeal.nD Cert.MixrReferenceIdeal.τ Cert.MixrReferenceIdeal.sig) → Buf (Elt Ideal) ℓ) : Prop :=
  ∀ c : Dev Cert.MixrReferenceIdeal.nD,
    (Cert.Pre_finite_mixr.fn (F := Ideal) (m ((c.tc : Thread Cert.MixrReferenceIdeal.nD Cert.MixrReferenceIdeal.τ).loc Cert.MixrReferenceIdeal.main_arg0)) (m ((c.tc : Thread Cert.MixrReferenceIdeal.nD Cert.MixrReferenceIdeal.τ).loc Cert.MixrReferenceIdeal.main_arg1)) (m ((c.tc : Thread Cert.MixrReferenceIdeal.nD Cert.MixrReferenceIdeal.τ).loc Cert.MixrReferenceIdeal.main_arg2)) (m ((c.tc : Thread Cert.MixrReferenceIdeal.nD Cert.MixrReferenceIdeal.τ).loc Cert.MixrReferenceIdeal.main_arg3)) (m ((c.tc : Thread Cert.MixrReferenceIdeal.nD Cert.MixrReferenceIdeal.τ).loc Cert.MixrReferenceIdeal.main_arg4)) (m ((c.tc : Thread Cert.MixrReferenceIdeal.nD Cert.MixrReferenceIdeal.τ).loc Cert.MixrReferenceIdeal.main_arg5))) = (fun _ => 1#1)

def Pre_MixcKernel (m : (ℓ : Loc Cert.MixcKernel.nD Cert.MixcKernel.τ Cert.MixcKernel.sig) → Buf (Elt Bits) ℓ) : Prop :=
  True

def Pre_MixcKernelIdeal (m : (ℓ : Loc Cert.MixcKernelIdeal.nD Cert.MixcKernelIdeal.τ Cert.MixcKernelIdeal.sig) → Buf (Elt Ideal) ℓ) : Prop :=
  True

def Pre_MixcKernelIdeal_finite_mixc [hPre_finite_mixc : Cert.Pre_finite_mixc.Facts] (m : (ℓ : Loc Cert.MixcKernelIdeal.nD Cert.MixcKernelIdeal.τ Cert.MixcKernelIdeal.sig) → Buf (Elt Ideal) ℓ) : Prop :=
  ∀ c : Dev Cert.MixcKernelIdeal.nD,
    (Cert.Pre_finite_mixc.fn (F := Ideal) (m ((c.tc : Thread Cert.MixcKernelIdeal.nD Cert.MixcKernelIdeal.τ).loc Cert.MixcKernelIdeal.main_arg0)) (m ((c.tc : Thread Cert.MixcKernelIdeal.nD Cert.MixcKernelIdeal.τ).loc Cert.MixcKernelIdeal.main_arg1)) (m ((c.tc : Thread Cert.MixcKernelIdeal.nD Cert.MixcKernelIdeal.τ).loc Cert.MixcKernelIdeal.main_arg2)) (m ((c.tc : Thread Cert.MixcKernelIdeal.nD Cert.MixcKernelIdeal.τ).loc Cert.MixcKernelIdeal.main_arg3)) (m ((c.tc : Thread Cert.MixcKernelIdeal.nD Cert.MixcKernelIdeal.τ).loc Cert.MixcKernelIdeal.main_arg4)) (m ((c.tc : Thread Cert.MixcKernelIdeal.nD Cert.MixcKernelIdeal.τ).loc Cert.MixcKernelIdeal.main_arg5))) = (fun _ => 1#1)

def Pre_MixcReferenceIdeal (m : (ℓ : Loc Cert.MixcReferenceIdeal.nD Cert.MixcReferenceIdeal.τ Cert.MixcReferenceIdeal.sig) → Buf (Elt Ideal) ℓ) : Prop :=
  True

def Pre_MixcReferenceIdeal_finite_mixc [hPre_finite_mixc : Cert.Pre_finite_mixc.Facts] (m : (ℓ : Loc Cert.MixcReferenceIdeal.nD Cert.MixcReferenceIdeal.τ Cert.MixcReferenceIdeal.sig) → Buf (Elt Ideal) ℓ) : Prop :=
  ∀ c : Dev Cert.MixcReferenceIdeal.nD,
    (Cert.Pre_finite_mixc.fn (F := Ideal) (m ((c.tc : Thread Cert.MixcReferenceIdeal.nD Cert.MixcReferenceIdeal.τ).loc Cert.MixcReferenceIdeal.main_arg0)) (m ((c.tc : Thread Cert.MixcReferenceIdeal.nD Cert.MixcReferenceIdeal.τ).loc Cert.MixcReferenceIdeal.main_arg1)) (m ((c.tc : Thread Cert.MixcReferenceIdeal.nD Cert.MixcReferenceIdeal.τ).loc Cert.MixcReferenceIdeal.main_arg2)) (m ((c.tc : Thread Cert.MixcReferenceIdeal.nD Cert.MixcReferenceIdeal.τ).loc Cert.MixcReferenceIdeal.main_arg3)) (m ((c.tc : Thread Cert.MixcReferenceIdeal.nD Cert.MixcReferenceIdeal.τ).loc Cert.MixcReferenceIdeal.main_arg4)) (m ((c.tc : Thread Cert.MixcReferenceIdeal.nD Cert.MixcReferenceIdeal.τ).loc Cert.MixcReferenceIdeal.main_arg5))) = (fun _ => 1#1)

def Pre_LhKernel (m : (ℓ : Loc Cert.LhKernel.nD Cert.LhKernel.τ Cert.LhKernel.sig) → Buf (Elt Bits) ℓ) : Prop :=
  True

def Pre_LhKernelIdeal (m : (ℓ : Loc Cert.LhKernelIdeal.nD Cert.LhKernelIdeal.τ Cert.LhKernelIdeal.sig) → Buf (Elt Ideal) ℓ) : Prop :=
  True

def Pre_LhReferenceIdeal (m : (ℓ : Loc Cert.LhReferenceIdeal.nD Cert.LhReferenceIdeal.τ Cert.LhReferenceIdeal.sig) → Buf (Elt Ideal) ℓ) : Prop :=
  True

def Pre_OutaKernel (m : (ℓ : Loc Cert.OutaKernel.nD Cert.OutaKernel.τ Cert.OutaKernel.sig) → Buf (Elt Bits) ℓ) : Prop :=
  True

def Pre_OutaKernelIdeal (m : (ℓ : Loc Cert.OutaKernelIdeal.nD Cert.OutaKernelIdeal.τ Cert.OutaKernelIdeal.sig) → Buf (Elt Ideal) ℓ) : Prop :=
  True

def Pre_OutaReferenceIdeal (m : (ℓ : Loc Cert.OutaReferenceIdeal.nD Cert.OutaReferenceIdeal.τ Cert.OutaReferenceIdeal.sig) → Buf (Elt Ideal) ℓ) : Prop :=
  True

def Pre_OutcKernel (m : (ℓ : Loc Cert.OutcKernel.nD Cert.OutcKernel.τ Cert.OutcKernel.sig) → Buf (Elt Bits) ℓ) : Prop :=
  True

def Pre_OutcKernelIdeal (m : (ℓ : Loc Cert.OutcKernelIdeal.nD Cert.OutcKernelIdeal.τ Cert.OutcKernelIdeal.sig) → Buf (Elt Ideal) ℓ) : Prop :=
  True

def Pre_OutcReferenceIdeal (m : (ℓ : Loc Cert.OutcReferenceIdeal.nD Cert.OutcReferenceIdeal.τ Cert.OutcReferenceIdeal.sig) → Buf (Elt Ideal) ℓ) : Prop :=
  True

def Pre_OutrKernel (m : (ℓ : Loc Cert.OutrKernel.nD Cert.OutrKernel.τ Cert.OutrKernel.sig) → Buf (Elt Bits) ℓ) : Prop :=
  True

def Pre_OutrKernelIdeal (m : (ℓ : Loc Cert.OutrKernelIdeal.nD Cert.OutrKernelIdeal.τ Cert.OutrKernelIdeal.sig) → Buf (Elt Ideal) ℓ) : Prop :=
  True

def Pre_OutrReferenceIdeal (m : (ℓ : Loc Cert.OutrReferenceIdeal.nD Cert.OutrReferenceIdeal.τ Cert.OutrReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ScfKernel (m : (ℓ : Loc Cert.ScfKernel.nD Cert.ScfKernel.τ Cert.ScfKernel.sig) → Buf (Elt Bits) ℓ) : Prop :=
  True

def Pre_ScfKernelIdeal (m : (ℓ : Loc Cert.ScfKernelIdeal.nD Cert.ScfKernelIdeal.τ Cert.ScfKernelIdeal.sig) → Buf (Elt Ideal) ℓ) : Prop :=
  True

def Pre_ScfReferenceIdeal (m : (ℓ : Loc Cert.ScfReferenceIdeal.nD Cert.ScfReferenceIdeal.τ Cert.ScfReferenceIdeal.sig) → Buf (Elt Ideal) ℓ) : Prop :=
  True

def Pre_FupKernel (m : (ℓ : Loc Cert.FupKernel.nD Cert.FupKernel.τ Cert.FupKernel.sig) → Buf (Elt Bits) ℓ) : Prop :=
  True

def Pre_FupKernelIdeal (m : (ℓ : Loc Cert.FupKernelIdeal.nD Cert.FupKernelIdeal.τ Cert.FupKernelIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_LrufKernel (m : (ℓ : Loc Cert.LrufKernel.nD Cert.LrufKernel.τ Cert.LrufKernel.sig) → Buf (Elt Bits) ℓ) : Prop :=
  True

def Pre_LrufKernelIdeal (m : (ℓ : Loc Cert.LrufKernelIdeal.nD Cert.LrufKernelIdeal.τ Cert.LrufKernelIdeal.sig) → Buf (Elt Ideal) ℓ) : Prop :=
  True

def Pre_MmKernel (m : (ℓ : Loc Cert.MmKernel.nD Cert.MmKernel.τ Cert.MmKernel.sig) → Buf (Elt Bits) ℓ) : Prop :=
  True

def Pre_MmKernelIdeal (m : (ℓ : Loc Cert.MmKernelIdeal.nD Cert.MmKernelIdeal.τ Cert.MmKernelIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_MmtnKernel (m : (ℓ : Loc Cert.MmtnKernel.nD Cert.MmtnKernel.τ Cert.MmtnKernel.sig) → Buf (Elt Bits) ℓ) : Prop :=
  True

def Pre_MmtnKernelIdeal (m : (ℓ : Loc Cert.MmtnKernelIdeal.nD Cert.MmtnKernelIdeal.τ Cert.MmtnKernelIdeal.sig) → Buf (Elt Ideal) ℓ) : Prop :=
  True

def Pre_MmtnReferenceIdeal (m : (ℓ : Loc Cert.MmtnReferenceIdeal.nD Cert.MmtnReferenceIdeal.τ Cert.MmtnReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_CastKernel (m : (ℓ : Loc Cert.CastKernel.nD Cert.CastKernel.τ Cert.CastKernel.sig) → Buf (Elt Bits) ℓ) : Prop :=
  True

def Pre_CastKernelIdeal (m : (ℓ : Loc Cert.CastKernelIdeal.nD Cert.CastKernelIdeal.τ Cert.CastKernelIdeal.sig) → Buf (Elt Ideal) ℓ) : Prop :=
  True

def Pre_CastReferenceIdeal (m : (ℓ : Loc Cert.CastReferenceIdeal.nD Cert.CastReferenceIdeal.τ Cert.CastReferenceIdeal.sig) → Buf (Elt Ideal) ℓ) : Prop :=
  True

def Pre_LrubKernel (m : (ℓ : Loc Cert.LrubKernel.nD Cert.LrubKernel.τ Cert.LrubKernel.sig) → Buf (Elt Bits) ℓ) : Prop :=
  True

def Pre_LrubKernelIdeal (m : (ℓ : Loc Cert.LrubKernelIdeal.nD Cert.LrubKernelIdeal.τ Cert.LrubKernelIdeal.sig) → Buf (Elt Ideal) ℓ) : Prop :=
  True

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnKernelIdeal_pre_finite_ln [hLnKernelIdeal : Cert.LnKernelIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_finite_ln m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnReferenceIdeal_pre_finite_ln [hLnReferenceIdeal : Cert.LnReferenceIdeal.Facts] [hPre_finite_ln : Cert.Pre_finite_ln.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_finite_ln m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (onTc (τ := Cert.ScKernel.τ) (Cert.ScKernel.main (F := Bits))) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0)
      ∧ r.2.mem ((c.tc : Thread Cert.ScKernel.nD Cert.ScKernel.τ).loc Cert.ScKernel.main_arg1) = m ((c.tc : Thread Cert.ScKernel.nD Cert.ScKernel.τ).loc Cert.ScKernel.main_arg1)
      ∧ r.2.mem ((c.tc : Thread Cert.ScKernel.nD Cert.ScKernel.τ).loc Cert.ScKernel.main_arg2) = m ((c.tc : Thread Cert.ScKernel.nD Cert.ScKernel.τ).loc Cert.ScKernel.main_arg2)
      ∧ r.2.mem ((c.tc : Thread Cert.ScKernel.nD Cert.ScKernel.τ).loc Cert.ScKernel.main_arg3) = m ((c.tc : Thread Cert.ScKernel.nD Cert.ScKernel.τ).loc Cert.ScKernel.main_arg3))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (onTc (τ := Cert.ScKernelIdeal.τ) (Cert.ScKernelIdeal.main (F := Ideal))) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
      ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1)
      ∧ r.2.mem ((c.tc : Thread Cert.ScKernelIdeal.nD Cert.ScKernelIdeal.τ).loc Cert.ScKernelIdeal.main_arg2) = m ((c.tc : Thread Cert.ScKernelIdeal.nD Cert.ScKernelIdeal.τ).loc Cert.ScKernelIdeal.main_arg2)
      ∧ r.2.mem ((c.tc : Thread Cert.ScKernelIdeal.nD Cert.ScKernelIdeal.τ).loc Cert.ScKernelIdeal.main_arg3) = m ((c.tc : Thread Cert.ScKernelIdeal.nD Cert.ScKernelIdeal.τ).loc Cert.ScKernelIdeal.main_arg3))
      ∧ r.2.sem = fun _ => 0)

def quiescent_ScReferenceIdeal [hScReferenceIdeal : Cert.ScReferenceIdeal.Facts] : Prop :=
  ∀ (m : (ℓ : Loc Cert.ScReferenceIdeal.nD Cert.ScReferenceIdeal.τ Cert.ScReferenceIdeal.sig) → Buf (Elt Ideal) ℓ) (g : Dev Cert.ScReferenceIdeal.nD → PrngReg), Pre_ScReferenceIdeal m →
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0)
      ∧ r.2.mem ((c.tc : Thread Cert.ScReferenceIdeal.nD Cert.ScReferenceIdeal.τ).loc Cert.ScReferenceIdeal.main_arg1) = m ((c.tc : Thread Cert.ScReferenceIdeal.nD Cert.ScReferenceIdeal.τ).loc Cert.ScReferenceIdeal.main_arg1)
      ∧ r.2.mem ((c.tc : Thread Cert.ScReferenceIdeal.nD Cert.ScReferenceIdeal.τ).loc Cert.ScReferenceIdeal.main_arg2) = m ((c.tc : Thread Cert.ScReferenceIdeal.nD Cert.ScReferenceIdeal.τ).loc Cert.ScReferenceIdeal.main_arg2)
      ∧ r.2.mem ((c.tc : Thread Cert.ScReferenceIdeal.nD Cert.ScReferenceIdeal.τ).loc Cert.ScReferenceIdeal.main_arg3) = m ((c.tc : Thread Cert.ScReferenceIdeal.nD Cert.ScReferenceIdeal.τ).loc Cert.ScReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpKernelIdeal_pre_finite_up [hUpKernelIdeal : Cert.UpKernelIdeal.Facts] [hPre_finite_up : Cert.Pre_finite_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_finite_up m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_UpReferenceIdeal_pre_finite_up [hUpReferenceIdeal : Cert.UpReferenceIdeal.Facts] [hPre_finite_up : Cert.Pre_finite_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_finite_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_MixrKernel [hMixrKernel : Cert.MixrKernel.Facts] : Prop :=
  ∀ (m : (ℓ : Loc Cert.MixrKernel.nD Cert.MixrKernel.τ Cert.MixrKernel.sig) → Buf (Elt Bits) ℓ) (g : Dev Cert.MixrKernel.nD → PrngReg), Pre_MixrKernel m →
    θ_run (Cert.MixrKernel.defs (F := Bits)) (onTc (τ := Cert.MixrKernel.τ) (Cert.MixrKernel.main (F := Bits))) ⟨m, fun _ => 0, g⟩ (fun r => (∀ c : Dev Cert.MixrKernel.nD,
      r.2.mem ((c.tc : Thread Cert.MixrKernel.nD Cert.MixrKernel.τ).loc Cert.MixrKernel.main_arg0) = m ((c.tc : Thread Cert.MixrKernel.nD Cert.MixrKernel.τ).loc Cert.MixrKernel.main_arg0)
      ∧ r.2.mem ((c.tc : Thread Cert.MixrKernel.nD Cert.MixrKernel.τ).loc Cert.MixrKernel.main_arg1) = m ((c.tc : Thread Cert.MixrKernel.nD Cert.MixrKernel.τ).loc Cert.MixrKernel.main_arg1)
      ∧ r.2.mem ((c.tc : Thread Cert.MixrKernel.nD Cert.MixrKernel.τ).loc Cert.MixrKernel.main_arg2) = m ((c.tc : Thread Cert.MixrKernel.nD Cert.MixrKernel.τ).loc Cert.MixrKernel.main_arg2)
      ∧ r.2.mem ((c.tc : Thread Cert.MixrKernel.nD Cert.MixrKernel.τ).loc Cert.MixrKernel.main_arg3) = m ((c.tc : Thread Cert.MixrKernel.nD Cert.MixrKernel.τ).loc Cert.MixrKernel.main_arg3)
      ∧ r.2.mem ((c.tc : Thread Cert.MixrKernel.nD Cert.MixrKernel.τ).loc Cert.MixrKernel.main_arg4) = m ((c.tc : Thread Cert.MixrKernel.nD Cert.MixrKernel.τ).loc Cert.MixrKernel.main_arg4)
      ∧ r.2.mem ((c.tc : Thread Cert.MixrKernel.nD Cert.MixrKernel.τ).loc Cert.MixrKernel.main_arg5) = m ((c.tc : Thread Cert.MixrKernel.nD Cert.MixrKernel.τ).loc Cert.MixrKernel.main_arg5))
      ∧ r.2.sem = fun _ => 0)

def quiescent_MixrKernelIdeal [hMixrKernelIdeal : Cert.MixrKernelIdeal.Facts] : Prop :=
  ∀ (m : (ℓ : Loc Cert.MixrKernelIdeal.nD Cert.MixrKernelIdeal.τ Cert.MixrKernelIdeal.sig) → Buf (Elt Ideal) ℓ) (g : Dev Cert.MixrKernelIdeal.nD → PrngReg), Pre_MixrKernelIdeal m →
    θ_run (Cert.MixrKernelIdeal.defs (F := Ideal)) (onTc (τ := Cert.MixrKernelIdeal.τ) (Cert.MixrKernelIdeal.main (F := Ideal))) ⟨m, fun _ => 0, g⟩ (fun r => (∀ c : Dev Cert.MixrKernelIdeal.nD,
      r.2.mem ((c.tc : Thread Cert.MixrKernelIdeal.nD Cert.MixrKernelIdeal.τ).loc Cert.MixrKernelIdeal.main_arg0) = m ((c.tc : Thread Cert.MixrKernelIdeal.nD Cert.MixrKernelIdeal.τ).loc Cert.MixrKernelIdeal.main_arg0)
      ∧ r.2.mem ((c.tc : Thread Cert.MixrKernelIdeal.nD Cert.MixrKernelIdeal.τ).loc Cert.MixrKernelIdeal.main_arg1) = m ((c.tc : Thread Cert.MixrKernelIdeal.nD Cert.MixrKernelIdeal.τ).loc Cert.MixrKernelIdeal.main_arg1)
      ∧ r.2.mem ((c.tc : Thread Cert.MixrKernelIdeal.nD Cert.MixrKernelIdeal.τ).loc Cert.MixrKernelIdeal.main_arg2) = m ((c.tc : Thread Cert.MixrKernelIdeal.nD Cert.MixrKernelIdeal.τ).loc Cert.MixrKernelIdeal.main_arg2)
      ∧ r.2.mem ((c.tc : Thread Cert.MixrKernelIdeal.nD Cert.MixrKernelIdeal.τ).loc Cert.MixrKernelIdeal.main_arg3) = m ((c.tc : Thread Cert.MixrKernelIdeal.nD Cert.MixrKernelIdeal.τ).loc Cert.MixrKernelIdeal.main_arg3)
      ∧ r.2.mem ((c.tc : Thread Cert.MixrKernelIdeal.nD Cert.MixrKernelIdeal.τ).loc Cert.MixrKernelIdeal.main_arg4) = m ((c.tc : Thread Cert.MixrKernelIdeal.nD Cert.MixrKernelIdeal.τ).loc Cert.MixrKernelIdeal.main_arg4)
      ∧ r.2.mem ((c.tc : Thread Cert.MixrKernelIdeal.nD Cert.MixrKernelIdeal.τ).loc Cert.MixrKernelIdeal.main_arg5) = m ((c.tc : Thread Cert.MixrKernelIdeal.nD Cert.MixrKernelIdeal.τ).loc Cert.MixrKernelIdeal.main_arg5))
      ∧ r.2.sem = fun _ => 0)

def quiescent_MixrKernelIdeal_pre_finite_mixr [hMixrKernelIdeal : Cert.MixrKernelIdeal.Facts] [hPre_finite_mixr : Cert.Pre_finite_mixr.Facts] : Prop :=
  ∀ (m : (ℓ : Loc Cert.MixrKernelIdeal.nD Cert.MixrKernelIdeal.τ Cert.MixrKernelIdeal.sig) → Buf (Elt Ideal) ℓ) (g : Dev Cert.MixrKernelIdeal.nD → PrngReg), Pre_MixrKernelIdeal_finite_mixr m →
    θ_run (Cert.MixrKernelIdeal.defs (F := Ideal)) (onTc (τ := Cert.MixrKernelIdeal.τ) (Cert.MixrKernelIdeal.main (F := Ideal))) ⟨m, fun _ => 0, g⟩ (fun r => (∀ c : Dev Cert.MixrKernelIdeal.nD,
      r.2.mem ((c.tc : Thread Cert.MixrKernelIdeal.nD Cert.MixrKernelIdeal.τ).loc Cert.MixrKernelIdeal.main_arg0) = m ((c.tc : Thread Cert.MixrKernelIdeal.nD Cert.MixrKernelIdeal.τ).loc Cert.MixrKernelIdeal.main_arg0)
      ∧ r.2.mem ((c.tc : Thread Cert.MixrKernelIdeal.nD Cert.MixrKernelIdeal.τ).loc Cert.MixrKernelIdeal.main_arg1) = m ((c.tc : Thread Cert.MixrKernelIdeal.nD Cert.MixrKernelIdeal.τ).loc Cert.MixrKernelIdeal.main_arg1)
      ∧ r.2.mem ((c.tc : Thread Cert.MixrKernelIdeal.nD Cert.MixrKernelIdeal.τ).loc Cert.MixrKernelIdeal.main_arg2) = m ((c.tc : Thread Cert.MixrKernelIdeal.nD Cert.MixrKernelIdeal.τ).loc Cert.MixrKernelIdeal.main_arg2)
      ∧ r.2.mem ((c.tc : Thread Cert.MixrKernelIdeal.nD Cert.MixrKernelIdeal.τ).loc Cert.MixrKernelIdeal.main_arg3) = m ((c.tc : Thread Cert.MixrKernelIdeal.nD Cert.MixrKernelIdeal.τ).loc Cert.MixrKernelIdeal.main_arg3)
      ∧ r.2.mem ((c.tc : Thread Cert.MixrKernelIdeal.nD Cert.MixrKernelIdeal.τ).loc Cert.MixrKernelIdeal.main_arg4) = m ((c.tc : Thread Cert.MixrKernelIdeal.nD Cert.MixrKernelIdeal.τ).loc Cert.MixrKernelIdeal.main_arg4)
      ∧ r.2.mem ((c.tc : Thread Cert.MixrKernelIdeal.nD Cert.MixrKernelIdeal.τ).loc Cert.MixrKernelIdeal.main_arg5) = m ((c.tc : Thread Cert.MixrKernelIdeal.nD Cert.MixrKernelIdeal.τ).loc Cert.MixrKernelIdeal.main_arg5))
      ∧ r.2.sem = fun _ => 0)

def quiescent_MixrReferenceIdeal [hMixrReferenceIdeal : Cert.MixrReferenceIdeal.Facts] : Prop :=
  ∀ (m : (ℓ : Loc Cert.MixrReferenceIdeal.nD Cert.MixrReferenceIdeal.τ Cert.MixrReferenceIdeal.sig) → Buf (Elt Ideal) ℓ) (g : Dev Cert.MixrReferenceIdeal.nD → PrngReg), Pre_MixrReferenceIdeal m →
    θ_run (Cert.MixrReferenceIdeal.defs (F := Ideal)) (onTc (τ := Cert.MixrReferenceIdeal.τ) (Cert.MixrReferenceIdeal.main (F := Ideal))) ⟨m, fun _ => 0, g⟩ (fun r => (∀ c : Dev Cert.MixrReferenceIdeal.nD,
      r.2.mem ((c.tc : Thread Cert.MixrReferenceIdeal.nD Cert.MixrReferenceIdeal.τ).loc Cert.MixrReferenceIdeal.main_arg0) = m ((c.tc : Thread Cert.MixrReferenceIdeal.nD Cert.MixrReferenceIdeal.τ).loc Cert.MixrReferenceIdeal.main_arg0)
      ∧ r.2.mem ((c.tc : Thread Cert.MixrReferenceIdeal.nD Cert.MixrReferenceIdeal.τ).loc Cert.MixrReferenceIdeal.main_arg1) = m ((c.tc : Thread Cert.MixrReferenceIdeal.nD Cert.MixrReferenceIdeal.τ).loc Cert.MixrReferenceIdeal.main_arg1)
      ∧ r.2.mem ((c.tc : Thread Cert.MixrReferenceIdeal.nD Cert.MixrReferenceIdeal.τ).loc Cert.MixrReferenceIdeal.main_arg2) = m ((c.tc : Thread Cert.MixrReferenceIdeal.nD Cert.MixrReferenceIdeal.τ).loc Cert.MixrReferenceIdeal.main_arg2)
      ∧ r.2.mem ((c.tc : Thread Cert.MixrReferenceIdeal.nD Cert.MixrReferenceIdeal.τ).loc Cert.MixrReferenceIdeal.main_arg3) = m ((c.tc : Thread Cert.MixrReferenceIdeal.nD Cert.MixrReferenceIdeal.τ).loc Cert.MixrReferenceIdeal.main_arg3)
      ∧ r.2.mem ((c.tc : Thread Cert.MixrReferenceIdeal.nD Cert.MixrReferenceIdeal.τ).loc Cert.MixrReferenceIdeal.main_arg4) = m ((c.tc : Thread Cert.MixrReferenceIdeal.nD Cert.MixrReferenceIdeal.τ).loc Cert.MixrReferenceIdeal.main_arg4)
      ∧ r.2.mem ((c.tc : Thread Cert.MixrReferenceIdeal.nD Cert.MixrReferenceIdeal.τ).loc Cert.MixrReferenceIdeal.main_arg5) = m ((c.tc : Thread Cert.MixrReferenceIdeal.nD Cert.MixrReferenceIdeal.τ).loc Cert.MixrReferenceIdeal.main_arg5))
      ∧ r.2.sem = fun _ => 0)

def quiescent_MixrReferenceIdeal_pre_finite_mixr [hMixrReferenceIdeal : Cert.MixrReferenceIdeal.Facts] [hPre_finite_mixr : Cert.Pre_finite_mixr.Facts] : Prop :=
  ∀ (m : (ℓ : Loc Cert.MixrReferenceIdeal.nD Cert.MixrReferenceIdeal.τ Cert.MixrReferenceIdeal.sig) → Buf (Elt Ideal) ℓ) (g : Dev Cert.MixrReferenceIdeal.nD → PrngReg), Pre_MixrReferenceIdeal_finite_mixr m →
    θ_run (Cert.MixrReferenceIdeal.defs (F := Ideal)) (onTc (τ := Cert.MixrReferenceIdeal.τ) (Cert.MixrReferenceIdeal.main (F := Ideal))) ⟨m, fun _ => 0, g⟩ (fun r => (∀ c : Dev Cert.MixrReferenceIdeal.nD,
      r.2.mem ((c.tc : Thread Cert.MixrReferenceIdeal.nD Cert.MixrReferenceIdeal.τ).loc Cert.MixrReferenceIdeal.main_arg0) = m ((c.tc : Thread Cert.MixrReferenceIdeal.nD Cert.MixrReferenceIdeal.τ).loc Cert.MixrReferenceIdeal.main_arg0)
      ∧ r.2.mem ((c.tc : Thread Cert.MixrReferenceIdeal.nD Cert.MixrReferenceIdeal.τ).loc Cert.MixrReferenceIdeal.main_arg1) = m ((c.tc : Thread Cert.MixrReferenceIdeal.nD Cert.MixrReferenceIdeal.τ).loc Cert.MixrReferenceIdeal.main_arg1)
      ∧ r.2.mem ((c.tc : Thread Cert.MixrReferenceIdeal.nD Cert.MixrReferenceIdeal.τ).loc Cert.MixrReferenceIdeal.main_arg2) = m ((c.tc : Thread Cert.MixrReferenceIdeal.nD Cert.MixrReferenceIdeal.τ).loc Cert.MixrReferenceIdeal.main_arg2)
      ∧ r.2.mem ((c.tc : Thread Cert.MixrReferenceIdeal.nD Cert.MixrReferenceIdeal.τ).loc Cert.MixrReferenceIdeal.main_arg3) = m ((c.tc : Thread Cert.MixrReferenceIdeal.nD Cert.MixrReferenceIdeal.τ).loc Cert.MixrReferenceIdeal.main_arg3)
      ∧ r.2.mem ((c.tc : Thread Cert.MixrReferenceIdeal.nD Cert.MixrReferenceIdeal.τ).loc Cert.MixrReferenceIdeal.main_arg4) = m ((c.tc : Thread Cert.MixrReferenceIdeal.nD Cert.MixrReferenceIdeal.τ).loc Cert.MixrReferenceIdeal.main_arg4)
      ∧ r.2.mem ((c.tc : Thread Cert.MixrReferenceIdeal.nD Cert.MixrReferenceIdeal.τ).loc Cert.MixrReferenceIdeal.main_arg5) = m ((c.tc : Thread Cert.MixrReferenceIdeal.nD Cert.MixrReferenceIdeal.τ).loc Cert.MixrReferenceIdeal.main_arg5))
      ∧ r.2.sem = fun _ => 0)

def quiescent_MixcKernel [hMixcKernel : Cert.MixcKernel.Facts] : Prop :=
  ∀ (m : (ℓ : Loc Cert.MixcKernel.nD Cert.MixcKernel.τ Cert.MixcKernel.sig) → Buf (Elt Bits) ℓ) (g : Dev Cert.MixcKernel.nD → PrngReg), Pre_MixcKernel m →
    θ_run (Cert.MixcKernel.defs (F := Bits)) (onTc (τ := Cert.MixcKernel.τ) (Cert.MixcKernel.main (F := Bits))) ⟨m, fun _ => 0, g⟩ (fun r => (∀ c : Dev Cert.MixcKernel.nD,
      r.2.mem ((c.tc : Thread Cert.MixcKernel.nD Cert.MixcKernel.τ).loc Cert.MixcKernel.main_arg0) = m ((c.tc : Thread Cert.MixcKernel.nD Cert.MixcKernel.τ).loc Cert.MixcKernel.main_arg0)
      ∧ r.2.mem ((c.tc : Thread Cert.MixcKernel.nD Cert.MixcKernel.τ).loc Cert.MixcKernel.main_arg1) = m ((c.tc : Thread Cert.MixcKernel.nD Cert.MixcKernel.τ).loc Cert.MixcKernel.main_arg1)
      ∧ r.2.mem ((c.tc : Thread Cert.MixcKernel.nD Cert.MixcKernel.τ).loc Cert.MixcKernel.main_arg2) = m ((c.tc : Thread Cert.MixcKernel.nD Cert.MixcKernel.τ).loc Cert.MixcKernel.main_arg2)
      ∧ r.2.mem ((c.tc : Thread Cert.MixcKernel.nD Cert.MixcKernel.τ).loc Cert.MixcKernel.main_arg3) = m ((c.tc : Thread Cert.MixcKernel.nD Cert.MixcKernel.τ).loc Cert.MixcKernel.main_arg3)
      ∧ r.2.mem ((c.tc : Thread Cert.MixcKernel.nD Cert.MixcKernel.τ).loc Cert.MixcKernel.main_arg4) = m ((c.tc : Thread Cert.MixcKernel.nD Cert.MixcKernel.τ).loc Cert.MixcKernel.main_arg4)
      ∧ r.2.mem ((c.tc : Thread Cert.MixcKernel.nD Cert.MixcKernel.τ).loc Cert.MixcKernel.main_arg5) = m ((c.tc : Thread Cert.MixcKernel.nD Cert.MixcKernel.τ).loc Cert.MixcKernel.main_arg5))
      ∧ r.2.sem = fun _ => 0)

def quiescent_MixcKernelIdeal [hMixcKernelIdeal : Cert.MixcKernelIdeal.Facts] : Prop :=
  ∀ (m : (ℓ : Loc Cert.MixcKernelIdeal.nD Cert.MixcKernelIdeal.τ Cert.MixcKernelIdeal.sig) → Buf (Elt Ideal) ℓ) (g : Dev Cert.MixcKernelIdeal.nD → PrngReg), Pre_MixcKernelIdeal m →
    θ_run (Cert.MixcKernelIdeal.defs (F := Ideal)) (onTc (τ := Cert.MixcKernelIdeal.τ) (Cert.MixcKernelIdeal.main (F := Ideal))) ⟨m, fun _ => 0, g⟩ (fun r => (∀ c : Dev Cert.MixcKernelIdeal.nD,
      r.2.mem ((c.tc : Thread Cert.MixcKernelIdeal.nD Cert.MixcKernelIdeal.τ).loc Cert.MixcKernelIdeal.main_arg0) = m ((c.tc : Thread Cert.MixcKernelIdeal.nD Cert.MixcKernelIdeal.τ).loc Cert.MixcKernelIdeal.main_arg0)
      ∧ r.2.mem ((c.tc : Thread Cert.MixcKernelIdeal.nD Cert.MixcKernelIdeal.τ).loc Cert.MixcKernelIdeal.main_arg1) = m ((c.tc : Thread Cert.MixcKernelIdeal.nD Cert.MixcKernelIdeal.τ).loc Cert.MixcKernelIdeal.main_arg1)
      ∧ r.2.mem ((c.tc : Thread Cert.MixcKernelIdeal.nD Cert.MixcKernelIdeal.τ).loc Cert.MixcKernelIdeal.main_arg2) = m ((c.tc : Thread Cert.MixcKernelIdeal.nD Cert.MixcKernelIdeal.τ).loc Cert.MixcKernelIdeal.main_arg2)
      ∧ r.2.mem ((c.tc : Thread Cert.MixcKernelIdeal.nD Cert.MixcKernelIdeal.τ).loc Cert.MixcKernelIdeal.main_arg3) = m ((c.tc : Thread Cert.MixcKernelIdeal.nD Cert.MixcKernelIdeal.τ).loc Cert.MixcKernelIdeal.main_arg3)
      ∧ r.2.mem ((c.tc : Thread Cert.MixcKernelIdeal.nD Cert.MixcKernelIdeal.τ).loc Cert.MixcKernelIdeal.main_arg4) = m ((c.tc : Thread Cert.MixcKernelIdeal.nD Cert.MixcKernelIdeal.τ).loc Cert.MixcKernelIdeal.main_arg4)
      ∧ r.2.mem ((c.tc : Thread Cert.MixcKernelIdeal.nD Cert.MixcKernelIdeal.τ).loc Cert.MixcKernelIdeal.main_arg5) = m ((c.tc : Thread Cert.MixcKernelIdeal.nD Cert.MixcKernelIdeal.τ).loc Cert.MixcKernelIdeal.main_arg5))
      ∧ r.2.sem = fun _ => 0)

def quiescent_MixcKernelIdeal_pre_finite_mixc [hMixcKernelIdeal : Cert.MixcKernelIdeal.Facts] [hPre_finite_mixc : Cert.Pre_finite_mixc.Facts] : Prop :=
  ∀ (m : (ℓ : Loc Cert.MixcKernelIdeal.nD Cert.MixcKernelIdeal.τ Cert.MixcKernelIdeal.sig) → Buf (Elt Ideal) ℓ) (g : Dev Cert.MixcKernelIdeal.nD → PrngReg), Pre_MixcKernelIdeal_finite_mixc m →
    θ_run (Cert.MixcKernelIdeal.defs (F := Ideal)) (onTc (τ := Cert.MixcKernelIdeal.τ) (Cert.MixcKernelIdeal.main (F := Ideal))) ⟨m, fun _ => 0, g⟩ (fun r => (∀ c : Dev Cert.MixcKernelIdeal.nD,
      r.2.mem ((c.tc : Thread Cert.MixcKernelIdeal.nD Cert.MixcKernelIdeal.τ).loc Cert.MixcKernelIdeal.main_arg0) = m ((c.tc : Thread Cert.MixcKernelIdeal.nD Cert.MixcKernelIdeal.τ).loc Cert.MixcKernelIdeal.main_arg0)
      ∧ r.2.mem ((c.tc : Thread Cert.MixcKernelIdeal.nD Cert.MixcKernelIdeal.τ).loc Cert.MixcKernelIdeal.main_arg1) = m ((c.tc : Thread Cert.MixcKernelIdeal.nD Cert.MixcKernelIdeal.τ).loc Cert.MixcKernelIdeal.main_arg1)
      ∧ r.2.mem ((c.tc : Thread Cert.MixcKernelIdeal.nD Cert.MixcKernelIdeal.τ).loc Cert.MixcKernelIdeal.main_arg2) = m ((c.tc : Thread Cert.MixcKernelIdeal.nD Cert.MixcKernelIdeal.τ).loc Cert.MixcKernelIdeal.main_arg2)
      ∧ r.2.mem ((c.tc : Thread Cert.MixcKernelIdeal.nD Cert.MixcKernelIdeal.τ).loc Cert.MixcKernelIdeal.main_arg3) = m ((c.tc : Thread Cert.MixcKernelIdeal.nD Cert.MixcKernelIdeal.τ).loc Cert.MixcKernelIdeal.main_arg3)
      ∧ r.2.mem ((c.tc : Thread Cert.MixcKernelIdeal.nD Cert.MixcKernelIdeal.τ).loc Cert.MixcKernelIdeal.main_arg4) = m ((c.tc : Thread Cert.MixcKernelIdeal.nD Cert.MixcKernelIdeal.τ).loc Cert.MixcKernelIdeal.main_arg4)
      ∧ r.2.mem ((c.tc : Thread Cert.MixcKernelIdeal.nD Cert.MixcKernelIdeal.τ).loc Cert.MixcKernelIdeal.main_arg5) = m ((c.tc : Thread Cert.MixcKernelIdeal.nD Cert.MixcKernelIdeal.τ).loc Cert.MixcKernelIdeal.main_arg5))
      ∧ r.2.sem = fun _ => 0)

def quiescent_MixcReferenceIdeal [hMixcReferenceIdeal : Cert.MixcReferenceIdeal.Facts] : Prop :=
  ∀ (m : (ℓ : Loc Cert.MixcReferenceIdeal.nD Cert.MixcReferenceIdeal.τ Cert.MixcReferenceIdeal.sig) → Buf (Elt Ideal) ℓ) (g : Dev Cert.MixcReferenceIdeal.nD → PrngReg), Pre_MixcReferenceIdeal m →
    θ_run (Cert.MixcReferenceIdeal.defs (F := Ideal)) (onTc (τ := Cert.MixcReferenceIdeal.τ) (Cert.MixcReferenceIdeal.main (F := Ideal))) ⟨m, fun _ => 0, g⟩ (fun r => (∀ c : Dev Cert.MixcReferenceIdeal.nD,
      r.2.mem ((c.tc : Thread Cert.MixcReferenceIdeal.nD Cert.MixcReferenceIdeal.τ).loc Cert.MixcReferenceIdeal.main_arg0) = m ((c.tc : Thread Cert.MixcReferenceIdeal.nD Cert.MixcReferenceIdeal.τ).loc Cert.MixcReferenceIdeal.main_arg0)
      ∧ r.2.mem ((c.tc : Thread Cert.MixcReferenceIdeal.nD Cert.MixcReferenceIdeal.τ).loc Cert.MixcReferenceIdeal.main_arg1) = m ((c.tc : Thread Cert.MixcReferenceIdeal.nD Cert.MixcReferenceIdeal.τ).loc Cert.MixcReferenceIdeal.main_arg1)
      ∧ r.2.mem ((c.tc : Thread Cert.MixcReferenceIdeal.nD Cert.MixcReferenceIdeal.τ).loc Cert.MixcReferenceIdeal.main_arg2) = m ((c.tc : Thread Cert.MixcReferenceIdeal.nD Cert.MixcReferenceIdeal.τ).loc Cert.MixcReferenceIdeal.main_arg2)
      ∧ r.2.mem ((c.tc : Thread Cert.MixcReferenceIdeal.nD Cert.MixcReferenceIdeal.τ).loc Cert.MixcReferenceIdeal.main_arg3) = m ((c.tc : Thread Cert.MixcReferenceIdeal.nD Cert.MixcReferenceIdeal.τ).loc Cert.MixcReferenceIdeal.main_arg3)
      ∧ r.2.mem ((c.tc : Thread Cert.MixcReferenceIdeal.nD Cert.MixcReferenceIdeal.τ).loc Cert.MixcReferenceIdeal.main_arg4) = m ((c.tc : Thread Cert.MixcReferenceIdeal.nD Cert.MixcReferenceIdeal.τ).loc Cert.MixcReferenceIdeal.main_arg4)
      ∧ r.2.mem ((c.tc : Thread Cert.MixcReferenceIdeal.nD Cert.MixcReferenceIdeal.τ).loc Cert.MixcReferenceIdeal.main_arg5) = m ((c.tc : Thread Cert.MixcReferenceIdeal.nD Cert.MixcReferenceIdeal.τ).loc Cert.MixcReferenceIdeal.main_arg5))
      ∧ r.2.sem = fun _ => 0)

def quiescent_MixcReferenceIdeal_pre_finite_mixc [hMixcReferenceIdeal : Cert.MixcReferenceIdeal.Facts] [hPre_finite_mixc : Cert.Pre_finite_mixc.Facts] : Prop :=
  ∀ (m : (ℓ : Loc Cert.MixcReferenceIdeal.nD Cert.MixcReferenceIdeal.τ Cert.MixcReferenceIdeal.sig) → Buf (Elt Ideal) ℓ) (g : Dev Cert.MixcReferenceIdeal.nD → PrngReg), Pre_MixcReferenceIdeal_finite_mixc m →
    θ_run (Cert.MixcReferenceIdeal.defs (F := Ideal)) (onTc (τ := Cert.MixcReferenceIdeal.τ) (Cert.MixcReferenceIdeal.main (F := Ideal))) ⟨m, fun _ => 0, g⟩ (fun r => (∀ c : Dev Cert.MixcReferenceIdeal.nD,
      r.2.mem ((c.tc : Thread Cert.MixcReferenceIdeal.nD Cert.MixcReferenceIdeal.τ).loc Cert.MixcReferenceIdeal.main_arg0) = m ((c.tc : Thread Cert.MixcReferenceIdeal.nD Cert.MixcReferenceIdeal.τ).loc Cert.MixcReferenceIdeal.main_arg0)
      ∧ r.2.mem ((c.tc : Thread Cert.MixcReferenceIdeal.nD Cert.MixcReferenceIdeal.τ).loc Cert.MixcReferenceIdeal.main_arg1) = m ((c.tc : Thread Cert.MixcReferenceIdeal.nD Cert.MixcReferenceIdeal.τ).loc Cert.MixcReferenceIdeal.main_arg1)
      ∧ r.2.mem ((c.tc : Thread Cert.MixcReferenceIdeal.nD Cert.MixcReferenceIdeal.τ).loc Cert.MixcReferenceIdeal.main_arg2) = m ((c.tc : Thread Cert.MixcReferenceIdeal.nD Cert.MixcReferenceIdeal.τ).loc Cert.MixcReferenceIdeal.main_arg2)
      ∧ r.2.mem ((c.tc : Thread Cert.MixcReferenceIdeal.nD Cert.MixcReferenceIdeal.τ).loc Cert.MixcReferenceIdeal.main_arg3) = m ((c.tc : Thread Cert.MixcReferenceIdeal.nD Cert.MixcReferenceIdeal.τ).loc Cert.MixcReferenceIdeal.main_arg3)
      ∧ r.2.mem ((c.tc : Thread Cert.MixcReferenceIdeal.nD Cert.MixcReferenceIdeal.τ).loc Cert.MixcReferenceIdeal.main_arg4) = m ((c.tc : Thread Cert.MixcReferenceIdeal.nD Cert.MixcReferenceIdeal.τ).loc Cert.MixcReferenceIdeal.main_arg4)
      ∧ r.2.mem ((c.tc : Thread Cert.MixcReferenceIdeal.nD Cert.MixcReferenceIdeal.τ).loc Cert.MixcReferenceIdeal.main_arg5) = m ((c.tc : Thread Cert.MixcReferenceIdeal.nD Cert.MixcReferenceIdeal.τ).loc Cert.MixcReferenceIdeal.main_arg5))
      ∧ r.2.sem = fun _ => 0)

def quiescent_LhKernel [hLhKernel : Cert.LhKernel.Facts] : Prop :=
  ∀ (m : (ℓ : Loc Cert.LhKernel.nD Cert.LhKernel.τ Cert.LhKernel.sig) → Buf (Elt Bits) ℓ) (g : Dev Cert.LhKernel.nD → PrngReg), Pre_LhKernel m →
    θ_run (Cert.LhKernel.defs (F := Bits)) (onTc (τ := Cert.LhKernel.τ) (Cert.LhKernel.main (F := Bits))) ⟨m, fun _ => 0, g⟩ (fun r => (∀ c : Dev Cert.LhKernel.nD,
      r.2.mem ((c.tc : Thread Cert.LhKernel.nD Cert.LhKernel.τ).loc Cert.LhKernel.main_arg0) = m ((c.tc : Thread Cert.LhKernel.nD Cert.LhKernel.τ).loc Cert.LhKernel.main_arg0)
      ∧ r.2.mem ((c.tc : Thread Cert.LhKernel.nD Cert.LhKernel.τ).loc Cert.LhKernel.main_arg1) = m ((c.tc : Thread Cert.LhKernel.nD Cert.LhKernel.τ).loc Cert.LhKernel.main_arg1)
      ∧ r.2.mem ((c.tc : Thread Cert.LhKernel.nD Cert.LhKernel.τ).loc Cert.LhKernel.main_arg2) = m ((c.tc : Thread Cert.LhKernel.nD Cert.LhKernel.τ).loc Cert.LhKernel.main_arg2)
      ∧ r.2.mem ((c.tc : Thread Cert.LhKernel.nD Cert.LhKernel.τ).loc Cert.LhKernel.main_arg3) = m ((c.tc : Thread Cert.LhKernel.nD Cert.LhKernel.τ).loc Cert.LhKernel.main_arg3))
      ∧ r.2.sem = fun _ => 0)

def quiescent_LhKernelIdeal [hLhKernelIdeal : Cert.LhKernelIdeal.Facts] : Prop :=
  ∀ (m : (ℓ : Loc Cert.LhKernelIdeal.nD Cert.LhKernelIdeal.τ Cert.LhKernelIdeal.sig) → Buf (Elt Ideal) ℓ) (g : Dev Cert.LhKernelIdeal.nD → PrngReg), Pre_LhKernelIdeal m →
    θ_run (Cert.LhKernelIdeal.defs (F := Ideal)) (onTc (τ := Cert.LhKernelIdeal.τ) (Cert.LhKernelIdeal.main (F := Ideal))) ⟨m, fun _ => 0, g⟩ (fun r => (∀ c : Dev Cert.LhKernelIdeal.nD,
      r.2.mem ((c.tc : Thread Cert.LhKernelIdeal.nD Cert.LhKernelIdeal.τ).loc Cert.LhKernelIdeal.main_arg0) = m ((c.tc : Thread Cert.LhKernelIdeal.nD Cert.LhKernelIdeal.τ).loc Cert.LhKernelIdeal.main_arg0)
      ∧ r.2.mem ((c.tc : Thread Cert.LhKernelIdeal.nD Cert.LhKernelIdeal.τ).loc Cert.LhKernelIdeal.main_arg1) = m ((c.tc : Thread Cert.LhKernelIdeal.nD Cert.LhKernelIdeal.τ).loc Cert.LhKernelIdeal.main_arg1)
      ∧ r.2.mem ((c.tc : Thread Cert.LhKernelIdeal.nD Cert.LhKernelIdeal.τ).loc Cert.LhKernelIdeal.main_arg2) = m ((c.tc : Thread Cert.LhKernelIdeal.nD Cert.LhKernelIdeal.τ).loc Cert.LhKernelIdeal.main_arg2)
      ∧ r.2.mem ((c.tc : Thread Cert.LhKernelIdeal.nD Cert.LhKernelIdeal.τ).loc Cert.LhKernelIdeal.main_arg3) = m ((c.tc : Thread Cert.LhKernelIdeal.nD Cert.LhKernelIdeal.τ).loc Cert.LhKernelIdeal.main_arg3))
      ∧ r.2.sem = fun _ => 0)

def quiescent_LhReferenceIdeal [hLhReferenceIdeal : Cert.LhReferenceIdeal.Facts] : Prop :=
  ∀ (m : (ℓ : Loc Cert.LhReferenceIdeal.nD Cert.LhReferenceIdeal.τ Cert.LhReferenceIdeal.sig) → Buf (Elt Ideal) ℓ) (g : Dev Cert.LhReferenceIdeal.nD → PrngReg), Pre_LhReferenceIdeal m →
    θ_run (Cert.LhReferenceIdeal.defs (F := Ideal)) (onTc (τ := Cert.LhReferenceIdeal.τ) (Cert.LhReferenceIdeal.main (F := Ideal))) ⟨m, fun _ => 0, g⟩ (fun r => (∀ c : Dev Cert.LhReferenceIdeal.nD,
      r.2.mem ((c.tc : Thread Cert.LhReferenceIdeal.nD Cert.LhReferenceIdeal.τ).loc Cert.LhReferenceIdeal.main_arg0) = m ((c.tc : Thread Cert.LhReferenceIdeal.nD Cert.LhReferenceIdeal.τ).loc Cert.LhReferenceIdeal.main_arg0)
      ∧ r.2.mem ((c.tc : Thread Cert.LhReferenceIdeal.nD Cert.LhReferenceIdeal.τ).loc Cert.LhReferenceIdeal.main_arg1) = m ((c.tc : Thread Cert.LhReferenceIdeal.nD Cert.LhReferenceIdeal.τ).loc Cert.LhReferenceIdeal.main_arg1)
      ∧ r.2.mem ((c.tc : Thread Cert.LhReferenceIdeal.nD Cert.LhReferenceIdeal.τ).loc Cert.LhReferenceIdeal.main_arg2) = m ((c.tc : Thread Cert.LhReferenceIdeal.nD Cert.LhReferenceIdeal.τ).loc Cert.LhReferenceIdeal.main_arg2)
      ∧ r.2.mem ((c.tc : Thread Cert.LhReferenceIdeal.nD Cert.LhReferenceIdeal.τ).loc Cert.LhReferenceIdeal.main_arg3) = m ((c.tc : Thread Cert.LhReferenceIdeal.nD Cert.LhReferenceIdeal.τ).loc Cert.LhReferenceIdeal.main_arg3))
      ∧ r.2.sem = fun _ => 0)

def quiescent_OutaKernel [hOutaKernel : Cert.OutaKernel.Facts] : Prop :=
  ∀ (m : (ℓ : Loc Cert.OutaKernel.nD Cert.OutaKernel.τ Cert.OutaKernel.sig) → Buf (Elt Bits) ℓ) (g : Dev Cert.OutaKernel.nD → PrngReg), Pre_OutaKernel m →
    θ_run (Cert.OutaKernel.defs (F := Bits)) (onTc (τ := Cert.OutaKernel.τ) (Cert.OutaKernel.main (F := Bits))) ⟨m, fun _ => 0, g⟩ (fun r => (∀ c : Dev Cert.OutaKernel.nD,
      r.2.mem ((c.tc : Thread Cert.OutaKernel.nD Cert.OutaKernel.τ).loc Cert.OutaKernel.main_arg0) = m ((c.tc : Thread Cert.OutaKernel.nD Cert.OutaKernel.τ).loc Cert.OutaKernel.main_arg0)
      ∧ r.2.mem ((c.tc : Thread Cert.OutaKernel.nD Cert.OutaKernel.τ).loc Cert.OutaKernel.main_arg1) = m ((c.tc : Thread Cert.OutaKernel.nD Cert.OutaKernel.τ).loc Cert.OutaKernel.main_arg1)
      ∧ r.2.mem ((c.tc : Thread Cert.OutaKernel.nD Cert.OutaKernel.τ).loc Cert.OutaKernel.main_arg2) = m ((c.tc : Thread Cert.OutaKernel.nD Cert.OutaKernel.τ).loc Cert.OutaKernel.main_arg2)
      ∧ r.2.mem ((c.tc : Thread Cert.OutaKernel.nD Cert.OutaKernel.τ).loc Cert.OutaKernel.main_arg3) = m ((c.tc : Thread Cert.OutaKernel.nD Cert.OutaKernel.τ).loc Cert.OutaKernel.main_arg3)
      ∧ r.2.mem ((c.tc : Thread Cert.OutaKernel.nD Cert.OutaKernel.τ).loc Cert.OutaKernel.main_arg4) = m ((c.tc : Thread Cert.OutaKernel.nD Cert.OutaKernel.τ).loc Cert.OutaKernel.main_arg4))
      ∧ r.2.sem = fun _ => 0)

def quiescent_OutaKernelIdeal [hOutaKernelIdeal : Cert.OutaKernelIdeal.Facts] : Prop :=
  ∀ (m : (ℓ : Loc Cert.OutaKernelIdeal.nD Cert.OutaKernelIdeal.τ Cert.OutaKernelIdeal.sig) → Buf (Elt Ideal) ℓ) (g : Dev Cert.OutaKernelIdeal.nD → PrngReg), Pre_OutaKernelIdeal m →
    θ_run (Cert.OutaKernelIdeal.defs (F := Ideal)) (onTc (τ := Cert.OutaKernelIdeal.τ) (Cert.OutaKernelIdeal.main (F := Ideal))) ⟨m, fun _ => 0, g⟩ (fun r => (∀ c : Dev Cert.OutaKernelIdeal.nD,
      r.2.mem ((c.tc : Thread Cert.OutaKernelIdeal.nD Cert.OutaKernelIdeal.τ).loc Cert.OutaKernelIdeal.main_arg0) = m ((c.tc : Thread Cert.OutaKernelIdeal.nD Cert.OutaKernelIdeal.τ).loc Cert.OutaKernelIdeal.main_arg0)
      ∧ r.2.mem ((c.tc : Thread Cert.OutaKernelIdeal.nD Cert.OutaKernelIdeal.τ).loc Cert.OutaKernelIdeal.main_arg1) = m ((c.tc : Thread Cert.OutaKernelIdeal.nD Cert.OutaKernelIdeal.τ).loc Cert.OutaKernelIdeal.main_arg1)
      ∧ r.2.mem ((c.tc : Thread Cert.OutaKernelIdeal.nD Cert.OutaKernelIdeal.τ).loc Cert.OutaKernelIdeal.main_arg2) = m ((c.tc : Thread Cert.OutaKernelIdeal.nD Cert.OutaKernelIdeal.τ).loc Cert.OutaKernelIdeal.main_arg2)
      ∧ r.2.mem ((c.tc : Thread Cert.OutaKernelIdeal.nD Cert.OutaKernelIdeal.τ).loc Cert.OutaKernelIdeal.main_arg3) = m ((c.tc : Thread Cert.OutaKernelIdeal.nD Cert.OutaKernelIdeal.τ).loc Cert.OutaKernelIdeal.main_arg3)
      ∧ r.2.mem ((c.tc : Thread Cert.OutaKernelIdeal.nD Cert.OutaKernelIdeal.τ).loc Cert.OutaKernelIdeal.main_arg4) = m ((c.tc : Thread Cert.OutaKernelIdeal.nD Cert.OutaKernelIdeal.τ).loc Cert.OutaKernelIdeal.main_arg4))
      ∧ r.2.sem = fun _ => 0)

def quiescent_OutaReferenceIdeal [hOutaReferenceIdeal : Cert.OutaReferenceIdeal.Facts] : Prop :=
  ∀ (m : (ℓ : Loc Cert.OutaReferenceIdeal.nD Cert.OutaReferenceIdeal.τ Cert.OutaReferenceIdeal.sig) → Buf (Elt Ideal) ℓ) (g : Dev Cert.OutaReferenceIdeal.nD → PrngReg), Pre_OutaReferenceIdeal m →
    θ_run (Cert.OutaReferenceIdeal.defs (F := Ideal)) (onTc (τ := Cert.OutaReferenceIdeal.τ) (Cert.OutaReferenceIdeal.main (F := Ideal))) ⟨m, fun _ => 0, g⟩ (fun r => (∀ c : Dev Cert.OutaReferenceIdeal.nD,
      r.2.mem ((c.tc : Thread Cert.OutaReferenceIdeal.nD Cert.OutaReferenceIdeal.τ).loc Cert.OutaReferenceIdeal.main_arg0) = m ((c.tc : Thread Cert.OutaReferenceIdeal.nD Cert.OutaReferenceIdeal.τ).loc Cert.OutaReferenceIdeal.main_arg0)
      ∧ r.2.mem ((c.tc : Thread Cert.OutaReferenceIdeal.nD Cert.OutaReferenceIdeal.τ).loc Cert.OutaReferenceIdeal.main_arg1) = m ((c.tc : Thread Cert.OutaReferenceIdeal.nD Cert.OutaReferenceIdeal.τ).loc Cert.OutaReferenceIdeal.main_arg1)
      ∧ r.2.mem ((c.tc : Thread Cert.OutaReferenceIdeal.nD Cert.OutaReferenceIdeal.τ).loc Cert.OutaReferenceIdeal.main_arg2) = m ((c.tc : Thread Cert.OutaReferenceIdeal.nD Cert.OutaReferenceIdeal.τ).loc Cert.OutaReferenceIdeal.main_arg2)
      ∧ r.2.mem ((c.tc : Thread Cert.OutaReferenceIdeal.nD Cert.OutaReferenceIdeal.τ).loc Cert.OutaReferenceIdeal.main_arg3) = m ((c.tc : Thread Cert.OutaReferenceIdeal.nD Cert.OutaReferenceIdeal.τ).loc Cert.OutaReferenceIdeal.main_arg3)
      ∧ r.2.mem ((c.tc : Thread Cert.OutaReferenceIdeal.nD Cert.OutaReferenceIdeal.τ).loc Cert.OutaReferenceIdeal.main_arg4) = m ((c.tc : Thread Cert.OutaReferenceIdeal.nD Cert.OutaReferenceIdeal.τ).loc Cert.OutaReferenceIdeal.main_arg4))
      ∧ r.2.sem = fun _ => 0)

def quiescent_OutcKernel [hOutcKernel : Cert.OutcKernel.Facts] : Prop :=
  ∀ (m : (ℓ : Loc Cert.OutcKernel.nD Cert.OutcKernel.τ Cert.OutcKernel.sig) → Buf (Elt Bits) ℓ) (g : Dev Cert.OutcKernel.nD → PrngReg), Pre_OutcKernel m →
    θ_run (Cert.OutcKernel.defs (F := Bits)) (onTc (τ := Cert.OutcKernel.τ) (Cert.OutcKernel.main (F := Bits))) ⟨m, fun _ => 0, g⟩ (fun r => (∀ c : Dev Cert.OutcKernel.nD,
      r.2.mem ((c.tc : Thread Cert.OutcKernel.nD Cert.OutcKernel.τ).loc Cert.OutcKernel.main_arg0) = m ((c.tc : Thread Cert.OutcKernel.nD Cert.OutcKernel.τ).loc Cert.OutcKernel.main_arg0)
      ∧ r.2.mem ((c.tc : Thread Cert.OutcKernel.nD Cert.OutcKernel.τ).loc Cert.OutcKernel.main_arg1) = m ((c.tc : Thread Cert.OutcKernel.nD Cert.OutcKernel.τ).loc Cert.OutcKernel.main_arg1)
      ∧ r.2.mem ((c.tc : Thread Cert.OutcKernel.nD Cert.OutcKernel.τ).loc Cert.OutcKernel.main_arg2) = m ((c.tc : Thread Cert.OutcKernel.nD Cert.OutcKernel.τ).loc Cert.OutcKernel.main_arg2)
      ∧ r.2.mem ((c.tc : Thread Cert.OutcKernel.nD Cert.OutcKernel.τ).loc Cert.OutcKernel.main_arg3) = m ((c.tc : Thread Cert.OutcKernel.nD Cert.OutcKernel.τ).loc Cert.OutcKernel.main_arg3)
      ∧ r.2.mem ((c.tc : Thread Cert.OutcKernel.nD Cert.OutcKernel.τ).loc Cert.OutcKernel.main_arg4) = m ((c.tc : Thread Cert.OutcKernel.nD Cert.OutcKernel.τ).loc Cert.OutcKernel.main_arg4)
      ∧ r.2.mem ((c.tc : Thread Cert.OutcKernel.nD Cert.OutcKernel.τ).loc Cert.OutcKernel.main_arg5) = m ((c.tc : Thread Cert.OutcKernel.nD Cert.OutcKernel.τ).loc Cert.OutcKernel.main_arg5)
      ∧ r.2.mem ((c.tc : Thread Cert.OutcKernel.nD Cert.OutcKernel.τ).loc Cert.OutcKernel.main_arg6) = m ((c.tc : Thread Cert.OutcKernel.nD Cert.OutcKernel.τ).loc Cert.OutcKernel.main_arg6))
      ∧ r.2.sem = fun _ => 0)

def quiescent_OutcKernelIdeal [hOutcKernelIdeal : Cert.OutcKernelIdeal.Facts] : Prop :=
  ∀ (m : (ℓ : Loc Cert.OutcKernelIdeal.nD Cert.OutcKernelIdeal.τ Cert.OutcKernelIdeal.sig) → Buf (Elt Ideal) ℓ) (g : Dev Cert.OutcKernelIdeal.nD → PrngReg), Pre_OutcKernelIdeal m →
    θ_run (Cert.OutcKernelIdeal.defs (F := Ideal)) (onTc (τ := Cert.OutcKernelIdeal.τ) (Cert.OutcKernelIdeal.main (F := Ideal))) ⟨m, fun _ => 0, g⟩ (fun r => (∀ c : Dev Cert.OutcKernelIdeal.nD,
      r.2.mem ((c.tc : Thread Cert.OutcKernelIdeal.nD Cert.OutcKernelIdeal.τ).loc Cert.OutcKernelIdeal.main_arg0) = m ((c.tc : Thread Cert.OutcKernelIdeal.nD Cert.OutcKernelIdeal.τ).loc Cert.OutcKernelIdeal.main_arg0)
      ∧ r.2.mem ((c.tc : Thread Cert.OutcKernelIdeal.nD Cert.OutcKernelIdeal.τ).loc Cert.OutcKernelIdeal.main_arg1) = m ((c.tc : Thread Cert.OutcKernelIdeal.nD Cert.OutcKernelIdeal.τ).loc Cert.OutcKernelIdeal.main_arg1)
      ∧ r.2.mem ((c.tc : Thread Cert.OutcKernelIdeal.nD Cert.OutcKernelIdeal.τ).loc Cert.OutcKernelIdeal.main_arg2) = m ((c.tc : Thread Cert.OutcKernelIdeal.nD Cert.OutcKernelIdeal.τ).loc Cert.OutcKernelIdeal.main_arg2)
      ∧ r.2.mem ((c.tc : Thread Cert.OutcKernelIdeal.nD Cert.OutcKernelIdeal.τ).loc Cert.OutcKernelIdeal.main_arg3) = m ((c.tc : Thread Cert.OutcKernelIdeal.nD Cert.OutcKernelIdeal.τ).loc Cert.OutcKernelIdeal.main_arg3)
      ∧ r.2.mem ((c.tc : Thread Cert.OutcKernelIdeal.nD Cert.OutcKernelIdeal.τ).loc Cert.OutcKernelIdeal.main_arg4) = m ((c.tc : Thread Cert.OutcKernelIdeal.nD Cert.OutcKernelIdeal.τ).loc Cert.OutcKernelIdeal.main_arg4)
      ∧ r.2.mem ((c.tc : Thread Cert.OutcKernelIdeal.nD Cert.OutcKernelIdeal.τ).loc Cert.OutcKernelIdeal.main_arg5) = m ((c.tc : Thread Cert.OutcKernelIdeal.nD Cert.OutcKernelIdeal.τ).loc Cert.OutcKernelIdeal.main_arg5)
      ∧ r.2.mem ((c.tc : Thread Cert.OutcKernelIdeal.nD Cert.OutcKernelIdeal.τ).loc Cert.OutcKernelIdeal.main_arg6) = m ((c.tc : Thread Cert.OutcKernelIdeal.nD Cert.OutcKernelIdeal.τ).loc Cert.OutcKernelIdeal.main_arg6))
      ∧ r.2.sem = fun _ => 0)

def quiescent_OutcReferenceIdeal [hOutcReferenceIdeal : Cert.OutcReferenceIdeal.Facts] : Prop :=
  ∀ (m : (ℓ : Loc Cert.OutcReferenceIdeal.nD Cert.OutcReferenceIdeal.τ Cert.OutcReferenceIdeal.sig) → Buf (Elt Ideal) ℓ) (g : Dev Cert.OutcReferenceIdeal.nD → PrngReg), Pre_OutcReferenceIdeal m →
    θ_run (Cert.OutcReferenceIdeal.defs (F := Ideal)) (onTc (τ := Cert.OutcReferenceIdeal.τ) (Cert.OutcReferenceIdeal.main (F := Ideal))) ⟨m, fun _ => 0, g⟩ (fun r => (∀ c : Dev Cert.OutcReferenceIdeal.nD,
      r.2.mem ((c.tc : Thread Cert.OutcReferenceIdeal.nD Cert.OutcReferenceIdeal.τ).loc Cert.OutcReferenceIdeal.main_arg0) = m ((c.tc : Thread Cert.OutcReferenceIdeal.nD Cert.OutcReferenceIdeal.τ).loc Cert.OutcReferenceIdeal.main_arg0)
      ∧ r.2.mem ((c.tc : Thread Cert.OutcReferenceIdeal.nD Cert.OutcReferenceIdeal.τ).loc Cert.OutcReferenceIdeal.main_arg1) = m ((c.tc : Thread Cert.OutcReferenceIdeal.nD Cert.OutcReferenceIdeal.τ).loc Cert.OutcReferenceIdeal.main_arg1)
      ∧ r.2.mem ((c.tc : Thread Cert.OutcReferenceIdeal.nD Cert.OutcReferenceIdeal.τ).loc Cert.OutcReferenceIdeal.main_arg2) = m ((c.tc : Thread Cert.OutcReferenceIdeal.nD Cert.OutcReferenceIdeal.τ).loc Cert.OutcReferenceIdeal.main_arg2)
      ∧ r.2.mem ((c.tc : Thread Cert.OutcReferenceIdeal.nD Cert.OutcReferenceIdeal.τ).loc Cert.OutcReferenceIdeal.main_arg3) = m ((c.tc : Thread Cert.OutcReferenceIdeal.nD Cert.OutcReferenceIdeal.τ).loc Cert.OutcReferenceIdeal.main_arg3)
      ∧ r.2.mem ((c.tc : Thread Cert.OutcReferenceIdeal.nD Cert.OutcReferenceIdeal.τ).loc Cert.OutcReferenceIdeal.main_arg4) = m ((c.tc : Thread Cert.OutcReferenceIdeal.nD Cert.OutcReferenceIdeal.τ).loc Cert.OutcReferenceIdeal.main_arg4)
      ∧ r.2.mem ((c.tc : Thread Cert.OutcReferenceIdeal.nD Cert.OutcReferenceIdeal.τ).loc Cert.OutcReferenceIdeal.main_arg5) = m ((c.tc : Thread Cert.OutcReferenceIdeal.nD Cert.OutcReferenceIdeal.τ).loc Cert.OutcReferenceIdeal.main_arg5)
      ∧ r.2.mem ((c.tc : Thread Cert.OutcReferenceIdeal.nD Cert.OutcReferenceIdeal.τ).loc Cert.OutcReferenceIdeal.main_arg6) = m ((c.tc : Thread Cert.OutcReferenceIdeal.nD Cert.OutcReferenceIdeal.τ).loc Cert.OutcReferenceIdeal.main_arg6))
      ∧ r.2.sem = fun _ => 0)

def quiescent_OutrKernel [hOutrKernel : Cert.OutrKernel.Facts] : Prop :=
  ∀ (m : (ℓ : Loc Cert.OutrKernel.nD Cert.OutrKernel.τ Cert.OutrKernel.sig) → Buf (Elt Bits) ℓ) (g : Dev Cert.OutrKernel.nD → PrngReg), Pre_OutrKernel m →
    θ_run (Cert.OutrKernel.defs (F := Bits)) (onTc (τ := Cert.OutrKernel.τ) (Cert.OutrKernel.main (F := Bits))) ⟨m, fun _ => 0, g⟩ (fun r => (∀ c : Dev Cert.OutrKernel.nD,
      r.2.mem ((c.tc : Thread Cert.OutrKernel.nD Cert.OutrKernel.τ).loc Cert.OutrKernel.main_arg0) = m ((c.tc : Thread Cert.OutrKernel.nD Cert.OutrKernel.τ).loc Cert.OutrKernel.main_arg0)
      ∧ r.2.mem ((c.tc : Thread Cert.OutrKernel.nD Cert.OutrKernel.τ).loc Cert.OutrKernel.main_arg1) = m ((c.tc : Thread Cert.OutrKernel.nD Cert.OutrKernel.τ).loc Cert.OutrKernel.main_arg1)
      ∧ r.2.mem ((c.tc : Thread Cert.OutrKernel.nD Cert.OutrKernel.τ).loc Cert.OutrKernel.main_arg2) = m ((c.tc : Thread Cert.OutrKernel.nD Cert.OutrKernel.τ).loc Cert.OutrKernel.main_arg2)
      ∧ r.2.mem ((c.tc : Thread Cert.OutrKernel.nD Cert.OutrKernel.τ).loc Cert.OutrKernel.main_arg3) = m ((c.tc : Thread Cert.OutrKernel.nD Cert.OutrKernel.τ).loc Cert.OutrKernel.main_arg3)
      ∧ r.2.mem ((c.tc : Thread Cert.OutrKernel.nD Cert.OutrKernel.τ).loc Cert.OutrKernel.main_arg4) = m ((c.tc : Thread Cert.OutrKernel.nD Cert.OutrKernel.τ).loc Cert.OutrKernel.main_arg4)
      ∧ r.2.mem ((c.tc : Thread Cert.OutrKernel.nD Cert.OutrKernel.τ).loc Cert.OutrKernel.main_arg5) = m ((c.tc : Thread Cert.OutrKernel.nD Cert.OutrKernel.τ).loc Cert.OutrKernel.main_arg5)
      ∧ r.2.mem ((c.tc : Thread Cert.OutrKernel.nD Cert.OutrKernel.τ).loc Cert.OutrKernel.main_arg6) = m ((c.tc : Thread Cert.OutrKernel.nD Cert.OutrKernel.τ).loc Cert.OutrKernel.main_arg6))
      ∧ r.2.sem = fun _ => 0)

def quiescent_OutrKernelIdeal [hOutrKernelIdeal : Cert.OutrKernelIdeal.Facts] : Prop :=
  ∀ (m : (ℓ : Loc Cert.OutrKernelIdeal.nD Cert.OutrKernelIdeal.τ Cert.OutrKernelIdeal.sig) → Buf (Elt Ideal) ℓ) (g : Dev Cert.OutrKernelIdeal.nD → PrngReg), Pre_OutrKernelIdeal m →
    θ_run (Cert.OutrKernelIdeal.defs (F := Ideal)) (onTc (τ := Cert.OutrKernelIdeal.τ) (Cert.OutrKernelIdeal.main (F := Ideal))) ⟨m, fun _ => 0, g⟩ (fun r => (∀ c : Dev Cert.OutrKernelIdeal.nD,
      r.2.mem ((c.tc : Thread Cert.OutrKernelIdeal.nD Cert.OutrKernelIdeal.τ).loc Cert.OutrKernelIdeal.main_arg0) = m ((c.tc : Thread Cert.OutrKernelIdeal.nD Cert.OutrKernelIdeal.τ).loc Cert.OutrKernelIdeal.main_arg0)
      ∧ r.2.mem ((c.tc : Thread Cert.OutrKernelIdeal.nD Cert.OutrKernelIdeal.τ).loc Cert.OutrKernelIdeal.main_arg1) = m ((c.tc : Thread Cert.OutrKernelIdeal.nD Cert.OutrKernelIdeal.τ).loc Cert.OutrKernelIdeal.main_arg1)
      ∧ r.2.mem ((c.tc : Thread Cert.OutrKernelIdeal.nD Cert.OutrKernelIdeal.τ).loc Cert.OutrKernelIdeal.main_arg2) = m ((c.tc : Thread Cert.OutrKernelIdeal.nD Cert.OutrKernelIdeal.τ).loc Cert.OutrKernelIdeal.main_arg2)
      ∧ r.2.mem ((c.tc : Thread Cert.OutrKernelIdeal.nD Cert.OutrKernelIdeal.τ).loc Cert.OutrKernelIdeal.main_arg3) = m ((c.tc : Thread Cert.OutrKernelIdeal.nD Cert.OutrKernelIdeal.τ).loc Cert.OutrKernelIdeal.main_arg3)
      ∧ r.2.mem ((c.tc : Thread Cert.OutrKernelIdeal.nD Cert.OutrKernelIdeal.τ).loc Cert.OutrKernelIdeal.main_arg4) = m ((c.tc : Thread Cert.OutrKernelIdeal.nD Cert.OutrKernelIdeal.τ).loc Cert.OutrKernelIdeal.main_arg4)
      ∧ r.2.mem ((c.tc : Thread Cert.OutrKernelIdeal.nD Cert.OutrKernelIdeal.τ).loc Cert.OutrKernelIdeal.main_arg5) = m ((c.tc : Thread Cert.OutrKernelIdeal.nD Cert.OutrKernelIdeal.τ).loc Cert.OutrKernelIdeal.main_arg5)
      ∧ r.2.mem ((c.tc : Thread Cert.OutrKernelIdeal.nD Cert.OutrKernelIdeal.τ).loc Cert.OutrKernelIdeal.main_arg6) = m ((c.tc : Thread Cert.OutrKernelIdeal.nD Cert.OutrKernelIdeal.τ).loc Cert.OutrKernelIdeal.main_arg6))
      ∧ r.2.sem = fun _ => 0)

def quiescent_OutrReferenceIdeal [hOutrReferenceIdeal : Cert.OutrReferenceIdeal.Facts] : Prop :=
  ∀ (m : (ℓ : Loc Cert.OutrReferenceIdeal.nD Cert.OutrReferenceIdeal.τ Cert.OutrReferenceIdeal.sig) → Buf (Elt Ideal) ℓ) (g : Dev Cert.OutrReferenceIdeal.nD → PrngReg), Pre_OutrReferenceIdeal m →
    θ_run (Cert.OutrReferenceIdeal.defs (F := Ideal)) (onTc (τ := Cert.OutrReferenceIdeal.τ) (Cert.OutrReferenceIdeal.main (F := Ideal))) ⟨m, fun _ => 0, g⟩ (fun r => (∀ c : Dev Cert.OutrReferenceIdeal.nD,
      r.2.mem ((c.tc : Thread Cert.OutrReferenceIdeal.nD Cert.OutrReferenceIdeal.τ).loc Cert.OutrReferenceIdeal.main_arg0) = m ((c.tc : Thread Cert.OutrReferenceIdeal.nD Cert.OutrReferenceIdeal.τ).loc Cert.OutrReferenceIdeal.main_arg0)
      ∧ r.2.mem ((c.tc : Thread Cert.OutrReferenceIdeal.nD Cert.OutrReferenceIdeal.τ).loc Cert.OutrReferenceIdeal.main_arg1) = m ((c.tc : Thread Cert.OutrReferenceIdeal.nD Cert.OutrReferenceIdeal.τ).loc Cert.OutrReferenceIdeal.main_arg1)
      ∧ r.2.mem ((c.tc : Thread Cert.OutrReferenceIdeal.nD Cert.OutrReferenceIdeal.τ).loc Cert.OutrReferenceIdeal.main_arg2) = m ((c.tc : Thread Cert.OutrReferenceIdeal.nD Cert.OutrReferenceIdeal.τ).loc Cert.OutrReferenceIdeal.main_arg2)
      ∧ r.2.mem ((c.tc : Thread Cert.OutrReferenceIdeal.nD Cert.OutrReferenceIdeal.τ).loc Cert.OutrReferenceIdeal.main_arg3) = m ((c.tc : Thread Cert.OutrReferenceIdeal.nD Cert.OutrReferenceIdeal.τ).loc Cert.OutrReferenceIdeal.main_arg3)
      ∧ r.2.mem ((c.tc : Thread Cert.OutrReferenceIdeal.nD Cert.OutrReferenceIdeal.τ).loc Cert.OutrReferenceIdeal.main_arg4) = m ((c.tc : Thread Cert.OutrReferenceIdeal.nD Cert.OutrReferenceIdeal.τ).loc Cert.OutrReferenceIdeal.main_arg4)
      ∧ r.2.mem ((c.tc : Thread Cert.OutrReferenceIdeal.nD Cert.OutrReferenceIdeal.τ).loc Cert.OutrReferenceIdeal.main_arg5) = m ((c.tc : Thread Cert.OutrReferenceIdeal.nD Cert.OutrReferenceIdeal.τ).loc Cert.OutrReferenceIdeal.main_arg5)
      ∧ r.2.mem ((c.tc : Thread Cert.OutrReferenceIdeal.nD Cert.OutrReferenceIdeal.τ).loc Cert.OutrReferenceIdeal.main_arg6) = m ((c.tc : Thread Cert.OutrReferenceIdeal.nD Cert.OutrReferenceIdeal.τ).loc Cert.OutrReferenceIdeal.main_arg6))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5)
      ∧ r.2.mem ((c.tc : Thread Cert.DownKernel.nD Cert.DownKernel.τ).loc Cert.DownKernel.main_arg6) = m ((c.tc : Thread Cert.DownKernel.nD Cert.DownKernel.τ).loc Cert.DownKernel.main_arg6))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
      ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def quiescent_ScfKernel [hScfKernel : Cert.ScfKernel.Facts] : Prop :=
  ∀ (m : (ℓ : Loc Cert.ScfKernel.nD Cert.ScfKernel.τ Cert.ScfKernel.sig) → Buf (Elt Bits) ℓ) (g : Dev Cert.ScfKernel.nD → PrngReg), Pre_ScfKernel m →
    θ_run (Cert.ScfKernel.defs (F := Bits)) (onTc (τ := Cert.ScfKernel.τ) (Cert.ScfKernel.main (F := Bits))) ⟨m, fun _ => 0, g⟩ (fun r => (∀ c : Dev Cert.ScfKernel.nD,
      r.2.mem ((c.tc : Thread Cert.ScfKernel.nD Cert.ScfKernel.τ).loc Cert.ScfKernel.main_arg0) = m ((c.tc : Thread Cert.ScfKernel.nD Cert.ScfKernel.τ).loc Cert.ScfKernel.main_arg0)
      ∧ r.2.mem ((c.tc : Thread Cert.ScfKernel.nD Cert.ScfKernel.τ).loc Cert.ScfKernel.main_arg1) = m ((c.tc : Thread Cert.ScfKernel.nD Cert.ScfKernel.τ).loc Cert.ScfKernel.main_arg1)
      ∧ r.2.mem ((c.tc : Thread Cert.ScfKernel.nD Cert.ScfKernel.τ).loc Cert.ScfKernel.main_arg2) = m ((c.tc : Thread Cert.ScfKernel.nD Cert.ScfKernel.τ).loc Cert.ScfKernel.main_arg2))
      ∧ r.2.sem = fun _ => 0)

def quiescent_ScfKernelIdeal [hScfKernelIdeal : Cert.ScfKernelIdeal.Facts] : Prop :=
  ∀ (m : (ℓ : Loc Cert.ScfKernelIdeal.nD Cert.ScfKernelIdeal.τ Cert.ScfKernelIdeal.sig) → Buf (Elt Ideal) ℓ) (g : Dev Cert.ScfKernelIdeal.nD → PrngReg), Pre_ScfKernelIdeal m →
    θ_run (Cert.ScfKernelIdeal.defs (F := Ideal)) (onTc (τ := Cert.ScfKernelIdeal.τ) (Cert.ScfKernelIdeal.main (F := Ideal))) ⟨m, fun _ => 0, g⟩ (fun r => (∀ c : Dev Cert.ScfKernelIdeal.nD,
      r.2.mem ((c.tc : Thread Cert.ScfKernelIdeal.nD Cert.ScfKernelIdeal.τ).loc Cert.ScfKernelIdeal.main_arg0) = m ((c.tc : Thread Cert.ScfKernelIdeal.nD Cert.ScfKernelIdeal.τ).loc Cert.ScfKernelIdeal.main_arg0)
      ∧ r.2.mem ((c.tc : Thread Cert.ScfKernelIdeal.nD Cert.ScfKernelIdeal.τ).loc Cert.ScfKernelIdeal.main_arg1) = m ((c.tc : Thread Cert.ScfKernelIdeal.nD Cert.ScfKernelIdeal.τ).loc Cert.ScfKernelIdeal.main_arg1)
      ∧ r.2.mem ((c.tc : Thread Cert.ScfKernelIdeal.nD Cert.ScfKernelIdeal.τ).loc Cert.ScfKernelIdeal.main_arg2) = m ((c.tc : Thread Cert.ScfKernelIdeal.nD Cert.ScfKernelIdeal.τ).loc Cert.ScfKernelIdeal.main_arg2))
      ∧ r.2.sem = fun _ => 0)

def quiescent_ScfReferenceIdeal [hScfReferenceIdeal : Cert.ScfReferenceIdeal.Facts] : Prop :=
  ∀ (m : (ℓ : Loc Cert.ScfReferenceIdeal.nD Cert.ScfReferenceIdeal.τ Cert.ScfReferenceIdeal.sig) → Buf (Elt Ideal) ℓ) (g : Dev Cert.ScfReferenceIdeal.nD → PrngReg), Pre_ScfReferenceIdeal m →
    θ_run (Cert.ScfReferenceIdeal.defs (F := Ideal)) (onTc (τ := Cert.ScfReferenceIdeal.τ) (Cert.ScfReferenceIdeal.main (F := Ideal))) ⟨m, fun _ => 0, g⟩ (fun r => (∀ c : Dev Cert.ScfReferenceIdeal.nD,
      r.2.mem ((c.tc : Thread Cert.ScfReferenceIdeal.nD Cert.ScfReferenceIdeal.τ).loc Cert.ScfReferenceIdeal.main_arg0) = m ((c.tc : Thread Cert.ScfReferenceIdeal.nD Cert.ScfReferenceIdeal.τ).loc Cert.ScfReferenceIdeal.main_arg0)
      ∧ r.2.mem ((c.tc : Thread Cert.ScfReferenceIdeal.nD Cert.ScfReferenceIdeal.τ).loc Cert.ScfReferenceIdeal.main_arg1) = m ((c.tc : Thread Cert.ScfReferenceIdeal.nD Cert.ScfReferenceIdeal.τ).loc Cert.ScfReferenceIdeal.main_arg1)
      ∧ r.2.mem ((c.tc : Thread Cert.ScfReferenceIdeal.nD Cert.ScfReferenceIdeal.τ).loc Cert.ScfReferenceIdeal.main_arg2) = m ((c.tc : Thread Cert.ScfReferenceIdeal.nD Cert.ScfReferenceIdeal.τ).loc Cert.ScfReferenceIdeal.main_arg2))
      ∧ r.2.sem = fun _ => 0)

def quiescent_FupKernel [hFupKernel : Cert.FupKernel.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1)
      ∧ r.2.mem ((c.tc : Thread Cert.FupKernel.nD Cert.FupKernel.τ).loc Cert.FupKernel.main_arg2) = m ((c.tc : Thread Cert.FupKernel.nD Cert.FupKernel.τ).loc Cert.FupKernel.main_arg2)
      ∧ r.2.mem ((c.tc : Thread Cert.FupKernel.nD Cert.FupKernel.τ).loc Cert.FupKernel.main_arg3) = m ((c.tc : Thread Cert.FupKernel.nD Cert.FupKernel.τ).loc Cert.FupKernel.main_arg3))
      ∧ r.2.sem = fun _ => 0)

def quiescent_FupKernelIdeal [hFupKernelIdeal : Cert.FupKernelIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
      ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2)
      ∧ r.2.mem ((c.tc : Thread Cert.FupKernelIdeal.nD Cert.FupKernelIdeal.τ).loc Cert.FupKernelIdeal.main_arg3) = m ((c.tc : Thread Cert.FupKernelIdeal.nD Cert.FupKernelIdeal.τ).loc Cert.FupKernelIdeal.main_arg3))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1)
      ∧ r.2.mem ((c.tc : Thread Cert.FupReferenceIdeal.nD Cert.FupReferenceIdeal.τ).loc Cert.FupReferenceIdeal.main_arg2) = m ((c.tc : Thread Cert.FupReferenceIdeal.nD Cert.FupReferenceIdeal.τ).loc Cert.FupReferenceIdeal.main_arg2)
      ∧ r.2.mem ((c.tc : Thread Cert.FupReferenceIdeal.nD Cert.FupReferenceIdeal.τ).loc Cert.FupReferenceIdeal.main_arg3) = m ((c.tc : Thread Cert.FupReferenceIdeal.nD Cert.FupReferenceIdeal.τ).loc Cert.FupReferenceIdeal.main_arg3))
      ∧ r.2.sem = fun _ => 0)

def quiescent_LrufKernel [hLrufKernel : Cert.LrufKernel.Facts] : Prop :=
  ∀ (m : (ℓ : Loc Cert.LrufKernel.nD Cert.LrufKernel.τ Cert.LrufKernel.sig) → Buf (Elt Bits) ℓ) (g : Dev Cert.LrufKernel.nD → PrngReg), Pre_LrufKernel m →
    θ_run (Cert.LrufKernel.defs (F := Bits)) (onTc (τ := Cert.LrufKernel.τ) (Cert.LrufKernel.main (F := Bits))) ⟨m, fun _ => 0, g⟩ (fun r => (∀ c : Dev Cert.LrufKernel.nD,
      r.2.mem ((c.tc : Thread Cert.LrufKernel.nD Cert.LrufKernel.τ).loc Cert.LrufKernel.main_arg0) = m ((c.tc : Thread Cert.LrufKernel.nD Cert.LrufKernel.τ).loc Cert.LrufKernel.main_arg0)
      ∧ r.2.mem ((c.tc : Thread Cert.LrufKernel.nD Cert.LrufKernel.τ).loc Cert.LrufKernel.main_arg1) = m ((c.tc : Thread Cert.LrufKernel.nD Cert.LrufKernel.τ).loc Cert.LrufKernel.main_arg1)
      ∧ r.2.mem ((c.tc : Thread Cert.LrufKernel.nD Cert.LrufKernel.τ).loc Cert.LrufKernel.main_arg2) = m ((c.tc : Thread Cert.LrufKernel.nD Cert.LrufKernel.τ).loc Cert.LrufKernel.main_arg2)
      ∧ r.2.mem ((c.tc : Thread Cert.LrufKernel.nD Cert.LrufKernel.τ).loc Cert.LrufKernel.main_arg3) = m ((c.tc : Thread Cert.LrufKernel.nD Cert.LrufKernel.τ).loc Cert.LrufKernel.main_arg3)
      ∧ r.2.mem ((c.tc : Thread Cert.LrufKernel.nD Cert.LrufKernel.τ).loc Cert.LrufKernel.main_arg4) = m ((c.tc : Thread Cert.LrufKernel.nD Cert.LrufKernel.τ).loc Cert.LrufKernel.main_arg4)
      ∧ r.2.mem ((c.tc : Thread Cert.LrufKernel.nD Cert.LrufKernel.τ).loc Cert.LrufKernel.main_arg5) = m ((c.tc : Thread Cert.LrufKernel.nD Cert.LrufKernel.τ).loc Cert.LrufKernel.main_arg5))
      ∧ r.2.sem = fun _ => 0)

def quiescent_LrufKernelIdeal [hLrufKernelIdeal : Cert.LrufKernelIdeal.Facts] : Prop :=
  ∀ (m : (ℓ : Loc Cert.LrufKernelIdeal.nD Cert.LrufKernelIdeal.τ Cert.LrufKernelIdeal.sig) → Buf (Elt Ideal) ℓ) (g : Dev Cert.LrufKernelIdeal.nD → PrngReg), Pre_LrufKernelIdeal m →
    θ_run (Cert.LrufKernelIdeal.defs (F := Ideal)) (onTc (τ := Cert.LrufKernelIdeal.τ) (Cert.LrufKernelIdeal.main (F := Ideal))) ⟨m, fun _ => 0, g⟩ (fun r => (∀ c : Dev Cert.LrufKernelIdeal.nD,
      r.2.mem ((c.tc : Thread Cert.LrufKernelIdeal.nD Cert.LrufKernelIdeal.τ).loc Cert.LrufKernelIdeal.main_arg0) = m ((c.tc : Thread Cert.LrufKernelIdeal.nD Cert.LrufKernelIdeal.τ).loc Cert.LrufKernelIdeal.main_arg0)
      ∧ r.2.mem ((c.tc : Thread Cert.LrufKernelIdeal.nD Cert.LrufKernelIdeal.τ).loc Cert.LrufKernelIdeal.main_arg1) = m ((c.tc : Thread Cert.LrufKernelIdeal.nD Cert.LrufKernelIdeal.τ).loc Cert.LrufKernelIdeal.main_arg1)
      ∧ r.2.mem ((c.tc : Thread Cert.LrufKernelIdeal.nD Cert.LrufKernelIdeal.τ).loc Cert.LrufKernelIdeal.main_arg2) = m ((c.tc : Thread Cert.LrufKernelIdeal.nD Cert.LrufKernelIdeal.τ).loc Cert.LrufKernelIdeal.main_arg2)
      ∧ r.2.mem ((c.tc : Thread Cert.LrufKernelIdeal.nD Cert.LrufKernelIdeal.τ).loc Cert.LrufKernelIdeal.main_arg3) = m ((c.tc : Thread Cert.LrufKernelIdeal.nD Cert.LrufKernelIdeal.τ).loc Cert.LrufKernelIdeal.main_arg3)
      ∧ r.2.mem ((c.tc : Thread Cert.LrufKernelIdeal.nD Cert.LrufKernelIdeal.τ).loc Cert.LrufKernelIdeal.main_arg4) = m ((c.tc : Thread Cert.LrufKernelIdeal.nD Cert.LrufKernelIdeal.τ).loc Cert.LrufKernelIdeal.main_arg4)
      ∧ r.2.mem ((c.tc : Thread Cert.LrufKernelIdeal.nD Cert.LrufKernelIdeal.τ).loc Cert.LrufKernelIdeal.main_arg5) = m ((c.tc : Thread Cert.LrufKernelIdeal.nD Cert.LrufKernelIdeal.τ).loc Cert.LrufKernelIdeal.main_arg5))
      ∧ r.2.sem = fun _ => 0)

def quiescent_MmKernel [hMmKernel : Cert.MmKernel.Facts] : Prop :=
  ∀ (m : (ℓ : Loc Cert.MmKernel.nD Cert.MmKernel.τ Cert.MmKernel.sig) → Buf (Elt Bits) ℓ) (g : Dev Cert.MmKernel.nD → PrngReg), Pre_MmKernel m →
    θ_run (Cert.MmKernel.defs (F := Bits)) (onTc (τ := Cert.MmKernel.τ) (Cert.MmKernel.main (F := Bits))) ⟨m, fun _ => 0, g⟩ (fun r => (∀ c : Dev Cert.MmKernel.nD,
      r.2.mem ((c.tc : Thread Cert.MmKernel.nD Cert.MmKernel.τ).loc Cert.MmKernel.main_arg0) = m ((c.tc : Thread Cert.MmKernel.nD Cert.MmKernel.τ).loc Cert.MmKernel.main_arg0)
      ∧ r.2.mem ((c.tc : Thread Cert.MmKernel.nD Cert.MmKernel.τ).loc Cert.MmKernel.main_arg1) = m ((c.tc : Thread Cert.MmKernel.nD Cert.MmKernel.τ).loc Cert.MmKernel.main_arg1)
      ∧ r.2.mem ((c.tc : Thread Cert.MmKernel.nD Cert.MmKernel.τ).loc Cert.MmKernel.main_arg2) = m ((c.tc : Thread Cert.MmKernel.nD Cert.MmKernel.τ).loc Cert.MmKernel.main_arg2))
      ∧ r.2.sem = fun _ => 0)

def quiescent_MmKernelIdeal [hMmKernelIdeal : Cert.MmKernelIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg), Pre_MmKernelIdeal m →
    θ_run (Cert.MmKernelIdeal.defs (F := Ideal)) (onTc (τ := Cert.MmKernelIdeal.τ) (Cert.MmKernelIdeal.main (F := Ideal))) ⟨m, fun _ => 0, g⟩ (fun r => (∀ c : Dev Cert.MmKernelIdeal.nD,
      r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
      ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1)
      ∧ r.2.mem ((c.tc : Thread Cert.MmKernelIdeal.nD Cert.MmKernelIdeal.τ).loc Cert.MmKernelIdeal.main_arg2) = m ((c.tc : Thread Cert.MmKernelIdeal.nD Cert.MmKernelIdeal.τ).loc Cert.MmKernelIdeal.main_arg2))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1)
      ∧ r.2.mem ((c.tc : Thread Cert.MmReferenceIdeal.nD Cert.MmReferenceIdeal.τ).loc Cert.MmReferenceIdeal.main_arg2) = m ((c.tc : Thread Cert.MmReferenceIdeal.nD Cert.MmReferenceIdeal.τ).loc Cert.MmReferenceIdeal.main_arg2))
      ∧ r.2.sem = fun _ => 0)

def quiescent_MmtnKernel [hMmtnKernel : Cert.MmtnKernel.Facts] : Prop :=
  ∀ (m : (ℓ : Loc Cert.MmtnKernel.nD Cert.MmtnKernel.τ Cert.MmtnKernel.sig) → Buf (Elt Bits) ℓ) (g : Dev Cert.MmtnKernel.nD → PrngReg), Pre_MmtnKernel m →
    θ_run (Cert.MmtnKernel.defs (F := Bits)) (onTc (τ := Cert.MmtnKernel.τ) (Cert.MmtnKernel.main (F := Bits))) ⟨m, fun _ => 0, g⟩ (fun r => (∀ c : Dev Cert.MmtnKernel.nD,
      r.2.mem ((c.tc : Thread Cert.MmtnKernel.nD Cert.MmtnKernel.τ).loc Cert.MmtnKernel.main_arg0) = m ((c.tc : Thread Cert.MmtnKernel.nD Cert.MmtnKernel.τ).loc Cert.MmtnKernel.main_arg0)
      ∧ r.2.mem ((c.tc : Thread Cert.MmtnKernel.nD Cert.MmtnKernel.τ).loc Cert.MmtnKernel.main_arg1) = m ((c.tc : Thread Cert.MmtnKernel.nD Cert.MmtnKernel.τ).loc Cert.MmtnKernel.main_arg1))
      ∧ r.2.sem = fun _ => 0)

def quiescent_MmtnKernelIdeal [hMmtnKernelIdeal : Cert.MmtnKernelIdeal.Facts] : Prop :=
  ∀ (m : (ℓ : Loc Cert.MmtnKernelIdeal.nD Cert.MmtnKernelIdeal.τ Cert.MmtnKernelIdeal.sig) → Buf (Elt Ideal) ℓ) (g : Dev Cert.MmtnKernelIdeal.nD → PrngReg), Pre_MmtnKernelIdeal m →
    θ_run (Cert.MmtnKernelIdeal.defs (F := Ideal)) (onTc (τ := Cert.MmtnKernelIdeal.τ) (Cert.MmtnKernelIdeal.main (F := Ideal))) ⟨m, fun _ => 0, g⟩ (fun r => (∀ c : Dev Cert.MmtnKernelIdeal.nD,
      r.2.mem ((c.tc : Thread Cert.MmtnKernelIdeal.nD Cert.MmtnKernelIdeal.τ).loc Cert.MmtnKernelIdeal.main_arg0) = m ((c.tc : Thread Cert.MmtnKernelIdeal.nD Cert.MmtnKernelIdeal.τ).loc Cert.MmtnKernelIdeal.main_arg0)
      ∧ r.2.mem ((c.tc : Thread Cert.MmtnKernelIdeal.nD Cert.MmtnKernelIdeal.τ).loc Cert.MmtnKernelIdeal.main_arg1) = m ((c.tc : Thread Cert.MmtnKernelIdeal.nD Cert.MmtnKernelIdeal.τ).loc Cert.MmtnKernelIdeal.main_arg1))
      ∧ r.2.sem = fun _ => 0)

def quiescent_MmtnReferenceIdeal [hMmtnReferenceIdeal : Cert.MmtnReferenceIdeal.Facts] : Prop :=
  ∀ (m : (ℓ : Loc Cert.MmtnReferenceIdeal.nD Cert.MmtnReferenceIdeal.τ Cert.MmtnReferenceIdeal.sig) → Buf (Elt Ideal) ℓ) (g : Dev Cert.MmtnReferenceIdeal.nD → PrngReg), Pre_MmtnReferenceIdeal m →
    θ_run (Cert.MmtnReferenceIdeal.defs (F := Ideal)) (onTc (τ := Cert.MmtnReferenceIdeal.τ) (Cert.MmtnReferenceIdeal.main (F := Ideal))) ⟨m, fun _ => 0, g⟩ (fun r => (∀ c : Dev Cert.MmtnReferenceIdeal.nD,
      r.2.mem ((c.tc : Thread Cert.MmtnReferenceIdeal.nD Cert.MmtnReferenceIdeal.τ).loc Cert.MmtnReferenceIdeal.main_arg0) = m ((c.tc : Thread Cert.MmtnReferenceIdeal.nD Cert.MmtnReferenceIdeal.τ).loc Cert.MmtnReferenceIdeal.main_arg0)
      ∧ r.2.mem ((c.tc : Thread Cert.MmtnReferenceIdeal.nD Cert.MmtnReferenceIdeal.τ).loc Cert.MmtnReferenceIdeal.main_arg1) = m ((c.tc : Thread Cert.MmtnReferenceIdeal.nD Cert.MmtnReferenceIdeal.τ).loc Cert.MmtnReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7))
      ∧ r.2.sem = fun _ => 0)

def quiescent_CastKernel [hCastKernel : Cert.CastKernel.Facts] : Prop :=
  ∀ (m : (ℓ : Loc Cert.CastKernel.nD Cert.CastKernel.τ Cert.CastKernel.sig) → Buf (Elt Bits) ℓ) (g : Dev Cert.CastKernel.nD → PrngReg), Pre_CastKernel m →
    θ_run (Cert.CastKernel.defs (F := Bits)) (onTc (τ := Cert.CastKernel.τ) (Cert.CastKernel.main (F := Bits))) ⟨m, fun _ => 0, g⟩ (fun r => (∀ c : Dev Cert.CastKernel.nD,
      r.2.mem ((c.tc : Thread Cert.CastKernel.nD Cert.CastKernel.τ).loc Cert.CastKernel.main_arg0) = m ((c.tc : Thread Cert.CastKernel.nD Cert.CastKernel.τ).loc Cert.CastKernel.main_arg0)
      ∧ r.2.mem ((c.tc : Thread Cert.CastKernel.nD Cert.CastKernel.τ).loc Cert.CastKernel.main_arg1) = m ((c.tc : Thread Cert.CastKernel.nD Cert.CastKernel.τ).loc Cert.CastKernel.main_arg1)
      ∧ r.2.mem ((c.tc : Thread Cert.CastKernel.nD Cert.CastKernel.τ).loc Cert.CastKernel.main_arg2) = m ((c.tc : Thread Cert.CastKernel.nD Cert.CastKernel.τ).loc Cert.CastKernel.main_arg2)
      ∧ r.2.mem ((c.tc : Thread Cert.CastKernel.nD Cert.CastKernel.τ).loc Cert.CastKernel.main_arg3) = m ((c.tc : Thread Cert.CastKernel.nD Cert.CastKernel.τ).loc Cert.CastKernel.main_arg3)
      ∧ r.2.mem ((c.tc : Thread Cert.CastKernel.nD Cert.CastKernel.τ).loc Cert.CastKernel.main_arg4) = m ((c.tc : Thread Cert.CastKernel.nD Cert.CastKernel.τ).loc Cert.CastKernel.main_arg4)
      ∧ r.2.mem ((c.tc : Thread Cert.CastKernel.nD Cert.CastKernel.τ).loc Cert.CastKernel.main_arg5) = m ((c.tc : Thread Cert.CastKernel.nD Cert.CastKernel.τ).loc Cert.CastKernel.main_arg5))
      ∧ r.2.sem = fun _ => 0)

def quiescent_CastKernelIdeal [hCastKernelIdeal : Cert.CastKernelIdeal.Facts] : Prop :=
  ∀ (m : (ℓ : Loc Cert.CastKernelIdeal.nD Cert.CastKernelIdeal.τ Cert.CastKernelIdeal.sig) → Buf (Elt Ideal) ℓ) (g : Dev Cert.CastKernelIdeal.nD → PrngReg), Pre_CastKernelIdeal m →
    θ_run (Cert.CastKernelIdeal.defs (F := Ideal)) (onTc (τ := Cert.CastKernelIdeal.τ) (Cert.CastKernelIdeal.main (F := Ideal))) ⟨m, fun _ => 0, g⟩ (fun r => (∀ c : Dev Cert.CastKernelIdeal.nD,
      r.2.mem ((c.tc : Thread Cert.CastKernelIdeal.nD Cert.CastKernelIdeal.τ).loc Cert.CastKernelIdeal.main_arg0) = m ((c.tc : Thread Cert.CastKernelIdeal.nD Cert.CastKernelIdeal.τ).loc Cert.CastKernelIdeal.main_arg0)
      ∧ r.2.mem ((c.tc : Thread Cert.CastKernelIdeal.nD Cert.CastKernelIdeal.τ).loc Cert.CastKernelIdeal.main_arg1) = m ((c.tc : Thread Cert.CastKernelIdeal.nD Cert.CastKernelIdeal.τ).loc Cert.CastKernelIdeal.main_arg1)
      ∧ r.2.mem ((c.tc : Thread Cert.CastKernelIdeal.nD Cert.CastKernelIdeal.τ).loc Cert.CastKernelIdeal.main_arg2) = m ((c.tc : Thread Cert.CastKernelIdeal.nD Cert.CastKernelIdeal.τ).loc Cert.CastKernelIdeal.main_arg2)
      ∧ r.2.mem ((c.tc : Thread Cert.CastKernelIdeal.nD Cert.CastKernelIdeal.τ).loc Cert.CastKernelIdeal.main_arg3) = m ((c.tc : Thread Cert.CastKernelIdeal.nD Cert.CastKernelIdeal.τ).loc Cert.CastKernelIdeal.main_arg3)
      ∧ r.2.mem ((c.tc : Thread Cert.CastKernelIdeal.nD Cert.CastKernelIdeal.τ).loc Cert.CastKernelIdeal.main_arg4) = m ((c.tc : Thread Cert.CastKernelIdeal.nD Cert.CastKernelIdeal.τ).loc Cert.CastKernelIdeal.main_arg4)
      ∧ r.2.mem ((c.tc : Thread Cert.CastKernelIdeal.nD Cert.CastKernelIdeal.τ).loc Cert.CastKernelIdeal.main_arg5) = m ((c.tc : Thread Cert.CastKernelIdeal.nD Cert.CastKernelIdeal.τ).loc Cert.CastKernelIdeal.main_arg5))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0)
      ∧ r.2.mem ((c.tc : Thread Cert.CastReferenceIdeal.nD Cert.CastReferenceIdeal.τ).loc Cert.CastReferenceIdeal.main_arg1) = m ((c.tc : Thread Cert.CastReferenceIdeal.nD Cert.CastReferenceIdeal.τ).loc Cert.CastReferenceIdeal.main_arg1)
      ∧ r.2.mem ((c.tc : Thread Cert.CastReferenceIdeal.nD Cert.CastReferenceIdeal.τ).loc Cert.CastReferenceIdeal.main_arg2) = m ((c.tc : Thread Cert.CastReferenceIdeal.nD Cert.CastReferenceIdeal.τ).loc Cert.CastReferenceIdeal.main_arg2)
      ∧ r.2.mem ((c.tc : Thread Cert.CastReferenceIdeal.nD Cert.CastReferenceIdeal.τ).loc Cert.CastReferenceIdeal.main_arg3) = m ((c.tc : Thread Cert.CastReferenceIdeal.nD Cert.CastReferenceIdeal.τ).loc Cert.CastReferenceIdeal.main_arg3)
      ∧ r.2.mem ((c.tc : Thread Cert.CastReferenceIdeal.nD Cert.CastReferenceIdeal.τ).loc Cert.CastReferenceIdeal.main_arg4) = m ((c.tc : Thread Cert.CastReferenceIdeal.nD Cert.CastReferenceIdeal.τ).loc Cert.CastReferenceIdeal.main_arg4)
      ∧ r.2.mem ((c.tc : Thread Cert.CastReferenceIdeal.nD Cert.CastReferenceIdeal.τ).loc Cert.CastReferenceIdeal.main_arg5) = m ((c.tc : Thread Cert.CastReferenceIdeal.nD Cert.CastReferenceIdeal.τ).loc Cert.CastReferenceIdeal.main_arg5))
      ∧ r.2.sem = fun _ => 0)

def quiescent_LrubKernel [hLrubKernel : Cert.LrubKernel.Facts] : Prop :=
  ∀ (m : (ℓ : Loc Cert.LrubKernel.nD Cert.LrubKernel.τ Cert.LrubKernel.sig) → Buf (Elt Bits) ℓ) (g : Dev Cert.LrubKernel.nD → PrngReg), Pre_LrubKernel m →
    θ_run (Cert.LrubKernel.defs (F := Bits)) (onTc (τ := Cert.LrubKernel.τ) (Cert.LrubKernel.main (F := Bits))) ⟨m, fun _ => 0, g⟩ (fun r => (∀ c : Dev Cert.LrubKernel.nD,
      r.2.mem ((c.tc : Thread Cert.LrubKernel.nD Cert.LrubKernel.τ).loc Cert.LrubKernel.main_arg0) = m ((c.tc : Thread Cert.LrubKernel.nD Cert.LrubKernel.τ).loc Cert.LrubKernel.main_arg0)
      ∧ r.2.mem ((c.tc : Thread Cert.LrubKernel.nD Cert.LrubKernel.τ).loc Cert.LrubKernel.main_arg1) = m ((c.tc : Thread Cert.LrubKernel.nD Cert.LrubKernel.τ).loc Cert.LrubKernel.main_arg1)
      ∧ r.2.mem ((c.tc : Thread Cert.LrubKernel.nD Cert.LrubKernel.τ).loc Cert.LrubKernel.main_arg2) = m ((c.tc : Thread Cert.LrubKernel.nD Cert.LrubKernel.τ).loc Cert.LrubKernel.main_arg2)
      ∧ r.2.mem ((c.tc : Thread Cert.LrubKernel.nD Cert.LrubKernel.τ).loc Cert.LrubKernel.main_arg3) = m ((c.tc : Thread Cert.LrubKernel.nD Cert.LrubKernel.τ).loc Cert.LrubKernel.main_arg3)
      ∧ r.2.mem ((c.tc : Thread Cert.LrubKernel.nD Cert.LrubKernel.τ).loc Cert.LrubKernel.main_arg4) = m ((c.tc : Thread Cert.LrubKernel.nD Cert.LrubKernel.τ).loc Cert.LrubKernel.main_arg4)
      ∧ r.2.mem ((c.tc : Thread Cert.LrubKernel.nD Cert.LrubKernel.τ).loc Cert.LrubKernel.main_arg5) = m ((c.tc : Thread Cert.LrubKernel.nD Cert.LrubKernel.τ).loc Cert.LrubKernel.main_arg5))
      ∧ r.2.sem = fun _ => 0)

def quiescent_LrubKernelIdeal [hLrubKernelIdeal : Cert.LrubKernelIdeal.Facts] : Prop :=
  ∀ (m : (ℓ : Loc Cert.LrubKernelIdeal.nD Cert.LrubKernelIdeal.τ Cert.LrubKernelIdeal.sig) → Buf (Elt Ideal) ℓ) (g : Dev Cert.LrubKernelIdeal.nD → PrngReg), Pre_LrubKernelIdeal m →
    θ_run (Cert.LrubKernelIdeal.defs (F := Ideal)) (onTc (τ := Cert.LrubKernelIdeal.τ) (Cert.LrubKernelIdeal.main (F := Ideal))) ⟨m, fun _ => 0, g⟩ (fun r => (∀ c : Dev Cert.LrubKernelIdeal.nD,
      r.2.mem ((c.tc : Thread Cert.LrubKernelIdeal.nD Cert.LrubKernelIdeal.τ).loc Cert.LrubKernelIdeal.main_arg0) = m ((c.tc : Thread Cert.LrubKernelIdeal.nD Cert.LrubKernelIdeal.τ).loc Cert.LrubKernelIdeal.main_arg0)
      ∧ r.2.mem ((c.tc : Thread Cert.LrubKernelIdeal.nD Cert.LrubKernelIdeal.τ).loc Cert.LrubKernelIdeal.main_arg1) = m ((c.tc : Thread Cert.LrubKernelIdeal.nD Cert.LrubKernelIdeal.τ).loc Cert.LrubKernelIdeal.main_arg1)
      ∧ r.2.mem ((c.tc : Thread Cert.LrubKernelIdeal.nD Cert.LrubKernelIdeal.τ).loc Cert.LrubKernelIdeal.main_arg2) = m ((c.tc : Thread Cert.LrubKernelIdeal.nD Cert.LrubKernelIdeal.τ).loc Cert.LrubKernelIdeal.main_arg2)
      ∧ r.2.mem ((c.tc : Thread Cert.LrubKernelIdeal.nD Cert.LrubKernelIdeal.τ).loc Cert.LrubKernelIdeal.main_arg3) = m ((c.tc : Thread Cert.LrubKernelIdeal.nD Cert.LrubKernelIdeal.τ).loc Cert.LrubKernelIdeal.main_arg3)
      ∧ r.2.mem ((c.tc : Thread Cert.LrubKernelIdeal.nD Cert.LrubKernelIdeal.τ).loc Cert.LrubKernelIdeal.main_arg4) = m ((c.tc : Thread Cert.LrubKernelIdeal.nD Cert.LrubKernelIdeal.τ).loc Cert.LrubKernelIdeal.main_arg4)
      ∧ r.2.mem ((c.tc : Thread Cert.LrubKernelIdeal.nD Cert.LrubKernelIdeal.τ).loc Cert.LrubKernelIdeal.main_arg5) = m ((c.tc : Thread Cert.LrubKernelIdeal.nD Cert.LrubKernelIdeal.τ).loc Cert.LrubKernelIdeal.main_arg5))
      ∧ r.2.sem = fun _ => 0)

def preserves_LnKernel_LnKernelIdeal : Prop :=
  True

def algebraic_LnKernelIdeal_LnReferenceIdeal_pre_finite_ln [hLnKernelIdeal : Cert.LnKernelIdeal.Facts] [hLnReferenceIdeal : Cert.LnReferenceIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_finite_ln m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)) →
    ∃ (v0 : (c : Dev Cert.LnKernelIdeal.nD) → Buf (Elt Ideal) ((c.tc : Thread Cert.LnKernelIdeal.nD Cert.LnKernelIdeal.τ).loc Cert.LnKernelIdeal.main_v1_0)) (v1 : (c : Dev Cert.LnKernelIdeal.nD) → Buf (Elt Ideal) ((c.tc : Thread Cert.LnKernelIdeal.nD Cert.LnKernelIdeal.τ).loc Cert.LnKernelIdeal.main_v1_1)) (v2 : (c : Dev Cert.LnKernelIdeal.nD) → Buf (Elt Ideal) ((c.tc : Thread Cert.LnKernelIdeal.nD Cert.LnKernelIdeal.τ).loc Cert.LnKernelIdeal.main_v1_2)) (v3 : (c : Dev Cert.LnKernelIdeal.nD) → Buf (Elt Ideal) ((c.tc : Thread Cert.LnKernelIdeal.nD Cert.LnKernelIdeal.τ).loc Cert.LnKernelIdeal.main_v1_3)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v1_0) = v0 c
          ∧ r.2.mem ((c.tc : Thread Cert.LnKernelIdeal.nD Cert.LnKernelIdeal.τ).loc Cert.LnKernelIdeal.main_v1_1) = v1 c
          ∧ r.2.mem ((c.tc : Thread Cert.LnKernelIdeal.nD Cert.LnKernelIdeal.τ).loc Cert.LnKernelIdeal.main_v1_2) = v2 c
          ∧ r.2.mem ((c.tc : Thread Cert.LnKernelIdeal.nD Cert.LnKernelIdeal.τ).loc Cert.LnKernelIdeal.main_v1_3) = v3 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v62) = v0 c
          ∧ r.2.mem ((c.tc : Thread Cert.LnReferenceIdeal.nD Cert.LnReferenceIdeal.τ).loc Cert.LnReferenceIdeal.main_v63) = v1 c
          ∧ r.2.mem ((c.tc : Thread Cert.LnReferenceIdeal.nD Cert.LnReferenceIdeal.τ).loc Cert.LnReferenceIdeal.main_v64) = v2 c
          ∧ r.2.mem ((c.tc : Thread Cert.LnReferenceIdeal.nD Cert.LnReferenceIdeal.τ).loc Cert.LnReferenceIdeal.main_v65) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def preserves_ScKernel_ScKernelIdeal : Prop :=
  True

def algebraic_ScKernelIdeal_ScReferenceIdeal [hScKernelIdeal : Cert.ScKernelIdeal.Facts] [hScReferenceIdeal : Cert.ScReferenceIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ScReferenceIdeal.nD Cert.ScReferenceIdeal.τ Cert.ScReferenceIdeal.sig) → Buf (Elt Ideal) ℓ) (g' : Dev Cert.ScReferenceIdeal.nD → PrngReg), Pre_ScKernelIdeal m →
    (∀ c : Dev Cert.ScKernelIdeal.nD,
      m' ((c.tc : Thread Cert.ScReferenceIdeal.nD Cert.ScReferenceIdeal.τ).loc Cert.ScReferenceIdeal.main_arg0) = m ((c.tc : Thread Cert.ScKernelIdeal.nD Cert.ScKernelIdeal.τ).loc Cert.ScKernelIdeal.main_arg0)
      ∧ m' ((c.tc : Thread Cert.ScReferenceIdeal.nD Cert.ScReferenceIdeal.τ).loc Cert.ScReferenceIdeal.main_arg1) = m ((c.tc : Thread Cert.ScKernelIdeal.nD Cert.ScKernelIdeal.τ).loc Cert.ScKernelIdeal.main_arg1)
      ∧ m' ((c.tc : Thread Cert.ScReferenceIdeal.nD Cert.ScReferenceIdeal.τ).loc Cert.ScReferenceIdeal.main_arg2) = m ((c.tc : Thread Cert.ScKernelIdeal.nD Cert.ScKernelIdeal.τ).loc Cert.ScKernelIdeal.main_arg2)
      ∧ m' ((c.tc : Thread Cert.ScReferenceIdeal.nD Cert.ScReferenceIdeal.τ).loc Cert.ScReferenceIdeal.main_arg3) = m ((c.tc : Thread Cert.ScKernelIdeal.nD Cert.ScKernelIdeal.τ).loc Cert.ScKernelIdeal.main_arg3)) →
    ∃ (v0 : (c : Dev Cert.ScKernelIdeal.nD) → Buf (Elt Ideal) ((c.tc : Thread Cert.ScKernelIdeal.nD Cert.ScKernelIdeal.τ).loc Cert.ScKernelIdeal.main_v1_0)) (v1 : (c : Dev Cert.ScKernelIdeal.nD) → Buf (Elt Ideal) ((c.tc : Thread Cert.ScKernelIdeal.nD Cert.ScKernelIdeal.τ).loc Cert.ScKernelIdeal.main_v1_1)) (v2 : (c : Dev Cert.ScKernelIdeal.nD) → Buf (Elt Ideal) ((c.tc : Thread Cert.ScKernelIdeal.nD Cert.ScKernelIdeal.τ).loc Cert.ScKernelIdeal.main_v1_2)),
      θ_run (Cert.ScKernelIdeal.defs (F := Ideal)) (onTc (τ := Cert.ScKernelIdeal.τ) (Cert.ScKernelIdeal.main (F := Ideal))) ⟨m, fun _ => 0, g⟩ (fun r => ∀ c : Dev Cert.ScKernelIdeal.nD,
          r.2.mem ((c.tc : Thread Cert.ScKernelIdeal.nD Cert.ScKernelIdeal.τ).loc Cert.ScKernelIdeal.main_v1_0) = v0 c
          ∧ r.2.mem ((c.tc : Thread Cert.ScKernelIdeal.nD Cert.ScKernelIdeal.τ).loc Cert.ScKernelIdeal.main_v1_1) = v1 c
          ∧ r.2.mem ((c.tc : Thread Cert.ScKernelIdeal.nD Cert.ScKernelIdeal.τ).loc Cert.ScKernelIdeal.main_v1_2) = v2 c
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
          ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1)
          ∧ r.2.mem ((c.tc : Thread Cert.ScKernelIdeal.nD Cert.ScKernelIdeal.τ).loc Cert.ScKernelIdeal.main_arg2) = m ((c.tc : Thread Cert.ScKernelIdeal.nD Cert.ScKernelIdeal.τ).loc Cert.ScKernelIdeal.main_arg2)
          ∧ r.2.mem ((c.tc : Thread Cert.ScKernelIdeal.nD Cert.ScKernelIdeal.τ).loc Cert.ScKernelIdeal.main_arg3) = m ((c.tc : Thread Cert.ScKernelIdeal.nD Cert.ScKernelIdeal.τ).loc Cert.ScKernelIdeal.main_arg3))
      ∧ θ_run (Cert.ScReferenceIdeal.defs (F := Ideal)) (onTc (τ := Cert.ScReferenceIdeal.τ) (Cert.ScReferenceIdeal.main (F := Ideal))) ⟨m', fun _ => 0, g'⟩ (fun r => ∀ c : Dev Cert.ScReferenceIdeal.nD,
          r.2.mem ((c.tc : Thread Cert.ScReferenceIdeal.nD Cert.ScReferenceIdeal.τ).loc Cert.ScReferenceIdeal.main_v72) = v0 c
          ∧ r.2.mem ((c.tc : Thread Cert.ScReferenceIdeal.nD Cert.ScReferenceIdeal.τ).loc Cert.ScReferenceIdeal.main_v64) = v1 c
          ∧ r.2.mem ((c.tc : Thread Cert.ScReferenceIdeal.nD Cert.ScReferenceIdeal.τ).loc Cert.ScReferenceIdeal.main_v73) = v2 c
          ∧ r.2.mem ((c.tc : Thread Cert.ScReferenceIdeal.nD Cert.ScReferenceIdeal.τ).loc Cert.ScReferenceIdeal.main_arg0) = m' ((c.tc : Thread Cert.ScReferenceIdeal.nD Cert.ScReferenceIdeal.τ).loc Cert.ScReferenceIdeal.main_arg0)
          ∧ r.2.mem ((c.tc : Thread Cert.ScReferenceIdeal.nD Cert.ScReferenceIdeal.τ).loc Cert.ScReferenceIdeal.main_arg1) = m' ((c.tc : Thread Cert.ScReferenceIdeal.nD Cert.ScReferenceIdeal.τ).loc Cert.ScReferenceIdeal.main_arg1)
          ∧ r.2.mem ((c.tc : Thread Cert.ScReferenceIdeal.nD Cert.ScReferenceIdeal.τ).loc Cert.ScReferenceIdeal.main_arg2) = m' ((c.tc : Thread Cert.ScReferenceIdeal.nD Cert.ScReferenceIdeal.τ).loc Cert.ScReferenceIdeal.main_arg2)
          ∧ r.2.mem ((c.tc : Thread Cert.ScReferenceIdeal.nD Cert.ScReferenceIdeal.τ).loc Cert.ScReferenceIdeal.main_arg3) = m' ((c.tc : Thread Cert.ScReferenceIdeal.nD Cert.ScReferenceIdeal.τ).loc Cert.ScReferenceIdeal.main_arg3))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v31_0)) (v1 : (c : Dev Cert.FfnKernelIdeal.nD) → Buf (Elt Ideal) ((c.tc : Thread Cert.FfnKernelIdeal.nD Cert.FfnKernelIdeal.τ).loc Cert.FfnKernelIdeal.main_v31_1)) (v2 : (c : Dev Cert.FfnKernelIdeal.nD) → Buf (Elt Ideal) ((c.tc : Thread Cert.FfnKernelIdeal.nD Cert.FfnKernelIdeal.τ).loc Cert.FfnKernelIdeal.main_v31_2)) (v3 : (c : Dev Cert.FfnKernelIdeal.nD) → Buf (Elt Ideal) ((c.tc : Thread Cert.FfnKernelIdeal.nD Cert.FfnKernelIdeal.τ).loc Cert.FfnKernelIdeal.main_v31_3)) (v4 : (c : Dev Cert.FfnKernelIdeal.nD) → Buf (Elt Ideal) ((c.tc : Thread Cert.FfnKernelIdeal.nD Cert.FfnKernelIdeal.τ).loc Cert.FfnKernelIdeal.main_v31_4)) (v5 : (c : Dev Cert.FfnKernelIdeal.nD) → Buf (Elt Ideal) ((c.tc : Thread Cert.FfnKernelIdeal.nD Cert.FfnKernelIdeal.τ).loc Cert.FfnKernelIdeal.main_v31_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v31_0) = v0 c
          ∧ r.2.mem ((c.tc : Thread Cert.FfnKernelIdeal.nD Cert.FfnKernelIdeal.τ).loc Cert.FfnKernelIdeal.main_v31_1) = v1 c
          ∧ r.2.mem ((c.tc : Thread Cert.FfnKernelIdeal.nD Cert.FfnKernelIdeal.τ).loc Cert.FfnKernelIdeal.main_v31_2) = v2 c
          ∧ r.2.mem ((c.tc : Thread Cert.FfnKernelIdeal.nD Cert.FfnKernelIdeal.τ).loc Cert.FfnKernelIdeal.main_v31_3) = v3 c
          ∧ r.2.mem ((c.tc : Thread Cert.FfnKernelIdeal.nD Cert.FfnKernelIdeal.τ).loc Cert.FfnKernelIdeal.main_v31_4) = v4 c
          ∧ r.2.mem ((c.tc : Thread Cert.FfnKernelIdeal.nD Cert.FfnKernelIdeal.τ).loc Cert.FfnKernelIdeal.main_v31_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v76) = v0 c
          ∧ r.2.mem ((c.tc : Thread Cert.FfnReferenceIdeal.nD Cert.FfnReferenceIdeal.τ).loc Cert.FfnReferenceIdeal.main_v77) = v1 c
          ∧ r.2.mem ((c.tc : Thread Cert.FfnReferenceIdeal.nD Cert.FfnReferenceIdeal.τ).loc Cert.FfnReferenceIdeal.main_v78) = v2 c
          ∧ r.2.mem ((c.tc : Thread Cert.FfnReferenceIdeal.nD Cert.FfnReferenceIdeal.τ).loc Cert.FfnReferenceIdeal.main_v79) = v3 c
          ∧ r.2.mem ((c.tc : Thread Cert.FfnReferenceIdeal.nD Cert.FfnReferenceIdeal.τ).loc Cert.FfnReferenceIdeal.main_v81) = v4 c
          ∧ r.2.mem ((c.tc : Thread Cert.FfnReferenceIdeal.nD Cert.FfnReferenceIdeal.τ).loc Cert.FfnReferenceIdeal.main_v82) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_UpKernel_UpKernelIdeal : Prop :=
  True

def algebraic_UpKernelIdeal_UpReferenceIdeal_pre_finite_up [hUpKernelIdeal : Cert.UpKernelIdeal.Facts] [hUpReferenceIdeal : Cert.UpReferenceIdeal.Facts] [hPre_finite_up : Cert.Pre_finite_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal_finite_up m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v7_0)) (v1 : (c : Dev Cert.UpKernelIdeal.nD) → Buf (Elt Ideal) ((c.tc : Thread Cert.UpKernelIdeal.nD Cert.UpKernelIdeal.τ).loc Cert.UpKernelIdeal.main_v7_1)) (v2 : (c : Dev Cert.UpKernelIdeal.nD) → Buf (Elt Ideal) ((c.tc : Thread Cert.UpKernelIdeal.nD Cert.UpKernelIdeal.τ).loc Cert.UpKernelIdeal.main_v7_2)) (v3 : (c : Dev Cert.UpKernelIdeal.nD) → Buf (Elt Ideal) ((c.tc : Thread Cert.UpKernelIdeal.nD Cert.UpKernelIdeal.τ).loc Cert.UpKernelIdeal.main_v7_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v7_0) = v0 c
          ∧ r.2.mem ((c.tc : Thread Cert.UpKernelIdeal.nD Cert.UpKernelIdeal.τ).loc Cert.UpKernelIdeal.main_v7_1) = v1 c
          ∧ r.2.mem ((c.tc : Thread Cert.UpKernelIdeal.nD Cert.UpKernelIdeal.τ).loc Cert.UpKernelIdeal.main_v7_2) = v2 c
          ∧ r.2.mem ((c.tc : Thread Cert.UpKernelIdeal.nD Cert.UpKernelIdeal.τ).loc Cert.UpKernelIdeal.main_v7_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v70) = v0 c
          ∧ r.2.mem ((c.tc : Thread Cert.UpReferenceIdeal.nD Cert.UpReferenceIdeal.τ).loc Cert.UpReferenceIdeal.main_v71) = v1 c
          ∧ r.2.mem ((c.tc : Thread Cert.UpReferenceIdeal.nD Cert.UpReferenceIdeal.τ).loc Cert.UpReferenceIdeal.main_v72) = v2 c
          ∧ r.2.mem ((c.tc : Thread Cert.UpReferenceIdeal.nD Cert.UpReferenceIdeal.τ).loc Cert.UpReferenceIdeal.main_v73) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_MixrKernel_MixrKernelIdeal : Prop :=
  True

def algebraic_MixrKernelIdeal_MixrReferenceIdeal_pre_finite_mixr [hMixrKernelIdeal : Cert.MixrKernelIdeal.Facts] [hMixrReferenceIdeal : Cert.MixrReferenceIdeal.Facts] [hPre_finite_mixr : Cert.Pre_finite_mixr.Facts] : Prop :=
  ∀ (m : (ℓ : Loc Cert.MixrKernelIdeal.nD Cert.MixrKernelIdeal.τ Cert.MixrKernelIdeal.sig) → Buf (Elt Ideal) ℓ) (g : Dev Cert.MixrKernelIdeal.nD → PrngReg)
    (m' : (ℓ : Loc Cert.MixrReferenceIdeal.nD Cert.MixrReferenceIdeal.τ Cert.MixrReferenceIdeal.sig) → Buf (Elt Ideal) ℓ) (g' : Dev Cert.MixrReferenceIdeal.nD → PrngReg), Pre_MixrKernelIdeal_finite_mixr m →
    (∀ c : Dev Cert.MixrKernelIdeal.nD,
      m' ((c.tc : Thread Cert.MixrReferenceIdeal.nD Cert.MixrReferenceIdeal.τ).loc Cert.MixrReferenceIdeal.main_arg0) = m ((c.tc : Thread Cert.MixrKernelIdeal.nD Cert.MixrKernelIdeal.τ).loc Cert.MixrKernelIdeal.main_arg0)
      ∧ m' ((c.tc : Thread Cert.MixrReferenceIdeal.nD Cert.MixrReferenceIdeal.τ).loc Cert.MixrReferenceIdeal.main_arg1) = m ((c.tc : Thread Cert.MixrKernelIdeal.nD Cert.MixrKernelIdeal.τ).loc Cert.MixrKernelIdeal.main_arg1)
      ∧ m' ((c.tc : Thread Cert.MixrReferenceIdeal.nD Cert.MixrReferenceIdeal.τ).loc Cert.MixrReferenceIdeal.main_arg2) = m ((c.tc : Thread Cert.MixrKernelIdeal.nD Cert.MixrKernelIdeal.τ).loc Cert.MixrKernelIdeal.main_arg2)
      ∧ m' ((c.tc : Thread Cert.MixrReferenceIdeal.nD Cert.MixrReferenceIdeal.τ).loc Cert.MixrReferenceIdeal.main_arg3) = m ((c.tc : Thread Cert.MixrKernelIdeal.nD Cert.MixrKernelIdeal.τ).loc Cert.MixrKernelIdeal.main_arg3)
      ∧ m' ((c.tc : Thread Cert.MixrReferenceIdeal.nD Cert.MixrReferenceIdeal.τ).loc Cert.MixrReferenceIdeal.main_arg4) = m ((c.tc : Thread Cert.MixrKernelIdeal.nD Cert.MixrKernelIdeal.τ).loc Cert.MixrKernelIdeal.main_arg4)
      ∧ m' ((c.tc : Thread Cert.MixrReferenceIdeal.nD Cert.MixrReferenceIdeal.τ).loc Cert.MixrReferenceIdeal.main_arg5) = m ((c.tc : Thread Cert.MixrKernelIdeal.nD Cert.MixrKernelIdeal.τ).loc Cert.MixrKernelIdeal.main_arg5)) →
    ∃ (v0 : (c : Dev Cert.MixrKernelIdeal.nD) → Buf (Elt Ideal) ((c.tc : Thread Cert.MixrKernelIdeal.nD Cert.MixrKernelIdeal.τ).loc Cert.MixrKernelIdeal.main_v4_0)) (v1 : (c : Dev Cert.MixrKernelIdeal.nD) → Buf (Elt Ideal) ((c.tc : Thread Cert.MixrKernelIdeal.nD Cert.MixrKernelIdeal.τ).loc Cert.MixrKernelIdeal.main_v4_1)) (v2 : (c : Dev Cert.MixrKernelIdeal.nD) → Buf (Elt Ideal) ((c.tc : Thread Cert.MixrKernelIdeal.nD Cert.MixrKernelIdeal.τ).loc Cert.MixrKernelIdeal.main_v4_2)) (v3 : (c : Dev Cert.MixrKernelIdeal.nD) → Buf (Elt Ideal) ((c.tc : Thread Cert.MixrKernelIdeal.nD Cert.MixrKernelIdeal.τ).loc Cert.MixrKernelIdeal.main_v4_3)),
      θ_run (Cert.MixrKernelIdeal.defs (F := Ideal)) (onTc (τ := Cert.MixrKernelIdeal.τ) (Cert.MixrKernelIdeal.main (F := Ideal))) ⟨m, fun _ => 0, g⟩ (fun r => ∀ c : Dev Cert.MixrKernelIdeal.nD,
          r.2.mem ((c.tc : Thread Cert.MixrKernelIdeal.nD Cert.MixrKernelIdeal.τ).loc Cert.MixrKernelIdeal.main_v4_0) = v0 c
          ∧ r.2.mem ((c.tc : Thread Cert.MixrKernelIdeal.nD Cert.MixrKernelIdeal.τ).loc Cert.MixrKernelIdeal.main_v4_1) = v1 c
          ∧ r.2.mem ((c.tc : Thread Cert.MixrKernelIdeal.nD Cert.MixrKernelIdeal.τ).loc Cert.MixrKernelIdeal.main_v4_2) = v2 c
          ∧ r.2.mem ((c.tc : Thread Cert.MixrKernelIdeal.nD Cert.MixrKernelIdeal.τ).loc Cert.MixrKernelIdeal.main_v4_3) = v3 c
          ∧ r.2.mem ((c.tc : Thread Cert.MixrKernelIdeal.nD Cert.MixrKernelIdeal.τ).loc Cert.MixrKernelIdeal.main_arg0) = m ((c.tc : Thread Cert.MixrKernelIdeal.nD Cert.MixrKernelIdeal.τ).loc Cert.MixrKernelIdeal.main_arg0)
          ∧ r.2.mem ((c.tc : Thread Cert.MixrKernelIdeal.nD Cert.MixrKernelIdeal.τ).loc Cert.MixrKernelIdeal.main_arg1) = m ((c.tc : Thread Cert.MixrKernelIdeal.nD Cert.MixrKernelIdeal.τ).loc Cert.MixrKernelIdeal.main_arg1)
          ∧ r.2.mem ((c.tc : Thread Cert.MixrKernelIdeal.nD Cert.MixrKernelIdeal.τ).loc Cert.MixrKernelIdeal.main_arg2) = m ((c.tc : Thread Cert.MixrKernelIdeal.nD Cert.MixrKernelIdeal.τ).loc Cert.MixrKernelIdeal.main_arg2)
          ∧ r.2.mem ((c.tc : Thread Cert.MixrKernelIdeal.nD Cert.MixrKernelIdeal.τ).loc Cert.MixrKernelIdeal.main_arg3) = m ((c.tc : Thread Cert.MixrKernelIdeal.nD Cert.MixrKernelIdeal.τ).loc Cert.MixrKernelIdeal.main_arg3)
          ∧ r.2.mem ((c.tc : Thread Cert.MixrKernelIdeal.nD Cert.MixrKernelIdeal.τ).loc Cert.MixrKernelIdeal.main_arg4) = m ((c.tc : Thread Cert.MixrKernelIdeal.nD Cert.MixrKernelIdeal.τ).loc Cert.MixrKernelIdeal.main_arg4)
          ∧ r.2.mem ((c.tc : Thread Cert.MixrKernelIdeal.nD Cert.MixrKernelIdeal.τ).loc Cert.MixrKernelIdeal.main_arg5) = m ((c.tc : Thread Cert.MixrKernelIdeal.nD Cert.MixrKernelIdeal.τ).loc Cert.MixrKernelIdeal.main_arg5))
      ∧ θ_run (Cert.MixrReferenceIdeal.defs (F := Ideal)) (onTc (τ := Cert.MixrReferenceIdeal.τ) (Cert.MixrReferenceIdeal.main (F := Ideal))) ⟨m', fun _ => 0, g'⟩ (fun r => ∀ c : Dev Cert.MixrReferenceIdeal.nD,
          r.2.mem ((c.tc : Thread Cert.MixrReferenceIdeal.nD Cert.MixrReferenceIdeal.τ).loc Cert.MixrReferenceIdeal.main_v70) = v0 c
          ∧ r.2.mem ((c.tc : Thread Cert.MixrReferenceIdeal.nD Cert.MixrReferenceIdeal.τ).loc Cert.MixrReferenceIdeal.main_v71) = v1 c
          ∧ r.2.mem ((c.tc : Thread Cert.MixrReferenceIdeal.nD Cert.MixrReferenceIdeal.τ).loc Cert.MixrReferenceIdeal.main_v72) = v2 c
          ∧ r.2.mem ((c.tc : Thread Cert.MixrReferenceIdeal.nD Cert.MixrReferenceIdeal.τ).loc Cert.MixrReferenceIdeal.main_v73) = v3 c
          ∧ r.2.mem ((c.tc : Thread Cert.MixrReferenceIdeal.nD Cert.MixrReferenceIdeal.τ).loc Cert.MixrReferenceIdeal.main_arg0) = m' ((c.tc : Thread Cert.MixrReferenceIdeal.nD Cert.MixrReferenceIdeal.τ).loc Cert.MixrReferenceIdeal.main_arg0)
          ∧ r.2.mem ((c.tc : Thread Cert.MixrReferenceIdeal.nD Cert.MixrReferenceIdeal.τ).loc Cert.MixrReferenceIdeal.main_arg1) = m' ((c.tc : Thread Cert.MixrReferenceIdeal.nD Cert.MixrReferenceIdeal.τ).loc Cert.MixrReferenceIdeal.main_arg1)
          ∧ r.2.mem ((c.tc : Thread Cert.MixrReferenceIdeal.nD Cert.MixrReferenceIdeal.τ).loc Cert.MixrReferenceIdeal.main_arg2) = m' ((c.tc : Thread Cert.MixrReferenceIdeal.nD Cert.MixrReferenceIdeal.τ).loc Cert.MixrReferenceIdeal.main_arg2)
          ∧ r.2.mem ((c.tc : Thread Cert.MixrReferenceIdeal.nD Cert.MixrReferenceIdeal.τ).loc Cert.MixrReferenceIdeal.main_arg3) = m' ((c.tc : Thread Cert.MixrReferenceIdeal.nD Cert.MixrReferenceIdeal.τ).loc Cert.MixrReferenceIdeal.main_arg3)
          ∧ r.2.mem ((c.tc : Thread Cert.MixrReferenceIdeal.nD Cert.MixrReferenceIdeal.τ).loc Cert.MixrReferenceIdeal.main_arg4) = m' ((c.tc : Thread Cert.MixrReferenceIdeal.nD Cert.MixrReferenceIdeal.τ).loc Cert.MixrReferenceIdeal.main_arg4)
          ∧ r.2.mem ((c.tc : Thread Cert.MixrReferenceIdeal.nD Cert.MixrReferenceIdeal.τ).loc Cert.MixrReferenceIdeal.main_arg5) = m' ((c.tc : Thread Cert.MixrReferenceIdeal.nD Cert.MixrReferenceIdeal.τ).loc Cert.MixrReferenceIdeal.main_arg5))

def preserves_MixcKernel_MixcKernelIdeal : Prop :=
  True

def algebraic_MixcKernelIdeal_MixcReferenceIdeal_pre_finite_mixc [hMixcKernelIdeal : Cert.MixcKernelIdeal.Facts] [hMixcReferenceIdeal : Cert.MixcReferenceIdeal.Facts] [hPre_finite_mixc : Cert.Pre_finite_mixc.Facts] : Prop :=
  ∀ (m : (ℓ : Loc Cert.MixcKernelIdeal.nD Cert.MixcKernelIdeal.τ Cert.MixcKernelIdeal.sig) → Buf (Elt Ideal) ℓ) (g : Dev Cert.MixcKernelIdeal.nD → PrngReg)
    (m' : (ℓ : Loc Cert.MixcReferenceIdeal.nD Cert.MixcReferenceIdeal.τ Cert.MixcReferenceIdeal.sig) → Buf (Elt Ideal) ℓ) (g' : Dev Cert.MixcReferenceIdeal.nD → PrngReg), Pre_MixcKernelIdeal_finite_mixc m →
    (∀ c : Dev Cert.MixcKernelIdeal.nD,
      m' ((c.tc : Thread Cert.MixcReferenceIdeal.nD Cert.MixcReferenceIdeal.τ).loc Cert.MixcReferenceIdeal.main_arg0) = m ((c.tc : Thread Cert.MixcKernelIdeal.nD Cert.MixcKernelIdeal.τ).loc Cert.MixcKernelIdeal.main_arg0)
      ∧ m' ((c.tc : Thread Cert.MixcReferenceIdeal.nD Cert.MixcReferenceIdeal.τ).loc Cert.MixcReferenceIdeal.main_arg1) = m ((c.tc : Thread Cert.MixcKernelIdeal.nD Cert.MixcKernelIdeal.τ).loc Cert.MixcKernelIdeal.main_arg1)
      ∧ m' ((c.tc : Thread Cert.MixcReferenceIdeal.nD Cert.MixcReferenceIdeal.τ).loc Cert.MixcReferenceIdeal.main_arg2) = m ((c.tc : Thread Cert.MixcKernelIdeal.nD Cert.MixcKernelIdeal.τ).loc Cert.MixcKernelIdeal.main_arg2)
      ∧ m' ((c.tc : Thread Cert.MixcReferenceIdeal.nD Cert.MixcReferenceIdeal.τ).loc Cert.MixcReferenceIdeal.main_arg3) = m ((c.tc : Thread Cert.MixcKernelIdeal.nD Cert.MixcKernelIdeal.τ).loc Cert.MixcKernelIdeal.main_arg3)
      ∧ m' ((c.tc : Thread Cert.MixcReferenceIdeal.nD Cert.MixcReferenceIdeal.τ).loc Cert.MixcReferenceIdeal.main_arg4) = m ((c.tc : Thread Cert.MixcKernelIdeal.nD Cert.MixcKernelIdeal.τ).loc Cert.MixcKernelIdeal.main_arg4)
      ∧ m' ((c.tc : Thread Cert.MixcReferenceIdeal.nD Cert.MixcReferenceIdeal.τ).loc Cert.MixcReferenceIdeal.main_arg5) = m ((c.tc : Thread Cert.MixcKernelIdeal.nD Cert.MixcKernelIdeal.τ).loc Cert.MixcKernelIdeal.main_arg5)) →
    ∃ (v0 : (c : Dev Cert.MixcKernelIdeal.nD) → Buf (Elt Ideal) ((c.tc : Thread Cert.MixcKernelIdeal.nD Cert.MixcKernelIdeal.τ).loc Cert.MixcKernelIdeal.main_v3_0)) (v1 : (c : Dev Cert.MixcKernelIdeal.nD) → Buf (Elt Ideal) ((c.tc : Thread Cert.MixcKernelIdeal.nD Cert.MixcKernelIdeal.τ).loc Cert.MixcKernelIdeal.main_v3_1)) (v2 : (c : Dev Cert.MixcKernelIdeal.nD) → Buf (Elt Ideal) ((c.tc : Thread Cert.MixcKernelIdeal.nD Cert.MixcKernelIdeal.τ).loc Cert.MixcKernelIdeal.main_v3_2)) (v3 : (c : Dev Cert.MixcKernelIdeal.nD) → Buf (Elt Ideal) ((c.tc : Thread Cert.MixcKernelIdeal.nD Cert.MixcKernelIdeal.τ).loc Cert.MixcKernelIdeal.main_v3_3)),
      θ_run (Cert.MixcKernelIdeal.defs (F := Ideal)) (onTc (τ := Cert.MixcKernelIdeal.τ) (Cert.MixcKernelIdeal.main (F := Ideal))) ⟨m, fun _ => 0, g⟩ (fun r => ∀ c : Dev Cert.MixcKernelIdeal.nD,
          r.2.mem ((c.tc : Thread Cert.MixcKernelIdeal.nD Cert.MixcKernelIdeal.τ).loc Cert.MixcKernelIdeal.main_v3_0) = v0 c
          ∧ r.2.mem ((c.tc : Thread Cert.MixcKernelIdeal.nD Cert.MixcKernelIdeal.τ).loc Cert.MixcKernelIdeal.main_v3_1) = v1 c
          ∧ r.2.mem ((c.tc : Thread Cert.MixcKernelIdeal.nD Cert.MixcKernelIdeal.τ).loc Cert.MixcKernelIdeal.main_v3_2) = v2 c
          ∧ r.2.mem ((c.tc : Thread Cert.MixcKernelIdeal.nD Cert.MixcKernelIdeal.τ).loc Cert.MixcKernelIdeal.main_v3_3) = v3 c
          ∧ r.2.mem ((c.tc : Thread Cert.MixcKernelIdeal.nD Cert.MixcKernelIdeal.τ).loc Cert.MixcKernelIdeal.main_arg0) = m ((c.tc : Thread Cert.MixcKernelIdeal.nD Cert.MixcKernelIdeal.τ).loc Cert.MixcKernelIdeal.main_arg0)
          ∧ r.2.mem ((c.tc : Thread Cert.MixcKernelIdeal.nD Cert.MixcKernelIdeal.τ).loc Cert.MixcKernelIdeal.main_arg1) = m ((c.tc : Thread Cert.MixcKernelIdeal.nD Cert.MixcKernelIdeal.τ).loc Cert.MixcKernelIdeal.main_arg1)
          ∧ r.2.mem ((c.tc : Thread Cert.MixcKernelIdeal.nD Cert.MixcKernelIdeal.τ).loc Cert.MixcKernelIdeal.main_arg2) = m ((c.tc : Thread Cert.MixcKernelIdeal.nD Cert.MixcKernelIdeal.τ).loc Cert.MixcKernelIdeal.main_arg2)
          ∧ r.2.mem ((c.tc : Thread Cert.MixcKernelIdeal.nD Cert.MixcKernelIdeal.τ).loc Cert.MixcKernelIdeal.main_arg3) = m ((c.tc : Thread Cert.MixcKernelIdeal.nD Cert.MixcKernelIdeal.τ).loc Cert.MixcKernelIdeal.main_arg3)
          ∧ r.2.mem ((c.tc : Thread Cert.MixcKernelIdeal.nD Cert.MixcKernelIdeal.τ).loc Cert.MixcKernelIdeal.main_arg4) = m ((c.tc : Thread Cert.MixcKernelIdeal.nD Cert.MixcKernelIdeal.τ).loc Cert.MixcKernelIdeal.main_arg4)
          ∧ r.2.mem ((c.tc : Thread Cert.MixcKernelIdeal.nD Cert.MixcKernelIdeal.τ).loc Cert.MixcKernelIdeal.main_arg5) = m ((c.tc : Thread Cert.MixcKernelIdeal.nD Cert.MixcKernelIdeal.τ).loc Cert.MixcKernelIdeal.main_arg5))
      ∧ θ_run (Cert.MixcReferenceIdeal.defs (F := Ideal)) (onTc (τ := Cert.MixcReferenceIdeal.τ) (Cert.MixcReferenceIdeal.main (F := Ideal))) ⟨m', fun _ => 0, g'⟩ (fun r => ∀ c : Dev Cert.MixcReferenceIdeal.nD,
          r.2.mem ((c.tc : Thread Cert.MixcReferenceIdeal.nD Cert.MixcReferenceIdeal.τ).loc Cert.MixcReferenceIdeal.main_v70) = v0 c
          ∧ r.2.mem ((c.tc : Thread Cert.MixcReferenceIdeal.nD Cert.MixcReferenceIdeal.τ).loc Cert.MixcReferenceIdeal.main_v71) = v1 c
          ∧ r.2.mem ((c.tc : Thread Cert.MixcReferenceIdeal.nD Cert.MixcReferenceIdeal.τ).loc Cert.MixcReferenceIdeal.main_v72) = v2 c
          ∧ r.2.mem ((c.tc : Thread Cert.MixcReferenceIdeal.nD Cert.MixcReferenceIdeal.τ).loc Cert.MixcReferenceIdeal.main_v73) = v3 c
          ∧ r.2.mem ((c.tc : Thread Cert.MixcReferenceIdeal.nD Cert.MixcReferenceIdeal.τ).loc Cert.MixcReferenceIdeal.main_arg0) = m' ((c.tc : Thread Cert.MixcReferenceIdeal.nD Cert.MixcReferenceIdeal.τ).loc Cert.MixcReferenceIdeal.main_arg0)
          ∧ r.2.mem ((c.tc : Thread Cert.MixcReferenceIdeal.nD Cert.MixcReferenceIdeal.τ).loc Cert.MixcReferenceIdeal.main_arg1) = m' ((c.tc : Thread Cert.MixcReferenceIdeal.nD Cert.MixcReferenceIdeal.τ).loc Cert.MixcReferenceIdeal.main_arg1)
          ∧ r.2.mem ((c.tc : Thread Cert.MixcReferenceIdeal.nD Cert.MixcReferenceIdeal.τ).loc Cert.MixcReferenceIdeal.main_arg2) = m' ((c.tc : Thread Cert.MixcReferenceIdeal.nD Cert.MixcReferenceIdeal.τ).loc Cert.MixcReferenceIdeal.main_arg2)
          ∧ r.2.mem ((c.tc : Thread Cert.MixcReferenceIdeal.nD Cert.MixcReferenceIdeal.τ).loc Cert.MixcReferenceIdeal.main_arg3) = m' ((c.tc : Thread Cert.MixcReferenceIdeal.nD Cert.MixcReferenceIdeal.τ).loc Cert.MixcReferenceIdeal.main_arg3)
          ∧ r.2.mem ((c.tc : Thread Cert.MixcReferenceIdeal.nD Cert.MixcReferenceIdeal.τ).loc Cert.MixcReferenceIdeal.main_arg4) = m' ((c.tc : Thread Cert.MixcReferenceIdeal.nD Cert.MixcReferenceIdeal.τ).loc Cert.MixcReferenceIdeal.main_arg4)
          ∧ r.2.mem ((c.tc : Thread Cert.MixcReferenceIdeal.nD Cert.MixcReferenceIdeal.τ).loc Cert.MixcReferenceIdeal.main_arg5) = m' ((c.tc : Thread Cert.MixcReferenceIdeal.nD Cert.MixcReferenceIdeal.τ).loc Cert.MixcReferenceIdeal.main_arg5))

def preserves_LhKernel_LhKernelIdeal : Prop :=
  True

def algebraic_LhKernelIdeal_LhReferenceIdeal [hLhKernelIdeal : Cert.LhKernelIdeal.Facts] [hLhReferenceIdeal : Cert.LhReferenceIdeal.Facts] : Prop :=
  ∀ (m : (ℓ : Loc Cert.LhKernelIdeal.nD Cert.LhKernelIdeal.τ Cert.LhKernelIdeal.sig) → Buf (Elt Ideal) ℓ) (g : Dev Cert.LhKernelIdeal.nD → PrngReg)
    (m' : (ℓ : Loc Cert.LhReferenceIdeal.nD Cert.LhReferenceIdeal.τ Cert.LhReferenceIdeal.sig) → Buf (Elt Ideal) ℓ) (g' : Dev Cert.LhReferenceIdeal.nD → PrngReg), Pre_LhKernelIdeal m →
    (∀ c : Dev Cert.LhKernelIdeal.nD,
      m' ((c.tc : Thread Cert.LhReferenceIdeal.nD Cert.LhReferenceIdeal.τ).loc Cert.LhReferenceIdeal.main_arg0) = m ((c.tc : Thread Cert.LhKernelIdeal.nD Cert.LhKernelIdeal.τ).loc Cert.LhKernelIdeal.main_arg0)
      ∧ m' ((c.tc : Thread Cert.LhReferenceIdeal.nD Cert.LhReferenceIdeal.τ).loc Cert.LhReferenceIdeal.main_arg1) = m ((c.tc : Thread Cert.LhKernelIdeal.nD Cert.LhKernelIdeal.τ).loc Cert.LhKernelIdeal.main_arg1)
      ∧ m' ((c.tc : Thread Cert.LhReferenceIdeal.nD Cert.LhReferenceIdeal.τ).loc Cert.LhReferenceIdeal.main_arg2) = m ((c.tc : Thread Cert.LhKernelIdeal.nD Cert.LhKernelIdeal.τ).loc Cert.LhKernelIdeal.main_arg2)
      ∧ m' ((c.tc : Thread Cert.LhReferenceIdeal.nD Cert.LhReferenceIdeal.τ).loc Cert.LhReferenceIdeal.main_arg3) = m ((c.tc : Thread Cert.LhKernelIdeal.nD Cert.LhKernelIdeal.τ).loc Cert.LhKernelIdeal.main_arg3)) →
    ∃ (v0 : (c : Dev Cert.LhKernelIdeal.nD) → Buf (Elt Ideal) ((c.tc : Thread Cert.LhKernelIdeal.nD Cert.LhKernelIdeal.τ).loc Cert.LhKernelIdeal.main_v2_0)) (v1 : (c : Dev Cert.LhKernelIdeal.nD) → Buf (Elt Ideal) ((c.tc : Thread Cert.LhKernelIdeal.nD Cert.LhKernelIdeal.τ).loc Cert.LhKernelIdeal.main_v2_1)),
      θ_run (Cert.LhKernelIdeal.defs (F := Ideal)) (onTc (τ := Cert.LhKernelIdeal.τ) (Cert.LhKernelIdeal.main (F := Ideal))) ⟨m, fun _ => 0, g⟩ (fun r => ∀ c : Dev Cert.LhKernelIdeal.nD,
          r.2.mem ((c.tc : Thread Cert.LhKernelIdeal.nD Cert.LhKernelIdeal.τ).loc Cert.LhKernelIdeal.main_v2_0) = v0 c
          ∧ r.2.mem ((c.tc : Thread Cert.LhKernelIdeal.nD Cert.LhKernelIdeal.τ).loc Cert.LhKernelIdeal.main_v2_1) = v1 c
          ∧ r.2.mem ((c.tc : Thread Cert.LhKernelIdeal.nD Cert.LhKernelIdeal.τ).loc Cert.LhKernelIdeal.main_arg0) = m ((c.tc : Thread Cert.LhKernelIdeal.nD Cert.LhKernelIdeal.τ).loc Cert.LhKernelIdeal.main_arg0)
          ∧ r.2.mem ((c.tc : Thread Cert.LhKernelIdeal.nD Cert.LhKernelIdeal.τ).loc Cert.LhKernelIdeal.main_arg1) = m ((c.tc : Thread Cert.LhKernelIdeal.nD Cert.LhKernelIdeal.τ).loc Cert.LhKernelIdeal.main_arg1)
          ∧ r.2.mem ((c.tc : Thread Cert.LhKernelIdeal.nD Cert.LhKernelIdeal.τ).loc Cert.LhKernelIdeal.main_arg2) = m ((c.tc : Thread Cert.LhKernelIdeal.nD Cert.LhKernelIdeal.τ).loc Cert.LhKernelIdeal.main_arg2)
          ∧ r.2.mem ((c.tc : Thread Cert.LhKernelIdeal.nD Cert.LhKernelIdeal.τ).loc Cert.LhKernelIdeal.main_arg3) = m ((c.tc : Thread Cert.LhKernelIdeal.nD Cert.LhKernelIdeal.τ).loc Cert.LhKernelIdeal.main_arg3))
      ∧ θ_run (Cert.LhReferenceIdeal.defs (F := Ideal)) (onTc (τ := Cert.LhReferenceIdeal.τ) (Cert.LhReferenceIdeal.main (F := Ideal))) ⟨m', fun _ => 0, g'⟩ (fun r => ∀ c : Dev Cert.LhReferenceIdeal.nD,
          r.2.mem ((c.tc : Thread Cert.LhReferenceIdeal.nD Cert.LhReferenceIdeal.τ).loc Cert.LhReferenceIdeal.main_v42) = v0 c
          ∧ r.2.mem ((c.tc : Thread Cert.LhReferenceIdeal.nD Cert.LhReferenceIdeal.τ).loc Cert.LhReferenceIdeal.main_v41) = v1 c
          ∧ r.2.mem ((c.tc : Thread Cert.LhReferenceIdeal.nD Cert.LhReferenceIdeal.τ).loc Cert.LhReferenceIdeal.main_arg0) = m' ((c.tc : Thread Cert.LhReferenceIdeal.nD Cert.LhReferenceIdeal.τ).loc Cert.LhReferenceIdeal.main_arg0)
          ∧ r.2.mem ((c.tc : Thread Cert.LhReferenceIdeal.nD Cert.LhReferenceIdeal.τ).loc Cert.LhReferenceIdeal.main_arg1) = m' ((c.tc : Thread Cert.LhReferenceIdeal.nD Cert.LhReferenceIdeal.τ).loc Cert.LhReferenceIdeal.main_arg1)
          ∧ r.2.mem ((c.tc : Thread Cert.LhReferenceIdeal.nD Cert.LhReferenceIdeal.τ).loc Cert.LhReferenceIdeal.main_arg2) = m' ((c.tc : Thread Cert.LhReferenceIdeal.nD Cert.LhReferenceIdeal.τ).loc Cert.LhReferenceIdeal.main_arg2)
          ∧ r.2.mem ((c.tc : Thread Cert.LhReferenceIdeal.nD Cert.LhReferenceIdeal.τ).loc Cert.LhReferenceIdeal.main_arg3) = m' ((c.tc : Thread Cert.LhReferenceIdeal.nD Cert.LhReferenceIdeal.τ).loc Cert.LhReferenceIdeal.main_arg3))

def preserves_OutaKernel_OutaKernelIdeal : Prop :=
  True

def algebraic_OutaKernelIdeal_OutaReferenceIdeal [hOutaKernelIdeal : Cert.OutaKernelIdeal.Facts] [hOutaReferenceIdeal : Cert.OutaReferenceIdeal.Facts] : Prop :=
  ∀ (m : (ℓ : Loc Cert.OutaKernelIdeal.nD Cert.OutaKernelIdeal.τ Cert.OutaKernelIdeal.sig) → Buf (Elt Ideal) ℓ) (g : Dev Cert.OutaKernelIdeal.nD → PrngReg)
    (m' : (ℓ : Loc Cert.OutaReferenceIdeal.nD Cert.OutaReferenceIdeal.τ Cert.OutaReferenceIdeal.sig) → Buf (Elt Ideal) ℓ) (g' : Dev Cert.OutaReferenceIdeal.nD → PrngReg), Pre_OutaKernelIdeal m →
    (∀ c : Dev Cert.OutaKernelIdeal.nD,
      m' ((c.tc : Thread Cert.OutaReferenceIdeal.nD Cert.OutaReferenceIdeal.τ).loc Cert.OutaReferenceIdeal.main_arg0) = m ((c.tc : Thread Cert.OutaKernelIdeal.nD Cert.OutaKernelIdeal.τ).loc Cert.OutaKernelIdeal.main_arg0)
      ∧ m' ((c.tc : Thread Cert.OutaReferenceIdeal.nD Cert.OutaReferenceIdeal.τ).loc Cert.OutaReferenceIdeal.main_arg1) = m ((c.tc : Thread Cert.OutaKernelIdeal.nD Cert.OutaKernelIdeal.τ).loc Cert.OutaKernelIdeal.main_arg1)
      ∧ m' ((c.tc : Thread Cert.OutaReferenceIdeal.nD Cert.OutaReferenceIdeal.τ).loc Cert.OutaReferenceIdeal.main_arg2) = m ((c.tc : Thread Cert.OutaKernelIdeal.nD Cert.OutaKernelIdeal.τ).loc Cert.OutaKernelIdeal.main_arg2)
      ∧ m' ((c.tc : Thread Cert.OutaReferenceIdeal.nD Cert.OutaReferenceIdeal.τ).loc Cert.OutaReferenceIdeal.main_arg3) = m ((c.tc : Thread Cert.OutaKernelIdeal.nD Cert.OutaKernelIdeal.τ).loc Cert.OutaKernelIdeal.main_arg3)
      ∧ m' ((c.tc : Thread Cert.OutaReferenceIdeal.nD Cert.OutaReferenceIdeal.τ).loc Cert.OutaReferenceIdeal.main_arg4) = m ((c.tc : Thread Cert.OutaKernelIdeal.nD Cert.OutaKernelIdeal.τ).loc Cert.OutaKernelIdeal.main_arg4)) →
    ∃ (v0 : (c : Dev Cert.OutaKernelIdeal.nD) → Buf (Elt Ideal) ((c.tc : Thread Cert.OutaKernelIdeal.nD Cert.OutaKernelIdeal.τ).loc Cert.OutaKernelIdeal.main_v4_0)) (v1 : (c : Dev Cert.OutaKernelIdeal.nD) → Buf (Elt Ideal) ((c.tc : Thread Cert.OutaKernelIdeal.nD Cert.OutaKernelIdeal.τ).loc Cert.OutaKernelIdeal.main_v4_1)),
      θ_run (Cert.OutaKernelIdeal.defs (F := Ideal)) (onTc (τ := Cert.OutaKernelIdeal.τ) (Cert.OutaKernelIdeal.main (F := Ideal))) ⟨m, fun _ => 0, g⟩ (fun r => ∀ c : Dev Cert.OutaKernelIdeal.nD,
          r.2.mem ((c.tc : Thread Cert.OutaKernelIdeal.nD Cert.OutaKernelIdeal.τ).loc Cert.OutaKernelIdeal.main_v4_0) = v0 c
          ∧ r.2.mem ((c.tc : Thread Cert.OutaKernelIdeal.nD Cert.OutaKernelIdeal.τ).loc Cert.OutaKernelIdeal.main_v4_1) = v1 c
          ∧ r.2.mem ((c.tc : Thread Cert.OutaKernelIdeal.nD Cert.OutaKernelIdeal.τ).loc Cert.OutaKernelIdeal.main_arg0) = m ((c.tc : Thread Cert.OutaKernelIdeal.nD Cert.OutaKernelIdeal.τ).loc Cert.OutaKernelIdeal.main_arg0)
          ∧ r.2.mem ((c.tc : Thread Cert.OutaKernelIdeal.nD Cert.OutaKernelIdeal.τ).loc Cert.OutaKernelIdeal.main_arg1) = m ((c.tc : Thread Cert.OutaKernelIdeal.nD Cert.OutaKernelIdeal.τ).loc Cert.OutaKernelIdeal.main_arg1)
          ∧ r.2.mem ((c.tc : Thread Cert.OutaKernelIdeal.nD Cert.OutaKernelIdeal.τ).loc Cert.OutaKernelIdeal.main_arg2) = m ((c.tc : Thread Cert.OutaKernelIdeal.nD Cert.OutaKernelIdeal.τ).loc Cert.OutaKernelIdeal.main_arg2)
          ∧ r.2.mem ((c.tc : Thread Cert.OutaKernelIdeal.nD Cert.OutaKernelIdeal.τ).loc Cert.OutaKernelIdeal.main_arg3) = m ((c.tc : Thread Cert.OutaKernelIdeal.nD Cert.OutaKernelIdeal.τ).loc Cert.OutaKernelIdeal.main_arg3)
          ∧ r.2.mem ((c.tc : Thread Cert.OutaKernelIdeal.nD Cert.OutaKernelIdeal.τ).loc Cert.OutaKernelIdeal.main_arg4) = m ((c.tc : Thread Cert.OutaKernelIdeal.nD Cert.OutaKernelIdeal.τ).loc Cert.OutaKernelIdeal.main_arg4))
      ∧ θ_run (Cert.OutaReferenceIdeal.defs (F := Ideal)) (onTc (τ := Cert.OutaReferenceIdeal.τ) (Cert.OutaReferenceIdeal.main (F := Ideal))) ⟨m', fun _ => 0, g'⟩ (fun r => ∀ c : Dev Cert.OutaReferenceIdeal.nD,
          r.2.mem ((c.tc : Thread Cert.OutaReferenceIdeal.nD Cert.OutaReferenceIdeal.τ).loc Cert.OutaReferenceIdeal.main_v3) = v0 c
          ∧ r.2.mem ((c.tc : Thread Cert.OutaReferenceIdeal.nD Cert.OutaReferenceIdeal.τ).loc Cert.OutaReferenceIdeal.main_v28) = v1 c
          ∧ r.2.mem ((c.tc : Thread Cert.OutaReferenceIdeal.nD Cert.OutaReferenceIdeal.τ).loc Cert.OutaReferenceIdeal.main_arg0) = m' ((c.tc : Thread Cert.OutaReferenceIdeal.nD Cert.OutaReferenceIdeal.τ).loc Cert.OutaReferenceIdeal.main_arg0)
          ∧ r.2.mem ((c.tc : Thread Cert.OutaReferenceIdeal.nD Cert.OutaReferenceIdeal.τ).loc Cert.OutaReferenceIdeal.main_arg1) = m' ((c.tc : Thread Cert.OutaReferenceIdeal.nD Cert.OutaReferenceIdeal.τ).loc Cert.OutaReferenceIdeal.main_arg1)
          ∧ r.2.mem ((c.tc : Thread Cert.OutaReferenceIdeal.nD Cert.OutaReferenceIdeal.τ).loc Cert.OutaReferenceIdeal.main_arg2) = m' ((c.tc : Thread Cert.OutaReferenceIdeal.nD Cert.OutaReferenceIdeal.τ).loc Cert.OutaReferenceIdeal.main_arg2)
          ∧ r.2.mem ((c.tc : Thread Cert.OutaReferenceIdeal.nD Cert.OutaReferenceIdeal.τ).loc Cert.OutaReferenceIdeal.main_arg3) = m' ((c.tc : Thread Cert.OutaReferenceIdeal.nD Cert.OutaReferenceIdeal.τ).loc Cert.OutaReferenceIdeal.main_arg3)
          ∧ r.2.mem ((c.tc : Thread Cert.OutaReferenceIdeal.nD Cert.OutaReferenceIdeal.τ).loc Cert.OutaReferenceIdeal.main_arg4) = m' ((c.tc : Thread Cert.OutaReferenceIdeal.nD Cert.OutaReferenceIdeal.τ).loc Cert.OutaReferenceIdeal.main_arg4))

def preserves_OutcKernel_OutcKernelIdeal : Prop :=
  True

def algebraic_OutcKernelIdeal_OutcReferenceIdeal [hOutcKernelIdeal : Cert.OutcKernelIdeal.Facts] [hOutcReferenceIdeal : Cert.OutcReferenceIdeal.Facts] : Prop :=
  ∀ (m : (ℓ : Loc Cert.OutcKernelIdeal.nD Cert.OutcKernelIdeal.τ Cert.OutcKernelIdeal.sig) → Buf (Elt Ideal) ℓ) (g : Dev Cert.OutcKernelIdeal.nD → PrngReg)
    (m' : (ℓ : Loc Cert.OutcReferenceIdeal.nD Cert.OutcReferenceIdeal.τ Cert.OutcReferenceIdeal.sig) → Buf (Elt Ideal) ℓ) (g' : Dev Cert.OutcReferenceIdeal.nD → PrngReg), Pre_OutcKernelIdeal m →
    (∀ c : Dev Cert.OutcKernelIdeal.nD,
      m' ((c.tc : Thread Cert.OutcReferenceIdeal.nD Cert.OutcReferenceIdeal.τ).loc Cert.OutcReferenceIdeal.main_arg0) = m ((c.tc : Thread Cert.OutcKernelIdeal.nD Cert.OutcKernelIdeal.τ).loc Cert.OutcKernelIdeal.main_arg0)
      ∧ m' ((c.tc : Thread Cert.OutcReferenceIdeal.nD Cert.OutcReferenceIdeal.τ).loc Cert.OutcReferenceIdeal.main_arg1) = m ((c.tc : Thread Cert.OutcKernelIdeal.nD Cert.OutcKernelIdeal.τ).loc Cert.OutcKernelIdeal.main_arg1)
      ∧ m' ((c.tc : Thread Cert.OutcReferenceIdeal.nD Cert.OutcReferenceIdeal.τ).loc Cert.OutcReferenceIdeal.main_arg2) = m ((c.tc : Thread Cert.OutcKernelIdeal.nD Cert.OutcKernelIdeal.τ).loc Cert.OutcKernelIdeal.main_arg2)
      ∧ m' ((c.tc : Thread Cert.OutcReferenceIdeal.nD Cert.OutcReferenceIdeal.τ).loc Cert.OutcReferenceIdeal.main_arg3) = m ((c.tc : Thread Cert.OutcKernelIdeal.nD Cert.OutcKernelIdeal.τ).loc Cert.OutcKernelIdeal.main_arg3)
      ∧ m' ((c.tc : Thread Cert.OutcReferenceIdeal.nD Cert.OutcReferenceIdeal.τ).loc Cert.OutcReferenceIdeal.main_arg4) = m ((c.tc : Thread Cert.OutcKernelIdeal.nD Cert.OutcKernelIdeal.τ).loc Cert.OutcKernelIdeal.main_arg4)
      ∧ m' ((c.tc : Thread Cert.OutcReferenceIdeal.nD Cert.OutcReferenceIdeal.τ).loc Cert.OutcReferenceIdeal.main_arg5) = m ((c.tc : Thread Cert.OutcKernelIdeal.nD Cert.OutcKernelIdeal.τ).loc Cert.OutcKernelIdeal.main_arg5)
      ∧ m' ((c.tc : Thread Cert.OutcReferenceIdeal.nD Cert.OutcReferenceIdeal.τ).loc Cert.OutcReferenceIdeal.main_arg6) = m ((c.tc : Thread Cert.OutcKernelIdeal.nD Cert.OutcKernelIdeal.τ).loc Cert.OutcKernelIdeal.main_arg6)) →
    ∃ (v0 : (c : Dev Cert.OutcKernelIdeal.nD) → Buf (Elt Ideal) ((c.tc : Thread Cert.OutcKernelIdeal.nD Cert.OutcKernelIdeal.τ).loc Cert.OutcKernelIdeal.main_v6_0)) (v1 : (c : Dev Cert.OutcKernelIdeal.nD) → Buf (Elt Ideal) ((c.tc : Thread Cert.OutcKernelIdeal.nD Cert.OutcKernelIdeal.τ).loc Cert.OutcKernelIdeal.main_v6_1)),
      θ_run (Cert.OutcKernelIdeal.defs (F := Ideal)) (onTc (τ := Cert.OutcKernelIdeal.τ) (Cert.OutcKernelIdeal.main (F := Ideal))) ⟨m, fun _ => 0, g⟩ (fun r => ∀ c : Dev Cert.OutcKernelIdeal.nD,
          r.2.mem ((c.tc : Thread Cert.OutcKernelIdeal.nD Cert.OutcKernelIdeal.τ).loc Cert.OutcKernelIdeal.main_v6_0) = v0 c
          ∧ r.2.mem ((c.tc : Thread Cert.OutcKernelIdeal.nD Cert.OutcKernelIdeal.τ).loc Cert.OutcKernelIdeal.main_v6_1) = v1 c
          ∧ r.2.mem ((c.tc : Thread Cert.OutcKernelIdeal.nD Cert.OutcKernelIdeal.τ).loc Cert.OutcKernelIdeal.main_arg0) = m ((c.tc : Thread Cert.OutcKernelIdeal.nD Cert.OutcKernelIdeal.τ).loc Cert.OutcKernelIdeal.main_arg0)
          ∧ r.2.mem ((c.tc : Thread Cert.OutcKernelIdeal.nD Cert.OutcKernelIdeal.τ).loc Cert.OutcKernelIdeal.main_arg1) = m ((c.tc : Thread Cert.OutcKernelIdeal.nD Cert.OutcKernelIdeal.τ).loc Cert.OutcKernelIdeal.main_arg1)
          ∧ r.2.mem ((c.tc : Thread Cert.OutcKernelIdeal.nD Cert.OutcKernelIdeal.τ).loc Cert.OutcKernelIdeal.main_arg2) = m ((c.tc : Thread Cert.OutcKernelIdeal.nD Cert.OutcKernelIdeal.τ).loc Cert.OutcKernelIdeal.main_arg2)
          ∧ r.2.mem ((c.tc : Thread Cert.OutcKernelIdeal.nD Cert.OutcKernelIdeal.τ).loc Cert.OutcKernelIdeal.main_arg3) = m ((c.tc : Thread Cert.OutcKernelIdeal.nD Cert.OutcKernelIdeal.τ).loc Cert.OutcKernelIdeal.main_arg3)
          ∧ r.2.mem ((c.tc : Thread Cert.OutcKernelIdeal.nD Cert.OutcKernelIdeal.τ).loc Cert.OutcKernelIdeal.main_arg4) = m ((c.tc : Thread Cert.OutcKernelIdeal.nD Cert.OutcKernelIdeal.τ).loc Cert.OutcKernelIdeal.main_arg4)
          ∧ r.2.mem ((c.tc : Thread Cert.OutcKernelIdeal.nD Cert.OutcKernelIdeal.τ).loc Cert.OutcKernelIdeal.main_arg5) = m ((c.tc : Thread Cert.OutcKernelIdeal.nD Cert.OutcKernelIdeal.τ).loc Cert.OutcKernelIdeal.main_arg5)
          ∧ r.2.mem ((c.tc : Thread Cert.OutcKernelIdeal.nD Cert.OutcKernelIdeal.τ).loc Cert.OutcKernelIdeal.main_arg6) = m ((c.tc : Thread Cert.OutcKernelIdeal.nD Cert.OutcKernelIdeal.τ).loc Cert.OutcKernelIdeal.main_arg6))
      ∧ θ_run (Cert.OutcReferenceIdeal.defs (F := Ideal)) (onTc (τ := Cert.OutcReferenceIdeal.τ) (Cert.OutcReferenceIdeal.main (F := Ideal))) ⟨m', fun _ => 0, g'⟩ (fun r => ∀ c : Dev Cert.OutcReferenceIdeal.nD,
          r.2.mem ((c.tc : Thread Cert.OutcReferenceIdeal.nD Cert.OutcReferenceIdeal.τ).loc Cert.OutcReferenceIdeal.main_v27) = v0 c
          ∧ r.2.mem ((c.tc : Thread Cert.OutcReferenceIdeal.nD Cert.OutcReferenceIdeal.τ).loc Cert.OutcReferenceIdeal.main_v52) = v1 c
          ∧ r.2.mem ((c.tc : Thread Cert.OutcReferenceIdeal.nD Cert.OutcReferenceIdeal.τ).loc Cert.OutcReferenceIdeal.main_arg0) = m' ((c.tc : Thread Cert.OutcReferenceIdeal.nD Cert.OutcReferenceIdeal.τ).loc Cert.OutcReferenceIdeal.main_arg0)
          ∧ r.2.mem ((c.tc : Thread Cert.OutcReferenceIdeal.nD Cert.OutcReferenceIdeal.τ).loc Cert.OutcReferenceIdeal.main_arg1) = m' ((c.tc : Thread Cert.OutcReferenceIdeal.nD Cert.OutcReferenceIdeal.τ).loc Cert.OutcReferenceIdeal.main_arg1)
          ∧ r.2.mem ((c.tc : Thread Cert.OutcReferenceIdeal.nD Cert.OutcReferenceIdeal.τ).loc Cert.OutcReferenceIdeal.main_arg2) = m' ((c.tc : Thread Cert.OutcReferenceIdeal.nD Cert.OutcReferenceIdeal.τ).loc Cert.OutcReferenceIdeal.main_arg2)
          ∧ r.2.mem ((c.tc : Thread Cert.OutcReferenceIdeal.nD Cert.OutcReferenceIdeal.τ).loc Cert.OutcReferenceIdeal.main_arg3) = m' ((c.tc : Thread Cert.OutcReferenceIdeal.nD Cert.OutcReferenceIdeal.τ).loc Cert.OutcReferenceIdeal.main_arg3)
          ∧ r.2.mem ((c.tc : Thread Cert.OutcReferenceIdeal.nD Cert.OutcReferenceIdeal.τ).loc Cert.OutcReferenceIdeal.main_arg4) = m' ((c.tc : Thread Cert.OutcReferenceIdeal.nD Cert.OutcReferenceIdeal.τ).loc Cert.OutcReferenceIdeal.main_arg4)
          ∧ r.2.mem ((c.tc : Thread Cert.OutcReferenceIdeal.nD Cert.OutcReferenceIdeal.τ).loc Cert.OutcReferenceIdeal.main_arg5) = m' ((c.tc : Thread Cert.OutcReferenceIdeal.nD Cert.OutcReferenceIdeal.τ).loc Cert.OutcReferenceIdeal.main_arg5)
          ∧ r.2.mem ((c.tc : Thread Cert.OutcReferenceIdeal.nD Cert.OutcReferenceIdeal.τ).loc Cert.OutcReferenceIdeal.main_arg6) = m' ((c.tc : Thread Cert.OutcReferenceIdeal.nD Cert.OutcReferenceIdeal.τ).loc Cert.OutcReferenceIdeal.main_arg6))

def preserves_OutrKernel_OutrKernelIdeal : Prop :=
  True

def algebraic_OutrKernelIdeal_OutrReferenceIdeal [hOutrKernelIdeal : Cert.OutrKernelIdeal.Facts] [hOutrReferenceIdeal : Cert.OutrReferenceIdeal.Facts] : Prop :=
  ∀ (m : (ℓ : Loc Cert.OutrKernelIdeal.nD Cert.OutrKernelIdeal.τ Cert.OutrKernelIdeal.sig) → Buf (Elt Ideal) ℓ) (g : Dev Cert.OutrKernelIdeal.nD → PrngReg)
    (m' : (ℓ : Loc Cert.OutrReferenceIdeal.nD Cert.OutrReferenceIdeal.τ Cert.OutrReferenceIdeal.sig) → Buf (Elt Ideal) ℓ) (g' : Dev Cert.OutrReferenceIdeal.nD → PrngReg), Pre_OutrKernelIdeal m →
    (∀ c : Dev Cert.OutrKernelIdeal.nD,
      m' ((c.tc : Thread Cert.OutrReferenceIdeal.nD Cert.OutrReferenceIdeal.τ).loc Cert.OutrReferenceIdeal.main_arg0) = m ((c.tc : Thread Cert.OutrKernelIdeal.nD Cert.OutrKernelIdeal.τ).loc Cert.OutrKernelIdeal.main_arg0)
      ∧ m' ((c.tc : Thread Cert.OutrReferenceIdeal.nD Cert.OutrReferenceIdeal.τ).loc Cert.OutrReferenceIdeal.main_arg1) = m ((c.tc : Thread Cert.OutrKernelIdeal.nD Cert.OutrKernelIdeal.τ).loc Cert.OutrKernelIdeal.main_arg1)
      ∧ m' ((c.tc : Thread Cert.OutrReferenceIdeal.nD Cert.OutrReferenceIdeal.τ).loc Cert.OutrReferenceIdeal.main_arg2) = m ((c.tc : Thread Cert.OutrKernelIdeal.nD Cert.OutrKernelIdeal.τ).loc Cert.OutrKernelIdeal.main_arg2)
      ∧ m' ((c.tc : Thread Cert.OutrReferenceIdeal.nD Cert.OutrReferenceIdeal.τ).loc Cert.OutrReferenceIdeal.main_arg3) = m ((c.tc : Thread Cert.OutrKernelIdeal.nD Cert.OutrKernelIdeal.τ).loc Cert.OutrKernelIdeal.main_arg3)
      ∧ m' ((c.tc : Thread Cert.OutrReferenceIdeal.nD Cert.OutrReferenceIdeal.τ).loc Cert.OutrReferenceIdeal.main_arg4) = m ((c.tc : Thread Cert.OutrKernelIdeal.nD Cert.OutrKernelIdeal.τ).loc Cert.OutrKernelIdeal.main_arg4)
      ∧ m' ((c.tc : Thread Cert.OutrReferenceIdeal.nD Cert.OutrReferenceIdeal.τ).loc Cert.OutrReferenceIdeal.main_arg5) = m ((c.tc : Thread Cert.OutrKernelIdeal.nD Cert.OutrKernelIdeal.τ).loc Cert.OutrKernelIdeal.main_arg5)
      ∧ m' ((c.tc : Thread Cert.OutrReferenceIdeal.nD Cert.OutrReferenceIdeal.τ).loc Cert.OutrReferenceIdeal.main_arg6) = m ((c.tc : Thread Cert.OutrKernelIdeal.nD Cert.OutrKernelIdeal.τ).loc Cert.OutrKernelIdeal.main_arg6)) →
    ∃ (v0 : (c : Dev Cert.OutrKernelIdeal.nD) → Buf (Elt Ideal) ((c.tc : Thread Cert.OutrKernelIdeal.nD Cert.OutrKernelIdeal.τ).loc Cert.OutrKernelIdeal.main_v6_0)) (v1 : (c : Dev Cert.OutrKernelIdeal.nD) → Buf (Elt Ideal) ((c.tc : Thread Cert.OutrKernelIdeal.nD Cert.OutrKernelIdeal.τ).loc Cert.OutrKernelIdeal.main_v6_1)),
      θ_run (Cert.OutrKernelIdeal.defs (F := Ideal)) (onTc (τ := Cert.OutrKernelIdeal.τ) (Cert.OutrKernelIdeal.main (F := Ideal))) ⟨m, fun _ => 0, g⟩ (fun r => ∀ c : Dev Cert.OutrKernelIdeal.nD,
          r.2.mem ((c.tc : Thread Cert.OutrKernelIdeal.nD Cert.OutrKernelIdeal.τ).loc Cert.OutrKernelIdeal.main_v6_0) = v0 c
          ∧ r.2.mem ((c.tc : Thread Cert.OutrKernelIdeal.nD Cert.OutrKernelIdeal.τ).loc Cert.OutrKernelIdeal.main_v6_1) = v1 c
          ∧ r.2.mem ((c.tc : Thread Cert.OutrKernelIdeal.nD Cert.OutrKernelIdeal.τ).loc Cert.OutrKernelIdeal.main_arg0) = m ((c.tc : Thread Cert.OutrKernelIdeal.nD Cert.OutrKernelIdeal.τ).loc Cert.OutrKernelIdeal.main_arg0)
          ∧ r.2.mem ((c.tc : Thread Cert.OutrKernelIdeal.nD Cert.OutrKernelIdeal.τ).loc Cert.OutrKernelIdeal.main_arg1) = m ((c.tc : Thread Cert.OutrKernelIdeal.nD Cert.OutrKernelIdeal.τ).loc Cert.OutrKernelIdeal.main_arg1)
          ∧ r.2.mem ((c.tc : Thread Cert.OutrKernelIdeal.nD Cert.OutrKernelIdeal.τ).loc Cert.OutrKernelIdeal.main_arg2) = m ((c.tc : Thread Cert.OutrKernelIdeal.nD Cert.OutrKernelIdeal.τ).loc Cert.OutrKernelIdeal.main_arg2)
          ∧ r.2.mem ((c.tc : Thread Cert.OutrKernelIdeal.nD Cert.OutrKernelIdeal.τ).loc Cert.OutrKernelIdeal.main_arg3) = m ((c.tc : Thread Cert.OutrKernelIdeal.nD Cert.OutrKernelIdeal.τ).loc Cert.OutrKernelIdeal.main_arg3)
          ∧ r.2.mem ((c.tc : Thread Cert.OutrKernelIdeal.nD Cert.OutrKernelIdeal.τ).loc Cert.OutrKernelIdeal.main_arg4) = m ((c.tc : Thread Cert.OutrKernelIdeal.nD Cert.OutrKernelIdeal.τ).loc Cert.OutrKernelIdeal.main_arg4)
          ∧ r.2.mem ((c.tc : Thread Cert.OutrKernelIdeal.nD Cert.OutrKernelIdeal.τ).loc Cert.OutrKernelIdeal.main_arg5) = m ((c.tc : Thread Cert.OutrKernelIdeal.nD Cert.OutrKernelIdeal.τ).loc Cert.OutrKernelIdeal.main_arg5)
          ∧ r.2.mem ((c.tc : Thread Cert.OutrKernelIdeal.nD Cert.OutrKernelIdeal.τ).loc Cert.OutrKernelIdeal.main_arg6) = m ((c.tc : Thread Cert.OutrKernelIdeal.nD Cert.OutrKernelIdeal.τ).loc Cert.OutrKernelIdeal.main_arg6))
      ∧ θ_run (Cert.OutrReferenceIdeal.defs (F := Ideal)) (onTc (τ := Cert.OutrReferenceIdeal.τ) (Cert.OutrReferenceIdeal.main (F := Ideal))) ⟨m', fun _ => 0, g'⟩ (fun r => ∀ c : Dev Cert.OutrReferenceIdeal.nD,
          r.2.mem ((c.tc : Thread Cert.OutrReferenceIdeal.nD Cert.OutrReferenceIdeal.τ).loc Cert.OutrReferenceIdeal.main_v27) = v0 c
          ∧ r.2.mem ((c.tc : Thread Cert.OutrReferenceIdeal.nD Cert.OutrReferenceIdeal.τ).loc Cert.OutrReferenceIdeal.main_v52) = v1 c
          ∧ r.2.mem ((c.tc : Thread Cert.OutrReferenceIdeal.nD Cert.OutrReferenceIdeal.τ).loc Cert.OutrReferenceIdeal.main_arg0) = m' ((c.tc : Thread Cert.OutrReferenceIdeal.nD Cert.OutrReferenceIdeal.τ).loc Cert.OutrReferenceIdeal.main_arg0)
          ∧ r.2.mem ((c.tc : Thread Cert.OutrReferenceIdeal.nD Cert.OutrReferenceIdeal.τ).loc Cert.OutrReferenceIdeal.main_arg1) = m' ((c.tc : Thread Cert.OutrReferenceIdeal.nD Cert.OutrReferenceIdeal.τ).loc Cert.OutrReferenceIdeal.main_arg1)
          ∧ r.2.mem ((c.tc : Thread Cert.OutrReferenceIdeal.nD Cert.OutrReferenceIdeal.τ).loc Cert.OutrReferenceIdeal.main_arg2) = m' ((c.tc : Thread Cert.OutrReferenceIdeal.nD Cert.OutrReferenceIdeal.τ).loc Cert.OutrReferenceIdeal.main_arg2)
          ∧ r.2.mem ((c.tc : Thread Cert.OutrReferenceIdeal.nD Cert.OutrReferenceIdeal.τ).loc Cert.OutrReferenceIdeal.main_arg3) = m' ((c.tc : Thread Cert.OutrReferenceIdeal.nD Cert.OutrReferenceIdeal.τ).loc Cert.OutrReferenceIdeal.main_arg3)
          ∧ r.2.mem ((c.tc : Thread Cert.OutrReferenceIdeal.nD Cert.OutrReferenceIdeal.τ).loc Cert.OutrReferenceIdeal.main_arg4) = m' ((c.tc : Thread Cert.OutrReferenceIdeal.nD Cert.OutrReferenceIdeal.τ).loc Cert.OutrReferenceIdeal.main_arg4)
          ∧ r.2.mem ((c.tc : Thread Cert.OutrReferenceIdeal.nD Cert.OutrReferenceIdeal.τ).loc Cert.OutrReferenceIdeal.main_arg5) = m' ((c.tc : Thread Cert.OutrReferenceIdeal.nD Cert.OutrReferenceIdeal.τ).loc Cert.OutrReferenceIdeal.main_arg5)
          ∧ r.2.mem ((c.tc : Thread Cert.OutrReferenceIdeal.nD Cert.OutrReferenceIdeal.τ).loc Cert.OutrReferenceIdeal.main_arg6) = m' ((c.tc : Thread Cert.OutrReferenceIdeal.nD Cert.OutrReferenceIdeal.τ).loc Cert.OutrReferenceIdeal.main_arg6))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)
      ∧ m' ((c.tc : Thread Cert.DownReferenceIdeal.nD Cert.DownReferenceIdeal.τ).loc Cert.DownReferenceIdeal.main_arg6) = m ((c.tc : Thread Cert.DownKernelIdeal.nD Cert.DownKernelIdeal.τ).loc Cert.DownKernelIdeal.main_arg6)) →
    ∃ (v0 : (c : Dev Cert.DownKernelIdeal.nD) → Buf (Elt Ideal) ((c.tc : Thread Cert.DownKernelIdeal.nD Cert.DownKernelIdeal.τ).loc Cert.DownKernelIdeal.main_v6_0)) (v1 : (c : Dev Cert.DownKernelIdeal.nD) → Buf (Elt Ideal) ((c.tc : Thread Cert.DownKernelIdeal.nD Cert.DownKernelIdeal.τ).loc Cert.DownKernelIdeal.main_v6_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6_0) = v0 c
          ∧ r.2.mem ((c.tc : Thread Cert.DownKernelIdeal.nD Cert.DownKernelIdeal.τ).loc Cert.DownKernelIdeal.main_v6_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5)
          ∧ r.2.mem ((c.tc : Thread Cert.DownKernelIdeal.nD Cert.DownKernelIdeal.τ).loc Cert.DownKernelIdeal.main_arg6) = m ((c.tc : Thread Cert.DownKernelIdeal.nD Cert.DownKernelIdeal.τ).loc Cert.DownKernelIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v27) = v0 c
          ∧ r.2.mem ((c.tc : Thread Cert.DownReferenceIdeal.nD Cert.DownReferenceIdeal.τ).loc Cert.DownReferenceIdeal.main_v52) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def preserves_ScfKernel_ScfKernelIdeal : Prop :=
  True

def algebraic_ScfKernelIdeal_ScfReferenceIdeal [hScfKernelIdeal : Cert.ScfKernelIdeal.Facts] [hScfReferenceIdeal : Cert.ScfReferenceIdeal.Facts] : Prop :=
  ∀ (m : (ℓ : Loc Cert.ScfKernelIdeal.nD Cert.ScfKernelIdeal.τ Cert.ScfKernelIdeal.sig) → Buf (Elt Ideal) ℓ) (g : Dev Cert.ScfKernelIdeal.nD → PrngReg)
    (m' : (ℓ : Loc Cert.ScfReferenceIdeal.nD Cert.ScfReferenceIdeal.τ Cert.ScfReferenceIdeal.sig) → Buf (Elt Ideal) ℓ) (g' : Dev Cert.ScfReferenceIdeal.nD → PrngReg), Pre_ScfKernelIdeal m →
    (∀ c : Dev Cert.ScfKernelIdeal.nD,
      m' ((c.tc : Thread Cert.ScfReferenceIdeal.nD Cert.ScfReferenceIdeal.τ).loc Cert.ScfReferenceIdeal.main_arg0) = m ((c.tc : Thread Cert.ScfKernelIdeal.nD Cert.ScfKernelIdeal.τ).loc Cert.ScfKernelIdeal.main_arg0)
      ∧ m' ((c.tc : Thread Cert.ScfReferenceIdeal.nD Cert.ScfReferenceIdeal.τ).loc Cert.ScfReferenceIdeal.main_arg1) = m ((c.tc : Thread Cert.ScfKernelIdeal.nD Cert.ScfKernelIdeal.τ).loc Cert.ScfKernelIdeal.main_arg1)
      ∧ m' ((c.tc : Thread Cert.ScfReferenceIdeal.nD Cert.ScfReferenceIdeal.τ).loc Cert.ScfReferenceIdeal.main_arg2) = m ((c.tc : Thread Cert.ScfKernelIdeal.nD Cert.ScfKernelIdeal.τ).loc Cert.ScfKernelIdeal.main_arg2)) →
    ∃ (v0 : (c : Dev Cert.ScfKernelIdeal.nD) → Buf (Elt Ideal) ((c.tc : Thread Cert.ScfKernelIdeal.nD Cert.ScfKernelIdeal.τ).loc Cert.ScfKernelIdeal.main_v1)),
      θ_run (Cert.ScfKernelIdeal.defs (F := Ideal)) (onTc (τ := Cert.ScfKernelIdeal.τ) (Cert.ScfKernelIdeal.main (F := Ideal))) ⟨m, fun _ => 0, g⟩ (fun r => ∀ c : Dev Cert.ScfKernelIdeal.nD,
          r.2.mem ((c.tc : Thread Cert.ScfKernelIdeal.nD Cert.ScfKernelIdeal.τ).loc Cert.ScfKernelIdeal.main_v1) = v0 c
          ∧ r.2.mem ((c.tc : Thread Cert.ScfKernelIdeal.nD Cert.ScfKernelIdeal.τ).loc Cert.ScfKernelIdeal.main_arg0) = m ((c.tc : Thread Cert.ScfKernelIdeal.nD Cert.ScfKernelIdeal.τ).loc Cert.ScfKernelIdeal.main_arg0)
          ∧ r.2.mem ((c.tc : Thread Cert.ScfKernelIdeal.nD Cert.ScfKernelIdeal.τ).loc Cert.ScfKernelIdeal.main_arg1) = m ((c.tc : Thread Cert.ScfKernelIdeal.nD Cert.ScfKernelIdeal.τ).loc Cert.ScfKernelIdeal.main_arg1)
          ∧ r.2.mem ((c.tc : Thread Cert.ScfKernelIdeal.nD Cert.ScfKernelIdeal.τ).loc Cert.ScfKernelIdeal.main_arg2) = m ((c.tc : Thread Cert.ScfKernelIdeal.nD Cert.ScfKernelIdeal.τ).loc Cert.ScfKernelIdeal.main_arg2))
      ∧ θ_run (Cert.ScfReferenceIdeal.defs (F := Ideal)) (onTc (τ := Cert.ScfReferenceIdeal.τ) (Cert.ScfReferenceIdeal.main (F := Ideal))) ⟨m', fun _ => 0, g'⟩ (fun r => ∀ c : Dev Cert.ScfReferenceIdeal.nD,
          r.2.mem ((c.tc : Thread Cert.ScfReferenceIdeal.nD Cert.ScfReferenceIdeal.τ).loc Cert.ScfReferenceIdeal.main_v30) = v0 c
          ∧ r.2.mem ((c.tc : Thread Cert.ScfReferenceIdeal.nD Cert.ScfReferenceIdeal.τ).loc Cert.ScfReferenceIdeal.main_arg0) = m' ((c.tc : Thread Cert.ScfReferenceIdeal.nD Cert.ScfReferenceIdeal.τ).loc Cert.ScfReferenceIdeal.main_arg0)
          ∧ r.2.mem ((c.tc : Thread Cert.ScfReferenceIdeal.nD Cert.ScfReferenceIdeal.τ).loc Cert.ScfReferenceIdeal.main_arg1) = m' ((c.tc : Thread Cert.ScfReferenceIdeal.nD Cert.ScfReferenceIdeal.τ).loc Cert.ScfReferenceIdeal.main_arg1)
          ∧ r.2.mem ((c.tc : Thread Cert.ScfReferenceIdeal.nD Cert.ScfReferenceIdeal.τ).loc Cert.ScfReferenceIdeal.main_arg2) = m' ((c.tc : Thread Cert.ScfReferenceIdeal.nD Cert.ScfReferenceIdeal.τ).loc Cert.ScfReferenceIdeal.main_arg2))

def preserves_FupKernel_FupKernelIdeal : Prop :=
  True

def algebraic_FupKernelIdeal_FupReferenceIdeal [hFupKernelIdeal : Cert.FupKernelIdeal.Facts] [hFupReferenceIdeal : Cert.FupReferenceIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)
      ∧ m' ((c.tc : Thread Cert.FupReferenceIdeal.nD Cert.FupReferenceIdeal.τ).loc Cert.FupReferenceIdeal.main_arg2) = m ((c.tc : Thread Cert.FupKernelIdeal.nD Cert.FupKernelIdeal.τ).loc Cert.FupKernelIdeal.main_arg2)
      ∧ m' ((c.tc : Thread Cert.FupReferenceIdeal.nD Cert.FupReferenceIdeal.τ).loc Cert.FupReferenceIdeal.main_arg3) = m ((c.tc : Thread Cert.FupKernelIdeal.nD Cert.FupKernelIdeal.τ).loc Cert.FupKernelIdeal.main_arg3)) →
    ∃ (v0 : (c : Dev Cert.FupKernelIdeal.nD) → Buf (Elt Ideal) ((c.tc : Thread Cert.FupKernelIdeal.nD Cert.FupKernelIdeal.τ).loc Cert.FupKernelIdeal.main_v4_0)) (v1 : (c : Dev Cert.FupKernelIdeal.nD) → Buf (Elt Ideal) ((c.tc : Thread Cert.FupKernelIdeal.nD Cert.FupKernelIdeal.τ).loc Cert.FupKernelIdeal.main_v4_1)) (v2 : (c : Dev Cert.FupKernelIdeal.nD) → Buf (Elt Ideal) ((c.tc : Thread Cert.FupKernelIdeal.nD Cert.FupKernelIdeal.τ).loc Cert.FupKernelIdeal.main_v4_2)) (v3 : (c : Dev Cert.FupKernelIdeal.nD) → Buf (Elt Ideal) ((c.tc : Thread Cert.FupKernelIdeal.nD Cert.FupKernelIdeal.τ).loc Cert.FupKernelIdeal.main_v4_3)) (v4 : (c : Dev Cert.FupKernelIdeal.nD) → Buf (Elt Ideal) ((c.tc : Thread Cert.FupKernelIdeal.nD Cert.FupKernelIdeal.τ).loc Cert.FupKernelIdeal.main_v4_4)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v4_0) = v0 c
          ∧ r.2.mem ((c.tc : Thread Cert.FupKernelIdeal.nD Cert.FupKernelIdeal.τ).loc Cert.FupKernelIdeal.main_v4_1) = v1 c
          ∧ r.2.mem ((c.tc : Thread Cert.FupKernelIdeal.nD Cert.FupKernelIdeal.τ).loc Cert.FupKernelIdeal.main_v4_2) = v2 c
          ∧ r.2.mem ((c.tc : Thread Cert.FupKernelIdeal.nD Cert.FupKernelIdeal.τ).loc Cert.FupKernelIdeal.main_v4_3) = v3 c
          ∧ r.2.mem ((c.tc : Thread Cert.FupKernelIdeal.nD Cert.FupKernelIdeal.τ).loc Cert.FupKernelIdeal.main_v4_4) = v4 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
          ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2)
          ∧ r.2.mem ((c.tc : Thread Cert.FupKernelIdeal.nD Cert.FupKernelIdeal.τ).loc Cert.FupKernelIdeal.main_arg3) = m ((c.tc : Thread Cert.FupKernelIdeal.nD Cert.FupKernelIdeal.τ).loc Cert.FupKernelIdeal.main_arg3))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v28) = v0 c
          ∧ r.2.mem ((c.tc : Thread Cert.FupReferenceIdeal.nD Cert.FupReferenceIdeal.τ).loc Cert.FupReferenceIdeal.main_v29) = v1 c
          ∧ r.2.mem ((c.tc : Thread Cert.FupReferenceIdeal.nD Cert.FupReferenceIdeal.τ).loc Cert.FupReferenceIdeal.main_v26) = v2 c
          ∧ r.2.mem ((c.tc : Thread Cert.FupReferenceIdeal.nD Cert.FupReferenceIdeal.τ).loc Cert.FupReferenceIdeal.main_v27) = v3 c
          ∧ r.2.mem ((c.tc : Thread Cert.FupReferenceIdeal.nD Cert.FupReferenceIdeal.τ).loc Cert.FupReferenceIdeal.main_v32) = v4 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1)
          ∧ r.2.mem ((c.tc : Thread Cert.FupReferenceIdeal.nD Cert.FupReferenceIdeal.τ).loc Cert.FupReferenceIdeal.main_arg2) = m' ((c.tc : Thread Cert.FupReferenceIdeal.nD Cert.FupReferenceIdeal.τ).loc Cert.FupReferenceIdeal.main_arg2)
          ∧ r.2.mem ((c.tc : Thread Cert.FupReferenceIdeal.nD Cert.FupReferenceIdeal.τ).loc Cert.FupReferenceIdeal.main_arg3) = m' ((c.tc : Thread Cert.FupReferenceIdeal.nD Cert.FupReferenceIdeal.τ).loc Cert.FupReferenceIdeal.main_arg3))

def preserves_LrufKernel_LrufKernelIdeal : Prop :=
  True

def preserves_MmKernel_MmKernelIdeal : Prop :=
  True

def algebraic_MmKernelIdeal_MmReferenceIdeal [hMmKernelIdeal : Cert.MmKernelIdeal.Facts] [hMmReferenceIdeal : Cert.MmReferenceIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmKernelIdeal m →
    (∀ c : Dev Cert.MmKernelIdeal.nD,
      m' ((c.tc : Thread Cert.MmReferenceIdeal.nD Cert.MmReferenceIdeal.τ).loc Cert.MmReferenceIdeal.main_arg0) = m ((c.tc : Thread Cert.MmKernelIdeal.nD Cert.MmKernelIdeal.τ).loc Cert.MmKernelIdeal.main_arg0)
      ∧ m' ((c.tc : Thread Cert.MmReferenceIdeal.nD Cert.MmReferenceIdeal.τ).loc Cert.MmReferenceIdeal.main_arg1) = m ((c.tc : Thread Cert.MmKernelIdeal.nD Cert.MmKernelIdeal.τ).loc Cert.MmKernelIdeal.main_arg1)
      ∧ m' ((c.tc : Thread Cert.MmReferenceIdeal.nD Cert.MmReferenceIdeal.τ).loc Cert.MmReferenceIdeal.main_arg2) = m ((c.tc : Thread Cert.MmKernelIdeal.nD Cert.MmKernelIdeal.τ).loc Cert.MmKernelIdeal.main_arg2)) →
    ∃ (v0 : (c : Dev Cert.MmKernelIdeal.nD) → Buf (Elt Ideal) ((c.tc : Thread Cert.MmKernelIdeal.nD Cert.MmKernelIdeal.τ).loc Cert.MmKernelIdeal.main_v2)),
      θ_run (Cert.MmKernelIdeal.defs (F := Ideal)) (onTc (τ := Cert.MmKernelIdeal.τ) (Cert.MmKernelIdeal.main (F := Ideal))) ⟨m, fun _ => 0, g⟩ (fun r => ∀ c : Dev Cert.MmKernelIdeal.nD,
          r.2.mem ((c.tc : Thread Cert.MmKernelIdeal.nD Cert.MmKernelIdeal.τ).loc Cert.MmKernelIdeal.main_v2) = v0 c
          ∧ r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
          ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1)
          ∧ r.2.mem ((c.tc : Thread Cert.MmKernelIdeal.nD Cert.MmKernelIdeal.τ).loc Cert.MmKernelIdeal.main_arg2) = m ((c.tc : Thread Cert.MmKernelIdeal.nD Cert.MmKernelIdeal.τ).loc Cert.MmKernelIdeal.main_arg2))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v3) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1)
          ∧ r.2.mem ((c.tc : Thread Cert.MmReferenceIdeal.nD Cert.MmReferenceIdeal.τ).loc Cert.MmReferenceIdeal.main_arg2) = m' ((c.tc : Thread Cert.MmReferenceIdeal.nD Cert.MmReferenceIdeal.τ).loc Cert.MmReferenceIdeal.main_arg2))

def preserves_MmtnKernel_MmtnKernelIdeal : Prop :=
  True

def algebraic_MmtnKernelIdeal_MmtnReferenceIdeal [hMmtnKernelIdeal : Cert.MmtnKernelIdeal.Facts] [hMmtnReferenceIdeal : Cert.MmtnReferenceIdeal.Facts] : Prop :=
  ∀ (m : (ℓ : Loc Cert.MmtnKernelIdeal.nD Cert.MmtnKernelIdeal.τ Cert.MmtnKernelIdeal.sig) → Buf (Elt Ideal) ℓ) (g : Dev Cert.MmtnKernelIdeal.nD → PrngReg)
    (m' : (ℓ : Loc Cert.MmtnReferenceIdeal.nD Cert.MmtnReferenceIdeal.τ Cert.MmtnReferenceIdeal.sig) → Buf (Elt Ideal) ℓ) (g' : Dev Cert.MmtnReferenceIdeal.nD → PrngReg), Pre_MmtnKernelIdeal m →
    (∀ c : Dev Cert.MmtnKernelIdeal.nD,
      m' ((c.tc : Thread Cert.MmtnReferenceIdeal.nD Cert.MmtnReferenceIdeal.τ).loc Cert.MmtnReferenceIdeal.main_arg0) = m ((c.tc : Thread Cert.MmtnKernelIdeal.nD Cert.MmtnKernelIdeal.τ).loc Cert.MmtnKernelIdeal.main_arg0)
      ∧ m' ((c.tc : Thread Cert.MmtnReferenceIdeal.nD Cert.MmtnReferenceIdeal.τ).loc Cert.MmtnReferenceIdeal.main_arg1) = m ((c.tc : Thread Cert.MmtnKernelIdeal.nD Cert.MmtnKernelIdeal.τ).loc Cert.MmtnKernelIdeal.main_arg1)) →
    ∃ (v0 : (c : Dev Cert.MmtnKernelIdeal.nD) → Buf (Elt Ideal) ((c.tc : Thread Cert.MmtnKernelIdeal.nD Cert.MmtnKernelIdeal.τ).loc Cert.MmtnKernelIdeal.main_v2)),
      θ_run (Cert.MmtnKernelIdeal.defs (F := Ideal)) (onTc (τ := Cert.MmtnKernelIdeal.τ) (Cert.MmtnKernelIdeal.main (F := Ideal))) ⟨m, fun _ => 0, g⟩ (fun r => ∀ c : Dev Cert.MmtnKernelIdeal.nD,
          r.2.mem ((c.tc : Thread Cert.MmtnKernelIdeal.nD Cert.MmtnKernelIdeal.τ).loc Cert.MmtnKernelIdeal.main_v2) = v0 c
          ∧ r.2.mem ((c.tc : Thread Cert.MmtnKernelIdeal.nD Cert.MmtnKernelIdeal.τ).loc Cert.MmtnKernelIdeal.main_arg0) = m ((c.tc : Thread Cert.MmtnKernelIdeal.nD Cert.MmtnKernelIdeal.τ).loc Cert.MmtnKernelIdeal.main_arg0)
          ∧ r.2.mem ((c.tc : Thread Cert.MmtnKernelIdeal.nD Cert.MmtnKernelIdeal.τ).loc Cert.MmtnKernelIdeal.main_arg1) = m ((c.tc : Thread Cert.MmtnKernelIdeal.nD Cert.MmtnKernelIdeal.τ).loc Cert.MmtnKernelIdeal.main_arg1))
      ∧ θ_run (Cert.MmtnReferenceIdeal.defs (F := Ideal)) (onTc (τ := Cert.MmtnReferenceIdeal.τ) (Cert.MmtnReferenceIdeal.main (F := Ideal))) ⟨m', fun _ => 0, g'⟩ (fun r => ∀ c : Dev Cert.MmtnReferenceIdeal.nD,
          r.2.mem ((c.tc : Thread Cert.MmtnReferenceIdeal.nD Cert.MmtnReferenceIdeal.τ).loc Cert.MmtnReferenceIdeal.main_v1) = v0 c
          ∧ r.2.mem ((c.tc : Thread Cert.MmtnReferenceIdeal.nD Cert.MmtnReferenceIdeal.τ).loc Cert.MmtnReferenceIdeal.main_arg0) = m' ((c.tc : Thread Cert.MmtnReferenceIdeal.nD Cert.MmtnReferenceIdeal.τ).loc Cert.MmtnReferenceIdeal.main_arg0)
          ∧ r.2.mem ((c.tc : Thread Cert.MmtnReferenceIdeal.nD Cert.MmtnReferenceIdeal.τ).loc Cert.MmtnReferenceIdeal.main_arg1) = m' ((c.tc : Thread Cert.MmtnReferenceIdeal.nD Cert.MmtnReferenceIdeal.τ).loc Cert.MmtnReferenceIdeal.main_arg1))

def preserves_AdamKernel_AdamKernelIdeal : Prop :=
  IdealRules.named_const.Statement Cert.AdamKernelIdeal.κ "inv_bias1" .f32 0x3FC48605#32 ((8388608 / 5463681 : ℝ) : EReal)
  ∧ IdealRules.named_const.Statement Cert.AdamKernelIdeal.κ "inv_bias2" .f32 0x42C8E6D3#32 ((268435456 / 2672307 : ℝ) : EReal)

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)) →
    ∃ (v0 : (c : Dev Cert.AdamKernelIdeal.nD) → Buf (Elt Ideal) ((c.tc : Thread Cert.AdamKernelIdeal.nD Cert.AdamKernelIdeal.τ).loc Cert.AdamKernelIdeal.main_v3_0)) (v1 : (c : Dev Cert.AdamKernelIdeal.nD) → Buf (Elt Ideal) ((c.tc : Thread Cert.AdamKernelIdeal.nD Cert.AdamKernelIdeal.τ).loc Cert.AdamKernelIdeal.main_v3_1)) (v2 : (c : Dev Cert.AdamKernelIdeal.nD) → Buf (Elt Ideal) ((c.tc : Thread Cert.AdamKernelIdeal.nD Cert.AdamKernelIdeal.τ).loc Cert.AdamKernelIdeal.main_v3_2)) (v3 : (c : Dev Cert.AdamKernelIdeal.nD) → Buf (Elt Ideal) ((c.tc : Thread Cert.AdamKernelIdeal.nD Cert.AdamKernelIdeal.τ).loc Cert.AdamKernelIdeal.main_v3_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v3_0) = v0 c
          ∧ r.2.mem ((c.tc : Thread Cert.AdamKernelIdeal.nD Cert.AdamKernelIdeal.τ).loc Cert.AdamKernelIdeal.main_v3_1) = v1 c
          ∧ r.2.mem ((c.tc : Thread Cert.AdamKernelIdeal.nD Cert.AdamKernelIdeal.τ).loc Cert.AdamKernelIdeal.main_v3_2) = v2 c
          ∧ r.2.mem ((c.tc : Thread Cert.AdamKernelIdeal.nD Cert.AdamKernelIdeal.τ).loc Cert.AdamKernelIdeal.main_v3_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v25) = v0 c
          ∧ r.2.mem ((c.tc : Thread Cert.AdamReferenceIdeal.nD Cert.AdamReferenceIdeal.τ).loc Cert.AdamReferenceIdeal.main_v26) = v1 c
          ∧ r.2.mem ((c.tc : Thread Cert.AdamReferenceIdeal.nD Cert.AdamReferenceIdeal.τ).loc Cert.AdamReferenceIdeal.main_v27) = v2 c
          ∧ r.2.mem ((c.tc : Thread Cert.AdamReferenceIdeal.nD Cert.AdamReferenceIdeal.τ).loc Cert.AdamReferenceIdeal.main_v28) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7))

def preserves_CastKernel_CastKernelIdeal : Prop :=
  True

def algebraic_CastKernelIdeal_CastReferenceIdeal [hCastKernelIdeal : Cert.CastKernelIdeal.Facts] [hCastReferenceIdeal : Cert.CastReferenceIdeal.Facts] : Prop :=
  ∀ (m : (ℓ : Loc Cert.CastKernelIdeal.nD Cert.CastKernelIdeal.τ Cert.CastKernelIdeal.sig) → Buf (Elt Ideal) ℓ) (g : Dev Cert.CastKernelIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastKernelIdeal m →
    (∀ c : Dev Cert.CastKernelIdeal.nD,
      m' ((c.tc : Thread Cert.CastReferenceIdeal.nD Cert.CastReferenceIdeal.τ).loc Cert.CastReferenceIdeal.main_arg0) = m ((c.tc : Thread Cert.CastKernelIdeal.nD Cert.CastKernelIdeal.τ).loc Cert.CastKernelIdeal.main_arg0)
      ∧ m' ((c.tc : Thread Cert.CastReferenceIdeal.nD Cert.CastReferenceIdeal.τ).loc Cert.CastReferenceIdeal.main_arg1) = m ((c.tc : Thread Cert.CastKernelIdeal.nD Cert.CastKernelIdeal.τ).loc Cert.CastKernelIdeal.main_arg1)
      ∧ m' ((c.tc : Thread Cert.CastReferenceIdeal.nD Cert.CastReferenceIdeal.τ).loc Cert.CastReferenceIdeal.main_arg2) = m ((c.tc : Thread Cert.CastKernelIdeal.nD Cert.CastKernelIdeal.τ).loc Cert.CastKernelIdeal.main_arg2)
      ∧ m' ((c.tc : Thread Cert.CastReferenceIdeal.nD Cert.CastReferenceIdeal.τ).loc Cert.CastReferenceIdeal.main_arg3) = m ((c.tc : Thread Cert.CastKernelIdeal.nD Cert.CastKernelIdeal.τ).loc Cert.CastKernelIdeal.main_arg3)
      ∧ m' ((c.tc : Thread Cert.CastReferenceIdeal.nD Cert.CastReferenceIdeal.τ).loc Cert.CastReferenceIdeal.main_arg4) = m ((c.tc : Thread Cert.CastKernelIdeal.nD Cert.CastKernelIdeal.τ).loc Cert.CastKernelIdeal.main_arg4)
      ∧ m' ((c.tc : Thread Cert.CastReferenceIdeal.nD Cert.CastReferenceIdeal.τ).loc Cert.CastReferenceIdeal.main_arg5) = m ((c.tc : Thread Cert.CastKernelIdeal.nD Cert.CastKernelIdeal.τ).loc Cert.CastKernelIdeal.main_arg5)) →
    ∃ (v0 : (c : Dev Cert.CastKernelIdeal.nD) → Buf (Elt Ideal) ((c.tc : Thread Cert.CastKernelIdeal.nD Cert.CastKernelIdeal.τ).loc Cert.CastKernelIdeal.main_v2_0)) (v1 : (c : Dev Cert.CastKernelIdeal.nD) → Buf (Elt Ideal) ((c.tc : Thread Cert.CastKernelIdeal.nD Cert.CastKernelIdeal.τ).loc Cert.CastKernelIdeal.main_v2_1)) (v2 : (c : Dev Cert.CastKernelIdeal.nD) → Buf (Elt Ideal) ((c.tc : Thread Cert.CastKernelIdeal.nD Cert.CastKernelIdeal.τ).loc Cert.CastKernelIdeal.main_v2_2)) (v3 : (c : Dev Cert.CastKernelIdeal.nD) → Buf (Elt Ideal) ((c.tc : Thread Cert.CastKernelIdeal.nD Cert.CastKernelIdeal.τ).loc Cert.CastKernelIdeal.main_v2_3)) (v4 : (c : Dev Cert.CastKernelIdeal.nD) → Buf (Elt Ideal) ((c.tc : Thread Cert.CastKernelIdeal.nD Cert.CastKernelIdeal.τ).loc Cert.CastKernelIdeal.main_v2_4)) (v5 : (c : Dev Cert.CastKernelIdeal.nD) → Buf (Elt Ideal) ((c.tc : Thread Cert.CastKernelIdeal.nD Cert.CastKernelIdeal.τ).loc Cert.CastKernelIdeal.main_v2_5)) (v6 : (c : Dev Cert.CastKernelIdeal.nD) → Buf (Elt Ideal) ((c.tc : Thread Cert.CastKernelIdeal.nD Cert.CastKernelIdeal.τ).loc Cert.CastKernelIdeal.main_v2_6)) (v7 : (c : Dev Cert.CastKernelIdeal.nD) → Buf (Elt Ideal) ((c.tc : Thread Cert.CastKernelIdeal.nD Cert.CastKernelIdeal.τ).loc Cert.CastKernelIdeal.main_v2_7)) (v8 : (c : Dev Cert.CastKernelIdeal.nD) → Buf (Elt Ideal) ((c.tc : Thread Cert.CastKernelIdeal.nD Cert.CastKernelIdeal.τ).loc Cert.CastKernelIdeal.main_v2_8)) (v9 : (c : Dev Cert.CastKernelIdeal.nD) → Buf (Elt Ideal) ((c.tc : Thread Cert.CastKernelIdeal.nD Cert.CastKernelIdeal.τ).loc Cert.CastKernelIdeal.main_v2_9)) (v10 : (c : Dev Cert.CastKernelIdeal.nD) → Buf (Elt Ideal) ((c.tc : Thread Cert.CastKernelIdeal.nD Cert.CastKernelIdeal.τ).loc Cert.CastKernelIdeal.main_v2_10)) (v11 : (c : Dev Cert.CastKernelIdeal.nD) → Buf (Elt Ideal) ((c.tc : Thread Cert.CastKernelIdeal.nD Cert.CastKernelIdeal.τ).loc Cert.CastKernelIdeal.main_v2_11)) (v12 : (c : Dev Cert.CastKernelIdeal.nD) → Buf (Elt Ideal) ((c.tc : Thread Cert.CastKernelIdeal.nD Cert.CastKernelIdeal.τ).loc Cert.CastKernelIdeal.main_v2_12)) (v13 : (c : Dev Cert.CastKernelIdeal.nD) → Buf (Elt Ideal) ((c.tc : Thread Cert.CastKernelIdeal.nD Cert.CastKernelIdeal.τ).loc Cert.CastKernelIdeal.main_v2_13)) (v14 : (c : Dev Cert.CastKernelIdeal.nD) → Buf (Elt Ideal) ((c.tc : Thread Cert.CastKernelIdeal.nD Cert.CastKernelIdeal.τ).loc Cert.CastKernelIdeal.main_v2_14)) (v15 : (c : Dev Cert.CastKernelIdeal.nD) → Buf (Elt Ideal) ((c.tc : Thread Cert.CastKernelIdeal.nD Cert.CastKernelIdeal.τ).loc Cert.CastKernelIdeal.main_v2_15)),
      θ_run (Cert.CastKernelIdeal.defs (F := Ideal)) (onTc (τ := Cert.CastKernelIdeal.τ) (Cert.CastKernelIdeal.main (F := Ideal))) ⟨m, fun _ => 0, g⟩ (fun r => ∀ c : Dev Cert.CastKernelIdeal.nD,
          r.2.mem ((c.tc : Thread Cert.CastKernelIdeal.nD Cert.CastKernelIdeal.τ).loc Cert.CastKernelIdeal.main_v2_0) = v0 c
          ∧ r.2.mem ((c.tc : Thread Cert.CastKernelIdeal.nD Cert.CastKernelIdeal.τ).loc Cert.CastKernelIdeal.main_v2_1) = v1 c
          ∧ r.2.mem ((c.tc : Thread Cert.CastKernelIdeal.nD Cert.CastKernelIdeal.τ).loc Cert.CastKernelIdeal.main_v2_2) = v2 c
          ∧ r.2.mem ((c.tc : Thread Cert.CastKernelIdeal.nD Cert.CastKernelIdeal.τ).loc Cert.CastKernelIdeal.main_v2_3) = v3 c
          ∧ r.2.mem ((c.tc : Thread Cert.CastKernelIdeal.nD Cert.CastKernelIdeal.τ).loc Cert.CastKernelIdeal.main_v2_4) = v4 c
          ∧ r.2.mem ((c.tc : Thread Cert.CastKernelIdeal.nD Cert.CastKernelIdeal.τ).loc Cert.CastKernelIdeal.main_v2_5) = v5 c
          ∧ r.2.mem ((c.tc : Thread Cert.CastKernelIdeal.nD Cert.CastKernelIdeal.τ).loc Cert.CastKernelIdeal.main_v2_6) = v6 c
          ∧ r.2.mem ((c.tc : Thread Cert.CastKernelIdeal.nD Cert.CastKernelIdeal.τ).loc Cert.CastKernelIdeal.main_v2_7) = v7 c
          ∧ r.2.mem ((c.tc : Thread Cert.CastKernelIdeal.nD Cert.CastKernelIdeal.τ).loc Cert.CastKernelIdeal.main_v2_8) = v8 c
          ∧ r.2.mem ((c.tc : Thread Cert.CastKernelIdeal.nD Cert.CastKernelIdeal.τ).loc Cert.CastKernelIdeal.main_v2_9) = v9 c
          ∧ r.2.mem ((c.tc : Thread Cert.CastKernelIdeal.nD Cert.CastKernelIdeal.τ).loc Cert.CastKernelIdeal.main_v2_10) = v10 c
          ∧ r.2.mem ((c.tc : Thread Cert.CastKernelIdeal.nD Cert.CastKernelIdeal.τ).loc Cert.CastKernelIdeal.main_v2_11) = v11 c
          ∧ r.2.mem ((c.tc : Thread Cert.CastKernelIdeal.nD Cert.CastKernelIdeal.τ).loc Cert.CastKernelIdeal.main_v2_12) = v12 c
          ∧ r.2.mem ((c.tc : Thread Cert.CastKernelIdeal.nD Cert.CastKernelIdeal.τ).loc Cert.CastKernelIdeal.main_v2_13) = v13 c
          ∧ r.2.mem ((c.tc : Thread Cert.CastKernelIdeal.nD Cert.CastKernelIdeal.τ).loc Cert.CastKernelIdeal.main_v2_14) = v14 c
          ∧ r.2.mem ((c.tc : Thread Cert.CastKernelIdeal.nD Cert.CastKernelIdeal.τ).loc Cert.CastKernelIdeal.main_v2_15) = v15 c
          ∧ r.2.mem ((c.tc : Thread Cert.CastKernelIdeal.nD Cert.CastKernelIdeal.τ).loc Cert.CastKernelIdeal.main_arg0) = m ((c.tc : Thread Cert.CastKernelIdeal.nD Cert.CastKernelIdeal.τ).loc Cert.CastKernelIdeal.main_arg0)
          ∧ r.2.mem ((c.tc : Thread Cert.CastKernelIdeal.nD Cert.CastKernelIdeal.τ).loc Cert.CastKernelIdeal.main_arg1) = m ((c.tc : Thread Cert.CastKernelIdeal.nD Cert.CastKernelIdeal.τ).loc Cert.CastKernelIdeal.main_arg1)
          ∧ r.2.mem ((c.tc : Thread Cert.CastKernelIdeal.nD Cert.CastKernelIdeal.τ).loc Cert.CastKernelIdeal.main_arg2) = m ((c.tc : Thread Cert.CastKernelIdeal.nD Cert.CastKernelIdeal.τ).loc Cert.CastKernelIdeal.main_arg2)
          ∧ r.2.mem ((c.tc : Thread Cert.CastKernelIdeal.nD Cert.CastKernelIdeal.τ).loc Cert.CastKernelIdeal.main_arg3) = m ((c.tc : Thread Cert.CastKernelIdeal.nD Cert.CastKernelIdeal.τ).loc Cert.CastKernelIdeal.main_arg3)
          ∧ r.2.mem ((c.tc : Thread Cert.CastKernelIdeal.nD Cert.CastKernelIdeal.τ).loc Cert.CastKernelIdeal.main_arg4) = m ((c.tc : Thread Cert.CastKernelIdeal.nD Cert.CastKernelIdeal.τ).loc Cert.CastKernelIdeal.main_arg4)
          ∧ r.2.mem ((c.tc : Thread Cert.CastKernelIdeal.nD Cert.CastKernelIdeal.τ).loc Cert.CastKernelIdeal.main_arg5) = m ((c.tc : Thread Cert.CastKernelIdeal.nD Cert.CastKernelIdeal.τ).loc Cert.CastKernelIdeal.main_arg5))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v4) = v0 c
          ∧ r.2.mem ((c.tc : Thread Cert.CastReferenceIdeal.nD Cert.CastReferenceIdeal.τ).loc Cert.CastReferenceIdeal.main_v7) = v1 c
          ∧ r.2.mem ((c.tc : Thread Cert.CastReferenceIdeal.nD Cert.CastReferenceIdeal.τ).loc Cert.CastReferenceIdeal.main_v10) = v2 c
          ∧ r.2.mem ((c.tc : Thread Cert.CastReferenceIdeal.nD Cert.CastReferenceIdeal.τ).loc Cert.CastReferenceIdeal.main_v13) = v3 c
          ∧ r.2.mem ((c.tc : Thread Cert.CastReferenceIdeal.nD Cert.CastReferenceIdeal.τ).loc Cert.CastReferenceIdeal.main_v16) = v4 c
          ∧ r.2.mem ((c.tc : Thread Cert.CastReferenceIdeal.nD Cert.CastReferenceIdeal.τ).loc Cert.CastReferenceIdeal.main_v19) = v5 c
          ∧ r.2.mem ((c.tc : Thread Cert.CastReferenceIdeal.nD Cert.CastReferenceIdeal.τ).loc Cert.CastReferenceIdeal.main_v22) = v6 c
          ∧ r.2.mem ((c.tc : Thread Cert.CastReferenceIdeal.nD Cert.CastReferenceIdeal.τ).loc Cert.CastReferenceIdeal.main_v25) = v7 c
          ∧ r.2.mem ((c.tc : Thread Cert.CastReferenceIdeal.nD Cert.CastReferenceIdeal.τ).loc Cert.CastReferenceIdeal.main_v28) = v8 c
          ∧ r.2.mem ((c.tc : Thread Cert.CastReferenceIdeal.nD Cert.CastReferenceIdeal.τ).loc Cert.CastReferenceIdeal.main_v31) = v9 c
          ∧ r.2.mem ((c.tc : Thread Cert.CastReferenceIdeal.nD Cert.CastReferenceIdeal.τ).loc Cert.CastReferenceIdeal.main_v34) = v10 c
          ∧ r.2.mem ((c.tc : Thread Cert.CastReferenceIdeal.nD Cert.CastReferenceIdeal.τ).loc Cert.CastReferenceIdeal.main_v37) = v11 c
          ∧ r.2.mem ((c.tc : Thread Cert.CastReferenceIdeal.nD Cert.CastReferenceIdeal.τ).loc Cert.CastReferenceIdeal.main_v40) = v12 c
          ∧ r.2.mem ((c.tc : Thread Cert.CastReferenceIdeal.nD Cert.CastReferenceIdeal.τ).loc Cert.CastReferenceIdeal.main_v43) = v13 c
          ∧ r.2.mem ((c.tc : Thread Cert.CastReferenceIdeal.nD Cert.CastReferenceIdeal.τ).loc Cert.CastReferenceIdeal.main_v46) = v14 c
          ∧ r.2.mem ((c.tc : Thread Cert.CastReferenceIdeal.nD Cert.CastReferenceIdeal.τ).loc Cert.CastReferenceIdeal.main_v49) = v15 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0)
          ∧ r.2.mem ((c.tc : Thread Cert.CastReferenceIdeal.nD Cert.CastReferenceIdeal.τ).loc Cert.CastReferenceIdeal.main_arg1) = m' ((c.tc : Thread Cert.CastReferenceIdeal.nD Cert.CastReferenceIdeal.τ).loc Cert.CastReferenceIdeal.main_arg1)
          ∧ r.2.mem ((c.tc : Thread Cert.CastReferenceIdeal.nD Cert.CastReferenceIdeal.τ).loc Cert.CastReferenceIdeal.main_arg2) = m' ((c.tc : Thread Cert.CastReferenceIdeal.nD Cert.CastReferenceIdeal.τ).loc Cert.CastReferenceIdeal.main_arg2)
          ∧ r.2.mem ((c.tc : Thread Cert.CastReferenceIdeal.nD Cert.CastReferenceIdeal.τ).loc Cert.CastReferenceIdeal.main_arg3) = m' ((c.tc : Thread Cert.CastReferenceIdeal.nD Cert.CastReferenceIdeal.τ).loc Cert.CastReferenceIdeal.main_arg3)
          ∧ r.2.mem ((c.tc : Thread Cert.CastReferenceIdeal.nD Cert.CastReferenceIdeal.τ).loc Cert.CastReferenceIdeal.main_arg4) = m' ((c.tc : Thread Cert.CastReferenceIdeal.nD Cert.CastReferenceIdeal.τ).loc Cert.CastReferenceIdeal.main_arg4)
          ∧ r.2.mem ((c.tc : Thread Cert.CastReferenceIdeal.nD Cert.CastReferenceIdeal.τ).loc Cert.CastReferenceIdeal.main_arg5) = m' ((c.tc : Thread Cert.CastReferenceIdeal.nD Cert.CastReferenceIdeal.τ).loc Cert.CastReferenceIdeal.main_arg5))

def preserves_LrubKernel_LrubKernelIdeal : Prop :=
  True

def Claim : Prop :=
  ∃ (hLnKernel : Cert.LnKernel.Facts) (hLnKernelIdeal : Cert.LnKernelIdeal.Facts) (hLnReferenceIdeal : Cert.LnReferenceIdeal.Facts) (hScKernel : Cert.ScKernel.Facts) (hScKernelIdeal : Cert.ScKernelIdeal.Facts) (hScReferenceIdeal : Cert.ScReferenceIdeal.Facts) (hFfnKernel : Cert.FfnKernel.Facts) (hFfnKernelIdeal : Cert.FfnKernelIdeal.Facts) (hFfnReferenceIdeal : Cert.FfnReferenceIdeal.Facts) (hUpKernel : Cert.UpKernel.Facts) (hUpKernelIdeal : Cert.UpKernelIdeal.Facts) (hUpReferenceIdeal : Cert.UpReferenceIdeal.Facts) (hMixrKernel : Cert.MixrKernel.Facts) (hMixrKernelIdeal : Cert.MixrKernelIdeal.Facts) (hMixrReferenceIdeal : Cert.MixrReferenceIdeal.Facts) (hMixcKernel : Cert.MixcKernel.Facts) (hMixcKernelIdeal : Cert.MixcKernelIdeal.Facts) (hMixcReferenceIdeal : Cert.MixcReferenceIdeal.Facts) (hLhKernel : Cert.LhKernel.Facts) (hLhKernelIdeal : Cert.LhKernelIdeal.Facts) (hLhReferenceIdeal : Cert.LhReferenceIdeal.Facts) (hOutaKernel : Cert.OutaKernel.Facts) (hOutaKernelIdeal : Cert.OutaKernelIdeal.Facts) (hOutaReferenceIdeal : Cert.OutaReferenceIdeal.Facts) (hOutcKernel : Cert.OutcKernel.Facts) (hOutcKernelIdeal : Cert.OutcKernelIdeal.Facts) (hOutcReferenceIdeal : Cert.OutcReferenceIdeal.Facts) (hOutrKernel : Cert.OutrKernel.Facts) (hOutrKernelIdeal : Cert.OutrKernelIdeal.Facts) (hOutrReferenceIdeal : Cert.OutrReferenceIdeal.Facts) (hDownKernel : Cert.DownKernel.Facts) (hDownKernelIdeal : Cert.DownKernelIdeal.Facts) (hDownReferenceIdeal : Cert.DownReferenceIdeal.Facts) (hScfKernel : Cert.ScfKernel.Facts) (hScfKernelIdeal : Cert.ScfKernelIdeal.Facts) (hScfReferenceIdeal : Cert.ScfReferenceIdeal.Facts) (hFupKernel : Cert.FupKernel.Facts) (hFupKernelIdeal : Cert.FupKernelIdeal.Facts) (hFupReferenceIdeal : Cert.FupReferenceIdeal.Facts) (hLrufKernel : Cert.LrufKernel.Facts) (hLrufKernelIdeal : Cert.LrufKernelIdeal.Facts) (hMmKernel : Cert.MmKernel.Facts) (hMmKernelIdeal : Cert.MmKernelIdeal.Facts) (hMmReferenceIdeal : Cert.MmReferenceIdeal.Facts) (hMmtnKernel : Cert.MmtnKernel.Facts) (hMmtnKernelIdeal : Cert.MmtnKernelIdeal.Facts) (hMmtnReferenceIdeal : Cert.MmtnReferenceIdeal.Facts) (hAdamKernel : Cert.AdamKernel.Facts) (hAdamKernelIdeal : Cert.AdamKernelIdeal.Facts) (hAdamReferenceIdeal : Cert.AdamReferenceIdeal.Facts) (hCastKernel : Cert.CastKernel.Facts) (hCastKernelIdeal : Cert.CastKernelIdeal.Facts) (hCastReferenceIdeal : Cert.CastReferenceIdeal.Facts) (hLrubKernel : Cert.LrubKernel.Facts) (hLrubKernelIdeal : Cert.LrubKernelIdeal.Facts) (hPre_finite_ln : Cert.Pre_finite_ln.Facts) (hPre_finite_ffn : Cert.Pre_finite_ffn.Facts) (hPre_finite_up : Cert.Pre_finite_up.Facts) (hPre_finite_mixr : Cert.Pre_finite_mixr.Facts) (hPre_finite_mixc : Cert.Pre_finite_mixc.Facts),
    quiescent_LnKernel (hLnKernel := hLnKernel)
    ∧ quiescent_LnKernelIdeal (hLnKernelIdeal := hLnKernelIdeal)
    ∧ quiescent_LnKernelIdeal_pre_finite_ln (hLnKernelIdeal := hLnKernelIdeal) (hPre_finite_ln := hPre_finite_ln)
    ∧ quiescent_LnReferenceIdeal (hLnReferenceIdeal := hLnReferenceIdeal)
    ∧ quiescent_LnReferenceIdeal_pre_finite_ln (hLnReferenceIdeal := hLnReferenceIdeal) (hPre_finite_ln := hPre_finite_ln)
    ∧ quiescent_ScKernel (hScKernel := hScKernel)
    ∧ quiescent_ScKernelIdeal (hScKernelIdeal := hScKernelIdeal)
    ∧ quiescent_ScReferenceIdeal (hScReferenceIdeal := hScReferenceIdeal)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_UpKernel (hUpKernel := hUpKernel)
    ∧ quiescent_UpKernelIdeal (hUpKernelIdeal := hUpKernelIdeal)
    ∧ quiescent_UpKernelIdeal_pre_finite_up (hUpKernelIdeal := hUpKernelIdeal) (hPre_finite_up := hPre_finite_up)
    ∧ quiescent_UpReferenceIdeal (hUpReferenceIdeal := hUpReferenceIdeal)
    ∧ quiescent_UpReferenceIdeal_pre_finite_up (hUpReferenceIdeal := hUpReferenceIdeal) (hPre_finite_up := hPre_finite_up)
    ∧ quiescent_MixrKernel (hMixrKernel := hMixrKernel)
    ∧ quiescent_MixrKernelIdeal (hMixrKernelIdeal := hMixrKernelIdeal)
    ∧ quiescent_MixrKernelIdeal_pre_finite_mixr (hMixrKernelIdeal := hMixrKernelIdeal) (hPre_finite_mixr := hPre_finite_mixr)
    ∧ quiescent_MixrReferenceIdeal (hMixrReferenceIdeal := hMixrReferenceIdeal)
    ∧ quiescent_MixrReferenceIdeal_pre_finite_mixr (hMixrReferenceIdeal := hMixrReferenceIdeal) (hPre_finite_mixr := hPre_finite_mixr)
    ∧ quiescent_MixcKernel (hMixcKernel := hMixcKernel)
    ∧ quiescent_MixcKernelIdeal (hMixcKernelIdeal := hMixcKernelIdeal)
    ∧ quiescent_MixcKernelIdeal_pre_finite_mixc (hMixcKernelIdeal := hMixcKernelIdeal) (hPre_finite_mixc := hPre_finite_mixc)
    ∧ quiescent_MixcReferenceIdeal (hMixcReferenceIdeal := hMixcReferenceIdeal)
    ∧ quiescent_MixcReferenceIdeal_pre_finite_mixc (hMixcReferenceIdeal := hMixcReferenceIdeal) (hPre_finite_mixc := hPre_finite_mixc)
    ∧ quiescent_LhKernel (hLhKernel := hLhKernel)
    ∧ quiescent_LhKernelIdeal (hLhKernelIdeal := hLhKernelIdeal)
    ∧ quiescent_LhReferenceIdeal (hLhReferenceIdeal := hLhReferenceIdeal)
    ∧ quiescent_OutaKernel (hOutaKernel := hOutaKernel)
    ∧ quiescent_OutaKernelIdeal (hOutaKernelIdeal := hOutaKernelIdeal)
    ∧ quiescent_OutaReferenceIdeal (hOutaReferenceIdeal := hOutaReferenceIdeal)
    ∧ quiescent_OutcKernel (hOutcKernel := hOutcKernel)
    ∧ quiescent_OutcKernelIdeal (hOutcKernelIdeal := hOutcKernelIdeal)
    ∧ quiescent_OutcReferenceIdeal (hOutcReferenceIdeal := hOutcReferenceIdeal)
    ∧ quiescent_OutrKernel (hOutrKernel := hOutrKernel)
    ∧ quiescent_OutrKernelIdeal (hOutrKernelIdeal := hOutrKernelIdeal)
    ∧ quiescent_OutrReferenceIdeal (hOutrReferenceIdeal := hOutrReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ScfKernel (hScfKernel := hScfKernel)
    ∧ quiescent_ScfKernelIdeal (hScfKernelIdeal := hScfKernelIdeal)
    ∧ quiescent_ScfReferenceIdeal (hScfReferenceIdeal := hScfReferenceIdeal)
    ∧ quiescent_FupKernel (hFupKernel := hFupKernel)
    ∧ quiescent_FupKernelIdeal (hFupKernelIdeal := hFupKernelIdeal)
    ∧ quiescent_FupReferenceIdeal (hFupReferenceIdeal := hFupReferenceIdeal)
    ∧ quiescent_LrufKernel (hLrufKernel := hLrufKernel)
    ∧ quiescent_LrufKernelIdeal (hLrufKernelIdeal := hLrufKernelIdeal)
    ∧ quiescent_MmKernel (hMmKernel := hMmKernel)
    ∧ quiescent_MmKernelIdeal (hMmKernelIdeal := hMmKernelIdeal)
    ∧ quiescent_MmReferenceIdeal (hMmReferenceIdeal := hMmReferenceIdeal)
    ∧ quiescent_MmtnKernel (hMmtnKernel := hMmtnKernel)
    ∧ quiescent_MmtnKernelIdeal (hMmtnKernelIdeal := hMmtnKernelIdeal)
    ∧ quiescent_MmtnReferenceIdeal (hMmtnReferenceIdeal := hMmtnReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_CastKernel (hCastKernel := hCastKernel)
    ∧ quiescent_CastKernelIdeal (hCastKernelIdeal := hCastKernelIdeal)
    ∧ quiescent_CastReferenceIdeal (hCastReferenceIdeal := hCastReferenceIdeal)
    ∧ quiescent_LrubKernel (hLrubKernel := hLrubKernel)
    ∧ quiescent_LrubKernelIdeal (hLrubKernelIdeal := hLrubKernelIdeal)
    ∧ preserves_LnKernel_LnKernelIdeal
    ∧ algebraic_LnKernelIdeal_LnReferenceIdeal_pre_finite_ln (hLnKernelIdeal := hLnKernelIdeal) (hLnReferenceIdeal := hLnReferenceIdeal) (hPre_finite_ln := hPre_finite_ln)
    ∧ preserves_ScKernel_ScKernelIdeal
    ∧ algebraic_ScKernelIdeal_ScReferenceIdeal (hScKernelIdeal := hScKernelIdeal) (hScReferenceIdeal := hScReferenceIdeal)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_UpKernel_UpKernelIdeal
    ∧ algebraic_UpKernelIdeal_UpReferenceIdeal_pre_finite_up (hUpKernelIdeal := hUpKernelIdeal) (hUpReferenceIdeal := hUpReferenceIdeal) (hPre_finite_up := hPre_finite_up)
    ∧ preserves_MixrKernel_MixrKernelIdeal
    ∧ algebraic_MixrKernelIdeal_MixrReferenceIdeal_pre_finite_mixr (hMixrKernelIdeal := hMixrKernelIdeal) (hMixrReferenceIdeal := hMixrReferenceIdeal) (hPre_finite_mixr := hPre_finite_mixr)
    ∧ preserves_MixcKernel_MixcKernelIdeal
    ∧ algebraic_MixcKernelIdeal_MixcReferenceIdeal_pre_finite_mixc (hMixcKernelIdeal := hMixcKernelIdeal) (hMixcReferenceIdeal := hMixcReferenceIdeal) (hPre_finite_mixc := hPre_finite_mixc)
    ∧ preserves_LhKernel_LhKernelIdeal
    ∧ algebraic_LhKernelIdeal_LhReferenceIdeal (hLhKernelIdeal := hLhKernelIdeal) (hLhReferenceIdeal := hLhReferenceIdeal)
    ∧ preserves_OutaKernel_OutaKernelIdeal
    ∧ algebraic_OutaKernelIdeal_OutaReferenceIdeal (hOutaKernelIdeal := hOutaKernelIdeal) (hOutaReferenceIdeal := hOutaReferenceIdeal)
    ∧ preserves_OutcKernel_OutcKernelIdeal
    ∧ algebraic_OutcKernelIdeal_OutcReferenceIdeal (hOutcKernelIdeal := hOutcKernelIdeal) (hOutcReferenceIdeal := hOutcReferenceIdeal)
    ∧ preserves_OutrKernel_OutrKernelIdeal
    ∧ algebraic_OutrKernelIdeal_OutrReferenceIdeal (hOutrKernelIdeal := hOutrKernelIdeal) (hOutrReferenceIdeal := hOutrReferenceIdeal)
    ∧ preserves_DownKernel_DownKernelIdeal
    ∧ algebraic_DownKernelIdeal_DownReferenceIdeal (hDownKernelIdeal := hDownKernelIdeal) (hDownReferenceIdeal := hDownReferenceIdeal)
    ∧ preserves_ScfKernel_ScfKernelIdeal
    ∧ algebraic_ScfKernelIdeal_ScfReferenceIdeal (hScfKernelIdeal := hScfKernelIdeal) (hScfReferenceIdeal := hScfReferenceIdeal)
    ∧ preserves_FupKernel_FupKernelIdeal
    ∧ algebraic_FupKernelIdeal_FupReferenceIdeal (hFupKernelIdeal := hFupKernelIdeal) (hFupReferenceIdeal := hFupReferenceIdeal)
    ∧ preserves_LrufKernel_LrufKernelIdeal
    ∧ preserves_MmKernel_MmKernelIdeal
    ∧ algebraic_MmKernelIdeal_MmReferenceIdeal (hMmKernelIdeal := hMmKernelIdeal) (hMmReferenceIdeal := hMmReferenceIdeal)
    ∧ preserves_MmtnKernel_MmtnKernelIdeal
    ∧ algebraic_MmtnKernelIdeal_MmtnReferenceIdeal (hMmtnKernelIdeal := hMmtnKernelIdeal) (hMmtnReferenceIdeal := hMmtnReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_CastKernel_CastKernelIdeal
    ∧ algebraic_CastKernelIdeal_CastReferenceIdeal (hCastKernelIdeal := hCastKernelIdeal) (hCastReferenceIdeal := hCastReferenceIdeal)
    ∧ preserves_LrubKernel_LrubKernelIdeal
-- ==== Pre_finite_ffn.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S_ : Shape := ⟨0, ![]⟩

class Facts : Prop where
  bcast_S_S4x2048x5632 : S_.BroadcastsInDim S4x2048x5632 (![] : Fin 0 → Fin S4x2048x5632.rank)
  reducesTo_S4x2048x5632_S_d0_1_2 : S4x2048x5632.ReducesTo [0, 1, 2] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg4 : FVec F S4x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  main_v23

def fn {F : FTy → Type} [FloatOps F] (main_arg0 : FVec F S4x2048x5632 .f32) (main_arg1 : FVec F S3x5632 .f32) (main_arg2 : FVec F S5632 .f32) (main_arg3 : FVec F S2816x1024 .f32) (main_arg4 : FVec F S4x2048x1024 .f32) : IVec S_ 1 :=
  let main_v0 : FVec F S4x2048x5632 .f32 := Host.absf main_arg0
  let main_cst : FVec F S_ .f32 := constant S_ .f32 0x7F800000#32
  let main_v1 : FVec F S4x2048x5632 .f32 := broadcastInDim S4x2048x5632 ![] bcast_S_S4x2048x5632 main_cst
  let main_v2 : IVec S4x2048x5632 1 := cmpf .olt main_v0 main_v1
  let main_c : IVec S_ 1 := constantI S_ 1 1#1
  let main_v3 : IVec S_ 1 := (fun x v => Host.reduce IntOp.andi x v reducesTo_S4x2048x5632_S_d0_1_2 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_ln.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_mixc.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_arg5 : FVec F S8192x1024 .f32) (main_v13 : IVec S_ 1) (main_v16 : IVec S8192x3072 1) : IVec S_ 1 :=
  let main_c_5 : IVec S_ 1 := constantI S_ 1 1#1
  let main_v17 : IVec S_ 1 := (fun x v => Host.reduce IntOp.andi x v reducesTo_S8192x3072_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024 .f32) (main_arg3 : FVec F S1024x3072 .f32) (main_arg4 : FVec F S8192x3072 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg3
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S8192x3072 .f32 := Host.absf main_arg4
  let main_cst_4 : FVec F S_ .f32 := constant S_ .f32 0x7F800000#32
  let main_v15 : FVec F S8192x3072 .f32 := broadcastInDim S8192x3072 ![] bcast_S_S8192x3072 main_cst_4
  let main_v16 : IVec S8192x3072 1 := cmpf .olt main_v14 main_v15
  fn_part1 (F := F) main_arg5 main_v13 main_v16
-- ==== Pre_finite_mixr.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S8192x2560 : S_.BroadcastsInDim S8192x2560 (![] : Fin 0 → Fin S8192x2560.rank)
  reducesTo_S8192x2560_S_d0_1 : S8192x2560.ReducesTo [0, 1] S_

variable [Facts]

def fn_part1 {F : FTy → Type} [FloatOps F] (main_arg5 : FVec F S8192x1024 .f32) (main_v13 : IVec S_ 1) (main_v16 : IVec S8192x2560 1) : IVec S_ 1 :=
  let main_c_5 : IVec S_ 1 := constantI S_ 1 1#1
  let main_v17 : IVec S_ 1 := (fun x v => Host.reduce IntOp.andi x v reducesTo_S8192x2560_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024 .f32) (main_arg3 : FVec F S1024x2560 .f32) (main_arg4 : FVec F S8192x2560 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2560 .f32 := Host.absf main_arg3
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S8192x2560 .f32 := Host.absf main_arg4
  let main_cst_4 : FVec F S_ .f32 := constant S_ .f32 0x7F800000#32
  let main_v15 : FVec F S8192x2560 .f32 := broadcastInDim S8192x2560 ![] bcast_S_S8192x2560 main_cst_4
  let main_v16 : IVec S8192x2560 1 := cmpf .olt main_v14 main_v15
  fn_part1 (F := F) main_arg5 main_v13 main_v16
-- ==== Pre_finite_up.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg5 : FVec F S8192x1024 .f32) (main_v13 : IVec S_ 1) (main_v16 : IVec S8192x5632 1) : IVec S_ 1 :=
  let main_c_5 : IVec S_ 1 := constantI S_ 1 1#1
  let main_v17 : IVec S_ 1 := (fun x v => Host.reduce IntOp.andi x v reducesTo_S8192x5632_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024 .f32) (main_arg3 : FVec F S1024x5632 .f32) (main_arg4 : FVec F S8192x5632 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S8192x5632 .f32 := Host.absf main_arg4
  let main_cst_4 : FVec F S_ .f32 := constant S_ .f32 0x7F800000#32
  let main_v15 : FVec F S8192x5632 .f32 := broadcastInDim S8192x5632 ![] bcast_S_S8192x5632 main_cst_4
  let main_v16 : IVec S8192x5632 1 := cmpf .olt main_v14 main_v15
  fn_part1 (F := F) main_arg5 main_v13 main_v16
-- ==== LnKernel.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== ScKernel.lean ====
abbrev S4x2048x3072 : Shape := ⟨3, ![4, 2048, 3072]⟩
abbrev S3x1024 : Shape := ⟨2, ![3, 1024]⟩
abbrev S1024 : Shape := ⟨1, ![1024]⟩
abbrev S4x2048x1024 : Shape := ⟨3, ![4, 2048, 1024]⟩
abbrev S1x1024 : Shape := ⟨2, ![1, 1024]⟩
abbrev S1x2048x256 : Shape := ⟨3, ![1, 2048, 256]⟩
abbrev S3x256 : Shape := ⟨2, ![3, 256]⟩
abbrev S1x256 : Shape := ⟨2, ![1, 256]⟩
abbrev S3x2048x256 : Shape := ⟨3, ![3, 2048, 256]⟩
abbrev S1x2048x128 : Shape := ⟨3, ![1, 2048, 128]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩
abbrev S2048x256 : Shape := ⟨2, ![2048, 256]⟩

abbrev nBuf : Space → Nat
  | .hbm => 8
  | .vmem => 19
  | .smem => 0
  | _ => 0

abbrev bufTy : (tb : Table) → Fin (tcTables nBuf tb) → BufTy
  | .hbm, ⟨0, _⟩ => ⟨S4x2048x3072, .f32⟩
  | .hbm, ⟨1, _⟩ => ⟨S3x1024, .f32⟩
  | .hbm, ⟨2, _⟩ => ⟨S1024, .f32⟩
  | .hbm, ⟨3, _⟩ => ⟨S4x2048x1024, .f32⟩
  | .hbm, ⟨4, _⟩ => ⟨S1x1024, .f32⟩
  | .hbm, ⟨5, _⟩ => ⟨S4x2048x3072, .bf16⟩
  | .hbm, ⟨6, _⟩ => ⟨S3x1024, .f32⟩
  | .hbm, ⟨7, _⟩ => ⟨S1x1024, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S3x2048x256, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 3], ![false, false, false]⟩

def k0_off1 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_38 : BitVec 32 := 0#32
  let v94 : BitVec 1 := Scalar.cmpi .eq arg1 c0_i32_38
  let v97 : BitVec 32 := Scalar.extui v94
  let c0_i32_40 : BitVec 32 := 0#32
  let v98 : BitVec 1 := Scalar.cmpi .ne v97 c0_i32_40
  v98

def k0_cond3 (i : grid0.Coords) : BitVec 1 :=
  let arg1 : BitVec 32 := BitVec.ofNat 32 (i 1).val
  let c0_i32_38 : BitVec 32 := 0#32
  let v94 : BitVec 1 := Scalar.cmpi .eq arg1 c0_i32_38
  let v_true : BitVec 1 := 1#1
  let v99 : BitVec 1 := Scalar.xori v94 v_true
  let v100 : BitVec 32 := Scalar.extui v99
  let c0_i32_41 : BitVec 32 := 0#32
  let v101 : BitVec 1 := Scalar.cmpi .ne v100 c0_i32_41
  v101

def k0_cond4 (i : grid0.Coords) : BitVec 1 :=
  let arg1 : BitVec 32 := BitVec.ofNat 32 (i 1).val
  let c0_i32_81 : BitVec 32 := 0#32
  let v187 : BitVec 1 := Scalar.cmpi .eq arg1 c0_i32_81
  let v190 : BitVec 32 := Scalar.extui v187
  let c0_i32_83 : BitVec 32 := 0#32
  let v191 : BitVec 1 := Scalar.cmpi .ne v190 c0_i32_83
  v191

def k0_cond5 (i : grid0.Coords) : BitVec 1 :=
  let arg1 : BitVec 32 := BitVec.ofNat 32 (i 1).val
  let c0_i32_81 : BitVec 32 := 0#32
  let v187 : BitVec 1 := Scalar.cmpi .eq arg1 c0_i32_81
  let true_84 : BitVec 1 := 1#1
  let v192 : BitVec 1 := Scalar.xori v187 true_84
  let v193 : BitVec 32 := Scalar.extui v192
  let c0_i32_85 : BitVec 32 := 0#32
  let v194 : BitVec 1 := Scalar.cmpi .ne v193 c0_i32_85
  v194

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c4_i32_11 : BitVec 32 := 4#32
  let v31 : BitVec 32 := Scalar.addi c4_i32_11 v20
  let c0_i32_12 : BitVec 32 := 0#32
  let c0_i32_13 : BitVec 32 := 0#32
  ![v30.toNat, c0_i32_12.toNat, v31.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c8_i32 : BitVec 32 := 8#32
  let v31 : BitVec 32 := Scalar.addi c8_i32 v20
  let c0_i32_11 : BitVec 32 := 0#32
  let c0_i32_12 : BitVec 32 := 0#32
  ![v30.toNat, c0_i32_11.toNat, v31.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c3_i32 : BitVec 32 := 3#32
  let v20 : BitVec 32 := Scalar.minsi v19 c3_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![arg1.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ScReferenceIdeal.lean ====
abbrev S4x2048x3072 : Shape := ⟨3, ![4, 2048, 3072]⟩
abbrev S3x1024 : Shape := ⟨2, ![3, 1024]⟩
abbrev S1024 : Shape := ⟨1, ![1024]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S3x1024, .f32⟩
  | .hbm, ⟨2, _⟩ => ⟨S1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2x1024, .f32⟩
  | .hbm, ⟨10, _⟩ => ⟨S4x2050x1024, .f32⟩
  | .hbm, ⟨11, _⟩ => ⟨S_, .f32⟩
  | .hbm, ⟨12, _⟩ => ⟨S4x2x1024, .f32⟩
  | .hbm, ⟨13, _⟩ => ⟨S4x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S_, .f32⟩
  | .hbm, ⟨51, _⟩ => ⟨S4x2050x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S_, .f32⟩
  | .hbm, ⟨65, _⟩ => ⟨S4x2050x1024, .f32⟩
  | .hbm, ⟨66, _⟩ => ⟨S4x2050x1024, .f32⟩
  | .hbm, ⟨67, _⟩ => ⟨S_, .f32⟩
  | .hbm, ⟨68, _⟩ => ⟨S1024, .f32⟩
  | .hbm, ⟨69, _⟩ => ⟨S1x1x1024, .f32⟩
  | .hbm, ⟨70, _⟩ => ⟨S_, .f32⟩
  | .hbm, ⟨71, _⟩ => ⟨S1024, .f32⟩
  | .hbm, ⟨72, _⟩ => ⟨S4x2048x1024, .f32⟩
  | .hbm, ⟨73, _⟩ => ⟨S_, .f32⟩
  | .hbm, ⟨74, _⟩ => ⟨S1024, .f32⟩
  | .hbm, ⟨75, _⟩ => ⟨S1x1x1024, .f32⟩
  | .hbm, ⟨76, _⟩ => ⟨S4x2048x1024, .f32⟩
  | .hbm, ⟨77, _⟩ => ⟨S4x2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S_, .f32⟩
  | .hbm, ⟨85, _⟩ => ⟨S4x2050x1024, .f32⟩
  | .hbm, ⟨86, _⟩ => ⟨S4x2050x1024, .f32⟩
  | .hbm, ⟨87, _⟩ => ⟨S4x2x1024, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S4x2048x3072, .f32⟩
  | .hbm, ⟨92, _⟩ => ⟨S4x2048x3072, .bf16⟩
  | .hbm, ⟨93, _⟩ => ⟨S1x1024, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== FfnKernel.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S4x2048x2816 : Shape := ⟨3, ![4, 2048, 2816]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S3x2816 : Shape := ⟨2, ![3, 2816]⟩
abbrev S1x2816 : Shape := ⟨2, ![1, 2816]⟩
abbrev S1x2048x256 : Shape := ⟨3, ![1, 2048, 256]⟩
abbrev S1x2048x1024 : Shape := ⟨3, ![1, 2048, 1024]⟩
abbrev S3x256 : Shape := ⟨2, ![3, 256]⟩
abbrev S2048x1024 : Shape := ⟨2, ![2048, 1024]⟩
abbrev S256x1024 : Shape := ⟨2, ![256, 1024]⟩
abbrev S2048x256 : Shape := ⟨2, ![2048, 256]⟩
abbrev S1x2048x128 : Shape := ⟨3, ![1, 2048, 128]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 43
  | .vmem => 23
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2x5632, .f32⟩
  | .hbm, ⟨9, _⟩ => ⟨S4x2050x5632, .f32⟩
  | .hbm, ⟨10, _⟩ => ⟨S4x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S4x2048x5632, .f32⟩
  | .hbm, ⟨15, _⟩ => ⟨S4x2048x5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S4x2048x2816, .f32⟩
  | .hbm, ⟨34, _⟩ => ⟨S4x2048x2816, .f32⟩
  | .hbm, ⟨35, _⟩ => ⟨S4x2048x1024, .bf16⟩
  | .hbm, ⟨36, _⟩ => ⟨S2816x1024, .bf16⟩
  | .hbm, ⟨37, _⟩ => ⟨S4x2048x2816, .bf16⟩
  | .hbm, ⟨38, _⟩ => ⟨S4x2048x2816, .bf16⟩
  | .hbm, ⟨39, _⟩ => ⟨S3x2816, .f32⟩
  | .hbm, ⟨40, _⟩ => ⟨S3x2816, .f32⟩
  | .hbm, ⟨41, _⟩ => ⟨S1x2816, .f32⟩
  | .hbm, ⟨42, _⟩ => ⟨S1x2816, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2816x1024, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x2048x256, .bf16⟩
  | .local _ .vmem, ⟨19, _⟩ => ⟨S3x2816, .f32⟩
  | .local _ .vmem, ⟨20, _⟩ => ⟨S3x2816, .f32⟩
  | .local _ .vmem, ⟨21, _⟩ => ⟨S1x2816, .f32⟩
  | .local _ .vmem, ⟨22, _⟩ => ⟨S1x2816, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev main_v31_4 : Ref sig .tc := ⟨.hbm, 41, rfl⟩
abbrev main_v31_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_2 : Index := 0#32
  ![v4.toNat, 0]
def k0_mult2 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  v113
def k0_cond1 (i : grid0.Coords) : BitVec 1 :=
  let arg0 : BitVec 32 := BitVec.ofNat 32 (i 0).val
  let c0_i32 : BitVec 32 := 0#32
  let v108 : BitVec 1 := Scalar.cmpi .eq arg0 c0_i32
  let v115 : BitVec 32 := Scalar.extui v108
  let c0_i32_49 : BitVec 32 := 0#32
  let v116 : BitVec 1 := Scalar.cmpi .ne v115 c0_i32_49
  v116

def k0_off2 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v232 : Index := Scalar.indexCast v114
  ![0, v232.toNat]
def k0_off3 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v234 : Index := Scalar.indexCast v114
  ![1, v234.toNat]
def k0_off4 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v236 : Index := Scalar.indexCast v114
  ![2, v236.toNat]
def k0_off5 (i : grid0.Coords) : Fin 2 → Nat :=
  let c0_105 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v244 : Index := Scalar.indexCast v114
  ![0, v244.toNat]
def k0_cond2 (i : grid0.Coords) : BitVec 1 :=
  let arg0 : BitVec 32 := BitVec.ofNat 32 (i 0).val
  let c0_i32 : BitVec 32 := 0#32
  let v108 : BitVec 1 := Scalar.cmpi .eq arg0 c0_i32
  let v_true : BitVec 1 := 1#1
  let v117 : BitVec 1 := Scalar.xori v108 v_true
  let v118 : BitVec 32 := Scalar.extui v117
  let c0_i32_50 : BitVec 32 := 0#32
  let v119 : BitVec 1 := Scalar.cmpi .ne v118 c0_i32_50
  v119

def k0_off6 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v232 : Index := Scalar.indexCast v114
  ![0, v232.toNat]
def k0_off7 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v238 : Index := Scalar.indexCast v114
  ![1, v238.toNat]
def k0_off8 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v244 : Index := Scalar.indexCast v114
  ![2, v244.toNat]
def k0_off9 (i : grid0.Coords) : Fin 2 → Nat :=
  let c0_111 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v113 : BitVec 32 := Scalar.addi v1 c0_i32_48
  let v114 : BitVec 32 := v113
  let v268 : Index := Scalar.indexCast v114
  ![0, v268.toNat]
def k0_mult3 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  v225
def k0_cond3 (i : grid0.Coords) : BitVec 1 :=
  let arg0 : BitVec 32 := BitVec.ofNat 32 (i 0).val
  let c0_i32_95 : BitVec 32 := 0#32
  let v220 : BitVec 1 := Scalar.cmpi .eq arg0 c0_i32_95
  let v227 : BitVec 32 := Scalar.extui v220
  let c0_i32_98 : BitVec 32 := 0#32
  let v228 : BitVec 1 := Scalar.cmpi .ne v227 c0_i32_98
  v228

def k0_off10 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v232 : Index := Scalar.indexCast v226
  ![0, v232.toNat]
def k0_off11 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v234 : Index := Scalar.indexCast v226
  ![1, v234.toNat]
def k0_off12 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v236 : Index := Scalar.indexCast v226
  ![2, v236.toNat]
def k0_off13 (i : grid0.Coords) : Fin 2 → Nat :=
  let c0_105 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v244 : Index := Scalar.indexCast v226
  ![0, v244.toNat]
def k0_cond4 (i : grid0.Coords) : BitVec 1 :=
  let arg0 : BitVec 32 := BitVec.ofNat 32 (i 0).val
  let c0_i32_95 : BitVec 32 := 0#32
  let v220 : BitVec 1 := Scalar.cmpi .eq arg0 c0_i32_95
  let true_99 : BitVec 1 := 1#1
  let v229 : BitVec 1 := Scalar.xori v220 true_99
  let v230 : BitVec 32 := Scalar.extui v229
  let c0_i32_100 : BitVec 32 := 0#32
  let v231 : BitVec 1 := Scalar.cmpi .ne v230 c0_i32_100
  v231

def k0_off14 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v232 : Index := Scalar.indexCast v226
  ![0, v232.toNat]
def k0_off15 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v238 : Index := Scalar.indexCast v226
  ![1, v238.toNat]
def k0_off16 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v244 : Index := Scalar.indexCast v226
  ![2, v244.toNat]
def k0_off17 (i : grid0.Coords) : Fin 2 → Nat :=
  let c0_111 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v225 : BitVec 32 := Scalar.addi v1 c128_i32
  let v226 : BitVec 32 := v225
  let v268 : Index := Scalar.indexCast v226
  ![0, v268.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnReferenceIdeal.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S1024x2816 : Shape := ⟨2, ![1024, 2816]⟩
abbrev S3x2816 : Shape := ⟨2, ![3, 2816]⟩
abbrev S1x2816 : Shape := ⟨2, ![1, 2816]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S_, .f32⟩
  | .hbm, ⟨6, _⟩ => ⟨S4x2x5632, .f32⟩
  | .hbm, ⟨7, _⟩ => ⟨S4x2050x5632, .f32⟩
  | .hbm, ⟨8, _⟩ => ⟨S_, .f32⟩
  | .hbm, ⟨9, _⟩ => ⟨S4x2x5632, .f32⟩
  | .hbm, ⟨10, _⟩ => ⟨S4x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S4x2048x5632, .f32⟩
  | .hbm, ⟨15, _⟩ => ⟨S4x2048x5632, .f32⟩
  | .hbm, ⟨16, _⟩ => ⟨S1x1x5632, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x1024, .f32⟩
  | .hbm, ⟨50, _⟩ => ⟨S1024x2816, .f32⟩
  | .hbm, ⟨51, _⟩ => ⟨S2816x1024, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S5632, .f32⟩
  | .hbm, ⟨63, _⟩ => ⟨S1x1x5632, .f32⟩
  | .hbm, ⟨64, _⟩ => ⟨S4x2048x5632, .f32⟩
  | .hbm, ⟨65, _⟩ => ⟨S4x2048x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S_, .f32⟩
  | .hbm, ⟨72, _⟩ => ⟨S4x2050x5632, .f32⟩
  | .hbm, ⟨73, _⟩ => ⟨S4x2048x5632, .f32⟩
  | .hbm, ⟨74, _⟩ => ⟨S_, .f32⟩
  | .hbm, ⟨75, _⟩ => ⟨S5632, .f32⟩
  | .hbm, ⟨76, _⟩ => ⟨S1x1x5632, .f32⟩
  | .hbm, ⟨77, _⟩ => ⟨S4x2048x5632, .f32⟩
  | .hbm, ⟨78, _⟩ => ⟨S4x2048x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S4x2050x5632, .f32⟩
  | .hbm, ⟨87, _⟩ => ⟨S4x2050x5632, .f32⟩
  | .hbm, ⟨88, _⟩ => ⟨S_, .f32⟩
  | .hbm, ⟨89, _⟩ => ⟨S5632, .f32⟩
  | .hbm, ⟨90, _⟩ => ⟨S1x1x5632, .f32⟩
  | .hbm, ⟨91, _⟩ => ⟨S_, .f32⟩
  | .hbm, ⟨92, _⟩ => ⟨S5632, .f32⟩
  | .hbm, ⟨93, _⟩ => ⟨S4x2048x5632, .f32⟩
  | .hbm, ⟨94, _⟩ => ⟨S_, .f32⟩
  | .hbm, ⟨95, _⟩ => ⟨S5632, .f32⟩
  | .hbm, ⟨96, _⟩ => ⟨S1x1x5632, .f32⟩
  | .hbm, ⟨97, _⟩ => ⟨S4x2048x5632, .f32⟩
  | .hbm, ⟨98, _⟩ => ⟨S4x2048x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S3x5632, .f32⟩
  | .hbm, ⟨104, _⟩ => ⟨S3x5632, .f32⟩
  | .hbm, ⟨105, _⟩ => ⟨S_, .f32⟩
  | .hbm, ⟨106, _⟩ => ⟨S4x2050x5632, .f32⟩
  | .hbm, ⟨107, _⟩ => ⟨S4x2050x5632, .f32⟩
  | .hbm, ⟨108, _⟩ => ⟨S4x2x5632, .f32⟩
  | .hbm, ⟨109, _⟩ => ⟨S4x2048x5632, .f32⟩
  | .hbm, ⟨110, _⟩ => ⟨S4x2048x2816, .f32⟩
  | .hbm, ⟨111, _⟩ => ⟨S4x2048x2816, .f32⟩
  | .hbm, ⟨112, _⟩ => ⟨S4x2048x2816, .bf16⟩
  | .hbm, ⟨113, _⟩ => ⟨S4x2048x2816, .bf16⟩
  | .hbm, ⟨114, _⟩ => ⟨S3x2816, .f32⟩
  | .hbm, ⟨115, _⟩ => ⟨S3x2816, .f32⟩
  | .hbm, ⟨116, _⟩ => ⟨S1x5632, .f32⟩
  | .hbm, ⟨117, _⟩ => ⟨S1x2816, .f32⟩
  | .hbm, ⟨118, _⟩ => ⟨S1x2816, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== UpKernel.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S8192x2816 : Shape := ⟨2, ![8192, 2816]⟩
abbrev S5632x1024 : Shape := ⟨2, ![5632, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8192x5632, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S5632x1024, .f32⟩
  | .hbm, ⟨11, _⟩ => ⟨S5632x1024, .bf16⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S1x1024, .f32⟩
  | .hbm, ⟨16, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== UpReferenceIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x5632, .f32⟩
  | .hbm, ⟨46, _⟩ => ⟨S5632x1024, .f32⟩
  | .hbm, ⟨47, _⟩ => ⟨S1024x5632, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== MixrKernel.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S2560x1024 : Shape := ⟨2, ![2560, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S8192x2560, .f32⟩
  | .hbm, ⟨5, _⟩ => ⟨S8192x1024, .f32⟩
  | .hbm, ⟨6, _⟩ => ⟨S8192x2560, .bf16⟩
  | .hbm, ⟨7, _⟩ => ⟨S2560x1024, .f32⟩
  | .hbm, ⟨8, _⟩ => ⟨S2560x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixrReferenceIdeal.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S8192x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x2560, .f32⟩
  | .hbm, ⟨46, _⟩ => ⟨S2560x1024, .f32⟩
  | .hbm, ⟨47, _⟩ => ⟨S1024x2560, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== MixcKernel.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S8192x3072, .f32⟩
  | .hbm, ⟨5, _⟩ => ⟨S8192x1024, .f32⟩
  | .hbm, ⟨6, _⟩ => ⟨S8192x3072, .bf16⟩
  | .hbm, ⟨7, _⟩ => ⟨S1024x3072, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixcReferenceIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S8192x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x3072, .f32⟩
  | .hbm, ⟨46, _⟩ => ⟨S3072x1024, .f32⟩
  | .hbm, ⟨47, _⟩ => ⟨S1024x3072, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== LhKernel.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LhReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== OutaKernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutaReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OutcKernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutcReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== OutrKernel.lean ====
abbrev S8192x1280 : Shape := ⟨2, ![8192, 1280]⟩
abbrev S1280x1024 : Shape := ⟨2, ![1280, 1024]⟩
abbrev S8192x1024 : Shape := ⟨2, ![8192, 1024]⟩
abbrev S1024 : Shape := ⟨1, ![1024]⟩
abbrev S1x1024 : Shape := ⟨2, ![1, 1024]⟩
abbrev S1024x1280 : Shape := ⟨2, ![1024, 1280]⟩
abbrev S1024x1024 : Shape := ⟨2, ![1024, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1280, .f32⟩
  | .hbm, ⟨1, _⟩ => ⟨S1280x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1280, .bf16⟩
  | .hbm, ⟨8, _⟩ => ⟨S1280x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutrReferenceIdeal.lean ====
abbrev S8192x1280 : Shape := ⟨2, ![8192, 1280]⟩
abbrev S1280x1024 : Shape := ⟨2, ![1280, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S1280x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== DownKernel.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== ScfKernel.lean ====
abbrev S4x2048x3072 : Shape := ⟨3, ![4, 2048, 3072]⟩
abbrev S3x1024 : Shape := ⟨2, ![3, 1024]⟩
abbrev S1024 : Shape := ⟨1, ![1024]⟩
abbrev S1x1024 : Shape := ⟨2, ![1, 1024]⟩
abbrev S4x2048x1024 : Shape := ⟨3, ![4, 2048, 1024]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S4x2048x3072, .f32⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S4x2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ScfReferenceIdeal.lean ====
abbrev S4x2048x3072 : Shape := ⟨3, ![4, 2048, 3072]⟩
abbrev S3x1024 : Shape := ⟨2, ![3, 1024]⟩
abbrev S1024 : Shape := ⟨1, ![1024]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S3x1024, .f32⟩
  | .hbm, ⟨2, _⟩ => ⟨S1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2x1024, .f32⟩
  | .hbm, ⟨9, _⟩ => ⟨S4x2050x1024, .f32⟩
  | .hbm, ⟨10, _⟩ => ⟨S4x2048x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .bf16⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== FupKernel.lean ====
abbrev S4x2048x1024 : Shape := ⟨3, ![4, 2048, 1024]⟩
abbrev S1024x5632 : Shape := ⟨2, ![1024, 5632]⟩
abbrev S3x5632 : Shape := ⟨2, ![3, 5632]⟩
abbrev S5632 : Shape := ⟨1, ![5632]⟩
abbrev S5632x1024 : Shape := ⟨2, ![5632, 1024]⟩
abbrev S1x5632 : Shape := ⟨2, ![1, 5632]⟩
abbrev S4x2048x2816 : Shape := ⟨3, ![4, 2048, 2816]⟩
abbrev S1x2048x1024 : Shape := ⟨3, ![1, 2048, 1024]⟩
abbrev S3x256 : Shape := ⟨2, ![3, 256]⟩
abbrev S1x256 : Shape := ⟨2, ![1, 256]⟩
abbrev S1x2048x256 : Shape := ⟨3, ![1, 2048, 256]⟩
abbrev S2048x1024 : Shape := ⟨2, ![2048, 1024]⟩
abbrev S256x1024 : Shape := ⟨2, ![256, 1024]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩
abbrev S1x2048x128 : Shape := ⟨3, ![1, 2048, 128]⟩

abbrev nBuf : Space → Nat
  | .hbm => 13
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4x2048x1024, .bf16⟩
  | .hbm, ⟨5, _⟩ => ⟨S5632x1024, .f32⟩
  | .hbm, ⟨6, _⟩ => ⟨S5632x1024, .bf16⟩
  | .hbm, ⟨7, _⟩ => ⟨S1x5632, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S4x2048x2816, .f32⟩
  | .hbm, ⟨12, _⟩ => ⟨S4x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S5632x1024, .bf16⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x2048x256, .f32⟩
  | .local _ .vmem, ⟨19, _⟩ => ⟨S1x2048x256, .bf16⟩
  | .local _ .vmem, ⟨20, _⟩ => ⟨S1x2048x256, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_2 : Index := 0#32
  ![v4.toNat, 0]
def k0_off2 (i : grid0.Coords) : Fin 2 → Nat :=
  let c2816_i32 : BitVec 32 := 2816#32
  let arg1 : BitVec 32 := BitVec.ofNat 32 (i 1).val
  let c256_i32 : BitVec 32 := 256#32
  let v0 : BitVec 32 := Scalar.muli arg1 c256_i32
  let v1 : BitVec 32 := v0
  let v8 : BitVec 32 := Scalar.addi c2816_i32 v1
  let v9 : Index := Scalar.indexCast v8
  let c0_3 : Index := 0#32
  ![v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FupReferenceIdeal.lean ====
abbrev S4x2048x1024 : Shape := ⟨3, ![4, 2048, 1024]⟩
abbrev S1024x5632 : Shape := ⟨2, ![1024, 5632]⟩
abbrev S3x5632 : Shape := ⟨2, ![3, 5632]⟩
abbrev S5632 : Shape := ⟨1, ![5632]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4x2048x5632, .f32⟩
  | .hbm, ⟨5, _⟩ => ⟨S_, .f32⟩
  | .hbm, ⟨6, _⟩ => ⟨S4x2x5632, .f32⟩
  | .hbm, ⟨7, _⟩ => ⟨S4x2050x5632, .f32⟩
  | .hbm, ⟨8, _⟩ => ⟨S4x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S4x2048x5632, .f32⟩
  | .hbm, ⟨13, _⟩ => ⟨S4x2048x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S4x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== LrufKernel.lean ====
abbrev S4x2048x2560 : Shape := ⟨3, ![4, 2048, 2560]⟩
abbrev S4x1280 : Shape := ⟨2, ![4, 1280]⟩
abbrev S1280 : Shape := ⟨1, ![1280]⟩
abbrev S10x128x256 : Shape := ⟨3, ![10, 128, 256]⟩
abbrev S10x256 : Shape := ⟨2, ![10, 256]⟩
abbrev S1x1280 : Shape := ⟨2, ![1, 1280]⟩
abbrev S10x1x256 : Shape := ⟨3, ![10, 1, 256]⟩
abbrev S4x2048x1280 : Shape := ⟨3, ![4, 2048, 1280]⟩
abbrev S6x4x2048x1280 : Shape := ⟨4, ![6, 4, 2048, 1280]⟩
abbrev S1x2048x128 : Shape := ⟨3, ![1, 2048, 128]⟩
abbrev S4x128 : Shape := ⟨2, ![4, 128]⟩
abbrev S1x128 : Shape := ⟨2, ![1, 128]⟩
abbrev S1x128x256 : Shape := ⟨3, ![1, 128, 256]⟩
abbrev S1x1x256 : Shape := ⟨3, ![1, 1, 256]⟩
abbrev S6x1x2048x128 : Shape := ⟨4, ![6, 1, 2048, 128]⟩
abbrev S2048x128 : Shape := ⟨2, ![2048, 128]⟩
abbrev S128x256 : Shape := ⟨2, ![128, 256]⟩
abbrev S1x256 : Shape := ⟨2, ![1, 256]⟩
abbrev S2048x256 : Shape := ⟨2, ![2048, 256]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S128x128 : Shape := ⟨2, ![128, 128]⟩
abbrev S1920x128 : Shape := ⟨2, ![1920, 128]⟩
abbrev S256x128 : Shape := ⟨2, ![256, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩
abbrev S1x1x2048x128 : Shape := ⟨4, ![1, 1, 2048, 128]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x2560, .f32⟩
  | .hbm, ⟨1, _⟩ => ⟨S4x1280, .f32⟩
  | .hbm, ⟨2, _⟩ => ⟨S1280, .f32⟩
  | .hbm, ⟨3, _⟩ => ⟨S10x128x256, .f32⟩
  | .hbm, ⟨4, _⟩ => ⟨S10x256, .f32⟩
  | .hbm, ⟨5, _⟩ => ⟨S1280, .f32⟩
  | .hbm, ⟨6, _⟩ => ⟨S1x1280, .f32⟩
  | .hbm, ⟨7, _⟩ => ⟨S10x128x256, .bf16⟩
  | .hbm, ⟨8, _⟩ => ⟨S10x1x256, .f32⟩
  | .hbm, ⟨9, _⟩ => ⟨S1x1280, .f32⟩
  | .hbm, ⟨10, _⟩ => ⟨S4x2048x1280, .bf16⟩
  | .hbm, ⟨11, _⟩ => ⟨S6x4x2048x1280, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x256, .bf16⟩
  | .local _ .vmem, ⟨9, _⟩ => ⟨S1x128x256, .bf16⟩
  | .local _ .vmem, ⟨10, _⟩ => ⟨S1x1x256, .f32⟩
  | .local _ .vmem, ⟨11, _⟩ => ⟨S1x1x256, .f32⟩
  | .local _ .vmem, ⟨12, _⟩ => ⟨S1x128, .f32⟩
  | .local _ .vmem, ⟨13, _⟩ => ⟨S1x128, .f32⟩
  | .local _ .vmem, ⟨14, _⟩ => ⟨S1x2048x128, .bf16⟩
  | .local _ .vmem, ⟨15, _⟩ => ⟨S1x2048x128, .bf16⟩
  | .local _ .vmem, ⟨16, _⟩ => ⟨S6x1x2048x128, .f32⟩
  | .local _ .vmem, ⟨17, _⟩ => ⟨S6x1x2048x128, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![10, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S6x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MmKernel.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S8192x3072, .bf16⟩
  | .hbm, ⟨4, _⟩ => ⟨S1024x3072, .bf16⟩
  | .hbm, ⟨5, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmReferenceIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MmtnKernel.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmtnReferenceIdeal.lean ====
abbrev S8192x1024 : Shape := ⟨2, ![8192, 1024]⟩
abbrev S8192x3072 : Shape := ⟨2, ![8192, 3072]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x3072, .f32⟩
  | .hbm, ⟨3, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamKernel.lean ====
abbrev S8x4x5632 : Shape := ⟨3, ![8, 4, 5632]⟩
abbrev S4x5632 : Shape := ⟨2, ![4, 5632]⟩
abbrev S1x4x5632 : Shape := ⟨3, ![1, 4, 5632]⟩

abbrev nBuf : Space → Nat
  | .hbm => 15
  | .vmem => 8
  | .smem => 0
  | _ => 0

abbrev bufTy : (tb : Table) → Fin (tcTables nBuf tb) → BufTy
  | .hbm, ⟨0, _⟩ => ⟨S8x4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S1x4x5632, .f32⟩
  | .hbm, ⟨5, _⟩ => ⟨S1x4x5632, .f32⟩
  | .hbm, ⟨6, _⟩ => ⟨S1x4x5632, .f32⟩
  | .hbm, ⟨7, _⟩ => ⟨S1x4x5632, .f32⟩
  | .hbm, ⟨8, _⟩ => ⟨S1x4x5632, .f32⟩
  | .hbm, ⟨9, _⟩ => ⟨S1x4x5632, .f32⟩
  | .hbm, ⟨10, _⟩ => ⟨S1x4x5632, .f32⟩
  | .hbm, ⟨11, _⟩ => ⟨S1x4x5632, .f32⟩
  | .hbm, ⟨12, _⟩ => ⟨S1x4x5632, .f32⟩
  | .hbm, ⟨13, _⟩ => ⟨S1x4x5632, .f32⟩
  | .hbm, ⟨14, _⟩ => ⟨S1x4x5632, .f32⟩
  | .local _ .vmem, ⟨0, _⟩ => ⟨S8x4x5632, .f32⟩
  | .local _ .vmem, ⟨1, _⟩ => ⟨S1x4x5632, .f32⟩
  | .local _ .vmem, ⟨2, _⟩ => ⟨S1x4x5632, .f32⟩
  | .local _ .vmem, ⟨3, _⟩ => ⟨S1x4x5632, .f32⟩
  | .local _ .vmem, ⟨4, _⟩ => ⟨S1x4x5632, .f32⟩
  | .local _ .vmem, ⟨5, _⟩ => ⟨S1x4x5632, .f32⟩
  | .local _ .vmem, ⟨6, _⟩ => ⟨S1x4x5632, .f32⟩
  | .local _ .vmem, ⟨7, _⟩ => ⟨S1x4x5632, .f32⟩
  | _, _ => ⟨S8x4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKernelIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamReferenceIdeal.lean ====
abbrev S8x4x5632 : Shape := ⟨3, ![8, 4, 5632]⟩
abbrev S4x5632 : Shape := ⟨2, ![4, 5632]⟩
abbrev S1x4x5632 : Shape := ⟨3, ![1, 4, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S1x4x5632, .f32⟩
  | .hbm, ⟨5, _⟩ => ⟨S1x4x5632, .f32⟩
  | .hbm, ⟨6, _⟩ => ⟨S1x4x5632, .f32⟩
  | .hbm, ⟨7, _⟩ => ⟨S1x4x5632, .f32⟩
  | .hbm, ⟨8, _⟩ => ⟨S_, .f32⟩
  | .hbm, ⟨9, _⟩ => ⟨S4x5632, .f32⟩
  | .hbm, ⟨10, _⟩ => ⟨S_, .f32⟩
  | .hbm, ⟨11, _⟩ => ⟨S4x5632, .f32⟩
  | .hbm, ⟨12, _⟩ => ⟨S4x5632, .f32⟩
  | .hbm, ⟨13, _⟩ => ⟨S_, .f32⟩
  | .hbm, ⟨14, _⟩ => ⟨S4x5632, .f32⟩
  | .hbm, ⟨15, _⟩ => ⟨S4x5632, .f32⟩
  | .hbm, ⟨16, _⟩ => ⟨S4x5632, .f32⟩
  | .hbm, ⟨17, _⟩ => ⟨S_, .f32⟩
  | .hbm, ⟨18, _⟩ => ⟨S4x5632, .f32⟩
  | .hbm, ⟨19, _⟩ => ⟨S4x5632, .f32⟩
  | .hbm, ⟨20, _⟩ => ⟨S4x5632, .f32⟩
  | .hbm, ⟨21, _⟩ => ⟨S_, .f32⟩
  | .hbm, ⟨22, _⟩ => ⟨S4x5632, .f32⟩
  | .hbm, ⟨23, _⟩ => ⟨S4x5632, .f32⟩
  | .hbm, ⟨24, _⟩ => ⟨S4x5632, .f32⟩
  | .hbm, ⟨25, _⟩ => ⟨S_, .f32⟩
  | .hbm, ⟨26, _⟩ => ⟨S4x5632, .f32⟩
  | .hbm, ⟨27, _⟩ => ⟨S4x5632, .f32⟩
  | .hbm, ⟨28, _⟩ => ⟨S_, .f32⟩
  | .hbm, ⟨29, _⟩ => ⟨S4x5632, .f32⟩
  | .hbm, ⟨30, _⟩ => ⟨S4x5632, .f32⟩
  | .hbm, ⟨31, _⟩ => ⟨S4x5632, .f32⟩
  | .hbm, ⟨32, _⟩ => ⟨S_, .f32⟩
  | .hbm, ⟨33, _⟩ => ⟨S4x5632, .f32⟩
  | .hbm, ⟨34, _⟩ => ⟨S4x5632, .f32⟩
  | .hbm, ⟨35, _⟩ => ⟨S4x5632, .f32⟩
  | .hbm, ⟨36, _⟩ => ⟨S_, .f32⟩
  | .hbm, ⟨37, _⟩ => ⟨S4x5632, .f32⟩
  | .hbm, ⟨38, _⟩ => ⟨S4x5632, .f32⟩
  | .hbm, ⟨39, _⟩ => ⟨S4x5632, .f32⟩
  | .hbm, ⟨40, _⟩ => ⟨S_, .f32⟩
  | .hbm, ⟨41, _⟩ => ⟨S4x5632, .f32⟩
  | .hbm, ⟨42, _⟩ => ⟨S4x5632, .f32⟩
  | .hbm, ⟨43, _⟩ => ⟨S1x4x5632, .f32⟩
  | .hbm, ⟨44, _⟩ => ⟨S1x4x5632, .f32⟩
  | .hbm, ⟨45, _⟩ => ⟨S1x4x5632, .f32⟩
  | .hbm, ⟨46, _⟩ => ⟨S1x4x5632, .f32⟩
  | _, _ => ⟨S8x4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== CastKernel.lean ====
abbrev S2x1024x384 : Shape := ⟨3, ![2, 1024, 384]⟩
abbrev S2x128x1024 : Shape := ⟨3, ![2, 128, 1024]⟩
abbrev S2x1024x320 : Shape := ⟨3, ![2, 1024, 320]⟩
abbrev S2x160x1024 : Shape := ⟨3, ![2, 160, 1024]⟩
abbrev S4x1024x704 : Shape := ⟨3, ![4, 1024, 704]⟩
abbrev S4x352x1024 : Shape := ⟨3, ![4, 352, 1024]⟩
abbrev S2x320x1024 : Shape := ⟨3, ![2, 320, 1024]⟩
abbrev S4x704x1024 : Shape := ⟨3, ![4, 704, 1024]⟩
abbrev S1024x384 : Shape := ⟨2, ![1024, 384]⟩
abbrev S128x1024 : Shape := ⟨2, ![128, 1024]⟩
abbrev S320x1024 : Shape := ⟨2, ![320, 1024]⟩
abbrev S160x1024 : Shape := ⟨2, ![160, 1024]⟩
abbrev S704x1024 : Shape := ⟨2, ![704, 1024]⟩
abbrev S352x1024 : Shape := ⟨2, ![352, 1024]⟩
abbrev S1x1024x384 : Shape := ⟨3, ![1, 1024, 384]⟩
abbrev S1x128x1024 : Shape := ⟨3, ![1, 128, 1024]⟩
abbrev S1x320x1024 : Shape := ⟨3, ![1, 320, 1024]⟩
abbrev S1x160x1024 : Shape := ⟨3, ![1, 160, 1024]⟩
abbrev S1x704x1024 : Shape := ⟨3, ![1, 704, 1024]⟩
abbrev S1x352x1024 : Shape := ⟨3, ![1, 352, 1024]⟩

abbrev nBuf : Space → Nat
  | .hbm => 24
  | .vmem => 22
  | .smem => 0
  | _ => 0

abbrev bufTy : (tb : Table) → Fin (tcTables nBuf tb) → BufTy
  | .hbm, ⟨0, _⟩ => ⟨S2x1024x384, .f32⟩
  | .hbm, ⟨1, _⟩ => ⟨S2x128x1024, .f32⟩
  | .hbm, ⟨2, _⟩ => ⟨S2x1024x320, .f32⟩
  | .hbm, ⟨3, _⟩ => ⟨S2x160x1024, .f32⟩
  | .hbm, ⟨4, _⟩ => ⟨S4x1024x704, .f32⟩
  | .hbm, ⟨5, _⟩ => ⟨S4x352x1024, .f32⟩
  | .hbm, ⟨6, _⟩ => ⟨S2x320x1024, .f32⟩
  | .hbm, ⟨7, _⟩ => ⟨S4x704x1024, .f32⟩
  | .hbm, ⟨8, _⟩ => ⟨S1024x384, .bf16⟩
  | .hbm, ⟨9, _⟩ => ⟨S1024x384, .bf16⟩
  | .hbm, ⟨10, _⟩ => ⟨S128x1024, .bf16⟩
  | .hbm, ⟨11, _⟩ => ⟨S128x1024, .bf16⟩
  | .hbm, ⟨12, _⟩ => ⟨S320x1024, .bf16⟩
  | .hbm, ⟨13, _⟩ => ⟨S320x1024, .bf16⟩
  | .hbm, ⟨14, _⟩ => ⟨S160x1024, .bf16⟩
  | .hbm, ⟨15, _⟩ => ⟨S160x1024, .bf16⟩
  | .hbm, ⟨16, _⟩ => ⟨S704x1024, .bf16⟩
  | .hbm, ⟨17, _⟩ => ⟨S704x1024, .bf16⟩
  | .hbm, ⟨18, _⟩ => ⟨S704x1024, .bf16⟩
  | .hbm, ⟨19, _⟩ => ⟨S704x1024, .bf16⟩
  | .hbm, ⟨20, _⟩ => ⟨S352x1024, .bf16⟩
  | .hbm, ⟨21, _⟩ => ⟨S352x1024, .bf16⟩
  | .hbm, ⟨22, _⟩ => ⟨S352x1024, .bf16⟩
  | .hbm, ⟨23, _⟩ => ⟨S352x1024, .bf16⟩
  | .local _ .vmem, ⟨0, _⟩ => ⟨S2x1024x384, .f32⟩
  | .local _ .vmem, ⟨1, _⟩ => ⟨S2x128x1024, .f32⟩
  | .local _ .vmem, ⟨2, _⟩ => ⟨S2x320x1024, .f32⟩
  | .local _ .vmem, ⟨3, _⟩ => ⟨S2x160x1024, .f32⟩
  | .local _ .vmem, ⟨4, _⟩ => ⟨S4x704x1024, .f32⟩
  | .local _ .vmem, ⟨5, _⟩ => ⟨S4x352x1024, .f32⟩
  | .local _ .vmem, ⟨6, _⟩ => ⟨S1024x384, .bf16⟩
  | .local _ .vmem, ⟨7, _⟩ => ⟨S1024x384, .bf16⟩
  | .local _ .vmem, ⟨8, _⟩ => ⟨S128x1024, .bf16⟩
  | .local _ .vmem, ⟨9, _⟩ => ⟨S128x1024, .bf16⟩
  | .local _ .vmem, ⟨10, _⟩ => ⟨S320x1024, .bf16⟩
  | .local _ .vmem, ⟨11, _⟩ => ⟨S320x1024, .bf16⟩
  | .local _ .vmem, ⟨12, _⟩ => ⟨S160x1024, .bf16⟩
  | .local _ .vmem, ⟨13, _⟩ => ⟨S160x1024, .bf16⟩
  | .local _ .vmem, ⟨14, _⟩ => ⟨S704x1024, .bf16⟩
  | .local _ .vmem, ⟨15, _⟩ => ⟨S704x1024, .bf16⟩
  | .local _ .vmem, ⟨16, _⟩ => ⟨S704x1024, .bf16⟩
  | .local _ .vmem, ⟨17, _⟩ => ⟨S704x1024, .bf16⟩
  | .local _ .vmem, ⟨18, _⟩ => ⟨S352x1024, .bf16⟩
  | .local _ .vmem, ⟨19, _⟩ => ⟨S352x1024, .bf16⟩
  | .local _ .vmem, ⟨20, _⟩ => ⟨S352x1024, .bf16⟩
  | .local _ .vmem, ⟨21, _⟩ => ⟨S352x1024, .bf16⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev main_v2_10 : Ref sig .tc := ⟨.hbm, 18, rfl⟩
abbrev main_v2_11 : Ref sig .tc := ⟨.hbm, 19, rfl⟩
abbrev main_v2_12 : Ref sig .tc := ⟨.hbm, 20, rfl⟩
abbrev main_v2_13 : Ref sig .tc := ⟨.hbm, 21, rfl⟩
abbrev main_v2_14 : Ref sig .tc := ⟨.hbm, 22, rfl⟩
abbrev main_v2_15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S2x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S320x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S160x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S160x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S704x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S352x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S352x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S352x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S352x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== CastReferenceIdeal.lean ====
abbrev S2x1024x384 : Shape := ⟨3, ![2, 1024, 384]⟩
abbrev S2x128x1024 : Shape := ⟨3, ![2, 128, 1024]⟩
abbrev S2x1024x320 : Shape := ⟨3, ![2, 1024, 320]⟩
abbrev S2x160x1024 : Shape := ⟨3, ![2, 160, 1024]⟩
abbrev S4x1024x704 : Shape := ⟨3, ![4, 1024, 704]⟩
abbrev S4x352x1024 : Shape := ⟨3, ![4, 352, 1024]⟩
abbrev S2x320x1024 : Shape := ⟨3, ![2, 320, 1024]⟩
abbrev S4x704x1024 : Shape := ⟨3, ![4, 704, 1024]⟩
abbrev S1x1024x384 : Shape := ⟨3, ![1, 1024, 384]⟩
abbrev S1024x384 : Shape := ⟨2, ![1024, 384]⟩
abbrev S1x128x1024 : Shape := ⟨3, ![1, 128, 1024]⟩
abbrev S128x1024 : Shape := ⟨2, ![128, 1024]⟩
abbrev S1x320x1024 : Shape := ⟨3, ![1, 320, 1024]⟩
abbrev S320x1024 : Shape := ⟨2, ![320, 1024]⟩
abbrev S1x160x1024 : Shape := ⟨3, ![1, 160, 1024]⟩
abbrev S160x1024 : Shape := ⟨2, ![160, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x128x1024, .f32⟩
  | .hbm, ⟨2, _⟩ => ⟨S2x1024x320, .f32⟩
  | .hbm, ⟨3, _⟩ => ⟨S2x160x1024, .f32⟩
  | .hbm, ⟨4, _⟩ => ⟨S4x1024x704, .f32⟩
  | .hbm, ⟨5, _⟩ => ⟨S4x352x1024, .f32⟩
  | .hbm, ⟨6, _⟩ => ⟨S2x320x1024, .f32⟩
  | .hbm, ⟨7, _⟩ => ⟨S4x704x1024, .f32⟩
  | .hbm, ⟨8, _⟩ => ⟨S1x1024x384, .f32⟩
  | .hbm, ⟨9, _⟩ => ⟨S1024x384, .f32⟩
  | .hbm, ⟨10, _⟩ => ⟨S1024x384, .bf16⟩
  | .hbm, ⟨11, _⟩ => ⟨S1x1024x384, .f32⟩
  | .hbm, ⟨12, _⟩ => ⟨S1024x384, .f32⟩
  | .hbm, ⟨13, _⟩ => ⟨S1024x384, .bf16⟩
  | .hbm, ⟨14, _⟩ => ⟨S1x128x1024, .f32⟩
  | .hbm, ⟨15, _⟩ => ⟨S128x1024, .f32⟩
  | .hbm, ⟨16, _⟩ => ⟨S128x1024, .bf16⟩
  | .hbm, ⟨17, _⟩ => ⟨S1x128x1024, .f32⟩
  | .hbm, ⟨18, _⟩ => ⟨S128x1024, .f32⟩
  | .hbm, ⟨19, _⟩ => ⟨S128x1024, .bf16⟩
  | .hbm, ⟨20, _⟩ => ⟨S1x320x1024, .f32⟩
  | .hbm, ⟨21, _⟩ => ⟨S320x1024, .f32⟩
  | .hbm, ⟨22, _⟩ => ⟨S320x1024, .bf16⟩
  | .hbm, ⟨23, _⟩ => ⟨S1x320x1024, .f32⟩
  | .hbm, ⟨24, _⟩ => ⟨S320x1024, .f32⟩
  | .hbm, ⟨25, _⟩ => ⟨S320x1024, .bf16⟩
  | .hbm, ⟨26, _⟩ => ⟨S1x160x1024, .f32⟩
  | .hbm, ⟨27, _⟩ => ⟨S160x1024, .f32⟩
  | .hbm, ⟨28, _⟩ => ⟨S160x1024, .bf16⟩
  | .hbm, ⟨29, _⟩ => ⟨S1x160x1024, .f32⟩
  | .hbm, ⟨30, _⟩ => ⟨S160x1024, .f32⟩
  | .hbm, ⟨31, _⟩ => ⟨S160x1024, .bf16⟩
  | .hbm, ⟨32, _⟩ => ⟨S1x704x1024, .f32⟩
  | .hbm, ⟨33, _⟩ => ⟨S704x1024, .f32⟩
  | .hbm, ⟨34, _⟩ => ⟨S704x1024, .bf16⟩
  | .hbm, ⟨35, _⟩ => ⟨S1x704x1024, .f32⟩
  | .hbm, ⟨36, _⟩ => ⟨S704x1024, .f32⟩
  | .hbm, ⟨37, _⟩ => ⟨S704x1024, .bf16⟩
  | .hbm, ⟨38, _⟩ => ⟨S1x704x1024, .f32⟩
  | .hbm, ⟨39, _⟩ => ⟨S704x1024, .f32⟩
  | .hbm, ⟨40, _⟩ => ⟨S704x1024, .bf16⟩
  | .hbm, ⟨41, _⟩ => ⟨S1x704x1024, .f32⟩
  | .hbm, ⟨42, _⟩ => ⟨S704x1024, .f32⟩
  | .hbm, ⟨43, _⟩ => ⟨S704x1024, .bf16⟩
  | .hbm, ⟨44, _⟩ => ⟨S1x352x1024, .f32⟩
  | .hbm, ⟨45, _⟩ => ⟨S352x1024, .f32⟩
  | .hbm, ⟨46, _⟩ => ⟨S352x1024, .bf16⟩
  | .hbm, ⟨47, _⟩ => ⟨S1x352x1024, .f32⟩
  | .hbm, ⟨48, _⟩ => ⟨S352x1024, .f32⟩
  | .hbm, ⟨49, _⟩ => ⟨S352x1024, .bf16⟩
  | .hbm, ⟨50, _⟩ => ⟨S1x352x1024, .f32⟩
  | .hbm, ⟨51, _⟩ => ⟨S352x1024, .f32⟩
  | .hbm, ⟨52, _⟩ => ⟨S352x1024, .bf16⟩
  | .hbm, ⟨53, _⟩ => ⟨S1x352x1024, .f32⟩
  | .hbm, ⟨54, _⟩ => ⟨S352x1024, .f32⟩
  | .hbm, ⟨55, _⟩ => ⟨S352x1024, .bf16⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]
-- ==== LrubKernel.lean ====
abbrev S4x2048x2560 : Shape := ⟨3, ![4, 2048, 2560]⟩
abbrev S6x4x2048x1280 : Shape := ⟨4, ![6, 4, 2048, 1280]⟩
abbrev S4x2048x1280 : Shape := ⟨3, ![4, 2048, 1280]⟩
abbrev S4x1280 : Shape := ⟨2, ![4, 1280]⟩
abbrev S10x128x256 : Shape := ⟨3, ![10, 128, 256]⟩
abbrev S1280 : Shape := ⟨1, ![1280]⟩
abbrev S1x1280 : Shape := ⟨2, ![1, 1280]⟩
abbrev S10x1x256 : Shape := ⟨3, ![10, 1, 256]⟩
abbrev S1x2048x128 : Shape := ⟨3, ![1, 2048, 128]⟩
abbrev S4x128 : Shape := ⟨2, ![4, 128]⟩
abbrev S1x128x256 : Shape := ⟨3, ![1, 128, 256]⟩
abbrev S1x128 : Shape := ⟨2, ![1, 128]⟩
abbrev S6x1x2048x128 : Shape := ⟨4, ![6, 1, 2048, 128]⟩
abbrev S1x1x256 : Shape := ⟨3, ![1, 1, 256]⟩
abbrev S2x2048x128 : Shape := ⟨3, ![2, 2048, 128]⟩
abbrev S2048x128 : Shape := ⟨2, ![2048, 128]⟩
abbrev S128x256 : Shape := ⟨2, ![128, 256]⟩
abbrev S1x1x2048x128 : Shape := ⟨4, ![1, 1, 2048, 128]⟩
abbrev S2040x128 : Shape := ⟨2, ![2040, 128]⟩
abbrev S8x128 : Shape := ⟨2, ![8, 128]⟩
abbrev S2032x128 : Shape := ⟨2, ![2032, 128]⟩
abbrev S16x128 : Shape := ⟨2, ![16, 128]⟩
abbrev S2016x128 : Shape := ⟨2, ![2016, 128]⟩
abbrev S32x128 : Shape := ⟨2, ![32, 128]⟩
abbrev S1984x128 : Shape := ⟨2, ![1984, 128]⟩
abbrev S64x128 : Shape := ⟨2, ![64, 128]⟩
abbrev S1920x128 : Shape := ⟨2, ![1920, 128]⟩
abbrev S128x128 : Shape := ⟨2, ![128, 128]⟩
abbrev S1792x128 : Shape := ⟨2, ![1792, 128]⟩
abbrev S256x128 : Shape := ⟨2, ![256, 128]⟩
abbrev S1536x128 : Shape := ⟨2, ![1536, 128]⟩
abbrev S512x128 : Shape := ⟨2, ![512, 128]⟩
abbrev S1024x128 : Shape := ⟨2, ![1024, 128]⟩
abbrev S128 : Shape := ⟨1, ![128]⟩
abbrev S2048x256 : Shape := ⟨2, ![2048, 256]⟩
abbrev S256 : Shape := ⟨1, ![256]⟩
abbrev S1x256 : Shape := ⟨2, ![1, 256]⟩

abbrev nBuf : Space → Nat
  | .hbm => 16
  | .vmem => 31
  | .smem => 0
  | _ => 0

abbrev bufTy : (tb : Table) → Fin (tcTables nBuf tb) → BufTy
  | .hbm, ⟨0, _⟩ => ⟨S4x2048x2560, .f32⟩
  | .hbm, ⟨1, _⟩ => ⟨S6x4x2048x1280, .f32⟩
  | .hbm, ⟨2, _⟩ => ⟨S4x2048x1280, .f32⟩
  | .hbm, ⟨3, _⟩ => ⟨S4x1280, .f32⟩
  | .hbm, ⟨4, _⟩ => ⟨S10x128x256, .f32⟩
  | .hbm, ⟨5, _⟩ => ⟨S1280, .f32⟩
  | .hbm, ⟨6, _⟩ => ⟨S10x128x256, .bf16⟩
  | .hbm, ⟨7, _⟩ => ⟨S1x1280, .f32⟩
  | .hbm, ⟨8, _⟩ => ⟨S4x2048x2560, .bf16⟩
  | .hbm, ⟨9, _⟩ => ⟨S4x1280, .f32⟩
  | .hbm, ⟨10, _⟩ => ⟨S1x1280, .f32⟩
  | .hbm, ⟨11, _⟩ => ⟨S10x128x256, .f32⟩
  | .hbm, ⟨12, _⟩ => ⟨S10x1x256, .f32⟩
  | .hbm, ⟨13, _⟩ => ⟨S1x1280, .f32⟩
  | .hbm, ⟨14, _⟩ => ⟨S1x1280, .f32⟩
  | .hbm, ⟨15, _⟩ => ⟨S1x1280, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x128x256, .bf16⟩
  | .local _ .vmem, ⟨7, _⟩ => ⟨S1x128x256, .bf16⟩
  | .local _ .vmem, ⟨8, _⟩ => ⟨S1x128, .f32⟩
  | .local _ .vmem, ⟨9, _⟩ => ⟨S1x128, .f32⟩
  | .local _ .vmem, ⟨10, _⟩ => ⟨S6x1x2048x128, .f32⟩
  | .local _ .vmem, ⟨11, _⟩ => ⟨S6x1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .bf16⟩
  | .local _ .vmem, ⟨15, _⟩ => ⟨S1x2048x128, .bf16⟩
  | .local _ .vmem, ⟨16, _⟩ => ⟨S4x128, .f32⟩
  | .local _ .vmem, ⟨17, _⟩ => ⟨S4x128, .f32⟩
  | .local _ .vmem, ⟨18, _⟩ => ⟨S1x128, .f32⟩
  | .local _ .vmem, ⟨19, _⟩ => ⟨S1x128, .f32⟩
  | .local _ .vmem, ⟨20, _⟩ => ⟨S1x128x256, .f32⟩
  | .local _ .vmem, ⟨21, _⟩ => ⟨S1x128x256, .f32⟩
  | .local _ .vmem, ⟨22, _⟩ => ⟨S1x1x256, .f32⟩
  | .local _ .vmem, ⟨23, _⟩ => ⟨S1x1x256, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2x2048x128, .bf16⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![10, 4, 2], ![false, false, false]⟩

def k0_off1 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_106 : BitVec 32 := 0#32
  let v333 : BitVec 1 := Scalar.cmpi .eq arg1 c0_i32_106
  let v342 : BitVec 32 := Scalar.extui v333
  let c0_i32_111 : BitVec 32 := 0#32
  let v343 : BitVec 1 := Scalar.cmpi .ne v342 c0_i32_111
  v343

def k0_cond3 (i : grid0.Coords) : BitVec 1 :=
  let arg1 : BitVec 32 := BitVec.ofNat 32 (i 1).val
  let c0_i32_106 : BitVec 32 := 0#32
  let v333 : BitVec 1 := Scalar.cmpi .eq arg1 c0_i32_106
  let v_true : BitVec 1 := 1#1
  let v344 : BitVec 1 := Scalar.xori v333 v_true
  let v345 : BitVec 32 := Scalar.extui v344
  let c0_i32_112 : BitVec 32 := 0#32
  let v346 : BitVec 1 := Scalar.cmpi .ne v345 c0_i32_112
  v346

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c10_i32 : BitVec 32 := 10#32
  let v31 : BitVec 32 := Scalar.addi c10_i32 v20
  let c0_i32_11 : BitVec 32 := 0#32
  let c0_i32_12 : BitVec 32 := 0#32
  ![v30.toNat, c0_i32_11.toNat, v31.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v20.toNat, c0_i32_11.toNat, c0_i32_12.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![c0_i32_11.toNat, v30.toNat, c0_i32_12.toNat, v20.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg2 c10_i32
  let v1 : BitVec 32 := Scalar.addi v0 arg0
  let c0_i32 : BitVec 32 := 0#32
  let c0_i32_0 : BitVec 32 := 0#32
  ![arg1.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S6x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]
-- ==== Proof.Lift.lean ====
/- Extended reals that are real numbers: sums, quotients and literals of them, as the value proofs use them. -/
module

public import Idealize.ShloMosaic.Lib.IdealHost
public import Idealize.ShloMosaic.Lib.Pointwise

@[expose] public section

noncomputable section

open Idealize.ShloMosaic

namespace Cert.Lift

/-- A finite sum of reals, read in the extended reals. -/
theorem coe_sum {ι : Type*} (s : Finset ι) (f : ι → ℝ) : (∑ k ∈ s, (f k : EReal)) = ((∑ k ∈ s, f k : ℝ) : EReal) :=
  (map_sum (⟨⟨(↑), EReal.coe_zero⟩, EReal.coe_add⟩ : ℝ →+ EReal) f s).symm

/-- A quotient of reals by a nonzero real. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- An extended real whose absolute value is below infinity is a real number. -/
theorem real_of_abs_lt {x : EReal} (h : max x (-x) < ⊤) : ∃ r : ℝ, x = (r : EReal) := by
  induction x with
  | bot => simp at h
  | coe r => exact ⟨r, rfl⟩
  | top => simp at h

/-- A family of extended reals, each a real number, is a family of reals. -/
theorem real_family {ι : Type*} {x : ι → EReal} (h : ∀ i, ∃ r : ℝ, x i = (r : EReal)) : ∃ r : ι → ℝ, x = fun i => (r i : EReal) :=
  ⟨fun i => (h i).choose, funext fun i => (h i).choose_spec⟩

/-- A sum over blocks and the places within a block is a sum over all the places. -/
theorem sum_blocks {A n M : ℕ} (h : A * n = M) (f : Fin M → EReal) (hb : ∀ (p : Fin A) (r : Fin n), p.val * n + r.val < M) :
    ∑ p : Fin A, ∑ r : Fin n, f ⟨p.val * n + r.val, hb p r⟩ = ∑ i, f i := by
  subst h
  rw [← finProdFinEquiv.sum_comp, Fintype.sum_prod_type]
  refine Finset.sum_congr rfl fun p _ => Finset.sum_congr rfl fun r _ => congrArg f (Fin.ext ?_)
  show p.val * n + r.val = r.val + n * p.val
  rw [add_comm, mul_comm]

/-- The literal 1024. -/
theorem lit_1024 : Ideal.ofBits .f32 0x44800000#32 = ((1024 : ℝ) : EReal) := by
  simp [Ideal.ofBits, Ideal.ieee, -EReal.coe_mul]; norm_num

/-- The literal 2. -/
theorem lit_two : Ideal.ofBits .f32 0x40000000#32 = ((2 : ℝ) : EReal) := by
  simp [Ideal.ofBits, Ideal.ieee, -EReal.coe_mul]; norm_num

/-- The literal minus one half. -/
theorem lit_neg_half : Ideal.ofBits .f32 0xBF000000#32 = ((-(1 / 2) : ℝ) : EReal) := by
  simp [Ideal.ofBits, Ideal.ieee, -EReal.coe_mul, -EReal.coe_neg]; norm_num

/-- The literal infinity. -/
theorem lit_inf : Ideal.ofBits .f32 0x7F800000#32 = (⊤ : EReal) := by
  simp [Ideal.ofBits, Ideal.ieee]

/-- The layer norm's epsilon: the rational that its float word denotes. -/
def eps : ℝ := (2 ^ 23 + 2606508 : ℕ) * (2 : ℝ) ^ (-40 : ℤ)

theorem eps_pos : 0 < eps := by unfold eps; positivity

theorem lit_eps : Ideal.ofBits .f32 0x3727C5AC#32 = (eps : EReal) := by
  simp [Ideal.ofBits, Ideal.ieee, eps, -EReal.coe_mul]

end Cert.Lift

end
-- ==== Proof.NormMath.lean ====
/- The gradient of a layer norm over one row, in the two forms that the programs compute: the closed form of the kernels and
   the one that differentiating mean, variance and quotient gives. On a row of real numbers they agree. -/
module

public import proofs.«01_k».proof.Proof.Lift

@[expose] public section

noncomputable section

open Idealize.ShloMosaic

namespace Cert.NormMath

open Cert.Lift

/-- A row of an activation. -/
abbrev Row := Fin 1024 → EReal

/-- The mean of a row. -/
def mean (z : Row) : EReal := Ideal.div (∑ k, z k) (Ideal.ofBits .f32 0x44800000#32)

/-- A row less its mean. -/
def dev (z : Row) : Row := fun k => z k - mean z

/-- The variance of a row, plus epsilon. -/
def var (z : Row) : EReal := mean (fun k => dev z k * dev z k) + Ideal.ofBits .f32 0x3727C5AC#32

/-- The reciprocal standard deviation of a row. -/
def inv (z : Row) : EReal := Ideal.rsqrt (var z)

/-- The normalised row. -/
def xhat (z : Row) : Row := fun k => dev z k * inv z

/-- The gradient of the row in closed form, `x` the gradient of the normalised row. -/
def closed (z x : Row) : Row := fun j =>
  inv z * (x j - mean x - xhat z j * mean (fun k => x k * xhat z k))

/-- What reaches one deviation through the variance. -/
def throughVar (z x : Row) : Row := fun j =>
  Ideal.div ((∑ k, dev z k * x k) * (Ideal.ofBits .f32 0xBF000000#32 * Ideal.div (inv z) (var z))) (Ideal.ofBits .f32 0x44800000#32)
    * (Ideal.ofBits .f32 0x40000000#32 * dev z j)

/-- The gradient of the row by the chain rule: through the deviation, the variance and the mean. -/
def chained (z x : Row) : Row := fun j =>
  x j * inv z + throughVar z x j
    + Ideal.div ((∑ k, -(x k * inv z)) + ∑ k, -throughVar z x k) (Ideal.ofBits .f32 0x44800000#32)

theorem mean_coe (z : Fin 1024 → ℝ) : mean (fun k => (z k : EReal)) = (((∑ k, z k) / 1024 : ℝ) : EReal) := by
  unfold mean; rw [coe_sum, lit_1024, div_coe_coe _ (by norm_num)]

/-- The real deviation, variance and reciprocal root of a real row. -/
def rdev (z : Fin 1024 → ℝ) : Fin 1024 → ℝ := fun k => z k - (∑ k, z k) / 1024
def rvar (z : Fin 1024 → ℝ) : ℝ := (∑ k, rdev z k * rdev z k) / 1024 + eps
def rinv (z : Fin 1024 → ℝ) : ℝ := (Real.sqrt (rvar z))⁻¹

theorem rvar_pos (z : Fin 1024 → ℝ) : 0 < rvar z :=
  add_pos_of_nonneg_of_pos (div_nonneg (Finset.sum_nonneg fun k _ => mul_self_nonneg _) (by norm_num)) eps_pos

theorem dev_coe (z : Fin 1024 → ℝ) : dev (fun k => (z k : EReal)) = fun k => (rdev z k : EReal) := by
  funext k; unfold dev rdev; rw [mean_coe, EReal.coe_sub]

theorem var_coe (z : Fin 1024 → ℝ) : var (fun k => (z k : EReal)) = (rvar z : EReal) := by
  unfold var rvar
  simp only [dev_coe, ← EReal.coe_mul]
  rw [mean_coe, lit_eps, EReal.coe_add]

theorem inv_coe (z : Fin 1024 → ℝ) : inv (fun k => (z k : EReal)) = (rinv z : EReal) := by
  unfold inv; rw [var_coe, rsqrt_pos (rvar_pos z)]; rfl

theorem xhat_coe (z : Fin 1024 → ℝ) : xhat (fun k => (z k : EReal)) = fun k => ((rdev z k * rinv z : ℝ) : EReal) := by
  funext k; unfold xhat; rw [inv_coe, dev_coe, EReal.coe_mul]

theorem sum_rdev (z : Fin 1024 → ℝ) : ∑ k, rdev z k = 0 := by
  unfold rdev
  rw [Finset.sum_sub_distrib, Finset.sum_const, Finset.card_univ, Fintype.card_fin, nsmul_eq_mul]
  push_cast; ring

theorem rinv_sq (z : Fin 1024 → ℝ) : rinv z / rvar z = rinv z * rinv z * rinv z := by
  have h := rvar_pos z
  have hs : Real.sqrt (rvar z) ≠ 0 := (Real.sqrt_pos.mpr h).ne'
  have e : rvar z = Real.sqrt (rvar z) * Real.sqrt (rvar z) := (Real.mul_self_sqrt h.le).symm
  unfold rinv
  conv_lhs => rw [e]
  simp only [Real.sqrt_mul_self (Real.sqrt_nonneg _)]
  field_simp

/-- The real form of what passes through the variance. -/
theorem throughVar_coe (z x : Fin 1024 → ℝ) : throughVar (fun k => (z k : EReal)) (fun k => (x k : EReal))
    = fun j => (((∑ k, rdev z k * x k) * (-(1 / 2) * (rinv z / rvar z)) / 1024 * (2 * rdev z j) : ℝ) : EReal) := by
  funext j
  unfold throughVar
  simp only [dev_coe, inv_coe, var_coe, ← EReal.coe_mul]
  rw [coe_sum, div_coe_coe _ (rvar_pos z).ne', lit_neg_half, lit_two, lit_1024]
  simp only [← EReal.coe_mul]
  rw [div_coe_coe _ (by norm_num)]
  simp only [← EReal.coe_mul]

/-- On real rows the closed form is the chain rule's. -/
theorem closed_eq_chained (z x : Fin 1024 → ℝ) :
    closed (fun k => (z k : EReal)) (fun k => (x k : EReal)) = chained (fun k => (z k : EReal)) (fun k => (x k : EReal)) := by
  funext j
  unfold closed chained
  simp only [throughVar_coe, inv_coe, xhat_coe, mean_coe, ← EReal.coe_mul, ← EReal.coe_neg, coe_sum, ← EReal.coe_add, ← EReal.coe_sub,
    lit_1024]
  rw [div_coe_coe _ (by norm_num), ← EReal.coe_add, EReal.coe_eq_coe_iff, rinv_sq]
  simp only [Finset.sum_neg_distrib, ← Finset.mul_sum, ← Finset.sum_mul, sum_rdev]
  have e : ∑ k, x k * (rdev z k * rinv z) = (∑ k, rdev z k * x k) * rinv z := by
    rw [Finset.sum_mul]; exact Finset.sum_congr rfl fun k _ => by ring
  rw [e]
  ring

end Cert.NormMath

end
-- ==== Proof.Finite.lean ====
/- What the preconditions say: an array passes "every absolute value is below infinity" exactly when its entries are real numbers. -/
module

public import proofs.«01_k».proof.Proof.Lift
public import Idealize.ShloMosaic.Lib.Affine
public import Idealize.ShloMosaic.Lib.Pointwise
public import Idealize.ShloMosaic.Lib.ReduceAll

@[expose] public section

noncomputable section

namespace Cert.Finite

open Idealize.ShloMosaic

/-- If the conjunction over an array of "its absolute value is below infinity" holds, the array is one of real numbers. -/
theorem reals {s s₀ : Shape} [Subsingleton s₀.Idx] {dims : List (Fin s.rank)} (x : Vec Ideal s .f32) (init : IVec s₀ 1) {f : Fin s₀.rank → Fin s.rank}
    {hb : s₀.BroadcastsInDim s f} {hr : s.ReducesTo dims s₀} {hu : 0 < s₀.numel} {j : s₀.Idx}
    (h : Host.reduce IntOp.andi (cmpf .olt (Host.absf x) (broadcastInDim s f hb (constant (F := Ideal) s₀ .f32 0x7F800000#32))) init hr hu j = 1#1) :
    ∃ r : s.Idx → ℝ, x = fun i => (r i : EReal) := by
  refine Lift.real_family fun i => Lift.real_of_abs_lt ?_
  have h1 := Host.reduce_andi_all _ _ _ _ j h i
  rw [← Lift.lit_inf]
  exact (Ideal.cmp_olt_eq_one _ _).1 h1

/-- A conjunction of two predicates' results that is one has both of them one. -/
theorem both {s : Shape} {p q : IVec s 1} {j : s.Idx} (h : andi p q j = 1#1) : p j = 1#1 ∧ q j = 1#1 :=
  IntOp.andi_eq_one.1 h

end Cert.Finite

end
-- ==== Proof.LnValue.lean ====
/- The layer norm's gradient: what the kernel leaves, what the chain rule through the reference leaves, and that the two agree on real numbers. -/
module

public import proofs.«01_k».proof.Defs
public import proofs.«01_k».proof.Proof.NormMath
public import proofs.«01_k».proof.Proof.Finite
public import proofs.«01_k».proof.Proof.Gen.LnKernelIdeal.Value
public import proofs.«01_k».proof.Proof.Gen.LnReferenceIdeal.Run
public import proofs.«01_k».proof.Proof.Gen.LnReferenceIdeal.Read
public import proofs.«01_k».proof.Proof.Gen.Pre_finite_ln
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LnValue

open Cert.LnKernelIdeal Cert.LnKernelIdeal.Gen Cert.NormMath

/-- The row of gradients of the normalised row: cotangent times scale. -/
abbrev dxRow (g : Vec Ideal S1024 .f32) (d : Vec Ideal S8192x1024 .f32) (r : Fin 8192) : Row := fun k => d (ix2 r k) * g (ix1 k)

abbrev zRow (z : Vec Ideal S8192x1024 .f32) (r : Fin 8192) : Row := fun k => z (ix2 r k)

/-- What the kernel leaves in its four results, index by index. -/
abbrev dz (z : Vec Ideal S8192x1024 .f32) (g : Vec Ideal S1024 .f32) (d : Vec Ideal S8192x1024 .f32) : S8192x1024.Idx → EReal :=
  fun i => closed (zRow z (i 0)) (dxRow g d (i 0)) (i 1)
abbrev dg (z d : Vec Ideal S8192x1024 .f32) : S1x1024.Idx → EReal :=
  fun i => ∑ r : Fin 8192, d (ix2 r (i 1)) * xhat (zRow z r) (i 1)
abbrev db (d : Vec Ideal S8192x1024 .f32) : S1x1024.Idx → EReal := fun i => ∑ r : Fin 8192, d (ix2 r (i 1))

/-- The weight of the residual's cotangent, where a product is fused with the norm's gradient. -/
abbrev α : EReal := Ideal.ofBits .f32 0x3FD744FD#32
theorem α_real : ∃ a : ℝ, α = (a : EReal) :=
  ⟨(2 ^ 23 + 5719293 : ℕ) * (2 : ℝ) ^ (-23 : ℤ), by simp [Ideal.ofBits, Ideal.ieee, -EReal.coe_mul]⟩

/-! ## The kernel -/

theorem pay_dz (x z : Vec Ideal S1024x1024 .f32) (g : Vec Ideal S1x1024 .f32) (r k : Fin 1024) :
    k0_pay9 (F := Ideal) x z g (ix2 r k) = closed (fun k => z (ix2 r k)) (fun k => x (ix2 r k) * g (ix2 0 k)) k := by
  pointwise [k0_pay9, k0_pay8, k0_pay7, k0_pay6]
  rfl

theorem pay_dg (x z : Vec Ideal S1024x1024 .f32) (g : Vec Ideal S1x1024 .f32) (a : Fin 1) (k : Fin 1024) :
    k0_pay2 (F := Ideal) x (k0_pay8 z) g (ix2 a k) = g (ix2 a k) + ∑ r : Fin 1024, x (ix2 r k) * xhat (fun k => z (ix2 r k)) k := by
  pointwise [k0_pay2, k0_pay8, k0_pay7, k0_pay6]
  rfl

theorem pay_db (x : Vec Ideal S1024x1024 .f32) (g : Vec Ideal S1x1024 .f32) (a : Fin 1) (k : Fin 1024) :
    k0_pay3 (F := Ideal) x g (ix2 a k) = g (ix2 a k) + ∑ r : Fin 1024, x (ix2 r k) := by
  pointwise [k0_pay3]

theorem pay_zero (a : Fin 1) (k : Fin 1024) : k0_pay4 (F := Ideal) (ix2 a k) = 0 := by pointwise [k0_pay4]
theorem pay_zero' (a : Fin 1) (k : Fin 1024) : k0_pay5 (F := Ideal) (ix2 a k) = 0 := by pointwise [k0_pay5]

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] := by
  decide +kernel

/-- The kernel's arguments. -/
abbrev argZ : Vec Ideal S8192x1024 .f32 := m (c.tc.loc main_arg0)
abbrev argG : Vec Ideal S1024 .f32 := m (c.tc.loc main_arg1)
abbrev argD : Vec Ideal S8192x1024 .f32 := m (c.tc.loc main_arg3)

theorem lt_rows (t : Fin cfg0.N) (r : Fin 1024) : t.val * 1024 + r.val < 8192 := by
  have := t.isLt; have h : cfg0.N = 8 := N_0; omega

/-- A row of the cotangent's block, of the activation's block and of the scale's. -/
theorem blk_d (t : Fin cfg0.N) (r k : Fin 1024) : iblk m c 0 t (ix2 r k) = argD m c (ix2 ⟨t.val * 1024 + r.val, lt_rows t r⟩ k) := by
  blk_ext [iblk, V, idx t]
theorem blk_z (t : Fin cfg0.N) (r k : Fin 1024) : iblk m c 1 t (ix2 r k) = argZ m c (ix2 ⟨t.val * 1024 + r.val, lt_rows t r⟩ k) := by
  blk_ext [iblk, V, idx t]
theorem blk_g (t : Fin cfg0.N) (k : Fin 1024) : iblk m c 2 t (ix2 0 k) = argG m c (ix1 k) := by
  unfold iblk
  rw [View.read_apply]
  show V m c main_v0 _ = _
  entry_read
  pointwise
  blk_ext [idx t]

theorem emb3 (t : Fin cfg0.N) (r k : Fin 1024) :
    ((View.whole main_v1_0).slice (win0_3.rect t)).emb (ix2 r k) = ix2 ⟨t.val * 1024 + r.val, lt_rows t r⟩ k := by
  blk_ext [idx t]

theorem point_dz (t : Fin cfg0.N) (r k : Fin 1024) : k0_pay9 (iblk m c 0 t) (iblk m c 1 t) (iblk m c 2 t) (ix2 r k)
    = dz (argZ m c) (argG m c) (argD m c) (ix2 ⟨t.val * 1024 + r.val, lt_rows t r⟩ k) := by
  rw [pay_dz]
  simp only [blk_z, blk_d, blk_g]
  rfl

theorem final_dz : (dats m 0 c).arrAt 3 cfg0.N = dz (argZ m c) (argG m c) (argD m c) := by
  refine (dats m 0 c).arrAt_eq_of_covers 3 _ (by decide +kernel) fun t hf y => ?_
  blk_simp
  rw [after0_3]
  obtain ⟨r, k, rfl⟩ : ∃ r k : Fin 1024, y = ix2 r k := ⟨y 0, y 1, eq_ix2 y⟩
  rw [emb3, ← point_dz m c]
  by_cases h : t.val % 8 = 0
  · rw [outsAt0_A m c t h]
    frame_out
  · rw [outsAt0_B m c t h]
    frame_out

theorem final_dg : (dats m 0 c).arrAt 5 cfg0.N = dg (argZ m c) (argD m c) := by
  refine (dats m 0 c).arrAt_eq_of_after_last 5 t0_7 (by decide +kernel) _ fun y => ?_
  blk_simp
  rw [after0_5]
  rw [Pipeline.eq_sum_fin_of_reset_step_apply_last (fun n h => (outsAt0 m c n h).2.2.1) 8 (fun _ => (0 : EReal))
    (fun t j => ∑ r : Fin 1024, argD m c (ix2 ⟨t.val * 1024 + r.val, lt_rows t r⟩ (j 1)) * xhat (zRow (argZ m c) ⟨t.val * 1024 + r.val, lt_rows t r⟩) (j 1)) ?_ ?_ N_0.le t0_7 rfl _ ]
  · rw [zero_add]
    exact Lift.sum_blocks (by rw [show cfg0.N = 8 from N_0]) (fun i => argD m c (ix2 i (y 1)) * xhat (zRow (argZ m c) i) (y 1)) (fun t r => lt_rows t r)
  · intro t h j
    rw [outsAt0_A m c t h]
    frame_out
    idx_vars j
    rw [pay_dg, pay_zero]
    simp only [blk_d, blk_z]
  · intro t h j
    rw [outsAt0_B m c t h]
    frame_out
    idx_vars j
    rw [pay_dg]
    simp only [blk_d, blk_z]

theorem emb4 (t : Fin cfg0.N) (r k : Fin 1024) :
    ((View.whole main_v1_1).slice (win0_4.rect t)).emb (ix2 r k) = ix2 ⟨t.val * 1024 + r.val, lt_rows t r⟩ k := by
  blk_ext [idx t]

/-- The second result is the first at the narrower float type: over the reals the same. -/
theorem pay_dz16 (x : Vec Ideal S1024x1024 .f32) : k0_pay1 (F := Ideal) x = x := by
  funext j
  pointwise [k0_pay1]

theorem final_dz16 : (dats m 0 c).arrAt 4 cfg0.N = dz (argZ m c) (argG m c) (argD m c) := by
  refine (dats m 0 c).arrAt_eq_of_covers 4 _ (by decide +kernel) fun t hf y => ?_
  blk_simp
  rw [after0_4]
  obtain ⟨r, k, rfl⟩ : ∃ r k : Fin 1024, y = ix2 r k := ⟨y 0, y 1, eq_ix2 y⟩
  rw [emb4, ← point_dz m c]
  by_cases h : t.val % 8 = 0
  · rw [outsAt0_A m c t h]
    frame_out
    exact congrFun (pay_dz16 _) _
  · rw [outsAt0_B m c t h]
    frame_out
    exact congrFun (pay_dz16 _) _

theorem final_db : (dats m 0 c).arrAt 6 cfg0.N = db (argD m c) := by
  refine (dats m 0 c).arrAt_eq_of_after_last 6 t0_7 (by decide +kernel) _ fun y => ?_
  blk_simp
  rw [after0_6]
  rw [Pipeline.eq_sum_fin_of_reset_step_apply_last (fun n h => (outsAt0 m c n h).2.2.2) 8 (fun _ => (0 : EReal))
    (fun t j => ∑ r : Fin 1024, argD m c (ix2 ⟨t.val * 1024 + r.val, lt_rows t r⟩ (j 1))) ?_ ?_ N_0.le t0_7 rfl _]
  · rw [zero_add]
    exact Lift.sum_blocks (by rw [show cfg0.N = 8 from N_0]) (fun i => argD m c (ix2 i (y 1))) (fun t r => lt_rows t r)
  · intro t h j
    rw [outsAt0_A m c t h]
    frame_out
    idx_vars j
    rw [pay_db, pay_zero']
    simp only [blk_d]
  · intro t h j
    rw [outsAt0_B m c t h]
    frame_out
    idx_vars j
    rw [pay_db]
    simp only [blk_d]

/-! ## The reference -/

section Reference

open Cert.LnReferenceIdeal.Read

variable (z : Vec Ideal S8192x1024 .f32) (g : Vec Ideal S1024 .f32) (d : Vec Ideal S8192x1024 .f32)

theorem ref_dev (r : Fin 8192) (k : Fin 1024) : val_main_v14 (F := Ideal) z (ix2 r k) = dev (zRow z r) k := by
  pointwise [val_main_v14, val_main_v13, val_main_v3, val_main_v2, val_main_cst_0, val_main_v1, val_main_v0, val_main_cst]
  rfl
theorem ref_dev' (r : Fin 8192) (k : Fin 1024) : val_main_v5 (F := Ideal) z (ix2 r k) = dev (zRow z r) k := ref_dev z r k
theorem ref_var (r : Fin 8192) (k : Fin 1) : val_main_v16 (F := Ideal) z (ix2 r k) = var (zRow z r) := by
  pointwise [val_main_v16, val_main_v15, val_main_v12, val_main_v11, val_main_v10, val_main_v9, val_main_v6, val_main_cst_2, val_main_cst_3, val_main_cst_4]
  simp only [ref_dev']
  rfl
theorem ref_inv (r : Fin 8192) (k : Fin 1) : val_main_v17 (F := Ideal) z (ix2 r k) = inv (zRow z r) := by
  pointwise [val_main_v17]
  rw [ref_var]; rfl
theorem ref_xhat (r : Fin 8192) (k : Fin 1024) : val_main_v22 (F := Ideal) z (ix2 r k) = xhat (zRow z r) k := by
  pointwise [val_main_v22, val_main_v21]
  rw [ref_dev, ref_inv]; rfl
theorem ref_flat : val_main_v29 (F := Ideal) d = d := by
  funext i
  idx_vars i
  pointwise [val_main_v29]
theorem ref_dx (r : Fin 8192) (k : Fin 1024) : val_main_v37 (F := Ideal) g d (ix2 r k) = dxRow g d r k := by
  pointwise [val_main_v37, val_main_v36, val_main_v29, val_main_v23]
theorem ref_dxi (r : Fin 8192) (k : Fin 1024) : val_main_v43 (F := Ideal) z g d (ix2 r k) = dxRow g d r k * inv (zRow z r) := by
  pointwise [val_main_v43, val_main_v42]
  rw [ref_dx, ref_inv]
theorem ref_tv (r : Fin 8192) (k : Fin 1024) : val_main_v52 (F := Ideal) z g d (ix2 r k) = throughVar (zRow z r) (dxRow g d r) k := by
  pointwise [val_main_v52, val_main_v51, val_main_v50, val_main_v49, val_main_v48, val_main_v44, val_main_v41, val_main_v40, val_main_v39,
    val_main_v20, val_main_v19, val_main_v18, val_main_v8, val_main_v7, val_main_cst_12, val_main_cst_13, val_main_cst_5, val_main_cst_10, val_main_cst_1]
  simp only [Fin.sum_univ_one, ref_dev, ref_dev', ref_dx, ref_inv, ref_var]
  rfl
theorem ref_dz (r : Fin 8192) (k : Fin 1024) : val_main_v62 (F := Ideal) z g d (ix2 r k) = chained (zRow z r) (dxRow g d r) k := by
  pointwise [val_main_v62, val_main_v61, val_main_v60, val_main_v59, val_main_v58, val_main_v57, val_main_v56, val_main_v55, val_main_v54,
    val_main_v53, val_main_v47, val_main_v46, val_main_v45, val_main_cst_16, val_main_cst_15, val_main_cst_14, val_main_cst_11]
  simp only [Fin.sum_univ_one, ref_tv, ref_dxi]
  rfl
theorem ref_dg (a : Fin 1) (k : Fin 1024) : val_main_v64 (F := Ideal) z d (ix2 a k) = dg z d (ix2 a k) := by
  pointwise [val_main_v64, val_main_v38, val_main_v35, val_main_v34, val_main_v33, val_main_v29, val_main_cst_8, val_main_cst_9]
  simp only [Fin.sum_univ_one, ref_xhat]
  exact Finset.sum_congr rfl fun r _ => mul_comm _ _
theorem ref_db (a : Fin 1) (k : Fin 1024) : val_main_v65 (F := Ideal) d (ix2 a k) = db d (ix2 a k) := by
  pointwise [val_main_v65, val_main_v32, val_main_v31, val_main_v30, val_main_cst_6, val_main_cst_7]
  simp only [Fin.sum_univ_one]
  rfl

end Reference

/-! ## The claims -/

/-- The precondition makes the three arguments that matter arrays of real numbers. -/
theorem reals (z : Vec Ideal S8192x1024 .f32) (g b : Vec Ideal S1024 .f32) (d : Vec Ideal S8192x1024 .f32)
    (h : Cert.Pre_finite_ln.fn (F := Ideal) z g b d = fun _ => 1#1) :
    (∃ r : S8192x1024.Idx → ℝ, z = fun i => (r i : EReal)) ∧ (∃ r : S1024.Idx → ℝ, g = fun i => (r i : EReal))
      ∧ ∃ r : S8192x1024.Idx → ℝ, d = fun i => (r i : EReal) := by
  have h0 := congrFun h (fun a => a.elim0)
  unfold Cert.Pre_finite_ln.fn at h0
  obtain ⟨h1, h2⟩ := Finite.both h0
  obtain ⟨h3, h4⟩ := Finite.both h1
  exact ⟨Finite.reals _ _ h3, Finite.reals _ _ h4, Finite.reals _ _ h2⟩

/-- The closed form and the chain rule give the same gradient of the activation, on real numbers. -/
theorem dz_real (rz : S8192x1024.Idx → ℝ) (rg : S1024.Idx → ℝ) (rd : S8192x1024.Idx → ℝ) :
    Cert.LnReferenceIdeal.Read.val_main_v62 (F := Ideal) (fun i => (rz i : EReal)) (fun i => (rg i : EReal)) (fun i => (rd i : EReal))
      = dz (fun i => (rz i : EReal)) (fun i => (rg i : EReal)) (fun i => (rd i : EReal)) := by
  funext i
  idx_vars i
  rw [ref_dz]
  have e2 : dxRow (fun i => (rg i : EReal)) (fun i => (rd i : EReal)) i0 = fun k => ((rd (ix2 i0 k) * rg (ix1 k) : ℝ) : EReal) :=
    funext fun k => (EReal.coe_mul _ _).symm
  show _ = closed (zRow (fun i => (rz i : EReal)) i0) (dxRow (fun i => (rg i : EReal)) (fun i => (rd i : EReal)) i0) i1
  rw [e2]
  exact (congrFun (closed_eq_chained (fun k => rz (ix2 i0 k)) _) _).symm

theorem dz_eq (z : Vec Ideal S8192x1024 .f32) (g b : Vec Ideal S1024 .f32) (d : Vec Ideal S8192x1024 .f32)
    (h : Cert.Pre_finite_ln.fn (F := Ideal) z g b d = fun _ => 1#1) : Cert.LnReferenceIdeal.Read.val_main_v62 (F := Ideal) z g d = dz z g d := by
  obtain ⟨⟨rz, rfl⟩, ⟨rg, rfl⟩, ⟨rd, rfl⟩⟩ := reals z g b d h
  exact dz_real rz rg rd

/-- The reference runs to its end, its arguments unchanged; it declares no semaphore. -/
theorem frame_reference (m : (ℓ : Loc Cert.LnReferenceIdeal.nD Cert.LnReferenceIdeal.τ Cert.LnReferenceIdeal.sig) → Buf (Elt Ideal) ℓ)
    (ρ : Dev Cert.LnReferenceIdeal.nD → PrngReg) : θ_run (Cert.LnReferenceIdeal.defs (F := Ideal)) (onTc (τ := Cert.LnReferenceIdeal.τ) (Cert.LnReferenceIdeal.main (F := Ideal)))
      ⟨m, fun _ => 0, ρ⟩ (fun r => (∀ c : Dev Cert.LnReferenceIdeal.nD,
        r.2.mem (c.tc.loc Cert.LnReferenceIdeal.main_arg0) = m (c.tc.loc Cert.LnReferenceIdeal.main_arg0)
        ∧ r.2.mem (c.tc.loc Cert.LnReferenceIdeal.main_arg1) = m (c.tc.loc Cert.LnReferenceIdeal.main_arg1)
        ∧ r.2.mem (c.tc.loc Cert.LnReferenceIdeal.main_arg2) = m (c.tc.loc Cert.LnReferenceIdeal.main_arg2)
        ∧ r.2.mem (c.tc.loc Cert.LnReferenceIdeal.main_arg3) = m (c.tc.loc Cert.LnReferenceIdeal.main_arg3)) ∧ r.2.sem = fun _ => 0) :=
  (θ_run _ _ _).mono (fun _ h => ⟨fun c => (h c).2.2.2.2, sem_eq_zero_of_no_sems (by decide) _⟩) (Cert.LnReferenceIdeal.Value.run m ρ)

/-- The reference's narrower result is its first one: over the reals the same. -/
theorem ref_dz16 (z : Vec Ideal S8192x1024 .f32) (g : Vec Ideal S1024 .f32) (d : Vec Ideal S8192x1024 .f32) :
    Cert.LnReferenceIdeal.Read.val_main_v63 (F := Ideal) z g d = Cert.LnReferenceIdeal.Read.val_main_v62 (F := Ideal) z g d := by
  funext i
  pointwise [Cert.LnReferenceIdeal.Read.val_main_v63]

/-- The kernel's four results are the reference's. -/
theorem algebraic : algebraic_LnKernelIdeal_LnReferenceIdeal_pre_finite_ln := by
  pair_intro
  · run_from Cert.LnKernelIdeal.Value.run_blocks m g
  · run_from Cert.LnReferenceIdeal.Value.run m' g'
    · rw [Cert.LnReferenceIdeal.Read.val_main_v62_eq, (hagree c).1, (hagree c).2.1, (hagree c).2.2.2, final_dz]
      exact dz_eq _ _ _ _ (hpre c)
    · rw [Cert.LnReferenceIdeal.Read.val_main_v63_eq, (hagree c).1, (hagree c).2.1, (hagree c).2.2.2, final_dz16, ref_dz16]
      exact dz_eq _ _ _ _ (hpre c)
    · refine (Cert.LnReferenceIdeal.Read.val_main_v64_eq _ _).trans ?_
      rw [final_dg]
      funext i
      idx_vars i
      exact ref_dg _ _ _ _
    · refine (Cert.LnReferenceIdeal.Read.val_main_v65_eq _).trans ?_
      rw [final_db]
      funext i
      idx_vars i
      exact ref_db _ _ _

end Cert.LnValue

end
-- ==== Proof.ConvMath.lean ====
/- A causal convolution of three taps along a sequence, and its gradients: shifts of a sequence up and down with zeros
   filled in, as the kernels rotate and mask them. -/
module

public import proofs.«01_k».proof.Proof.Lift
public import Idealize.ShloMosaic.Lib.WordCmp

@[expose] public section

noncomputable section

open Idealize.ShloMosaic

namespace Cert.ConvMath

/-- A sequence of 2048 places. -/
abbrev Sq := Fin 2048 → EReal

/-- The sequence `k` places later, zeros in front. -/
def dn (x : Sq) (k : ℕ) : Sq := fun t => if h : k ≤ t.val then x ⟨t.val - k, by omega⟩ else 0
/-- The sequence `k` places earlier, zeros behind. -/
def up (x : Sq) (k : ℕ) : Sq := fun t => if h : t.val + k < 2048 then x ⟨t.val + k, h⟩ else 0

theorem up_zero (x : Sq) : up x 0 = x := by
  funext t
  unfold up
  rw [dif_pos (by omega)]; rfl
theorem dn_zero (x : Sq) : dn x 0 = x := by
  funext t
  unfold dn
  rw [dif_pos (Nat.zero_le _)]; rfl

/-- The convolution's output. -/
def conv (p : Sq) (w : Fin 3 → EReal) (b : EReal) : Sq := fun t => dn p 2 t * w 0 + b + dn p 1 t * w 1 + p t * w 2
/-- The gradient of its input. -/
def dconv (u : Sq) (w : Fin 3 → EReal) : Sq := fun t => up u 2 t * w 0 + up u 1 t * w 1 + u t * w 2
/-- The gradient of the `k`-th tap. -/
def dtap (u p : Sq) (k : Fin 3) : EReal := ∑ t, up u (2 - k.val) t * p t

/-- Shifting the cotangent earlier or the input later pairs the same places. -/
theorem sum_up_mul (u p : Sq) (k : ℕ) : ∑ t, up u k t * p t = ∑ t, dn p k t * u t := by
  have e1 : ∀ t : Fin 2048, up u k t * p t = ∑ s : Fin 2048, if s.val = t.val + k then u s * p t else 0 := by
    intro t
    unfold up
    split_ifs with h
    · rw [Finset.sum_eq_single (⟨t.val + k, h⟩ : Fin 2048) (fun s _ hs => if_neg fun e => hs (Fin.ext e)) (fun h' => absurd (Finset.mem_univ _) h')]
      exact (if_pos rfl).symm
    · rw [zero_mul, Finset.sum_eq_zero]
      exact fun s _ => if_neg fun e => h (by have := s.isLt; omega)
  have e2 : ∀ s : Fin 2048, dn p k s * u s = ∑ t : Fin 2048, if s.val = t.val + k then u s * p t else 0 := by
    intro s
    unfold dn
    split_ifs with h
    · rw [Finset.sum_eq_single (⟨s.val - k, by omega⟩ : Fin 2048) (fun t _ ht => if_neg fun e => ht (Fin.ext (by dsimp only; omega)))
        (fun h' => absurd (Finset.mem_univ _) h')]
      rw [if_pos (by dsimp only; omega)]
      exact mul_comm _ _
    · rw [zero_mul, Finset.sum_eq_zero]
      exact fun t _ => if_neg fun e => h (by omega)
  simp only [e1, e2]
  exact Finset.sum_comm

/-- The tap's gradient as the reference sums it. -/
theorem dtap_eq (u p : Sq) (k : Fin 3) : dtap u p k = ∑ t, dn p (2 - k.val) t * u t := sum_up_mul u p _

/-! ## The kernels' shifts -/

variable {n : ℕ}

/-- A block of `n` sequences side by side. -/
abbrev Blk (n : ℕ) : Shape := ⟨2, ![2048, n]⟩

/-- An index rotated back along the sequence. -/
theorem rot_ix (k : ℕ) (hk : k < 2048) (t : Fin 2048) (l : Fin n) (s : Fin 2048) (hs : s.val = (t.val + 2048 - k) % 2048)
    (hb : ∀ b : Fin (Blk n).rank, ((ix2 t l b).val + ![2048, n] b - (BitVec.ofNat 32 k).toNat % ![2048, n] b) % ![2048, n] b < (Blk n).size b) :
    (Shape.Idx.norm (fun b : Fin (Blk n).rank => if b = 0 then (⟨((ix2 t l b).val + ![2048, n] b - (BitVec.ofNat 32 k).toNat % ![2048, n] b) % ![2048, n] b, hb b⟩ : Fin _)
      else ix2 t l b) : (Blk n).Idx) = ix2 s l := by
  funext b
  refine Fin.ext ?_
  fin_cases b
  · show (t.val + 2048 - k % 2 ^ 32 % 2048) % 2048 = s.val
    rw [Nat.mod_eq_of_lt (show k < 2 ^ 32 by omega), Nat.mod_eq_of_lt hk, hs]
  · rfl

/-- Rotating by `k` and masking the first `k` places shifts later. -/
theorem shift_dn (k : ℕ) (hk : k < 2048) (x : FVec Ideal (Blk n) .f32) (h1) (h2) (t : Fin 2048) (l : Fin n) :
    select (cmpi .sge (iota .tc (Blk n) 32 [0] h1) (broadcast (Blk n) (BitVec.ofNat 32 k))) (dynamicRotate 0 (BitVec.ofNat 32 k) none x h2)
      (broadcast (Blk n) (Scalar.ofBits (F := Ideal) .f32 0x00000000#32)) (ix2 t l) = dn (fun t => x (ix2 t l)) k t := by
  pointwise
  rw [WordCmp.cmpi_sge_ofNat (by have := t.isLt; omega) (by omega), rot_ix k hk t l ⟨(t.val + 2048 - k) % 2048, Nat.mod_lt _ (by decide)⟩ rfl]
  unfold dn
  have ht := t.isLt
  by_cases h : k ≤ t.val
  · rw [dif_pos h]
    simp only [h, decide_true, BitVec.ofBool_true, Scalar.select]
    exact congrArg (fun s => x (ix2 s l)) (Fin.ext (by dsimp only; omega))
  · rw [dif_neg h]
    simp only [h, decide_false]
    rfl

/-- Rotating by all but `k` and masking the last `k` places shifts earlier. -/
theorem shift_up (r : ℕ) (k : ℕ) (hr : r + k = 2048) (hk : 0 < k) (x : FVec Ideal (Blk n) .f32) (h1) (h2) (t : Fin 2048) (l : Fin n) :
    select (cmpi .slt (iota .tc (Blk n) 32 [0] h1) (broadcast (Blk n) (BitVec.ofNat 32 r))) (dynamicRotate 0 (BitVec.ofNat 32 r) none x h2)
      (broadcast (Blk n) (Scalar.ofBits (F := Ideal) .f32 0x00000000#32)) (ix2 t l) = up (fun t => x (ix2 t l)) k t := by
  pointwise
  rw [WordCmp.cmpi_slt_ofNat (by have := t.isLt; omega) (by omega), rot_ix r (by omega) t l ⟨(t.val + 2048 - r) % 2048, Nat.mod_lt _ (by decide)⟩ rfl]
  unfold up
  have ht := t.isLt
  by_cases h : t.val + k < 2048
  · rw [dif_pos h, show decide (t.val < r) = true from decide_eq_true (by omega)]
    exact congrArg (fun s => x (ix2 s l)) (Fin.ext (by dsimp only; omega))
  · rw [dif_neg h, show decide (t.val < r) = false from decide_eq_false (by omega)]
    rfl

end Cert.ConvMath

end
-- ==== Proof.ScRun.lean ====
module

public import proofs.«01_k».proof.Proof.Gen.ScKernelIdeal.Skeleton
public import proofs.«01_k».proof.Proof.Gen.ScKernelIdeal.Frame
public import Idealize.ShloMosaic.Lib.VecWindow
public import Idealize.ShloMosaic.Lib.Claim

@[expose] public section

set_option maxRecDepth 16384

noncomputable section

namespace Cert.ScRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.ScKernelIdeal Cert.ScKernelIdeal.Gen

variable {F : FTy → Type} [FloatOps F]

local notation "𝕄" => MT nD τ sig Unit (Elt F) ℕ (UR sig nD τ) ℕ

section Body

variable (c : Dev nD) (i : grid0.Coords)
  (gb : Memref sig .tc .vmem S1x2048x256 .f32) (hgb : gb.IsWhole) (gc : Memref sig .tc .vmem S1x2048x256 .f32) (hgc : gc.IsWhole)
  (v : Memref sig .tc .vmem S1x2048x256 .f32) (hv : v.IsWhole) (dq : Memref sig .tc .vmem S1x2048x256 .f32) (hdq : dq.IsWhole)
  (w : Memref sig .tc .vmem S3x256 .f32) (hw : w.IsWhole) (b : Memref sig .tc .vmem S1x256 .f32) (hb : b.IsWhole)
  (dh : Memref sig .tc .vmem S1x2048x256 .bf16) (hdh : dh.IsWhole) (dw : Memref sig .tc .vmem S3x256 .f32) (hdw : dw.IsWhole)
  (db : Memref sig .tc .vmem S1x256 .f32) (hdb : db.IsWhole) (parts : Memref sig .tc .vmem S3x2048x256 .bf16) (hparts : parts.IsWhole)
  (x0 x1 x2 x3 : Vec F S1x2048x256 .f32) (x4 : Vec F S3x256 .f32) (x5 : Vec F S1x256 .f32)

/-- The six inputs held at their contents. -/
abbrev Inputs : sProp 𝕄 :=
  iprop(owns (c : Thread nD τ) gb fullShare x0 ∗ owns (c : Thread nD τ) gc fullShare x1 ∗ owns (c : Thread nD τ) v fullShare x2
    ∗ owns (c : Thread nD τ) dq fullShare x3 ∗ owns (c : Thread nD τ) w fullShare x4 ∗ owns (c : Thread nD τ) b fullShare x5)

/-- One part of the saved strip, as the body hands it out. -/
def handed (i : grid0.Coords) (xs : Vec F S3x2048x256 .bf16) : Vec F S1x2048x256 .bf16 :=
  k0_pay10 (View.ld xs (Rect.unit (s := S3x2048x256) (k0_off1 i) S1x2048x256.size (k0_off1_inb i)))

/-- The first half of the lanes of a strip. -/
abbrev lo (x : Vec F S1x2048x256 .f32) : Vec F S1x2048x128 .f32 :=
  View.ld x (Rect.unit (s := S1x2048x256) ![0, 0, 0] S1x2048x128.size inb_S1x2048x256_S1x2048x128_0_0_0)
/-- The second half of the lanes of a strip. -/
abbrev hi (x : Vec F S1x2048x256 .f32) : Vec F S1x2048x128 .f32 :=
  View.ld x (Rect.unit (s := S1x2048x256) ![0, 0, 128] S1x2048x128.size inb_S1x2048x256_S1x2048x128_0_0_128)
abbrev loW (x : Vec F S3x256 .f32) : Vec F S3x128 .f32 :=
  View.ld x (Rect.unit (s := S3x256) ![0, 0] S3x128.size inb_S3x256_S3x128_0_0)
abbrev hiW (x : Vec F S3x256 .f32) : Vec F S3x128 .f32 :=
  View.ld x (Rect.unit (s := S3x256) ![0, 128] S3x128.size inb_S3x256_S3x128_0_128)
abbrev loB (x : Vec F S1x256 .f32) : Vec F S1x128 .f32 :=
  View.ld x (Rect.unit (s := S1x256) ![0, 0] S1x128.size inb_S1x256_S1x128_0_0)
abbrev hiB (x : Vec F S1x256 .f32) : Vec F S1x128 .f32 :=
  View.ld x (Rect.unit (s := S1x256) ![0, 128] S1x128.size inb_S1x256_S1x128_0_128)

/-- The convolution's output, half by half. -/
abbrev convLo (x1 x2 : Vec F S1x2048x256 .f32) (x4 : Vec F S3x256 .f32) (x5 : Vec F S1x256 .f32) : FVec F S2048x128 .f32 :=
  k0_pay15 (lo x1) (lo x2) (loW x4) (loB x5)
abbrev convHi (x1 x2 : Vec F S1x2048x256 .f32) (x4 : Vec F S3x256 .f32) (x5 : Vec F S1x256 .f32) : FVec F S2048x128 .f32 :=
  k0_pay39 (hiW x4) (k0_pay36 (hi x1) (hi x2)) (k0_pay37 (hiB x5)) (k0_pay38 (hi x1) (hi x2))
/-- The convolution's cotangent, half by half. -/
abbrev duLo (x0 x3 : Vec F S1x2048x256 .f32) : FVec F S2048x128 .f32 := k0_pay16 (lo x0) (lo x3)
abbrev duHi (x0 x3 : Vec F S1x2048x256 .f32) : FVec F S2048x128 .f32 := k0_pay40 (k0_pay32 (hi x0)) (k0_pay35 (hi x3))
/-- The gradient of the convolution's input, second half. -/
abbrev dpHi (x0 x3 : Vec F S1x2048x256 .f32) (x4 : Vec F S3x256 .f32) : FVec F S2048x128 .f32 :=
  k0_pay43 (k0_pay32 (hi x0)) (k0_pay35 (hi x3)) (hiW x4)

/-- The three parts of the input's gradient the body saves. -/
def savedPieces : List (View.Piece (Elt F) S3x2048x256 .bf16) :=
  [⟨Rect.unit (s := S3x2048x256) ![2, 0, 128] S1x2048x128.size inb_S3x2048x256_S1x2048x128_2_0_128, k0_pay4 (k0_pay33 (hi x1)) (dpHi x0 x3 x4)⟩,
   ⟨Rect.unit (s := S3x2048x256) ![1, 0, 128] S1x2048x128.size inb_S3x2048x256_S1x2048x128_1_0_128, k0_pay3 (k0_pay34 (hi x2)) (dpHi x0 x3 x4)⟩,
   ⟨Rect.unit (s := S3x2048x256) ![0, 0, 128] S1x2048x128.size inb_S3x2048x256_S1x2048x128_0_0_128, k0_pay2 (k0_pay35 (hi x3)) (convHi x1 x2 x4 x5)⟩,
   ⟨Rect.unit (s := S3x2048x256) ![2, 0, 0] S1x2048x128.size inb_S3x2048x256_S1x2048x128_2_0_0, k0_pay26 (k0_pay25 (k0_pay11 (lo x1)) (loW x4) (duLo x0 x3))⟩,
   ⟨Rect.unit (s := S3x2048x256) ![1, 0, 0] S1x2048x128.size inb_S3x2048x256_S1x2048x128_1_0_0, k0_pay24 (k0_pay12 (lo x2)) (loW x4) (duLo x0 x3)⟩,
   ⟨Rect.unit (s := S3x2048x256) ![0, 0, 0] S1x2048x128.size inb_S3x2048x256_S1x2048x128_0_0_0, k0_pay23 (k0_pay13 (lo x3)) (convLo x1 x2 x4 x5)⟩]
def saved : Vec F S3x2048x256 .bf16 := View.canon (savedPieces x0 x1 x2 x3 x4 x5)

/-- The weights' gradient over one sequence. -/
def dwPieces : List (View.Piece (Elt F) S3x256 .f32) :=
  [⟨Rect.unit (s := S3x256) ![2, 128] S1x128.size inb_S3x256_S1x128_2_128, k0_pay1 (k0_pay36 (hi x1) (hi x2)) (duHi x0 x3)⟩,
   ⟨Rect.unit (s := S3x256) ![1, 128] S1x128.size inb_S3x256_S1x128_1_128, k0_pay45 (k0_pay32 (hi x0)) (k0_pay35 (hi x3)) (k0_pay36 (hi x1) (hi x2))⟩,
   ⟨Rect.unit (s := S3x256) ![0, 128] S1x128.size inb_S3x256_S1x128_0_128, k0_pay44 (k0_pay32 (hi x0)) (k0_pay35 (hi x3)) (k0_pay36 (hi x1) (hi x2))⟩,
   ⟨Rect.unit (s := S3x256) ![2, 0] S1x128.size inb_S3x256_S1x128_2_0, k0_pay22 (k0_pay14 (lo x1) (lo x2)) (duLo x0 x3)⟩,
   ⟨Rect.unit (s := S3x256) ![1, 0] S1x128.size inb_S3x256_S1x128_1_0, k0_pay21 (k0_pay14 (lo x1) (lo x2)) (duLo x0 x3)⟩,
   ⟨Rect.unit (s := S3x256) ![0, 0] S1x128.size inb_S3x256_S1x128_0_0, k0_pay20 (k0_pay14 (lo x1) (lo x2)) (duLo x0 x3)⟩]
def dwFirst : Vec F S3x256 .f32 := View.canon (dwPieces x0 x1 x2 x3)
/-- The bias's gradient over one sequence. -/
def dbPieces : List (View.Piece (Elt F) S1x256 .f32) :=
  [⟨Rect.unit (s := S1x256) ![0, 128] S1x128.size inb_S1x256_S1x128_0_128, k0_pay5 (duHi x0 x3)⟩,
   ⟨Rect.unit (s := S1x256) ![0, 0] S1x128.size inb_S1x256_S1x128_0_0, k0_pay27 (duLo x0 x3)⟩]
def dbFirst : Vec F S1x256 .f32 := View.canon (dbPieces x0 x3)

theorem saved_cover : ∀ y, ∃ p ∈ savedPieces x0 x1 x2 x3 x4 x5, y ∈ p.1.set :=
  View.cover_of_tiledL _ S1x2048x128.size (by sl_kernel_rfl)
theorem dw_cover : ∀ y, ∃ p ∈ dwPieces x0 x1 x2 x3, y ∈ p.1.set :=
  View.cover_of_tiledL _ S1x128.size (by sl_kernel_rfl)
theorem db_cover : ∀ y, ∃ p ∈ dbPieces x0 x3, y ∈ p.1.set :=
  View.cover_of_tiledL _ S1x128.size (by sl_kernel_rfl)

/-- The weights' gradient over one sequence, added to what is there. -/
def dwMorePieces (xw : Vec F S3x256 .f32) : List (View.Piece (Elt F) S3x256 .f32) :=
  [⟨Rect.unit (s := S3x256) ![2, 128] S1x128.size inb_S3x256_S1x128_2_128, k0_pay8 (k0_pay36 (hi x1) (hi x2)) (duHi x0 x3)
      (View.ld xw (Rect.unit (s := S3x256) ![2, 128] S1x128.size inb_S3x256_S1x128_2_128))⟩,
   ⟨Rect.unit (s := S3x256) ![1, 128] S1x128.size inb_S3x256_S1x128_1_128, k0_pay7 (k0_pay45 (k0_pay32 (hi x0)) (k0_pay35 (hi x3)) (k0_pay36 (hi x1) (hi x2)))
      (View.ld xw (Rect.unit (s := S3x256) ![1, 128] S1x128.size inb_S3x256_S1x128_1_128))⟩,
   ⟨Rect.unit (s := S3x256) ![0, 128] S1x128.size inb_S3x256_S1x128_0_128, k0_pay6 (k0_pay44 (k0_pay32 (hi x0)) (k0_pay35 (hi x3)) (k0_pay36 (hi x1) (hi x2)))
      (View.ld xw (Rect.unit (s := S3x256) ![0, 128] S1x128.size inb_S3x256_S1x128_0_128))⟩,
   ⟨Rect.unit (s := S3x256) ![2, 0] S1x128.size inb_S3x256_S1x128_2_0, k0_pay30 (k0_pay22 (k0_pay14 (lo x1) (lo x2)) (duLo x0 x3))
      (View.ld xw (Rect.unit (s := S3x256) ![2, 0] S1x128.size inb_S3x256_S1x128_2_0))⟩,
   ⟨Rect.unit (s := S3x256) ![1, 0] S1x128.size inb_S3x256_S1x128_1_0, k0_pay29 (k0_pay21 (k0_pay14 (lo x1) (lo x2)) (duLo x0 x3))
      (View.ld xw (Rect.unit (s := S3x256) ![1, 0] S1x128.size inb_S3x256_S1x128_1_0))⟩,
   ⟨Rect.unit (s := S3x256) ![0, 0] S1x128.size inb_S3x256_S1x128_0_0, k0_pay28 (k0_pay20 (k0_pay14 (lo x1) (lo x2)) (duLo x0 x3))
      (View.ld xw (Rect.unit (s := S3x256) ![0, 0] S1x128.size inb_S3x256_S1x128_0_0))⟩]
def dwMore (xw : Vec F S3x256 .f32) : Vec F S3x256 .f32 := View.canon (dwMorePieces x0 x1 x2 x3 xw)
/-- The bias's gradient over one sequence, added to what is there. -/
def dbMorePieces (xb : Vec F S1x256 .f32) : List (View.Piece (Elt F) S1x256 .f32) :=
  [⟨Rect.unit (s := S1x256) ![0, 128] S1x128.size inb_S1x256_S1x128_0_128, k0_pay9 (duHi x0 x3) (hiB xb)⟩,
   ⟨Rect.unit (s := S1x256) ![0, 0] S1x128.size inb_S1x256_S1x128_0_0, k0_pay31 (duLo x0 x3) (loB xb)⟩]
def dbMore (xb : Vec F S1x256 .f32) : Vec F S1x256 .f32 := View.canon (dbMorePieces x0 x3 xb)

theorem dwMore_cover (xw : Vec F S3x256 .f32) : ∀ y, ∃ p ∈ dwMorePieces x0 x1 x2 x3 xw, y ∈ p.1.set :=
  View.cover_of_tiledL _ S1x128.size (by sl_kernel_rfl)
theorem dbMore_cover (xb : Vec F S1x256 .f32) : ∀ y, ∃ p ∈ dbMorePieces x0 x3 xb, y ∈ p.1.set :=
  View.cover_of_tiledL _ S1x128.size (by sl_kernel_rfl)

/-- The inputs' buffers, at raw contents, are the inputs held at what those read. -/
theorem inputs_back (f0 : gb.view.ty.Contents (Elt F)) (f1 : gc.view.ty.Contents (Elt F)) (f2 : v.view.ty.Contents (Elt F))
    (f3 : dq.view.ty.Contents (Elt F)) (f4 : w.view.ty.Contents (Elt F)) (f5 : b.view.ty.Contents (Elt F)) :
    iprop((gb.view.loc (c : Thread nD τ) ↦[gb.view.set]{fullShare} f0) ∗ (gc.view.loc (c : Thread nD τ) ↦[gc.view.set]{fullShare} f1)
        ∗ (v.view.loc (c : Thread nD τ) ↦[v.view.set]{fullShare} f2) ∗ (dq.view.loc (c : Thread nD τ) ↦[dq.view.set]{fullShare} f3)
        ∗ (w.view.loc (c : Thread nD τ) ↦[w.view.set]{fullShare} f4) ∗ (b.view.loc (c : Thread nD τ) ↦[b.view.set]{fullShare} f5))
      ⊢ (Inputs c gb gc v dq w b (gb.view.read (Elt F) f0) (gc.view.read (Elt F) f1) (v.view.read (Elt F) f2) (dq.view.read (Elt F) f3)
          (w.view.read (Elt F) f4) (b.view.read (Elt F) f5) : sProp 𝕄) := by
  unfold Inputs owns
  iintro ⟨H0, H1, H2, H3, H4, H5⟩
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H5
  ipureintro; rfl

set_option maxHeartbeats 1000000 in
theorem run_rest (hc : ¬ k0_cond1 i = 1#1) (xs : Vec F S3x2048x256 .bf16) (xw : Vec F S3x256 .f32) (xb : Vec F S1x256 .f32)
    (E : Set ℕ) (K : PUnit → sProp 𝕄) :
    iprop(Inputs c gb gc v dq w b x0 x1 x2 x3 x4 x5 ∗ (∃ d, owns (c : Thread nD τ) dh fullShare d) ∗ owns (c : Thread nD τ) dw fullShare xw
        ∗ owns (c : Thread nD τ) db fullShare xb ∗ owns (c : Thread nD τ) parts fullShare xs
        ∗ (iprop(Inputs c gb gc v dq w b x0 x1 x2 x3 x4 x5 ∗ owns (c : Thread nD τ) dh fullShare (handed i xs)
            ∗ owns (c : Thread nD τ) dw fullShare xw ∗ owns (c : Thread nD τ) db fullShare xb ∗ owns (c : Thread nD τ) parts fullShare xs) -∗ K ⟨⟩))
      ⊢ wp frame (wpE (defs₀ (F := F)) Variants.none c none) E
          (cc0_sc_mix_bwd i gb hgb gc hgc v hv dq hdq w hw b hb dh hdh dw hdw db hdb parts hparts) K := by
  simp only [cc0_sc_mix_bwd_eq_skeleton]; unfold cc0_sc_mix_bwd_skel
  unfold Inputs owns
  iintro ⟨HI, ⟨%d6, %f6, -, H6⟩, HW, HB, ⟨%fs, %hfs, HS⟩, Hk⟩
  subst hfs
  sl_exec (disch := first | sl_exact hc)
  sl_step
  iapply Hk
  isplitl [HI]; · iexact HI
  isplitl [H6]
  · iexists _; isplitr; swap; · iexact H6
    ipureintro
    exact View.read_writes_full dh.view f6 inb_S1x2048x256_S1x2048x256_0_0_0 _ []
  isplitl [HW]; · iexact HW
  isplitl [HB]; · iexact HB
  iexists _; isplitr; swap; · iexact HS
  ipureintro; rfl

set_option maxHeartbeats 4000000 in
theorem run_first (hc0 : k0_cond1 i = 1#1) (hc1 : k0_cond2 i = 1#1) (hc2 : ¬ k0_cond3 i = 1#1) (hc3 : k0_cond4 i = 1#1) (hc4 : ¬ k0_cond5 i = 1#1)
    (E : Set ℕ) (K : PUnit → sProp 𝕄) :
    iprop(Inputs c gb gc v dq w b x0 x1 x2 x3 x4 x5 ∗ (∃ d, owns (c : Thread nD τ) dh fullShare d) ∗ (∃ d, owns (c : Thread nD τ) dw fullShare d)
        ∗ (∃ d, owns (c : Thread nD τ) db fullShare d) ∗ (∃ d, owns (c : Thread nD τ) parts fullShare d)
        ∗ (iprop(Inputs c gb gc v dq w b x0 x1 x2 x3 x4 x5 ∗ owns (c : Thread nD τ) dh fullShare (handed i (saved x0 x1 x2 x3 x4 x5))
            ∗ owns (c : Thread nD τ) dw fullShare (dwFirst x0 x1 x2 x3) ∗ owns (c : Thread nD τ) db fullShare (dbFirst x0 x3)
            ∗ owns (c : Thread nD τ) parts fullShare (saved x0 x1 x2 x3 x4 x5)) -∗ K ⟨⟩))
      ⊢ wp frame (wpE (defs₀ (F := F)) Variants.none c none) E
          (cc0_sc_mix_bwd i gb hgb gc hgc v hv dq hdq w hw b hb dh hdh dw hdw db hdb parts hparts) K := by
  simp only [cc0_sc_mix_bwd_eq_skeleton]; unfold cc0_sc_mix_bwd_skel
  simp only [k0_part1_eq_skeleton, k0_part2_eq_skeleton, k0_part3_eq_skeleton, k0_part4_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%ds, %fs, -, HS⟩, Hk⟩
  subst hf0 hf1 hf2 hf3 hf4 hf5
  sl_exec (disch := first | sl_exact hc0 | sl_exact hc1 | sl_exact hc2 | sl_exact hc3 | sl_exact hc4)
  sl_step
  iapply Hk
  isplitl [H0 H1 H2 H3 H4 H5]
  · iapply inputs_back
    isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro
    refine (View.read_writes_full dh.view f6 inb_S1x2048x256_S1x2048x256_0_0_0 _ []).trans ?_
    exact congrArg k0_pay10 (View.readCov_eq_canon_ld parts.view _ _ (saved_cover _ _ _ _ _ _))
  isplitl [H7]
  · iexists _; isplitr; swap; · iexact H7
    ipureintro
    exact View.read_writes_eq_canon dw.view f7 _ (dw_cover _ _ _ _)
  isplitl [H8]
  · iexists _; isplitr; swap; · iexact H8
    ipureintro
    exact View.read_writes_eq_canon db.view f8 _ (db_cover _ _)
  iexists _; isplitr; swap; · iexact HS
  ipureintro
  exact View.read_writes_eq_canon parts.view _ _ (saved_cover _ _ _ _ _ _)

set_option maxHeartbeats 4000000 in
theorem run_next (hc0 : k0_cond1 i = 1#1) (hc1 : ¬ k0_cond2 i = 1#1) (hc2 : k0_cond3 i = 1#1) (hc3 : ¬ k0_cond4 i = 1#1) (hc4 : k0_cond5 i = 1#1)
    (xw : Vec F S3x256 .f32) (xb : Vec F S1x256 .f32)
    (E : Set ℕ) (K : PUnit → sProp 𝕄) :
    iprop(Inputs c gb gc v dq w b x0 x1 x2 x3 x4 x5 ∗ (∃ d, owns (c : Thread nD τ) dh fullShare d) ∗ owns (c : Thread nD τ) dw fullShare xw
        ∗ owns (c : Thread nD τ) db fullShare xb ∗ (∃ d, owns (c : Thread nD τ) parts fullShare d)
        ∗ (iprop(Inputs c gb gc v dq w b x0 x1 x2 x3 x4 x5 ∗ owns (c : Thread nD τ) dh fullShare (handed i (saved x0 x1 x2 x3 x4 x5))
            ∗ owns (c : Thread nD τ) dw fullShare (dwMore x0 x1 x2 x3 xw) ∗ owns (c : Thread nD τ) db fullShare (dbMore x0 x3 xb)
            ∗ owns (c : Thread nD τ) parts fullShare (saved x0 x1 x2 x3 x4 x5)) -∗ K ⟨⟩))
      ⊢ wp frame (wpE (defs₀ (F := F)) Variants.none c none) E
          (cc0_sc_mix_bwd i gb hgb gc hgc v hv dq hdq w hw b hb dh hdh dw hdw db hdb parts hparts) K := by
  simp only [cc0_sc_mix_bwd_eq_skeleton]; unfold cc0_sc_mix_bwd_skel
  simp only [k0_part1_eq_skeleton, k0_part2_eq_skeleton, k0_part3_eq_skeleton, k0_part4_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%ds, %fs, -, HS⟩, Hk⟩
  subst hf0 hf1 hf2 hf3 hf4 hf5 hf7 hf8
  sl_exec (disch := first | sl_exact hc0 | sl_exact hc1 | sl_exact hc2 | sl_exact hc3 | sl_exact hc4)
  sl_step
  iapply Hk
  isplitl [H0 H1 H2 H3 H4 H5]
  · iapply inputs_back
    isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro
    refine (View.read_writes_full dh.view f6 inb_S1x2048x256_S1x2048x256_0_0_0 _ []).trans ?_
    exact congrArg k0_pay10 (View.readCov_eq_canon_ld parts.view _ _ (saved_cover _ _ _ _ _ _))
  isplitl [H7]
  · iexists _; isplitr; swap; · iexact H7
    ipureintro
    exact View.read_writes_eq_canon dw.view f7 _ (dwMore_cover _ _ _ _ _)
  isplitl [H8]
  · iexists _; isplitr; swap; · iexact H8
    ipureintro
    exact View.read_writes_eq_canon db.view f8 _ (dbMore_cover _ _ _)
  iexists _; isplitr; swap; · iexact HS
  ipureintro
  exact View.read_writes_eq_canon parts.view _ _ (saved_cover _ _ _ _ _ _)

end Body
end Cert.ScRun
end
-- ==== Proof.ScFrame.lean ====
/- The short convolution's gradient kernel: what the pipeline leaves in its three results, at any values. -/
module

public import proofs.«01_k».proof.Proof.ScRun

@[expose] public section

set_option maxRecDepth 16384

noncomputable section

namespace Cert.ScFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ScKernelIdeal Cert.ScKernelIdeal.Gen Cert.ScRun

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The branches -/

theorem part_zero (t : Fin cfg0.N) : k0_cond1 (grid0.coords t) = 1#1 ↔ t.val % 3 = 0 :=
  (by decide +kernel : ∀ t : Fin grid0.N, k0_cond1 (grid0.coords t) = 1#1 ↔ t.val % 3 = 0) t

theorem fresh (t : Fin cfg0.N) : (k0_cond2 (grid0.coords t) = 1#1 ↔ t.val / 3 % 4 = 0) ∧ (k0_cond3 (grid0.coords t) = 1#1 ↔ ¬ t.val / 3 % 4 = 0)
    ∧ (k0_cond4 (grid0.coords t) = 1#1 ↔ t.val / 3 % 4 = 0) ∧ (k0_cond5 (grid0.coords t) = 1#1 ↔ ¬ t.val / 3 % 4 = 0) :=
  (by decide +kernel : ∀ t : Fin grid0.N, (k0_cond2 (grid0.coords t) = 1#1 ↔ t.val / 3 % 4 = 0) ∧ (k0_cond3 (grid0.coords t) = 1#1 ↔ ¬ t.val / 3 % 4 = 0)
    ∧ (k0_cond4 (grid0.coords t) = 1#1 ↔ t.val / 3 % 4 = 0) ∧ (k0_cond5 (grid0.coords t) = 1#1 ↔ ¬ t.val / 3 % 4 = 0)) t

/-! ## What is held from point to point -/

/-- The first of the three points of the `q`-th strip. -/
def head (q : ℕ) : Fin cfg0.N := ⟨3 * q % 48, by rw [show cfg0.N = 48 from N_0]; exact Nat.mod_lt _ (by decide)⟩

theorem head_eq (t : Fin cfg0.N) (h : t.val % 3 = 0) : head (t.val / 3) = t := by
  have hN : t.val < 48 := lt_of_lt_of_eq t.isLt (show cfg0.N = 48 from N_0)
  exact Fin.ext (by show 3 * (t.val / 3) % 48 = t.val; omega)

/-- The three parts of the `q`-th strip's gradient. -/
def savedAt (q : ℕ) : Vec F S3x2048x256 .bf16 :=
  saved (iblk m c 0 (head q)) (iblk m c 1 (head q)) (iblk m c 2 (head q)) (iblk m c 3 (head q)) (iblk m c 4 (head q)) (iblk m c 5 (head q))

/-- The weights' gradient over the sequences up to the `q`-th strip's. -/
def dwAt : ℕ → Vec F S3x256 .f32
  | 0 => dwFirst (iblk m c 0 (head 0)) (iblk m c 1 (head 0)) (iblk m c 2 (head 0)) (iblk m c 3 (head 0))
  | q + 1 => if (q + 1) % 4 = 0 then dwFirst (iblk m c 0 (head (q + 1))) (iblk m c 1 (head (q + 1))) (iblk m c 2 (head (q + 1))) (iblk m c 3 (head (q + 1)))
      else dwMore (iblk m c 0 (head (q + 1))) (iblk m c 1 (head (q + 1))) (iblk m c 2 (head (q + 1))) (iblk m c 3 (head (q + 1))) (dwAt q)

/-- The bias's gradient over the sequences up to the `q`-th strip's. -/
def dbAt : ℕ → Vec F S1x256 .f32
  | 0 => dbFirst (iblk m c 0 (head 0)) (iblk m c 3 (head 0))
  | q + 1 => if (q + 1) % 4 = 0 then dbFirst (iblk m c 0 (head (q + 1))) (iblk m c 3 (head (q + 1)))
      else dbMore (iblk m c 0 (head (q + 1))) (iblk m c 3 (head (q + 1))) (dbAt q)

theorem dwAt_fresh (q : ℕ) (h : q % 4 = 0) :
    dwAt m c q = dwFirst (iblk m c 0 (head q)) (iblk m c 1 (head q)) (iblk m c 2 (head q)) (iblk m c 3 (head q)) := by
  cases q with
  | zero => rfl
  | succ q => rw [dwAt, if_pos h]
theorem dwAt_more (q : ℕ) (h : ¬ q % 4 = 0) :
    dwAt m c q = dwMore (iblk m c 0 (head q)) (iblk m c 1 (head q)) (iblk m c 2 (head q)) (iblk m c 3 (head q)) (dwAt m c (q - 1)) := by
  cases q with
  | zero => exact absurd rfl h
  | succ q => rw [dwAt, if_neg h, Nat.add_sub_cancel]
theorem dbAt_fresh (q : ℕ) (h : q % 4 = 0) : dbAt m c q = dbFirst (iblk m c 0 (head q)) (iblk m c 3 (head q)) := by
  cases q with
  | zero => rfl
  | succ q => rw [dbAt, if_pos h]
theorem dbAt_more (q : ℕ) (h : ¬ q % 4 = 0) : dbAt m c q = dbMore (iblk m c 0 (head q)) (iblk m c 3 (head q)) (dbAt m c (q - 1)) := by
  cases q with
  | zero => exact absurd rfl h
  | succ q => rw [dbAt, if_neg h, Nat.add_sub_cancel]

/-- Between points the scratch holds the last strip's parts: nothing is known of it before the first point. -/
def Held (s : Fin (cfg0.N + 1)) : sProp 𝕄 :=
  iprop((∃ d, ⌜s.val ≠ 0 → d = savedAt m c ((s.val - 1) / 3)⌝ ∗ owns (c : Thread nD τ) (Memref.whole cc0_scratch0) fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => handed (grid0.coords t) (savedAt m c (t.val / 3))
    | ⟨7, _⟩ => dwAt m c (t.val / 3)
    | ⟨8, _⟩ => dbAt m c (t.val / 3)
  Φ s := Held m c s
  q w := Pipeline.shareOf spec0 w
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = handed (grid0.coords t) (savedAt m c (t.val / 3)) := by dsimp only [dats]
theorem after7 (t : Fin cfg0.N) : (dats m 0 c).after 7 t = dwAt m c (t.val / 3) := by dsimp only [dats]
theorem after8 (t : Fin cfg0.N) : (dats m 0 c).after 8 t = dbAt m c (t.val / 3) := by dsimp only [dats]

theorem before0 (t : Fin cfg0.N) (d) : (dats m 0 c).before 0 t d = iblk m c 0 t := before0_0_of m _ (A_eq m c 0) (after0 m c) t d
theorem before1 (t : Fin cfg0.N) (d) : (dats m 0 c).before 1 t d = iblk m c 1 t := before0_1_of m _ (A_eq m c 1) (after1 m c) t d
theorem before2 (t : Fin cfg0.N) (d) : (dats m 0 c).before 2 t d = iblk m c 2 t := before0_2_of m _ (A_eq m c 2) (after2 m c) t d
theorem before3 (t : Fin cfg0.N) (d) : (dats m 0 c).before 3 t d = iblk m c 3 t := before0_3_of m _ (A_eq m c 3) (after3 m c) t d
theorem before4 (t : Fin cfg0.N) (d) : (dats m 0 c).before 4 t d = iblk m c 4 t := before0_4_of m _ (A_eq m c 4) (after4 m c) t d
theorem before5 (t : Fin cfg0.N) (d) : (dats m 0 c).before 5 t d = iblk m c 5 t := before0_5_of m _ (A_eq m c 5) (after5 m c) t d

/-- The two sums are stored at a strip's first point only. -/
theorem idle7 (t : Fin cfg0.N) : cfg0.idle 7 (grid0.coords t) = true ↔ ¬ t.val % 3 = 0 :=
  (by decide +kernel : ∀ t : Fin grid0.N, cfg0.idle 7 (grid0.coords t) = true ↔ ¬ t.val % 3 = 0) t
theorem idle8 (t : Fin cfg0.N) : cfg0.idle 8 (grid0.coords t) = true ↔ ¬ t.val % 3 = 0 :=
  (by decide +kernel : ∀ t : Fin grid0.N, cfg0.idle 8 (grid0.coords t) = true ↔ ¬ t.val % 3 = 0) t

/-- A sum `S` stored at each strip's first point is found, except at the first strip of a run, as it was left. -/
theorem before_sum (w : Fin cfg0.W) (hw : (cfg0.win w).isOut = true) (hclip : ∀ (i : cfg0.grid.Coords) a, (cfg0.win w).clip i a = none)
    (hfl : ∀ t : Fin cfg0.N, (cfg0.win w).flush t = true ↔ t.val % 12 = 11)
    (hidle : ∀ t : Fin cfg0.N, cfg0.idle w (grid0.coords t) = true ↔ ¬ t.val % 3 = 0)
    (S : ℕ → (cfg0.win w).block.Idx → Elt F (cfg0.win w).elt) (hS : ∀ t, (dats m 0 c).after w t = S (t.val / 3)) :
    ∀ (n : ℕ) (h : n < cfg0.N), ¬ n % 12 = 0 → ∀ d, (dats m 0 c).before w ⟨n, h⟩ d = S ((n - 1) / 3) := by
  intro n
  induction n with
  | zero => intro h h0; exact absurd rfl h0
  | succ n ih =>
    intro h h0 d
    have hf : (cfg0.win w).flush ⟨n, Nat.lt_of_succ_lt h⟩ = false :=
      Bool.eq_false_iff.mpr fun hh => by have := (hfl _).mp hh; dsimp only at this; omega
    rw [Dat.before_of_pos (dat := dats m 0 c) w ⟨n + 1, h⟩ (Nat.succ_ne_zero n) ((cfg0.win w).fetch_out hw _)]
    simp only [Nat.add_sub_cancel]
    rw [hf, if_neg Bool.false_ne_true]
    unfold Dat.left
    by_cases hi : n % 3 = 0
    · rw [show cfg0.idle w (cfg0.grid.coords ⟨n, Nat.lt_of_succ_lt h⟩) = false from
        Bool.eq_false_iff.mpr fun hh => (hidle _).mp hh hi]
      show (dats m 0 c).kept w _ d = _
      unfold Dat.kept
      rw [Pipeline.fill_of_clip_none w _ (hclip _) d ((dats m 0 c).after w _), Pipeline.Window.fill_cut, hS]
    · rw [(hidle ⟨n, Nat.lt_of_succ_lt h⟩).mpr hi]
      show (dats m 0 c).before w _ d = _
      rw [ih _ (by omega), show (n - 1) / 3 = n / 3 by omega]

theorem before7 (t : Fin cfg0.N) (h : ¬ t.val % 12 = 0) (d) : (dats m 0 c).before 7 t d = dwAt m c ((t.val - 1) / 3) :=
  before_sum m c 7 rfl (fun _ _ => rfl) flush0_7 idle7 (dwAt m c) (after7 m c) t.val t.isLt h d
theorem before8 (t : Fin cfg0.N) (h : ¬ t.val % 12 = 0) (d) : (dats m 0 c).before 8 t d = dbAt m c ((t.val - 1) / 3) :=
  before_sum m c 8 rfl (fun _ _ => rfl) flush0_8 idle8 (dbAt m c) (after8 m c) t.val t.isLt h d

/-! ## The body at a point -/

abbrev ms0 (t : Fin cfg0.N) : Memref sig .tc .vmem S1x2048x256 .f32 := win0_0.stage (cfg0.slots t 0)
abbrev ms1 (t : Fin cfg0.N) : Memref sig .tc .vmem S1x2048x256 .f32 := win0_1.stage (cfg0.slots t 1)
abbrev ms2 (t : Fin cfg0.N) : Memref sig .tc .vmem S1x2048x256 .f32 := win0_2.stage (cfg0.slots t 2)
abbrev ms3 (t : Fin cfg0.N) : Memref sig .tc .vmem S1x2048x256 .f32 := win0_3.stage (cfg0.slots t 3)
abbrev ms4 (t : Fin cfg0.N) : Memref sig .tc .vmem S3x256 .f32 := win0_4.stage (cfg0.slots t 4)
abbrev ms5 (t : Fin cfg0.N) : Memref sig .tc .vmem S1x256 .f32 := win0_5.stage (cfg0.slots t 5)
abbrev ms6 (t : Fin cfg0.N) : Memref sig .tc .vmem S1x2048x256 .bf16 := win0_6.stage (cfg0.slots t 6)
abbrev ms7 (t : Fin cfg0.N) : Memref sig .tc .vmem S3x256 .f32 := win0_7.stage (cfg0.slots t 7)
abbrev ms8 (t : Fin cfg0.N) : Memref sig .tc .vmem S1x256 .f32 := win0_8.stage (cfg0.slots t 8)

/-- What the body finds at a point: the invariant, nothing owed, and the windows. -/
def pre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What the body leaves at a point. -/
def post (t : Fin cfg0.N) : sProp 𝕄 :=
  iprop((dats m 0 c).Φ t.succ ∗ (dats m 0 c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare (iblk m c 5 t)
    ∗ owns (c : Thread nD τ) (ms6 t) fullShare (handed (grid0.coords t) (savedAt m c (t.val / 3)))
    ∗ owns (c : Thread nD τ) (ms7 t) fullShare (dwAt m c (t.val / 3)) ∗ owns (c : Thread nD τ) (ms8 t) fullShare (dbAt m c (t.val / 3)))

/-- What the body hands back: the six inputs, its three results and the scratch, at what they hold after the point. -/
abbrev Left (t : Fin cfg0.N) : sProp 𝕄 :=
  iprop(Inputs c (ms0 t) (ms1 t) (ms2 t) (ms3 t) (ms4 t) (ms5 t) (iblk m c 0 t) (iblk m c 1 t) (iblk m c 2 t) (iblk m c 3 t) (iblk m c 4 t) (iblk m c 5 t)
    ∗ owns (c : Thread nD τ) (ms6 t) fullShare (handed (grid0.coords t) (savedAt m c (t.val / 3)))
    ∗ owns (c : Thread nD τ) (ms7 t) fullShare (dwAt m c (t.val / 3)) ∗ owns (c : Thread nD τ) (ms8 t) fullShare (dbAt m c (t.val / 3))
    ∗ owns (c : Thread nD τ) (Memref.whole cc0_scratch0) fullShare (savedAt m c (t.val / 3)))

theorem left_post (t : Fin cfg0.N) :
    iprop((∃ r, prngReg c r) ∗ (dats m 0 c).owesAt () t.castSucc ∗ Left m c t) ⊢ (post m c t : sProp 𝕄) := by
  unfold post Left Inputs
  rw [show (dats m 0 c).Φ t.succ = Held m c t.succ from rfl, show (dats m 0 c).owesAt () t.succ = (dats m 0 c).owesAt () t.castSucc from rfl]
  unfold Held
  iintro ⟨Hg, Ho, ⟨H0, H1, H2, H3, H4, H5⟩, H6, H7, H8, HS⟩
  isplitl [HS Hg]
  · isplitl [HS]
    · iexists _; isplitr; swap; · iexact HS
      ipureintro; intro _; rw [Fin.val_succ, Nat.add_sub_cancel]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A window whose contents are named is left at them; one not stored into at a point is left as found. -/
theorem leaves_sum (w : Fin cfg0.W) (t : Fin cfg0.N) (X : (cfg0.win w).block.Idx → Elt F (cfg0.win w).elt)
    (ha : (dats m 0 c).after w t = X) (hb : cfg0.idle w (grid0.coords t) = true → ∀ d, (dats m 0 c).before w t d = X) :
    owns (c : Thread nD τ) ((cfg0.win w).stage (cfg0.slots t w)) fullShare X ⊢ ((dats m 0 c).leavesExact w t : sProp 𝕄) := by
  unfold Dat.leavesExact
  cases hi : cfg0.idle w (cfg0.grid.coords t) with
  | false => show _ ⊢ owns _ _ _ _; rw [ha]
  | true =>
    cases hf : (cfg0.win w).flush t with
    | true => show _ ⊢ owns _ _ _ _; rw [ha]
    | false =>
      show _ ⊢ iprop(∃ d, owns (c : Thread nD τ) ((cfg0.win w).stage (cfg0.slots t w)) fullShare ((dats m 0 c).before w t d))
      iintro H
      iexists X
      rw [hb hi X]
      iexact H

theorem not_idle {w : Fin cfg0.W} {t : Fin cfg0.N} {P : Prop} (h : cfg0.idle w (grid0.coords t) = false) : cfg0.idle w (grid0.coords t) = true → P :=
  fun h' => absurd (h.symm.trans h') Bool.false_ne_true

theorem before_idle7 (t : Fin cfg0.N) (h : cfg0.idle 7 (grid0.coords t) = true) (d) : (dats m 0 c).before 7 t d = dwAt m c (t.val / 3) := by
  have h3 := (idle7 t).mp h
  rw [before7 m c t (by omega), show (t.val - 1) / 3 = t.val / 3 by omega]
theorem before_idle8 (t : Fin cfg0.N) (h : cfg0.idle 8 (grid0.coords t) = true) (d) : (dats m 0 c).before 8 t d = dbAt m c (t.val / 3) := by
  have h3 := (idle8 t).mp h
  rw [before8 m c t (by omega), show (t.val - 1) / 3 = t.val / 3 by omega]

/-- The body at any point. -/
theorem sound (t : Fin cfg0.N) :
    pre m c t ⊢ wp frame (wpE (defs₀ (F := F)) Variants.none c none) Set.univ (bodyAt0 t) (fun _ => post m c t) := by
  unfold pre bodyAt0
  simp only [before0, before1, before2, before3, before4, before5]
  rw [show (dats m 0 c).Φ t.castSucc = Held m c t.castSucc from rfl]
  unfold Held
  have hN : t.val < 48 := lt_of_lt_of_eq t.isLt (show cfg0.N = 48 from N_0)
  iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hp : t.val % 3 = 0
  · have hq : head (t.val / 3) = t := head_eq t hp
    by_cases hf : t.val / 3 % 4 = 0
    · iapply (run_first c (grid0.coords t) _ _ _ _ _ _ _ _ _ _ _ _ _ _ _ _ _ _ _ _ (iblk m c 0 t) (iblk m c 1 t) (iblk m c 2 t) (iblk m c 3 t) (iblk m c 4 t) (iblk m c 5 t)
        ((part_zero t).mpr hp) ((fresh t).1.mpr hf) (fun h => (fresh t).2.1.mp h hf) ((fresh t).2.2.1.mpr hf) (fun h => (fresh t).2.2.2.mp h hf) Set.univ _)
      isplitl [H0 H1 H2 H3 H4 H5]
      · unfold Inputs
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H8]; · iexists _; iexact H8
      isplitl [HS]; · iexists _; iexact HS
      iintro HL
      iapply (left_post m c t)
      isplitl [Hg]; · iexact Hg
      isplitl [Ho]; · iexact Ho
      unfold Left savedAt
      rw [dwAt_fresh m c _ hf, dbAt_fresh m c _ hf, hq]
      iexact HL
    · rw [before7 m c t (by omega), before8 m c t (by omega)]
      iapply (run_next c (grid0.coords t) _ _ _ _ _ _ _ _ _ _ _ _ _ _ _ _ _ _ _ _ (iblk m c 0 t) (iblk m c 1 t) (iblk m c 2 t) (iblk m c 3 t) (iblk m c 4 t) (iblk m c 5 t)
        ((part_zero t).mpr hp) (fun h => hf ((fresh t).1.mp h)) ((fresh t).2.1.mpr hf) (fun h => hf ((fresh t).2.2.1.mp h)) ((fresh t).2.2.2.mpr hf) _ _ Set.univ _)
      isplitl [H0 H1 H2 H3 H4 H5]
      · unfold Inputs
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexact H7
      isplitl [H8]; · iexact H8
      isplitl [HS]; · iexists _; iexact HS
      iintro HL
      iapply (left_post m c t)
      isplitl [Hg]; · iexact Hg
      isplitl [Ho]; · iexact Ho
      unfold Left savedAt
      rw [dwAt_more m c _ hf, dbAt_more m c _ hf, hq, show t.val / 3 - 1 = (t.val - 1) / 3 by omega]
      iexact HL
  · obtain rfl := hs (by show t.val ≠ 0; omega)
    rw [before_idle7 m c t ((idle7 t).mpr hp), before_idle8 m c t ((idle8 t).mpr hp),
      show (t.castSucc.val - 1) / 3 = t.val / 3 by show (t.val - 1) / 3 = _; omega]
    iapply (run_rest c (grid0.coords t) _ _ _ _ _ _ _ _ _ _ _ _ _ _ _ _ _ _ _ _ (iblk m c 0 t) (iblk m c 1 t) (iblk m c 2 t) (iblk m c 3 t) (iblk m c 4 t) (iblk m c 5 t)
      (fun h => hp ((part_zero t).mp h)) _ _ _ Set.univ _)
    isplitl [H0 H1 H2 H3 H4 H5]
    · unfold Inputs
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [H8]; · iexact H8
    isplitl [HS]; · iexact HS
    iintro HL
    iapply (left_post m c t)
    isplitl [Hg]; · iexact Hg
    isplitl [Ho]; · iexact Ho
    iexact HL

/-! ## The run -/

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  refine triple_restated (sound m c t) rfl .rfl fun _ => ?_
  unfold post
  iintro ⟨HΦ, Ho, H0, H1, H2, H3, H4, H5, H6, H7, H8⟩
  isplitl [HΦ]; · iexact HΦ
  isplitl [Ho]; · iexact Ho
  isplitl [H0]; · iapply (leaves_sum m c 0 t _ (after0 m c t) (not_idle rfl)); iexact H0
  isplitl [H1]; · iapply (leaves_sum m c 1 t _ (after1 m c t) (not_idle rfl)); iexact H1
  isplitl [H2]; · iapply (leaves_sum m c 2 t _ (after2 m c t) (not_idle rfl)); iexact H2
  isplitl [H3]; · iapply (leaves_sum m c 3 t _ (after3 m c t) (not_idle rfl)); iexact H3
  isplitl [H4]; · iapply (leaves_sum m c 4 t _ (after4 m c t) (not_idle rfl)); iexact H4
  isplitl [H5]; · iapply (leaves_sum m c 5 t _ (after5 m c t) (not_idle rfl)); iexact H5
  isplitl [H6]; · iapply (leaves_sum m c 6 t _ (after6 m c t) (not_idle rfl)); iexact H6
  isplitl [H7]; · iapply (leaves_sum m c 7 t _ (after7 m c t) (before_idle7 m c t)); iexact H7
  iapply (leaves_sum m c 8 t _ (after8 m c t) (before_idle8 m c t)); iexact H8

theorem scratch_eq : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

theorem enter : (Pipeline.ΦA spec0 c : sProp 𝕄) ⊢ (dats m 0 c).Φ 0 := by
  rw [show (dats m 0 c).Φ 0 = Held m c 0 from rfl, scratch_eq]
  unfold Held
  iintro ⟨⟨%d, HS⟩, Hg⟩
  isplitl [HS]
  · iexists d; isplitr; swap; · iexact HS
    ipureintro; exact fun h => absurd rfl h
  iexact Hg

theorem leave : (dats m 0 c).Φ (Fin.last cfg0.N) ⊢ (Pipeline.ΦA spec0 c : sProp 𝕄) := by
  rw [show (dats m 0 c).Φ (Fin.last cfg0.N) = Held m c (Fin.last cfg0.N) from rfl, scratch_eq]
  unfold Held
  iintro ⟨⟨%d, -, HS⟩, Hg⟩
  isplitl [HS]; · iexists d; iexact HS
  iexact Hg

set_option backward.isDefEq.respectTransparency.types false in
/-- The run, every semaphore back at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m) (hmain := hmain m Variants.none)
    (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.ScFrame
end
-- ==== Proof.ScBlock.lean ====
/- One strip of the short convolution's gradient: what the kernel's body leaves in each block, as a function of the blocks it
   reads, over the extended reals. -/
module

public import proofs.«01_k».proof.Defs
public import proofs.«01_k».proof.Proof.ConvMath
public import proofs.«01_k».proof.Proof.ScFrame
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScBlock

open Cert.ScKernelIdeal Cert.ScKernelIdeal.Gen Cert.ConvMath Cert.ScRun Cert.ScFrame

/-! ## One strip: a sequence at a lane -/

/-- A lane of a strip, and the taps at a lane. -/
def lane {n : ℕ} (x : (⟨3, ![1, 2048, n]⟩ : Shape).Idx → EReal) (l : Fin n) : Sq := fun t => x (ix3 0 t l)
def taps {n : ℕ} (x : (⟨2, ![3, n]⟩ : Shape).Idx → EReal) (l : Fin n) : Fin 3 → EReal := fun k => x (ix2 k l)

/-- One of the three parts of the gradient of the gates' and the values' sequences, `g` the outer gate, `a` the inner, `v` the
    values, `d` the cotangent, `w` the taps and `b` the bias. -/
def part (p : Fin 3) (g a v d : Sq) (w : Fin 3 → EReal) (b : EReal) : Sq := fun t =>
  ![d t * conv (fun t => a t * v t) w b t, dconv (fun t => d t * g t) w t * v t, dconv (fun t => d t * g t) w t * a t] p

section Strip

variable (h1 h2 h3 : Vec Ideal S1x2048x128 .f32) (hw : Vec Ideal S3x128 .f32) (hb : Vec Ideal S1x128 .f32)
  (x y : FVec Ideal S2048x128 .f32) (t : Fin 2048) (l : Fin 128) (a : Fin 1)

theorem pay11 : k0_pay11 h1 (ix2 t l) = h1 (ix3 0 t l) := by pointwise [k0_pay11]
theorem pay14 : k0_pay14 h1 h2 (ix2 t l) = h1 (ix3 0 t l) * h2 (ix3 0 t l) := by pointwise [k0_pay14, k0_pay11, k0_pay12]
theorem pay16 : k0_pay16 h1 h2 (ix2 t l) = h2 (ix3 0 t l) * h1 (ix3 0 t l) := by pointwise [k0_pay16, k0_pay13]
theorem pay17 : k0_pay17 x (ix2 t l) = up (fun t => x (ix2 t l)) 1 t := shift_up 2047 1 rfl (by decide) x _ _ t l
theorem pay18 : k0_pay18 x (ix2 t l) = up (fun t => x (ix2 t l)) 2 t := shift_up 2046 2 rfl (by decide) x _ _ t l
theorem pay19 : k0_pay19 hw x (ix2 t l) = dconv (fun t => x (ix2 t l)) (fun k => hw (ix2 k l)) t := by
  pointwise [k0_pay19]
  rw [pay17, pay18]
  rfl
theorem pay15 : k0_pay15 h1 h2 hw hb (ix2 t l)
    = conv (fun t => h1 (ix3 0 t l) * h2 (ix3 0 t l)) (fun k => hw (ix2 k l)) (hb (ix2 0 l)) t := by
  have e2 := shift_dn 2 (by decide) (k0_pay14 h1 h2) iota_S2048x128_d0_w32 rotates_S2048x128_d0 t l
  have e1 := shift_dn 1 (by decide) (k0_pay14 h1 h2) iota_S2048x128_d0_w32 rotates_S2048x128_d0 t l
  refine Eq.trans (congrArg₂ (HAdd.hAdd (α := EReal)) (congrArg₂ HAdd.hAdd (congrArg₂ HAdd.hAdd (congrArg₂ HMul.hMul e2 rfl) rfl)
    (congrArg₂ HMul.hMul e1 rfl)) rfl) ?_
  pointwise
  simp only [pay14]
  rfl

theorem part0 (h0 h3 : Vec Ideal S1x2048x128 .f32) : k0_pay23 (k0_pay13 h3) (k0_pay15 h1 h2 hw hb) (ix3 0 t l)
    = part 0 (lane h0 l) (lane h1 l) (lane h2 l) (lane h3 l) (taps hw l) (hb (ix2 0 l)) t := by
  pointwise [k0_pay23, k0_pay13]
  rw [pay15]
  rfl
theorem part1 (h0 h3 : Vec Ideal S1x2048x128 .f32) : k0_pay24 (k0_pay12 h2) hw (k0_pay16 h0 h3) (ix3 0 t l)
    = part 1 (lane h0 l) (lane h1 l) (lane h2 l) (lane h3 l) (taps hw l) (hb (ix2 0 l)) t := by
  pointwise [k0_pay24, k0_pay12]
  rw [pay19]
  simp only [pay16]
  rfl
theorem part2 (h0 h3 : Vec Ideal S1x2048x128 .f32) : k0_pay26 (k0_pay25 (k0_pay11 h1) hw (k0_pay16 h0 h3)) (ix3 0 t l)
    = part 2 (lane h0 l) (lane h1 l) (lane h2 l) (lane h3 l) (taps hw l) (hb (ix2 0 l)) t := by
  pointwise [k0_pay26, k0_pay25]
  rw [pay11, pay19]
  simp only [pay16]
  rfl
theorem tap0 (h0 h3 : Vec Ideal S1x2048x128 .f32) : k0_pay20 (k0_pay14 h1 h2) (k0_pay16 h0 h3) (ix2 a l)
    = dtap (fun t => lane h3 l t * lane h0 l t) (fun t => lane h1 l t * lane h2 l t) 0 := by
  pointwise [k0_pay20]
  simp only [pay18, pay16, pay14]
  rfl
theorem tap1 (h0 h3 : Vec Ideal S1x2048x128 .f32) : k0_pay21 (k0_pay14 h1 h2) (k0_pay16 h0 h3) (ix2 a l)
    = dtap (fun t => lane h3 l t * lane h0 l t) (fun t => lane h1 l t * lane h2 l t) 1 := by
  pointwise [k0_pay21]
  simp only [pay17, pay16, pay14]
  rfl
theorem tap2 (h0 h3 : Vec Ideal S1x2048x128 .f32) : k0_pay22 (k0_pay14 h1 h2) (k0_pay16 h0 h3) (ix2 a l)
    = dtap (fun t => lane h3 l t * lane h0 l t) (fun t => lane h1 l t * lane h2 l t) 2 := by
  pointwise [k0_pay22]
  simp only [pay16, pay14]
  exact Finset.sum_congr rfl fun t _ => congrArg₂ HMul.hMul (congrFun (up_zero fun t => lane h3 l t * lane h0 l t) t).symm rfl
theorem bias (h0 h3 : Vec Ideal S1x2048x128 .f32) : k0_pay27 (k0_pay16 h0 h3) (ix2 a l) = ∑ t, lane h3 l t * lane h0 l t := by
  pointwise [k0_pay27]
  simp only [pay16]
  rfl

end Strip

/-! ## Where the halves of a strip lie -/

theorem emb3 (d p o : ℕ) (hp : p < d) (ho : o + 128 ≤ 256) (inb) (t : Fin 2048) (l : Fin 128) :
    (Rect.unit (s := ⟨3, ![d, 2048, 256]⟩) ![p, 0, o] S1x2048x128.size inb).idx (ix3 0 t l) = ix3 ⟨p, hp⟩ t ⟨o + l.val, by omega⟩ := by
  funext a
  refine Fin.ext ?_
  fin_cases a
  · show p + 1 * 0 = p
    omega
  · show 0 + 1 * t.val = t.val
    omega
  · show o + 1 * l.val = o + l.val
    omega
theorem emb2 (d e p o : ℕ) (k : Fin e) (hp : p + k.val < d) (ho : o + 128 ≤ 256) (inb) (l : Fin 128) :
    (Rect.unit (s := ⟨2, ![d, 256]⟩) ![p, o] ![e, 128] inb).idx (ix2 k l) = ix2 ⟨p + k.val, hp⟩ ⟨o + l.val, by omega⟩ := by
  funext a
  refine Fin.ext ?_
  fin_cases a
  · show p + 1 * k.val = p + k.val
    omega
  · show o + 1 * l.val = o + l.val
    omega
theorem piece3 (G : S3x2048x256.Idx → EReal) (p o : ℕ) (hp : p < 3) (ho : o + 128 ≤ 256) (inb) (pay : S1x2048x128.Idx → EReal)
    (h : ∀ (t : Fin 2048) (l : Fin 128), pay (ix3 0 t l) = G (ix3 ⟨p, hp⟩ t ⟨o + l.val, by omega⟩)) :
    ∀ x : S1x2048x128.Idx, pay x = G ((Rect.unit (s := S3x2048x256) ![p, 0, o] S1x2048x128.size inb).emb x) := by
  intro x
  obtain ⟨a, t, l, rfl⟩ : ∃ (a : Fin 1) (t : Fin 2048) (l : Fin 128), x = ix3 a t l := ⟨x 0, x 1, x 2, eq_ix3 x⟩
  obtain rfl : a = 0 := Subsingleton.elim _ _
  exact (h t l).trans (congrArg G (emb3 3 p o hp ho inb t l).symm)
theorem piece2 (d : ℕ) (G : Shape.Idx ⟨2, ![d, 256]⟩ → EReal) (p o : ℕ) (hp : p < d) (ho : o + 128 ≤ 256) (inb) (pay : S1x128.Idx → EReal)
    (h : ∀ l : Fin 128, pay (ix2 0 l) = G (ix2 ⟨p, hp⟩ ⟨o + l.val, by omega⟩)) :
    ∀ x : S1x128.Idx, pay x = G ((Rect.unit (s := ⟨2, ![d, 256]⟩) ![p, o] S1x128.size inb).emb x) := by
  intro x
  obtain ⟨a, l, rfl⟩ : ∃ (a : Fin 1) (l : Fin 128), x = ix2 a l := ⟨x 0, x 1, eq_ix2 x⟩
  obtain rfl : a = 0 := Subsingleton.elim _ _
  exact (h l).trans (congrArg G (emb2 d 1 p o 0 hp ho inb l).symm)

section Block

variable (x0 x1 x2 x3 : Vec Ideal S1x2048x256 .f32) (x4 : Vec Ideal S3x256 .f32) (x5 : Vec Ideal S1x256 .f32)

/-- A lane of the first half, and one of the second. -/
abbrev left (l : Fin 128) : Fin 256 := ⟨0 + l.val, by omega⟩
abbrev right (l : Fin 128) : Fin 256 := ⟨128 + l.val, by omega⟩

theorem lo_at (t : Fin 2048) (l : Fin 128) : lo x0 (ix3 0 t l) = x0 (ix3 0 t (left l)) :=
  congrArg x0 (emb3 1 0 0 (by decide) (by decide) _ t l)
theorem hi_at (t : Fin 2048) (l : Fin 128) : hi x0 (ix3 0 t l) = x0 (ix3 0 t (right l)) :=
  congrArg x0 (emb3 1 0 128 (by decide) (by decide) _ t l)
theorem loW_at (k : Fin 3) (l : Fin 128) : loW x4 (ix2 k l) = x4 (ix2 k (left l)) :=
  (congrArg x4 (emb2 3 3 0 0 k (by omega) (by decide) _ l)).trans (congrArg (fun k => x4 (ix2 k (left l))) (Fin.ext (Nat.zero_add k.val)))
theorem hiW_at (k : Fin 3) (l : Fin 128) : hiW x4 (ix2 k l) = x4 (ix2 k (right l)) :=
  (congrArg x4 (emb2 3 3 0 128 k (by omega) (by decide) _ l)).trans (congrArg (fun k => x4 (ix2 k (right l))) (Fin.ext (Nat.zero_add k.val)))
theorem loB_at (l : Fin 128) : loB x5 (ix2 0 l) = x5 (ix2 0 (left l)) :=
  congrArg x5 (emb2 1 1 0 0 0 (by decide) (by decide) _ l)
theorem hiB_at (l : Fin 128) : hiB x5 (ix2 0 l) = x5 (ix2 0 (right l)) :=
  congrArg x5 (emb2 1 1 0 128 0 (by decide) (by decide) _ l)

/-- The three parts of a strip's gradient, at a lane. -/
def savedAs (i : S3x2048x256.Idx) : EReal :=
  part (i 0) (lane x0 (i 2)) (lane x1 (i 2)) (lane x2 (i 2)) (lane x3 (i 2)) (taps x4 (i 2)) (x5 (ix2 0 (i 2))) (i 1)

theorem lane_lo (l : Fin 128) : lane (lo x0) l = lane x0 (left l) := funext fun t => lo_at x0 t l
theorem lane_hi (l : Fin 128) : lane (hi x0) l = lane x0 (right l) := funext fun t => hi_at x0 t l
theorem taps_lo (l : Fin 128) : taps (loW x4) l = taps x4 (left l) := funext fun k => loW_at x4 k l
theorem taps_hi (l : Fin 128) : taps (hiW x4) l = taps x4 (right l) := funext fun k => hiW_at x4 k l

theorem saved_apply : saved x0 x1 x2 x3 x4 x5 = savedAs x0 x1 x2 x3 x4 x5 := by
  funext y
  refine View.canon_apply_of_pieces (savedAs x0 x1 x2 x3 x4 x5) _ ?_ y (saved_cover x0 x1 x2 x3 x4 x5 y)
  unfold savedPieces
  simp only [List.forall_mem_cons, List.not_mem_nil, IsEmpty.forall_iff, implies_true, and_true]
  have L : ∀ (p : Fin 3) t l, part p (lane (lo x0) l) (lane (lo x1) l) (lane (lo x2) l) (lane (lo x3) l) (taps (loW x4) l) (loB x5 (ix2 0 l)) t
      = savedAs x0 x1 x2 x3 x4 x5 (ix3 p t (left l)) := fun p t l => by
    rw [lane_lo, lane_lo, lane_lo, lane_lo, taps_lo, loB_at]
    rfl
  have H : ∀ (p : Fin 3) t l, part p (lane (hi x0) l) (lane (hi x1) l) (lane (hi x2) l) (lane (hi x3) l) (taps (hiW x4) l) (hiB x5 (ix2 0 l)) t
      = savedAs x0 x1 x2 x3 x4 x5 (ix3 p t (right l)) := fun p t l => by
    rw [lane_hi, lane_hi, lane_hi, lane_hi, taps_hi, hiB_at]
    rfl
  exact ⟨piece3 _ 2 128 (by decide) (by decide) _ _ fun t l => (part2 (hi x1) (hi x2) (hiW x4) (hiB x5) t l (hi x0) (hi x3)).trans (H 2 t l),
    piece3 _ 1 128 (by decide) (by decide) _ _ fun t l => (part1 (hi x1) (hi x2) (hiW x4) (hiB x5) t l (hi x0) (hi x3)).trans (H 1 t l),
    piece3 _ 0 128 (by decide) (by decide) _ _ fun t l => (part0 (hi x1) (hi x2) (hiW x4) (hiB x5) t l (hi x0) (hi x3)).trans (H 0 t l),
    piece3 _ 2 0 (by decide) (by decide) _ _ fun t l => (part2 (lo x1) (lo x2) (loW x4) (loB x5) t l (lo x0) (lo x3)).trans (L 2 t l),
    piece3 _ 1 0 (by decide) (by decide) _ _ fun t l => (part1 (lo x1) (lo x2) (loW x4) (loB x5) t l (lo x0) (lo x3)).trans (L 1 t l),
    piece3 _ 0 0 (by decide) (by decide) _ _ fun t l => (part0 (lo x1) (lo x2) (loW x4) (loB x5) t l (lo x0) (lo x3)).trans (L 0 t l)⟩

/-- A strip's gradient of the taps, and of the bias. -/
def dwAs (i : S3x256.Idx) : EReal :=
  dtap (fun t => lane x3 (i 1) t * lane x0 (i 1) t) (fun t => lane x1 (i 1) t * lane x2 (i 1) t) (i 0)
def dbAs (i : S1x256.Idx) : EReal := ∑ t, lane x3 (i 1) t * lane x0 (i 1) t

theorem dwAs_lo (k : Fin 3) (l : Fin 128) :
    dtap (fun t => lane (lo x3) l t * lane (lo x0) l t) (fun t => lane (lo x1) l t * lane (lo x2) l t) k = dwAs x0 x1 x2 x3 (ix2 k (left l)) := by
  rw [lane_lo, lane_lo, lane_lo, lane_lo]
  rfl
theorem dwAs_hi (k : Fin 3) (l : Fin 128) :
    dtap (fun t => lane (hi x3) l t * lane (hi x0) l t) (fun t => lane (hi x1) l t * lane (hi x2) l t) k = dwAs x0 x1 x2 x3 (ix2 k (right l)) := by
  rw [lane_hi, lane_hi, lane_hi, lane_hi]
  rfl
theorem dbAs_lo (l : Fin 128) : ∑ t, lane (lo x3) l t * lane (lo x0) l t = dbAs x0 x3 (ix2 0 (left l)) := by
  rw [lane_lo, lane_lo]
  rfl
theorem dbAs_hi (l : Fin 128) : ∑ t, lane (hi x3) l t * lane (hi x0) l t = dbAs x0 x3 (ix2 0 (right l)) := by
  rw [lane_hi, lane_hi]
  rfl

theorem dw_apply : dwFirst x0 x1 x2 x3 = dwAs x0 x1 x2 x3 := by
  funext y
  refine View.canon_apply_of_pieces (dwAs x0 x1 x2 x3) _ ?_ y (dw_cover x0 x1 x2 x3 y)
  unfold dwPieces
  simp only [List.forall_mem_cons, List.not_mem_nil, IsEmpty.forall_iff, implies_true, and_true]
  exact ⟨piece2 3 _ 2 128 (by decide) (by decide) _ _ fun l => (tap2 (hi x1) (hi x2) l 0 (hi x0) (hi x3)).trans (dwAs_hi x0 x1 x2 x3 2 l),
    piece2 3 _ 1 128 (by decide) (by decide) _ _ fun l => (tap1 (hi x1) (hi x2) l 0 (hi x0) (hi x3)).trans (dwAs_hi x0 x1 x2 x3 1 l),
    piece2 3 _ 0 128 (by decide) (by decide) _ _ fun l => (tap0 (hi x1) (hi x2) l 0 (hi x0) (hi x3)).trans (dwAs_hi x0 x1 x2 x3 0 l),
    piece2 3 _ 2 0 (by decide) (by decide) _ _ fun l => (tap2 (lo x1) (lo x2) l 0 (lo x0) (lo x3)).trans (dwAs_lo x0 x1 x2 x3 2 l),
    piece2 3 _ 1 0 (by decide) (by decide) _ _ fun l => (tap1 (lo x1) (lo x2) l 0 (lo x0) (lo x3)).trans (dwAs_lo x0 x1 x2 x3 1 l),
    piece2 3 _ 0 0 (by decide) (by decide) _ _ fun l => (tap0 (lo x1) (lo x2) l 0 (lo x0) (lo x3)).trans (dwAs_lo x0 x1 x2 x3 0 l)⟩

theorem db_apply : dbFirst x0 x3 = dbAs x0 x3 := by
  funext y
  refine View.canon_apply_of_pieces (dbAs x0 x3) _ ?_ y (db_cover x0 x3 y)
  unfold dbPieces
  simp only [List.forall_mem_cons, List.not_mem_nil, IsEmpty.forall_iff, implies_true, and_true]
  exact ⟨piece2 1 _ 0 128 (by decide) (by decide) _ _ fun l => (bias l 0 (hi x0) (hi x3)).trans (dbAs_hi x0 x3 l),
    piece2 1 _ 0 0 (by decide) (by decide) _ _ fun l => (bias l 0 (lo x0) (lo x3)).trans (dbAs_lo x0 x3 l)⟩

/-- What is added to a row of the taps' gradient. -/
theorem old_at (p o : ℕ) (hp : p < 3) (ho : o + 128 ≤ 256) (inb) (xw : Vec Ideal S3x256 .f32) (l : Fin 128) :
    shapeCast S1x128 (View.ld xw (Rect.unit (s := S3x256) ![p, o] S1x128.size inb)) shapeCasts_S1x128_S1x128 (ix2 0 l)
      = xw (ix2 ⟨p, hp⟩ ⟨o + l.val, by omega⟩) := by
  exact (congrFun (shapeCast_id (s := S1x128) _ _) _).trans (congrArg xw (emb2 3 1 p o 0 hp ho inb l))

/-- Two blocks' sum. -/
def plus {S : Shape} (x y : S.Idx → EReal) : S.Idx → EReal := fun i => x i + y i

theorem dwMore_apply (xw : Vec Ideal S3x256 .f32) : dwMore x0 x1 x2 x3 xw = plus xw (dwAs x0 x1 x2 x3) := by
  funext y
  refine View.canon_apply_of_pieces (plus xw (dwAs x0 x1 x2 x3)) _ ?_ y (dwMore_cover x0 x1 x2 x3 xw y)
  unfold dwMorePieces
  simp only [List.forall_mem_cons, List.not_mem_nil, IsEmpty.forall_iff, implies_true, and_true]
  exact ⟨piece2 3 (plus xw (dwAs x0 x1 x2 x3)) 2 128 (by decide) (by decide) _ _ fun l => congrArg₂ HAdd.hAdd (old_at 2 128 (by decide) (by decide) _ xw l)
        ((tap2 (hi x1) (hi x2) l 0 (hi x0) (hi x3)).trans (dwAs_hi x0 x1 x2 x3 2 l)),
    piece2 3 (plus xw (dwAs x0 x1 x2 x3)) 1 128 (by decide) (by decide) _ _ fun l => congrArg₂ HAdd.hAdd (old_at 1 128 (by decide) (by decide) _ xw l)
        ((tap1 (hi x1) (hi x2) l 0 (hi x0) (hi x3)).trans (dwAs_hi x0 x1 x2 x3 1 l)),
    piece2 3 (plus xw (dwAs x0 x1 x2 x3)) 0 128 (by decide) (by decide) _ _ fun l => congrArg₂ HAdd.hAdd (old_at 0 128 (by decide) (by decide) _ xw l)
        ((tap0 (hi x1) (hi x2) l 0 (hi x0) (hi x3)).trans (dwAs_hi x0 x1 x2 x3 0 l)),
    piece2 3 (plus xw (dwAs x0 x1 x2 x3)) 2 0 (by decide) (by decide) _ _ fun l => congrArg₂ HAdd.hAdd (old_at 2 0 (by decide) (by decide) _ xw l)
        ((tap2 (lo x1) (lo x2) l 0 (lo x0) (lo x3)).trans (dwAs_lo x0 x1 x2 x3 2 l)),
    piece2 3 (plus xw (dwAs x0 x1 x2 x3)) 1 0 (by decide) (by decide) _ _ fun l => congrArg₂ HAdd.hAdd (old_at 1 0 (by decide) (by decide) _ xw l)
        ((tap1 (lo x1) (lo x2) l 0 (lo x0) (lo x3)).trans (dwAs_lo x0 x1 x2 x3 1 l)),
    piece2 3 (plus xw (dwAs x0 x1 x2 x3)) 0 0 (by decide) (by decide) _ _ fun l => congrArg₂ HAdd.hAdd (old_at 0 0 (by decide) (by decide) _ xw l)
        ((tap0 (lo x1) (lo x2) l 0 (lo x0) (lo x3)).trans (dwAs_lo x0 x1 x2 x3 0 l))⟩

theorem dbMore_apply (xb : Vec Ideal S1x256 .f32) : dbMore x0 x3 xb = plus xb (dbAs x0 x3) := by
  funext y
  refine View.canon_apply_of_pieces (plus xb (dbAs x0 x3)) _ ?_ y (dbMore_cover x0 x3 xb y)
  unfold dbMorePieces
  simp only [List.forall_mem_cons, List.not_mem_nil, IsEmpty.forall_iff, implies_true, and_true]
  exact ⟨piece2 1 (plus xb (dbAs x0 x3)) 0 128 (by decide) (by decide) _ _ fun l => congrArg₂ HAdd.hAdd ((congrFun (shapeCast_id (s := S1x128) _ _) _).trans (hiB_at xb l)) ((bias l 0 (hi x0) (hi x3)).trans (dbAs_hi x0 x3 l)),
    piece2 1 (plus xb (dbAs x0 x3)) 0 0 (by decide) (by decide) _ _ fun l => congrArg₂ HAdd.hAdd ((congrFun (shapeCast_id (s := S1x128) _ _) _).trans (loB_at xb l)) ((bias l 0 (lo x0) (lo x3)).trans (dbAs_lo x0 x3 l))⟩

end Block

end Cert.ScBlock

end
-- ==== Proof.ScValue.lean ====
/- The gradient of the short convolution's gate: what the kernel leaves in its three results is what differentiating the
   reference's forward lines gives, at any extended reals. -/
module

public import proofs.«01_k».proof.Defs
public import proofs.«01_k».proof.Proof.ConvMath
public import proofs.«01_k».proof.Proof.ScBlock
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScValue

open Cert.ScKernelIdeal Cert.ScKernelIdeal.Gen Cert.ConvMath Cert.ScRun Cert.ScFrame Cert.ScBlock

/-! ## One strip: a sequence at a lane -/

/-! ## The arrays -/

theorem idx : ∀ q : Fin 16, win0_0.index (head q.val) = ![q.val % 4, 0, q.val / 4] ∧ win0_1.index (head q.val) = ![q.val % 4, 0, 4 + q.val / 4]
    ∧ win0_2.index (head q.val) = ![q.val % 4, 0, 8 + q.val / 4] ∧ win0_3.index (head q.val) = ![q.val % 4, 0, q.val / 4]
    ∧ win0_4.index (head q.val) = ![0, q.val / 4] ∧ win0_5.index (head q.val) = ![0, q.val / 4] := by decide +kernel
theorem idx_out : ∀ t : Fin cfg0.N, win0_6.index t = ![t.val / 3 % 4, 0, t.val % 3 * 4 + t.val / 12] ∧ win0_7.index t = ![0, t.val / 12]
    ∧ win0_8.index t = ![0, t.val / 12] ∧ k0_off1 (grid0.coords t) = ![t.val % 3, 0, 0] := by decide +kernel

/-- A sequence of the convolution's input: a batch and a lane of one of the three parts. -/
def seqH (x : S4x2048x3072.Idx → EReal) (p : Fin 3) (b : Fin 4) (l : Fin 1024) : Sq := fun t => x (ix3 b t ⟨p.val * 1024 + l.val, by omega⟩)
def seqD (x : S4x2048x1024.Idx → EReal) (b : Fin 4) (l : Fin 1024) : Sq := fun t => x (ix3 b t l)
/-- The convolution's cotangent, and its input. -/
def cot (x : S4x2048x3072.Idx → EReal) (d : S4x2048x1024.Idx → EReal) (b : Fin 4) (l : Fin 1024) : Sq := fun t => seqD d b l t * seqH x 0 b l t
def inp (x : S4x2048x3072.Idx → EReal) (b : Fin 4) (l : Fin 1024) : Sq := fun t => seqH x 1 b l t * seqH x 2 b l t

/-- The three results. -/
def dhAt (x : S4x2048x3072.Idx → EReal) (w : S3x1024.Idx → EReal) (β : S1024.Idx → EReal) (d : S4x2048x1024.Idx → EReal)
    (p : Fin 3) (b : Fin 4) (l : Fin 1024) (t : Fin 2048) : EReal :=
  part p (seqH x 0 b l) (seqH x 1 b l) (seqH x 2 b l) (seqD d b l) (taps w l) (β (ix1 l)) t
def dh (x : S4x2048x3072.Idx → EReal) (w : S3x1024.Idx → EReal) (β : S1024.Idx → EReal) (d : S4x2048x1024.Idx → EReal) :
    S4x2048x3072.Idx → EReal := fun i => dhAt x w β d ⟨(i 2).val / 1024, by have := (i 2).isLt; change _ < 3072 at this; omega⟩ (i 0)
  ⟨(i 2).val % 1024, Nat.mod_lt _ (by decide)⟩ (i 1)
def dw (x : S4x2048x3072.Idx → EReal) (d : S4x2048x1024.Idx → EReal) : S3x1024.Idx → EReal :=
  fun i => ∑ b, dtap (cot x d b (i 1)) (inp x b (i 1)) (i 0)
def db (x : S4x2048x3072.Idx → EReal) (d : S4x2048x1024.Idx → EReal) : S1x1024.Idx → EReal :=
  fun i => ∑ b, ∑ t, cot x d b (i 1) t

section Arrays

variable (m : (ℓ : Loc nD τ sig) → Buf (Elt Ideal) ℓ) (c : Dev nD)

/-- The convolution's input, the taps, the bias and the cotangent. -/
abbrev argH : Vec Ideal S4x2048x3072 .f32 := m (c.tc.loc main_arg0)
abbrev argW : Vec Ideal S3x1024 .f32 := m (c.tc.loc main_arg1)
abbrev argB : Vec Ideal S1024 .f32 := m (c.tc.loc main_arg2)
abbrev argD : Vec Ideal S4x2048x1024 .f32 := m (c.tc.loc main_arg3)

/-- A strip's batch, and its lanes. -/
abbrev bat (q : Fin 16) : Fin 4 := ⟨q.val % 4, Nat.mod_lt _ (by decide)⟩
abbrev col (q : Fin 16) (l : Fin 256) : Fin 1024 := ⟨q.val / 4 * 256 + l.val, by omega⟩

theorem blk0 (q : Fin 16) (l : Fin 256) : lane (iblk m c 0 (head q.val)) l = seqH (argH m c) 0 (bat q) (col q l) := by
  funext t
  show iblk m c 0 (head q.val) (ix3 0 t l) = argH m c _
  blk_ext [iblk, V, idx q]
theorem blk1 (q : Fin 16) (l : Fin 256) : lane (iblk m c 1 (head q.val)) l = seqH (argH m c) 1 (bat q) (col q l) := by
  funext t
  show iblk m c 1 (head q.val) (ix3 0 t l) = argH m c _
  blk_ext [iblk, V, idx q]
theorem blk2 (q : Fin 16) (l : Fin 256) : lane (iblk m c 2 (head q.val)) l = seqH (argH m c) 2 (bat q) (col q l) := by
  funext t
  show iblk m c 2 (head q.val) (ix3 0 t l) = argH m c _
  blk_ext [iblk, V, idx q]
theorem blk3 (q : Fin 16) (l : Fin 256) : lane (iblk m c 3 (head q.val)) l = seqD (argD m c) (bat q) (col q l) := by
  funext t
  show iblk m c 3 (head q.val) (ix3 0 t l) = argD m c _
  blk_ext [iblk, V, idx q]
theorem blk4 (q : Fin 16) (l : Fin 256) : taps (iblk m c 4 (head q.val)) l = taps (argW m c) (col q l) := by
  funext k
  show iblk m c 4 (head q.val) (ix2 k l) = argW m c _
  blk_ext [iblk, V, idx q]
theorem blk5 (q : Fin 16) (l : Fin 256) : iblk m c 5 (head q.val) (ix2 0 l) = argB m c (ix1 (col q l)) := by
  unfold iblk
  rw [View.read_apply]
  show V m c main_v0 _ = _
  entry_read
  pointwise
  blk_ext [idx q]

/-- What the `q`-th strip's parts are, and its gradients of the taps and of the bias. -/
theorem saved_at (q : Fin 16) (p : Fin 3) (t : Fin 2048) (l : Fin 256) :
    savedAt m c q.val (ix3 p t l) = dhAt (argH m c) (argW m c) (argB m c) (argD m c) p (bat q) (col q l) t := by
  unfold savedAt
  rw [saved_apply]
  show part p (lane _ l) (lane _ l) (lane _ l) (lane _ l) (taps _ l) (iblk m c 5 (head q.val) (ix2 0 l)) t = _
  rw [blk0, blk1, blk2, blk3, blk4, blk5]
  rfl
theorem dwAs_at (q : Fin 16) (k : Fin 3) (l : Fin 256) :
    dwAs (iblk m c 0 (head q.val)) (iblk m c 1 (head q.val)) (iblk m c 2 (head q.val)) (iblk m c 3 (head q.val)) (ix2 k l)
      = dtap (cot (argH m c) (argD m c) (bat q) (col q l)) (inp (argH m c) (bat q) (col q l)) k := by
  show dtap (fun t => lane _ l t * lane _ l t) (fun t => lane _ l t * lane _ l t) k = _
  rw [blk0, blk1, blk2, blk3]
  rfl
theorem dbAs_at (q : Fin 16) (a : Fin 1) (l : Fin 256) :
    dbAs (iblk m c 0 (head q.val)) (iblk m c 3 (head q.val)) (ix2 a l) = ∑ t, cot (argH m c) (argD m c) (bat q) (col q l) t := by
  show ∑ t, lane _ l t * lane _ l t = _
  rw [blk0, blk3]
  rfl

theorem dw_more (q : Fin 16) (h : ¬ q.val % 4 = 0) (k : Fin 3) (l : Fin 256) : dwAt m c q.val (ix2 k l)
    = dwAt m c (q.val - 1) (ix2 k l) + dtap (cot (argH m c) (argD m c) (bat q) (col q l)) (inp (argH m c) (bat q) (col q l)) k := by
  rw [dwAt_more m c _ h, dwMore_apply, plus, dwAs_at]
theorem dw_fresh (q : Fin 16) (h : q.val % 4 = 0) (k : Fin 3) (l : Fin 256) : dwAt m c q.val (ix2 k l)
    = dtap (cot (argH m c) (argD m c) (bat q) (col q l)) (inp (argH m c) (bat q) (col q l)) k := by
  rw [dwAt_fresh m c _ h, dw_apply, dwAs_at]
theorem db_more (q : Fin 16) (h : ¬ q.val % 4 = 0) (a : Fin 1) (l : Fin 256) : dbAt m c q.val (ix2 a l)
    = dbAt m c (q.val - 1) (ix2 a l) + ∑ t, cot (argH m c) (argD m c) (bat q) (col q l) t := by
  rw [dbAt_more m c _ h, dbMore_apply, plus, dbAs_at]
theorem db_fresh (q : Fin 16) (h : q.val % 4 = 0) (a : Fin 1) (l : Fin 256) : dbAt m c q.val (ix2 a l)
    = ∑ t, cot (argH m c) (argD m c) (bat q) (col q l) t := by
  rw [dbAt_fresh m c _ h, db_apply, dbAs_at]

/-- A running sum over four batches. -/
theorem four (S f : Fin 16 → EReal) (fresh : ∀ q, q.val % 4 = 0 → S q = f q)
    (more : ∀ q : Fin 16, ¬ q.val % 4 = 0 → S q = S ⟨q.val - 1, by omega⟩ + f q) (j : Fin 4) (g : Fin 4 → EReal)
    (hf : ∀ b : Fin 4, f ⟨4 * j.val + b.val, by omega⟩ = g b) : S ⟨4 * j.val + 3, by omega⟩ = ∑ b, g b := by
  rw [Fin.sum_univ_four, ← hf 0, ← hf 1, ← hf 2, ← hf 3]
  refine (more _ (by show ¬ (4 * j.val + 3) % 4 = 0; omega)).trans (congrArg₂ HAdd.hAdd ?_ rfl)
  refine (more ⟨4 * j.val + 2, by omega⟩ (by show ¬ (4 * j.val + 2) % 4 = 0; omega)).trans (congrArg₂ HAdd.hAdd ?_ rfl)
  refine (more ⟨4 * j.val + 1, by omega⟩ (by show ¬ (4 * j.val + 1) % 4 = 0; omega)).trans (congrArg₂ HAdd.hAdd ?_ rfl)
  exact fresh ⟨4 * j.val + 0, by omega⟩ (by show (4 * j.val + 0) % 4 = 0; omega)

theorem bat_eq (j b : Fin 4) : bat ⟨4 * j.val + b.val, by omega⟩ = b := Fin.ext (by show (4 * j.val + b.val) % 4 = b.val; omega)
theorem col_eq (j b : Fin 4) (l : Fin 256) : col ⟨4 * j.val + b.val, by omega⟩ l = ⟨j.val * 256 + l.val, by omega⟩ :=
  Fin.ext (by show (4 * j.val + b.val) / 4 * 256 + l.val = j.val * 256 + l.val; omega)

/-- The block a strip's fourth batch hands over is the sum over the batches. -/
theorem dw_sum (j : Fin 4) (k : Fin 3) (l : Fin 256) :
    dwAt m c (4 * j.val + 3) (ix2 k l) = dw (argH m c) (argD m c) (ix2 k ⟨j.val * 256 + l.val, by omega⟩) :=
  four (fun q => dwAt m c q.val (ix2 k l)) _ (fun q h => dw_fresh m c q h k l) (fun q h => dw_more m c q h k l) j
    (fun b => dtap (cot (argH m c) (argD m c) b ⟨j.val * 256 + l.val, by omega⟩) (inp (argH m c) b ⟨j.val * 256 + l.val, by omega⟩) k)
    fun b => by rw [bat_eq, col_eq]
theorem db_sum (j : Fin 4) (a : Fin 1) (l : Fin 256) :
    dbAt m c (4 * j.val + 3) (ix2 a l) = db (argH m c) (argD m c) (ix2 a ⟨j.val * 256 + l.val, by omega⟩) :=
  four (fun q => dbAt m c q.val (ix2 a l)) _ (fun q h => db_fresh m c q h a l) (fun q h => db_more m c q h a l) j
    (fun b => ∑ t, cot (argH m c) (argD m c) b ⟨j.val * 256 + l.val, by omega⟩ t)
    fun b => by rw [bat_eq, col_eq]

theorem lt_points (t : Fin cfg0.N) : t.val < 48 := lt_of_lt_of_eq t.isLt (show cfg0.N = 48 from N_0)

theorem handed_at (t : Fin cfg0.N) (xs : Vec Ideal S3x2048x256 .bf16) (r : Fin 2048) (l : Fin 256) :
    handed (grid0.coords t) xs (ix3 0 r l) = xs (ix3 ⟨t.val % 3, Nat.mod_lt _ (by decide)⟩ r l) := by
  unfold handed
  pointwise [k0_pay10]
  refine congrArg xs (funext fun a => Fin.ext ?_)
  have e : ∀ a, k0_off1 (grid0.coords t) a = ![t.val % 3, 0, 0] a := congrFun (idx_out t).2.2.2
  fin_cases a
  · exact e 0
  · exact (congrArg₂ HAdd.hAdd (e 1) rfl).trans (Nat.zero_add _)
  · exact (congrArg₂ HAdd.hAdd (e 2) rfl).trans (Nat.zero_add _)

theorem emb6 (t : Fin cfg0.N) (r : Fin 2048) (l : Fin 256) : ((View.whole main_v1_0).slice (win0_6.rect t)).emb (ix3 0 r l)
    = ix3 ⟨t.val / 3 % 4, Nat.mod_lt _ (by decide)⟩ r ⟨(t.val % 3 * 4 + t.val / 12) * 256 + l.val, by have := lt_points t; omega⟩ := by
  blk_ext [idx_out t]
theorem emb7 (t : Fin cfg0.N) (k : Fin 3) (l : Fin 256) : ((View.whole main_v1_1).slice (win0_7.rect t)).emb (ix2 k l)
    = ix2 k ⟨t.val / 12 * 256 + l.val, by have := lt_points t; omega⟩ := by
  blk_ext [idx_out t]
theorem emb8 (t : Fin cfg0.N) (a : Fin 1) (l : Fin 256) : ((View.whole main_v1_2).slice (win0_8.rect t)).emb (ix2 a l)
    = ix2 a ⟨t.val / 12 * 256 + l.val, by have := lt_points t; omega⟩ := by
  blk_ext [idx_out t]

theorem final_dh : (dats m 0 c).arrAt 6 cfg0.N = dh (argH m c) (argW m c) (argB m c) (argD m c) := by
  refine (dats m 0 c).arrAt_eq_of_covers 6 _ (by decide +kernel) fun t hf y => ?_
  blk_simp
  rw [after6]
  obtain ⟨a, r, l, rfl⟩ : ∃ (a : Fin 1) (r : Fin 2048) (l : Fin 256), y = ix3 a r l := ⟨y 0, y 1, y 2, eq_ix3 y⟩
  obtain rfl : a = 0 := Subsingleton.elim _ _
  have ht := lt_points t
  rw [emb6, handed_at]
  refine (saved_at m c ⟨t.val / 3, by omega⟩ _ r l).trans ?_
  unfold dh
  have e1 : ((t.val % 3 * 4 + t.val / 12) * 256 + l.val) / 1024 = t.val % 3 := by omega
  have e2 : ((t.val % 3 * 4 + t.val / 12) * 256 + l.val) % 1024 = t.val / 3 / 4 * 256 + l.val := by omega
  exact congrArg₂ (fun p l => dhAt (argH m c) (argW m c) (argB m c) (argD m c) p _ l r) (Fin.ext e1.symm) (Fin.ext e2.symm)

theorem final_dw : (dats m 0 c).arrAt 7 cfg0.N = dw (argH m c) (argD m c) := by
  refine (dats m 0 c).arrAt_eq_of_covers 7 _ (by decide +kernel) fun t hf y => ?_
  blk_simp
  rw [after7]
  obtain ⟨k, l, rfl⟩ : ∃ (k : Fin 3) (l : Fin 256), y = ix2 k l := ⟨y 0, y 1, eq_ix2 y⟩
  have ht := lt_points t
  have hl := (flush0_7 t).1 hf
  rw [emb7, show t.val / 3 = 4 * (t.val / 12) + 3 by omega]
  exact dw_sum m c ⟨t.val / 12, by omega⟩ k l

theorem final_db : (dats m 0 c).arrAt 8 cfg0.N = db (argH m c) (argD m c) := by
  refine (dats m 0 c).arrAt_eq_of_covers 8 _ (by decide +kernel) fun t hf y => ?_
  blk_simp
  rw [after8]
  obtain ⟨a, l, rfl⟩ : ∃ (a : Fin 1) (l : Fin 256), y = ix2 a l := ⟨y 0, y 1, eq_ix2 y⟩
  have ht := lt_points t
  have hl := (flush0_8 t).1 hf
  rw [emb8, show t.val / 3 = 4 * (t.val / 12) + 3 by omega]
  exact db_sum m c ⟨t.val / 12, by omega⟩ a l

end Arrays

end Cert.ScValue

end
-- ==== Proof.ScRef.lean ====
/- The gradient of the short convolution's gate: what differentiating the reference's forward lines gives, read entry by entry, is
   what the kernel leaves in its three results, at any extended reals. -/
module

public import proofs.«01_k».proof.Proof.ScValue
public import proofs.«01_k».proof.Proof.Gen.ScReferenceIdeal.Run
public import proofs.«01_k».proof.Proof.Gen.ScReferenceIdeal.Read
public import Idealize.ShloMosaic.Lib.Pointwise

@[expose] public section

set_option maxRecDepth 16384

noncomputable section

open Idealize.ShloMosaic Idealize.ShloMosaic.TcCoe Idealize.SL.Sem

namespace Cert.ScRef

open Cert.ScReferenceIdeal Cert.ScReferenceIdeal.Read Cert.ConvMath Cert.ScBlock Cert.ScValue

variable (x : Vec Ideal S4x2048x3072 .f32) (w : Vec Ideal S3x1024 .f32) (β : Vec Ideal S1024 .f32) (d : Vec Ideal S4x2048x1024 .f32)
  (b : Fin 4) (t : Fin 2048) (l : Fin 1024)

/-! ## The input's parts and the taps -/

theorem v3 : val_main_v3 x (ix3 b t l) = inp x b l t := by
  pointwise [val_main_v3, val_main_v1, val_main_v2]
  rfl
theorem v7 : val_main_v7 x (ix3 b t l) = dn (inp x b l) 2 t := by
  pointwise [val_main_v7, val_main_v5, val_main_v4, val_main_cst]
  unfold dn
  by_cases h : t.val < 2
  · rw [dif_pos h, dif_neg (by omega)]
  · rw [dif_neg h, dif_pos (by omega), v3]
theorem v16 : val_main_v16 x (ix3 b t l) = dn (inp x b l) 1 t := by
  pointwise [val_main_v16, val_main_v5, val_main_v4, val_main_cst]
  unfold dn
  by_cases h : t.val < 1
  · rw [dif_pos (by omega), dif_neg (by omega)]
  · rw [dif_neg (by omega), dif_pos (by omega), v3]
    exact congrArg (inp x b l) (Fin.ext (by show 1 + t.val - 2 = t.val - 1; omega))
theorem v23 : val_main_v23 x (ix3 b t l) = inp x b l t := by
  pointwise [val_main_v23, val_main_v5, val_main_v4, val_main_cst]
  rw [v3]
theorem v31 : val_main_v31 x d (ix3 b t l) = cot x d b l t := by
  pointwise [val_main_v31, val_main_v0]
  rw [mul_comm]
  exact congrArg (fun i : Fin 3072 => d (ix3 b t l) * x (ix3 b t i)) (Fin.ext (by show l.val = 0 * 1024 + l.val; omega))
theorem v11 : val_main_v11 w (ix3 b t l) = w (ix2 0 l) := by
  pointwise [val_main_v11, val_main_v10, val_main_v9, val_main_v8]
theorem v20 : val_main_v20 w (ix3 b t l) = w (ix2 1 l) := by
  pointwise [val_main_v20, val_main_v19, val_main_v18, val_main_v17]
theorem v27 : val_main_v27 w (ix3 b t l) = w (ix2 2 l) := by
  pointwise [val_main_v27, val_main_v26, val_main_v25, val_main_v24]
theorem v14 : val_main_v14 β (ix3 b t l) = β (ix1 l) := by
  pointwise [val_main_v14, val_main_v13]

theorem v29 : val_main_v29 x w β (ix3 b t l) = conv (inp x b l) (taps w l) (β (ix1 l)) t := by
  pointwise [val_main_v29, val_main_v22, val_main_v15, val_main_v12, val_main_v21, val_main_v28]
  rw [v7, v16, v23, v11, v20, v27, v14]
  rfl

/-! ## The gradient of the convolution's input -/

theorem v41 : val_main_v41 x w d (ix3 b ⟨2 + t.val, by omega⟩ l) = cot x d b l t * w (ix2 2 l) := by
  pointwise [val_main_v41, val_main_v37, val_main_v36, val_main_v26, val_main_v25, val_main_v24]
  rw [v31]
theorem v51 : val_main_v51 x w d (ix3 b ⟨2 + t.val, by omega⟩ l) = up (cot x d b l) 1 t * w (ix2 1 l) := by
  pointwise [val_main_v51, val_main_v46, val_main_v45, val_main_v19, val_main_v18, val_main_v17, val_main_cst_8]
  unfold up
  by_cases h : t.val + 1 < 2048
  · rw [dif_pos ⟨by omega, by omega⟩, dif_pos h, v31]
    exact congrArg (fun s => cot x d b l s * _) (Fin.ext (by show 2 + t.val - 1 = t.val + 1; omega))
  · rw [dif_neg (by omega), dif_neg h, zero_mul]
theorem v65 : val_main_v65 x w d (ix3 b ⟨2 + t.val, by omega⟩ l) = up (cot x d b l) 2 t * w (ix2 0 l) := by
  pointwise [val_main_v65, val_main_v60, val_main_v59, val_main_v10, val_main_v9, val_main_v8, val_main_cst_14]
  unfold up
  by_cases h : t.val + 2 < 2048
  · rw [dif_pos (by omega), dif_pos h, v31]
    exact congrArg (fun s => cot x d b l s * _) (Fin.ext (by show 2 + t.val = t.val + 2; omega))
  · rw [dif_neg (by omega), dif_neg h, zero_mul]
theorem v68 : val_main_v68 x w d (ix3 b t l) = dconv (cot x d b l) (taps w l) t := by
  pointwise [val_main_v68, val_main_v66, val_main_v52]
  rw [v41, v51, v65, dconv]
  show _ = up (cot x d b l) 2 t * w (ix2 0 l) + up (cot x d b l) 1 t * w (ix2 1 l) + cot x d b l t * w (ix2 2 l)
  rw [add_comm (cot x d b l t * _), add_comm, add_assoc]

/-- The input's gradient. -/
theorem ref_dh : val_main_v72 x w β d = dh x w β d := by
  funext i
  obtain ⟨b, t, i, rfl⟩ : ∃ (b : Fin 4) (t : Fin 2048) (i' : Fin 3072), i = ix3 b t i' := ⟨i 0, i 1, i 2, eq_ix3 i⟩
  pointwise [val_main_v72, val_main_v71]
  unfold dh
  have e : ∀ (p : Fin 3) (l : Fin 1024), i.val = p.val * 1024 + l.val → dhAt x w β d p b l t = dhAt x w β d ⟨i.val / 1024, by omega⟩ b
      ⟨i.val % 1024, Nat.mod_lt _ (by decide)⟩ t := fun p l h =>
    congrArg₂ (fun p l => dhAt x w β d p b l t) (Fin.ext (by show p.val = i.val / 1024; omega)) (Fin.ext (by show l.val = i.val % 1024; omega))
  by_cases h : i.val < 1024
  · rw [dif_pos h]
    refine Eq.trans ?_ (e 0 ⟨i.val, h⟩ (by show i.val = 0 * 1024 + i.val; omega))
    pointwise [val_main_v32]
    rw [v29]
    rfl
  · rw [dif_neg h]
    by_cases h' : i.val - 1024 < 1024
    · rw [dif_pos h']
      refine Eq.trans ?_ (e 1 ⟨i.val - 1024, h'⟩ (by show i.val = 1 * 1024 + (i.val - 1024); omega))
      pointwise [val_main_v70, val_main_v2]
      rw [v68]
      rfl
    · rw [dif_neg h']
      refine Eq.trans ?_ (e 2 ⟨i.val - 1024 - 1024, by omega⟩ (by show i.val = 2 * 1024 + (i.val - 1024 - 1024); omega))
      pointwise [val_main_v69, val_main_v1]
      rw [v68, mul_comm]
      rfl

/-! ## The gradients of the taps and of the bias -/

theorem fiber (h : S4x2048x1024.ReducesTo [0, 1] S1024) (i : S4x2048x1024.Idx) :
    h.drop i = ix1 l ↔ ∃ k : Fin 4 × Fin 2048, ix3 k.1 k.2 l = i := by
  constructor
  · intro e
    refine ⟨(i 0, i 1), (funext fun a => Fin.ext ?_)⟩
    match a with
    | ⟨0, _⟩ => rfl
    | ⟨1, _⟩ => rfl
    | ⟨2, _⟩ => exact (congrArg Fin.val (congrFun e 0)).symm
  · rintro ⟨k, rfl⟩
    funext a
    obtain rfl : a = 0 := Subsingleton.elim _ _
    rfl
/-- A sum over the batches and the times. -/
theorem sum_all (h : S4x2048x1024.ReducesTo [0, 1] S1024) (v : S4x2048x1024.Idx → EReal) (z : EReal) :
    Ideal.hostReduceAdd h v z (ix1 l) = z + ∑ b : Fin 4, ∑ t : Fin 2048, v (ix3 b t l) := by
  refine congrArg (z + ·) ((Finset.sum_filter_eq_sum_of_fiber _ (fun k : Fin 4 × Fin 2048 => ix3 k.1 k.2 l)
    (fun _ _ e => Prod.ext (congrFun e 0) (congrFun e 1)) (fiber l h) v).trans ?_)
  rw [Fintype.sum_prod_type]
theorem fiber1 (h : S1x1x1024.ReducesTo [0, 1] S1024) (i : S1x1x1024.Idx) :
    h.drop i = ix1 l ↔ ∃ k : Unit, ix3 0 0 l = i := by
  constructor
  · intro e
    refine ⟨(), (funext fun a => Fin.ext ?_)⟩
    match a with
    | ⟨0, _⟩ => exact congrArg Fin.val (Subsingleton.elim (0 : Fin 1) (i 0))
    | ⟨1, _⟩ => exact congrArg Fin.val (Subsingleton.elim (0 : Fin 1) (i 1))
    | ⟨2, _⟩ => exact (congrArg Fin.val (congrFun e 0)).symm
  · rintro ⟨k, rfl⟩
    funext a
    obtain rfl : a = 0 := Subsingleton.elim _ _
    rfl
theorem sum_one (h : S1x1x1024.ReducesTo [0, 1] S1024) (v : S1x1x1024.Idx → EReal) (z : EReal) :
    Ideal.hostReduceAdd h v z (ix1 l) = z + v (ix3 0 0 l) := by
  refine congrArg (z + ·) ((Finset.sum_filter_eq_sum_of_fiber _ (fun _ : Unit => ix3 0 0 l)
    (fun _ _ e => rfl) (fiber1 l h) v).trans ?_)
  exact Fintype.sum_unique _

theorem v39 : val_main_v39 x d (ix2 0 l) = ∑ b, dtap (cot x d b l) (inp x b l) 2 := by
  pointwise [val_main_v39, val_main_v38, val_main_v35, val_main_v34, val_main_v33, sum_all, sum_one, val_main_cst_1, val_main_cst_2]
  simp only [dtap_eq, v23, v31]
  rfl
theorem v48 : val_main_v48 x d (ix2 0 l) = ∑ b, dtap (cot x d b l) (inp x b l) 1 := by
  pointwise [val_main_v48, val_main_v47, val_main_v44, val_main_v43, val_main_v42, sum_all, sum_one, val_main_cst_5, val_main_cst_6]
  simp only [dtap_eq, v16, v31]
  rfl
theorem v62 : val_main_v62 x d (ix2 0 l) = ∑ b, dtap (cot x d b l) (inp x b l) 0 := by
  pointwise [val_main_v62, val_main_v61, val_main_v58, val_main_v57, val_main_v56, sum_all, sum_one, val_main_cst_11, val_main_cst_12]
  simp only [dtap_eq, v7, v31]
  rfl

/-- The taps' gradient. -/
theorem ref_dw : val_main_v64 x d = dw x d := by
  funext i
  obtain ⟨k, l, rfl⟩ : ∃ (k : Fin 3) (l : Fin 1024), i = ix2 k l := ⟨i 0, i 1, eq_ix2 i⟩
  pointwise [val_main_v64, val_main_v50, val_main_v40, val_main_v49, val_main_v63, val_main_cst_3, val_main_cst_7, val_main_cst_13]
  fin_cases k
  · rw [dif_neg (by decide), dif_neg (by decide), dif_pos (by decide), zero_add, zero_add]
    exact v62 x d l
  · rw [dif_neg (by decide), dif_pos (by decide), dif_neg (by decide), zero_add, add_zero]
    exact v48 x d l
  · rw [dif_pos (by decide), dif_neg (by decide), dif_neg (by decide), add_zero, add_zero]
    exact v39 x d l

/-- The bias's gradient. -/
theorem ref_db : val_main_v73 x d = db x d := by
  funext i
  obtain ⟨a, l, rfl⟩ : ∃ (a : Fin 1) (l : Fin 1024), i = ix2 a l := ⟨i 0, i 1, eq_ix2 i⟩
  pointwise [val_main_v73, val_main_v55, val_main_v54, val_main_v53, sum_all, sum_one, val_main_cst_9, val_main_cst_10]
  simp only [v31]
  rfl

end Cert.ScRef

end
-- ==== Proof.ScClaim.lean ====
/- The claims of the short convolution's gradient: the frames of its programs, and that kernel and reference agree at any extended
   reals. -/
module

public import proofs.«01_k».proof.Defs
public import proofs.«01_k».proof.Proof.ScRef
public import proofs.«01_k».proof.Proof.Gen.ScKernel
public import Idealize.ShloMosaic.Lib.Quiescent
import Idealize.ShloMosaic.Lib.Tactic.ProgEq

@[expose] public section

set_option maxRecDepth 16384

noncomputable section

open Idealize.ShloMosaic Idealize.ShloMosaic.TcCoe Idealize.SL.Sem
open Idealize.ShloMosaic.Pipeline (Dat)

namespace Cert.ScClaim

open Cert.ScKernelIdeal Cert.ScKernelIdeal.Gen Cert.ScFrame Cert.ScValue

section Run

variable (m : (ℓ : Loc nD τ sig) → Buf (Elt Ideal) ℓ) (ρ : Dev nD → PrngReg)

/-- The kernel's run, its three results named. -/
theorem run : θ_run defs (onTc (τ := τ) (main (F := Ideal))) ⟨m, fun _ => 0, ρ⟩ fun r => ∀ c : Dev nD,
      r.2.mem ((c : Thread nD τ).loc main_v1_0) = (dats m 0 c).arrAt 6 cfg0.N
      ∧ r.2.mem ((c : Thread nD τ).loc main_v1_1) = (dats m 0 c).arrAt 7 cfg0.N
      ∧ r.2.mem ((c : Thread nD τ).loc main_v1_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 6, (h.1 c).1 7, (h.1 c).1 8, h.2.1 c⟩) (θ_run_and (run_main m ρ) (frame m ρ))

end Run

section Frames

attribute [local instance] Cert.ScKernel.Gen.facts

/-- The kernel's frame on machine words: the run does not depend on the floats. -/
theorem frame_kernel (m : (ℓ : Loc Cert.ScKernel.nD Cert.ScKernel.τ Cert.ScKernel.sig) → Buf (Elt Bits) ℓ) (g : Dev Cert.ScKernel.nD → PrngReg) :
    θ_run (Cert.ScKernel.defs (F := Bits)) (onTc (τ := Cert.ScKernel.τ) (Cert.ScKernel.main (F := Bits))) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0)
      ∧ r.2.mem ((c.tc : Thread Cert.ScKernel.nD Cert.ScKernel.τ).loc Cert.ScKernel.main_arg1) = m ((c.tc : Thread Cert.ScKernel.nD Cert.ScKernel.τ).loc Cert.ScKernel.main_arg1)
      ∧ r.2.mem ((c.tc : Thread Cert.ScKernel.nD Cert.ScKernel.τ).loc Cert.ScKernel.main_arg2) = m ((c.tc : Thread Cert.ScKernel.nD Cert.ScKernel.τ).loc Cert.ScKernel.main_arg2)
      ∧ r.2.mem ((c.tc : Thread Cert.ScKernel.nD Cert.ScKernel.τ).loc Cert.ScKernel.main_arg3) = m ((c.tc : Thread Cert.ScKernel.nD Cert.ScKernel.τ).loc Cert.ScKernel.main_arg3))
      ∧ r.2.sem = fun _ => 0) :=
  cast (by sl_kernel_rfl) (Cert.ScFrame.frame (F := Bits) m g)

/-- The reference's frame. -/
theorem frame_reference (m : (ℓ : Loc Cert.ScReferenceIdeal.nD Cert.ScReferenceIdeal.τ Cert.ScReferenceIdeal.sig) → Buf (Elt Ideal) ℓ)
    (g : Dev Cert.ScReferenceIdeal.nD → PrngReg) :
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0)
      ∧ r.2.mem ((c.tc : Thread Cert.ScReferenceIdeal.nD Cert.ScReferenceIdeal.τ).loc Cert.ScReferenceIdeal.main_arg1) = m ((c.tc : Thread Cert.ScReferenceIdeal.nD Cert.ScReferenceIdeal.τ).loc Cert.ScReferenceIdeal.main_arg1)
      ∧ r.2.mem ((c.tc : Thread Cert.ScReferenceIdeal.nD Cert.ScReferenceIdeal.τ).loc Cert.ScReferenceIdeal.main_arg2) = m ((c.tc : Thread Cert.ScReferenceIdeal.nD Cert.ScReferenceIdeal.τ).loc Cert.ScReferenceIdeal.main_arg2)
      ∧ r.2.mem ((c.tc : Thread Cert.ScReferenceIdeal.nD Cert.ScReferenceIdeal.τ).loc Cert.ScReferenceIdeal.main_arg3) = m ((c.tc : Thread Cert.ScReferenceIdeal.nD Cert.ScReferenceIdeal.τ).loc Cert.ScReferenceIdeal.main_arg3))
      ∧ r.2.sem = fun _ => 0) :=
  (θ_run _ _ _).mono (fun _ h => ⟨fun c => (h c).2.2.2, sem_eq_zero_of_no_sems (by decide) _⟩) (Cert.ScReferenceIdeal.Value.run m g)

end Frames

/-- The kernel's three results are the reference's. -/
theorem algebraic : algebraic_ScKernelIdeal_ScReferenceIdeal := by
  pair_intro
  · run_from run m g
  · run_from Cert.ScReferenceIdeal.Value.run m' g'
    · rw [Cert.ScReferenceIdeal.Read.val_main_v72_eq, (hagree c).1, (hagree c).2.1, (hagree c).2.2.1, (hagree c).2.2.2, final_dh, Cert.ScRef.ref_dh]
    · refine (Cert.ScReferenceIdeal.Read.val_main_v64_eq _ _).trans ?_
      rw [final_dw, Cert.ScRef.ref_dw]
    · refine (Cert.ScReferenceIdeal.Read.val_main_v73_eq _ _).trans ?_
      rw [final_db, Cert.ScRef.ref_db]

end Cert.ScClaim

end
-- ==== Proof.FfnPut.lean ====
module

public import proofs.«01_k».proof.Proof.Gen.FfnKernelIdeal.Skeleton
public import proofs.«01_k».proof.Proof.Gen.FfnKernelIdeal.Frame
public import Idealize.ShloMosaic.Lib.VecWindow
public import Idealize.ShloMosaic.Lib.Claim
public import proofs.«01_k».proof.Proof.ConvMath

@[expose] public section

set_option maxRecDepth 16384

noncomputable section

/-! Rows written into one block of 256 lanes of an array of 2816 lanes, 128 lanes at a time. -/

namespace Cert.FfnPut

open Idealize.ShloMosaic Idealize.ShloMosaic.TcCoe Idealize.ShloMosaic.Tactic
open Cert.FfnKernelIdeal Cert.FfnKernelIdeal.Gen

variable {F : FTy → Type} [FloatOps F]

/-- An array of `R` rows over all lanes. -/
abbrev SR (R : ℕ) : Shape := ⟨2, ![R, 2816]⟩

/-- `X`, with block `n` of the lanes taken from `P`. -/
def onBlock {α : Type} {R : ℕ} (n : ℕ) (P X : (SR R).Idx → α) : (SR R).Idx → α :=
  fun y => if (y 1).val / 256 = n then P y else X y

/-- Rows of 128 lanes, one for each half of a block, laid over all lanes. -/
def spread {R : ℕ} (w : Fin 2 → Fin R → Vec F S1x128 .f32) : Vec F (SR R) .f32 :=
  fun y => w ⟨(y 1).val / 128 % 2, Nat.mod_lt _ (by decide)⟩ (y 0) (ix2 0 ⟨(y 1).val % 128, Nat.mod_lt _ (by decide)⟩)

theorem spread_at {R : ℕ} (w : Fin 2 → Fin R → Vec F S1x128 .f32) (n : ℕ) (h : Fin 2) (k : Fin R) (l : Fin 128)
    (hb : 256 * n + 128 * h.val + l.val < 2816) :
    spread w (ix2 k ⟨256 * n + 128 * h.val + l.val, hb⟩) = w h k (ix2 0 l) := by
  have e1 : (256 * n + 128 * h.val + l.val) / 128 % 2 = h.val := by have := h.isLt; have := l.isLt; omega
  have e2 : (256 * n + 128 * h.val + l.val) % 128 = l.val := by have := l.isLt; omega
  have key : ∀ (a : Fin 2) (b : Fin 128), a = h → b = l → w a k (ix2 0 b) = w h k (ix2 0 l) := by
    rintro a b rfl rfl; rfl
  exact key _ _ (Fin.ext e1) (Fin.ext e2)

/-- Every lane of block `n` is a lane of one of its halves. -/
theorem lane_split {R : ℕ} (n : ℕ) (y : (SR R).Idx) (hy : (y 1).val / 256 = n) :
    ∃ (h : Fin 2) (k : Fin R) (l : Fin 128) (hb : 256 * n + 128 * h.val + l.val < 2816), y = ix2 k ⟨256 * n + 128 * h.val + l.val, hb⟩ := by
  have hlt : (y 1).val < 2816 := (y 1).isLt
  refine ⟨⟨(y 1).val / 128 % 2, Nat.mod_lt _ (by decide)⟩, y 0, ⟨(y 1).val % 128, Nat.mod_lt _ (by decide)⟩, ?_, ?_⟩
  · show 256 * n + 128 * ((y 1).val / 128 % 2) + (y 1).val % 128 < 2816
    omega
  · refine (eq_ix2 (n0 := R) (n1 := 2816) y).trans (congrArg (ix2 (y 0)) (Fin.ext ?_))
    show (y 1).val = 256 * n + 128 * ((y 1).val / 128 % 2) + (y 1).val % 128
    omega

/-- One row of 128 lanes put at `![k, o]`. -/
theorem put_at {R : ℕ} (X : Vec F (SR R) .f32) (k o : ℕ) (w : Vec F S1x128 .f32) (a : Fin R) (p : Fin 2816) :
    VecWindow.put (s := SR R) X ![k, o] S1x128.size w (ix2 a p)
      = if h : a.val = k ∧ o ≤ p.val ∧ p.val < o + 128 then w (ix2 0 ⟨p.val - o, by omega⟩) else X (ix2 a p) := by
  unfold VecWindow.put
  by_cases h : a.val = k ∧ o ≤ p.val ∧ p.val < o + 128
  · have h' : ∀ x : Fin 2, (![k, o] : Fin 2 → ℕ) x ≤ ((ix2 a p : (SR R).Idx) x).val
        ∧ ((ix2 a p : (SR R).Idx) x).val < (![k, o] : Fin 2 → ℕ) x + S1x128.size x := by
      intro x
      fin_cases x
      · show k ≤ a.val ∧ a.val < k + 1
        omega
      · show o ≤ p.val ∧ p.val < o + 128
        omega
    rw [dif_pos h, dif_pos h']
    refine congrArg w ?_
    funext x
    fin_cases x
    · refine Fin.ext ?_
      show a.val - k = 0
      omega
    · rfl
  · have h' : ¬ ∀ x : Fin 2, (![k, o] : Fin 2 → ℕ) x ≤ ((ix2 a p : (SR R).Idx) x).val
        ∧ ((ix2 a p : (SR R).Idx) x).val < (![k, o] : Fin 2 → ℕ) x + S1x128.size x := by
      intro hx
      have h0 : k ≤ a.val ∧ a.val < k + 1 := hx 0
      have h1 : o ≤ p.val ∧ p.val < o + 128 := hx 1
      omega
    rw [dif_neg h, dif_neg h']

/-- A row put into a half of block `n`, read at a lane of the block. -/
theorem put_half {R : ℕ} (X : Vec F (SR R) .f32) (n : ℕ) (k : ℕ) (h' : ℕ) (hh' : h' < 2) (w : Vec F S1x128 .f32) (h : Fin 2) (a : Fin R) (l : Fin 128)
    (hb : 256 * n + 128 * h.val + l.val < 2816) (o : ℕ) (ho : o = 256 * n + 128 * h') :
    VecWindow.put (s := SR R) X ![k, o] S1x128.size w (ix2 a ⟨256 * n + 128 * h.val + l.val, hb⟩)
      = if a.val = k ∧ h.val = h' then w (ix2 0 l) else X (ix2 a ⟨256 * n + 128 * h.val + l.val, hb⟩) := by
  subst ho
  rw [put_at (R := R)]
  have := l.isLt
  have := h.isLt
  by_cases e : a.val = k ∧ h.val = h'
  · rw [dif_pos (by show a.val = k ∧ _ ≤ 256 * n + 128 * h.val + l.val ∧ 256 * n + 128 * h.val + l.val < _; omega), if_pos e]
    refine congrArg (fun q => w (ix2 0 q)) (Fin.ext ?_)
    show 256 * n + 128 * h.val + l.val - (256 * n + 128 * h') = l.val
    omega
  · rw [dif_neg (by show ¬ (a.val = k ∧ _ ≤ 256 * n + 128 * h.val + l.val ∧ 256 * n + 128 * h.val + l.val < _); omega), if_neg e]

/-- A row put into block `n`, read at a lane outside the block. -/
theorem put_out {R : ℕ} (X : Vec F (SR R) .f32) (n : ℕ) (k : ℕ) (h' : ℕ) (hh' : h' < 2) (w : Vec F S1x128 .f32) (y : (SR R).Idx) (hy : ¬ (y 1).val / 256 = n)
    (o : ℕ) (ho : o = 256 * n + 128 * h') :
    VecWindow.put (s := SR R) X ![k, o] S1x128.size w y = X y := by
  subst ho
  obtain ⟨a, p, rfl⟩ : ∃ (a : Fin R) (p : Fin 2816), y = ix2 a p := ⟨_, _, eq_ix2 (n0 := R) (n1 := 2816) y⟩
  have hp : ¬ p.val / 256 = n := hy
  rw [put_at, dif_neg]
  omega

/-- The six rows of a block written one after another. -/
theorem put_six (X P : Vec F S3x2816 .f32) (n : ℕ) (w : Fin 2 → Fin 3 → Vec F S1x128 .f32)
    (hw : ∀ (h : Fin 2) (k : Fin 3) (l : Fin 128) (hb : 256 * n + 128 * h.val + l.val < 2816), w h k (ix2 0 l) = P (ix2 k ⟨256 * n + 128 * h.val + l.val, hb⟩)) :
    VecWindow.put (s := S3x2816) (VecWindow.put (s := S3x2816) (VecWindow.put (s := S3x2816) (VecWindow.put (s := S3x2816) (VecWindow.put (s := S3x2816) (VecWindow.put (s := S3x2816) X
        ![0, 256 * n] S1x128.size (w 0 0)) ![1, 256 * n] S1x128.size (w 0 1)) ![2, 256 * n] S1x128.size (w 0 2))
        ![0, 256 * n + 128] S1x128.size (w 1 0)) ![1, 256 * n + 128] S1x128.size (w 1 1)) ![2, 256 * n + 128] S1x128.size (w 1 2)
      = onBlock (R := 3) n P X := by
  funext y
  unfold onBlock
  by_cases hy : (y 1).val / 256 = n
  · rw [if_pos hy]
    obtain ⟨h, k, l, hb, rfl⟩ := lane_split (R := 3) n y hy
    rw [← hw]
    iterate 3 rw [put_half (R := 3) _ n _ 1 (by decide) _ h k l hb _ rfl]
    iterate 3 rw [put_half (R := 3) _ n _ 0 (by decide) _ h k l hb (256 * n) rfl]
    fin_cases h <;> fin_cases k <;> rfl
  · rw [if_neg hy]
    iterate 3 rw [put_out (R := 3) _ n _ 1 (by decide) _ y hy _ rfl]
    iterate 3 rw [put_out (R := 3) _ n _ 0 (by decide) _ y hy (256 * n) rfl]

/-- The two rows of a block written one after another. -/
theorem put_two (X P : Vec F S1x2816 .f32) (n : ℕ) (w : Fin 2 → Fin 1 → Vec F S1x128 .f32)
    (hw : ∀ (h : Fin 2) (k : Fin 1) (l : Fin 128) (hb : 256 * n + 128 * h.val + l.val < 2816), w h k (ix2 0 l) = P (ix2 k ⟨256 * n + 128 * h.val + l.val, hb⟩)) :
    VecWindow.put (s := S1x2816) (VecWindow.put (s := S1x2816) X ![0, 256 * n] S1x128.size (w 0 0)) ![0, 256 * n + 128] S1x128.size (w 1 0)
      = onBlock (R := 1) n P X := by
  funext y
  unfold onBlock
  by_cases hy : (y 1).val / 256 = n
  · rw [if_pos hy]
    obtain ⟨h, k, l, hb, rfl⟩ := lane_split (R := 1) n y hy
    rw [← hw]
    rw [put_half (R := 1) _ n _ 1 (by decide) _ h k l hb _ rfl]
    rw [put_half (R := 1) _ n _ 0 (by decide) _ h k l hb (256 * n) rfl]
    fin_cases h <;> fin_cases k <;> rfl
  · rw [if_neg hy]
    rw [put_out (R := 1) _ n _ 1 (by decide) _ y hy _ rfl]
    rw [put_out (R := 1) _ n _ 0 (by decide) _ y hy (256 * n) rfl]

theorem read_six {κ : Kind} {sp : Space} (v : View sig κ sp S3x2816 .f32) (f : v.ty.Contents (Elt F)) (n : ℕ) (P : Vec F S3x2816 .f32)
    (w0 w1 w2 w3 w4 w5 : Vec F S1x128 .f32)
    {o0 o1 o2 o3 o4 o5 : Fin 2 → ℕ}
    (b0 : ∀ a, o0 a + S1x128.size a ≤ S3x2816.size a)
    (b1 : ∀ a, o1 a + S1x128.size a ≤ S3x2816.size a)
    (b2 : ∀ a, o2 a + S1x128.size a ≤ S3x2816.size a)
    (b3 : ∀ a, o3 a + S1x128.size a ≤ S3x2816.size a)
    (b4 : ∀ a, o4 a + S1x128.size a ≤ S3x2816.size a)
    (b5 : ∀ a, o5 a + S1x128.size a ≤ S3x2816.size a)
    (e0 : o0 = ![0, 256 * n]) (e1 : o1 = ![1, 256 * n]) (e2 : o2 = ![2, 256 * n]) (e3 : o3 = ![0, 256 * n + 128]) (e4 : o4 = ![1, 256 * n + 128]) (e5 : o5 = ![2, 256 * n + 128])
    (hw : ∀ (h : Fin 2) (k : Fin 3) (l : Fin 128) (hb : 256 * n + 128 * h.val + l.val < 2816),
      (![![w0, w1, w2], ![w3, w4, w5]] : Fin 2 → Fin 3 → Vec F S1x128 .f32) h k (ix2 0 l) = P (ix2 k ⟨256 * n + 128 * h.val + l.val, hb⟩)) :
    v.read (Elt F) (v.writes (Elt F) f [⟨Rect.unit (s := S3x2816) o5 S1x128.size b5, w5⟩, ⟨Rect.unit (s := S3x2816) o4 S1x128.size b4, w4⟩, ⟨Rect.unit (s := S3x2816) o3 S1x128.size b3, w3⟩, ⟨Rect.unit (s := S3x2816) o2 S1x128.size b2, w2⟩, ⟨Rect.unit (s := S3x2816) o1 S1x128.size b1, w1⟩, ⟨Rect.unit (s := S3x2816) o0 S1x128.size b0, w0⟩])
      = onBlock (R := 3) n P (v.read (Elt F) f) := by
  refine Eq.trans ?_ (put_six (v.read (Elt F) f) P n ![![w0, w1, w2], ![w3, w4, w5]] hw)
  rw [View.read_writes_cons_put v f b5 w5 _ e5, View.read_writes_cons_put v f b4 w4 _ e4, View.read_writes_cons_put v f b3 w3 _ e3, View.read_writes_cons_put v f b2 w2 _ e2, View.read_writes_cons_put v f b1 w1 _ e1, View.read_writes_cons_put v f b0 w0 _ e0]
  rfl

theorem read_two {κ : Kind} {sp : Space} (v : View sig κ sp S1x2816 .f32) (f : v.ty.Contents (Elt F)) (n : ℕ) (P : Vec F S1x2816 .f32)
    (w0 w1 : Vec F S1x128 .f32)
    {o0 o1 : Fin 2 → ℕ}
    (b0 : ∀ a, o0 a + S1x128.size a ≤ S1x2816.size a)
    (b1 : ∀ a, o1 a + S1x128.size a ≤ S1x2816.size a)
    (e0 : o0 = ![0, 256 * n]) (e1 : o1 = ![0, 256 * n + 128])
    (hw : ∀ (h : Fin 2) (k : Fin 1) (l : Fin 128) (hb : 256 * n + 128 * h.val + l.val < 2816),
      (![![w0], ![w1]] : Fin 2 → Fin 1 → Vec F S1x128 .f32) h k (ix2 0 l) = P (ix2 k ⟨256 * n + 128 * h.val + l.val, hb⟩)) :
    v.read (Elt F) (v.writes (Elt F) f [⟨Rect.unit (s := S1x2816) o1 S1x128.size b1, w1⟩, ⟨Rect.unit (s := S1x2816) o0 S1x128.size b0, w0⟩])
      = onBlock (R := 1) n P (v.read (Elt F) f) := by
  refine Eq.trans ?_ (put_two (v.read (Elt F) f) P n ![![w0], ![w1]] hw)
  rw [View.read_writes_cons_put v f b1 w1 _ e1, View.read_writes_cons_put v f b0 w0 _ e0]
  rfl

/-- What a row adds to what it finds. -/
def more (old s : Vec F S1x128 .f32) : Vec F S1x128 .f32 := addf (shapeCast S1x128 old shapeCasts_S1x128_S1x128) s

theorem more_at {R : ℕ} (X P : Vec F (SR R) .f32) (n : ℕ) (h : Fin 2) (k : Fin R) (l : Fin 128) (s : Vec F S1x128 .f32)
    (hb : 256 * n + 128 * h.val + l.val < 2816) (hs : s (ix2 0 l) = P (ix2 k ⟨256 * n + 128 * h.val + l.val, hb⟩))
    (off : Fin 2 → ℕ) (inb : ∀ a, off a + S1x128.size a ≤ (SR R).size a) (ho : off = ![k.val, 256 * n + 128 * h.val]) :
    more (View.ld X (Rect.unit (s := SR R) off S1x128.size inb)) s (ix2 0 l) = addf X P (ix2 k ⟨256 * n + 128 * h.val + l.val, hb⟩) := by
  subst ho
  have e : shapeCast S1x128 (View.ld X (Rect.unit (s := SR R) ![k.val, 256 * n + 128 * h.val] S1x128.size inb)) shapeCasts_S1x128_S1x128 (ix2 0 l)
      = X (ix2 k ⟨256 * n + 128 * h.val + l.val, hb⟩) := by
    refine (congrFun (shapeCast_id (s := S1x128) _ _) _).trans ?_
    refine congrArg X ?_
    funext x
    fin_cases x
    · refine Fin.ext ?_
      show k.val + 1 * 0 = k.val
      omega
    · refine Fin.ext ?_
      show 256 * n + 128 * h.val + 1 * l.val = 256 * n + 128 * h.val + l.val
      omega
  exact congrArg₂ (FloatOps.addf (F := F) (φ := .f32)) e hs

end Cert.FfnPut
end
-- ==== Proof.FfnRun.lean ====
module

public import proofs.«01_k».proof.Proof.Gen.FfnKernelIdeal.Skeleton
public import proofs.«01_k».proof.Proof.Gen.FfnKernelIdeal.Frame
public import Idealize.ShloMosaic.Lib.VecWindow
public import Idealize.ShloMosaic.Lib.Claim
public import proofs.«01_k».proof.Proof.FfnPut

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.FfnKernelIdeal Cert.FfnKernelIdeal.Gen Cert.FfnPut

variable {F : FTy → Type} [FloatOps F]

local notation "𝕄" => MT nD τ sig Unit (Elt F) ℕ (UR sig nD τ) ℕ

/-- The first half of the lanes of a strip. -/
abbrev lo (x : Vec F S1x2048x256 .f32) : Vec F S1x2048x128 .f32 :=
  View.ld x (Rect.unit (s := S1x2048x256) ![0, 0, 0] S1x2048x128.size inb_S1x2048x256_S1x2048x128_0_0_0)
/-- The second half of the lanes of a strip. -/
abbrev hi (x : Vec F S1x2048x256 .f32) : Vec F S1x2048x128 .f32 :=
  View.ld x (Rect.unit (s := S1x2048x256) ![0, 0, 128] S1x2048x128.size inb_S1x2048x256_S1x2048x128_0_0_128)
abbrev loW (x : Vec F S3x256 .f32) : Vec F S3x128 .f32 :=
  View.ld x (Rect.unit (s := S3x256) ![0, 0] S3x128.size inb_S3x256_S3x128_0_0)
abbrev hiW (x : Vec F S3x256 .f32) : Vec F S3x128 .f32 :=
  View.ld x (Rect.unit (s := S3x256) ![0, 128] S3x128.size inb_S3x256_S3x128_0_128)

/-- The cotangent of the activation: `dz` times a block of the transposed weights. -/
abbrev da (i : grid0.Coords) (x4 : Vec F S1x2048x1024 .bf16) (x5 : Vec F S2816x1024 .bf16) : FVec F S2048x256 .f32 :=
  k0_pay23 (View.ld x4 (Rect.unit (s := S1x2048x1024) ![0, 0, 0] S1x2048x1024.size inb_S1x2048x1024_S1x2048x1024_0_0_0))
    (View.ld x5 (Rect.unit (s := S2816x1024) (k0_off1 i) S256x1024.size (k0_off1_inb i)))

section Point
variable (i : grid0.Coords) (x0 x1 x2 x3 : Vec F S1x2048x256 .f32) (x4 : Vec F S1x2048x1024 .bf16) (x5 : Vec F S2816x1024 .bf16) (x6 x7 : Vec F S3x256 .f32)

/-- The cotangents of the value and of the gate, half by half. -/
abbrev dvLo : FVec F S2048x128 .f32 :=
  k0_pay27 (View.ld x4 (Rect.unit (s := S1x2048x1024) ![0, 0, 0] S1x2048x1024.size inb_S1x2048x1024_S1x2048x1024_0_0_0))
    (View.ld x5 (Rect.unit (s := S2816x1024) (k0_off1 i) S256x1024.size (k0_off1_inb i))) (lo x2)
abbrev dgLo : FVec F S2048x128 .f32 :=
  k0_pay28 (View.ld x4 (Rect.unit (s := S1x2048x1024) ![0, 0, 0] S1x2048x1024.size inb_S1x2048x1024_S1x2048x1024_0_0_0))
    (View.ld x5 (Rect.unit (s := S2816x1024) (k0_off1 i) S256x1024.size (k0_off1_inb i))) (lo x2) (lo x3)
abbrev dvHi : FVec F S2048x128 .f32 := k0_pay52 (da i x4 x5) (hi x2)
abbrev dgHi : FVec F S2048x128 .f32 := k0_pay53 (da i x4 x5) (hi x2) (hi x3)
/-- The gate's cotangent of the second half, moved up one row and two, before the rows past the end are cleared. -/
abbrev up1 : FVec F S2048x128 .f32 := k0_pay55 (da i x4 x5) (hi x2) (hi x3)
abbrev up2 : FVec F S2048x128 .f32 := k0_pay57 (da i x4 x5) (hi x2) (hi x3)

/-- The strips written of the two inputs' gradients. -/
def gatePieces : List (View.Piece (Elt F) S1x2048x256 .bf16) :=
  [⟨Rect.unit (s := S1x2048x256) ![0, 0, 128] S1x2048x128.size inb_S1x2048x256_S1x2048x128_0_0_128,
      k0_pay4 (k0_pay59 (dgHi i x2 x3 x4 x5) (hiW x6) (up1 i x2 x3 x4 x5) k0_pay56 (up2 i x2 x3 x4 x5))⟩,
   ⟨Rect.unit (s := S1x2048x256) ![0, 0, 0] S1x2048x128.size inb_S1x2048x256_S1x2048x128_0_0_0,
      k0_pay44 (k0_pay33 (dgLo i x2 x3 x4 x5) (loW x6) (iota .tc S2048x128 32 [0] iota_S2048x128_d0_w32) k0_pay30)⟩]
def gateStrip : Vec F S1x2048x256 .bf16 := View.canon (gatePieces i x2 x3 x4 x5 x6)
def valuePieces : List (View.Piece (Elt F) S1x2048x256 .bf16) :=
  [⟨Rect.unit (s := S1x2048x256) ![0, 0, 128] S1x2048x128.size inb_S1x2048x256_S1x2048x128_0_0_128,
      k0_pay5 (dvHi i x2 x4 x5) (k0_pay66 (dvHi i x2 x4 x5) (hiW x7)) (k0_pay67 (hiW x7))⟩,
   ⟨Rect.unit (s := S1x2048x256) ![0, 0, 0] S1x2048x128.size inb_S1x2048x256_S1x2048x128_0_0_0,
      k0_pay45 (dvLo i x2 x4 x5) (loW x7) (k0_pay38 (dvLo i x2 x4 x5)) k0_pay39 2046#32⟩]
def valueStrip : Vec F S1x2048x256 .bf16 := View.canon (valuePieces i x2 x4 x5 x7)
theorem gate_cover : ∀ y, ∃ p ∈ gatePieces i x2 x3 x4 x5 x6, y ∈ p.1.set :=
  View.cover_of_tiledL _ S1x2048x128.size (by sl_kernel_rfl)
theorem value_cover : ∀ y, ∃ p ∈ valuePieces i x2 x4 x5 x7, y ∈ p.1.set :=
  View.cover_of_tiledL _ S1x2048x128.size (by sl_kernel_rfl)

/-- The rows of a point's part of the taps' gradients and the biases'. -/
def gateRows : Fin 2 → Fin 3 → Vec F S1x128 .f32 :=
  ![![k0_pay34 (dgLo i x2 x3 x4 x5) (k0_pay29 (lo x0)),
      k0_pay35 (dgLo i x2 x3 x4 x5) (k0_pay29 (lo x0)) (iota .tc S2048x128 32 [0] iota_S2048x128_d0_w32) k0_pay30,
      k0_pay36 (dgLo i x2 x3 x4 x5) (k0_pay29 (lo x0))],
    ![k0_pay60 (k0_pay54 (hi x0)) k0_pay56 (up2 i x2 x3 x4 x5), k0_pay61 (k0_pay54 (hi x0)) (up1 i x2 x3 x4 x5),
      k0_pay62 (dgHi i x2 x3 x4 x5) (k0_pay54 (hi x0))]]
def valueRows : Fin 2 → Fin 3 → Vec F S1x128 .f32 :=
  ![![k0_pay41 (dvLo i x2 x4 x5) (k0_pay37 (lo x1)) k0_pay39 2046#32, k0_pay42 (k0_pay37 (lo x1)) (k0_pay38 (dvLo i x2 x4 x5)),
      k0_pay43 (dvLo i x2 x4 x5) (k0_pay37 (lo x1))],
    ![k0_pay1 (k0_pay63 (hi x1)) (k0_pay65 (dvHi i x2 x4 x5)), k0_pay2 (k0_pay63 (hi x1)) (k0_pay64 (dvHi i x2 x4 x5)),
      k0_pay3 (dvHi i x2 x4 x5) (k0_pay63 (hi x1))]]
def gateBias : Fin 2 → Fin 1 → Vec F S1x128 .f32 := ![![k0_pay46 (dgLo i x2 x3 x4 x5)], ![k0_pay6 (dgHi i x2 x3 x4 x5)]]
def valueBias : Fin 2 → Fin 1 → Vec F S1x128 .f32 := ![![k0_pay47 (dvLo i x2 x4 x5)], ![k0_pay7 (dvHi i x2 x4 x5)]]

/-- The same, laid over all lanes. -/
def dwgOf : Vec F S3x2816 .f32 := spread (R := 3) (gateRows i x0 x2 x3 x4 x5)
def dwvOf : Vec F S3x2816 .f32 := spread (R := 3) (valueRows i x1 x2 x4 x5)
def dbgOf : Vec F S1x2816 .f32 := spread (R := 1) (gateBias i x2 x3 x4 x5)
def dbvOf : Vec F S1x2816 .f32 := spread (R := 1) (valueBias i x2 x4 x5)

end Point

section Body

variable (c : Dev nD) (i : grid0.Coords)
  (hg : Memref sig .tc .vmem S1x2048x256 .f32) (hhg : hg.IsWhole) (hv : Memref sig .tc .vmem S1x2048x256 .f32) (hhv : hv.IsWhole)
  (g : Memref sig .tc .vmem S1x2048x256 .f32) (hg' : g.IsWhole) (v : Memref sig .tc .vmem S1x2048x256 .f32) (hv' : v.IsWhole)
  (dz : Memref sig .tc .vmem S1x2048x1024 .bf16) (hdz : dz.IsWhole) (wd : Memref sig .tc .vmem S2816x1024 .bf16) (hwd : wd.IsWhole)
  (wg : Memref sig .tc .vmem S3x256 .f32) (hwg : wg.IsWhole) (wv : Memref sig .tc .vmem S3x256 .f32) (hwv : wv.IsWhole)
  (dhg : Memref sig .tc .vmem S1x2048x256 .bf16) (hdhg : dhg.IsWhole) (dhv : Memref sig .tc .vmem S1x2048x256 .bf16) (hdhv : dhv.IsWhole)
  (dwg : Memref sig .tc .vmem S3x2816 .f32) (hdwg : dwg.IsWhole) (dwv : Memref sig .tc .vmem S3x2816 .f32) (hdwv : dwv.IsWhole)
  (dbg : Memref sig .tc .vmem S1x2816 .f32) (hdbg : dbg.IsWhole) (dbv : Memref sig .tc .vmem S1x2816 .f32) (hdbv : dbv.IsWhole)
  (x0 x1 x2 x3 : Vec F S1x2048x256 .f32) (x4 : Vec F S1x2048x1024 .bf16) (x5 : Vec F S2816x1024 .bf16) (x6 x7 : Vec F S3x256 .f32)

/-- The eight inputs held at their contents. -/
abbrev Inputs : sProp 𝕄 :=
  iprop(owns (c : Thread nD τ) hg fullShare x0 ∗ owns (c : Thread nD τ) hv fullShare x1 ∗ owns (c : Thread nD τ) g fullShare x2
    ∗ owns (c : Thread nD τ) v fullShare x3 ∗ owns (c : Thread nD τ) dz fullShare x4 ∗ owns (c : Thread nD τ) wd fullShare x5
    ∗ owns (c : Thread nD τ) wg fullShare x6 ∗ owns (c : Thread nD τ) wv fullShare x7)

/-- The inputs' buffers, at raw contents, are the inputs held at what those read. -/
theorem inputs_back (f0 : hg.view.ty.Contents (Elt F)) (f1 : hv.view.ty.Contents (Elt F)) (f2 : g.view.ty.Contents (Elt F)) (f3 : v.view.ty.Contents (Elt F))
    (f4 : dz.view.ty.Contents (Elt F)) (f5 : wd.view.ty.Contents (Elt F)) (f6 : wg.view.ty.Contents (Elt F)) (f7 : wv.view.ty.Contents (Elt F)) :
    iprop((hg.view.loc (c : Thread nD τ) ↦[hg.view.set]{fullShare} f0) ∗ (hv.view.loc (c : Thread nD τ) ↦[hv.view.set]{fullShare} f1)
        ∗ (g.view.loc (c : Thread nD τ) ↦[g.view.set]{fullShare} f2) ∗ (v.view.loc (c : Thread nD τ) ↦[v.view.set]{fullShare} f3)
        ∗ (dz.view.loc (c : Thread nD τ) ↦[dz.view.set]{fullShare} f4) ∗ (wd.view.loc (c : Thread nD τ) ↦[wd.view.set]{fullShare} f5)
        ∗ (wg.view.loc (c : Thread nD τ) ↦[wg.view.set]{fullShare} f6) ∗ (wv.view.loc (c : Thread nD τ) ↦[wv.view.set]{fullShare} f7))
      ⊢ (Inputs c hg hv g v dz wd wg wv (hg.view.read (Elt F) f0) (hv.view.read (Elt F) f1) (g.view.read (Elt F) f2) (v.view.read (Elt F) f3)
          (dz.view.read (Elt F) f4) (wd.view.read (Elt F) f5) (wg.view.read (Elt F) f6) (wv.view.read (Elt F) f7) : sProp 𝕄) := by
  unfold Inputs owns
  iintro ⟨H0, H1, H2, H3, H4, H5, H6, H7⟩
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  iexists _; isplitr; swap; · iexact H7
  ipureintro; rfl

set_option maxHeartbeats 4000000 in
theorem run_first (hc1 : k0_cond1 i = 1#1) (hc2 : ¬ k0_cond2 i = 1#1) (hc3 : k0_cond3 i = 1#1) (hc4 : ¬ k0_cond4 i = 1#1)
    (y0 y1 : Vec F S3x2816 .f32) (y2 y3 : Vec F S1x2816 .f32)
    (E : Set ℕ) (K : PUnit → sProp 𝕄) :
    iprop(Inputs c hg hv g v dz wd wg wv x0 x1 x2 x3 x4 x5 x6 x7 ∗ (∃ d, owns (c : Thread nD τ) dhg fullShare d) ∗ (∃ d, owns (c : Thread nD τ) dhv fullShare d)
        ∗ owns (c : Thread nD τ) dwg fullShare y0 ∗ owns (c : Thread nD τ) dwv fullShare y1 ∗ owns (c : Thread nD τ) dbg fullShare y2 ∗ owns (c : Thread nD τ) dbv fullShare y3
        ∗ (iprop(Inputs c hg hv g v dz wd wg wv x0 x1 x2 x3 x4 x5 x6 x7 ∗ owns (c : Thread nD τ) dhg fullShare (gateStrip i x2 x3 x4 x5 x6) ∗ owns (c : Thread nD τ) dhv fullShare (valueStrip i x2 x4 x5 x7)
            ∗ owns (c : Thread nD τ) dwg fullShare (onBlock (R := 3) (i 1).val (dwgOf i x0 x2 x3 x4 x5) y0)
            ∗ owns (c : Thread nD τ) dwv fullShare (onBlock (R := 3) (i 1).val (dwvOf i x1 x2 x4 x5) y1)
            ∗ owns (c : Thread nD τ) dbg fullShare (onBlock (R := 1) (i 1).val (dbgOf i x2 x3 x4 x5) y2)
            ∗ owns (c : Thread nD τ) dbv fullShare (onBlock (R := 1) (i 1).val (dbvOf i x2 x4 x5) y3)) -∗ K ⟨⟩))
      ⊢ wp frame (wpE (defs₀ (F := F)) Variants.none c none) E
          (cc0_ffn_act_bwd i hg hhg hv hhv g hg' v hv' dz hdz wd hwd wg hwg wv hwv dhg hdhg dhv hdhv dwg hdwg dwv hdwv dbg hdbg dbv hdbv) K := by
  simp only [cc0_ffn_act_bwd_eq_skeleton]; unfold cc0_ffn_act_bwd_skel
  simp only [k0_part1_eq_skeleton, k0_part2_eq_skeleton, k0_part3_eq_skeleton, k0_part4_eq_skeleton, k0_part5_eq_skeleton, k0_part6_eq_skeleton, k0_part7_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf10 hf11 hf12 hf13
  sl_exec (disch := first | sl_exact hc1 | sl_exact hc2 | sl_exact hc3 | sl_exact hc4)
  sl_step
  iapply Hk
  isplitl [H0 H1 H2 H3 H4 H5 H6 H7]
  · iapply inputs_back
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · iexists _; isplitr; swap; · iexact H8
    ipureintro
    exact View.read_writes_eq_canon dhg.view f8 _ (gate_cover i (g.view.read (Elt F) f2) (v.view.read (Elt F) f3) (dz.view.read (Elt F) f4) (wd.view.read (Elt F) f5) (wg.view.read (Elt F) f6))
  isplitl [H9]
  · iexists _; isplitr; swap; · iexact H9
    ipureintro
    exact View.read_writes_eq_canon dhv.view f9 _ (value_cover i (g.view.read (Elt F) f2) (dz.view.read (Elt F) f4) (wd.view.read (Elt F) f5) (wv.view.read (Elt F) f7))
  isplitl [H10]
  · iexists _; isplitr; swap; · iexact H10
    ipureintro
    exact read_six dwg.view f10 (i 1).val (dwgOf i (hg.view.read (Elt F) f0) (g.view.read (Elt F) f2) (v.view.read (Elt F) f3) (dz.view.read (Elt F) f4) (wd.view.read (Elt F) f5))
      (k0_pay34 (dgLo i (g.view.read (Elt F) f2) (v.view.read (Elt F) f3) (dz.view.read (Elt F) f4) (wd.view.read (Elt F) f5)) (k0_pay29 (lo (hg.view.read (Elt F) f0))))
      (k0_pay35 (dgLo i (g.view.read (Elt F) f2) (v.view.read (Elt F) f3) (dz.view.read (Elt F) f4) (wd.view.read (Elt F) f5)) (k0_pay29 (lo (hg.view.read (Elt F) f0))) (iota .tc S2048x128 32 [0] iota_S2048x128_d0_w32) k0_pay30)
      (k0_pay36 (dgLo i (g.view.read (Elt F) f2) (v.view.read (Elt F) f3) (dz.view.read (Elt F) f4) (wd.view.read (Elt F) f5)) (k0_pay29 (lo (hg.view.read (Elt F) f0))))
      (k0_pay60 (k0_pay54 (hi (hg.view.read (Elt F) f0))) k0_pay56 (up2 i (g.view.read (Elt F) f2) (v.view.read (Elt F) f3) (dz.view.read (Elt F) f4) (wd.view.read (Elt F) f5)))
      (k0_pay61 (k0_pay54 (hi (hg.view.read (Elt F) f0))) (up1 i (g.view.read (Elt F) f2) (v.view.read (Elt F) f3) (dz.view.read (Elt F) f4) (wd.view.read (Elt F) f5)))
      (k0_pay62 (dgHi i (g.view.read (Elt F) f2) (v.view.read (Elt F) f3) (dz.view.read (Elt F) f4) (wd.view.read (Elt F) f5)) (k0_pay54 (hi (hg.view.read (Elt F) f0))))
      (k0_off2_inb i hc1) (k0_off3_inb i hc1) (k0_off4_inb i hc1) (k0_off10_inb i hc3) (k0_off11_inb i hc3) (k0_off12_inb i hc3) (k0_off2_eq i) (k0_off3_eq i) (k0_off4_eq i) (k0_off10_eq i) (k0_off11_eq i) (k0_off12_eq i)
      fun h k l hb => (spread_at (gateRows i (hg.view.read (Elt F) f0) (g.view.read (Elt F) f2) (v.view.read (Elt F) f3) (dz.view.read (Elt F) f4) (wd.view.read (Elt F) f5)) _ h k l hb).symm
  isplitl [H11]
  · iexists _; isplitr; swap; · iexact H11
    ipureintro
    exact read_six dwv.view f11 (i 1).val (dwvOf i (hv.view.read (Elt F) f1) (g.view.read (Elt F) f2) (dz.view.read (Elt F) f4) (wd.view.read (Elt F) f5))
      (k0_pay41 (dvLo i (g.view.read (Elt F) f2) (dz.view.read (Elt F) f4) (wd.view.read (Elt F) f5)) (k0_pay37 (lo (hv.view.read (Elt F) f1))) k0_pay39 2046#32)
      (k0_pay42 (k0_pay37 (lo (hv.view.read (Elt F) f1))) (k0_pay38 (dvLo i (g.view.read (Elt F) f2) (dz.view.read (Elt F) f4) (wd.view.read (Elt F) f5))))
      (k0_pay43 (dvLo i (g.view.read (Elt F) f2) (dz.view.read (Elt F) f4) (wd.view.read (Elt F) f5)) (k0_pay37 (lo (hv.view.read (Elt F) f1))))
      (k0_pay1 (k0_pay63 (hi (hv.view.read (Elt F) f1))) (k0_pay65 (dvHi i (g.view.read (Elt F) f2) (dz.view.read (Elt F) f4) (wd.view.read (Elt F) f5))))
      (k0_pay2 (k0_pay63 (hi (hv.view.read (Elt F) f1))) (k0_pay64 (dvHi i (g.view.read (Elt F) f2) (dz.view.read (Elt F) f4) (wd.view.read (Elt F) f5))))
      (k0_pay3 (dvHi i (g.view.read (Elt F) f2) (dz.view.read (Elt F) f4) (wd.view.read (Elt F) f5)) (k0_pay63 (hi (hv.view.read (Elt F) f1))))
      (k0_off2_inb i hc1) (k0_off3_inb i hc1) (k0_off4_inb i hc1) (k0_off10_inb i hc3) (k0_off11_inb i hc3) (k0_off12_inb i hc3) (k0_off2_eq i) (k0_off3_eq i) (k0_off4_eq i) (k0_off10_eq i) (k0_off11_eq i) (k0_off12_eq i)
      fun h k l hb => (spread_at (valueRows i (hv.view.read (Elt F) f1) (g.view.read (Elt F) f2) (dz.view.read (Elt F) f4) (wd.view.read (Elt F) f5)) _ h k l hb).symm
  isplitl [H12]
  · iexists _; isplitr; swap; · iexact H12
    ipureintro
    exact read_two dbg.view f12 (i 1).val (dbgOf i (g.view.read (Elt F) f2) (v.view.read (Elt F) f3) (dz.view.read (Elt F) f4) (wd.view.read (Elt F) f5))
      (k0_pay46 (dgLo i (g.view.read (Elt F) f2) (v.view.read (Elt F) f3) (dz.view.read (Elt F) f4) (wd.view.read (Elt F) f5)))
      (k0_pay6 (dgHi i (g.view.read (Elt F) f2) (v.view.read (Elt F) f3) (dz.view.read (Elt F) f4) (wd.view.read (Elt F) f5)))
      (k0_off5_inb i hc1) (k0_off13_inb i hc3) (k0_off5_eq i) (k0_off13_eq i)
      fun h k l hb => (spread_at (gateBias i (g.view.read (Elt F) f2) (v.view.read (Elt F) f3) (dz.view.read (Elt F) f4) (wd.view.read (Elt F) f5)) _ h k l hb).symm
  iexists _; isplitr; swap; · iexact H13
  ipureintro
  exact read_two dbv.view f13 (i 1).val (dbvOf i (g.view.read (Elt F) f2) (dz.view.read (Elt F) f4) (wd.view.read (Elt F) f5))
    (k0_pay47 (dvLo i (g.view.read (Elt F) f2) (dz.view.read (Elt F) f4) (wd.view.read (Elt F) f5)))
    (k0_pay7 (dvHi i (g.view.read (Elt F) f2) (dz.view.read (Elt F) f4) (wd.view.read (Elt F) f5)))
    (k0_off5_inb i hc1) (k0_off13_inb i hc3) (k0_off5_eq i) (k0_off13_eq i)
    fun h k l hb => (spread_at (valueBias i (g.view.read (Elt F) f2) (dz.view.read (Elt F) f4) (wd.view.read (Elt F) f5)) _ h k l hb).symm

set_option maxHeartbeats 4000000 in
theorem run_next (hc1 : ¬ k0_cond1 i = 1#1) (hc2 : k0_cond2 i = 1#1) (hc3 : ¬ k0_cond3 i = 1#1) (hc4 : k0_cond4 i = 1#1)
    (y0 y1 : Vec F S3x2816 .f32) (y2 y3 : Vec F S1x2816 .f32)
    (E : Set ℕ) (K : PUnit → sProp 𝕄) :
    iprop(Inputs c hg hv g v dz wd wg wv x0 x1 x2 x3 x4 x5 x6 x7 ∗ (∃ d, owns (c : Thread nD τ) dhg fullShare d) ∗ (∃ d, owns (c : Thread nD τ) dhv fullShare d)
        ∗ owns (c : Thread nD τ) dwg fullShare y0 ∗ owns (c : Thread nD τ) dwv fullShare y1 ∗ owns (c : Thread nD τ) dbg fullShare y2 ∗ owns (c : Thread nD τ) dbv fullShare y3
        ∗ (iprop(Inputs c hg hv g v dz wd wg wv x0 x1 x2 x3 x4 x5 x6 x7 ∗ owns (c : Thread nD τ) dhg fullShare (gateStrip i x2 x3 x4 x5 x6) ∗ owns (c : Thread nD τ) dhv fullShare (valueStrip i x2 x4 x5 x7)
            ∗ owns (c : Thread nD τ) dwg fullShare (onBlock (R := 3) (i 1).val (addf y0 (dwgOf i x0 x2 x3 x4 x5)) y0)
            ∗ owns (c : Thread nD τ) dwv fullShare (onBlock (R := 3) (i 1).val (addf y1 (dwvOf i x1 x2 x4 x5)) y1)
            ∗ owns (c : Thread nD τ) dbg fullShare (onBlock (R := 1) (i 1).val (addf y2 (dbgOf i x2 x3 x4 x5)) y2)
            ∗ owns (c : Thread nD τ) dbv fullShare (onBlock (R := 1) (i 1).val (addf y3 (dbvOf i x2 x4 x5)) y3)) -∗ K ⟨⟩))
      ⊢ wp frame (wpE (defs₀ (F := F)) Variants.none c none) E
          (cc0_ffn_act_bwd i hg hhg hv hhv g hg' v hv' dz hdz wd hwd wg hwg wv hwv dhg hdhg dhv hdhv dwg hdwg dwv hdwv dbg hdbg dbv hdbv) K := by
  simp only [cc0_ffn_act_bwd_eq_skeleton]; unfold cc0_ffn_act_bwd_skel
  simp only [k0_part1_eq_skeleton, k0_part2_eq_skeleton, k0_part3_eq_skeleton, k0_part4_eq_skeleton, k0_part5_eq_skeleton, k0_part6_eq_skeleton, k0_part7_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf10 hf11 hf12 hf13
  sl_exec (disch := first | sl_exact hc1 | sl_exact hc2 | sl_exact hc3 | sl_exact hc4)
  sl_step
  iapply Hk
  isplitl [H0 H1 H2 H3 H4 H5 H6 H7]
  · iapply inputs_back
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · iexists _; isplitr; swap; · iexact H8
    ipureintro
    exact View.read_writes_eq_canon dhg.view f8 _ (gate_cover i (g.view.read (Elt F) f2) (v.view.read (Elt F) f3) (dz.view.read (Elt F) f4) (wd.view.read (Elt F) f5) (wg.view.read (Elt F) f6))
  isplitl [H9]
  · iexists _; isplitr; swap; · iexact H9
    ipureintro
    exact View.read_writes_eq_canon dhv.view f9 _ (value_cover i (g.view.read (Elt F) f2) (dz.view.read (Elt F) f4) (wd.view.read (Elt F) f5) (wv.view.read (Elt F) f7))
  isplitl [H10]
  · iexists _; isplitr; swap; · iexact H10
    ipureintro
    refine read_six dwg.view f10 (i 1).val (addf (dwg.view.read (Elt F) f10) (dwgOf i (hg.view.read (Elt F) f0) (g.view.read (Elt F) f2) (v.view.read (Elt F) f3) (dz.view.read (Elt F) f4) (wd.view.read (Elt F) f5)))
      (k0_pay9 (k0_pay34 (dgLo i (g.view.read (Elt F) f2) (v.view.read (Elt F) f3) (dz.view.read (Elt F) f4) (wd.view.read (Elt F) f5)) (k0_pay29 (lo (hg.view.read (Elt F) f0)))) (View.ld (dwg.view.read (Elt F) f10) (Rect.unit (s := S3x2816) (k0_off6 i) S1x128.size (k0_off6_inb i hc2))))
      (k0_pay10 (k0_pay35 (dgLo i (g.view.read (Elt F) f2) (v.view.read (Elt F) f3) (dz.view.read (Elt F) f4) (wd.view.read (Elt F) f5)) (k0_pay29 (lo (hg.view.read (Elt F) f0))) (iota .tc S2048x128 32 [0] iota_S2048x128_d0_w32) k0_pay30) (View.ld (dwg.view.read (Elt F) f10) (Rect.unit (s := S3x2816) (k0_off7 i) S1x128.size (k0_off7_inb i hc2))))
      (k0_pay11 (k0_pay36 (dgLo i (g.view.read (Elt F) f2) (v.view.read (Elt F) f3) (dz.view.read (Elt F) f4) (wd.view.read (Elt F) f5)) (k0_pay29 (lo (hg.view.read (Elt F) f0)))) (View.ld (dwg.view.read (Elt F) f10) (Rect.unit (s := S3x2816) (k0_off8 i) S1x128.size (k0_off8_inb i hc2))))
      (k0_pay16 (k0_pay60 (k0_pay54 (hi (hg.view.read (Elt F) f0))) k0_pay56 (up2 i (g.view.read (Elt F) f2) (v.view.read (Elt F) f3) (dz.view.read (Elt F) f4) (wd.view.read (Elt F) f5))) (View.ld (dwg.view.read (Elt F) f10) (Rect.unit (s := S3x2816) (k0_off14 i) S1x128.size (k0_off14_inb i hc4))))
      (k0_pay17 (k0_pay61 (k0_pay54 (hi (hg.view.read (Elt F) f0))) (up1 i (g.view.read (Elt F) f2) (v.view.read (Elt F) f3) (dz.view.read (Elt F) f4) (wd.view.read (Elt F) f5))) (View.ld (dwg.view.read (Elt F) f10) (Rect.unit (s := S3x2816) (k0_off15 i) S1x128.size (k0_off15_inb i hc4))))
      (k0_pay18 (k0_pay62 (dgHi i (g.view.read (Elt F) f2) (v.view.read (Elt F) f3) (dz.view.read (Elt F) f4) (wd.view.read (Elt F) f5)) (k0_pay54 (hi (hg.view.read (Elt F) f0)))) (View.ld (dwg.view.read (Elt F) f10) (Rect.unit (s := S3x2816) (k0_off16 i) S1x128.size (k0_off16_inb i hc4))))
      (k0_off6_inb i hc2) (k0_off7_inb i hc2) (k0_off8_inb i hc2) (k0_off14_inb i hc4) (k0_off15_inb i hc4) (k0_off16_inb i hc4) (k0_off6_eq i) (k0_off7_eq i) (k0_off8_eq i) (k0_off14_eq i) (k0_off15_eq i) (k0_off16_eq i) ?_
    intro h k l hb
    fin_cases h <;> fin_cases k
    · exact more_at (R := 3) _ _ _ 0 0 l _ hb (spread_at (gateRows i (hg.view.read (Elt F) f0) (g.view.read (Elt F) f2) (v.view.read (Elt F) f3) (dz.view.read (Elt F) f4) (wd.view.read (Elt F) f5)) _ 0 0 l hb).symm _ _ (k0_off6_eq i)
    · exact more_at (R := 3) _ _ _ 0 1 l _ hb (spread_at (gateRows i (hg.view.read (Elt F) f0) (g.view.read (Elt F) f2) (v.view.read (Elt F) f3) (dz.view.read (Elt F) f4) (wd.view.read (Elt F) f5)) _ 0 1 l hb).symm _ _ (k0_off7_eq i)
    · exact more_at (R := 3) _ _ _ 0 2 l _ hb (spread_at (gateRows i (hg.view.read (Elt F) f0) (g.view.read (Elt F) f2) (v.view.read (Elt F) f3) (dz.view.read (Elt F) f4) (wd.view.read (Elt F) f5)) _ 0 2 l hb).symm _ _ (k0_off8_eq i)
    · exact more_at (R := 3) _ _ _ 1 0 l _ hb (spread_at (gateRows i (hg.view.read (Elt F) f0) (g.view.read (Elt F) f2) (v.view.read (Elt F) f3) (dz.view.read (Elt F) f4) (wd.view.read (Elt F) f5)) _ 1 0 l hb).symm _ _ (k0_off14_eq i)
    · exact more_at (R := 3) _ _ _ 1 1 l _ hb (spread_at (gateRows i (hg.view.read (Elt F) f0) (g.view.read (Elt F) f2) (v.view.read (Elt F) f3) (dz.view.read (Elt F) f4) (wd.view.read (Elt F) f5)) _ 1 1 l hb).symm _ _ (k0_off15_eq i)
    · exact more_at (R := 3) _ _ _ 1 2 l _ hb (spread_at (gateRows i (hg.view.read (Elt F) f0) (g.view.read (Elt F) f2) (v.view.read (Elt F) f3) (dz.view.read (Elt F) f4) (wd.view.read (Elt F) f5)) _ 1 2 l hb).symm _ _ (k0_off16_eq i)
  isplitl [H11]
  · iexists _; isplitr; swap; · iexact H11
    ipureintro
    refine read_six dwv.view f11 (i 1).val (addf (dwv.view.read (Elt F) f11) (dwvOf i (hv.view.read (Elt F) f1) (g.view.read (Elt F) f2) (dz.view.read (Elt F) f4) (wd.view.read (Elt F) f5)))
      (k0_pay12 (k0_pay41 (dvLo i (g.view.read (Elt F) f2) (dz.view.read (Elt F) f4) (wd.view.read (Elt F) f5)) (k0_pay37 (lo (hv.view.read (Elt F) f1))) k0_pay39 2046#32) (View.ld (dwv.view.read (Elt F) f11) (Rect.unit (s := S3x2816) (k0_off6 i) S1x128.size (k0_off6_inb i hc2))))
      (k0_pay13 (k0_pay42 (k0_pay37 (lo (hv.view.read (Elt F) f1))) (k0_pay38 (dvLo i (g.view.read (Elt F) f2) (dz.view.read (Elt F) f4) (wd.view.read (Elt F) f5)))) (View.ld (dwv.view.read (Elt F) f11) (Rect.unit (s := S3x2816) (k0_off7 i) S1x128.size (k0_off7_inb i hc2))))
      (k0_pay14 (k0_pay43 (dvLo i (g.view.read (Elt F) f2) (dz.view.read (Elt F) f4) (wd.view.read (Elt F) f5)) (k0_pay37 (lo (hv.view.read (Elt F) f1)))) (View.ld (dwv.view.read (Elt F) f11) (Rect.unit (s := S3x2816) (k0_off8 i) S1x128.size (k0_off8_inb i hc2))))
      (k0_pay19 (k0_pay1 (k0_pay63 (hi (hv.view.read (Elt F) f1))) (k0_pay65 (dvHi i (g.view.read (Elt F) f2) (dz.view.read (Elt F) f4) (wd.view.read (Elt F) f5)))) (View.ld (dwv.view.read (Elt F) f11) (Rect.unit (s := S3x2816) (k0_off14 i) S1x128.size (k0_off14_inb i hc4))))
      (k0_pay20 (k0_pay2 (k0_pay63 (hi (hv.view.read (Elt F) f1))) (k0_pay64 (dvHi i (g.view.read (Elt F) f2) (dz.view.read (Elt F) f4) (wd.view.read (Elt F) f5)))) (View.ld (dwv.view.read (Elt F) f11) (Rect.unit (s := S3x2816) (k0_off15 i) S1x128.size (k0_off15_inb i hc4))))
      (k0_pay21 (k0_pay3 (dvHi i (g.view.read (Elt F) f2) (dz.view.read (Elt F) f4) (wd.view.read (Elt F) f5)) (k0_pay63 (hi (hv.view.read (Elt F) f1)))) (View.ld (dwv.view.read (Elt F) f11) (Rect.unit (s := S3x2816) (k0_off16 i) S1x128.size (k0_off16_inb i hc4))))
      (k0_off6_inb i hc2) (k0_off7_inb i hc2) (k0_off8_inb i hc2) (k0_off14_inb i hc4) (k0_off15_inb i hc4) (k0_off16_inb i hc4) (k0_off6_eq i) (k0_off7_eq i) (k0_off8_eq i) (k0_off14_eq i) (k0_off15_eq i) (k0_off16_eq i) ?_
    intro h k l hb
    fin_cases h <;> fin_cases k
    · exact more_at (R := 3) _ _ _ 0 0 l _ hb (spread_at (valueRows i (hv.view.read (Elt F) f1) (g.view.read (Elt F) f2) (dz.view.read (Elt F) f4) (wd.view.read (Elt F) f5)) _ 0 0 l hb).symm _ _ (k0_off6_eq i)
    · exact more_at (R := 3) _ _ _ 0 1 l _ hb (spread_at (valueRows i (hv.view.read (Elt F) f1) (g.view.read (Elt F) f2) (dz.view.read (Elt F) f4) (wd.view.read (Elt F) f5)) _ 0 1 l hb).symm _ _ (k0_off7_eq i)
    · exact more_at (R := 3) _ _ _ 0 2 l _ hb (spread_at (valueRows i (hv.view.read (Elt F) f1) (g.view.read (Elt F) f2) (dz.view.read (Elt F) f4) (wd.view.read (Elt F) f5)) _ 0 2 l hb).symm _ _ (k0_off8_eq i)
    · exact more_at (R := 3) _ _ _ 1 0 l _ hb (spread_at (valueRows i (hv.view.read (Elt F) f1) (g.view.read (Elt F) f2) (dz.view.read (Elt F) f4) (wd.view.read (Elt F) f5)) _ 1 0 l hb).symm _ _ (k0_off14_eq i)
    · exact more_at (R := 3) _ _ _ 1 1 l _ hb (spread_at (valueRows i (hv.view.read (Elt F) f1) (g.view.read (Elt F) f2) (dz.view.read (Elt F) f4) (wd.view.read (Elt F) f5)) _ 1 1 l hb).symm _ _ (k0_off15_eq i)
    · exact more_at (R := 3) _ _ _ 1 2 l _ hb (spread_at (valueRows i (hv.view.read (Elt F) f1) (g.view.read (Elt F) f2) (dz.view.read (Elt F) f4) (wd.view.read (Elt F) f5)) _ 1 2 l hb).symm _ _ (k0_off16_eq i)
  isplitl [H12]
  · iexists _; isplitr; swap; · iexact H12
    ipureintro
    refine read_two dbg.view f12 (i 1).val (addf (dbg.view.read (Elt F) f12) (dbgOf i (g.view.read (Elt F) f2) (v.view.read (Elt F) f3) (dz.view.read (Elt F) f4) (wd.view.read (Elt F) f5)))
      (k0_pay15 (k0_pay46 (dgLo i (g.view.read (Elt F) f2) (v.view.read (Elt F) f3) (dz.view.read (Elt F) f4) (wd.view.read (Elt F) f5))) (View.ld (dbg.view.read (Elt F) f12) (Rect.unit (s := S1x2816) (k0_off9 i) S1x128.size (k0_off9_inb i hc2))))
      (k0_pay22 (k0_pay6 (dgHi i (g.view.read (Elt F) f2) (v.view.read (Elt F) f3) (dz.view.read (Elt F) f4) (wd.view.read (Elt F) f5))) (View.ld (dbg.view.read (Elt F) f12) (Rect.unit (s := S1x2816) (k0_off17 i) S1x128.size (k0_off17_inb i hc4))))
      (k0_off9_inb i hc2) (k0_off17_inb i hc4) (k0_off9_eq i) (k0_off17_eq i) ?_
    intro h k l hb
    fin_cases h <;> fin_cases k
    · exact more_at (R := 1) _ _ _ 0 0 l _ hb (spread_at (gateBias i (g.view.read (Elt F) f2) (v.view.read (Elt F) f3) (dz.view.read (Elt F) f4) (wd.view.read (Elt F) f5)) _ 0 0 l hb).symm _ _ (k0_off9_eq i)
    · exact more_at (R := 1) _ _ _ 1 0 l _ hb (spread_at (gateBias i (g.view.read (Elt F) f2) (v.view.read (Elt F) f3) (dz.view.read (Elt F) f4) (wd.view.read (Elt F) f5)) _ 1 0 l hb).symm _ _ (k0_off17_eq i)
  iexists _; isplitr; swap; · iexact H13
  ipureintro
  refine read_two dbv.view f13 (i 1).val (addf (dbv.view.read (Elt F) f13) (dbvOf i (g.view.read (Elt F) f2) (dz.view.read (Elt F) f4) (wd.view.read (Elt F) f5)))
    (k0_pay48 (k0_pay47 (dvLo i (g.view.read (Elt F) f2) (dz.view.read (Elt F) f4) (wd.view.read (Elt F) f5))) (View.ld (dbv.view.read (Elt F) f13) (Rect.unit (s := S1x2816) (k0_off9 i) S1x128.size (k0_off9_inb i hc2))))
    (k0_pay8 (dvHi i (g.view.read (Elt F) f2) (dz.view.read (Elt F) f4) (wd.view.read (Elt F) f5)) (View.ld (dbv.view.read (Elt F) f13) (Rect.unit (s := S1x2816) (k0_off17 i) S1x128.size (k0_off17_inb i hc4))))
    (k0_off9_inb i hc2) (k0_off17_inb i hc4) (k0_off9_eq i) (k0_off17_eq i) ?_
  intro h k l hb
  fin_cases h <;> fin_cases k
  · exact more_at (R := 1) _ _ _ 0 0 l _ hb (spread_at (valueBias i (g.view.read (Elt F) f2) (dz.view.read (Elt F) f4) (wd.view.read (Elt F) f5)) _ 0 0 l hb).symm _ _ (k0_off9_eq i)
  · exact more_at (R := 1) _ _ _ 1 0 l _ hb (spread_at (valueBias i (g.view.read (Elt F) f2) (dz.view.read (Elt F) f4) (wd.view.read (Elt F) f5)) _ 1 0 l hb).symm _ _ (k0_off17_eq i)

end Body
end Cert.FfnRun
end
-- ==== Proof.FfnFrame.lean ====
/- The gated activation's gradient kernel: what the pipeline leaves in its six results, at any values. -/
module

public import proofs.«01_k».proof.Proof.FfnRun
public import Idealize.ShloMosaic.Lib.Pipeline.DatRel
public import Idealize.ShloMosaic.Lib.Pipeline.ArrRel

@[expose] public section

set_option maxRecDepth 16384

noncomputable section

namespace Cert.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Cert.FfnKernelIdeal Cert.FfnKernelIdeal.Gen Cert.FfnPut Cert.FfnRun

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The branches -/

theorem first_iff (t : Fin cfg0.N) : (k0_cond1 (grid0.coords t) = 1#1 ↔ t.val / 11 = 0) ∧ (k0_cond2 (grid0.coords t) = 1#1 ↔ ¬ t.val / 11 = 0)
    ∧ (k0_cond3 (grid0.coords t) = 1#1 ↔ t.val / 11 = 0) ∧ (k0_cond4 (grid0.coords t) = 1#1 ↔ ¬ t.val / 11 = 0) :=
  (by decide +kernel : ∀ t : Fin grid0.N, (k0_cond1 (grid0.coords t) = 1#1 ↔ t.val / 11 = 0) ∧ (k0_cond2 (grid0.coords t) = 1#1 ↔ ¬ t.val / 11 = 0)
    ∧ (k0_cond3 (grid0.coords t) = 1#1 ↔ t.val / 11 = 0) ∧ (k0_cond4 (grid0.coords t) = 1#1 ↔ ¬ t.val / 11 = 0)) t

theorem block_eq (t : Fin cfg0.N) : (grid0.coords t 1).val = t.val % 11 :=
  (by decide +kernel : ∀ t : Fin grid0.N, (grid0.coords t 1).val = t.val % 11) t

/-! ## The sums held from point to point -/

/-- The point number `q`. -/
def pt (q : ℕ) : Fin cfg0.N := ⟨q % 44, by rw [show cfg0.N = 44 from N_0]; exact Nat.mod_lt _ (by decide)⟩

theorem pt_eq (t : Fin cfg0.N) : pt t.val = t := by
  have hN : t.val < 44 := lt_of_lt_of_eq t.isLt (show cfg0.N = 44 from N_0)
  exact Fin.ext (Nat.mod_eq_of_lt hN)

/-- The parts `K` of the first sequences up to the `b`-th, added up in turn, at each lane those of its own block. -/
def tot {R : ℕ} (K : ℕ → Vec F (SR R) .f32) : ℕ → Vec F (SR R) .f32
  | 0 => fun y => K ((y 1).val / 256) y
  | b + 1 => addf (tot K b) fun y => K (11 * (b + 1) + (y 1).val / 256) y

/-- What a running sum holds after point `q`: the blocks up to the point's have this sequence, the later ones those before it. -/
def Sum {R : ℕ} (K : ℕ → Vec F (SR R) .f32) (q : ℕ) (X : Vec F (SR R) .f32) : Prop :=
  ∀ y, ((y 1).val / 256 ≤ q % 11 → X y = tot K (q / 11) y) ∧ (q % 11 < (y 1).val / 256 → q / 11 ≠ 0 → X y = tot K (q / 11 - 1) y)

theorem sum_last {R : ℕ} {K : ℕ → Vec F (SR R) .f32} {X : Vec F (SR R) .f32} (h : Sum K 43 X) : X = tot K 3 := by
  funext y
  refine (h y).1 ?_
  have : (y 1).val < 2816 := (y 1).isLt
  omega

theorem sum_first {R : ℕ} (K : ℕ → Vec F (SR R) .f32) (q : ℕ) (hq : q / 11 = 0) (Y : Vec F (SR R) .f32) (hY : q ≠ 0 → Sum K (q - 1) Y) :
    Sum K q (onBlock (q % 11) (K q) Y) := by
  intro y
  unfold onBlock
  refine ⟨fun hle => ?_, fun _ h => absurd hq h⟩
  rw [hq]
  by_cases e : (y 1).val / 256 = q % 11
  · rw [if_pos e]
    show K q y = K ((y 1).val / 256) y
    rw [e, show q % 11 = q by omega]
  · rw [if_neg e]
    have := (hY (by omega) y).1 (by omega)
    rwa [show (q - 1) / 11 = 0 by omega] at this

theorem sum_next {R : ℕ} (K : ℕ → Vec F (SR R) .f32) (q : ℕ) (hq : ¬ q / 11 = 0) (Y : Vec F (SR R) .f32) (hY : Sum K (q - 1) Y) :
    Sum K q (onBlock (q % 11) (addf Y (K q)) Y) := by
  intro y
  have hlt : (y 1).val < 2816 := (y 1).isLt
  have hold : ∀ _ : q % 11 ≤ (y 1).val / 256, Y y = tot K (q / 11 - 1) y := fun hge => by
    by_cases h0 : q % 11 = 0
    · have := (hY y).1 (by omega)
      rwa [show (q - 1) / 11 = q / 11 - 1 by omega] at this
    · have := (hY y).2 (by omega) (by omega)
      rwa [show (q - 1) / 11 = q / 11 by omega] at this
  unfold onBlock
  refine ⟨fun hle => ?_, fun hlt' _ => ?_⟩
  · by_cases e : (y 1).val / 256 = q % 11
    · rw [if_pos e]
      obtain ⟨b, hb⟩ : ∃ b, q / 11 = b + 1 := ⟨q / 11 - 1, by omega⟩
      rw [hb]
      show FloatOps.addf (Y y) (K q y) = FloatOps.addf (tot K b y) (K (11 * (b + 1) + (y 1).val / 256) y)
      rw [hold (by omega), hb, Nat.add_sub_cancel, e, show 11 * (b + 1) + q % 11 = q by omega]
    · rw [if_neg e]
      have := (hY y).1 (by omega)
      rwa [show (q - 1) / 11 = q / 11 by omega] at this
  · rw [if_neg (by omega)]
    exact hold (by omega)

/-- A point's part of each sum. -/
def dwgPart (q : ℕ) : Vec F S3x2816 .f32 :=
  dwgOf (grid0.coords (pt q)) (iblk m c 0 (pt q)) (iblk m c 2 (pt q)) (iblk m c 3 (pt q)) (iblk m c 4 (pt q)) (iblk m c 5 (pt q))
def dwvPart (q : ℕ) : Vec F S3x2816 .f32 :=
  dwvOf (grid0.coords (pt q)) (iblk m c 1 (pt q)) (iblk m c 2 (pt q)) (iblk m c 4 (pt q)) (iblk m c 5 (pt q))
def dbgPart (q : ℕ) : Vec F S1x2816 .f32 :=
  dbgOf (grid0.coords (pt q)) (iblk m c 2 (pt q)) (iblk m c 3 (pt q)) (iblk m c 4 (pt q)) (iblk m c 5 (pt q))
def dbvPart (q : ℕ) : Vec F S1x2816 .f32 :=
  dbvOf (grid0.coords (pt q)) (iblk m c 2 (pt q)) (iblk m c 4 (pt q)) (iblk m c 5 (pt q))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gateStrip (grid0.coords t) (iblk m c 2 t) (iblk m c 3 t) (iblk m c 4 t) (iblk m c 5 t) (iblk m c 6 t)
    | ⟨9, _⟩ => valueStrip (grid0.coords t) (iblk m c 2 t) (iblk m c 4 t) (iblk m c 5 t) (iblk m c 7 t)
    | ⟨10, _⟩ => tot (dwgPart m c) 3
    | ⟨11, _⟩ => tot (dwvPart m c) 3
    | ⟨12, _⟩ => tot (dbgPart m c) 3
    | ⟨13, _⟩ => tot (dbvPart m c) 3
  Φ _ := Pipeline.ΦA spec0 c
  q w := Pipeline.shareOf spec0 w
  owed _ := 0

/-- The four sums are held to a property only: before its first point a block holds nothing that is known. -/
def fgt : Fin cfg0.W → Bool
  | ⟨10, _⟩ => true
  | ⟨11, _⟩ => true
  | ⟨12, _⟩ => true
  | ⟨13, _⟩ => true
  | _ => false

def Rl (w : Fin cfg0.W) (t : Fin cfg0.N) (X : (cfg0.win w).block.Idx → Elt F (cfg0.win w).elt) : Prop :=
  match w with
  | ⟨10, _⟩ => Sum (R := 3) (dwgPart m c) t.val X
  | ⟨11, _⟩ => Sum (R := 3) (dwvPart m c) t.val X
  | ⟨12, _⟩ => Sum (R := 1) (dbgPart m c) t.val X
  | ⟨13, _⟩ => Sum (R := 1) (dbvPart m c) t.val X
  | _ => True

abbrev rdat (c : Dev nD) : RDat τ (Elt F) Unit ℕ (UR sig nD τ) ℕ cfg0 c := (dats m 0 c).toRRel fgt (Rl m c)

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]
theorem after7 (t : Fin cfg0.N) : (dats m 0 c).after 7 t = iblk m c 7 t := by dsimp only [dats]
theorem after8 (t : Fin cfg0.N) : (dats m 0 c).after 8 t
    = gateStrip (grid0.coords t) (iblk m c 2 t) (iblk m c 3 t) (iblk m c 4 t) (iblk m c 5 t) (iblk m c 6 t) := by dsimp only [dats]
theorem after9 (t : Fin cfg0.N) : (dats m 0 c).after 9 t
    = valueStrip (grid0.coords t) (iblk m c 2 t) (iblk m c 4 t) (iblk m c 5 t) (iblk m c 7 t) := by dsimp only [dats]

theorem before0 (t : Fin cfg0.N) (d) : (dats m 0 c).before 0 t d = iblk m c 0 t := before0_0_of m _ (A_eq m c 0) (after0 m c) t d
theorem before1 (t : Fin cfg0.N) (d) : (dats m 0 c).before 1 t d = iblk m c 1 t := before0_1_of m _ (A_eq m c 1) (after1 m c) t d
theorem before2 (t : Fin cfg0.N) (d) : (dats m 0 c).before 2 t d = iblk m c 2 t := before0_2_of m _ (A_eq m c 2) (after2 m c) t d
theorem before3 (t : Fin cfg0.N) (d) : (dats m 0 c).before 3 t d = iblk m c 3 t := before0_3_of m _ (A_eq m c 3) (after3 m c) t d
theorem before4 (t : Fin cfg0.N) (d) : (dats m 0 c).before 4 t d = iblk m c 4 t := before0_4_of m _ (A_eq m c 4) (after4 m c) t d
theorem before5 (t : Fin cfg0.N) (d) : (dats m 0 c).before 5 t d = iblk m c 5 t := before0_5_of m _ (A_eq m c 5) (after5 m c) t d
theorem before6 (t : Fin cfg0.N) (d) : (dats m 0 c).before 6 t d = iblk m c 6 t := before0_6_of m _ (A_eq m c 6) (after6 m c) t d
theorem before7 (t : Fin cfg0.N) (d) : (dats m 0 c).before 7 t d = iblk m c 7 t := before0_7_of m _ (A_eq m c 7) (after7 m c) t d

/-- What is found in a sum after the first point is what the point before left. -/
theorem found (w : Fin cfg0.W) (hw : (cfg0.win w).isOut = true) (hg : fgt w = true)
    (hfl : ∀ t : Fin cfg0.N, (cfg0.win w).flush t = true ↔ t.val % 44 = 43) (t : Fin cfg0.N) (h0 : t.val ≠ 0)
    (Y : (cfg0.win w).block.Idx → Elt F (cfg0.win w).elt) (hY : (rdat m c).Finds w t Y) :
    Rl m c w ⟨t.val - 1, Nat.lt_of_le_of_lt (Nat.sub_le _ _) t.isLt⟩ Y := by
  have hN : t.val < 44 := lt_of_lt_of_eq t.isLt (show cfg0.N = 44 from N_0)
  rcases ((rdat m c).finds_of_pos ((cfg0.win w).fetch_out hw _) h0 Y).mp hY with h | h
  · have := (hfl _).mp h
    dsimp only at this
    omega
  · exact (dats m 0 c).toRRel_leaves hg h

/-! ## The body at a point -/

abbrev ms0 (t : Fin cfg0.N) : Memref sig .tc .vmem S1x2048x256 .f32 := win0_0.stage (cfg0.slots t 0)
abbrev ms1 (t : Fin cfg0.N) : Memref sig .tc .vmem S1x2048x256 .f32 := win0_1.stage (cfg0.slots t 1)
abbrev ms2 (t : Fin cfg0.N) : Memref sig .tc .vmem S1x2048x256 .f32 := win0_2.stage (cfg0.slots t 2)
abbrev ms3 (t : Fin cfg0.N) : Memref sig .tc .vmem S1x2048x256 .f32 := win0_3.stage (cfg0.slots t 3)
abbrev ms4 (t : Fin cfg0.N) : Memref sig .tc .vmem S1x2048x1024 .bf16 := win0_4.stage (cfg0.slots t 4)
abbrev ms5 (t : Fin cfg0.N) : Memref sig .tc .vmem S2816x1024 .bf16 := win0_5.stage (cfg0.slots t 5)
abbrev ms6 (t : Fin cfg0.N) : Memref sig .tc .vmem S3x256 .f32 := win0_6.stage (cfg0.slots t 6)
abbrev ms7 (t : Fin cfg0.N) : Memref sig .tc .vmem S3x256 .f32 := win0_7.stage (cfg0.slots t 7)
abbrev ms8 (t : Fin cfg0.N) : Memref sig .tc .vmem S1x2048x256 .bf16 := win0_8.stage (cfg0.slots t 8)
abbrev ms9 (t : Fin cfg0.N) : Memref sig .tc .vmem S1x2048x256 .bf16 := win0_9.stage (cfg0.slots t 9)
abbrev ms10 (t : Fin cfg0.N) : Memref sig .tc .vmem S3x2816 .f32 := win0_10.stage (cfg0.slots t 10)
abbrev ms11 (t : Fin cfg0.N) : Memref sig .tc .vmem S3x2816 .f32 := win0_11.stage (cfg0.slots t 11)
abbrev ms12 (t : Fin cfg0.N) : Memref sig .tc .vmem S1x2816 .f32 := win0_12.stage (cfg0.slots t 12)
abbrev ms13 (t : Fin cfg0.N) : Memref sig .tc .vmem S1x2816 .f32 := win0_13.stage (cfg0.slots t 13)

/-- What the body finds at a point: the invariant, nothing owed, and the windows. -/
def pre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ Y, ⌜(rdat m c).Finds 10 t Y⌝ ∗ owns (c : Thread nD τ) (ms10 t) fullShare Y)
    ∗ (∃ Y, ⌜(rdat m c).Finds 11 t Y⌝ ∗ owns (c : Thread nD τ) (ms11 t) fullShare Y)
    ∗ (∃ Y, ⌜(rdat m c).Finds 12 t Y⌝ ∗ owns (c : Thread nD τ) (ms12 t) fullShare Y)
    ∗ (∃ Y, ⌜(rdat m c).Finds 13 t Y⌝ ∗ owns (c : Thread nD τ) (ms13 t) fullShare Y))

/-- What the body leaves at a point. -/
def post (t : Fin cfg0.N) : sProp 𝕄 :=
  iprop((dats m 0 c).Φ t.succ ∗ (dats m 0 c).owesAt () t.succ
    ∗ Inputs c (ms0 t) (ms1 t) (ms2 t) (ms3 t) (ms4 t) (ms5 t) (ms6 t) (ms7 t)
        (iblk m c 0 t) (iblk m c 1 t) (iblk m c 2 t) (iblk m c 3 t) (iblk m c 4 t) (iblk m c 5 t) (iblk m c 6 t) (iblk m c 7 t)
    ∗ owns (c : Thread nD τ) (ms8 t) fullShare (gateStrip (grid0.coords t) (iblk m c 2 t) (iblk m c 3 t) (iblk m c 4 t) (iblk m c 5 t) (iblk m c 6 t))
    ∗ owns (c : Thread nD τ) (ms9 t) fullShare (valueStrip (grid0.coords t) (iblk m c 2 t) (iblk m c 4 t) (iblk m c 5 t) (iblk m c 7 t))
    ∗ (∃ X, ⌜Sum (R := 3) (dwgPart m c) t.val X⌝ ∗ owns (c : Thread nD τ) (ms10 t) fullShare X)
    ∗ (∃ X, ⌜Sum (R := 3) (dwvPart m c) t.val X⌝ ∗ owns (c : Thread nD τ) (ms11 t) fullShare X)
    ∗ (∃ X, ⌜Sum (R := 1) (dbgPart m c) t.val X⌝ ∗ owns (c : Thread nD τ) (ms12 t) fullShare X)
    ∗ (∃ X, ⌜Sum (R := 1) (dbvPart m c) t.val X⌝ ∗ owns (c : Thread nD τ) (ms13 t) fullShare X))

/-- The body at any point. -/
theorem sound (t : Fin cfg0.N) :
    pre m c t ⊢ wp frame (wpE (defs₀ (F := F)) Variants.none c none) Set.univ (bodyAt0 t) (fun _ => post m c t) := by
  unfold pre bodyAt0
  simp only [before0, before1, before2, before3, before4, before5, before6, before7]
  rw [show (dats m 0 c).Φ t.castSucc = (dats m 0 c).Φ t.succ from rfl,
    show (dats m 0 c).owesAt () t.castSucc = (dats m 0 c).owesAt () t.succ from rfl]
  have hN : t.val < 44 := lt_of_lt_of_eq t.isLt (show cfg0.N = 44 from N_0)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y0, %hy0, H10⟩, ⟨%y1, %hy1, H11⟩, ⟨%y2, %hy2, H12⟩, ⟨%y3, %hy3, H13⟩⟩
  have e : (grid0.coords t 1).val = t.val % 11 := block_eq t
  have p0 : dwgOf (grid0.coords t) (iblk m c 0 t) (iblk m c 2 t) (iblk m c 3 t) (iblk m c 4 t) (iblk m c 5 t) = dwgPart m c t.val := by
    unfold dwgPart; rw [pt_eq]
  have p1 : dwvOf (grid0.coords t) (iblk m c 1 t) (iblk m c 2 t) (iblk m c 4 t) (iblk m c 5 t) = dwvPart m c t.val := by
    unfold dwvPart; rw [pt_eq]
  have p2 : dbgOf (grid0.coords t) (iblk m c 2 t) (iblk m c 3 t) (iblk m c 4 t) (iblk m c 5 t) = dbgPart m c t.val := by
    unfold dbgPart; rw [pt_eq]
  have p3 : dbvOf (grid0.coords t) (iblk m c 2 t) (iblk m c 4 t) (iblk m c 5 t) = dbvPart m c t.val := by
    unfold dbvPart; rw [pt_eq]
  have f0 : t.val ≠ 0 → Sum (R := 3) (dwgPart m c) (t.val - 1) y0 := fun h => found m c 10 rfl rfl flush0_10 t h y0 hy0
  have f1 : t.val ≠ 0 → Sum (R := 3) (dwvPart m c) (t.val - 1) y1 := fun h => found m c 11 rfl rfl flush0_11 t h y1 hy1
  have f2 : t.val ≠ 0 → Sum (R := 1) (dbgPart m c) (t.val - 1) y2 := fun h => found m c 12 rfl rfl flush0_12 t h y2 hy2
  have f3 : t.val ≠ 0 → Sum (R := 1) (dbvPart m c) (t.val - 1) y3 := fun h => found m c 13 rfl rfl flush0_13 t h y3 hy3
  by_cases hf : t.val / 11 = 0
  · iapply (run_first c (grid0.coords t) _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t)
      ((first_iff t).1.mpr hf) (fun h => (first_iff t).2.1.mp h hf) ((first_iff t).2.2.1.mpr hf) (fun h => (first_iff t).2.2.2.mp h hf) y0 y1 y2 y3 Set.univ _)
    isplitl [H0 H1 H2 H3 H4 H5 H6 H7]
    · unfold Inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexact H10
    isplitl [H11]; · iexact H11
    isplitl [H12]; · iexact H12
    isplitl [H13]; · iexact H13
    unfold post
    rw [p0, p1, p2, p3, e]
    iintro ⟨HI, H8, H9, H10, H11, H12, H13⟩
    isplitl [HΦ]; · iexact HΦ
    isplitl [Ho]; · iexact Ho
    isplitl [HI]; · iexact HI
    isplitl [H8]; · iexact H8
    isplitl [H9]; · iexact H9
    isplitl [H10]
    · iexists _; isplitr; swap; · iexact H10
      ipureintro; exact sum_first _ _ hf y0 f0
    isplitl [H11]
    · iexists _; isplitr; swap; · iexact H11
      ipureintro; exact sum_first _ _ hf y1 f1
    isplitl [H12]
    · iexists _; isplitr; swap; · iexact H12
      ipureintro; exact sum_first _ _ hf y2 f2
    iexists _; isplitr; swap; · iexact H13
    ipureintro; exact sum_first _ _ hf y3 f3
  · iapply (run_next c (grid0.coords t) _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t)
      (fun h => hf ((first_iff t).1.mp h)) ((first_iff t).2.1.mpr hf) (fun h => hf ((first_iff t).2.2.1.mp h)) ((first_iff t).2.2.2.mpr hf) y0 y1 y2 y3 Set.univ _)
    isplitl [H0 H1 H2 H3 H4 H5 H6 H7]
    · unfold Inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexact H10
    isplitl [H11]; · iexact H11
    isplitl [H12]; · iexact H12
    isplitl [H13]; · iexact H13
    unfold post
    rw [p0, p1, p2, p3, e]
    iintro ⟨HI, H8, H9, H10, H11, H12, H13⟩
    isplitl [HΦ]; · iexact HΦ
    isplitl [Ho]; · iexact Ho
    isplitl [HI]; · iexact HI
    isplitl [H8]; · iexact H8
    isplitl [H9]; · iexact H9
    isplitl [H10]
    · iexists _; isplitr; swap; · iexact H10
      ipureintro; exact sum_next _ _ hf y0 (f0 (by omega))
    isplitl [H11]
    · iexists _; isplitr; swap; · iexact H11
      ipureintro; exact sum_next _ _ hf y1 (f1 (by omega))
    isplitl [H12]
    · iexists _; isplitr; swap; · iexact H12
      ipureintro; exact sum_next _ _ hf y2 (f2 (by omega))
    iexists _; isplitr; swap; · iexact H13
    ipureintro; exact sum_next _ _ hf y3 (f3 (by omega))

/-! ## The run -/

theorem row (t : Fin cfg0.N) : defs₀ (F := F) .tc cfg0.body (cfg0.bodyArgs t (cfg0.slots t)) = bodyAt0 t := by
  unfold defs₀; rw [Defs.onTc_tc]

theorem idle_eq (w : Fin cfg0.W) (i) (h : fgt w = false) : cfg0.idle w i = false := by
  fin_cases w <;> first | rfl | exact absurd h (by decide)

theorem loose_eq (w : Fin cfg0.W) : cfg0.loose w = false := by fin_cases w <;> rfl

theorem obligation : BodyObligationRel (dats (F := F) m 0 c) (defs₀ (F := F)) Variants.none () Set.univ fgt (Rl m c) := fun t => by
  rw [bigSep_W0, bigSep_W0, row]
  refine triple_restated (sound m c t) rfl .rfl fun _ => ?_
  unfold post Inputs
  dsimp only [fgt, Rl]
  simp only [idle_eq 0 _ rfl, idle_eq 1 _ rfl, idle_eq 2 _ rfl, idle_eq 3 _ rfl, idle_eq 4 _ rfl, idle_eq 5 _ rfl, idle_eq 6 _ rfl, idle_eq 7 _ rfl,
    idle_eq 8 _ rfl, idle_eq 9 _ rfl, loose_eq, after0, after1, after2, after3, after4, after5, after6, after7, after8, after9]
  iintro ⟨HΦ, Ho, ⟨H0, H1, H2, H3, H4, H5, H6, H7⟩, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
/-- The run, every semaphore back at zero. -/
theorem run_quiescent : θ_run defs (onTc (τ := τ) (main (F := F))) (s₀ m ρ) (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (obligation m c).toRRel) (hq := fun _ _ _ => rfl) (howed := fun _ _ => rfl) (V := V m) (hmain := hmain m Variants.none)
    (hA := A_eq m) (hin := fun _ => .rfl) (hout := fun _ => .rfl)

/-- The arguments end as they were, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (RDat.FramePost.arr_in h.1 c 7 rfl).trans ((A_eq m c 7).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_quiescent m ρ)

/-! ## The results -/

/-- A window whose contents are named ends as they say. -/
theorem exact_end (w : Fin cfg0.W) (hf : fgt w = false) (G) (h : (rdat m c).ArrAt w cfg0.N G) : G = (dats m 0 c).arrAt w cfg0.N := by
  exact ((dats m 0 c).toR_arrAt_iff w _ _).mp (((dats m 0 c).toR.override_arrAt (by simp only [hf]) _ _).mp h)

/-- A sum handed over once, whole, ends as its last point left it. -/
theorem sum_end {R : ℕ} (w : Fin cfg0.W) (hg : fgt w = true) (X₀ : (cfg0.win w).block.Idx → Elt F (cfg0.win w).elt)
    (h43 : ∀ X, Rl m c w (pt 43) X → X = X₀) (hw : (cfg0.win w).WholeAt (pt 43)) (G) (h : (rdat m c).ArrAt w cfg0.N G)
    (j : (cfg0.win w).shape.Idx) : G ((cfg0.win w).arr.view.emb j)
      = _root_.cast (congrArg (Elt F) (cfg0.win w).arr.view.elt_eq.symm) (X₀ fun a => ⟨j a, hw.lt_size j a⟩) := by
  obtain ⟨X, hX, hA⟩ := RDat.ArrAt.emb_eq_of_wholeAt h hw
  rw [hA, h43 X ((dats m 0 c).toRRel_leaves hg hX)]

/-- The run, its six results named. -/
theorem run : θ_run defs (onTc (τ := τ) (main (F := F))) ⟨m, fun _ => 0, ρ⟩ fun r => ∀ c : Dev nD,
      r.2.mem ((c : Thread nD τ).loc main_v31_0) = (dats m 0 c).arrAt 8 cfg0.N
      ∧ r.2.mem ((c : Thread nD τ).loc main_v31_1) = (dats m 0 c).arrAt 9 cfg0.N
      ∧ r.2.mem ((c : Thread nD τ).loc main_v31_2) = tot (dwgPart m c) 3
      ∧ r.2.mem ((c : Thread nD τ).loc main_v31_3) = tot (dwvPart m c) 3
      ∧ r.2.mem ((c : Thread nD τ).loc main_v31_4) = tot (dbgPart m c) 3
      ∧ r.2.mem ((c : Thread nD τ).loc main_v31_5) = tot (dbvPart m c) 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨exact_end m c 8 rfl _ ((h.1.1 c).1 8), exact_end m c 9 rfl _ ((h.1.1 c).1 9),
    funext fun j => sum_end (R := 3) m c 10 rfl (tot (dwgPart m c) 3) (fun _ h => sum_last h) (by decide +kernel) _ ((h.1.1 c).1 10) j,
    funext fun j => sum_end (R := 3) m c 11 rfl (tot (dwvPart m c) 3) (fun _ h => sum_last h) (by decide +kernel) _ ((h.1.1 c).1 11) j,
    funext fun j => sum_end (R := 1) m c 12 rfl (tot (dbgPart m c) 3) (fun _ h => sum_last h) (by decide +kernel) _ ((h.1.1 c).1 12) j,
    funext fun j => sum_end (R := 1) m c 13 rfl (tot (dbvPart m c) 3) (fun _ h => sum_last h) (by decide +kernel) _ ((h.1.1 c).1 13) j,
    h.2.1 c⟩) (θ_run_and (run_quiescent m ρ) (frame m ρ))

end Cert.FfnFrame
end
-- ==== Proof.FfnBlock.lean ====
/- One strip of the gated activation's gradient: what the kernel's body leaves in each block and adds to each sum, as a function
   of the blocks it reads, over the extended reals. -/
module

public import proofs.«01_k».proof.Proof.ConvMath
public import proofs.«01_k».proof.Proof.ScBlock
public import proofs.«01_k».proof.Proof.FfnFrame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnBlock

open Cert.FfnKernelIdeal Cert.FfnKernelIdeal.Gen Cert.ConvMath Cert.FfnPut Cert.FfnRun
open Cert.ScBlock (lane taps emb2 emb3 left right)

/-- The logistic function, as the kernel computes it. -/
def sg (g : EReal) : EReal := Ideal.div 1 (1 + Ideal.exp (0 - g))
/-- The cotangents of the value and of the gate, from the activation's cotangent `a`, the gate `g` and the value `v`. -/
def valD (a g : EReal) : EReal := a * (g * sg g)
def gateD (a g v : EReal) : EReal := a * v * (sg g * (1 + g * (1 - sg g)))

section Half

variable (z : Vec Ideal S1x2048x1024 .bf16) (w : Vec Ideal S256x1024 .bf16) (g v h : Vec Ideal S1x2048x128 .f32) (hw : Vec Ideal S3x128 .f32)
  (d : FVec Ideal S2048x128 .f32) (D : FVec Ideal S2048x256 .f32) (t : Fin 2048) (l : Fin 128) (a : Fin 1) (l' : Fin 256)

theorem pay23 : k0_pay23 z w (ix2 t l') = ∑ k : Fin 1024, z (ix3 0 t k) * w (ix2 l' k) := by
  pointwise [k0_pay23]
theorem pay27 : k0_pay27 z w g (ix2 t l) = valD (k0_pay23 z w (ix2 t (left l))) (g (ix3 0 t l)) := by
  pointwise [k0_pay27, k0_pay24, k0_pay25, k0_pay26]
  exact congrArg (fun l' => valD (k0_pay23 z w (ix2 t l')) (g (ix3 0 t l))) (Fin.ext (Nat.zero_add l.val).symm)
theorem pay28 : k0_pay28 z w g v (ix2 t l) = gateD (k0_pay23 z w (ix2 t (left l))) (g (ix3 0 t l)) (v (ix3 0 t l)) := by
  pointwise [k0_pay28, k0_pay24, k0_pay25, k0_pay26]
  exact congrArg (fun l' => gateD (k0_pay23 z w (ix2 t l')) (g (ix3 0 t l)) (v (ix3 0 t l))) (Fin.ext (Nat.zero_add l.val).symm)
theorem pay52 : k0_pay52 D g (ix2 t l) = valD (D (ix2 t (right l))) (g (ix3 0 t l)) := by
  pointwise [k0_pay52, k0_pay49, k0_pay50, k0_pay51]
  rfl
theorem pay53 : k0_pay53 D g v (ix2 t l) = gateD (D (ix2 t (right l))) (g (ix3 0 t l)) (v (ix3 0 t l)) := by
  pointwise [k0_pay53, k0_pay49, k0_pay50, k0_pay51]
  rfl

/-- A lane of a strip's half, without the leading axis. -/
def col (d : S2048x128.Idx → EReal) (l : Fin 128) : Sq := fun t => d (ix2 t l)

theorem pay31 : k0_pay31 d (iota .tc S2048x128 32 [0] iota_S2048x128_d0_w32) k0_pay30 (ix2 t l) = up (col d l) 1 t :=
  shift_up 2047 1 rfl (by decide) d _ _ t l
theorem pay32 : k0_pay32 d (ix2 t l) = up (col d l) 2 t := shift_up 2046 2 rfl (by decide) d _ _ t l

/-! The first half's forms; the second half's, and the values', are the same. -/

theorem strip_at : k0_pay44 (k0_pay33 d hw (iota .tc S2048x128 32 [0] iota_S2048x128_d0_w32) k0_pay30) (ix3 0 t l)
    = dconv (col d l) (taps hw l) t := by
  pointwise [k0_pay44, k0_pay33]
  rw [pay31, pay32]
  rfl
theorem row0_at : k0_pay34 d (k0_pay29 h) (ix2 a l) = dtap (col d l) (lane h l) 0 := by
  pointwise [k0_pay34, k0_pay29]
  simp only [pay32]
  rfl
theorem row1_at : k0_pay35 d (k0_pay29 h) (iota .tc S2048x128 32 [0] iota_S2048x128_d0_w32) k0_pay30 (ix2 a l) = dtap (col d l) (lane h l) 1 := by
  have e : k0_pay31 d (iota .tc S2048x128 32 [0] iota_S2048x128_d0_w32) k0_pay30 = fun i => up (col d (i 1)) 1 (i 0) := by
    funext i
    obtain ⟨t, l, rfl⟩ : ∃ (t : Fin 2048) (l : Fin 128), i = ix2 t l := ⟨i 0, i 1, eq_ix2 i⟩
    exact pay31 d t l
  unfold k0_pay35
  rw [e]
  pointwise [k0_pay29]
  rfl
theorem row2_at : k0_pay36 d (k0_pay29 h) (ix2 a l) = dtap (col d l) (lane h l) 2 := by
  pointwise [k0_pay36, k0_pay29]
  exact Finset.sum_congr rfl fun t _ => congrArg₂ HMul.hMul (congrFun (up_zero (col d l)) t).symm rfl
theorem bias_at : k0_pay46 d (ix2 a l) = ∑ t, col d l t := by
  pointwise [k0_pay46]
  rfl

theorem gate_hi : k0_pay4 (k0_pay59 (k0_pay53 D g v) hw (k0_pay55 D g v) k0_pay56 (k0_pay57 D g v))
    = k0_pay44 (k0_pay33 (k0_pay53 D g v) hw (iota .tc S2048x128 32 [0] iota_S2048x128_d0_w32) k0_pay30) := rfl
theorem value_lo : k0_pay45 d hw (k0_pay38 d) k0_pay39 2046#32
    = k0_pay44 (k0_pay33 d hw (iota .tc S2048x128 32 [0] iota_S2048x128_d0_w32) k0_pay30) := rfl
theorem value_hi : k0_pay5 d (k0_pay66 d hw) (k0_pay67 hw)
    = k0_pay44 (k0_pay33 d hw (iota .tc S2048x128 32 [0] iota_S2048x128_d0_w32) k0_pay30) := rfl

/-- The three rows at a lane. -/
theorem gateRow_lo (k : Fin 3) : (![k0_pay34 d (k0_pay29 h), k0_pay35 d (k0_pay29 h) (iota .tc S2048x128 32 [0] iota_S2048x128_d0_w32) k0_pay30,
    k0_pay36 d (k0_pay29 h)] : Fin 3 → Vec Ideal S1x128 .f32) k (ix2 0 l) = dtap (col d l) (lane h l) k := by
  match k with
  | 0 => exact row0_at h d l 0
  | 1 => exact row1_at h d l 0
  | 2 => exact row2_at h d l 0
theorem gateRow_hi (k : Fin 3) : (![k0_pay60 (k0_pay54 h) k0_pay56 (k0_pay57 D g v), k0_pay61 (k0_pay54 h) (k0_pay55 D g v),
    k0_pay62 (k0_pay53 D g v) (k0_pay54 h)] : Fin 3 → Vec Ideal S1x128 .f32) k (ix2 0 l) = dtap (col (k0_pay53 D g v) l) (lane h l) k :=
  gateRow_lo h (k0_pay53 D g v) l k
theorem valueRow_lo (k : Fin 3) : (![k0_pay41 d (k0_pay37 h) k0_pay39 2046#32, k0_pay42 (k0_pay37 h) (k0_pay38 d),
    k0_pay43 d (k0_pay37 h)] : Fin 3 → Vec Ideal S1x128 .f32) k (ix2 0 l) = dtap (col d l) (lane h l) k :=
  gateRow_lo h d l k
theorem valueRow_hi (k : Fin 3) : (![k0_pay1 (k0_pay63 h) (k0_pay65 d), k0_pay2 (k0_pay63 h) (k0_pay64 d),
    k0_pay3 d (k0_pay63 h)] : Fin 3 → Vec Ideal S1x128 .f32) k (ix2 0 l) = dtap (col d l) (lane h l) k :=
  gateRow_lo h d l k

end Half

theorem piece (G : S1x2048x256.Idx → EReal) (o : ℕ) (ho : o + 128 ≤ 256) (inb) (pay : S1x2048x128.Idx → EReal)
    (h : ∀ (t : Fin 2048) (l : Fin 128), pay (ix3 0 t l) = G (ix3 0 t ⟨o + l.val, by omega⟩)) :
    ∀ x : S1x2048x128.Idx, pay x = G ((Rect.unit (s := S1x2048x256) ![0, 0, o] S1x2048x128.size inb).emb x) := by
  intro x
  obtain ⟨a, t, l, rfl⟩ : ∃ (a : Fin 1) (t : Fin 2048) (l : Fin 128), x = ix3 a t l := ⟨x 0, x 1, x 2, eq_ix3 x⟩
  obtain rfl : a = 0 := Subsingleton.elim _ _
  exact (h t l).trans (congrArg G (emb3 1 0 o (by decide) ho inb t l).symm)

section Block

variable (i : grid0.Coords) (x0 x1 x2 x3 : Vec Ideal S1x2048x256 .f32) (x4 : Vec Ideal S1x2048x1024 .bf16) (x5 : Vec Ideal S2816x1024 .bf16)
  (x6 x7 : Vec Ideal S3x256 .f32)

theorem lane_lo (l : Fin 128) : lane (lo x0) l = lane x0 (left l) :=
  funext fun t => congrArg x0 (emb3 1 0 0 (by decide) (by decide) _ t l)
theorem lane_hi (l : Fin 128) : lane (hi x0) l = lane x0 (right l) :=
  funext fun t => congrArg x0 (emb3 1 0 128 (by decide) (by decide) _ t l)
theorem taps_lo (l : Fin 128) : taps (loW x6) l = taps x6 (left l) :=
  funext fun k => (congrArg x6 (emb2 3 3 0 0 k (by omega) (by decide) _ l)).trans (congrArg (fun k => x6 (ix2 k (left l))) (Fin.ext (Nat.zero_add k.val)))
theorem taps_hi (l : Fin 128) : taps (hiW x6) l = taps x6 (right l) :=
  funext fun k => (congrArg x6 (emb2 3 3 0 128 k (by omega) (by decide) _ l)).trans (congrArg (fun k => x6 (ix2 k (right l))) (Fin.ext (Nat.zero_add k.val)))

/-- The strips' cotangents, lane by lane. -/
def actS (l : Fin 256) : Sq := fun t => da i x4 x5 (ix2 t l)
def gateS (l : Fin 256) : Sq := fun t => gateD (actS i x4 x5 l t) (lane x2 l t) (lane x3 l t)
def valS (l : Fin 256) : Sq := fun t => valD (actS i x4 x5 l t) (lane x2 l t)

theorem actS_at (hn : 256 * (i 1).val + 256 ≤ 2816) (l : Fin 256) (t : Fin 2048) :
    actS i x4 x5 l t = ∑ k : Fin 1024, x4 (ix3 0 t k) * x5 (ix2 ⟨256 * (i 1).val + l.val, by omega⟩ k) := by
  unfold actS
  refine (pay23 _ _ t l).trans (Finset.sum_congr rfl fun k _ => congrArg₂ HMul.hMul (congrArg x4 ?_) (congrArg x5 ?_))
  · funext a
    refine Fin.ext ?_
    fin_cases a
    · rfl
    · show 0 + 1 * t.val = t.val
      omega
    · show 0 + 1 * k.val = k.val
      omega
  · funext a
    refine Fin.ext ?_
    have e : ∀ a, k0_off1 i a = _ := congrFun (k0_off1_eq i)
    fin_cases a
    · refine (congrArg (· + 1 * l.val) (e 0)).trans ?_
      show 256 * (i 1).val + 1 * l.val = 256 * (i 1).val + l.val
      omega
    · refine (congrArg (· + 1 * k.val) (e 1)).trans ?_
      show 0 + 1 * k.val = k.val
      omega

theorem dgLo_col (l : Fin 128) : col (dgLo i x2 x3 x4 x5) l = gateS i x2 x3 x4 x5 (left l) := by
  funext t
  refine (pay28 _ _ (lo x2) (lo x3) t l).trans ?_
  exact congrArg₂ (gateD _) (congrFun (lane_lo x2 l) t) (congrFun (lane_lo x3 l) t)
theorem dgHi_col (l : Fin 128) : col (dgHi i x2 x3 x4 x5) l = gateS i x2 x3 x4 x5 (right l) := by
  funext t
  refine (pay53 (hi x2) (hi x3) _ t l).trans ?_
  exact congrArg₂ (gateD _) (congrFun (lane_hi x2 l) t) (congrFun (lane_hi x3 l) t)
theorem dvLo_col (l : Fin 128) : col (dvLo i x2 x4 x5) l = valS i x2 x4 x5 (left l) := by
  funext t
  refine (pay27 _ _ (lo x2) t l).trans ?_
  exact congrArg (valD _) (congrFun (lane_lo x2 l) t)
theorem dvHi_col (l : Fin 128) : col (dvHi i x2 x4 x5) l = valS i x2 x4 x5 (right l) := by
  funext t
  refine (pay52 (hi x2) _ t l).trans ?_
  exact congrArg (valD _) (congrFun (lane_hi x2 l) t)

/-- A strip of an input's gradient. -/
def strip (d : Fin 256 → Sq) (w : Vec Ideal S3x256 .f32) : S1x2048x256.Idx → EReal := fun y => dconv (d (y 2)) (taps w (y 2)) (y 1)

theorem gate_apply : gateStrip i x2 x3 x4 x5 x6 = strip (gateS i x2 x3 x4 x5) x6 := by
  funext y
  refine View.canon_apply_of_pieces (strip (gateS i x2 x3 x4 x5) x6) _ ?_ y (gate_cover i x2 x3 x4 x5 x6 y)
  unfold gatePieces
  simp only [List.forall_mem_cons, List.not_mem_nil, IsEmpty.forall_iff, implies_true, and_true]
  refine ⟨piece _ 128 (by decide) _ _ fun t l => ?_, piece _ 0 (by decide) _ _ fun t l => ?_⟩
  · refine (congrFun (gate_hi (hi x2) (hi x3) (hiW x6) (da i x4 x5)) _).trans ((strip_at _ _ t l).trans ?_)
    rw [dgHi_col, taps_hi]
    rfl
  · refine (strip_at _ _ t l).trans ?_
    rw [dgLo_col, taps_lo]
    rfl
theorem value_apply : valueStrip i x2 x4 x5 x7 = strip (valS i x2 x4 x5) x7 := by
  funext y
  refine View.canon_apply_of_pieces (strip (valS i x2 x4 x5) x7) _ ?_ y (value_cover i x2 x4 x5 x7 y)
  unfold valuePieces
  simp only [List.forall_mem_cons, List.not_mem_nil, IsEmpty.forall_iff, implies_true, and_true]
  refine ⟨piece _ 128 (by decide) _ _ fun t l => ?_, piece _ 0 (by decide) _ _ fun t l => ?_⟩
  · refine (congrFun (value_hi (hiW x7) (dvHi i x2 x4 x5)) _).trans ((strip_at _ _ t l).trans ?_)
    rw [dvHi_col, taps_hi]
    rfl
  · refine (congrFun (value_lo (loW x7) (dvLo i x2 x4 x5)) _).trans ((strip_at _ _ t l).trans ?_)
    rw [dvLo_col, taps_lo]
    rfl

/-- Rows of two halves laid over all lanes, read at a lane of block `n`. -/
theorem spread_lane {R : ℕ} (w : Fin 2 → Fin R → Vec Ideal S1x128 .f32) (P : Fin R → Fin 256 → EReal)
    (hlo : ∀ k l, w 0 k (ix2 0 l) = P k (left l)) (hhi : ∀ k l, w 1 k (ix2 0 l) = P k (right l)) (n : ℕ) (k : Fin R) (l : Fin 256)
    (hb : 256 * n + l.val < 2816) : spread w (ix2 k ⟨256 * n + l.val, hb⟩) = P k l := by
  by_cases h : l.val < 128
  · refine Eq.trans ?_ ((spread_at w n 0 k ⟨l.val, h⟩ (by show 256 * n + 128 * 0 + l.val < 2816; omega)).trans ((hlo k ⟨l.val, h⟩).trans ?_))
    · exact congrArg (fun p => spread w (ix2 k p)) (Fin.ext (by show 256 * n + l.val = 256 * n + 128 * 0 + l.val; omega))
    · exact congrArg (P k) (Fin.ext (by show 0 + l.val = l.val; omega))
  · refine Eq.trans ?_ ((spread_at w n 1 k ⟨l.val - 128, by omega⟩ (by show 256 * n + 128 * 1 + (l.val - 128) < 2816; omega)).trans
      ((hhi k ⟨l.val - 128, by omega⟩).trans ?_))
    · exact congrArg (fun p => spread w (ix2 k p)) (Fin.ext (by show 256 * n + l.val = 256 * n + 128 * 1 + (l.val - 128); omega))
    · exact congrArg (P k) (Fin.ext (by show 128 + (l.val - 128) = l.val; omega))

/-! ### A point's part of each sum, at a lane of its block -/

variable (n : ℕ) (l : Fin 256) (hb : 256 * n + l.val < 2816)

theorem dwg_at (k : Fin 3) : dwgOf i x0 x2 x3 x4 x5 (ix2 k ⟨256 * n + l.val, hb⟩) = dtap (gateS i x2 x3 x4 x5 l) (lane x0 l) k :=
  spread_lane (gateRows i x0 x2 x3 x4 x5) (fun k l => dtap (gateS i x2 x3 x4 x5 l) (lane x0 l) k)
    (fun k l => (gateRow_lo (lo x0) (dgLo i x2 x3 x4 x5) l k).trans (by rw [dgLo_col, lane_lo]))
    (fun k l => (gateRow_hi (hi x2) (hi x3) (hi x0) (da i x4 x5) l k).trans (by rw [dgHi_col, lane_hi])) n k l hb
theorem dwv_at (k : Fin 3) : dwvOf i x1 x2 x4 x5 (ix2 k ⟨256 * n + l.val, hb⟩) = dtap (valS i x2 x4 x5 l) (lane x1 l) k :=
  spread_lane (valueRows i x1 x2 x4 x5) (fun k l => dtap (valS i x2 x4 x5 l) (lane x1 l) k)
    (fun k l => (valueRow_lo (lo x1) (dvLo i x2 x4 x5) l k).trans (by rw [dvLo_col, lane_lo]))
    (fun k l => (valueRow_hi (hi x1) (dvHi i x2 x4 x5) l k).trans (by rw [dvHi_col, lane_hi])) n k l hb
theorem dbg_at (a : Fin 1) : dbgOf i x2 x3 x4 x5 (ix2 a ⟨256 * n + l.val, hb⟩) = ∑ t, gateS i x2 x3 x4 x5 l t :=
  spread_lane (gateBias i x2 x3 x4 x5) (fun _ l => ∑ t, gateS i x2 x3 x4 x5 l t)
    (fun k l => by
      obtain rfl : k = 0 := Subsingleton.elim _ _
      exact (bias_at (dgLo i x2 x3 x4 x5) l 0).trans (by rw [dgLo_col]))
    (fun k l => by
      obtain rfl : k = 0 := Subsingleton.elim _ _
      exact (bias_at (dgHi i x2 x3 x4 x5) l 0).trans (by rw [dgHi_col])) n a l hb
theorem dbv_at (a : Fin 1) : dbvOf i x2 x4 x5 (ix2 a ⟨256 * n + l.val, hb⟩) = ∑ t, valS i x2 x4 x5 l t :=
  spread_lane (valueBias i x2 x4 x5) (fun _ l => ∑ t, valS i x2 x4 x5 l t)
    (fun k l => by
      obtain rfl : k = 0 := Subsingleton.elim _ _
      exact (bias_at (dvLo i x2 x4 x5) l 0).trans (by rw [dvLo_col]))
    (fun k l => by
      obtain rfl : k = 0 := Subsingleton.elim _ _
      exact (bias_at (dvHi i x2 x4 x5) l 0).trans (by rw [dvHi_col])) n a l hb

end Block
end Cert.FfnBlock
end
-- ==== Proof.FfnValue.lean ====
/- The gated activation's gradient: what the kernel leaves in its six results, as functions of its arguments, over the extended
   reals. -/
module

public import proofs.«01_k».proof.Proof.FfnBlock
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.FfnValue

open Cert.FfnKernelIdeal Cert.FfnKernelIdeal.Gen Cert.ConvMath Cert.FfnPut Cert.FfnRun Cert.FfnFrame Cert.FfnBlock
open Cert.ScBlock (lane taps)

/-! ## The results as functions of the arguments -/

section Math

variable (x : S4x2048x5632.Idx → EReal) (w : S3x5632.Idx → EReal) (β : S5632.Idx → EReal) (wd : S2816x1024.Idx → EReal)
  (z : S4x2048x1024.Idx → EReal) (b : Fin 4) (j : Fin 2816)

/-- A gate's lane among the convolution's, and a value's. -/
abbrev gl : Fin 5632 := ⟨j.val, by omega⟩
abbrev vl : Fin 5632 := ⟨2816 + j.val, by omega⟩

def seqX (p : Fin 5632) : Sq := fun t => x (ix3 b t p)
/-- The convolution's output. -/
def pre (p : Fin 5632) : Sq := conv (seqX x b p) (taps w p) (β (ix1 p))
/-- The cotangent of the activation. -/
def act : Sq := fun t => ∑ k : Fin 1024, z (ix3 b t k) * wd (ix2 j k)
/-- The cotangents of the gate and of the value. -/
def gateT : Sq := fun t => gateD (act wd z b j t) (pre x w β b (gl j) t) (pre x w β b (vl j) t)
def valT : Sq := fun t => valD (act wd z b j t) (pre x w β b (gl j) t)

def dhg (i : S4x2048x2816.Idx) : EReal := dconv (gateT x w β wd z (i 0) (i 2)) (taps w (gl (i 2))) (i 1)
def dhv (i : S4x2048x2816.Idx) : EReal := dconv (valT x w β wd z (i 0) (i 2)) (taps w (vl (i 2))) (i 1)
def dwg (i : S3x2816.Idx) : EReal := ∑ b, dtap (gateT x w β wd z b (i 1)) (seqX x b (gl (i 1))) (i 0)
def dwv (i : S3x2816.Idx) : EReal := ∑ b, dtap (valT x w β wd z b (i 1)) (seqX x b (vl (i 1))) (i 0)
def dbg (i : S1x2816.Idx) : EReal := ∑ b, ∑ t, gateT x w β wd z b (i 1) t
def dbv (i : S1x2816.Idx) : EReal := ∑ b, ∑ t, valT x w β wd z b (i 1) t

end Math

/-! ## The convolution on the host -/

/-- The input's rows behind two rows of zeros. -/
def padded (x : FVec Ideal S4x2048x5632 .f32) : FVec Ideal S4x2050x5632 .f32 :=
  concatenate S4x2050x5632 1 [⟨S4x2x5632, broadcastInDim S4x2x5632 ![] bcast_S_S4x2x5632 (constant (F := Ideal) S_ .f32 0#32)⟩, ⟨S4x2048x5632, x⟩]
    concatenates_S4x2x5632_S4x2048x5632_S4x2050x5632_d1
/-- A row of the taps, at every place. -/
def tapRow (r : FVec Ideal S1x5632 .f32) : FVec Ideal S4x2048x5632 .f32 :=
  broadcastInDim S4x2048x5632 ![0, 1, 2] bcast_S1x1x5632_S4x2048x5632_0_1_2
    (broadcastInDim S1x1x5632 ![2] bcast_S5632_S1x1x5632_2 (shapeCast S5632 r shapeCasts_S1x5632_S5632))
def hostConv (x : FVec Ideal S4x2048x5632 .f32) (w : FVec Ideal S3x5632 .f32) (β : FVec Ideal S5632 .f32) : FVec Ideal S4x2048x5632 .f32 :=
  addf (addf (addf (mulf (extractStridedSlice S4x2048x5632 ![0, 0, 0] (padded x) slices_S4x2050x5632_S4x2048x5632_0_0_0)
          (tapRow (extractStridedSlice S1x5632 ![0, 0] w slices_S3x5632_S1x5632_0_0)))
        (broadcastInDim S4x2048x5632 ![0, 1, 2] bcast_S1x1x5632_S4x2048x5632_0_1_2 (broadcastInDim S1x1x5632 ![2] bcast_S5632_S1x1x5632_2 β)))
      (mulf (extractStridedSlice S4x2048x5632 ![0, 1, 0] (padded x) slices_S4x2050x5632_S4x2048x5632_0_1_0)
        (tapRow (extractStridedSlice S1x5632 ![1, 0] w slices_S3x5632_S1x5632_1_0))))
    (mulf (extractStridedSlice S4x2048x5632 ![0, 2, 0] (padded x) slices_S4x2050x5632_S4x2048x5632_0_2_0)
      (tapRow (extractStridedSlice S1x5632 ![2, 0] w slices_S3x5632_S1x5632_2_0)))

theorem padded_at (x : FVec Ideal S4x2048x5632 .f32) (b : Fin 4) (p : Fin 5632) (t : Fin 2048) (k : ℕ) (hk : k ≤ 2) :
    padded x (ix3 b ⟨2 - k + t.val, by omega⟩ p) = dn (seqX x b p) k t := by
  pointwise [padded]
  unfold dn
  by_cases h : k ≤ t.val
  · rw [dif_neg (by omega), dif_pos h]
    exact congrArg (seqX x b p) (Fin.ext (by show 2 - k + t.val - 2 = t.val - k; omega))
  · rw [dif_pos (by omega), dif_neg h]
theorem tapRow_at (r : FVec Ideal S1x5632 .f32) (b : Fin 4) (t : Fin 2048) (p : Fin 5632) : tapRow r (ix3 b t p) = r (ix2 0 p) := by
  pointwise [tapRow]
theorem hostConv_at (x : FVec Ideal S4x2048x5632 .f32) (w : FVec Ideal S3x5632 .f32) (β : FVec Ideal S5632 .f32) (b : Fin 4) (t : Fin 2048) (p : Fin 5632) :
    hostConv x w β (ix3 b t p) = pre x w β b p t := by
  pointwise [hostConv]
  simp only [tapRow_at]
  pointwise
  have e2 : padded x (ix3 b ⟨t.val, by omega⟩ p) = dn (seqX x b p) 2 t :=
    (congrArg (fun s => padded x (ix3 b s p)) (Fin.ext (by show t.val = 2 - 2 + t.val; omega))).trans (padded_at x b p t 2 (by decide))
  have e1 : padded x (ix3 b ⟨1 + t.val, by omega⟩ p) = dn (seqX x b p) 1 t := padded_at x b p t 1 (by decide)
  have e0 : padded x (ix3 b ⟨2 + t.val, by omega⟩ p) = dn (seqX x b p) 0 t := padded_at x b p t 0 (by decide)
  rw [e2, e1, e0, dn_zero]
  rfl

/-! ## The blocks -/

theorem idx : ∀ t : Fin cfg0.N, win0_0.index t = ![t.val / 11, 0, t.val % 11] ∧ win0_1.index t = ![t.val / 11, 0, t.val % 11]
    ∧ win0_2.index t = ![t.val / 11, 0, t.val % 11] ∧ win0_3.index t = ![t.val / 11, 0, t.val % 11]
    ∧ win0_4.index t = ![t.val / 11, 0, 0] ∧ win0_5.index t = ![0, 0]
    ∧ win0_6.index t = ![0, t.val % 11] ∧ win0_7.index t = ![0, 11 + t.val % 11]
    ∧ win0_8.index t = ![t.val / 11, 0, t.val % 11] ∧ win0_9.index t = ![t.val / 11, 0, t.val % 11] := by decide +kernel

theorem lt_points (t : Fin cfg0.N) : t.val < 44 := lt_of_lt_of_eq t.isLt (show cfg0.N = 44 from N_0)

section Arrays

variable (m : (ℓ : Loc nD τ sig) → Buf (Elt Ideal) ℓ) (c : Dev nD)

abbrev argX : Vec Ideal S4x2048x5632 .f32 := m (c.tc.loc main_arg0)
abbrev argW : Vec Ideal S3x5632 .f32 := m (c.tc.loc main_arg1)
abbrev argB : Vec Ideal S5632 .f32 := m (c.tc.loc main_arg2)
abbrev argD : Vec Ideal S2816x1024 .f32 := m (c.tc.loc main_arg3)
abbrev argZ : Vec Ideal S4x2048x1024 .f32 := m (c.tc.loc main_arg4)

/-- A point's batch, and its lanes. -/
abbrev bat (t : Fin cfg0.N) : Fin 4 := ⟨t.val / 11, by have := lt_points t; omega⟩
abbrev at_ (t : Fin cfg0.N) (l : Fin 256) : Fin 2816 := ⟨256 * (t.val % 11) + l.val, by omega⟩

theorem blk0 (t : Fin cfg0.N) (l : Fin 256) : lane (iblk m c 0 t) l = seqX (argX m c) (bat t) (gl (at_ t l)) := by
  funext s
  show iblk m c 0 t (ix3 0 s l) = argX m c _
  unfold iblk
  rw [View.read_apply]
  show V m c main_v0 _ = _
  entry_read
  pointwise
  blk_ext [idx t]
theorem blk1 (t : Fin cfg0.N) (l : Fin 256) : lane (iblk m c 1 t) l = seqX (argX m c) (bat t) (vl (at_ t l)) := by
  funext s
  show iblk m c 1 t (ix3 0 s l) = argX m c _
  unfold iblk
  rw [View.read_apply]
  show V m c main_v1 _ = _
  entry_read
  pointwise
  blk_ext [idx t]
theorem emb2 (t : Fin cfg0.N) (s : Fin 2048) (l : Fin 256) :
    ((View.whole main_v27).slice (win0_2.rect t)).emb (ix3 0 s l) = ix3 (bat t) s (at_ t l) := by
  blk_ext [idx t]
theorem emb3 (t : Fin cfg0.N) (s : Fin 2048) (l : Fin 256) :
    ((View.whole main_v28).slice (win0_3.rect t)).emb (ix3 0 s l) = ix3 (bat t) s (at_ t l) := by
  blk_ext [idx t]
theorem blk2 (t : Fin cfg0.N) (l : Fin 256) : lane (iblk m c 2 t) l = pre (argX m c) (argW m c) (argB m c) (bat t) (gl (at_ t l)) := by
  funext s
  show iblk m c 2 t (ix3 0 s l) = _
  unfold iblk
  rw [View.read_apply]
  show V m c main_v27 _ = _
  entry_read
  rw [show ((View.whole main_v27).slice ((win0 2).rect t)).emb (ix3 0 s l) = ix3 (bat t) s (at_ t l) from emb2 t s l]
  refine (congrArg (fun y => extractStridedSlice S4x2048x2816 ![0, 0, 0] y slices_S4x2048x5632_S4x2048x2816_0_0_0 (ix3 (bat t) s (at_ t l)))
    (?_ : _ = hostConv (argX m c) (argW m c) (argB m c))).trans ?_
  · unfold hostConv tapRow padded
    rfl
  pointwise
  exact hostConv_at _ _ _ _ _ _
theorem blk3 (t : Fin cfg0.N) (l : Fin 256) : lane (iblk m c 3 t) l = pre (argX m c) (argW m c) (argB m c) (bat t) (vl (at_ t l)) := by
  funext s
  show iblk m c 3 t (ix3 0 s l) = _
  unfold iblk
  rw [View.read_apply]
  show V m c main_v28 _ = _
  entry_read
  rw [show ((View.whole main_v28).slice ((win0 3).rect t)).emb (ix3 0 s l) = ix3 (bat t) s (at_ t l) from emb3 t s l]
  refine (congrArg (fun y => extractStridedSlice S4x2048x2816 ![0, 0, 2816] y slices_S4x2048x5632_S4x2048x2816_0_0_2816 (ix3 (bat t) s (at_ t l)))
    (?_ : _ = hostConv (argX m c) (argW m c) (argB m c))).trans ?_
  · unfold hostConv tapRow padded
    rfl
  pointwise
  exact hostConv_at _ _ _ _ _ _
theorem blk4 (t : Fin cfg0.N) (s : Fin 2048) (k : Fin 1024) : iblk m c 4 t (ix3 0 s k) = argZ m c (ix3 (bat t) s k) := by
  unfold iblk
  rw [View.read_apply]
  show V m c main_v29 _ = _
  entry_read
  pointwise
  blk_ext [idx t]
theorem blk5 (t : Fin cfg0.N) (j : Fin 2816) (k : Fin 1024) : iblk m c 5 t (ix2 j k) = argD m c (ix2 j k) := by
  unfold iblk
  rw [View.read_apply]
  show V m c main_v30 _ = _
  entry_read
  pointwise
  blk_ext [idx t]
theorem blk6 (t : Fin cfg0.N) (l : Fin 256) : taps (iblk m c 6 t) l = taps (argW m c) (gl (at_ t l)) := by
  funext k
  show iblk m c 6 t (ix2 k l) = argW m c _
  blk_ext [iblk, V, idx t]
theorem blk7 (t : Fin cfg0.N) (l : Fin 256) : taps (iblk m c 7 t) l = taps (argW m c) (vl (at_ t l)) := by
  funext k
  show iblk m c 7 t (ix2 k l) = argW m c _
  blk_ext [iblk, V, idx t]

/-! ## One point -/

theorem block_lt (t : Fin cfg0.N) : 256 * (grid0.coords t 1).val + 256 ≤ 2816 := by rw [block_eq]; omega

variable (t : Fin cfg0.N) (l : Fin 256)

theorem act_eq : actS (grid0.coords t) (iblk m c 4 t) (iblk m c 5 t) l = act (argD m c) (argZ m c) (bat t) (at_ t l) := by
  funext s
  rw [actS_at (grid0.coords t) (iblk m c 4 t) (iblk m c 5 t) (block_lt t)]
  refine Finset.sum_congr rfl fun k _ => ?_
  rw [blk4, blk5]
  exact congrArg (fun j => _ * argD m c (ix2 j k)) (Fin.ext (by show 256 * (grid0.coords t 1).val + l.val = _; rw [block_eq]))
theorem gate_eq : gateS (grid0.coords t) (iblk m c 2 t) (iblk m c 3 t) (iblk m c 4 t) (iblk m c 5 t) l
    = gateT (argX m c) (argW m c) (argB m c) (argD m c) (argZ m c) (bat t) (at_ t l) := by
  unfold gateS
  rw [act_eq, blk2, blk3]
  rfl
theorem val_eq : valS (grid0.coords t) (iblk m c 2 t) (iblk m c 4 t) (iblk m c 5 t) l
    = valT (argX m c) (argW m c) (argB m c) (argD m c) (argZ m c) (bat t) (at_ t l) := by
  unfold valS
  rw [act_eq, blk2]
  rfl

/-! ## The results -/

theorem emb8 (s : Fin 2048) : ((View.whole main_v31_0).slice (win0_8.rect t)).emb (ix3 0 s l) = ix3 (bat t) s (at_ t l) := by
  blk_ext [idx t]
theorem emb9 (s : Fin 2048) : ((View.whole main_v31_1).slice (win0_9.rect t)).emb (ix3 0 s l) = ix3 (bat t) s (at_ t l) := by
  blk_ext [idx t]

theorem final_dhg : (dats m 0 c).arrAt 8 cfg0.N = dhg (argX m c) (argW m c) (argB m c) (argD m c) (argZ m c) := by
  refine (dats m 0 c).arrAt_eq_of_covers 8 _ (by decide +kernel) fun t hf y => ?_
  blk_simp
  rw [after8, gate_apply]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb8]
  show dconv (gateS _ _ _ _ _ l) (taps _ l) s = _
  rw [gate_eq, blk6]
  rfl
theorem final_dhv : (dats m 0 c).arrAt 9 cfg0.N = dhv (argX m c) (argW m c) (argB m c) (argD m c) (argZ m c) := by
  refine (dats m 0 c).arrAt_eq_of_covers 9 _ (by decide +kernel) fun t hf y => ?_
  blk_simp
  rw [after9, value_apply]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb9]
  show dconv (valS _ _ _ _ l) (taps _ l) s = _
  rw [val_eq, blk7]
  rfl

/-- The sum over the batches, from each point's part. -/
theorem tot_eq {R : ℕ} (K : ℕ → Vec Ideal (SR R) .f32) (G : Fin 4 → Fin R → Fin 2816 → EReal)
    (h : ∀ (q : Fin 44) (k : Fin R) (l : Fin 256), K q.val (ix2 k ⟨256 * (q.val % 11) + l.val, by omega⟩)
      = G ⟨q.val / 11, by omega⟩ k ⟨256 * (q.val % 11) + l.val, by omega⟩) :
    tot K 3 = fun y => ∑ b, G b (y 0) (y 1) := by
  funext y
  obtain ⟨k, p, rfl⟩ : ∃ (k : Fin R) (p : Fin 2816), y = ix2 k p := ⟨y 0, y 1, eq_ix2 (n0 := R) (n1 := 2816) y⟩
  have key : ∀ b : Fin 4, K (11 * b.val + p.val / 256) (ix2 k p) = G b k p := fun b => by
    have e := h ⟨11 * b.val + p.val / 256, by omega⟩ k ⟨p.val % 256, Nat.mod_lt _ (by decide)⟩
    have e1 : (⟨256 * ((11 * b.val + p.val / 256) % 11) + p.val % 256, by omega⟩ : Fin 2816) = p := Fin.ext (by dsimp only; omega)
    have e2 : (⟨(11 * b.val + p.val / 256) / 11, by omega⟩ : Fin 4) = b := Fin.ext (by dsimp only; omega)
    dsimp only at e
    rwa [e1, e2] at e
  rw [Fin.sum_univ_four]
  refine congrArg₂ HAdd.hAdd (congrArg₂ HAdd.hAdd (congrArg₂ HAdd.hAdd ?_ (key 1)) (key 2)) (key 3)
  exact (congrArg (fun q => K q (ix2 k p)) (by show p.val / 256 = 11 * 0 + p.val / 256; omega)).trans (key 0)

theorem pt_div (q : Fin 44) : bat (pt q.val) = ⟨q.val / 11, by omega⟩ := Fin.ext (by show q.val % 44 / 11 = q.val / 11; omega)
theorem pt_at (q : Fin 44) (l : Fin 256) : at_ (pt q.val) l = ⟨256 * (q.val % 11) + l.val, by omega⟩ :=
  Fin.ext (by show 256 * (q.val % 44 % 11) + l.val = 256 * (q.val % 11) + l.val; omega)

theorem final_dwg : tot (dwgPart m c) 3 = dwg (argX m c) (argW m c) (argB m c) (argD m c) (argZ m c) :=
  tot_eq (R := 3) (dwgPart m c) (fun b k j => dtap (gateT (argX m c) (argW m c) (argB m c) (argD m c) (argZ m c) b j) (seqX (argX m c) b (gl j)) k)
    fun q k l => by
      unfold dwgPart
      rw [dwg_at, gate_eq, blk0, pt_div, pt_at]
theorem final_dwv : tot (dwvPart m c) 3 = dwv (argX m c) (argW m c) (argB m c) (argD m c) (argZ m c) :=
  tot_eq (R := 3) (dwvPart m c) (fun b k j => dtap (valT (argX m c) (argW m c) (argB m c) (argD m c) (argZ m c) b j) (seqX (argX m c) b (vl j)) k)
    fun q k l => by
      unfold dwvPart
      rw [dwv_at, val_eq, blk1, pt_div, pt_at]
theorem final_dbg : tot (dbgPart m c) 3 = dbg (argX m c) (argW m c) (argB m c) (argD m c) (argZ m c) :=
  tot_eq (R := 1) (dbgPart m c) (fun b _ j => ∑ t, gateT (argX m c) (argW m c) (argB m c) (argD m c) (argZ m c) b j t)
    fun q k l => by
      unfold dbgPart
      rw [dbg_at, gate_eq, pt_div, pt_at]
theorem final_dbv : tot (dbvPart m c) 3 = dbv (argX m c) (argW m c) (argB m c) (argD m c) (argZ m c) :=
  tot_eq (R := 1) (dbvPart m c) (fun b _ j => ∑ t, valT (argX m c) (argW m c) (argB m c) (argD m c) (argZ m c) b j t)
    fun q k l => by
      unfold dbvPart
      rw [dbv_at, val_eq, pt_div, pt_at]

end Arrays
end Cert.FfnValue
end
-- ==== Proof.FfnRef.lean ====
/- The gated activation's gradient: what differentiating the reference's forward lines gives, read entry by entry, is what the
   kernel leaves in its six results, where the arguments are real numbers. -/
module

public import proofs.«01_k».proof.Proof.FfnValue
public import proofs.«01_k».proof.Proof.Finite
public import proofs.«01_k».proof.Proof.Gen.FfnReferenceIdeal.Run
public import proofs.«01_k».proof.Proof.Gen.FfnReferenceIdeal.Read
public import Idealize.ShloMosaic.Lib.Pointwise

@[expose] public section

set_option maxRecDepth 16384

noncomputable section

open Idealize.ShloMosaic Idealize.ShloMosaic.TcCoe Idealize.SL.Sem

namespace Cert.FfnRef

open Cert.FfnReferenceIdeal Cert.FfnReferenceIdeal.Read Cert.ConvMath Cert.FfnBlock Cert.FfnValue
open Cert.ScBlock (taps)

/-! ## The gate's gradient over the reals -/

/-- The logistic function of a real number is a real number. -/
theorem sg_real (g : ℝ) : ∃ s : ℝ, sg (g : EReal) = (s : EReal) := by
  refine ⟨1 / (1 + Real.exp (0 - g)), ?_⟩
  unfold sg
  have e : (1 : EReal) + Ideal.exp (0 - (g : EReal)) = ((1 + Real.exp (0 - g) : ℝ) : EReal) := by
    rw [← EReal.coe_zero, ← EReal.coe_sub, Ideal.exp_coe, ← EReal.coe_one, ← EReal.coe_add]
  rw [e, ← EReal.coe_one]
  exact Lift.div_coe_coe 1 (by positivity)

/-- The kernel's form of the gate's cotangent is the chained one. -/
theorem gateD_chain (a g v : ℝ) : gateD (a : EReal) g v
    = (a : EReal) * v * sg g + g * (a * v) * (sg g * (1 - sg g)) := by
  obtain ⟨s, hs⟩ := sg_real g
  unfold gateD
  rw [hs]
  norm_cast
  ring_nf

variable (x : Vec Ideal S4x2048x5632 .f32) (w : Vec Ideal S3x5632 .f32) (β : Vec Ideal S5632 .f32) (wd : Vec Ideal S2816x1024 .f32)
  (z : Vec Ideal S4x2048x1024 .f32) (b : Fin 4) (t : Fin 2048) (p : Fin 5632) (j : Fin 2816)

/-! ## The input's parts and the taps -/

theorem v3 : val_main_v3 x (ix3 b t p) = dn (seqX x b p) 2 t := by
  pointwise [val_main_v3, val_main_v1, val_main_v0, val_main_cst]
  unfold dn
  by_cases h : t.val < 2
  · rw [dif_pos h, dif_neg (by omega)]
  · rw [dif_neg h, dif_pos (by omega)]
    rfl
theorem v12 : val_main_v12 x (ix3 b t p) = dn (seqX x b p) 1 t := by
  pointwise [val_main_v12, val_main_v1, val_main_v0, val_main_cst]
  unfold dn
  by_cases h : t.val < 1
  · rw [dif_pos (by omega), dif_neg (by omega)]
  · rw [dif_neg (by omega), dif_pos (by omega)]
    exact congrArg (seqX x b p) (Fin.ext (by show 1 + t.val - 2 = t.val - 1; omega))
theorem v19 : val_main_v19 x (ix3 b t p) = seqX x b p t := by
  pointwise [val_main_v19, val_main_v1, val_main_v0, val_main_cst]
  rfl
theorem v25 : val_main_v25 x w β (ix3 b t p) = pre x w β b p t := by
  pointwise [val_main_v25, val_main_v18, val_main_v11, val_main_v8, val_main_v17, val_main_v24, val_main_v7, val_main_v6, val_main_v5, val_main_v4,
    val_main_v10, val_main_v9, val_main_v16, val_main_v15, val_main_v14, val_main_v13, val_main_v23, val_main_v22, val_main_v21, val_main_v20]
  rw [v3, v12, v19]
  rfl
theorem v26 : val_main_v26 x w β (ix3 b t j) = pre x w β b (gl j) t := by
  pointwise [val_main_v26]
  exact v25 x w β b t _
theorem v27 : val_main_v27 x w β (ix3 b t j) = pre x w β b (vl j) t := by
  pointwise [val_main_v27]
  exact v25 x w β b t _
theorem v33 : val_main_v33 wd z (ix3 b t j) = act wd z b j t := by
  pointwise [val_main_v33]
  rfl
theorem v28_2 : val_main_v28_2 x w β (ix3 b t j) = sg (pre x w β b (gl j) t) := by
  pointwise [val_main_v28_2, val_main_call0_v4, val_main_call0_v3, val_main_call0_v2, val_main_call0_v1, val_main_call0_v0, val_main_call0_cst, val_main_call0_cst_0]
  rw [v26]
  unfold sg
  rw [zero_sub]
theorem v34 : val_main_v34 x w β wd z (ix3 b t j) = valT x w β wd z b j t := by
  pointwise [val_main_v34, val_main_v28_0]
  rw [v33, v26, v28_2, mul_comm]
  rfl
theorem v35 : val_main_v35 x w β wd z (ix3 b t j) = act wd z b j t * pre x w β b (vl j) t := by
  pointwise [val_main_v35]
  rw [v33, v27]
theorem v36 : val_main_v36 x w β wd z (ix3 b t j) = act wd z b j t * pre x w β b (vl j) t * sg (pre x w β b (gl j) t)
    + pre x w β b (gl j) t * (act wd z b j t * pre x w β b (vl j) t) * (sg (pre x w β b (gl j) t) * (1 - sg (pre x w β b (gl j) t))) := by
  pointwise [val_main_v36, val_main_call1_v1, val_main_call1_v2, val_main_call1_v0, val_main_v28_1, val_main_call0_v7, val_main_call0_v6, val_main_call0_cst_1]
  rw [v35, v26, v28_2]

/-! ## On real arguments the chained form is the kernel's -/

theorem dn_real (f : Fin 2048 → ℝ) (k : ℕ) : ∃ r : ℝ, dn (fun t => (f t : EReal)) k t = r := by
  unfold dn
  split
  · exact ⟨_, rfl⟩
  · exact ⟨0, rfl⟩

variable (X : S4x2048x5632.Idx → ℝ) (W : S3x5632.Idx → ℝ) (B : S5632.Idx → ℝ) (D : S2816x1024.Idx → ℝ) (Z : S4x2048x1024.Idx → ℝ)

theorem pre_real : ∃ r : ℝ, pre (fun i => (X i : EReal)) (fun i => (W i : EReal)) (fun i => (B i : EReal)) b p t = r := by
  obtain ⟨r1, h1⟩ := dn_real t (fun t => X (ix3 b t p)) 1
  obtain ⟨r2, h2⟩ := dn_real t (fun t => X (ix3 b t p)) 2
  refine ⟨r2 * W (ix2 0 p) + B (ix1 p) + r1 * W (ix2 1 p) + X (ix3 b t p) * W (ix2 2 p), ?_⟩
  show dn (fun t => (X (ix3 b t p) : EReal)) 2 t * (W (ix2 0 p) : EReal) + (B (ix1 p) : EReal)
    + dn (fun t => (X (ix3 b t p) : EReal)) 1 t * (W (ix2 1 p) : EReal) + (X (ix3 b t p) : EReal) * (W (ix2 2 p) : EReal) = _
  rw [h1, h2]
  norm_cast

theorem act_real : ∃ r : ℝ, act (fun i => (D i : EReal)) (fun i => (Z i : EReal)) b j t = r := by
  refine ⟨∑ k : Fin 1024, Z (ix3 b t k) * D (ix2 j k), ?_⟩
  rw [← Lift.coe_sum]
  exact Finset.sum_congr rfl fun k _ => (EReal.coe_mul _ _).symm

/-- The arrays of real numbers among the arguments. -/
structure Real5 : Prop where
  hx : ∃ X : S4x2048x5632.Idx → ℝ, x = fun i => (X i : EReal)
  hw : ∃ W : S3x5632.Idx → ℝ, w = fun i => (W i : EReal)
  hb : ∃ B : S5632.Idx → ℝ, β = fun i => (B i : EReal)
  hd : ∃ D : S2816x1024.Idx → ℝ, wd = fun i => (D i : EReal)
  hz : ∃ Z : S4x2048x1024.Idx → ℝ, z = fun i => (Z i : EReal)

variable (hr : Real5 x w β wd z)
include hr

theorem v36' : val_main_v36 x w β wd z (ix3 b t j) = gateT x w β wd z b j t := by
  rw [v36]
  obtain ⟨⟨X, rfl⟩, ⟨W, rfl⟩, ⟨B, rfl⟩, ⟨D, rfl⟩, ⟨Z, rfl⟩⟩ := hr
  unfold gateT
  obtain ⟨g, hg⟩ := pre_real b t (gl j) X W B
  obtain ⟨v, hv⟩ := pre_real b t (vl j) X W B
  obtain ⟨a, ha⟩ := act_real b t j D Z
  rw [hg, hv, ha]
  exact (gateD_chain a g v).symm

omit hr in
/-- The cotangent of the convolution's output, gate's and value's lanes side by side. -/
def cot : Sq := fun t => if h : p.val < 2816 then gateT x w β wd z b ⟨p.val, h⟩ t else valT x w β wd z b ⟨p.val - 2816, by omega⟩ t

omit hr in
theorem cot_gl : cot x w β wd z b (gl j) = gateT x w β wd z b j := by
  funext t
  unfold cot
  exact dif_pos j.isLt
omit hr in
theorem cot_vl : cot x w β wd z b (vl j) = valT x w β wd z b j := by
  funext t
  unfold cot
  rw [dif_neg (by show ¬ 2816 + j.val < 2816; omega)]
  exact congrArg (fun j => valT x w β wd z b j t) (Fin.ext (by show 2816 + j.val - 2816 = j.val; omega))

theorem v37 : val_main_v37 x w β wd z (ix3 b t p) = cot x w β wd z b p t := by
  pointwise [val_main_v37]
  unfold cot
  by_cases h : p.val < 2816
  · rw [dif_pos h, dif_pos h]
    exact v36' x w β wd z b t ⟨p.val, h⟩ hr
  · rw [dif_neg h, dif_neg h]
    exact v34 x w β wd z b t ⟨p.val - 2816, by omega⟩

/-! ## The gradient of the convolution's input -/

theorem v46 : val_main_v46 x w β wd z (ix3 b ⟨2 + t.val, by omega⟩ p) = cot x w β wd z b p t * w (ix2 2 p) := by
  pointwise [val_main_v46, val_main_v42, val_main_v41, val_main_v22, val_main_v21, val_main_v20]
  rw [v37 x w β wd z _ _ _ hr]
theorem v56 : val_main_v56 x w β wd z (ix3 b ⟨2 + t.val, by omega⟩ p) = up (cot x w β wd z b p) 1 t * w (ix2 1 p) := by
  pointwise [val_main_v56, val_main_v51, val_main_v50, val_main_v15, val_main_v14, val_main_v13, val_main_cst_8]
  unfold up
  by_cases h : t.val + 1 < 2048
  · rw [dif_pos ⟨by omega, by omega⟩, dif_pos h, v37 x w β wd z _ _ _ hr]
    exact congrArg (fun s => cot x w β wd z b p s * _) (Fin.ext (by show 2 + t.val - 1 = t.val + 1; omega))
  · rw [dif_neg (by omega), dif_neg h, zero_mul]
theorem v70 : val_main_v70 x w β wd z (ix3 b ⟨2 + t.val, by omega⟩ p) = up (cot x w β wd z b p) 2 t * w (ix2 0 p) := by
  pointwise [val_main_v70, val_main_v65, val_main_v64, val_main_v6, val_main_v5, val_main_v4, val_main_cst_14]
  unfold up
  by_cases h : t.val + 2 < 2048
  · rw [dif_pos (by omega), dif_pos h, v37 x w β wd z _ _ _ hr]
    exact congrArg (fun s => cot x w β wd z b p s * _) (Fin.ext (by show 2 + t.val = t.val + 2; omega))
  · rw [dif_neg (by omega), dif_neg h, zero_mul]
theorem v73 : val_main_v73 x w β wd z (ix3 b t p) = dconv (cot x w β wd z b p) (taps w p) t := by
  pointwise [val_main_v73, val_main_v71, val_main_v57]
  rw [v46 x w β wd z _ _ _ hr, v56 x w β wd z _ _ _ hr, v70 x w β wd z _ _ _ hr, dconv]
  show _ = up (cot x w β wd z b p) 2 t * w (ix2 0 p) + up (cot x w β wd z b p) 1 t * w (ix2 1 p) + cot x w β wd z b p t * w (ix2 2 p)
  rw [add_comm (cot x w β wd z b p t * _), add_comm, add_assoc]

/-- The gradient of the gate's half of the input. -/
theorem ref_dhg : val_main_v76 x w β wd z = dhg x w β wd z := by
  funext i
  obtain ⟨b, t, j, rfl⟩ : ∃ (b : Fin 4) (t : Fin 2048) (j : Fin 2816), i = ix3 b t j := ⟨i 0, i 1, i 2, eq_ix3 i⟩
  pointwise [val_main_v76, val_main_v74]
  refine (v73 x w β wd z b t (gl j) hr).trans ?_
  rw [cot_gl]
  rfl
/-- The gradient of the value's half of the input. -/
theorem ref_dhv : val_main_v77 x w β wd z = dhv x w β wd z := by
  funext i
  obtain ⟨b, t, j, rfl⟩ : ∃ (b : Fin 4) (t : Fin 2048) (j : Fin 2816), i = ix3 b t j := ⟨i 0, i 1, i 2, eq_ix3 i⟩
  pointwise [val_main_v77, val_main_v75]
  refine (v73 x w β wd z b t (vl j) hr).trans ?_
  rw [cot_vl]
  rfl

/-! ## The gradients of the taps and of the bias -/

omit hr in
theorem fiber (h : S4x2048x5632.ReducesTo [0, 1] S5632) (i : S4x2048x5632.Idx) :
    h.drop i = ix1 p ↔ ∃ k : Fin 4 × Fin 2048, ix3 k.1 k.2 p = i := by
  constructor
  · intro e
    refine ⟨(i 0, i 1), (funext fun a => Fin.ext ?_)⟩
    match a with
    | ⟨0, _⟩ => rfl
    | ⟨1, _⟩ => rfl
    | ⟨2, _⟩ => exact (congrArg Fin.val (congrFun e 0)).symm
  · rintro ⟨k, rfl⟩
    funext a
    obtain rfl : a = 0 := Subsingleton.elim _ _
    rfl
omit hr in
/-- A sum over the batches and the times. -/
theorem sum_all (h : S4x2048x5632.ReducesTo [0, 1] S5632) (v : S4x2048x5632.Idx → EReal) (z : EReal) :
    Ideal.hostReduceAdd h v z (ix1 p) = z + ∑ b : Fin 4, ∑ t : Fin 2048, v (ix3 b t p) := by
  refine congrArg (z + ·) ((Finset.sum_filter_eq_sum_of_fiber _ (fun k : Fin 4 × Fin 2048 => ix3 k.1 k.2 p)
    (fun _ _ e => Prod.ext (congrFun e 0) (congrFun e 1)) (fiber p h) v).trans ?_)
  rw [Fintype.sum_prod_type]
omit hr in
theorem fiber1 (h : S1x1x5632.ReducesTo [0, 1] S5632) (i : S1x1x5632.Idx) :
    h.drop i = ix1 p ↔ ∃ k : Unit, ix3 0 0 p = i := by
  constructor
  · intro e
    refine ⟨(), (funext fun a => Fin.ext ?_)⟩
    match a with
    | ⟨0, _⟩ => exact congrArg Fin.val (Subsingleton.elim (0 : Fin 1) (i 0))
    | ⟨1, _⟩ => exact congrArg Fin.val (Subsingleton.elim (0 : Fin 1) (i 1))
    | ⟨2, _⟩ => exact (congrArg Fin.val (congrFun e 0)).symm
  · rintro ⟨k, rfl⟩
    funext a
    obtain rfl : a = 0 := Subsingleton.elim _ _
    rfl
omit hr in
theorem sum_one (h : S1x1x5632.ReducesTo [0, 1] S5632) (v : S1x1x5632.Idx → EReal) (z : EReal) :
    Ideal.hostReduceAdd h v z (ix1 p) = z + v (ix3 0 0 p) := by
  refine congrArg (z + ·) ((Finset.sum_filter_eq_sum_of_fiber _ (fun _ : Unit => ix3 0 0 p)
    (fun _ _ e => rfl) (fiber1 p h) v).trans ?_)
  exact Fintype.sum_unique _

theorem v44 : val_main_v44 x w β wd z (ix2 0 p) = ∑ b, dtap (cot x w β wd z b p) (seqX x b p) 2 := by
  pointwise [val_main_v44, val_main_v43, val_main_v40, val_main_v39, val_main_v38, sum_all, sum_one, val_main_cst_1, val_main_cst_2]
  simp only [dtap_eq, v19, v37 x w β wd z _ _ _ hr]
  rfl
theorem v53 : val_main_v53 x w β wd z (ix2 0 p) = ∑ b, dtap (cot x w β wd z b p) (seqX x b p) 1 := by
  pointwise [val_main_v53, val_main_v52, val_main_v49, val_main_v48, val_main_v47, sum_all, sum_one, val_main_cst_5, val_main_cst_6]
  simp only [dtap_eq, v12, v37 x w β wd z _ _ _ hr]
  rfl
theorem v67 : val_main_v67 x w β wd z (ix2 0 p) = ∑ b, dtap (cot x w β wd z b p) (seqX x b p) 0 := by
  pointwise [val_main_v67, val_main_v66, val_main_v63, val_main_v62, val_main_v61, sum_all, sum_one, val_main_cst_11, val_main_cst_12]
  simp only [dtap_eq, v3, v37 x w β wd z _ _ _ hr]
  rfl

theorem v69 (k : Fin 3) : val_main_v69 x w β wd z (ix2 k p) = ∑ b, dtap (cot x w β wd z b p) (seqX x b p) k := by
  pointwise [val_main_v69, val_main_v55, val_main_v45, val_main_v54, val_main_v68, val_main_cst_3, val_main_cst_7, val_main_cst_13]
  fin_cases k
  · rw [dif_neg (by decide), dif_neg (by decide), dif_pos (by decide), zero_add, zero_add]
    exact v67 x w β wd z p hr
  · rw [dif_neg (by decide), dif_pos (by decide), dif_neg (by decide), zero_add, add_zero]
    exact v53 x w β wd z p hr
  · rw [dif_pos (by decide), dif_neg (by decide), dif_neg (by decide), add_zero, add_zero]
    exact v44 x w β wd z p hr

/-- The gradient of the gate's taps. -/
theorem ref_dwg : val_main_v78 x w β wd z = dwg x w β wd z := by
  funext i
  obtain ⟨k, j, rfl⟩ : ∃ (k : Fin 3) (j : Fin 2816), i = ix2 k j := ⟨i 0, i 1, eq_ix2 i⟩
  pointwise [val_main_v78]
  refine (v69 x w β wd z (gl j) hr k).trans ?_
  simp only [cot_gl]
  rfl
/-- The gradient of the value's taps. -/
theorem ref_dwv : val_main_v79 x w β wd z = dwv x w β wd z := by
  funext i
  obtain ⟨k, j, rfl⟩ : ∃ (k : Fin 3) (j : Fin 2816), i = ix2 k j := ⟨i 0, i 1, eq_ix2 i⟩
  pointwise [val_main_v79]
  refine (v69 x w β wd z (vl j) hr k).trans ?_
  simp only [cot_vl]
  rfl

theorem v80 (a : Fin 1) : val_main_v80 x w β wd z (ix2 a p) = ∑ b, ∑ t, cot x w β wd z b p t := by
  pointwise [val_main_v80, val_main_v60, val_main_v59, val_main_v58, sum_all, sum_one, val_main_cst_9, val_main_cst_10]
  simp only [v37 x w β wd z _ _ _ hr]

/-- The gradient of the gate's bias. -/
theorem ref_dbg : val_main_v81 x w β wd z = dbg x w β wd z := by
  funext i
  obtain ⟨a, j, rfl⟩ : ∃ (a : Fin 1) (j : Fin 2816), i = ix2 a j := ⟨i 0, i 1, eq_ix2 i⟩
  pointwise [val_main_v81]
  refine (v80 x w β wd z (gl j) hr _).trans ?_
  simp only [cot_gl]
  rfl
/-- The gradient of the value's bias. -/
theorem ref_dbv : val_main_v82 x w β wd z = dbv x w β wd z := by
  funext i
  obtain ⟨a, j, rfl⟩ : ∃ (a : Fin 1) (j : Fin 2816), i = ix2 a j := ⟨i 0, i 1, eq_ix2 i⟩
  pointwise [val_main_v82]
  refine (v80 x w β wd z (vl j) hr _).trans ?_
  simp only [cot_vl]
  rfl

end Cert.FfnRef
end
-- ==== Proof.FfnClaim.lean ====
/- The claims of the gated activation's gradient: the frames of its programs, and that kernel and reference agree at real arguments. -/
module

public import proofs.«01_k».proof.Defs
public import proofs.«01_k».proof.Proof.FfnRef
public import proofs.«01_k».proof.Proof.Gen.FfnKernel
public import proofs.«01_k».proof.Proof.Gen.Pre_finite_ffn
public import Idealize.ShloMosaic.Lib.Quiescent
import Idealize.ShloMosaic.Lib.Tactic.ProgEq

@[expose] public section

set_option maxRecDepth 16384

noncomputable section

open Idealize.ShloMosaic Idealize.ShloMosaic.TcCoe Idealize.SL.Sem
open Idealize.ShloMosaic.Pipeline (Dat)

namespace Cert.FfnClaim

open Cert.FfnKernelIdeal Cert.FfnKernelIdeal.Gen Cert.FfnFrame Cert.FfnValue

section Frames

attribute [local instance] Cert.FfnKernel.Gen.facts

/-- The kernel's frame on machine words: the run does not depend on the floats. -/
theorem frame_kernel (m : (ℓ : Loc Cert.FfnKernel.nD Cert.FfnKernel.τ Cert.FfnKernel.sig) → Buf (Elt Bits) ℓ) (g : Dev Cert.FfnKernel.nD → PrngReg) :
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0) :=
  cast (by sl_kernel_rfl) (Cert.FfnFrame.frame (F := Bits) m g)

/-- The reference's frame. -/
theorem frame_reference (m : (ℓ : Loc Cert.FfnReferenceIdeal.nD Cert.FfnReferenceIdeal.τ Cert.FfnReferenceIdeal.sig) → Buf (Elt Ideal) ℓ)
    (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0) :=
  (θ_run _ _ _).mono (fun _ h => ⟨fun c => (h c).2.2.2.2.2.2, sem_eq_zero_of_no_sems (by decide) _⟩) (Cert.FfnReferenceIdeal.Value.run m g)

end Frames

/-- The precondition makes the five arguments arrays of real numbers. -/
theorem reals (x : Vec Ideal S4x2048x5632 .f32) (w : Vec Ideal S3x5632 .f32) (β : Vec Ideal S5632 .f32) (wd : Vec Ideal S2816x1024 .f32)
    (z : Vec Ideal S4x2048x1024 .f32) (h : Cert.Pre_finite_ffn.fn (F := Ideal) x w β wd z = fun _ => 1#1) : Cert.FfnRef.Real5 x w β wd z := by
  have h0 := congrFun h (fun a => a.elim0)
  unfold Cert.Pre_finite_ffn.fn at h0
  obtain ⟨h1, hz⟩ := Finite.both h0
  obtain ⟨h2, hd⟩ := Finite.both h1
  obtain ⟨h3, hb⟩ := Finite.both h2
  obtain ⟨hx, hw⟩ := Finite.both h3
  exact ⟨Finite.reals _ _ hx, Finite.reals _ _ hw, Finite.reals _ _ hb, Finite.reals _ _ hd, Finite.reals _ _ hz⟩

/-- The kernel's six results are the reference's. -/
theorem algebraic : algebraic_FfnKernelIdeal_FfnReferenceIdeal_pre_finite_ffn := by
  pair_intro
  · run_from Cert.FfnFrame.run m g
  · run_from Cert.FfnReferenceIdeal.Value.run m' g'
    · rw [Cert.FfnReferenceIdeal.Read.val_main_v76_eq, (hagree c).1, (hagree c).2.1, (hagree c).2.2.1, (hagree c).2.2.2.1, (hagree c).2.2.2.2, final_dhg]
      exact Cert.FfnRef.ref_dhg _ _ _ _ _ (reals _ _ _ _ _ (hpre c))
    · rw [Cert.FfnReferenceIdeal.Read.val_main_v77_eq, (hagree c).1, (hagree c).2.1, (hagree c).2.2.1, (hagree c).2.2.2.1, (hagree c).2.2.2.2, final_dhv]
      exact Cert.FfnRef.ref_dhv _ _ _ _ _ (reals _ _ _ _ _ (hpre c))
    · rw [Cert.FfnReferenceIdeal.Read.val_main_v78_eq, (hagree c).1, (hagree c).2.1, (hagree c).2.2.1, (hagree c).2.2.2.1, (hagree c).2.2.2.2, final_dwg]
      exact Cert.FfnRef.ref_dwg _ _ _ _ _ (reals _ _ _ _ _ (hpre c))
    · rw [Cert.FfnReferenceIdeal.Read.val_main_v79_eq, (hagree c).1, (hagree c).2.1, (hagree c).2.2.1, (hagree c).2.2.2.1, (hagree c).2.2.2.2, final_dwv]
      exact Cert.FfnRef.ref_dwv _ _ _ _ _ (reals _ _ _ _ _ (hpre c))
    · rw [Cert.FfnReferenceIdeal.Read.val_main_v81_eq, (hagree c).1, (hagree c).2.1, (hagree c).2.2.1, (hagree c).2.2.2.1, (hagree c).2.2.2.2, final_dbg]
      exact Cert.FfnRef.ref_dbg _ _ _ _ _ (reals _ _ _ _ _ (hpre c))
    · rw [Cert.FfnReferenceIdeal.Read.val_main_v82_eq, (hagree c).1, (hagree c).2.1, (hagree c).2.2.1, (hagree c).2.2.2.1, (hagree c).2.2.2.2, final_dbv]
      exact Cert.FfnRef.ref_dbv _ _ _ _ _ (reals _ _ _ _ _ (hpre c))

end Cert.FfnClaim

end
-- ==== Proof.UpValue.lean ====
/- The norm's gradient fused with a product, the up projection (two parts of 2816 lanes): what the kernel leaves is the layer norm's gradient of the
   cotangent that the product and the residual make; on real arguments it is what the chain rule gives. -/
module

public import proofs.«01_k».proof.Defs
public import proofs.«01_k».proof.Proof.LnValue
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.Pre_finite_up
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.UpValue

open Cert.UpKernelIdeal Cert.UpKernelIdeal.Gen Cert.NormMath
open Cert.LnValue (dz dg db zRow dxRow α)

/-- The two halves of the lanes. -/
def lo (j : Fin 2816) : Fin 5632 := ⟨j.val, by omega⟩
def hi (j : Fin 2816) : Fin 5632 := ⟨2816 + j.val, by omega⟩

/-- The cotangent of the norm's result: the residual's and that of the product, one half of the lanes after the other. -/
def dx (w : Vec Ideal S1024x5632 .f32) (h : Vec Ideal S8192x5632 .f32) (r : Vec Ideal S8192x1024 .f32) : S8192x1024.Idx → EReal := fun i =>
  α * r i + ∑ k : Fin 2816, h (ix2 (i 0) (lo k)) * w (ix2 (i 1) (lo k)) + ∑ k : Fin 2816, h (ix2 (i 0) (hi k)) * w (ix2 (i 1) (hi k))

/-! ## The kernel -/

theorem pay_dz (x : FVec Ideal S512x1024 .f32) (z : Vec Ideal S512x1024 .f32) (g : Vec Ideal S1x1024 .f32) (r : Fin 512) (k : Fin 1024) :
    k0_pay9 (F := Ideal) x (k0_pay4 g) (k0_pay5 z) (k0_pay6 z) (ix2 r k) = closed (fun k => z (ix2 r k)) (fun k => x (ix2 r k) * g (ix2 0 k)) k := by
  pointwise [k0_pay9, k0_pay8, k0_pay7, k0_pay6, k0_pay5, k0_pay4]
  rfl
/-- The second result is the first at the narrower float type: over the reals the same. -/
theorem pay_dz16 (x : FVec Ideal S512x1024 .f32) (g : FVec Ideal S1x1024 .f32) (z : FVec Ideal S512x1024 .f32) (v : FVec Ideal S512x1 .f32) :
    k0_pay10 (F := Ideal) x g z v = k0_pay9 x g z v := by
  funext j
  pointwise [k0_pay10]
theorem pay_dg (x : FVec Ideal S512x1024 .f32) (z : Vec Ideal S512x1024 .f32) (g : Vec Ideal S1x1024 .f32) (a : Fin 1) (k : Fin 1024) :
    k0_pay11 (F := Ideal) x (k0_pay5 z) (k0_pay6 z) g (ix2 a k) = g (ix2 a k) + ∑ r : Fin 512, x (ix2 r k) * xhat (fun k => z (ix2 r k)) k := by
  pointwise [k0_pay11, k0_pay8, k0_pay7, k0_pay6, k0_pay5]
  rfl
theorem pay_db (x : FVec Ideal S512x1024 .f32) (g : Vec Ideal S1x1024 .f32) (a : Fin 1) (k : Fin 1024) :
    k0_pay12 (F := Ideal) x g (ix2 a k) = g (ix2 a k) + ∑ r : Fin 512, x (ix2 r k) := by
  pointwise [k0_pay12]
theorem pay_zero (a : Fin 1) (k : Fin 1024) : k0_pay1 (F := Ideal) (ix2 a k) = 0 := by pointwise [k0_pay1]
theorem pay_zero' (a : Fin 1) (k : Fin 1024) : k0_pay2 (F := Ideal) (ix2 a k) = 0 := by pointwise [k0_pay2]
theorem pay_dx (d : Vec Ideal S512x1024 .f32) (h h' : Vec Ideal S512x2816 .bf16) (w w' : Vec Ideal S2816x1024 .bf16) (r : Fin 512) (k : Fin 1024) :
    k0_pay3 (F := Ideal) d h w h' w' (ix2 r k) = α * d (ix2 r k) + ∑ l : Fin 2816, h (ix2 r l) * w (ix2 l k) + ∑ l : Fin 2816, h' (ix2 r l) * w' (ix2 l k) := by
  pointwise [k0_pay3]

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0] ∧ win0_7.index t = ![t.val, 0] := by
  decide +kernel

/-- The kernel's arguments. -/
abbrev argZ : Vec Ideal S8192x1024 .f32 := m (c.tc.loc main_arg0)
abbrev argG : Vec Ideal S1024 .f32 := m (c.tc.loc main_arg1)
abbrev argW : Vec Ideal S1024x5632 .f32 := m (c.tc.loc main_arg3)
abbrev argH : Vec Ideal S8192x5632 .f32 := m (c.tc.loc main_arg4)
abbrev argR : Vec Ideal S8192x1024 .f32 := m (c.tc.loc main_arg5)
/-- The cotangent of the norm's result at the kernel's arguments. -/
abbrev argD : S8192x1024.Idx → EReal := dx (argW m c) (argH m c) (argR m c)

theorem lt_rows (t : Fin cfg0.N) (r : Fin 512) : t.val * 512 + r.val < 8192 := by
  have := t.isLt; have h : cfg0.N = 16 := N_0; omega
/-- A row of the whole array, in the block of grid point `t`. -/
abbrev row (t : Fin cfg0.N) (r : Fin 512) : Fin 8192 := ⟨t.val * 512 + r.val, lt_rows t r⟩

/-! What the input windows' blocks hold. -/

theorem blk_r (t : Fin cfg0.N) (r : Fin 512) (k : Fin 1024) : iblk m c 3 t (ix2 r k) = argR m c (ix2 (row t r) k) := by
  blk_ext [iblk, V, idx t]
theorem blk_z (t : Fin cfg0.N) (r : Fin 512) (k : Fin 1024) : iblk m c 4 t (ix2 r k) = argZ m c (ix2 (row t r) k) := by
  blk_ext [iblk, V, idx t]
theorem blk_g (t : Fin cfg0.N) (k : Fin 1024) : iblk m c 5 t (ix2 0 k) = argG m c (ix1 k) := by
  unfold iblk
  rw [View.read_apply]
  show V m c main_v6 _ = _
  entry_read
  pointwise
  blk_ext [idx t]
theorem blk_h0 (t : Fin cfg0.N) (r : Fin 512) (l : Fin 2816) : iblk m c 0 t (ix2 r l) = argH m c (ix2 (row t r) (lo l)) := by
  unfold iblk
  rw [View.read_apply]
  show V m c main_v2 _ = _
  entry_read
  pointwise
  blk_ext [idx t]
  rfl
theorem blk_h1 (t : Fin cfg0.N) (r : Fin 512) (l : Fin 2816) : iblk m c 1 t (ix2 r l) = argH m c (ix2 (row t r) (hi l)) := by
  unfold iblk
  rw [View.read_apply]
  show V m c main_v3 _ = _
  entry_read
  pointwise
  blk_ext [idx t]
  rfl
theorem blk_w (t : Fin cfg0.N) (l : Fin 5632) (k : Fin 1024) : iblk m c 2 t (ix2 l k) = argW m c (ix2 k l) := by
  unfold iblk
  rw [View.read_apply]
  show V m c main_v5 _ = _
  entry_read
  pointwise
  blk_ext [idx t]

/-- The rows of the weight's block that a half of the lanes meets. -/
def half (w : Vec Ideal S5632x1024 .bf16) (e : Fin 2816 → Fin 5632) : Vec Ideal S2816x1024 .bf16 := fun i => w (ix2 (e (i 0)) (i 1))
theorem ld_lo (w : Vec Ideal S5632x1024 .bf16) : View.ld w (Rect.unit ![0, 0] ![2816, 1024] inb_S5632x1024_S2816x1024_0_0) = half w lo := by
  funext i
  idx_vars i
  show w _ = w _
  blk_ext
  · rw [Rect.idx_unit_val]
    exact Nat.zero_add _
  · rw [Rect.idx_unit_val]
    exact Nat.zero_add _
theorem ld_hi (w : Vec Ideal S5632x1024 .bf16) : View.ld w (Rect.unit ![2816, 0] ![2816, 1024] inb_S5632x1024_S2816x1024_2816_0) = half w hi := by
  funext i
  idx_vars i
  show w _ = w _
  blk_ext
  · rw [Rect.idx_unit_val]
    rfl
  · rw [Rect.idx_unit_val]
    exact Nat.zero_add _

/-! ## One point -/

theorem point_dx (t : Fin cfg0.N) (r : Fin 512) (k : Fin 1024) : k0_pay3 (iblk m c 3 t) (iblk m c 0 t) (half (iblk m c 2 t) lo) (iblk m c 1 t) (half (iblk m c 2 t) hi) (ix2 r k) = argD m c (ix2 (row t r) k) := by
  rw [pay_dx]
  simp only [half, blk_r, blk_h0, blk_h1]
  exact congrArg₂ (· + ·) (congrArg (_ + ·) (Finset.sum_congr rfl fun l _ => congrArg (_ * ·) (blk_w m c t (lo l) k))) (Finset.sum_congr rfl fun l _ => congrArg (_ * ·) (blk_w m c t (hi l) k))
theorem point_dz (t : Fin cfg0.N) (r : Fin 512) (k : Fin 1024) : k0_pay9 (k0_pay3 (iblk m c 3 t) (iblk m c 0 t) (half (iblk m c 2 t) lo) (iblk m c 1 t) (half (iblk m c 2 t) hi)) (k0_pay4 (iblk m c 5 t)) (k0_pay5 (iblk m c 4 t)) (k0_pay6 (iblk m c 4 t)) (ix2 r k)
    = dz (argZ m c) (argG m c) (argD m c) (ix2 (row t r) k) := by
  rw [pay_dz]
  simp only [point_dx, blk_z, blk_g]
  rfl

/-! ## The results -/

theorem emb_dz (t : Fin cfg0.N) (r : Fin 512) (k : Fin 1024) :
    ((View.whole main_v7_0).slice (win0_6.rect t)).emb (ix2 r k) = ix2 (row t r) k := by
  blk_ext [idx t]
theorem emb_dz16 (t : Fin cfg0.N) (r : Fin 512) (k : Fin 1024) :
    ((View.whole main_v7_1).slice (win0_7.rect t)).emb (ix2 r k) = ix2 (row t r) k := by
  blk_ext [idx t]

theorem final_dz : (dats m 0 c).arrAt 6 cfg0.N = dz (argZ m c) (argG m c) (argD m c) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  rw [emb_dz, ← point_dz m c]
  by_cases h : t.val % 16 = 0
  · rw [outsAt0_A m c t h]
    frame_out
    rw [ld_lo, ld_hi]
  · rw [outsAt0_B m c t h]
    frame_out
    rw [ld_lo, ld_hi]

theorem final_dz16 : (dats m 0 c).arrAt 7 cfg0.N = dz (argZ m c) (argG m c) (argD m c) := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, eq_ix2 y⟩
  rw [emb_dz16, ← point_dz m c]
  by_cases h : t.val % 16 = 0
  · rw [outsAt0_A m c t h]
    frame_out
    rw [ld_lo, ld_hi]
    exact congrFun (pay_dz16 _ _ _ _) _
  · rw [outsAt0_B m c t h]
    frame_out
    rw [ld_lo, ld_hi]
    exact congrFun (pay_dz16 _ _ _ _) _

theorem final_dg : (dats m 0 c).arrAt 8 cfg0.N = dg (argZ m c) (argD m c) := by
  refine (dats m 0 c).arrAt_eq_of_after_last 8 t0_15 (by decide +kernel) _ fun y => ?_
  blk_simp
  rw [after0_8]
  rw [Pipeline.eq_sum_fin_of_reset_step_apply_last (fun n h => (outsAt0 m c n h).2.2.1) 16 (fun _ => (0 : EReal))
    (fun t j => ∑ r : Fin 512, argD m c (ix2 (row t r) (j 1)) * xhat (zRow (argZ m c) (row t r)) (j 1)) ?_ ?_ N_0.le t0_15 rfl _]
  · rw [zero_add]
    exact Lift.sum_blocks (by rw [show cfg0.N = 16 from N_0]) (fun i => argD m c (ix2 i (y 1)) * xhat (zRow (argZ m c) i) (y 1)) (fun t r => lt_rows t r)
  · intro t h j
    rw [outsAt0_A m c t h]
    frame_out
    idx_vars j
    rw [ld_lo, ld_hi]
    rw [pay_dg, pay_zero]
    simp only [point_dx, blk_z]
  · intro t h j
    rw [outsAt0_B m c t h]
    frame_out
    idx_vars j
    rw [ld_lo, ld_hi]
    rw [pay_dg]
    simp only [point_dx, blk_z]

theorem final_db : (dats m 0 c).arrAt 9 cfg0.N = db (argD m c) := by
  refine (dats m 0 c).arrAt_eq_of_after_last 9 t0_15 (by decide +kernel) _ fun y => ?_
  blk_simp
  rw [after0_9]
  rw [Pipeline.eq_sum_fin_of_reset_step_apply_last (fun n h => (outsAt0 m c n h).2.2.2) 16 (fun _ => (0 : EReal))
    (fun t j => ∑ r : Fin 512, argD m c (ix2 (row t r) (j 1))) ?_ ?_ N_0.le t0_15 rfl _]
  · rw [zero_add]
    exact Lift.sum_blocks (by rw [show cfg0.N = 16 from N_0]) (fun i => argD m c (ix2 i (y 1))) (fun t r => lt_rows t r)
  · intro t h j
    rw [outsAt0_A m c t h]
    frame_out
    idx_vars j
    rw [ld_lo, ld_hi]
    rw [pay_db, pay_zero']
    simp only [point_dx]
  · intro t h j
    rw [outsAt0_B m c t h]
    frame_out
    idx_vars j
    rw [ld_lo, ld_hi]
    rw [pay_db]
    simp only [point_dx]

/-! ## The reference -/

section Reference

open Cert.UpReferenceIdeal.Read

variable (z : Vec Ideal S8192x1024 .f32) (g b : Vec Ideal S1024 .f32) (w : Vec Ideal S1024x5632 .f32) (h : Vec Ideal S8192x5632 .f32) (r : Vec Ideal S8192x1024 .f32)

/-- The cotangent of the norm's result, as the reference makes it. -/
theorem ref_dx : val_main_v37 (F := Ideal) w h r = dx w h r := by
  funext i
  idx_vars i
  pointwise [val_main_v37, val_main_v36, val_main_v35, val_main_v34, val_main_cst_7]
  rw [add_comm]
  exact (congrArg (_ + ·) (Fin.sum_univ_add (a := 2816) (b := 2816) fun l => h (ix2 i0 l) * w (ix2 i1 l))).trans (add_assoc _ _ _).symm

/-- From there on the reference is the layer norm's gradient. -/
theorem ref_scaled : val_main_v45 (F := Ideal) g w h r = Cert.LnReferenceIdeal.Read.val_main_v37 g (val_main_v37 (F := Ideal) w h r) := by
  rw [Cert.LnReferenceIdeal.Read.val_main_v37, Cert.LnValue.ref_flat]
  rfl
theorem ref_dz : val_main_v70 (F := Ideal) z g w h r = Cert.LnReferenceIdeal.Read.val_main_v62 z g (dx w h r) := by
  have e := ref_scaled g w h r
  rw [ref_dx] at e
  simp only [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, e]
  rfl
theorem ref_dz16 : val_main_v71 (F := Ideal) z g w h r = val_main_v70 (F := Ideal) z g w h r := by
  funext i
  pointwise [val_main_v71]
theorem ref_dg : val_main_v72 (F := Ideal) z w h r = dg z (dx w h r) := by
  rw [← ref_dx]
  refine Eq.trans ?_ (funext fun i => (congrArg _ (eq_ix2 i)).trans ((Cert.LnValue.ref_dg z _ (i 0) (i 1)).trans (congrArg _ (eq_ix2 i).symm)))
  simp only [Cert.LnReferenceIdeal.Read.val_main_v64, Cert.LnReferenceIdeal.Read.val_main_v38, Cert.LnReferenceIdeal.Read.val_main_v35,
    Cert.LnReferenceIdeal.Read.val_main_v34, Cert.LnReferenceIdeal.Read.val_main_v33, Cert.LnValue.ref_flat]
  rfl
theorem ref_db : val_main_v73 (F := Ideal) w h r = db (dx w h r) := by
  rw [← ref_dx]
  refine Eq.trans ?_ (funext fun i => (congrArg _ (eq_ix2 i)).trans ((Cert.LnValue.ref_db _ (i 0) (i 1)).trans (congrArg _ (eq_ix2 i).symm)))
  rfl

end Reference

/-! ## The claims -/

/-- On real numbers the cotangent is an array of reals. -/
theorem dx_real (qw : S1024x5632.Idx → ℝ) (rh : S8192x5632.Idx → ℝ) (rr : S8192x1024.Idx → ℝ) :
    ∃ rd : S8192x1024.Idx → ℝ, dx (fun i => (qw i : EReal)) (fun i => (rh i : EReal)) (fun i => (rr i : EReal)) = fun i => (rd i : EReal) := by
  obtain ⟨a, ha⟩ := Cert.LnValue.α_real
  refine ⟨fun i => a * rr i + ∑ k : Fin 2816, rh (ix2 (i 0) (lo k)) * qw (ix2 (i 1) (lo k)) + ∑ k : Fin 2816, rh (ix2 (i 0) (hi k)) * qw (ix2 (i 1) (hi k)), funext fun i => ?_⟩
  unfold dx
  rw [ha]
  push_cast [← Lift.coe_sum]
  rfl

/-- The precondition makes the arguments that matter arrays of real numbers, and there the closed form is the chain rule's. -/
theorem dz_eq (z : Vec Ideal S8192x1024 .f32) (g b : Vec Ideal S1024 .f32) (w : Vec Ideal S1024x5632 .f32) (h : Vec Ideal S8192x5632 .f32) (r : Vec Ideal S8192x1024 .f32)
    (hp : Cert.Pre_finite_up.fn (F := Ideal) z g b w h r = fun _ => 1#1) : Cert.UpReferenceIdeal.Read.val_main_v70 (F := Ideal) z g w h r = dz z g (dx w h r) := by
  have h0 := congrFun hp (fun a => a.elim0)
  unfold Cert.Pre_finite_up.fn Cert.Pre_finite_up.fn_part1 at h0
  obtain ⟨h1, hr⟩ := Finite.both h0
  obtain ⟨h2, hh⟩ := Finite.both h1
  obtain ⟨h3, hw⟩ := Finite.both h2
  obtain ⟨hz, hg⟩ := Finite.both h3
  obtain ⟨rz, rfl⟩ := Finite.reals _ _ hz
  obtain ⟨rg, rfl⟩ := Finite.reals _ _ hg
  obtain ⟨qw, rfl⟩ := Finite.reals _ _ hw
  obtain ⟨rh, rfl⟩ := Finite.reals _ _ hh
  obtain ⟨rr, rfl⟩ := Finite.reals _ _ hr
  obtain ⟨rd, e⟩ := dx_real qw rh rr
  rw [ref_dz, e]
  exact Cert.LnValue.dz_real rz rg rd

/-- The reference runs to its end, its results as above and the arguments unchanged. -/
theorem run_reference (m : (ℓ : Loc Cert.UpReferenceIdeal.nD Cert.UpReferenceIdeal.τ Cert.UpReferenceIdeal.sig) → Buf (Elt Ideal) ℓ)
    (ρ : Dev Cert.UpReferenceIdeal.nD → PrngReg) : θ_run (Cert.UpReferenceIdeal.defs (F := Ideal)) (onTc (τ := Cert.UpReferenceIdeal.τ) (Cert.UpReferenceIdeal.main (F := Ideal)))
      ⟨m, fun _ => 0, ρ⟩ (fun r => ∀ c : Dev Cert.UpReferenceIdeal.nD,
        r.2.mem (c.tc.loc Cert.UpReferenceIdeal.main_v70) = Cert.UpReferenceIdeal.Read.val_main_v70 (F := Ideal) (m (c.tc.loc Cert.UpReferenceIdeal.main_arg0)) (m (c.tc.loc Cert.UpReferenceIdeal.main_arg1)) (m (c.tc.loc Cert.UpReferenceIdeal.main_arg3)) (m (c.tc.loc Cert.UpReferenceIdeal.main_arg4)) (m (c.tc.loc Cert.UpReferenceIdeal.main_arg5))
        ∧ r.2.mem (c.tc.loc Cert.UpReferenceIdeal.main_v71) = Cert.UpReferenceIdeal.Read.val_main_v70 (F := Ideal) (m (c.tc.loc Cert.UpReferenceIdeal.main_arg0)) (m (c.tc.loc Cert.UpReferenceIdeal.main_arg1)) (m (c.tc.loc Cert.UpReferenceIdeal.main_arg3)) (m (c.tc.loc Cert.UpReferenceIdeal.main_arg4)) (m (c.tc.loc Cert.UpReferenceIdeal.main_arg5))
        ∧ r.2.mem (c.tc.loc Cert.UpReferenceIdeal.main_v72) = dg (m (c.tc.loc Cert.UpReferenceIdeal.main_arg0)) (dx (m (c.tc.loc Cert.UpReferenceIdeal.main_arg3)) (m (c.tc.loc Cert.UpReferenceIdeal.main_arg4)) (m (c.tc.loc Cert.UpReferenceIdeal.main_arg5)))
        ∧ r.2.mem (c.tc.loc Cert.UpReferenceIdeal.main_v73) = db (dx (m (c.tc.loc Cert.UpReferenceIdeal.main_arg3)) (m (c.tc.loc Cert.UpReferenceIdeal.main_arg4)) (m (c.tc.loc Cert.UpReferenceIdeal.main_arg5)))
        ∧ r.2.mem (c.tc.loc Cert.UpReferenceIdeal.main_arg0) = m (c.tc.loc Cert.UpReferenceIdeal.main_arg0)
        ∧ r.2.mem (c.tc.loc Cert.UpReferenceIdeal.main_arg1) = m (c.tc.loc Cert.UpReferenceIdeal.main_arg1)
        ∧ r.2.mem (c.tc.loc Cert.UpReferenceIdeal.main_arg2) = m (c.tc.loc Cert.UpReferenceIdeal.main_arg2)
        ∧ r.2.mem (c.tc.loc Cert.UpReferenceIdeal.main_arg3) = m (c.tc.loc Cert.UpReferenceIdeal.main_arg3)
        ∧ r.2.mem (c.tc.loc Cert.UpReferenceIdeal.main_arg4) = m (c.tc.loc Cert.UpReferenceIdeal.main_arg4)
        ∧ r.2.mem (c.tc.loc Cert.UpReferenceIdeal.main_arg5) = m (c.tc.loc Cert.UpReferenceIdeal.main_arg5)) :=
  (θ_run _ _ _).mono (fun _ h c => ⟨(h c).1.trans (Cert.UpReferenceIdeal.Read.val_main_v70_eq m c),
    (h c).2.1.trans ((Cert.UpReferenceIdeal.Read.val_main_v71_eq m c).trans (ref_dz16 _ _ _ _ _)),
    (h c).2.2.1.trans ((Cert.UpReferenceIdeal.Read.val_main_v72_eq _ _ _ _).trans (ref_dg _ _ _ _)),
    (h c).2.2.2.1.trans ((Cert.UpReferenceIdeal.Read.val_main_v73_eq _ _ _).trans (ref_db _ _ _)), (h c).2.2.2.2⟩) (Cert.UpReferenceIdeal.Value.run m ρ)

/-- The reference runs to its end, its arguments unchanged; it declares no semaphore. -/
theorem frame_reference (m : (ℓ : Loc Cert.UpReferenceIdeal.nD Cert.UpReferenceIdeal.τ Cert.UpReferenceIdeal.sig) → Buf (Elt Ideal) ℓ)
    (ρ : Dev Cert.UpReferenceIdeal.nD → PrngReg) : θ_run (Cert.UpReferenceIdeal.defs (F := Ideal)) (onTc (τ := Cert.UpReferenceIdeal.τ) (Cert.UpReferenceIdeal.main (F := Ideal)))
      ⟨m, fun _ => 0, ρ⟩ (fun r => (∀ c : Dev Cert.UpReferenceIdeal.nD,
        r.2.mem (c.tc.loc Cert.UpReferenceIdeal.main_arg0) = m (c.tc.loc Cert.UpReferenceIdeal.main_arg0)
        ∧ r.2.mem (c.tc.loc Cert.UpReferenceIdeal.main_arg1) = m (c.tc.loc Cert.UpReferenceIdeal.main_arg1)
        ∧ r.2.mem (c.tc.loc Cert.UpReferenceIdeal.main_arg2) = m (c.tc.loc Cert.UpReferenceIdeal.main_arg2)
        ∧ r.2.mem (c.tc.loc Cert.UpReferenceIdeal.main_arg3) = m (c.tc.loc Cert.UpReferenceIdeal.main_arg3)
        ∧ r.2.mem (c.tc.loc Cert.UpReferenceIdeal.main_arg4) = m (c.tc.loc Cert.UpReferenceIdeal.main_arg4)
        ∧ r.2.mem (c.tc.loc Cert.UpReferenceIdeal.main_arg5) = m (c.tc.loc Cert.UpReferenceIdeal.main_arg5)) ∧ r.2.sem = fun _ => 0) :=
  (θ_run _ _ _).mono (fun _ h => ⟨fun c => (h c).2.2.2.2, sem_eq_zero_of_no_sems (by decide) _⟩) (run_reference m ρ)

/-- The kernel's four results are the reference's. -/
theorem algebraic : algebraic_UpKernelIdeal_UpReferenceIdeal_pre_finite_up := by
  pair_intro
  · run_from Cert.UpKernelIdeal.Value.run_blocks m g
  · run_from run_reference m' g'
    · exact (dz_eq _ _ _ _ _ _ (hpre c)).trans (final_dz m c).symm
    · exact (dz_eq _ _ _ _ _ _ (hpre c)).trans (final_dz16 m c).symm
    · exact (final_dg m c).symm
    · exact (final_db m c).symm

end Cert.UpValue

end
-- ==== Proof.MixrValue.lean ====
/- The norm's gradient fused with a product, the input projection of a recurrence's layer (2560 lanes): what the kernel leaves is the layer norm's gradient of the
   cotangent that the product and the residual make; on real arguments it is what the chain rule gives. -/
module

public import proofs.«01_k».proof.Defs
public import proofs.«01_k».proof.Proof.LnValue
public import proofs.«01_k».proof.Proof.Gen.MixrKernelIdeal.Value
public import proofs.«01_k».proof.Proof.Gen.MixrReferenceIdeal.Run
public import proofs.«01_k».proof.Proof.Gen.MixrReferenceIdeal.Read
public import proofs.«01_k».proof.Proof.Gen.Pre_finite_mixr
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MixrValue

open Cert.MixrKernelIdeal Cert.MixrKernelIdeal.Gen Cert.NormMath
open Cert.LnValue (dz dg db zRow dxRow α)

/-- The cotangent of the norm's result: the residual's and that of the product. -/
def dx (w : Vec Ideal S1024x2560 .f32) (h : Vec Ideal S8192x2560 .f32) (r : Vec Ideal S8192x1024 .f32) : S8192x1024.Idx → EReal := fun i =>
  α * r i + ∑ k : Fin 2560, h (ix2 (i 0) k) * w (ix2 (i 1) k)

/-! ## The kernel -/

theorem pay_dx (d : Vec Ideal S512x1024 .f32) (h : Vec Ideal S512x2560 .bf16) (w : Vec Ideal S2560x1024 .bf16) (r : Fin 512) (k : Fin 1024) :
    k0_pay7 (F := Ideal) d h w (ix2 r k) = α * d (ix2 r k) + ∑ l : Fin 2560, h (ix2 r l) * w (ix2 l k) := by
  pointwise [k0_pay7]
theorem pay_dz (d : Vec Ideal S512x1024 .f32) (h : Vec Ideal S512x2560 .bf16) (w : Vec Ideal S2560x1024 .bf16) (z : Vec Ideal S512x1024 .f32) (g : Vec Ideal S1x1024 .f32)
    (r : Fin 512) (k : Fin 1024) : k0_pay1 (F := Ideal) (k0_pay9 z) (k0_pay10 z) (k0_pay11 d h w g) (k0_pay12 d h w g) (ix2 r k)
      = closed (fun k => z (ix2 r k)) (fun k => k0_pay7 d h w (ix2 r k) * g (ix2 0 k)) k := by
  pointwise [k0_pay1, k0_pay12, k0_pay11, k0_pay10, k0_pay9, k0_pay8]
  rfl
/-- The second result is the first at the narrower float type: over the reals the same. -/
theorem pay_dz16 (x : FVec Ideal S512x1 .f32) (g z : FVec Ideal S512x1024 .f32) (v : FVec Ideal S512x1 .f32) :
    k0_pay2 (F := Ideal) x g z v = k0_pay1 x g z v := by
  funext j
  pointwise [k0_pay2]
theorem pay_dg (x : FVec Ideal S512x1024 .f32) (z : Vec Ideal S512x1024 .f32) (g : Vec Ideal S1x1024 .f32) (a : Fin 1) (k : Fin 1024) :
    k0_pay3 (F := Ideal) x (k0_pay10 z) g (ix2 a k) = g (ix2 a k) + ∑ r : Fin 512, x (ix2 r k) * xhat (fun k => z (ix2 r k)) k := by
  pointwise [k0_pay3, k0_pay10, k0_pay9, k0_pay8]
  rfl
theorem pay_db (x : FVec Ideal S512x1024 .f32) (g : Vec Ideal S1x1024 .f32) (a : Fin 1) (k : Fin 1024) :
    k0_pay4 (F := Ideal) x g (ix2 a k) = g (ix2 a k) + ∑ r : Fin 512, x (ix2 r k) := by
  pointwise [k0_pay4]
theorem pay_zero (a : Fin 1) (k : Fin 1024) : k0_pay5 (F := Ideal) (ix2 a k) = 0 := by pointwise [k0_pay5]
theorem pay_zero' (a : Fin 1) (k : Fin 1024) : k0_pay6 (F := Ideal) (ix2 a k) = 0 := by pointwise [k0_pay6]

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] := by
  decide +kernel

/-- The kernel's arguments. -/
abbrev argZ : Vec Ideal S8192x1024 .f32 := m (c.tc.loc main_arg0)
abbrev argG : Vec Ideal S1024 .f32 := m (c.tc.loc main_arg1)
abbrev argW : Vec Ideal S1024x2560 .f32 := m (c.tc.loc main_arg3)
abbrev argH : Vec Ideal S8192x2560 .f32 := m (c.tc.loc main_arg4)
abbrev argR : Vec Ideal S8192x1024 .f32 := m (c.tc.loc main_arg5)
/-- The cotangent of the norm's result at the kernel's arguments. -/
abbrev argD : S8192x1024.Idx → EReal := dx (argW m c) (argH m c) (argR m c)

theorem lt_rows (t : Fin cfg0.N) (r : Fin 512) : t.val * 512 + r.val < 8192 := by
  have := t.isLt; have h : cfg0.N = 16 := N_0; omega
/-- A row of the whole array, in the block of grid point `t`. -/
abbrev row (t : Fin cfg0.N) (r : Fin 512) : Fin 8192 := ⟨t.val * 512 + r.val, lt_rows t r⟩

/-! What the input windows' blocks hold. -/

theorem blk_r (t : Fin cfg0.N) (r : Fin 512) (k : Fin 1024) : iblk m c 2 t (ix2 r k) = argR m c (ix2 (row t r) k) := by
  blk_ext [iblk, V, idx t]
theorem blk_z (t : Fin cfg0.N) (r : Fin 512) (k : Fin 1024) : iblk m c 3 t (ix2 r k) = argZ m c (ix2 (row t r) k) := by
  blk_ext [iblk, V, idx t]
theorem blk_g (t : Fin cfg0.N) (k : Fin 1024) : iblk m c 4 t (ix2 0 k) = argG m c (ix1 k) := by
  unfold iblk
  rw [View.read_apply]
  show V m c main_v3 _ = _
  entry_read
  pointwise
  blk_ext [idx t]
theorem blk_h (t : Fin cfg0.N) (r : Fin 512) (l : Fin 2560) : iblk m c 0 t (ix2 r l) = argH m c (ix2 (row t r) l) := by
  unfold iblk
  rw [View.read_apply]
  show V m c main_v0 _ = _
  entry_read
  pointwise
  blk_ext [idx t]
theorem blk_w (t : Fin cfg0.N) (l : Fin 2560) (k : Fin 1024) : iblk m c 1 t (ix2 l k) = argW m c (ix2 k l) := by
  unfold iblk
  rw [View.read_apply]
  show V m c main_v2 _ = _
  entry_read
  pointwise
  blk_ext [idx t]

/-! ## One point -/

theorem point_dx (t : Fin cfg0.N) (r : Fin 512) (k : Fin 1024) : k0_pay7 (iblk m c 2 t) (iblk m c 0 t) (iblk m c 1 t) (ix2 r k) = argD m c (ix2 (row t r) k) := by
  rw [pay_dx]
  simp only [blk_r, blk_h, blk_w]
  rfl
theorem point_dz (t : Fin cfg0.N) (r : Fin 512) (k : Fin 1024) : k0_pay1 (k0_pay9 (iblk m c 3 t)) (k0_pay10 (iblk m c 3 t)) (k0_pay11 (iblk m c 2 t) (iblk m c 0 t) (iblk m c 1 t) (iblk m c 4 t)) (k0_pay12 (iblk m c 2 t) (iblk m c 0 t) (iblk m c 1 t) (iblk m c 4 t)) (ix2 r k)
    = dz (argZ m c) (argG m c) (argD m c) (ix2 (row t r) k) := by
  rw [pay_dz]
  simp only [point_dx, blk_z, blk_g]
  rfl

/-! ## The results -/

theorem emb_dz (t : Fin cfg0.N) (r : Fin 512) (k : Fin 1024) :
    ((View.whole main_v4_0).slice (win0_5.rect t)).emb (ix2 r k) = ix2 (row t r) k := by
  blk_ext [idx t]
theorem emb_dz16 (t : Fin cfg0.N) (r : Fin 512) (k : Fin 1024) :
    ((View.whole main_v4_1).slice (win0_6.rect t)).emb (ix2 r k) = ix2 (row t r) k := by
  blk_ext [idx t]

theorem final_dz : (dats m 0 c).arrAt 5 cfg0.N = dz (argZ m c) (argG m c) (argD m c) := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  rw [emb_dz, ← point_dz m c]
  by_cases h : t.val % 16 = 0
  · rw [outsAt0_A m c t h]
    frame_out
  · rw [outsAt0_B m c t h]
    frame_out

theorem final_dz16 : (dats m 0 c).arrAt 6 cfg0.N = dz (argZ m c) (argG m c) (argD m c) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  rw [emb_dz16, ← point_dz m c]
  by_cases h : t.val % 16 = 0
  · rw [outsAt0_A m c t h]
    frame_out
    exact congrFun (pay_dz16 _ _ _ _) _
  · rw [outsAt0_B m c t h]
    frame_out
    exact congrFun (pay_dz16 _ _ _ _) _

theorem final_dg : (dats m 0 c).arrAt 7 cfg0.N = dg (argZ m c) (argD m c) := by
  refine (dats m 0 c).arrAt_eq_of_after_last 7 t0_15 (by decide +kernel) _ fun y => ?_
  blk_simp
  rw [after0_7]
  rw [Pipeline.eq_sum_fin_of_reset_step_apply_last (fun n h => (outsAt0 m c n h).2.2.1) 16 (fun _ => (0 : EReal))
    (fun t j => ∑ r : Fin 512, argD m c (ix2 (row t r) (j 1)) * xhat (zRow (argZ m c) (row t r)) (j 1)) ?_ ?_ N_0.le t0_15 rfl _]
  · rw [zero_add]
    exact Lift.sum_blocks (by rw [show cfg0.N = 16 from N_0]) (fun i => argD m c (ix2 i (y 1)) * xhat (zRow (argZ m c) i) (y 1)) (fun t r => lt_rows t r)
  · intro t h j
    rw [outsAt0_A m c t h]
    frame_out
    idx_vars j
    rw [pay_dg, pay_zero]
    simp only [point_dx, blk_z]
  · intro t h j
    rw [outsAt0_B m c t h]
    frame_out
    idx_vars j
    rw [pay_dg]
    simp only [point_dx, blk_z]

theorem final_db : (dats m 0 c).arrAt 8 cfg0.N = db (argD m c) := by
  refine (dats m 0 c).arrAt_eq_of_after_last 8 t0_15 (by decide +kernel) _ fun y => ?_
  blk_simp
  rw [after0_8]
  rw [Pipeline.eq_sum_fin_of_reset_step_apply_last (fun n h => (outsAt0 m c n h).2.2.2) 16 (fun _ => (0 : EReal))
    (fun t j => ∑ r : Fin 512, argD m c (ix2 (row t r) (j 1))) ?_ ?_ N_0.le t0_15 rfl _]
  · rw [zero_add]
    exact Lift.sum_blocks (by rw [show cfg0.N = 16 from N_0]) (fun i => argD m c (ix2 i (y 1))) (fun t r => lt_rows t r)
  · intro t h j
    rw [outsAt0_A m c t h]
    frame_out
    idx_vars j
    rw [pay_db, pay_zero']
    simp only [point_dx]
  · intro t h j
    rw [outsAt0_B m c t h]
    frame_out
    idx_vars j
    rw [pay_db]
    simp only [point_dx]

/-! ## The reference -/

section Reference

open Cert.MixrReferenceIdeal.Read

variable (z : Vec Ideal S8192x1024 .f32) (g b : Vec Ideal S1024 .f32) (w : Vec Ideal S1024x2560 .f32) (h : Vec Ideal S8192x2560 .f32) (r : Vec Ideal S8192x1024 .f32)

/-- The cotangent of the norm's result, as the reference makes it. -/
theorem ref_dx : val_main_v37 (F := Ideal) w h r = dx w h r := by
  funext i
  idx_vars i
  pointwise [val_main_v37, val_main_v36, val_main_v35, val_main_v34, val_main_cst_7]
  exact add_comm _ _

/-- From there on the reference is the layer norm's gradient. -/
theorem ref_scaled : val_main_v45 (F := Ideal) g w h r = Cert.LnReferenceIdeal.Read.val_main_v37 g (val_main_v37 (F := Ideal) w h r) := by
  rw [Cert.LnReferenceIdeal.Read.val_main_v37, Cert.LnValue.ref_flat]
  rfl
theorem ref_dz : val_main_v70 (F := Ideal) z g w h r = Cert.LnReferenceIdeal.Read.val_main_v62 z g (dx w h r) := by
  have e := ref_scaled g w h r
  rw [ref_dx] at e
  simp only [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, e]
  rfl
theorem ref_dz16 : val_main_v71 (F := Ideal) z g w h r = val_main_v70 (F := Ideal) z g w h r := by
  funext i
  pointwise [val_main_v71]
theorem ref_dg : val_main_v72 (F := Ideal) z w h r = dg z (dx w h r) := by
  rw [← ref_dx]
  refine Eq.trans ?_ (funext fun i => (congrArg _ (eq_ix2 i)).trans ((Cert.LnValue.ref_dg z _ (i 0) (i 1)).trans (congrArg _ (eq_ix2 i).symm)))
  simp only [Cert.LnReferenceIdeal.Read.val_main_v64, Cert.LnReferenceIdeal.Read.val_main_v38, Cert.LnReferenceIdeal.Read.val_main_v35,
    Cert.LnReferenceIdeal.Read.val_main_v34, Cert.LnReferenceIdeal.Read.val_main_v33, Cert.LnValue.ref_flat]
  rfl
theorem ref_db : val_main_v73 (F := Ideal) w h r = db (dx w h r) := by
  rw [← ref_dx]
  refine Eq.trans ?_ (funext fun i => (congrArg _ (eq_ix2 i)).trans ((Cert.LnValue.ref_db _ (i 0) (i 1)).trans (congrArg _ (eq_ix2 i).symm)))
  rfl

end Reference

/-! ## The claims -/

/-- On real numbers the cotangent is an array of reals. -/
theorem dx_real (qw : S1024x2560.Idx → ℝ) (rh : S8192x2560.Idx → ℝ) (rr : S8192x1024.Idx → ℝ) :
    ∃ rd : S8192x1024.Idx → ℝ, dx (fun i => (qw i : EReal)) (fun i => (rh i : EReal)) (fun i => (rr i : EReal)) = fun i => (rd i : EReal) := by
  obtain ⟨a, ha⟩ := Cert.LnValue.α_real
  refine ⟨fun i => a * rr i + ∑ k : Fin 2560, rh (ix2 (i 0) k) * qw (ix2 (i 1) k), funext fun i => ?_⟩
  unfold dx
  rw [ha]
  push_cast [← Lift.coe_sum]
  rfl

/-- The precondition makes the arguments that matter arrays of real numbers, and there the closed form is the chain rule's. -/
theorem dz_eq (z : Vec Ideal S8192x1024 .f32) (g b : Vec Ideal S1024 .f32) (w : Vec Ideal S1024x2560 .f32) (h : Vec Ideal S8192x2560 .f32) (r : Vec Ideal S8192x1024 .f32)
    (hp : Cert.Pre_finite_mixr.fn (F := Ideal) z g b w h r = fun _ => 1#1) : Cert.MixrReferenceIdeal.Read.val_main_v70 (F := Ideal) z g w h r = dz z g (dx w h r) := by
  have h0 := congrFun hp (fun a => a.elim0)
  unfold Cert.Pre_finite_mixr.fn Cert.Pre_finite_mixr.fn_part1 at h0
  obtain ⟨h1, hr⟩ := Finite.both h0
  obtain ⟨h2, hh⟩ := Finite.both h1
  obtain ⟨h3, hw⟩ := Finite.both h2
  obtain ⟨hz, hg⟩ := Finite.both h3
  obtain ⟨rz, rfl⟩ := Finite.reals _ _ hz
  obtain ⟨rg, rfl⟩ := Finite.reals _ _ hg
  obtain ⟨qw, rfl⟩ := Finite.reals _ _ hw
  obtain ⟨rh, rfl⟩ := Finite.reals _ _ hh
  obtain ⟨rr, rfl⟩ := Finite.reals _ _ hr
  obtain ⟨rd, e⟩ := dx_real qw rh rr
  rw [ref_dz, e]
  exact Cert.LnValue.dz_real rz rg rd

/-- The reference runs to its end, its results as above and the arguments unchanged. -/
theorem run_reference (m : (ℓ : Loc Cert.MixrReferenceIdeal.nD Cert.MixrReferenceIdeal.τ Cert.MixrReferenceIdeal.sig) → Buf (Elt Ideal) ℓ)
    (ρ : Dev Cert.MixrReferenceIdeal.nD → PrngReg) : θ_run (Cert.MixrReferenceIdeal.defs (F := Ideal)) (onTc (τ := Cert.MixrReferenceIdeal.τ) (Cert.MixrReferenceIdeal.main (F := Ideal)))
      ⟨m, fun _ => 0, ρ⟩ (fun r => ∀ c : Dev Cert.MixrReferenceIdeal.nD,
        r.2.mem (c.tc.loc Cert.MixrReferenceIdeal.main_v70) = Cert.MixrReferenceIdeal.Read.val_main_v70 (F := Ideal) (m (c.tc.loc Cert.MixrReferenceIdeal.main_arg0)) (m (c.tc.loc Cert.MixrReferenceIdeal.main_arg1)) (m (c.tc.loc Cert.MixrReferenceIdeal.main_arg3)) (m (c.tc.loc Cert.MixrReferenceIdeal.main_arg4)) (m (c.tc.loc Cert.MixrReferenceIdeal.main_arg5))
        ∧ r.2.mem (c.tc.loc Cert.MixrReferenceIdeal.main_v71) = Cert.MixrReferenceIdeal.Read.val_main_v70 (F := Ideal) (m (c.tc.loc Cert.MixrReferenceIdeal.main_arg0)) (m (c.tc.loc Cert.MixrReferenceIdeal.main_arg1)) (m (c.tc.loc Cert.MixrReferenceIdeal.main_arg3)) (m (c.tc.loc Cert.MixrReferenceIdeal.main_arg4)) (m (c.tc.loc Cert.MixrReferenceIdeal.main_arg5))
        ∧ r.2.mem (c.tc.loc Cert.MixrReferenceIdeal.main_v72) = dg (m (c.tc.loc Cert.MixrReferenceIdeal.main_arg0)) (dx (m (c.tc.loc Cert.MixrReferenceIdeal.main_arg3)) (m (c.tc.loc Cert.MixrReferenceIdeal.main_arg4)) (m (c.tc.loc Cert.MixrReferenceIdeal.main_arg5)))
        ∧ r.2.mem (c.tc.loc Cert.MixrReferenceIdeal.main_v73) = db (dx (m (c.tc.loc Cert.MixrReferenceIdeal.main_arg3)) (m (c.tc.loc Cert.MixrReferenceIdeal.main_arg4)) (m (c.tc.loc Cert.MixrReferenceIdeal.main_arg5)))
        ∧ r.2.mem (c.tc.loc Cert.MixrReferenceIdeal.main_arg0) = m (c.tc.loc Cert.MixrReferenceIdeal.main_arg0)
        ∧ r.2.mem (c.tc.loc Cert.MixrReferenceIdeal.main_arg1) = m (c.tc.loc Cert.MixrReferenceIdeal.main_arg1)
        ∧ r.2.mem (c.tc.loc Cert.MixrReferenceIdeal.main_arg2) = m (c.tc.loc Cert.MixrReferenceIdeal.main_arg2)
        ∧ r.2.mem (c.tc.loc Cert.MixrReferenceIdeal.main_arg3) = m (c.tc.loc Cert.MixrReferenceIdeal.main_arg3)
        ∧ r.2.mem (c.tc.loc Cert.MixrReferenceIdeal.main_arg4) = m (c.tc.loc Cert.MixrReferenceIdeal.main_arg4)
        ∧ r.2.mem (c.tc.loc Cert.MixrReferenceIdeal.main_arg5) = m (c.tc.loc Cert.MixrReferenceIdeal.main_arg5)) :=
  (θ_run _ _ _).mono (fun _ h c => ⟨(h c).1.trans (Cert.MixrReferenceIdeal.Read.val_main_v70_eq m c),
    (h c).2.1.trans ((Cert.MixrReferenceIdeal.Read.val_main_v71_eq m c).trans (ref_dz16 _ _ _ _ _)),
    (h c).2.2.1.trans ((Cert.MixrReferenceIdeal.Read.val_main_v72_eq _ _ _ _).trans (ref_dg _ _ _ _)),
    (h c).2.2.2.1.trans ((Cert.MixrReferenceIdeal.Read.val_main_v73_eq _ _ _).trans (ref_db _ _ _)), (h c).2.2.2.2⟩) (Cert.MixrReferenceIdeal.Value.run m ρ)

/-- The reference runs to its end, its arguments unchanged; it declares no semaphore. -/
theorem frame_reference (m : (ℓ : Loc Cert.MixrReferenceIdeal.nD Cert.MixrReferenceIdeal.τ Cert.MixrReferenceIdeal.sig) → Buf (Elt Ideal) ℓ)
    (ρ : Dev Cert.MixrReferenceIdeal.nD → PrngReg) : θ_run (Cert.MixrReferenceIdeal.defs (F := Ideal)) (onTc (τ := Cert.MixrReferenceIdeal.τ) (Cert.MixrReferenceIdeal.main (F := Ideal)))
      ⟨m, fun _ => 0, ρ⟩ (fun r => (∀ c : Dev Cert.MixrReferenceIdeal.nD,
        r.2.mem (c.tc.loc Cert.MixrReferenceIdeal.main_arg0) = m (c.tc.loc Cert.MixrReferenceIdeal.main_arg0)
        ∧ r.2.mem (c.tc.loc Cert.MixrReferenceIdeal.main_arg1) = m (c.tc.loc Cert.MixrReferenceIdeal.main_arg1)
        ∧ r.2.mem (c.tc.loc Cert.MixrReferenceIdeal.main_arg2) = m (c.tc.loc Cert.MixrReferenceIdeal.main_arg2)
        ∧ r.2.mem (c.tc.loc Cert.MixrReferenceIdeal.main_arg3) = m (c.tc.loc Cert.MixrReferenceIdeal.main_arg3)
        ∧ r.2.mem (c.tc.loc Cert.MixrReferenceIdeal.main_arg4) = m (c.tc.loc Cert.MixrReferenceIdeal.main_arg4)
        ∧ r.2.mem (c.tc.loc Cert.MixrReferenceIdeal.main_arg5) = m (c.tc.loc Cert.MixrReferenceIdeal.main_arg5)) ∧ r.2.sem = fun _ => 0) :=
  (θ_run _ _ _).mono (fun _ h => ⟨fun c => (h c).2.2.2.2, sem_eq_zero_of_no_sems (by decide) _⟩) (run_reference m ρ)

/-- The kernel's four results are the reference's. -/
theorem algebraic : algebraic_MixrKernelIdeal_MixrReferenceIdeal_pre_finite_mixr := by
  pair_intro
  · run_from Cert.MixrKernelIdeal.Value.run_blocks m g
  · run_from run_reference m' g'
    · exact (dz_eq _ _ _ _ _ _ (hpre c)).trans (final_dz m c).symm
    · exact (dz_eq _ _ _ _ _ _ (hpre c)).trans (final_dz16 m c).symm
    · exact (final_dg m c).symm
    · exact (final_db m c).symm

end Cert.MixrValue

end
-- ==== Proof.MixcValue.lean ====
/- The norm's gradient fused with a product, the input projection of a convolution's layer (3072 lanes): what the kernel leaves is the layer norm's gradient of the
   cotangent that the product and the residual make; on real arguments it is what the chain rule gives. -/
module

public import proofs.«01_k».proof.Defs
public import proofs.«01_k».proof.Proof.LnValue
public import proofs.«01_k».proof.Proof.Gen.MixcKernelIdeal.Value
public import proofs.«01_k».proof.Proof.Gen.MixcReferenceIdeal.Run
public import proofs.«01_k».proof.Proof.Gen.MixcReferenceIdeal.Read
public import proofs.«01_k».proof.Proof.Gen.Pre_finite_mixc
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MixcValue

open Cert.MixcKernelIdeal Cert.MixcKernelIdeal.Gen Cert.NormMath
open Cert.LnValue (dz dg db zRow dxRow α)

/-- The cotangent of the norm's result: the residual's and that of the product. -/
def dx (w : Vec Ideal S1024x3072 .f32) (h : Vec Ideal S8192x3072 .f32) (r : Vec Ideal S8192x1024 .f32) : S8192x1024.Idx → EReal := fun i =>
  α * r i + ∑ k : Fin 3072, h (ix2 (i 0) k) * w (ix2 (i 1) k)

/-! ## The kernel -/

theorem pay_dx (d : Vec Ideal S512x1024 .f32) (h : Vec Ideal S512x3072 .bf16) (w : Vec Ideal S1024x3072 .bf16) (r : Fin 512) (k : Fin 1024) :
    k0_pay7 (F := Ideal) d h w (ix2 r k) = α * d (ix2 r k) + ∑ l : Fin 3072, h (ix2 r l) * w (ix2 k l) := by
  pointwise [k0_pay7]
theorem pay_dz (d : Vec Ideal S512x1024 .f32) (h : Vec Ideal S512x3072 .bf16) (w : Vec Ideal S1024x3072 .bf16) (z : Vec Ideal S512x1024 .f32) (g : Vec Ideal S1x1024 .f32)
    (r : Fin 512) (k : Fin 1024) : k0_pay1 (F := Ideal) (k0_pay9 z) (k0_pay10 z) (k0_pay11 d h w g) (k0_pay12 d h w g) (ix2 r k)
      = closed (fun k => z (ix2 r k)) (fun k => k0_pay7 d h w (ix2 r k) * g (ix2 0 k)) k := by
  pointwise [k0_pay1, k0_pay12, k0_pay11, k0_pay10, k0_pay9, k0_pay8]
  rfl
/-- The second result is the first at the narrower float type: over the reals the same. -/
theorem pay_dz16 (x : FVec Ideal S512x1 .f32) (g z : FVec Ideal S512x1024 .f32) (v : FVec Ideal S512x1 .f32) :
    k0_pay2 (F := Ideal) x g z v = k0_pay1 x g z v := by
  funext j
  pointwise [k0_pay2]
theorem pay_dg (x : FVec Ideal S512x1024 .f32) (z : Vec Ideal S512x1024 .f32) (g : Vec Ideal S1x1024 .f32) (a : Fin 1) (k : Fin 1024) :
    k0_pay3 (F := Ideal) x (k0_pay10 z) g (ix2 a k) = g (ix2 a k) + ∑ r : Fin 512, x (ix2 r k) * xhat (fun k => z (ix2 r k)) k := by
  pointwise [k0_pay3, k0_pay10, k0_pay9, k0_pay8]
  rfl
theorem pay_db (x : FVec Ideal S512x1024 .f32) (g : Vec Ideal S1x1024 .f32) (a : Fin 1) (k : Fin 1024) :
    k0_pay4 (F := Ideal) x g (ix2 a k) = g (ix2 a k) + ∑ r : Fin 512, x (ix2 r k) := by
  pointwise [k0_pay4]
theorem pay_zero (a : Fin 1) (k : Fin 1024) : k0_pay5 (F := Ideal) (ix2 a k) = 0 := by pointwise [k0_pay5]
theorem pay_zero' (a : Fin 1) (k : Fin 1024) : k0_pay6 (F := Ideal) (ix2 a k) = 0 := by pointwise [k0_pay6]

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] := by
  decide +kernel

/-- The kernel's arguments. -/
abbrev argZ : Vec Ideal S8192x1024 .f32 := m (c.tc.loc main_arg0)
abbrev argG : Vec Ideal S1024 .f32 := m (c.tc.loc main_arg1)
abbrev argW : Vec Ideal S1024x3072 .f32 := m (c.tc.loc main_arg3)
abbrev argH : Vec Ideal S8192x3072 .f32 := m (c.tc.loc main_arg4)
abbrev argR : Vec Ideal S8192x1024 .f32 := m (c.tc.loc main_arg5)
/-- The cotangent of the norm's result at the kernel's arguments. -/
abbrev argD : S8192x1024.Idx → EReal := dx (argW m c) (argH m c) (argR m c)

theorem lt_rows (t : Fin cfg0.N) (r : Fin 512) : t.val * 512 + r.val < 8192 := by
  have := t.isLt; have h : cfg0.N = 16 := N_0; omega
/-- A row of the whole array, in the block of grid point `t`. -/
abbrev row (t : Fin cfg0.N) (r : Fin 512) : Fin 8192 := ⟨t.val * 512 + r.val, lt_rows t r⟩

/-! What the input windows' blocks hold. -/

theorem blk_r (t : Fin cfg0.N) (r : Fin 512) (k : Fin 1024) : iblk m c 2 t (ix2 r k) = argR m c (ix2 (row t r) k) := by
  blk_ext [iblk, V, idx t]
theorem blk_z (t : Fin cfg0.N) (r : Fin 512) (k : Fin 1024) : iblk m c 3 t (ix2 r k) = argZ m c (ix2 (row t r) k) := by
  blk_ext [iblk, V, idx t]
theorem blk_g (t : Fin cfg0.N) (k : Fin 1024) : iblk m c 4 t (ix2 0 k) = argG m c (ix1 k) := by
  unfold iblk
  rw [View.read_apply]
  show V m c main_v2 _ = _
  entry_read
  pointwise
  blk_ext [idx t]
theorem blk_h (t : Fin cfg0.N) (r : Fin 512) (l : Fin 3072) : iblk m c 0 t (ix2 r l) = argH m c (ix2 (row t r) l) := by
  unfold iblk
  rw [View.read_apply]
  show V m c main_v0 _ = _
  entry_read
  pointwise
  blk_ext [idx t]
theorem blk_w (t : Fin cfg0.N) (l : Fin 3072) (k : Fin 1024) : iblk m c 1 t (ix2 k l) = argW m c (ix2 k l) := by
  unfold iblk
  rw [View.read_apply]
  show V m c main_v1 _ = _
  entry_read
  pointwise
  blk_ext [idx t]

/-! ## One point -/

theorem point_dx (t : Fin cfg0.N) (r : Fin 512) (k : Fin 1024) : k0_pay7 (iblk m c 2 t) (iblk m c 0 t) (iblk m c 1 t) (ix2 r k) = argD m c (ix2 (row t r) k) := by
  rw [pay_dx]
  simp only [blk_r, blk_h, blk_w]
  rfl
theorem point_dz (t : Fin cfg0.N) (r : Fin 512) (k : Fin 1024) : k0_pay1 (k0_pay9 (iblk m c 3 t)) (k0_pay10 (iblk m c 3 t)) (k0_pay11 (iblk m c 2 t) (iblk m c 0 t) (iblk m c 1 t) (iblk m c 4 t)) (k0_pay12 (iblk m c 2 t) (iblk m c 0 t) (iblk m c 1 t) (iblk m c 4 t)) (ix2 r k)
    = dz (argZ m c) (argG m c) (argD m c) (ix2 (row t r) k) := by
  rw [pay_dz]
  simp only [point_dx, blk_z, blk_g]
  rfl

/-! ## The results -/

theorem emb_dz (t : Fin cfg0.N) (r : Fin 512) (k : Fin 1024) :
    ((View.whole main_v3_0).slice (win0_5.rect t)).emb (ix2 r k) = ix2 (row t r) k := by
  blk_ext [idx t]
theorem emb_dz16 (t : Fin cfg0.N) (r : Fin 512) (k : Fin 1024) :
    ((View.whole main_v3_1).slice (win0_6.rect t)).emb (ix2 r k) = ix2 (row t r) k := by
  blk_ext [idx t]

theorem final_dz : (dats m 0 c).arrAt 5 cfg0.N = dz (argZ m c) (argG m c) (argD m c) := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  rw [emb_dz, ← point_dz m c]
  by_cases h : t.val % 16 = 0
  · rw [outsAt0_A m c t h]
    frame_out
  · rw [outsAt0_B m c t h]
    frame_out

theorem final_dz16 : (dats m 0 c).arrAt 6 cfg0.N = dz (argZ m c) (argG m c) (argD m c) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  rw [emb_dz16, ← point_dz m c]
  by_cases h : t.val % 16 = 0
  · rw [outsAt0_A m c t h]
    frame_out
    exact congrFun (pay_dz16 _ _ _ _) _
  · rw [outsAt0_B m c t h]
    frame_out
    exact congrFun (pay_dz16 _ _ _ _) _

theorem final_dg : (dats m 0 c).arrAt 7 cfg0.N = dg (argZ m c) (argD m c) := by
  refine (dats m 0 c).arrAt_eq_of_after_last 7 t0_15 (by decide +kernel) _ fun y => ?_
  blk_simp
  rw [after0_7]
  rw [Pipeline.eq_sum_fin_of_reset_step_apply_last (fun n h => (outsAt0 m c n h).2.2.1) 16 (fun _ => (0 : EReal))
    (fun t j => ∑ r : Fin 512, argD m c (ix2 (row t r) (j 1)) * xhat (zRow (argZ m c) (row t r)) (j 1)) ?_ ?_ N_0.le t0_15 rfl _]
  · rw [zero_add]
    exact Lift.sum_blocks (by rw [show cfg0.N = 16 from N_0]) (fun i => argD m c (ix2 i (y 1)) * xhat (zRow (argZ m c) i) (y 1)) (fun t r => lt_rows t r)
  · intro t h j
    rw [outsAt0_A m c t h]
    frame_out
    idx_vars j
    rw [pay_dg, pay_zero]
    simp only [point_dx, blk_z]
  · intro t h j
    rw [outsAt0_B m c t h]
    frame_out
    idx_vars j
    rw [pay_dg]
    simp only [point_dx, blk_z]

theorem final_db : (dats m 0 c).arrAt 8 cfg0.N = db (argD m c) := by
  refine (dats m 0 c).arrAt_eq_of_after_last 8 t0_15 (by decide +kernel) _ fun y => ?_
  blk_simp
  rw [after0_8]
  rw [Pipeline.eq_sum_fin_of_reset_step_apply_last (fun n h => (outsAt0 m c n h).2.2.2) 16 (fun _ => (0 : EReal))
    (fun t j => ∑ r : Fin 512, argD m c (ix2 (row t r) (j 1))) ?_ ?_ N_0.le t0_15 rfl _]
  · rw [zero_add]
    exact Lift.sum_blocks (by rw [show cfg0.N = 16 from N_0]) (fun i => argD m c (ix2 i (y 1))) (fun t r => lt_rows t r)
  · intro t h j
    rw [outsAt0_A m c t h]
    frame_out
    idx_vars j
    rw [pay_db, pay_zero']
    simp only [point_dx]
  · intro t h j
    rw [outsAt0_B m c t h]
    frame_out
    idx_vars j
    rw [pay_db]
    simp only [point_dx]

/-! ## The reference -/

section Reference

open Cert.MixcReferenceIdeal.Read

variable (z : Vec Ideal S8192x1024 .f32) (g b : Vec Ideal S1024 .f32) (w : Vec Ideal S1024x3072 .f32) (h : Vec Ideal S8192x3072 .f32) (r : Vec Ideal S8192x1024 .f32)

/-- The cotangent of the norm's result, as the reference makes it. -/
theorem ref_dx : val_main_v37 (F := Ideal) w h r = dx w h r := by
  funext i
  idx_vars i
  pointwise [val_main_v37, val_main_v36, val_main_v35, val_main_v34, val_main_cst_7]
  exact add_comm _ _

/-- From there on the reference is the layer norm's gradient. -/
theorem ref_scaled : val_main_v45 (F := Ideal) g w h r = Cert.LnReferenceIdeal.Read.val_main_v37 g (val_main_v37 (F := Ideal) w h r) := by
  rw [Cert.LnReferenceIdeal.Read.val_main_v37, Cert.LnValue.ref_flat]
  rfl
theorem ref_dz : val_main_v70 (F := Ideal) z g w h r = Cert.LnReferenceIdeal.Read.val_main_v62 z g (dx w h r) := by
  have e := ref_scaled g w h r
  rw [ref_dx] at e
  simp only [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, e]
  rfl
theorem ref_dz16 : val_main_v71 (F := Ideal) z g w h r = val_main_v70 (F := Ideal) z g w h r := by
  funext i
  pointwise [val_main_v71]
theorem ref_dg : val_main_v72 (F := Ideal) z w h r = dg z (dx w h r) := by
  rw [← ref_dx]
  refine Eq.trans ?_ (funext fun i => (congrArg _ (eq_ix2 i)).trans ((Cert.LnValue.ref_dg z _ (i 0) (i 1)).trans (congrArg _ (eq_ix2 i).symm)))
  simp only [Cert.LnReferenceIdeal.Read.val_main_v64, Cert.LnReferenceIdeal.Read.val_main_v38, Cert.LnReferenceIdeal.Read.val_main_v35,
    Cert.LnReferenceIdeal.Read.val_main_v34, Cert.LnReferenceIdeal.Read.val_main_v33, Cert.LnValue.ref_flat]
  rfl
theorem ref_db : val_main_v73 (F := Ideal) w h r = db (dx w h r) := by
  rw [← ref_dx]
  refine Eq.trans ?_ (funext fun i => (congrArg _ (eq_ix2 i)).trans ((Cert.LnValue.ref_db _ (i 0) (i 1)).trans (congrArg _ (eq_ix2 i).symm)))
  rfl

end Reference

/-! ## The claims -/

/-- On real numbers the cotangent is an array of reals. -/
theorem dx_real (qw : S1024x3072.Idx → ℝ) (rh : S8192x3072.Idx → ℝ) (rr : S8192x1024.Idx → ℝ) :
    ∃ rd : S8192x1024.Idx → ℝ, dx (fun i => (qw i : EReal)) (fun i => (rh i : EReal)) (fun i => (rr i : EReal)) = fun i => (rd i : EReal) := by
  obtain ⟨a, ha⟩ := Cert.LnValue.α_real
  refine ⟨fun i => a * rr i + ∑ k : Fin 3072, rh (ix2 (i 0) k) * qw (ix2 (i 1) k), funext fun i => ?_⟩
  unfold dx
  rw [ha]
  push_cast [← Lift.coe_sum]
  rfl

/-- The precondition makes the arguments that matter arrays of real numbers, and there the closed form is the chain rule's. -/
theorem dz_eq (z : Vec Ideal S8192x1024 .f32) (g b : Vec Ideal S1024 .f32) (w : Vec Ideal S1024x3072 .f32) (h : Vec Ideal S8192x3072 .f32) (r : Vec Ideal S8192x1024 .f32)
    (hp : Cert.Pre_finite_mixc.fn (F := Ideal) z g b w h r = fun _ => 1#1) : Cert.MixcReferenceIdeal.Read.val_main_v70 (F := Ideal) z g w h r = dz z g (dx w h r) := by
  have h0 := congrFun hp (fun a => a.elim0)
  unfold Cert.Pre_finite_mixc.fn Cert.Pre_finite_mixc.fn_part1 at h0
  obtain ⟨h1, hr⟩ := Finite.both h0
  obtain ⟨h2, hh⟩ := Finite.both h1
  obtain ⟨h3, hw⟩ := Finite.both h2
  obtain ⟨hz, hg⟩ := Finite.both h3
  obtain ⟨rz, rfl⟩ := Finite.reals _ _ hz
  obtain ⟨rg, rfl⟩ := Finite.reals _ _ hg
  obtain ⟨qw, rfl⟩ := Finite.reals _ _ hw
  obtain ⟨rh, rfl⟩ := Finite.reals _ _ hh
  obtain ⟨rr, rfl⟩ := Finite.reals _ _ hr
  obtain ⟨rd, e⟩ := dx_real qw rh rr
  rw [ref_dz, e]
  exact Cert.LnValue.dz_real rz rg rd

/-- The reference runs to its end, its results as above and the arguments unchanged. -/
theorem run_reference (m : (ℓ : Loc Cert.MixcReferenceIdeal.nD Cert.MixcReferenceIdeal.τ Cert.MixcReferenceIdeal.sig) → Buf (Elt Ideal) ℓ)
    (ρ : Dev Cert.MixcReferenceIdeal.nD → PrngReg) : θ_run (Cert.MixcReferenceIdeal.defs (F := Ideal)) (onTc (τ := Cert.MixcReferenceIdeal.τ) (Cert.MixcReferenceIdeal.main (F := Ideal)))
      ⟨m, fun _ => 0, ρ⟩ (fun r => ∀ c : Dev Cert.MixcReferenceIdeal.nD,
        r.2.mem (c.tc.loc Cert.MixcReferenceIdeal.main_v70) = Cert.MixcReferenceIdeal.Read.val_main_v70 (F := Ideal) (m (c.tc.loc Cert.MixcReferenceIdeal.main_arg0)) (m (c.tc.loc Cert.MixcReferenceIdeal.main_arg1)) (m (c.tc.loc Cert.MixcReferenceIdeal.main_arg3)) (m (c.tc.loc Cert.MixcReferenceIdeal.main_arg4)) (m (c.tc.loc Cert.MixcReferenceIdeal.main_arg5))
        ∧ r.2.mem (c.tc.loc Cert.MixcReferenceIdeal.main_v71) = Cert.MixcReferenceIdeal.Read.val_main_v70 (F := Ideal) (m (c.tc.loc Cert.MixcReferenceIdeal.main_arg0)) (m (c.tc.loc Cert.MixcReferenceIdeal.main_arg1)) (m (c.tc.loc Cert.MixcReferenceIdeal.main_arg3)) (m (c.tc.loc Cert.MixcReferenceIdeal.main_arg4)) (m (c.tc.loc Cert.MixcReferenceIdeal.main_arg5))
        ∧ r.2.mem (c.tc.loc Cert.MixcReferenceIdeal.main_v72) = dg (m (c.tc.loc Cert.MixcReferenceIdeal.main_arg0)) (dx (m (c.tc.loc Cert.MixcReferenceIdeal.main_arg3)) (m (c.tc.loc Cert.MixcReferenceIdeal.main_arg4)) (m (c.tc.loc Cert.MixcReferenceIdeal.main_arg5)))
        ∧ r.2.mem (c.tc.loc Cert.MixcReferenceIdeal.main_v73) = db (dx (m (c.tc.loc Cert.MixcReferenceIdeal.main_arg3)) (m (c.tc.loc Cert.MixcReferenceIdeal.main_arg4)) (m (c.tc.loc Cert.MixcReferenceIdeal.main_arg5)))
        ∧ r.2.mem (c.tc.loc Cert.MixcReferenceIdeal.main_arg0) = m (c.tc.loc Cert.MixcReferenceIdeal.main_arg0)
        ∧ r.2.mem (c.tc.loc Cert.MixcReferenceIdeal.main_arg1) = m (c.tc.loc Cert.MixcReferenceIdeal.main_arg1)
        ∧ r.2.mem (c.tc.loc Cert.MixcReferenceIdeal.main_arg2) = m (c.tc.loc Cert.MixcReferenceIdeal.main_arg2)
        ∧ r.2.mem (c.tc.loc Cert.MixcReferenceIdeal.main_arg3) = m (c.tc.loc Cert.MixcReferenceIdeal.main_arg3)
        ∧ r.2.mem (c.tc.loc Cert.MixcReferenceIdeal.main_arg4) = m (c.tc.loc Cert.MixcReferenceIdeal.main_arg4)
        ∧ r.2.mem (c.tc.loc Cert.MixcReferenceIdeal.main_arg5) = m (c.tc.loc Cert.MixcReferenceIdeal.main_arg5)) :=
  (θ_run _ _ _).mono (fun _ h c => ⟨(h c).1.trans (Cert.MixcReferenceIdeal.Read.val_main_v70_eq m c),
    (h c).2.1.trans ((Cert.MixcReferenceIdeal.Read.val_main_v71_eq m c).trans (ref_dz16 _ _ _ _ _)),
    (h c).2.2.1.trans ((Cert.MixcReferenceIdeal.Read.val_main_v72_eq _ _ _ _).trans (ref_dg _ _ _ _)),
    (h c).2.2.2.1.trans ((Cert.MixcReferenceIdeal.Read.val_main_v73_eq _ _ _).trans (ref_db _ _ _)), (h c).2.2.2.2⟩) (Cert.MixcReferenceIdeal.Value.run m ρ)

/-- The reference runs to its end, its arguments unchanged; it declares no semaphore. -/
theorem frame_reference (m : (ℓ : Loc Cert.MixcReferenceIdeal.nD Cert.MixcReferenceIdeal.τ Cert.MixcReferenceIdeal.sig) → Buf (Elt Ideal) ℓ)
    (ρ : Dev Cert.MixcReferenceIdeal.nD → PrngReg) : θ_run (Cert.MixcReferenceIdeal.defs (F := Ideal)) (onTc (τ := Cert.MixcReferenceIdeal.τ) (Cert.MixcReferenceIdeal.main (F := Ideal)))
      ⟨m, fun _ => 0, ρ⟩ (fun r => (∀ c : Dev Cert.MixcReferenceIdeal.nD,
        r.2.mem (c.tc.loc Cert.MixcReferenceIdeal.main_arg0) = m (c.tc.loc Cert.MixcReferenceIdeal.main_arg0)
        ∧ r.2.mem (c.tc.loc Cert.MixcReferenceIdeal.main_arg1) = m (c.tc.loc Cert.MixcReferenceIdeal.main_arg1)
        ∧ r.2.mem (c.tc.loc Cert.MixcReferenceIdeal.main_arg2) = m (c.tc.loc Cert.MixcReferenceIdeal.main_arg2)
        ∧ r.2.mem (c.tc.loc Cert.MixcReferenceIdeal.main_arg3) = m (c.tc.loc Cert.MixcReferenceIdeal.main_arg3)
        ∧ r.2.mem (c.tc.loc Cert.MixcReferenceIdeal.main_arg4) = m (c.tc.loc Cert.MixcReferenceIdeal.main_arg4)
        ∧ r.2.mem (c.tc.loc Cert.MixcReferenceIdeal.main_arg5) = m (c.tc.loc Cert.MixcReferenceIdeal.main_arg5)) ∧ r.2.sem = fun _ => 0) :=
  (θ_run _ _ _).mono (fun _ h => ⟨fun c => (h c).2.2.2.2, sem_eq_zero_of_no_sems (by decide) _⟩) (run_reference m ρ)

/-- The kernel's four results are the reference's. -/
theorem algebraic : algebraic_MixcKernelIdeal_MixcReferenceIdeal_pre_finite_mixc := by
  pair_intro
  · run_from Cert.MixcKernelIdeal.Value.run_blocks m g
  · run_from run_reference m' g'
    · exact (dz_eq _ _ _ _ _ _ (hpre c)).trans (final_dz m c).symm
    · exact (dz_eq _ _ _ _ _ _ (hpre c)).trans (final_dz16 m c).symm
    · exact (final_dg m c).symm
    · exact (final_db m c).symm

end Cert.MixcValue

end
-- ==== Proof.LhValue.lean ====
/- The head of the loss: the normalised and scaled activation's distance from the target, the sum of its squares
   and the gradient of their mean's half. -/
module

public import proofs.«01_k».proof.Defs
public import proofs.«01_k».proof.Proof.LnValue
public import proofs.«01_k».proof.Proof.Gen.LhKernelIdeal.Value
public import proofs.«01_k».proof.Proof.Gen.LhReferenceIdeal.Run
public import proofs.«01_k».proof.Proof.Gen.LhReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LhValue

open Cert.LhKernelIdeal Cert.LhKernelIdeal.Gen Cert.NormMath
open Cert.LnValue (zRow)

/-- The distance of the normalised, scaled and shifted activation from the target. -/
def err (z : Vec Ideal S8192x1024 .f32) (g b : Vec Ideal S1024 .f32) (y : Vec Ideal S8192x1024 .f32) (r : Fin 8192) (k : Fin 1024) : EReal :=
  xhat (zRow z r) k * g (ix1 k) + b (ix1 k) - y (ix2 r k)

/-- The sum of the squares, one column after the other. -/
def squares (z : Vec Ideal S8192x1024 .f32) (g b : Vec Ideal S1024 .f32) (y : Vec Ideal S8192x1024 .f32) : S1x128.Idx → EReal :=
  fun _ => ∑ r : Fin 8192, ∑ k : Fin 1024, err z g b y r k * err z g b y r k

/-- The gradient of half the mean of the squares. -/
def slope (z : Vec Ideal S8192x1024 .f32) (g b : Vec Ideal S1024 .f32) (y : Vec Ideal S8192x1024 .f32) : S8192x1024.Idx → EReal :=
  fun i => err z g b y (i 0) (i 1) * Ideal.ofBits .f32 0x3A800000#32

/-! ## The kernel -/

theorem pay_err (z : Vec Ideal S1024x1024 .f32) (g b : Vec Ideal S1x1024 .f32) (y : Vec Ideal S1024x1024 .f32) (r k : Fin 1024) :
    k0_pay3 (F := Ideal) z g b y (ix2 r k) = xhat (fun k => z (ix2 r k)) k * g (ix2 0 k) + b (ix2 0 k) - y (ix2 r k) := by
  pointwise [k0_pay3]
  rfl

theorem pay_slope (z : Vec Ideal S1024x1024 .f32) (g b : Vec Ideal S1x1024 .f32) (y : Vec Ideal S1024x1024 .f32) (r k : Fin 1024) :
    k0_pay4 (F := Ideal) z g b y (ix2 r k) = k0_pay3 z g b y (ix2 r k) * Ideal.ofBits .f32 0x3A800000#32 := by
  pointwise [k0_pay4]

theorem pay_squares (x : Vec Ideal S1x128 .f32) (z : Vec Ideal S1024x1024 .f32) (g b : Vec Ideal S1x1024 .f32) (y : Vec Ideal S1024x1024 .f32) (a : Fin 1) (l : Fin 128) :
    k0_pay1 (F := Ideal) (k0_pay5 x) (k0_pay6 z g b y) (ix2 a l)
      = x (ix2 a l) + ∑ r : Fin 1024, ∑ k : Fin 1024, k0_pay3 z g b y (ix2 r k) * k0_pay3 z g b y (ix2 r k) := by
  rw [Finset.sum_comm]
  pointwise [k0_pay1, k0_pay5, k0_pay6]

theorem pay_zero (a : Fin 1) (l : Fin 128) : k0_pay2 (F := Ideal) (ix2 a l) = 0 := by pointwise [k0_pay2]

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0]
    ∧ win0_3.index t = ![t.val, 0] ∧ win0_5.index t = ![t.val, 0] := by
  decide +kernel

/-- The kernel's arguments. -/
abbrev argZ : Vec Ideal S8192x1024 .f32 := m (c.tc.loc main_arg0)
abbrev argG : Vec Ideal S1024 .f32 := m (c.tc.loc main_arg1)
abbrev argB : Vec Ideal S1024 .f32 := m (c.tc.loc main_arg2)
abbrev argY : Vec Ideal S8192x1024 .f32 := m (c.tc.loc main_arg3)

theorem lt_rows (t : Fin cfg0.N) (r : Fin 1024) : t.val * 1024 + r.val < 8192 := by
  have := t.isLt; have h : cfg0.N = 8 := N_0; omega
abbrev row (t : Fin cfg0.N) (r : Fin 1024) : Fin 8192 := ⟨t.val * 1024 + r.val, lt_rows t r⟩

theorem blk_z (t : Fin cfg0.N) (r k : Fin 1024) : iblk m c 0 t (ix2 r k) = argZ m c (ix2 (row t r) k) := by
  blk_ext [iblk, V, idx t]
theorem blk_y (t : Fin cfg0.N) (r k : Fin 1024) : iblk m c 3 t (ix2 r k) = argY m c (ix2 (row t r) k) := by
  blk_ext [iblk, V, idx t]
theorem blk_g (t : Fin cfg0.N) (k : Fin 1024) : iblk m c 1 t (ix2 0 k) = argG m c (ix1 k) := by
  unfold iblk
  rw [View.read_apply]
  show V m c main_v0 _ = _
  entry_read
  pointwise
  blk_ext [idx t]
theorem blk_b (t : Fin cfg0.N) (k : Fin 1024) : iblk m c 2 t (ix2 0 k) = argB m c (ix1 k) := by
  unfold iblk
  rw [View.read_apply]
  show V m c main_v1 _ = _
  entry_read
  pointwise
  blk_ext [idx t]

theorem point_err (t : Fin cfg0.N) (r k : Fin 1024) : k0_pay3 (iblk m c 0 t) (iblk m c 1 t) (iblk m c 2 t) (iblk m c 3 t) (ix2 r k)
    = err (argZ m c) (argG m c) (argB m c) (argY m c) (row t r) k := by
  rw [pay_err]
  simp only [blk_z, blk_g, blk_b, blk_y]
  rfl

theorem emb_slope (t : Fin cfg0.N) (r k : Fin 1024) :
    ((View.whole main_v2_1).slice (win0_5.rect t)).emb (ix2 r k) = ix2 (row t r) k := by
  blk_ext [idx t]

theorem final_slope : (dats m 0 c).arrAt 5 cfg0.N = slope (argZ m c) (argG m c) (argB m c) (argY m c) := by
  refine (dats m 0 c).arrAt_eq_of_covers 5 _ (by decide +kernel) fun t hf y => ?_
  blk_simp
  rw [after0_5]
  obtain ⟨r, k, rfl⟩ : ∃ r k : Fin 1024, y = ix2 r k := ⟨y 0, y 1, eq_ix2 y⟩
  rw [emb_slope]
  have e := (pay_slope (iblk m c 0 t) (iblk m c 1 t) (iblk m c 2 t) (iblk m c 3 t) r k).trans (congrArg (· * _) (point_err m c t r k))
  refine Eq.trans ?_ e
  by_cases h : t.val % 8 = 0
  · rw [outsAt0_A m c t h]
    frame_out
  · rw [outsAt0_B m c t h]
    frame_out

theorem final_squares : (dats m 0 c).arrAt 4 cfg0.N = squares (argZ m c) (argG m c) (argB m c) (argY m c) := by
  refine (dats m 0 c).arrAt_eq_of_after_last 4 t0_7 (by decide +kernel) _ fun y => ?_
  blk_simp
  rw [after0_4]
  rw [Pipeline.eq_sum_fin_of_reset_step_apply_last (fun n h => (outsAt0 m c n h).1) 8 (fun _ => (0 : EReal))
    (fun t _ => ∑ r : Fin 1024, ∑ k : Fin 1024, err (argZ m c) (argG m c) (argB m c) (argY m c) (row t r) k * err (argZ m c) (argG m c) (argB m c) (argY m c) (row t r) k)
    ?_ ?_ N_0.le t0_7 rfl _]
  · rw [zero_add]
    exact Lift.sum_blocks (by rw [show cfg0.N = 8 from N_0])
      (fun i => ∑ k : Fin 1024, err (argZ m c) (argG m c) (argB m c) (argY m c) i k * err (argZ m c) (argG m c) (argB m c) (argY m c) i k) (fun t r => lt_rows t r)
  · intro t h j
    rw [outsAt0_A m c t h]
    frame_out
    idx_vars j
    rw [pay_squares, pay_zero]
    simp only [point_err]
  · intro t h j
    rw [outsAt0_B m c t h]
    frame_out
    idx_vars j
    rw [pay_squares]
    simp only [point_err]

/-! ## The reference -/

section Reference

open Cert.LhReferenceIdeal.Read

variable (z : Vec Ideal S8192x1024 .f32) (g b : Vec Ideal S1024 .f32) (y : Vec Ideal S8192x1024 .f32)

theorem ref_xhat (r : Fin 8192) (k : Fin 1024) : val_main_v17 (F := Ideal) z (ix2 r k) = xhat (zRow z r) k :=
  Eq.trans rfl (Cert.LnValue.ref_xhat z r k)

theorem ref_err (r : Fin 8192) (k : Fin 1024) : val_main_v27 (F := Ideal) z g b y (ix2 r k) = err z g b y r k := by
  pointwise [val_main_v27, val_main_v23, val_main_v22, val_main_v21, val_main_v20, val_main_v19, val_main_v18]
  rw [ref_xhat]
  rfl

theorem ref_squares : val_main_v42 (F := Ideal) z g b y = squares z g b y := by
  funext i
  rw [val_main_v42_apply, val_main_v26_apply, sum_idx2]
  have e : ∀ r k, val_main_v25 (F := Ideal) z g b y (ix2 r k) = err z g b y r k * err z g b y r k := fun r k =>
    congrArg₂ (· * ·) (ref_err z g b y r k) (ref_err z g b y r k)
  have e0 : val_main_cst_4 (F := Ideal) (Shape.Idx.first Cert.LhReferenceIdeal.Gen.h_S_) = 0 := by pointwise [val_main_cst_4]
  simp only [e, e0, zero_add]
  rfl

/-- The mean's weights: a half of two over 1024. -/
theorem weight (x : EReal) : Ideal.div (Ideal.ofBits .f32 0x3F000000#32) (Ideal.ofBits .f32 0x44800000#32)
    * (Ideal.ofBits .f32 0x40000000#32 * x) = x * Ideal.ofBits .f32 0x3A800000#32 := by
  have h1 : Ideal.ofBits .f32 0x3F000000#32 = ((1 / 2 : ℝ) : EReal) := by simp [Ideal.ofBits, Ideal.ieee, -EReal.coe_mul]; norm_num
  have h3 : Ideal.ofBits .f32 0x3A800000#32 = ((1 / 1024 : ℝ) : EReal) := by simp [Ideal.ofBits, Ideal.ieee, -EReal.coe_mul]; norm_num
  rw [h1, h3, Lift.lit_1024, Lift.lit_two, Lift.div_coe_coe _ (by norm_num), ← mul_assoc, ← EReal.coe_mul, mul_comm]
  norm_num

theorem ref_slope : val_main_v41 (F := Ideal) z g b y = slope z g b y := by
  funext i
  idx_vars i
  pointwise [val_main_v41, val_main_v40, val_main_v39, val_main_v38, val_main_v37, val_main_v36, val_main_v30, val_main_v29,
    val_main_cst_5, val_main_cst_10, val_main_cst_11, val_main_cst_12]
  rw [ref_err]
  exact weight _

end Reference

/-! ## The claims -/

/-- The reference runs to its end, the two results as above and the arguments unchanged. -/
theorem run_reference (m : (ℓ : Loc Cert.LhReferenceIdeal.nD Cert.LhReferenceIdeal.τ Cert.LhReferenceIdeal.sig) → Buf (Elt Ideal) ℓ)
    (ρ : Dev Cert.LhReferenceIdeal.nD → PrngReg) : θ_run (Cert.LhReferenceIdeal.defs (F := Ideal)) (onTc (τ := Cert.LhReferenceIdeal.τ) (Cert.LhReferenceIdeal.main (F := Ideal)))
      ⟨m, fun _ => 0, ρ⟩ (fun r => ∀ c : Dev Cert.LhReferenceIdeal.nD,
        r.2.mem (c.tc.loc Cert.LhReferenceIdeal.main_v42) = squares (m (c.tc.loc Cert.LhReferenceIdeal.main_arg0)) (m (c.tc.loc Cert.LhReferenceIdeal.main_arg1)) (m (c.tc.loc Cert.LhReferenceIdeal.main_arg2)) (m (c.tc.loc Cert.LhReferenceIdeal.main_arg3))
        ∧ r.2.mem (c.tc.loc Cert.LhReferenceIdeal.main_v41) = slope (m (c.tc.loc Cert.LhReferenceIdeal.main_arg0)) (m (c.tc.loc Cert.LhReferenceIdeal.main_arg1)) (m (c.tc.loc Cert.LhReferenceIdeal.main_arg2)) (m (c.tc.loc Cert.LhReferenceIdeal.main_arg3))
        ∧ r.2.mem (c.tc.loc Cert.LhReferenceIdeal.main_arg0) = m (c.tc.loc Cert.LhReferenceIdeal.main_arg0)
        ∧ r.2.mem (c.tc.loc Cert.LhReferenceIdeal.main_arg1) = m (c.tc.loc Cert.LhReferenceIdeal.main_arg1)
        ∧ r.2.mem (c.tc.loc Cert.LhReferenceIdeal.main_arg2) = m (c.tc.loc Cert.LhReferenceIdeal.main_arg2)
        ∧ r.2.mem (c.tc.loc Cert.LhReferenceIdeal.main_arg3) = m (c.tc.loc Cert.LhReferenceIdeal.main_arg3)) :=
  (θ_run _ _ _).mono (fun _ h c => ⟨(h c).1.trans ((Cert.LhReferenceIdeal.Read.val_main_v42_eq _ _ _ _).trans (ref_squares _ _ _ _)),
    (h c).2.1.trans ((Cert.LhReferenceIdeal.Read.val_main_v41_eq _ _ _ _).trans (ref_slope _ _ _ _)), (h c).2.2⟩) (Cert.LhReferenceIdeal.Value.run m ρ)

/-- The reference runs to its end, its arguments unchanged; it declares no semaphore. -/
theorem frame_reference (m : (ℓ : Loc Cert.LhReferenceIdeal.nD Cert.LhReferenceIdeal.τ Cert.LhReferenceIdeal.sig) → Buf (Elt Ideal) ℓ)
    (ρ : Dev Cert.LhReferenceIdeal.nD → PrngReg) : θ_run (Cert.LhReferenceIdeal.defs (F := Ideal)) (onTc (τ := Cert.LhReferenceIdeal.τ) (Cert.LhReferenceIdeal.main (F := Ideal)))
      ⟨m, fun _ => 0, ρ⟩ (fun r => (∀ c : Dev Cert.LhReferenceIdeal.nD,
        r.2.mem (c.tc.loc Cert.LhReferenceIdeal.main_arg0) = m (c.tc.loc Cert.LhReferenceIdeal.main_arg0)
        ∧ r.2.mem (c.tc.loc Cert.LhReferenceIdeal.main_arg1) = m (c.tc.loc Cert.LhReferenceIdeal.main_arg1)
        ∧ r.2.mem (c.tc.loc Cert.LhReferenceIdeal.main_arg2) = m (c.tc.loc Cert.LhReferenceIdeal.main_arg2)
        ∧ r.2.mem (c.tc.loc Cert.LhReferenceIdeal.main_arg3) = m (c.tc.loc Cert.LhReferenceIdeal.main_arg3)) ∧ r.2.sem = fun _ => 0) :=
  (θ_run _ _ _).mono (fun _ h => ⟨fun c => (h c).2.2, sem_eq_zero_of_no_sems (by decide) _⟩) (run_reference m ρ)

/-- The kernel's two results are the reference's. -/
theorem algebraic : algebraic_LhKernelIdeal_LhReferenceIdeal := by
  pair_intro
  · run_from Cert.LhKernelIdeal.Value.run_blocks m g
  · run_from run_reference m' g'
    · exact (final_squares m c).symm
    · exact (final_slope m c).symm

end Cert.LhValue

end
-- ==== Proof.OutMath.lean ====
/- The activation that a layer leaves: the scaled activation before it plus a product, and its normalised, scaled and shifted rows. -/
module

public import proofs.«01_k».proof.Proof.LnValue

@[expose] public section

noncomputable section

open Idealize.ShloMosaic

namespace Cert.OutMath

open Cert.NormMath
open Cert.LnValue (zRow α)

/-- The rows of an activation, and a vector of their length. -/
abbrev Rows := (⟨2, ![8192, 1024]⟩ : Shape).Idx → EReal
abbrev Line := (⟨1, ![1024]⟩ : Shape).Idx → EReal

/-- The rows normalised, scaled and shifted. -/
def normed (z : Rows) (g b : Line) : Rows := fun i => xhat (zRow z (i 0)) (i 1) * g (ix1 (i 1)) + b (ix1 (i 1))

/-- The scaled activation plus the product. -/
def mixed {K : ℕ} (a : (⟨2, ![8192, K]⟩ : Shape).Idx → EReal) (w : (⟨2, ![K, 1024]⟩ : Shape).Idx → EReal) (r : Rows) : Rows :=
  fun i => α * r i + ∑ k : Fin K, a (ix2 (i 0) k) * w (ix2 k (i 1))

/-- A row of a block of 1024 rows. -/
theorem lt_rows {N : ℕ} (h : N = 8) (t : Fin N) (r : Fin 1024) : t.val * 1024 + r.val < 8192 := by
  have := t.isLt; omega

end Cert.OutMath

end
-- ==== Proof.OutaValue.lean ====
/- The end of the first layer's mixer: the scaled activation plus the product and its normalised rows, that the kernel leaves in its
   two results, and that the reference's lines give, the same over the extended reals. -/
module

public import proofs.«01_k».proof.Defs
public import proofs.«01_k».proof.Proof.OutMath
public import proofs.«01_k».proof.Proof.Gen.OutaKernelIdeal.Value
public import proofs.«01_k».proof.Proof.Gen.OutaReferenceIdeal.Run
public import proofs.«01_k».proof.Proof.Gen.OutaReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutaValue

open Cert.OutaKernelIdeal Cert.OutaKernelIdeal.Gen Cert.NormMath Cert.OutMath
open Cert.LnValue (zRow α)

/-! ## The kernel -/

section Payloads

variable (a : Vec Ideal S1024x1024 .bf16) (w : Vec Ideal S1024x1024 .bf16) (z : Vec Ideal S1024x1024 .f32) (g b : Vec Ideal S1x1024 .f32) (r k : Fin 1024)

theorem pay_mixed : k0_pay1 (F := Ideal) z a w (ix2 r k)
    = α * (z (ix2 r k)) + ∑ q : Fin 1024, a (ix2 r q) * w (ix2 q k) := by
  pointwise [k0_pay1]

theorem pay_normed : k0_pay2 (F := Ideal) z a w g b (ix2 r k)
    = xhat (fun k => k0_pay1 z a w (ix2 r k)) k * g (ix2 0 k) + b (ix2 0 k) := by
  pointwise [k0_pay2]
  rfl

end Payloads

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] := by
  decide +kernel

/-- The kernel's arguments. -/
abbrev argA : Vec Ideal S8192x1024 .f32 := m (c.tc.loc main_arg0)
abbrev argW : Vec Ideal S1024x1024 .f32 := m (c.tc.loc main_arg1)
abbrev argR : Vec Ideal S8192x1024 .f32 := m (c.tc.loc main_arg2)
abbrev argG : Vec Ideal S1024 .f32 := m (c.tc.loc main_arg3)
abbrev argB : Vec Ideal S1024 .f32 := m (c.tc.loc main_arg4)

/-- The activation of the kernel's arguments. -/
abbrev zOf : Rows := mixed (argA m c) (argW m c) (argR m c)

abbrev row (t : Fin cfg0.N) (r : Fin 1024) : Fin 8192 := ⟨t.val * 1024 + r.val, lt_rows N_0 t r⟩

theorem blk_r (t : Fin cfg0.N) (r k : Fin 1024) : iblk m c 2 t (ix2 r k) = argR m c (ix2 (row t r) k) := by
  blk_ext [iblk, V, idx t]
theorem blk_a (t : Fin cfg0.N) (r : Fin 1024) (q : Fin 1024) : iblk m c 0 t (ix2 r q) = argA m c (ix2 (row t r) q) := by
  unfold iblk
  rw [View.read_apply]
  show V m c main_v0 _ = _
  entry_read
  pointwise
  blk_ext [idx t]
theorem blk_w (t : Fin cfg0.N) (q : Fin 1024) (k : Fin 1024) : iblk m c 1 t (ix2 q k) = argW m c (ix2 q k) := by
  unfold iblk
  rw [View.read_apply]
  show V m c main_v1 _ = _
  entry_read
  pointwise
  blk_ext [idx t]
theorem blk_g (t : Fin cfg0.N) (k : Fin 1024) : iblk m c 3 t (ix2 0 k) = argG m c (ix1 k) := by
  unfold iblk
  rw [View.read_apply]
  show V m c main_v2 _ = _
  entry_read
  pointwise
  blk_ext [idx t]
theorem blk_b (t : Fin cfg0.N) (k : Fin 1024) : iblk m c 4 t (ix2 0 k) = argB m c (ix1 k) := by
  unfold iblk
  rw [View.read_apply]
  show V m c main_v3 _ = _
  entry_read
  pointwise
  blk_ext [idx t]

theorem point_mixed (t : Fin cfg0.N) (r k : Fin 1024) : k0_pay1 (iblk m c 2 t) (iblk m c 0 t) (iblk m c 1 t) (ix2 r k) = zOf m c (ix2 (row t r) k) := by
  rw [pay_mixed]
  simp only [blk_r, blk_a, blk_w]
  rfl

theorem emb_mixed (t : Fin cfg0.N) (r k : Fin 1024) : ((View.whole main_v4_0).slice (win0_5.rect t)).emb (ix2 r k) = ix2 (row t r) k := by
  blk_ext [idx t]
theorem emb_normed (t : Fin cfg0.N) (r k : Fin 1024) : ((View.whole main_v4_1).slice (win0_6.rect t)).emb (ix2 r k) = ix2 (row t r) k := by
  blk_ext [idx t]

theorem final_mixed : (dats m 0 c).arrAt 5 cfg0.N = zOf m c := by
  refine (dats m 0 c).arrAt_eq_of_covers 5 _ (by decide +kernel) fun t hf y => ?_
  blk_simp
  rw [after0_5]
  obtain ⟨r, k, rfl⟩ : ∃ r k : Fin 1024, y = ix2 r k := ⟨y 0, y 1, eq_ix2 y⟩
  rw [emb_mixed, ← point_mixed]
  frame_out

theorem final_normed : (dats m 0 c).arrAt 6 cfg0.N = normed (zOf m c) (argG m c) (argB m c) := by
  refine (dats m 0 c).arrAt_eq_of_covers 6 _ (by decide +kernel) fun t hf y => ?_
  blk_simp
  rw [after0_6]
  obtain ⟨r, k, rfl⟩ : ∃ r k : Fin 1024, y = ix2 r k := ⟨y 0, y 1, eq_ix2 y⟩
  rw [emb_normed]
  frame_out
  rw [pay_normed]
  simp only [point_mixed, blk_g, blk_b]
  rfl

/-! ## The reference -/

section Reference

open Cert.OutaReferenceIdeal.Read

variable (a : Vec Ideal S8192x1024 .f32) (w : Vec Ideal S1024x1024 .f32) (r : Vec Ideal S8192x1024 .f32) (g b : Vec Ideal S1024 .f32)

theorem ref_mixed : val_main_v3 (F := Ideal) a w r = mixed a w r := by
  funext i
  idx_vars i
  pointwise [val_main_v3, val_main_v2, val_main_v1, val_main_v0, val_main_cst]
  rfl

theorem ref_normed : val_main_v28 (F := Ideal) a w r g b = normed (mixed a w r) g b := by
  funext i
  idx_vars i
  pointwise [val_main_v28, val_main_v27, val_main_v26, val_main_v25, val_main_v24, val_main_v23, val_main_v22]
  rw [show ∀ i, val_main_v21 (F := Ideal) a w r i = Cert.LnReferenceIdeal.Read.val_main_v22 (F := Ideal) (val_main_v3 (F := Ideal) a w r) i from fun _ => rfl,
    ref_mixed, Cert.LnValue.ref_xhat]
  rfl

end Reference

/-! ## The claims -/

/-- The reference runs to its end, its results as above and the arguments unchanged. -/
theorem run_reference (m : (ℓ : Loc Cert.OutaReferenceIdeal.nD Cert.OutaReferenceIdeal.τ Cert.OutaReferenceIdeal.sig) → Buf (Elt Ideal) ℓ)
    (ρ : Dev Cert.OutaReferenceIdeal.nD → PrngReg) : θ_run (Cert.OutaReferenceIdeal.defs (F := Ideal)) (onTc (τ := Cert.OutaReferenceIdeal.τ) (Cert.OutaReferenceIdeal.main (F := Ideal)))
      ⟨m, fun _ => 0, ρ⟩ (fun r => ∀ c : Dev Cert.OutaReferenceIdeal.nD,
        r.2.mem (c.tc.loc Cert.OutaReferenceIdeal.main_v3) = mixed (m (c.tc.loc Cert.OutaReferenceIdeal.main_arg0)) (m (c.tc.loc Cert.OutaReferenceIdeal.main_arg1)) (m (c.tc.loc Cert.OutaReferenceIdeal.main_arg2))
        ∧ r.2.mem (c.tc.loc Cert.OutaReferenceIdeal.main_v28) = normed (mixed (m (c.tc.loc Cert.OutaReferenceIdeal.main_arg0)) (m (c.tc.loc Cert.OutaReferenceIdeal.main_arg1)) (m (c.tc.loc Cert.OutaReferenceIdeal.main_arg2))) (m (c.tc.loc Cert.OutaReferenceIdeal.main_arg3)) (m (c.tc.loc Cert.OutaReferenceIdeal.main_arg4))
        ∧ r.2.mem (c.tc.loc Cert.OutaReferenceIdeal.main_arg0) = m (c.tc.loc Cert.OutaReferenceIdeal.main_arg0)
        ∧ r.2.mem (c.tc.loc Cert.OutaReferenceIdeal.main_arg1) = m (c.tc.loc Cert.OutaReferenceIdeal.main_arg1)
        ∧ r.2.mem (c.tc.loc Cert.OutaReferenceIdeal.main_arg2) = m (c.tc.loc Cert.OutaReferenceIdeal.main_arg2)
        ∧ r.2.mem (c.tc.loc Cert.OutaReferenceIdeal.main_arg3) = m (c.tc.loc Cert.OutaReferenceIdeal.main_arg3)
        ∧ r.2.mem (c.tc.loc Cert.OutaReferenceIdeal.main_arg4) = m (c.tc.loc Cert.OutaReferenceIdeal.main_arg4)) :=
  (θ_run _ _ _).mono (fun _ h c => ⟨(h c).1.trans ((Cert.OutaReferenceIdeal.Read.val_main_v3_eq _ _ _).trans (ref_mixed _ _ _)),
    (h c).2.1.trans ((Cert.OutaReferenceIdeal.Read.val_main_v28_eq _ _ _ _ _).trans (ref_normed _ _ _ _ _)),
    (h c).2.2⟩) (Cert.OutaReferenceIdeal.Value.run m ρ)

/-- The reference runs to its end, its arguments unchanged; it declares no semaphore. -/
theorem frame_reference (m : (ℓ : Loc Cert.OutaReferenceIdeal.nD Cert.OutaReferenceIdeal.τ Cert.OutaReferenceIdeal.sig) → Buf (Elt Ideal) ℓ)
    (ρ : Dev Cert.OutaReferenceIdeal.nD → PrngReg) : θ_run (Cert.OutaReferenceIdeal.defs (F := Ideal)) (onTc (τ := Cert.OutaReferenceIdeal.τ) (Cert.OutaReferenceIdeal.main (F := Ideal)))
      ⟨m, fun _ => 0, ρ⟩ (fun r => (∀ c : Dev Cert.OutaReferenceIdeal.nD,
        r.2.mem (c.tc.loc Cert.OutaReferenceIdeal.main_arg0) = m (c.tc.loc Cert.OutaReferenceIdeal.main_arg0)
        ∧ r.2.mem (c.tc.loc Cert.OutaReferenceIdeal.main_arg1) = m (c.tc.loc Cert.OutaReferenceIdeal.main_arg1)
        ∧ r.2.mem (c.tc.loc Cert.OutaReferenceIdeal.main_arg2) = m (c.tc.loc Cert.OutaReferenceIdeal.main_arg2)
        ∧ r.2.mem (c.tc.loc Cert.OutaReferenceIdeal.main_arg3) = m (c.tc.loc Cert.OutaReferenceIdeal.main_arg3)
        ∧ r.2.mem (c.tc.loc Cert.OutaReferenceIdeal.main_arg4) = m (c.tc.loc Cert.OutaReferenceIdeal.main_arg4)) ∧ r.2.sem = fun _ => 0) :=
  (θ_run _ _ _).mono (fun _ h => ⟨fun c => (h c).2.2, sem_eq_zero_of_no_sems (by decide) _⟩) (run_reference m ρ)

/-- The kernel's two results are the reference's. -/
theorem algebraic : algebraic_OutaKernelIdeal_OutaReferenceIdeal := by
  pair_intro
  · run_from Cert.OutaKernelIdeal.Value.run_blocks m g
  · run_from run_reference m' g'
    · exact (final_mixed m c).symm
    · exact (final_normed m c).symm

end Cert.OutaValue

end
-- ==== Proof.OutcValue.lean ====
/- The end of a convolution layer's mixer: the scaled activation plus the product and its normalised rows, that the kernel leaves in its
   two results, and that the reference's lines give, the same over the extended reals. -/
module

public import proofs.«01_k».proof.Defs
public import proofs.«01_k».proof.Proof.OutMath
public import proofs.«01_k».proof.Proof.Gen.OutcKernelIdeal.Value
public import proofs.«01_k».proof.Proof.Gen.OutcReferenceIdeal.Run
public import proofs.«01_k».proof.Proof.Gen.OutcReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutcValue

open Cert.OutcKernelIdeal Cert.OutcKernelIdeal.Gen Cert.NormMath Cert.OutMath
open Cert.LnValue (zRow α)

/-! ## The kernel -/

section Payloads

variable (a : Vec Ideal S1024x1024 .bf16) (w : Vec Ideal S1024x1024 .bf16) (z : Vec Ideal S1024x1024 .f32) (g b : Vec Ideal S1x1024 .f32) (g0 b0 : Vec Ideal S1x1024 .f32) (r k : Fin 1024)

theorem pay_mixed : k0_pay2 (F := Ideal) z g0 b0 a w (ix2 r k)
    = α * (xhat (fun k => z (ix2 r k)) k * g0 (ix2 0 k) + b0 (ix2 0 k)) + ∑ q : Fin 1024, a (ix2 r q) * w (ix2 q k) := by
  pointwise [k0_pay2]
  rfl

theorem pay_normed : k0_pay1 (F := Ideal) (k0_pay2 z g0 b0 a w) (k0_pay3 g) b (ix2 r k)
    = xhat (fun k => k0_pay2 z g0 b0 a w (ix2 r k)) k * g (ix2 0 k) + b (ix2 0 k) := by
  pointwise [k0_pay1, k0_pay3]
  rfl

end Payloads

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![t.val, 0] ∧ win0_8.index t = ![t.val, 0] := by
  decide +kernel

/-- The kernel's arguments. -/
abbrev argA : Vec Ideal S8192x1024 .f32 := m (c.tc.loc main_arg0)
abbrev argW : Vec Ideal S1024x1024 .f32 := m (c.tc.loc main_arg1)
abbrev argR : Vec Ideal S8192x1024 .f32 := m (c.tc.loc main_arg2)
abbrev argG : Vec Ideal S1024 .f32 := m (c.tc.loc main_arg3)
abbrev argB : Vec Ideal S1024 .f32 := m (c.tc.loc main_arg4)
abbrev argG0 : Vec Ideal S1024 .f32 := m (c.tc.loc main_arg5)
abbrev argB0 : Vec Ideal S1024 .f32 := m (c.tc.loc main_arg6)

/-- The activation of the kernel's arguments. -/
abbrev zOf : Rows := mixed (argA m c) (argW m c) (normed (argR m c) (argG0 m c) (argB0 m c))

abbrev row (t : Fin cfg0.N) (r : Fin 1024) : Fin 8192 := ⟨t.val * 1024 + r.val, lt_rows N_0 t r⟩

theorem blk_r (t : Fin cfg0.N) (r k : Fin 1024) : iblk m c 2 t (ix2 r k) = argR m c (ix2 (row t r) k) := by
  blk_ext [iblk, V, idx t]
theorem blk_a (t : Fin cfg0.N) (r : Fin 1024) (q : Fin 1024) : iblk m c 0 t (ix2 r q) = argA m c (ix2 (row t r) q) := by
  unfold iblk
  rw [View.read_apply]
  show V m c main_v0 _ = _
  entry_read
  pointwise
  blk_ext [idx t]
theorem blk_w (t : Fin cfg0.N) (q : Fin 1024) (k : Fin 1024) : iblk m c 1 t (ix2 q k) = argW m c (ix2 q k) := by
  unfold iblk
  rw [View.read_apply]
  show V m c main_v1 _ = _
  entry_read
  pointwise
  blk_ext [idx t]
theorem blk_g (t : Fin cfg0.N) (k : Fin 1024) : iblk m c 3 t (ix2 0 k) = argG m c (ix1 k) := by
  unfold iblk
  rw [View.read_apply]
  show V m c main_v2 _ = _
  entry_read
  pointwise
  blk_ext [idx t]
theorem blk_b (t : Fin cfg0.N) (k : Fin 1024) : iblk m c 4 t (ix2 0 k) = argB m c (ix1 k) := by
  unfold iblk
  rw [View.read_apply]
  show V m c main_v3 _ = _
  entry_read
  pointwise
  blk_ext [idx t]
theorem blk_g0 (t : Fin cfg0.N) (k : Fin 1024) : iblk m c 5 t (ix2 0 k) = argG0 m c (ix1 k) := by
  unfold iblk
  rw [View.read_apply]
  show V m c main_v4 _ = _
  entry_read
  pointwise
  blk_ext [idx t]
theorem blk_b0 (t : Fin cfg0.N) (k : Fin 1024) : iblk m c 6 t (ix2 0 k) = argB0 m c (ix1 k) := by
  unfold iblk
  rw [View.read_apply]
  show V m c main_v5 _ = _
  entry_read
  pointwise
  blk_ext [idx t]

theorem point_mixed (t : Fin cfg0.N) (r k : Fin 1024) : k0_pay2 (iblk m c 2 t) (iblk m c 5 t) (iblk m c 6 t) (iblk m c 0 t) (iblk m c 1 t) (ix2 r k) = zOf m c (ix2 (row t r) k) := by
  rw [pay_mixed]
  simp only [blk_r, blk_a, blk_w, blk_g0, blk_b0]
  rfl

theorem emb_mixed (t : Fin cfg0.N) (r k : Fin 1024) : ((View.whole main_v6_0).slice (win0_7.rect t)).emb (ix2 r k) = ix2 (row t r) k := by
  blk_ext [idx t]
theorem emb_normed (t : Fin cfg0.N) (r k : Fin 1024) : ((View.whole main_v6_1).slice (win0_8.rect t)).emb (ix2 r k) = ix2 (row t r) k := by
  blk_ext [idx t]

theorem final_mixed : (dats m 0 c).arrAt 7 cfg0.N = zOf m c := by
  refine (dats m 0 c).arrAt_eq_of_covers 7 _ (by decide +kernel) fun t hf y => ?_
  blk_simp
  rw [after0_7]
  obtain ⟨r, k, rfl⟩ : ∃ r k : Fin 1024, y = ix2 r k := ⟨y 0, y 1, eq_ix2 y⟩
  rw [emb_mixed, ← point_mixed]
  frame_out

theorem final_normed : (dats m 0 c).arrAt 8 cfg0.N = normed (zOf m c) (argG m c) (argB m c) := by
  refine (dats m 0 c).arrAt_eq_of_covers 8 _ (by decide +kernel) fun t hf y => ?_
  blk_simp
  rw [after0_8]
  obtain ⟨r, k, rfl⟩ : ∃ r k : Fin 1024, y = ix2 r k := ⟨y 0, y 1, eq_ix2 y⟩
  rw [emb_normed]
  frame_out
  rw [pay_normed]
  simp only [point_mixed, blk_g, blk_b]
  rfl

/-! ## The reference -/

section Reference

open Cert.OutcReferenceIdeal.Read

variable (a : Vec Ideal S8192x1024 .f32) (w : Vec Ideal S1024x1024 .f32) (r : Vec Ideal S8192x1024 .f32) (g b g0 b0 : Vec Ideal S1024 .f32)

theorem ref_before : val_main_v23 (F := Ideal) r g0 b0 = normed r g0 b0 := by
  funext i
  idx_vars i
  pointwise [val_main_v23, val_main_v22, val_main_v21, val_main_v20, val_main_v19, val_main_v18]
  rw [show ∀ i, val_main_v17 (F := Ideal) r i = Cert.LnReferenceIdeal.Read.val_main_v22 (F := Ideal) r i from fun _ => rfl, Cert.LnValue.ref_xhat]
  rfl

theorem ref_mixed : val_main_v27 (F := Ideal) a w r g0 b0 = mixed a w (normed r g0 b0) := by
  funext i
  idx_vars i
  pointwise [val_main_v27, val_main_v26, val_main_v25, val_main_v24, val_main_cst_4]
  rw [ref_before]
  rfl

theorem ref_normed : val_main_v52 (F := Ideal) a w r g b g0 b0 = normed (mixed a w (normed r g0 b0)) g b := by
  funext i
  idx_vars i
  pointwise [val_main_v52, val_main_v51, val_main_v50, val_main_v49, val_main_v48, val_main_v47, val_main_v46]
  rw [show ∀ i, val_main_v45 (F := Ideal) a w r g0 b0 i = Cert.LnReferenceIdeal.Read.val_main_v22 (F := Ideal) (val_main_v27 (F := Ideal) a w r g0 b0) i from fun _ => rfl,
    ref_mixed, Cert.LnValue.ref_xhat]
  rfl

end Reference

/-! ## The claims -/

/-- The reference runs to its end, its results as above and the arguments unchanged. -/
theorem run_reference (m : (ℓ : Loc Cert.OutcReferenceIdeal.nD Cert.OutcReferenceIdeal.τ Cert.OutcReferenceIdeal.sig) → Buf (Elt Ideal) ℓ)
    (ρ : Dev Cert.OutcReferenceIdeal.nD → PrngReg) : θ_run (Cert.OutcReferenceIdeal.defs (F := Ideal)) (onTc (τ := Cert.OutcReferenceIdeal.τ) (Cert.OutcReferenceIdeal.main (F := Ideal)))
      ⟨m, fun _ => 0, ρ⟩ (fun r => ∀ c : Dev Cert.OutcReferenceIdeal.nD,
        r.2.mem (c.tc.loc Cert.OutcReferenceIdeal.main_v27) = mixed (m (c.tc.loc Cert.OutcReferenceIdeal.main_arg0)) (m (c.tc.loc Cert.OutcReferenceIdeal.main_arg1)) (normed (m (c.tc.loc Cert.OutcReferenceIdeal.main_arg2)) (m (c.tc.loc Cert.OutcReferenceIdeal.main_arg5)) (m (c.tc.loc Cert.OutcReferenceIdeal.main_arg6)))
        ∧ r.2.mem (c.tc.loc Cert.OutcReferenceIdeal.main_v52) = normed (mixed (m (c.tc.loc Cert.OutcReferenceIdeal.main_arg0)) (m (c.tc.loc Cert.OutcReferenceIdeal.main_arg1)) (normed (m (c.tc.loc Cert.OutcReferenceIdeal.main_arg2)) (m (c.tc.loc Cert.OutcReferenceIdeal.main_arg5)) (m (c.tc.loc Cert.OutcReferenceIdeal.main_arg6)))) (m (c.tc.loc Cert.OutcReferenceIdeal.main_arg3)) (m (c.tc.loc Cert.OutcReferenceIdeal.main_arg4))
        ∧ r.2.mem (c.tc.loc Cert.OutcReferenceIdeal.main_arg0) = m (c.tc.loc Cert.OutcReferenceIdeal.main_arg0)
        ∧ r.2.mem (c.tc.loc Cert.OutcReferenceIdeal.main_arg1) = m (c.tc.loc Cert.OutcReferenceIdeal.main_arg1)
        ∧ r.2.mem (c.tc.loc Cert.OutcReferenceIdeal.main_arg2) = m (c.tc.loc Cert.OutcReferenceIdeal.main_arg2)
        ∧ r.2.mem (c.tc.loc Cert.OutcReferenceIdeal.main_arg3) = m (c.tc.loc Cert.OutcReferenceIdeal.main_arg3)
        ∧ r.2.mem (c.tc.loc Cert.OutcReferenceIdeal.main_arg4) = m (c.tc.loc Cert.OutcReferenceIdeal.main_arg4)
        ∧ r.2.mem (c.tc.loc Cert.OutcReferenceIdeal.main_arg5) = m (c.tc.loc Cert.OutcReferenceIdeal.main_arg5)
        ∧ r.2.mem (c.tc.loc Cert.OutcReferenceIdeal.main_arg6) = m (c.tc.loc Cert.OutcReferenceIdeal.main_arg6)) :=
  (θ_run _ _ _).mono (fun _ h c => ⟨(h c).1.trans ((Cert.OutcReferenceIdeal.Read.val_main_v27_eq _ _ _ _ _).trans (ref_mixed _ _ _ _ _)),
    (h c).2.1.trans ((Cert.OutcReferenceIdeal.Read.val_main_v52_eq m c).trans (ref_normed _ _ _ _ _ _ _)),
    (h c).2.2⟩) (Cert.OutcReferenceIdeal.Value.run m ρ)

/-- The reference runs to its end, its arguments unchanged; it declares no semaphore. -/
theorem frame_reference (m : (ℓ : Loc Cert.OutcReferenceIdeal.nD Cert.OutcReferenceIdeal.τ Cert.OutcReferenceIdeal.sig) → Buf (Elt Ideal) ℓ)
    (ρ : Dev Cert.OutcReferenceIdeal.nD → PrngReg) : θ_run (Cert.OutcReferenceIdeal.defs (F := Ideal)) (onTc (τ := Cert.OutcReferenceIdeal.τ) (Cert.OutcReferenceIdeal.main (F := Ideal)))
      ⟨m, fun _ => 0, ρ⟩ (fun r => (∀ c : Dev Cert.OutcReferenceIdeal.nD,
        r.2.mem (c.tc.loc Cert.OutcReferenceIdeal.main_arg0) = m (c.tc.loc Cert.OutcReferenceIdeal.main_arg0)
        ∧ r.2.mem (c.tc.loc Cert.OutcReferenceIdeal.main_arg1) = m (c.tc.loc Cert.OutcReferenceIdeal.main_arg1)
        ∧ r.2.mem (c.tc.loc Cert.OutcReferenceIdeal.main_arg2) = m (c.tc.loc Cert.OutcReferenceIdeal.main_arg2)
        ∧ r.2.mem (c.tc.loc Cert.OutcReferenceIdeal.main_arg3) = m (c.tc.loc Cert.OutcReferenceIdeal.main_arg3)
        ∧ r.2.mem (c.tc.loc Cert.OutcReferenceIdeal.main_arg4) = m (c.tc.loc Cert.OutcReferenceIdeal.main_arg4)
        ∧ r.2.mem (c.tc.loc Cert.OutcReferenceIdeal.main_arg5) = m (c.tc.loc Cert.OutcReferenceIdeal.main_arg5)
        ∧ r.2.mem (c.tc.loc Cert.OutcReferenceIdeal.main_arg6) = m (c.tc.loc Cert.OutcReferenceIdeal.main_arg6)) ∧ r.2.sem = fun _ => 0) :=
  (θ_run _ _ _).mono (fun _ h => ⟨fun c => (h c).2.2, sem_eq_zero_of_no_sems (by decide) _⟩) (run_reference m ρ)

/-- The kernel's two results are the reference's. -/
theorem algebraic : algebraic_OutcKernelIdeal_OutcReferenceIdeal := by
  pair_intro
  · run_from Cert.OutcKernelIdeal.Value.run_blocks m g
  · run_from run_reference m' g'
    · exact (final_mixed m c).symm
    · exact (final_normed m c).symm

end Cert.OutcValue

end
-- ==== Proof.OutrValue.lean ====
/- The end of a recurrent layer's mixer: the scaled activation plus the product and its normalised rows, that the kernel leaves in its
   two results, and that the reference's lines give, the same over the extended reals. -/
module

public import proofs.«01_k».proof.Defs
public import proofs.«01_k».proof.Proof.OutMath
public import proofs.«01_k».proof.Proof.Gen.OutrKernelIdeal.Value
public import proofs.«01_k».proof.Proof.Gen.OutrReferenceIdeal.Run
public import proofs.«01_k».proof.Proof.Gen.OutrReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutrValue

open Cert.OutrKernelIdeal Cert.OutrKernelIdeal.Gen Cert.NormMath Cert.OutMath
open Cert.LnValue (zRow α)

/-! ## The kernel -/

section Payloads

variable (a : Vec Ideal S1024x1280 .bf16) (w : Vec Ideal S1280x1024 .bf16) (z : Vec Ideal S1024x1024 .f32) (g b : Vec Ideal S1x1024 .f32) (g0 b0 : Vec Ideal S1x1024 .f32) (r k : Fin 1024)

theorem pay_mixed : k0_pay2 (F := Ideal) z g0 b0 a w (ix2 r k)
    = α * (xhat (fun k => z (ix2 r k)) k * g0 (ix2 0 k) + b0 (ix2 0 k)) + ∑ q : Fin 1280, a (ix2 r q) * w (ix2 q k) := by
  pointwise [k0_pay2]
  rfl

theorem pay_normed : k0_pay1 (F := Ideal) (k0_pay2 z g0 b0 a w) (k0_pay3 g) b (ix2 r k)
    = xhat (fun k => k0_pay2 z g0 b0 a w (ix2 r k)) k * g (ix2 0 k) + b (ix2 0 k) := by
  pointwise [k0_pay1, k0_pay3]
  rfl

end Payloads

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![t.val, 0] ∧ win0_8.index t = ![t.val, 0] := by
  decide +kernel

/-- The kernel's arguments. -/
abbrev argA : Vec Ideal S8192x1280 .f32 := m (c.tc.loc main_arg0)
abbrev argW : Vec Ideal S1280x1024 .f32 := m (c.tc.loc main_arg1)
abbrev argR : Vec Ideal S8192x1024 .f32 := m (c.tc.loc main_arg2)
abbrev argG : Vec Ideal S1024 .f32 := m (c.tc.loc main_arg3)
abbrev argB : Vec Ideal S1024 .f32 := m (c.tc.loc main_arg4)
abbrev argG0 : Vec Ideal S1024 .f32 := m (c.tc.loc main_arg5)
abbrev argB0 : Vec Ideal S1024 .f32 := m (c.tc.loc main_arg6)

/-- The activation of the kernel's arguments. -/
abbrev zOf : Rows := mixed (argA m c) (argW m c) (normed (argR m c) (argG0 m c) (argB0 m c))

abbrev row (t : Fin cfg0.N) (r : Fin 1024) : Fin 8192 := ⟨t.val * 1024 + r.val, lt_rows N_0 t r⟩

theorem blk_r (t : Fin cfg0.N) (r k : Fin 1024) : iblk m c 2 t (ix2 r k) = argR m c (ix2 (row t r) k) := by
  blk_ext [iblk, V, idx t]
theorem blk_a (t : Fin cfg0.N) (r : Fin 1024) (q : Fin 1280) : iblk m c 0 t (ix2 r q) = argA m c (ix2 (row t r) q) := by
  unfold iblk
  rw [View.read_apply]
  show V m c main_v0 _ = _
  entry_read
  pointwise
  blk_ext [idx t]
theorem blk_w (t : Fin cfg0.N) (q : Fin 1280) (k : Fin 1024) : iblk m c 1 t (ix2 q k) = argW m c (ix2 q k) := by
  unfold iblk
  rw [View.read_apply]
  show V m c main_v1 _ = _
  entry_read
  pointwise
  blk_ext [idx t]
theorem blk_g (t : Fin cfg0.N) (k : Fin 1024) : iblk m c 3 t (ix2 0 k) = argG m c (ix1 k) := by
  unfold iblk
  rw [View.read_apply]
  show V m c main_v2 _ = _
  entry_read
  pointwise
  blk_ext [idx t]
theorem blk_b (t : Fin cfg0.N) (k : Fin 1024) : iblk m c 4 t (ix2 0 k) = argB m c (ix1 k) := by
  unfold iblk
  rw [View.read_apply]
  show V m c main_v3 _ = _
  entry_read
  pointwise
  blk_ext [idx t]
theorem blk_g0 (t : Fin cfg0.N) (k : Fin 1024) : iblk m c 5 t (ix2 0 k) = argG0 m c (ix1 k) := by
  unfold iblk
  rw [View.read_apply]
  show V m c main_v4 _ = _
  entry_read
  pointwise
  blk_ext [idx t]
theorem blk_b0 (t : Fin cfg0.N) (k : Fin 1024) : iblk m c 6 t (ix2 0 k) = argB0 m c (ix1 k) := by
  unfold iblk
  rw [View.read_apply]
  show V m c main_v5 _ = _
  entry_read
  pointwise
  blk_ext [idx t]

theorem point_mixed (t : Fin cfg0.N) (r k : Fin 1024) : k0_pay2 (iblk m c 2 t) (iblk m c 5 t) (iblk m c 6 t) (iblk m c 0 t) (iblk m c 1 t) (ix2 r k) = zOf m c (ix2 (row t r) k) := by
  rw [pay_mixed]
  simp only [blk_r, blk_a, blk_w, blk_g0, blk_b0]
  rfl

theorem emb_mixed (t : Fin cfg0.N) (r k : Fin 1024) : ((View.whole main_v6_0).slice (win0_7.rect t)).emb (ix2 r k) = ix2 (row t r) k := by
  blk_ext [idx t]
theorem emb_normed (t : Fin cfg0.N) (r k : Fin 1024) : ((View.whole main_v6_1).slice (win0_8.rect t)).emb (ix2 r k) = ix2 (row t r) k := by
  blk_ext [idx t]

theorem final_mixed : (dats m 0 c).arrAt 7 cfg0.N = zOf m c := by
  refine (dats m 0 c).arrAt_eq_of_covers 7 _ (by decide +kernel) fun t hf y => ?_
  blk_simp
  rw [after0_7]
  obtain ⟨r, k, rfl⟩ : ∃ r k : Fin 1024, y = ix2 r k := ⟨y 0, y 1, eq_ix2 y⟩
  rw [emb_mixed, ← point_mixed]
  frame_out

theorem final_normed : (dats m 0 c).arrAt 8 cfg0.N = normed (zOf m c) (argG m c) (argB m c) := by
  refine (dats m 0 c).arrAt_eq_of_covers 8 _ (by decide +kernel) fun t hf y => ?_
  blk_simp
  rw [after0_8]
  obtain ⟨r, k, rfl⟩ : ∃ r k : Fin 1024, y = ix2 r k := ⟨y 0, y 1, eq_ix2 y⟩
  rw [emb_normed]
  frame_out
  rw [pay_normed]
  simp only [point_mixed, blk_g, blk_b]
  rfl

/-! ## The reference -/

section Reference

open Cert.OutrReferenceIdeal.Read

variable (a : Vec Ideal S8192x1280 .f32) (w : Vec Ideal S1280x1024 .f32) (r : Vec Ideal S8192x1024 .f32) (g b g0 b0 : Vec Ideal S1024 .f32)

theorem ref_before : val_main_v23 (F := Ideal) r g0 b0 = normed r g0 b0 := by
  funext i
  idx_vars i
  pointwise [val_main_v23, val_main_v22, val_main_v21, val_main_v20, val_main_v19, val_main_v18]
  rw [show ∀ i, val_main_v17 (F := Ideal) r i = Cert.LnReferenceIdeal.Read.val_main_v22 (F := Ideal) r i from fun _ => rfl, Cert.LnValue.ref_xhat]
  rfl

theorem ref_mixed : val_main_v27 (F := Ideal) a w r g0 b0 = mixed a w (normed r g0 b0) := by
  funext i
  idx_vars i
  pointwise [val_main_v27, val_main_v26, val_main_v25, val_main_v24, val_main_cst_4]
  rw [ref_before]
  rfl

theorem ref_normed : val_main_v52 (F := Ideal) a w r g b g0 b0 = normed (mixed a w (normed r g0 b0)) g b := by
  funext i
  idx_vars i
  pointwise [val_main_v52, val_main_v51, val_main_v50, val_main_v49, val_main_v48, val_main_v47, val_main_v46]
  rw [show ∀ i, val_main_v45 (F := Ideal) a w r g0 b0 i = Cert.LnReferenceIdeal.Read.val_main_v22 (F := Ideal) (val_main_v27 (F := Ideal) a w r g0 b0) i from fun _ => rfl,
    ref_mixed, Cert.LnValue.ref_xhat]
  rfl

end Reference

/-! ## The claims -/

/-- The reference runs to its end, its results as above and the arguments unchanged. -/
theorem run_reference (m : (ℓ : Loc Cert.OutrReferenceIdeal.nD Cert.OutrReferenceIdeal.τ Cert.OutrReferenceIdeal.sig) → Buf (Elt Ideal) ℓ)
    (ρ : Dev Cert.OutrReferenceIdeal.nD → PrngReg) : θ_run (Cert.OutrReferenceIdeal.defs (F := Ideal)) (onTc (τ := Cert.OutrReferenceIdeal.τ) (Cert.OutrReferenceIdeal.main (F := Ideal)))
      ⟨m, fun _ => 0, ρ⟩ (fun r => ∀ c : Dev Cert.OutrReferenceIdeal.nD,
        r.2.mem (c.tc.loc Cert.OutrReferenceIdeal.main_v27) = mixed (m (c.tc.loc Cert.OutrReferenceIdeal.main_arg0)) (m (c.tc.loc Cert.OutrReferenceIdeal.main_arg1)) (normed (m (c.tc.loc Cert.OutrReferenceIdeal.main_arg2)) (m (c.tc.loc Cert.OutrReferenceIdeal.main_arg5)) (m (c.tc.loc Cert.OutrReferenceIdeal.main_arg6)))
        ∧ r.2.mem (c.tc.loc Cert.OutrReferenceIdeal.main_v52) = normed (mixed (m (c.tc.loc Cert.OutrReferenceIdeal.main_arg0)) (m (c.tc.loc Cert.OutrReferenceIdeal.main_arg1)) (normed (m (c.tc.loc Cert.OutrReferenceIdeal.main_arg2)) (m (c.tc.loc Cert.OutrReferenceIdeal.main_arg5)) (m (c.tc.loc Cert.OutrReferenceIdeal.main_arg6)))) (m (c.tc.loc Cert.OutrReferenceIdeal.main_arg3)) (m (c.tc.loc Cert.OutrReferenceIdeal.main_arg4))
        ∧ r.2.mem (c.tc.loc Cert.OutrReferenceIdeal.main_arg0) = m (c.tc.loc Cert.OutrReferenceIdeal.main_arg0)
        ∧ r.2.mem (c.tc.loc Cert.OutrReferenceIdeal.main_arg1) = m (c.tc.loc Cert.OutrReferenceIdeal.main_arg1)
        ∧ r.2.mem (c.tc.loc Cert.OutrReferenceIdeal.main_arg2) = m (c.tc.loc Cert.OutrReferenceIdeal.main_arg2)
        ∧ r.2.mem (c.tc.loc Cert.OutrReferenceIdeal.main_arg3) = m (c.tc.loc Cert.OutrReferenceIdeal.main_arg3)
        ∧ r.2.mem (c.tc.loc Cert.OutrReferenceIdeal.main_arg4) = m (c.tc.loc Cert.OutrReferenceIdeal.main_arg4)
        ∧ r.2.mem (c.tc.loc Cert.OutrReferenceIdeal.main_arg5) = m (c.tc.loc Cert.OutrReferenceIdeal.main_arg5)
        ∧ r.2.mem (c.tc.loc Cert.OutrReferenceIdeal.main_arg6) = m (c.tc.loc Cert.OutrReferenceIdeal.main_arg6)) :=
  (θ_run _ _ _).mono (fun _ h c => ⟨(h c).1.trans ((Cert.OutrReferenceIdeal.Read.val_main_v27_eq _ _ _ _ _).trans (ref_mixed _ _ _ _ _)),
    (h c).2.1.trans ((Cert.OutrReferenceIdeal.Read.val_main_v52_eq m c).trans (ref_normed _ _ _ _ _ _ _)),
    (h c).2.2⟩) (Cert.OutrReferenceIdeal.Value.run m ρ)

/-- The reference runs to its end, its arguments unchanged; it declares no semaphore. -/
theorem frame_reference (m : (ℓ : Loc Cert.OutrReferenceIdeal.nD Cert.OutrReferenceIdeal.τ Cert.OutrReferenceIdeal.sig) → Buf (Elt Ideal) ℓ)
    (ρ : Dev Cert.OutrReferenceIdeal.nD → PrngReg) : θ_run (Cert.OutrReferenceIdeal.defs (F := Ideal)) (onTc (τ := Cert.OutrReferenceIdeal.τ) (Cert.OutrReferenceIdeal.main (F := Ideal)))
      ⟨m, fun _ => 0, ρ⟩ (fun r => (∀ c : Dev Cert.OutrReferenceIdeal.nD,
        r.2.mem (c.tc.loc Cert.OutrReferenceIdeal.main_arg0) = m (c.tc.loc Cert.OutrReferenceIdeal.main_arg0)
        ∧ r.2.mem (c.tc.loc Cert.OutrReferenceIdeal.main_arg1) = m (c.tc.loc Cert.OutrReferenceIdeal.main_arg1)
        ∧ r.2.mem (c.tc.loc Cert.OutrReferenceIdeal.main_arg2) = m (c.tc.loc Cert.OutrReferenceIdeal.main_arg2)
        ∧ r.2.mem (c.tc.loc Cert.OutrReferenceIdeal.main_arg3) = m (c.tc.loc Cert.OutrReferenceIdeal.main_arg3)
        ∧ r.2.mem (c.tc.loc Cert.OutrReferenceIdeal.main_arg4) = m (c.tc.loc Cert.OutrReferenceIdeal.main_arg4)
        ∧ r.2.mem (c.tc.loc Cert.OutrReferenceIdeal.main_arg5) = m (c.tc.loc Cert.OutrReferenceIdeal.main_arg5)
        ∧ r.2.mem (c.tc.loc Cert.OutrReferenceIdeal.main_arg6) = m (c.tc.loc Cert.OutrReferenceIdeal.main_arg6)) ∧ r.2.sem = fun _ => 0) :=
  (θ_run _ _ _).mono (fun _ h => ⟨fun c => (h c).2.2, sem_eq_zero_of_no_sems (by decide) _⟩) (run_reference m ρ)

/-- The kernel's two results are the reference's. -/
theorem algebraic : algebraic_OutrKernelIdeal_OutrReferenceIdeal := by
  pair_intro
  · run_from Cert.OutrKernelIdeal.Value.run_blocks m g
  · run_from run_reference m' g'
    · exact (final_mixed m c).symm
    · exact (final_normed m c).symm

end Cert.OutrValue

end
-- ==== Proof.DownValue.lean ====
/- The end of a layer's gated product: the scaled activation plus the product and its normalised rows, that the kernel leaves in its
   two results, and that the reference's lines give, the same over the extended reals. -/
module

public import proofs.«01_k».proof.Defs
public import proofs.«01_k».proof.Proof.OutMath
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.DownValue

open Cert.DownKernelIdeal Cert.DownKernelIdeal.Gen Cert.NormMath Cert.OutMath
open Cert.LnValue (zRow α)

/-! ## The kernel -/

section Payloads

variable (a : Vec Ideal S1024x2816 .bf16) (w : Vec Ideal S2816x1024 .bf16) (z : Vec Ideal S1024x1024 .f32) (g b : Vec Ideal S1x1024 .f32) (g0 b0 : Vec Ideal S1x1024 .f32) (r k : Fin 1024)

theorem pay_mixed : k0_pay2 (F := Ideal) z g0 b0 a w (ix2 r k)
    = α * (xhat (fun k => z (ix2 r k)) k * g0 (ix2 0 k) + b0 (ix2 0 k)) + ∑ q : Fin 2816, a (ix2 r q) * w (ix2 q k) := by
  pointwise [k0_pay2]
  rfl

theorem pay_normed : k0_pay1 (F := Ideal) (k0_pay2 z g0 b0 a w) (k0_pay3 g) b (ix2 r k)
    = xhat (fun k => k0_pay2 z g0 b0 a w (ix2 r k)) k * g (ix2 0 k) + b (ix2 0 k) := by
  pointwise [k0_pay1, k0_pay3]
  rfl

end Payloads

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![t.val, 0] ∧ win0_8.index t = ![t.val, 0] := by
  decide +kernel

/-- The kernel's arguments. -/
abbrev argA : Vec Ideal S8192x2816 .f32 := m (c.tc.loc main_arg0)
abbrev argW : Vec Ideal S2816x1024 .f32 := m (c.tc.loc main_arg1)
abbrev argR : Vec Ideal S8192x1024 .f32 := m (c.tc.loc main_arg2)
abbrev argG : Vec Ideal S1024 .f32 := m (c.tc.loc main_arg3)
abbrev argB : Vec Ideal S1024 .f32 := m (c.tc.loc main_arg4)
abbrev argG0 : Vec Ideal S1024 .f32 := m (c.tc.loc main_arg5)
abbrev argB0 : Vec Ideal S1024 .f32 := m (c.tc.loc main_arg6)

/-- The activation of the kernel's arguments. -/
abbrev zOf : Rows := mixed (argA m c) (argW m c) (normed (argR m c) (argG0 m c) (argB0 m c))

abbrev row (t : Fin cfg0.N) (r : Fin 1024) : Fin 8192 := ⟨t.val * 1024 + r.val, lt_rows N_0 t r⟩

theorem blk_r (t : Fin cfg0.N) (r k : Fin 1024) : iblk m c 2 t (ix2 r k) = argR m c (ix2 (row t r) k) := by
  blk_ext [iblk, V, idx t]
theorem blk_a (t : Fin cfg0.N) (r : Fin 1024) (q : Fin 2816) : iblk m c 0 t (ix2 r q) = argA m c (ix2 (row t r) q) := by
  unfold iblk
  rw [View.read_apply]
  show V m c main_v0 _ = _
  entry_read
  pointwise
  blk_ext [idx t]
theorem blk_w (t : Fin cfg0.N) (q : Fin 2816) (k : Fin 1024) : iblk m c 1 t (ix2 q k) = argW m c (ix2 q k) := by
  unfold iblk
  rw [View.read_apply]
  show V m c main_v1 _ = _
  entry_read
  pointwise
  blk_ext [idx t]
theorem blk_g (t : Fin cfg0.N) (k : Fin 1024) : iblk m c 3 t (ix2 0 k) = argG m c (ix1 k) := by
  unfold iblk
  rw [View.read_apply]
  show V m c main_v2 _ = _
  entry_read
  pointwise
  blk_ext [idx t]
theorem blk_b (t : Fin cfg0.N) (k : Fin 1024) : iblk m c 4 t (ix2 0 k) = argB m c (ix1 k) := by
  unfold iblk
  rw [View.read_apply]
  show V m c main_v3 _ = _
  entry_read
  pointwise
  blk_ext [idx t]
theorem blk_g0 (t : Fin cfg0.N) (k : Fin 1024) : iblk m c 5 t (ix2 0 k) = argG0 m c (ix1 k) := by
  unfold iblk
  rw [View.read_apply]
  show V m c main_v4 _ = _
  entry_read
  pointwise
  blk_ext [idx t]
theorem blk_b0 (t : Fin cfg0.N) (k : Fin 1024) : iblk m c 6 t (ix2 0 k) = argB0 m c (ix1 k) := by
  unfold iblk
  rw [View.read_apply]
  show V m c main_v5 _ = _
  entry_read
  pointwise
  blk_ext [idx t]

theorem point_mixed (t : Fin cfg0.N) (r k : Fin 1024) : k0_pay2 (iblk m c 2 t) (iblk m c 5 t) (iblk m c 6 t) (iblk m c 0 t) (iblk m c 1 t) (ix2 r k) = zOf m c (ix2 (row t r) k) := by
  rw [pay_mixed]
  simp only [blk_r, blk_a, blk_w, blk_g0, blk_b0]
  rfl

theorem emb_mixed (t : Fin cfg0.N) (r k : Fin 1024) : ((View.whole main_v6_0).slice (win0_7.rect t)).emb (ix2 r k) = ix2 (row t r) k := by
  blk_ext [idx t]
theorem emb_normed (t : Fin cfg0.N) (r k : Fin 1024) : ((View.whole main_v6_1).slice (win0_8.rect t)).emb (ix2 r k) = ix2 (row t r) k := by
  blk_ext [idx t]

theorem final_mixed : (dats m 0 c).arrAt 7 cfg0.N = zOf m c := by
  refine (dats m 0 c).arrAt_eq_of_covers 7 _ (by decide +kernel) fun t hf y => ?_
  blk_simp
  rw [after0_7]
  obtain ⟨r, k, rfl⟩ : ∃ r k : Fin 1024, y = ix2 r k := ⟨y 0, y 1, eq_ix2 y⟩
  rw [emb_mixed, ← point_mixed]
  frame_out

theorem final_normed : (dats m 0 c).arrAt 8 cfg0.N = normed (zOf m c) (argG m c) (argB m c) := by
  refine (dats m 0 c).arrAt_eq_of_covers 8 _ (by decide +kernel) fun t hf y => ?_
  blk_simp
  rw [after0_8]
  obtain ⟨r, k, rfl⟩ : ∃ r k : Fin 1024, y = ix2 r k := ⟨y 0, y 1, eq_ix2 y⟩
  rw [emb_normed]
  frame_out
  rw [pay_normed]
  simp only [point_mixed, blk_g, blk_b]
  rfl

/-! ## The reference -/

section Reference

open Cert.DownReferenceIdeal.Read

variable (a : Vec Ideal S8192x2816 .f32) (w : Vec Ideal S2816x1024 .f32) (r : Vec Ideal S8192x1024 .f32) (g b g0 b0 : Vec Ideal S1024 .f32)

theorem ref_before : val_main_v23 (F := Ideal) r g0 b0 = normed r g0 b0 := by
  funext i
  idx_vars i
  pointwise [val_main_v23, val_main_v22, val_main_v21, val_main_v20, val_main_v19, val_main_v18]
  rw [show ∀ i, val_main_v17 (F := Ideal) r i = Cert.LnReferenceIdeal.Read.val_main_v22 (F := Ideal) r i from fun _ => rfl, Cert.LnValue.ref_xhat]
  rfl

theorem ref_mixed : val_main_v27 (F := Ideal) a w r g0 b0 = mixed a w (normed r g0 b0) := by
  funext i
  idx_vars i
  pointwise [val_main_v27, val_main_v26, val_main_v25, val_main_v24, val_main_cst_4]
  rw [ref_before]
  rfl

theorem ref_normed : val_main_v52 (F := Ideal) a w r g b g0 b0 = normed (mixed a w (normed r g0 b0)) g b := by
  funext i
  idx_vars i
  pointwise [val_main_v52, val_main_v51, val_main_v50, val_main_v49, val_main_v48, val_main_v47, val_main_v46]
  rw [show ∀ i, val_main_v45 (F := Ideal) a w r g0 b0 i = Cert.LnReferenceIdeal.Read.val_main_v22 (F := Ideal) (val_main_v27 (F := Ideal) a w r g0 b0) i from fun _ => rfl,
    ref_mixed, Cert.LnValue.ref_xhat]
  rfl

end Reference

/-! ## The claims -/

/-- The reference runs to its end, its results as above and the arguments unchanged. -/
theorem run_reference (m : (ℓ : Loc Cert.DownReferenceIdeal.nD Cert.DownReferenceIdeal.τ Cert.DownReferenceIdeal.sig) → Buf (Elt Ideal) ℓ)
    (ρ : Dev Cert.DownReferenceIdeal.nD → PrngReg) : θ_run (Cert.DownReferenceIdeal.defs (F := Ideal)) (onTc (τ := Cert.DownReferenceIdeal.τ) (Cert.DownReferenceIdeal.main (F := Ideal)))
      ⟨m, fun _ => 0, ρ⟩ (fun r => ∀ c : Dev Cert.DownReferenceIdeal.nD,
        r.2.mem (c.tc.loc Cert.DownReferenceIdeal.main_v27) = mixed (m (c.tc.loc Cert.DownReferenceIdeal.main_arg0)) (m (c.tc.loc Cert.DownReferenceIdeal.main_arg1)) (normed (m (c.tc.loc Cert.DownReferenceIdeal.main_arg2)) (m (c.tc.loc Cert.DownReferenceIdeal.main_arg5)) (m (c.tc.loc Cert.DownReferenceIdeal.main_arg6)))
        ∧ r.2.mem (c.tc.loc Cert.DownReferenceIdeal.main_v52) = normed (mixed (m (c.tc.loc Cert.DownReferenceIdeal.main_arg0)) (m (c.tc.loc Cert.DownReferenceIdeal.main_arg1)) (normed (m (c.tc.loc Cert.DownReferenceIdeal.main_arg2)) (m (c.tc.loc Cert.DownReferenceIdeal.main_arg5)) (m (c.tc.loc Cert.DownReferenceIdeal.main_arg6)))) (m (c.tc.loc Cert.DownReferenceIdeal.main_arg3)) (m (c.tc.loc Cert.DownReferenceIdeal.main_arg4))
        ∧ r.2.mem (c.tc.loc Cert.DownReferenceIdeal.main_arg0) = m (c.tc.loc Cert.DownReferenceIdeal.main_arg0)
        ∧ r.2.mem (c.tc.loc Cert.DownReferenceIdeal.main_arg1) = m (c.tc.loc Cert.DownReferenceIdeal.main_arg1)
        ∧ r.2.mem (c.tc.loc Cert.DownReferenceIdeal.main_arg2) = m (c.tc.loc Cert.DownReferenceIdeal.main_arg2)
        ∧ r.2.mem (c.tc.loc Cert.DownReferenceIdeal.main_arg3) = m (c.tc.loc Cert.DownReferenceIdeal.main_arg3)
        ∧ r.2.mem (c.tc.loc Cert.DownReferenceIdeal.main_arg4) = m (c.tc.loc Cert.DownReferenceIdeal.main_arg4)
        ∧ r.2.mem (c.tc.loc Cert.DownReferenceIdeal.main_arg5) = m (c.tc.loc Cert.DownReferenceIdeal.main_arg5)
        ∧ r.2.mem (c.tc.loc Cert.DownReferenceIdeal.main_arg6) = m (c.tc.loc Cert.DownReferenceIdeal.main_arg6)) :=
  (θ_run _ _ _).mono (fun _ h c => ⟨(h c).1.trans ((Cert.DownReferenceIdeal.Read.val_main_v27_eq _ _ _ _ _).trans (ref_mixed _ _ _ _ _)),
    (h c).2.1.trans ((Cert.DownReferenceIdeal.Read.val_main_v52_eq m c).trans (ref_normed _ _ _ _ _ _ _)),
    (h c).2.2⟩) (Cert.DownReferenceIdeal.Value.run m ρ)

/-- The reference runs to its end, its arguments unchanged; it declares no semaphore. -/
theorem frame_reference (m : (ℓ : Loc Cert.DownReferenceIdeal.nD Cert.DownReferenceIdeal.τ Cert.DownReferenceIdeal.sig) → Buf (Elt Ideal) ℓ)
    (ρ : Dev Cert.DownReferenceIdeal.nD → PrngReg) : θ_run (Cert.DownReferenceIdeal.defs (F := Ideal)) (onTc (τ := Cert.DownReferenceIdeal.τ) (Cert.DownReferenceIdeal.main (F := Ideal)))
      ⟨m, fun _ => 0, ρ⟩ (fun r => (∀ c : Dev Cert.DownReferenceIdeal.nD,
        r.2.mem (c.tc.loc Cert.DownReferenceIdeal.main_arg0) = m (c.tc.loc Cert.DownReferenceIdeal.main_arg0)
        ∧ r.2.mem (c.tc.loc Cert.DownReferenceIdeal.main_arg1) = m (c.tc.loc Cert.DownReferenceIdeal.main_arg1)
        ∧ r.2.mem (c.tc.loc Cert.DownReferenceIdeal.main_arg2) = m (c.tc.loc Cert.DownReferenceIdeal.main_arg2)
        ∧ r.2.mem (c.tc.loc Cert.DownReferenceIdeal.main_arg3) = m (c.tc.loc Cert.DownReferenceIdeal.main_arg3)
        ∧ r.2.mem (c.tc.loc Cert.DownReferenceIdeal.main_arg4) = m (c.tc.loc Cert.DownReferenceIdeal.main_arg4)
        ∧ r.2.mem (c.tc.loc Cert.DownReferenceIdeal.main_arg5) = m (c.tc.loc Cert.DownReferenceIdeal.main_arg5)
        ∧ r.2.mem (c.tc.loc Cert.DownReferenceIdeal.main_arg6) = m (c.tc.loc Cert.DownReferenceIdeal.main_arg6)) ∧ r.2.sem = fun _ => 0) :=
  (θ_run _ _ _).mono (fun _ h => ⟨fun c => (h c).2.2, sem_eq_zero_of_no_sems (by decide) _⟩) (run_reference m ρ)

/-- The kernel's two results are the reference's. -/
theorem algebraic : algebraic_DownKernelIdeal_DownReferenceIdeal := by
  pair_intro
  · run_from Cert.DownKernelIdeal.Value.run_blocks m g
  · run_from run_reference m' g'
    · exact (final_mixed m c).symm
    · exact (final_normed m c).symm

end Cert.DownValue

end
-- ==== Proof.ScfValue.lean ====
/- The short convolution, forward: the gate times the convolution of the inner gate's product with the values, that the kernel
   leaves in its result, and that the reference's lines give, the same over the extended reals. -/
module

public import proofs.«01_k».proof.Defs
public import proofs.«01_k».proof.Proof.ScRef
public import proofs.«01_k».proof.Proof.Gen.ScfKernelIdeal.Value
public import proofs.«01_k».proof.Proof.Gen.ScfReferenceIdeal.Run
public import proofs.«01_k».proof.Proof.Gen.ScfReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScfValue

open Cert.ScfKernelIdeal Cert.ScfKernelIdeal.Gen Cert.ConvMath
open Cert.ScBlock (lane taps)
open Cert.ScValue (seqH inp)

/-- The gated convolution. -/
def mixed (x : S4x2048x3072.Idx → EReal) (w : S3x1024.Idx → EReal) (β : S1024.Idx → EReal) : S4x2048x1024.Idx → EReal :=
  fun i => seqH x 0 (i 0) (i 2) (i 1) * conv (inp x (i 0) (i 2)) (taps w (i 2)) (β (ix1 (i 2))) (i 1)

/-! ## The kernel -/

theorem pay (g a v : Vec Ideal S1x2048x256 .f32) (hw : Vec Ideal S3x256 .f32) (hb : Vec Ideal S1x256 .f32) (t : Fin 2048) (l : Fin 256) :
    k0_pay1 (k0_pay2 a v hw hb g) (ix3 0 t l)
      = lane g l t * conv (fun t => lane a l t * lane v l t) (taps hw l) (hb (ix2 0 l)) t := by
  have e2 := shift_dn 2 (by decide) (mulf (shapeCast S2048x256 a shapeCasts_S1x2048x256_S2048x256) (shapeCast S2048x256 v shapeCasts_S1x2048x256_S2048x256))
    iota_S2048x256_d0_w32 rotates_S2048x256_d0 t l
  have e1 := shift_dn 1 (by decide) (mulf (shapeCast S2048x256 a shapeCasts_S1x2048x256_S2048x256) (shapeCast S2048x256 v shapeCasts_S1x2048x256_S2048x256))
    iota_S2048x256_d0_w32 rotates_S2048x256_d0 t l
  pointwise [k0_pay1]
  refine Eq.trans (congrArg₂ (HMul.hMul (α := EReal)) rfl (congrArg₂ (HAdd.hAdd (α := EReal)) (congrArg₂ HAdd.hAdd (congrArg₂ HAdd.hAdd (congrArg₂ HMul.hMul e2 rfl) rfl)
    (congrArg₂ HMul.hMul e1 rfl)) rfl)) ?_
  pointwise
  rfl

variable (m : (ℓ : Loc nD τ sig) → Buf (Elt Ideal) ℓ) (c : Dev nD)

/-- The kernel's arguments. -/
abbrev argH : Vec Ideal S4x2048x3072 .f32 := m (c.tc.loc main_arg0)
abbrev argW : Vec Ideal S3x1024 .f32 := m (c.tc.loc main_arg1)
abbrev argB : Vec Ideal S1024 .f32 := m (c.tc.loc main_arg2)

/-- The windows' block indices. -/
theorem idx : ∀ t : Fin cfg0.N, win0_0.index t = ![t.val % 4, 0, t.val / 4] ∧ win0_1.index t = ![t.val % 4, 0, 4 + t.val / 4]
    ∧ win0_2.index t = ![t.val % 4, 0, 8 + t.val / 4] ∧ win0_3.index t = ![0, t.val / 4] ∧ win0_4.index t = ![0, t.val / 4]
    ∧ win0_5.index t = ![t.val % 4, 0, t.val / 4] := by
  decide +kernel

theorem lt_points (t : Fin cfg0.N) : t.val < 16 := lt_of_lt_of_eq t.isLt (show cfg0.N = 16 from N_0)

/-- A point's batch, and its lanes. -/
abbrev bat (t : Fin cfg0.N) : Fin 4 := ⟨t.val % 4, Nat.mod_lt _ (by decide)⟩
abbrev col (t : Fin cfg0.N) (l : Fin 256) : Fin 1024 := ⟨t.val / 4 * 256 + l.val, by have := lt_points t; omega⟩

theorem blk0 (t : Fin cfg0.N) (l : Fin 256) : lane (iblk m c 0 t) l = seqH (argH m c) 0 (bat t) (col t l) := by
  funext s
  show iblk m c 0 t (ix3 0 s l) = argH m c _
  blk_ext [iblk, V, idx t]
theorem blk1 (t : Fin cfg0.N) (l : Fin 256) : lane (iblk m c 1 t) l = seqH (argH m c) 1 (bat t) (col t l) := by
  funext s
  show iblk m c 1 t (ix3 0 s l) = argH m c _
  blk_ext [iblk, V, idx t]
theorem blk2 (t : Fin cfg0.N) (l : Fin 256) : lane (iblk m c 2 t) l = seqH (argH m c) 2 (bat t) (col t l) := by
  funext s
  show iblk m c 2 t (ix3 0 s l) = argH m c _
  blk_ext [iblk, V, idx t]
theorem blk3 (t : Fin cfg0.N) (l : Fin 256) : taps (iblk m c 3 t) l = taps (argW m c) (col t l) := by
  funext k
  show iblk m c 3 t (ix2 k l) = argW m c _
  blk_ext [iblk, V, idx t]
theorem blk4 (t : Fin cfg0.N) (l : Fin 256) : iblk m c 4 t (ix2 0 l) = argB m c (ix1 (col t l)) := by
  unfold iblk
  rw [View.read_apply]
  show V m c main_v0 _ = _
  entry_read
  pointwise
  blk_ext [idx t]

theorem emb5 (t : Fin cfg0.N) (s : Fin 2048) (l : Fin 256) : ((View.whole main_v1).slice (win0_5.rect t)).emb (ix3 0 s l) = ix3 (bat t) s (col t l) := by
  blk_ext [idx t]

theorem final : (dats m 0 c).arrAt 5 cfg0.N = mixed (argH m c) (argW m c) (argB m c) := by
  refine (dats m 0 c).arrAt_eq_of_covers 5 _ (by decide +kernel) fun t hf y => ?_
  blk_simp
  rw [after0_5]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb5]
  frame_out
  rw [pay]
  simp only [blk0, blk1, blk2, blk3, blk4]
  rfl

/-! ## The reference -/

section Reference

open Cert.ScfReferenceIdeal.Read

variable (x : Vec Ideal S4x2048x3072 .f32) (w : Vec Ideal S3x1024 .f32) (β : Vec Ideal S1024 .f32)

theorem ref_conv (b : Fin 4) (t : Fin 2048) (l : Fin 1024) : val_main_v28 (F := Ideal) x w β (ix3 b t l) = conv (inp x b l) (taps w l) (β (ix1 l)) t :=
  Eq.trans rfl (Cert.ScRef.v29 x w β b t l)

theorem ref_mixed : val_main_v30 (F := Ideal) x w β = mixed x w β := by
  funext i
  idx_vars i
  pointwise [val_main_v30, val_main_v29, val_main_v0]
  rw [ref_conv]
  exact congrArg₂ (· * ·) (congrArg (fun l => x (ix3 i0 i1 l)) (Fin.ext (by show i2.val = 0 * 1024 + i2.val; omega))) rfl

end Reference

/-! ## The claims -/

/-- The reference runs to its end, its results as above and the arguments unchanged. -/
theorem run_reference (m : (ℓ : Loc Cert.ScfReferenceIdeal.nD Cert.ScfReferenceIdeal.τ Cert.ScfReferenceIdeal.sig) → Buf (Elt Ideal) ℓ)
    (ρ : Dev Cert.ScfReferenceIdeal.nD → PrngReg) : θ_run (Cert.ScfReferenceIdeal.defs (F := Ideal)) (onTc (τ := Cert.ScfReferenceIdeal.τ) (Cert.ScfReferenceIdeal.main (F := Ideal)))
      ⟨m, fun _ => 0, ρ⟩ (fun r => ∀ c : Dev Cert.ScfReferenceIdeal.nD,
        r.2.mem (c.tc.loc Cert.ScfReferenceIdeal.main_v30) = mixed (m (c.tc.loc Cert.ScfReferenceIdeal.main_arg0)) (m (c.tc.loc Cert.ScfReferenceIdeal.main_arg1)) (m (c.tc.loc Cert.ScfReferenceIdeal.main_arg2))
        ∧ r.2.mem (c.tc.loc Cert.ScfReferenceIdeal.main_arg0) = m (c.tc.loc Cert.ScfReferenceIdeal.main_arg0)
        ∧ r.2.mem (c.tc.loc Cert.ScfReferenceIdeal.main_arg1) = m (c.tc.loc Cert.ScfReferenceIdeal.main_arg1)
        ∧ r.2.mem (c.tc.loc Cert.ScfReferenceIdeal.main_arg2) = m (c.tc.loc Cert.ScfReferenceIdeal.main_arg2)) :=
  (θ_run _ _ _).mono (fun _ h c => ⟨(h c).1.trans ((Cert.ScfReferenceIdeal.Read.val_main_v30_eq _ _ _).trans (ref_mixed _ _ _)),
    (h c).2⟩) (Cert.ScfReferenceIdeal.Value.run m ρ)

/-- The reference runs to its end, its arguments unchanged; it declares no semaphore. -/
theorem frame_reference (m : (ℓ : Loc Cert.ScfReferenceIdeal.nD Cert.ScfReferenceIdeal.τ Cert.ScfReferenceIdeal.sig) → Buf (Elt Ideal) ℓ)
    (ρ : Dev Cert.ScfReferenceIdeal.nD → PrngReg) : θ_run (Cert.ScfReferenceIdeal.defs (F := Ideal)) (onTc (τ := Cert.ScfReferenceIdeal.τ) (Cert.ScfReferenceIdeal.main (F := Ideal)))
      ⟨m, fun _ => 0, ρ⟩ (fun r => (∀ c : Dev Cert.ScfReferenceIdeal.nD,
        r.2.mem (c.tc.loc Cert.ScfReferenceIdeal.main_arg0) = m (c.tc.loc Cert.ScfReferenceIdeal.main_arg0)
        ∧ r.2.mem (c.tc.loc Cert.ScfReferenceIdeal.main_arg1) = m (c.tc.loc Cert.ScfReferenceIdeal.main_arg1)
        ∧ r.2.mem (c.tc.loc Cert.ScfReferenceIdeal.main_arg2) = m (c.tc.loc Cert.ScfReferenceIdeal.main_arg2)) ∧ r.2.sem = fun _ => 0) :=
  (θ_run _ _ _).mono (fun _ h => ⟨fun c => (h c).2, sem_eq_zero_of_no_sems (by decide) _⟩) (run_reference m ρ)

/-- The kernel's result is the reference's. -/
theorem algebraic : algebraic_ScfKernelIdeal_ScfReferenceIdeal := by
  pair_intro
  · run_from Cert.ScfKernelIdeal.Value.run_blocks m g
  · run_from run_reference m' g'
    · exact (final m c).symm

end Cert.ScfValue

end
-- ==== Proof.FupValue.lean ====
/- The gated activation, forward: the products with the two halves of the weights, their convolutions and the gated value that the kernel
   leaves in its five results, and that the reference's lines give, the same over the extended reals. -/
module

public import proofs.«01_k».proof.Defs
public import proofs.«01_k».proof.Proof.FfnRef
public import proofs.«01_k».proof.Proof.Gen.FupKernelIdeal.Value
public import proofs.«01_k».proof.Proof.Gen.FupReferenceIdeal.Run
public import proofs.«01_k».proof.Proof.Gen.FupReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.FupValue

open Cert.FupKernelIdeal Cert.FupKernelIdeal.Gen Cert.ConvMath
open Cert.ScBlock (lane taps emb2 emb3 left right)
open Cert.FfnBlock (sg piece)
open Cert.FfnValue (gl vl pre)

/-- The product with the weights. -/
def prod (x : Vec Ideal S4x2048x1024 .f32) (w : Vec Ideal S1024x5632 .f32) : (⟨3, ![4, 2048, 5632]⟩ : Shape).Idx → EReal :=
  fun i => ∑ k : Fin 1024, x (ix3 (i 0) (i 1) k) * w (ix2 k (i 2))

section Results
variable (x : Vec Ideal S4x2048x1024 .f32) (w : Vec Ideal S1024x5632 .f32) (u : Vec Ideal S3x5632 .f32) (β : Vec Ideal S5632 .f32)

/-- The two halves of the product, of its convolution, and the gated value. -/
def half (f : Fin 2816 → Fin 5632) : S4x2048x2816.Idx → EReal := fun i => prod x w (ix3 (i 0) (i 1) (f (i 2)))
def conved (f : Fin 2816 → Fin 5632) : S4x2048x2816.Idx → EReal := fun i => pre (prod x w) u β (i 0) (f (i 2)) (i 1)
def gated : S4x2048x2816.Idx → EReal := fun i => conved x w u β gl i * sg (conved x w u β gl i) * conved x w u β vl i
end Results

/-! ## One strip -/

section Strip

variable (z : Vec Ideal S1x2048x1024 .bf16) (w : Vec Ideal S256x1024 .bf16) (D : FVec Ideal S2048x256 .f32) (g v : FVec Ideal S2048x128 .f32)
  (hw : Vec Ideal S3x128 .f32) (hb : Vec Ideal S1x128 .f32) (t : Fin 2048) (l : Fin 128) (l' : Fin 256)

theorem pay4 : k0_pay4 z w (ix2 t l') = ∑ k : Fin 1024, z (ix3 0 t k) * w (ix2 l' k) := by
  pointwise [k0_pay4, k0_pay3]
theorem pay6 : k0_pay6 z w (ix3 0 t l') = ∑ k : Fin 1024, z (ix3 0 t k) * w (ix2 l' k) := by
  pointwise [k0_pay6]
  exact pay4 z w t l'

/-- The convolution along the sequence at the lanes of a strip's half. -/
def convOf (o : Fin 128 → Fin 256) : FVec Ideal S2048x128 .f32 :=
  fun i => conv (fun t => D (ix2 t (o (i 1)))) (taps hw (i 1)) (hb (ix2 0 (i 1))) (i 0)

/-- A lane of the first half. -/
abbrev first (l : Fin 128) : Fin 256 := ⟨l.val, by omega⟩

theorem pay11 : k0_pay11 D hw hb = convOf D hw hb first := by
  funext i
  obtain ⟨t, l, rfl⟩ : ∃ (t : Fin 2048) (l : Fin 128), i = ix2 t l := ⟨i 0, i 1, eq_ix2 i⟩
  have e2 := shift_dn 2 (by decide) (extractStridedSlice S2048x128 ![0, 0] D slices_S2048x256_o0_0_S2048x128) iota_S2048x128_d0_w32 rotates_S2048x128_d0 t l
  have e1 := shift_dn 1 (by decide) (extractStridedSlice S2048x128 ![0, 0] D slices_S2048x256_o0_0_S2048x128) iota_S2048x128_d0_w32 rotates_S2048x128_d0 t l
  refine Eq.trans (congrArg₂ (HAdd.hAdd (α := EReal)) (congrArg₂ HAdd.hAdd (congrArg₂ HAdd.hAdd (congrArg₂ HMul.hMul e2 rfl) rfl)
    (congrArg₂ HMul.hMul e1 rfl)) rfl) ?_
  pointwise
  rfl
theorem pay21 : k0_pay21 D hw hb = convOf D hw hb right := by
  funext i
  obtain ⟨t, l, rfl⟩ : ∃ (t : Fin 2048) (l : Fin 128), i = ix2 t l := ⟨i 0, i 1, eq_ix2 i⟩
  have e2 := shift_dn 2 (by decide) (extractStridedSlice S2048x128 ![0, 128] D slices_S2048x256_o0_128_S2048x128) iota_S2048x128_d0_w32 rotates_S2048x128_d0 t l
  have e1 := shift_dn 1 (by decide) (extractStridedSlice S2048x128 ![0, 128] D slices_S2048x256_o0_128_S2048x128) iota_S2048x128_d0_w32 rotates_S2048x128_d0 t l
  refine Eq.trans (congrArg₂ (HAdd.hAdd (α := EReal)) (congrArg₂ HAdd.hAdd (congrArg₂ HAdd.hAdd (congrArg₂ HMul.hMul e2 rfl) rfl)
    (congrArg₂ HMul.hMul e1 rfl)) rfl) ?_
  pointwise
  rfl

theorem pay22 (w4 : IVec S2048x128 1) (w5 w6 : FVec Ideal S2048x128 .f32) : k0_pay22 g hw v w4 w5 w6 (ix3 0 t l) = k0_pay20 g hw v w4 w5 w6 (ix2 t l) := by
  pointwise [k0_pay22]
theorem pay12 : k0_pay12 g (ix3 0 t l) = g (ix2 t l) := by pointwise [k0_pay12]
theorem pay14 : k0_pay14 g v (ix3 0 t l) = g (ix2 t l) * sg (g (ix2 t l)) * v (ix2 t l) := by
  pointwise [k0_pay14]
  rfl
theorem gate_lo : k0_pay10 (k0_pay8 z w) hw (k0_pay9 z w hw hb) = k0_pay11 (k0_pay4 z w) hw hb := rfl
theorem gate_hi : k0_pay20 (k0_pay15 D) hw (k0_pay16 D hw hb) k0_pay17 (k0_pay18 D) k0_pay19 = k0_pay21 D hw hb := rfl

end Strip

variable (m : (ℓ : Loc nD τ sig) → Buf (Elt Ideal) ℓ) (c : Dev nD)

/-- The windows' block indices, and where the rows of the weights start. -/
theorem idx : ∀ t : Fin cfg0.N, win0_0.index t = ![t.val / 11, 0, 0] ∧ win0_1.index t = ![0, 0]
    ∧ win0_2.index t = ![0, t.val % 11] ∧ win0_3.index t = ![0, 11 + t.val % 11]
    ∧ win0_4.index t = ![0, t.val % 11] ∧ win0_5.index t = ![0, 11 + t.val % 11]
    ∧ win0_6.index t = ![t.val / 11, 0, t.val % 11] ∧ win0_7.index t = ![t.val / 11, 0, t.val % 11]
    ∧ win0_8.index t = ![t.val / 11, 0, t.val % 11] ∧ win0_9.index t = ![t.val / 11, 0, t.val % 11]
    ∧ win0_10.index t = ![t.val / 11, 0, t.val % 11]
    ∧ k0_off1 (grid0.coords t) = ![256 * (t.val % 11), 0] ∧ k0_off2 (grid0.coords t) = ![2816 + 256 * (t.val % 11), 0] := by
  decide +kernel

/-- The kernel's arguments. -/
abbrev argX : Vec Ideal S4x2048x1024 .f32 := m (c.tc.loc main_arg0)
abbrev argW : Vec Ideal S1024x5632 .f32 := m (c.tc.loc main_arg1)
abbrev argU : Vec Ideal S3x5632 .f32 := m (c.tc.loc main_arg2)
abbrev argB : Vec Ideal S5632 .f32 := m (c.tc.loc main_arg3)

theorem lt_batch (t : Fin cfg0.N) : t.val / 11 < 4 := by
  have := t.isLt; have h : cfg0.N = 44 := N_0; omega
abbrev bat (t : Fin cfg0.N) : Fin 4 := ⟨t.val / 11, lt_batch t⟩
abbrev chan (t : Fin cfg0.N) (l : Fin 256) : Fin 2816 := ⟨256 * (t.val % 11) + l.val, by omega⟩

theorem blk_x (t : Fin cfg0.N) (s : Fin 2048) (k : Fin 1024) : iblk m c 0 t (ix3 0 s k) = argX m c (ix3 (bat t) s k) := by
  unfold iblk
  rw [View.read_apply]
  show V m c main_v0 _ = _
  entry_read
  pointwise
  blk_ext [idx t]
theorem blk_w (t : Fin cfg0.N) (p : Fin 5632) (k : Fin 1024) : iblk m c 1 t (ix2 p k) = argW m c (ix2 k p) := by
  unfold iblk
  rw [View.read_apply]
  show V m c main_v2 _ = _
  entry_read
  pointwise
  blk_ext [idx t]
theorem blk_ug (t : Fin cfg0.N) (k : Fin 3) (l : Fin 256) : iblk m c 2 t (ix2 k l) = argU m c (ix2 k (gl (chan t l))) := by
  blk_ext [iblk, V, idx t]
theorem blk_uv (t : Fin cfg0.N) (k : Fin 3) (l : Fin 256) : iblk m c 3 t (ix2 k l) = argU m c (ix2 k (vl (chan t l))) := by
  blk_ext [iblk, V, idx t]
theorem blk_bg (t : Fin cfg0.N) (l : Fin 256) : iblk m c 4 t (ix2 0 l) = argB m c (ix1 (gl (chan t l))) := by
  unfold iblk
  rw [View.read_apply]
  show V m c main_v3 _ = _
  entry_read
  pointwise
  blk_ext [idx t]
theorem blk_bv (t : Fin cfg0.N) (l : Fin 256) : iblk m c 5 t (ix2 0 l) = argB m c (ix1 (vl (chan t l))) := by
  unfold iblk
  rw [View.read_apply]
  show V m c main_v3 _ = _
  entry_read
  pointwise
  blk_ext [idx t]

theorem prod_g (t : Fin cfg0.N) (s : Fin 2048) (l : Fin 256) :
    k0_pay4 (iblk m c 0 t) (View.ld (iblk m c 1 t) (Rect.unit (k0_off1 (grid0.coords t)) S256x1024.size (k0_off1_inb _))) (ix2 s l)
      = prod (argX m c) (argW m c) (ix3 (bat t) s (gl (chan t l))) := by
  rw [pay4]
  refine Finset.sum_congr rfl fun k _ => congrArg₂ HMul.hMul (blk_x m c t s k) (Eq.trans ?_ (blk_w m c t _ k))
  have e := (fun h : _ ∧ _ ∧ _ ∧ _ ∧ _ ∧ _ ∧ _ ∧ _ ∧ _ ∧ _ ∧ _ ∧ _ ∧ _ => h.2.2.2.2.2.2.2.2.2.2.2.1) (idx t)
  pointwise
  refine congrArg₂ (fun p k => iblk m c 1 t (ix2 p k)) (Fin.ext ?_) (Fin.ext ?_)
  · show k0_off1 (grid0.coords t) 0 + l.val = (gl (chan t l)).val
    rw [e]
    dsimp
  · show k0_off1 (grid0.coords t) 1 + k.val = k.val
    rw [e]
    exact Nat.zero_add _
theorem prod_v (t : Fin cfg0.N) (s : Fin 2048) (l : Fin 256) :
    k0_pay4 (iblk m c 0 t) (View.ld (iblk m c 1 t) (Rect.unit (k0_off2 (grid0.coords t)) S256x1024.size (k0_off2_inb _))) (ix2 s l)
      = prod (argX m c) (argW m c) (ix3 (bat t) s (vl (chan t l))) := by
  rw [pay4]
  refine Finset.sum_congr rfl fun k _ => congrArg₂ HMul.hMul (blk_x m c t s k) (Eq.trans ?_ (blk_w m c t _ k))
  have e := (fun h : _ ∧ _ ∧ _ ∧ _ ∧ _ ∧ _ ∧ _ ∧ _ ∧ _ ∧ _ ∧ _ ∧ _ ∧ _ => h.2.2.2.2.2.2.2.2.2.2.2.2) (idx t)
  pointwise
  refine congrArg₂ (fun p k => iblk m c 1 t (ix2 p k)) (Fin.ext ?_) (Fin.ext ?_)
  · show k0_off2 (grid0.coords t) 0 + l.val = (vl (chan t l)).val
    rw [e]
    dsimp
    omega
  · show k0_off2 (grid0.coords t) 1 + k.val = k.val
    rw [e]
    exact Nat.zero_add _
theorem conv_of (t : Fin cfg0.N) (o : Fin 128 → Fin 256) (D : FVec Ideal S2048x256 .f32) (hw : Vec Ideal S3x128 .f32) (hb : Vec Ideal S1x128 .f32)
    (f : Fin 2816 → Fin 5632) (hD : ∀ s l, D (ix2 s l) = prod (argX m c) (argW m c) (ix3 (bat t) s (f (chan t l))))
    (hU : ∀ k l, hw (ix2 k l) = argU m c (ix2 k (f (chan t (o l))))) (hB : ∀ l, hb (ix2 0 l) = argB m c (ix1 (f (chan t (o l)))))
    (s : Fin 2048) (l : Fin 128) :
    convOf D hw hb o (ix2 s l) = conved (argX m c) (argW m c) (argU m c) (argB m c) f (ix3 (bat t) s (chan t (o l))) := by
  show conv (fun t => D (ix2 t (o l))) (fun k => hw (ix2 k l)) (hb (ix2 0 l)) s = _
  simp only [hD, hU, hB]
  rfl

theorem ug_lo (t : Fin cfg0.N) (k : Fin 3) (l : Fin 128) :
    View.ld (iblk m c 2 t) (Rect.unit ![0, 0] S3x128.size inb_S3x256_S3x128_0_0) (ix2 k l) = argU m c (ix2 k (gl (chan t (first l)))) := by
  refine Eq.trans ?_ (blk_ug m c t k (first l))
  pointwise
theorem uv_lo (t : Fin cfg0.N) (k : Fin 3) (l : Fin 128) :
    View.ld (iblk m c 3 t) (Rect.unit ![0, 0] S3x128.size inb_S3x256_S3x128_0_0) (ix2 k l) = argU m c (ix2 k (vl (chan t (first l)))) := by
  refine Eq.trans ?_ (blk_uv m c t k (first l))
  pointwise
theorem bg_lo (t : Fin cfg0.N) (l : Fin 128) :
    View.ld (iblk m c 4 t) (Rect.unit ![0, 0] S1x128.size inb_S1x256_S1x128_0_0) (ix2 0 l) = argB m c (ix1 (gl (chan t (first l)))) := by
  refine Eq.trans ?_ (blk_bg m c t (first l))
  pointwise
theorem bv_lo (t : Fin cfg0.N) (l : Fin 128) :
    View.ld (iblk m c 5 t) (Rect.unit ![0, 0] S1x128.size inb_S1x256_S1x128_0_0) (ix2 0 l) = argB m c (ix1 (vl (chan t (first l)))) := by
  refine Eq.trans ?_ (blk_bv m c t (first l))
  pointwise
theorem ug_hi (t : Fin cfg0.N) (k : Fin 3) (l : Fin 128) :
    View.ld (iblk m c 2 t) (Rect.unit ![0, 128] S3x128.size inb_S3x256_S3x128_0_128) (ix2 k l) = argU m c (ix2 k (gl (chan t (right l)))) := by
  refine Eq.trans ?_ (blk_ug m c t k (right l))
  pointwise
theorem uv_hi (t : Fin cfg0.N) (k : Fin 3) (l : Fin 128) :
    View.ld (iblk m c 3 t) (Rect.unit ![0, 128] S3x128.size inb_S3x256_S3x128_0_128) (ix2 k l) = argU m c (ix2 k (vl (chan t (right l)))) := by
  refine Eq.trans ?_ (blk_uv m c t k (right l))
  pointwise
theorem bg_hi (t : Fin cfg0.N) (l : Fin 128) :
    View.ld (iblk m c 4 t) (Rect.unit ![0, 128] S1x128.size inb_S1x256_S1x128_0_128) (ix2 0 l) = argB m c (ix1 (gl (chan t (right l)))) := by
  refine Eq.trans ?_ (blk_bg m c t (right l))
  pointwise
theorem bv_hi (t : Fin cfg0.N) (l : Fin 128) :
    View.ld (iblk m c 5 t) (Rect.unit ![0, 128] S1x128.size inb_S1x256_S1x128_0_128) (ix2 0 l) = argB m c (ix1 (vl (chan t (right l)))) := by
  refine Eq.trans ?_ (blk_bv m c t (right l))
  pointwise

/-! ### The convolutions of the strip's halves -/

variable (t : Fin cfg0.N) (s : Fin 2048) (l : Fin 128)

/-- The products with the gate's rows of the weights and with the value's. -/
abbrev prodG : FVec Ideal S2048x256 .f32 :=
  k0_pay4 (iblk m c 0 t) (View.ld (iblk m c 1 t) (Rect.unit (k0_off1 (grid0.coords t)) S256x1024.size (k0_off1_inb _)))
abbrev prodV : FVec Ideal S2048x256 .f32 :=
  k0_pay4 (iblk m c 0 t) (View.ld (iblk m c 1 t) (Rect.unit (k0_off2 (grid0.coords t)) S256x1024.size (k0_off2_inb _)))
/-- The convolutions' values of a batch's strip. -/
abbrev gateOf : S4x2048x2816.Idx → EReal := conved (argX m c) (argW m c) (argU m c) (argB m c) gl
abbrev valueOf : S4x2048x2816.Idx → EReal := conved (argX m c) (argW m c) (argU m c) (argB m c) vl

theorem g_lo : k0_pay11 (prodG m c t) (View.ld (iblk m c 2 t) (Rect.unit ![0, 0] S3x128.size inb_S3x256_S3x128_0_0))
    (View.ld (iblk m c 4 t) (Rect.unit ![0, 0] S1x128.size inb_S1x256_S1x128_0_0)) (ix2 s l) = gateOf m c (ix3 (bat t) s (chan t (first l))) := by
  rw [pay11]
  exact conv_of m c t first _ _ _ gl (prod_g m c t) (ug_lo m c t) (bg_lo m c t) s l
theorem g_hi : k0_pay21 (prodG m c t) (View.ld (iblk m c 2 t) (Rect.unit ![0, 128] S3x128.size inb_S3x256_S3x128_0_128))
    (View.ld (iblk m c 4 t) (Rect.unit ![0, 128] S1x128.size inb_S1x256_S1x128_0_128)) (ix2 s l) = gateOf m c (ix3 (bat t) s (chan t (right l))) := by
  rw [pay21]
  exact conv_of m c t right _ _ _ gl (prod_g m c t) (ug_hi m c t) (bg_hi m c t) s l
theorem v_lo : k0_pay11 (prodV m c t) (View.ld (iblk m c 3 t) (Rect.unit ![0, 0] S3x128.size inb_S3x256_S3x128_0_0))
    (View.ld (iblk m c 5 t) (Rect.unit ![0, 0] S1x128.size inb_S1x256_S1x128_0_0)) (ix2 s l) = valueOf m c (ix3 (bat t) s (chan t (first l))) := by
  rw [pay11]
  exact conv_of m c t first _ _ _ vl (prod_v m c t) (uv_lo m c t) (bv_lo m c t) s l
theorem v_hi : k0_pay21 (prodV m c t) (View.ld (iblk m c 3 t) (Rect.unit ![0, 128] S3x128.size inb_S3x256_S3x128_0_128))
    (View.ld (iblk m c 5 t) (Rect.unit ![0, 128] S1x128.size inb_S1x256_S1x128_0_128)) (ix2 s l) = valueOf m c (ix3 (bat t) s (chan t (right l))) := by
  rw [pay21]
  exact conv_of m c t right _ _ _ vl (prod_v m c t) (uv_hi m c t) (bv_hi m c t) s l

theorem gated_of {a p q : EReal} (i : S4x2048x2816.Idx) (h : a = p * sg p * q) (hp : p = gateOf m c i) (hq : q = valueOf m c i) :
    a = gated (argX m c) (argW m c) (argU m c) (argB m c) i := by
  subst hp hq
  exact h

/-- A whole strip of a result from its two halves. -/
theorem strips {G : S4x2048x2816.Idx → EReal} (plo phi : S1x2048x128.Idx → EReal) (l : Fin 256)
    (hlo : ∀ (s : Fin 2048) (l : Fin 128), plo (ix3 0 s l) = G (ix3 (bat t) s (chan t (first l))))
    (hhi : ∀ (s : Fin 2048) (l : Fin 128), phi (ix3 0 s l) = G (ix3 (bat t) s (chan t (right l)))) :
    View.canon (Val := Elt Ideal) (s := S1x2048x256) (e := .f32) [⟨Rect.unit ![0, 0, 128] S1x2048x128.size inb_S1x2048x256_S1x2048x128_0_0_128, phi⟩,
      ⟨Rect.unit ![0, 0, 0] S1x2048x128.size inb_S1x2048x256_S1x2048x128_0_0_0, plo⟩] (ix3 0 s l) = G (ix3 (bat t) s (chan t l)) := by
  refine View.canon_apply_of_pieces (Val := Elt Ideal) (e := .f32) (fun y : S1x2048x256.Idx => G (ix3 (bat t) (y 1) (chan t (y 2)))) _ ?_ (ix3 0 s l) ?cover
  case cover => exact View.cover_of_tiledL (s := S1x2048x256) _ S1x2048x128.size (by sl_kernel_rfl) _
  simp only [List.forall_mem_cons, List.not_mem_nil, IsEmpty.forall_iff, implies_true, and_true]
  refine ⟨piece (fun y => G (ix3 (bat t) (y 1) (chan t (y 2)))) 128 (by decide) _ _ hhi, piece (fun y => G (ix3 (bat t) (y 1) (chan t (y 2)))) 0 (by decide) _ _ fun s l => (hlo s l).trans ?_⟩
  exact congrArg (fun l => G (ix3 (bat t) s (chan t l))) (Fin.ext (Nat.zero_add l.val).symm)

theorem emb6 (l : Fin 256) : ((View.whole main_v4_0).slice (win0_6.rect t)).emb (ix3 0 s l) = ix3 (bat t) s (chan t l) := by
  blk_ext [idx t]
theorem final_hg : (dats m 0 c).arrAt 6 cfg0.N = half (argX m c) (argW m c) gl := by
  refine (dats m 0 c).arrAt_eq_of_covers 6 _ (by decide +kernel) fun t hf y => ?_
  blk_simp
  rw [after0_6]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb6]
  unfold outsAt0
  frame_out
  exact (pay6 _ _ s l).trans ((pay4 _ _ s l).symm.trans (prod_g m c t s l))
theorem emb7 (l : Fin 256) : ((View.whole main_v4_1).slice (win0_7.rect t)).emb (ix3 0 s l) = ix3 (bat t) s (chan t l) := by
  blk_ext [idx t]
theorem final_hv : (dats m 0 c).arrAt 7 cfg0.N = half (argX m c) (argW m c) vl := by
  refine (dats m 0 c).arrAt_eq_of_covers 7 _ (by decide +kernel) fun t hf y => ?_
  blk_simp
  rw [after0_7]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb7]
  unfold outsAt0
  frame_out
  exact (pay6 _ _ s l).trans ((pay4 _ _ s l).symm.trans (prod_v m c t s l))
theorem emb8 (l : Fin 256) : ((View.whole main_v4_2).slice (win0_8.rect t)).emb (ix3 0 s l) = ix3 (bat t) s (chan t l) := by
  blk_ext [idx t]
theorem final_g : (dats m 0 c).arrAt 8 cfg0.N = gateOf m c := by
  refine (dats m 0 c).arrAt_eq_of_covers 8 _ (by decide +kernel) fun t hf y => ?_
  blk_simp
  rw [after0_8]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb8]
  frame_out
  refine strips t s _ _ l (fun s l => ?_) fun s l => ?_
  · exact (pay12 _ s l).trans (g_lo m c t s l)
  · exact (pay22 _ _ _ s l _ _ _).trans (g_hi m c t s l)
theorem emb9 (l : Fin 256) : ((View.whole main_v4_3).slice (win0_9.rect t)).emb (ix3 0 s l) = ix3 (bat t) s (chan t l) := by
  blk_ext [idx t]
theorem final_v : (dats m 0 c).arrAt 9 cfg0.N = valueOf m c := by
  refine (dats m 0 c).arrAt_eq_of_covers 9 _ (by decide +kernel) fun t hf y => ?_
  blk_simp
  rw [after0_9]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb9]
  frame_out
  refine strips t s _ _ l (fun s l => ?_) fun s l => ?_
  · exact (pay12 _ s l).trans (v_lo m c t s l)
  · exact (pay12 _ s l).trans (v_hi m c t s l)
theorem emb10 (l : Fin 256) : ((View.whole main_v4_4).slice (win0_10.rect t)).emb (ix3 0 s l) = ix3 (bat t) s (chan t l) := by
  blk_ext [idx t]
theorem final_a : (dats m 0 c).arrAt 10 cfg0.N = gated (argX m c) (argW m c) (argU m c) (argB m c) := by
  refine (dats m 0 c).arrAt_eq_of_covers 10 _ (by decide +kernel) fun t hf y => ?_
  blk_simp
  rw [after0_10]
  obtain ⟨a, s, l, rfl⟩ : ∃ (a : Fin 1) (s : Fin 2048) (l : Fin 256), y = ix3 a s l := ⟨y 0, y 1, y 2, eq_ix3 y⟩
  obtain rfl : a = 0 := Subsingleton.elim _ _
  rw [emb10]
  frame_out
  refine strips t s _ _ l (fun s l => ?_) fun s l => ?_
  · exact gated_of m c _ (pay14 _ _ s l) (g_lo m c t s l) (v_lo m c t s l)
  · exact gated_of m c _ (pay14 _ _ s l) (g_hi m c t s l) (v_hi m c t s l)

/-! ## The reference -/

section Reference

open Cert.FupReferenceIdeal.Read

variable (x : Vec Ideal S4x2048x1024 .f32) (w : Vec Ideal S1024x5632 .f32) (u : Vec Ideal S3x5632 .f32) (β : Vec Ideal S5632 .f32)
  (b : Fin 4) (t : Fin 2048)

theorem ref_prod : val_main_v0 (F := Ideal) x w = prod x w := by
  funext i
  idx_vars i
  pointwise [val_main_v0]
  rfl

theorem ref_conv (p : Fin 5632) : val_main_v25 (F := Ideal) x w u β (ix3 b t p) = pre (prod x w) u β b p t := by
  have e : val_main_v25 (F := Ideal) x w u β = Cert.FfnReferenceIdeal.Read.val_main_v25 (F := Ideal) (val_main_v0 (F := Ideal) x w) u β := rfl
  rw [e, ref_prod]
  exact Cert.FfnRef.v25 _ u β b t p

theorem ref_hg : val_main_v28 (F := Ideal) x w = half x w gl := by
  funext i
  idx_vars i
  pointwise [val_main_v28]
  rw [ref_prod]
  rfl
theorem ref_hv : val_main_v29 (F := Ideal) x w = half x w vl := by
  funext i
  idx_vars i
  pointwise [val_main_v29]
  rw [ref_prod]
  rfl
theorem ref_g : val_main_v26 (F := Ideal) x w u β = conved x w u β gl := by
  funext i
  idx_vars i
  pointwise [val_main_v26]
  exact ref_conv x w u β _ _ _
theorem ref_v : val_main_v27 (F := Ideal) x w u β = conved x w u β vl := by
  funext i
  idx_vars i
  pointwise [val_main_v27]
  exact ref_conv x w u β _ _ _
theorem ref_a : val_main_v32 (F := Ideal) x w u β = gated x w u β := by
  funext i
  idx_vars i
  pointwise [val_main_v32, val_main_v31, val_main_v30, val_main_call0_v5, val_main_call0_v4, val_main_call0_v3, val_main_call0_v2, val_main_call0_v1, val_main_call0_v0,
    val_main_call0_cst, val_main_call0_cst_0]
  rw [ref_g, ref_v]
  unfold gated sg
  rw [zero_sub]

end Reference

/-! ## The claims -/

/-- The reference runs to its end, its results as above and the arguments unchanged. -/
theorem run_reference (m : (ℓ : Loc Cert.FupReferenceIdeal.nD Cert.FupReferenceIdeal.τ Cert.FupReferenceIdeal.sig) → Buf (Elt Ideal) ℓ)
    (ρ : Dev Cert.FupReferenceIdeal.nD → PrngReg) : θ_run (Cert.FupReferenceIdeal.defs (F := Ideal)) (onTc (τ := Cert.FupReferenceIdeal.τ) (Cert.FupReferenceIdeal.main (F := Ideal)))
      ⟨m, fun _ => 0, ρ⟩ (fun r => ∀ c : Dev Cert.FupReferenceIdeal.nD,
        r.2.mem (c.tc.loc Cert.FupReferenceIdeal.main_v28) = half (m (c.tc.loc Cert.FupReferenceIdeal.main_arg0)) (m (c.tc.loc Cert.FupReferenceIdeal.main_arg1)) gl
        ∧ r.2.mem (c.tc.loc Cert.FupReferenceIdeal.main_v29) = half (m (c.tc.loc Cert.FupReferenceIdeal.main_arg0)) (m (c.tc.loc Cert.FupReferenceIdeal.main_arg1)) vl
        ∧ r.2.mem (c.tc.loc Cert.FupReferenceIdeal.main_v26) = conved (m (c.tc.loc Cert.FupReferenceIdeal.main_arg0)) (m (c.tc.loc Cert.FupReferenceIdeal.main_arg1)) (m (c.tc.loc Cert.FupReferenceIdeal.main_arg2)) (m (c.tc.loc Cert.FupReferenceIdeal.main_arg3)) gl
        ∧ r.2.mem (c.tc.loc Cert.FupReferenceIdeal.main_v27) = conved (m (c.tc.loc Cert.FupReferenceIdeal.main_arg0)) (m (c.tc.loc Cert.FupReferenceIdeal.main_arg1)) (m (c.tc.loc Cert.FupReferenceIdeal.main_arg2)) (m (c.tc.loc Cert.FupReferenceIdeal.main_arg3)) vl
        ∧ r.2.mem (c.tc.loc Cert.FupReferenceIdeal.main_v32) = gated (m (c.tc.loc Cert.FupReferenceIdeal.main_arg0)) (m (c.tc.loc Cert.FupReferenceIdeal.main_arg1)) (m (c.tc.loc Cert.FupReferenceIdeal.main_arg2)) (m (c.tc.loc Cert.FupReferenceIdeal.main_arg3))
        ∧ r.2.mem (c.tc.loc Cert.FupReferenceIdeal.main_arg0) = m (c.tc.loc Cert.FupReferenceIdeal.main_arg0)
        ∧ r.2.mem (c.tc.loc Cert.FupReferenceIdeal.main_arg1) = m (c.tc.loc Cert.FupReferenceIdeal.main_arg1)
        ∧ r.2.mem (c.tc.loc Cert.FupReferenceIdeal.main_arg2) = m (c.tc.loc Cert.FupReferenceIdeal.main_arg2)
        ∧ r.2.mem (c.tc.loc Cert.FupReferenceIdeal.main_arg3) = m (c.tc.loc Cert.FupReferenceIdeal.main_arg3)) :=
  (θ_run _ _ _).mono (fun _ h c => ⟨(h c).1.trans ((Cert.FupReferenceIdeal.Read.val_main_v28_eq _ _).trans (ref_hg _ _)),
    (h c).2.1.trans ((Cert.FupReferenceIdeal.Read.val_main_v29_eq _ _).trans (ref_hv _ _)),
    (h c).2.2.1.trans ((Cert.FupReferenceIdeal.Read.val_main_v26_eq _ _ _ _).trans (ref_g _ _ _ _)),
    (h c).2.2.2.1.trans ((Cert.FupReferenceIdeal.Read.val_main_v27_eq _ _ _ _).trans (ref_v _ _ _ _)),
    (h c).2.2.2.2.1.trans ((Cert.FupReferenceIdeal.Read.val_main_v32_eq m c).trans (ref_a _ _ _ _)),
    (h c).2.2.2.2.2⟩) (Cert.FupReferenceIdeal.Value.run m ρ)

/-- The reference runs to its end, its arguments unchanged; it declares no semaphore. -/
theorem frame_reference (m : (ℓ : Loc Cert.FupReferenceIdeal.nD Cert.FupReferenceIdeal.τ Cert.FupReferenceIdeal.sig) → Buf (Elt Ideal) ℓ)
    (ρ : Dev Cert.FupReferenceIdeal.nD → PrngReg) : θ_run (Cert.FupReferenceIdeal.defs (F := Ideal)) (onTc (τ := Cert.FupReferenceIdeal.τ) (Cert.FupReferenceIdeal.main (F := Ideal)))
      ⟨m, fun _ => 0, ρ⟩ (fun r => (∀ c : Dev Cert.FupReferenceIdeal.nD,
        r.2.mem (c.tc.loc Cert.FupReferenceIdeal.main_arg0) = m (c.tc.loc Cert.FupReferenceIdeal.main_arg0)
        ∧ r.2.mem (c.tc.loc Cert.FupReferenceIdeal.main_arg1) = m (c.tc.loc Cert.FupReferenceIdeal.main_arg1)
        ∧ r.2.mem (c.tc.loc Cert.FupReferenceIdeal.main_arg2) = m (c.tc.loc Cert.FupReferenceIdeal.main_arg2)
        ∧ r.2.mem (c.tc.loc Cert.FupReferenceIdeal.main_arg3) = m (c.tc.loc Cert.FupReferenceIdeal.main_arg3)) ∧ r.2.sem = fun _ => 0) :=
  (θ_run _ _ _).mono (fun _ h => ⟨fun c => (h c).2.2.2.2.2, sem_eq_zero_of_no_sems (by decide) _⟩) (run_reference m ρ)

/-- The kernel's five results are the reference's. -/
theorem algebraic : algebraic_FupKernelIdeal_FupReferenceIdeal := by
  pair_intro
  · run_from Cert.FupKernelIdeal.Value.run_blocks m g
  · run_from run_reference m' g'
    · exact (final_hg m c).symm
    · exact (final_hv m c).symm
    · exact (final_g m c).symm
    · exact (final_v m c).symm
    · exact (final_a m c).symm

end Cert.FupValue

end
-- ==== Proof.MmValue.lean ====
/- The gradient that leaves the first layer: the product of the mixer's gradient with the transposed weight, plus alpha times
   the residual's gradient. -/
module

public import proofs.«01_k».proof.Defs
public import proofs.«01_k».proof.Proof.Gen.MmKernelIdeal.Value
public import proofs.«01_k».proof.Proof.Gen.MmReferenceIdeal.Run
public import proofs.«01_k».proof.Proof.Gen.MmReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MmValue

open Cert.MmKernelIdeal Cert.MmKernelIdeal.Gen

/-- The product with the transposed weight plus alpha times the residual's gradient. -/
def summed (a : Vec Ideal S8192x3072 .f32) (w : Vec Ideal S1024x3072 .f32) (r : Vec Ideal S8192x1024 .f32) : S8192x1024.Idx → EReal :=
  fun i => Ideal.ofBits .f32 0x3FD744FD#32 * r i + ∑ q : Fin 3072, a (ix2 (i 0) q) * w (ix2 (i 1) q)

/-! ## The kernel -/

theorem pay_summed (a : Vec Ideal S1024x3072 .bf16) (w : Vec Ideal S1024x3072 .bf16) (x : Vec Ideal S1024x1024 .f32) (r k : Fin 1024) :
    k0_pay1 (F := Ideal) a w x (ix2 r k)
      = Ideal.ofBits .f32 0x3FD744FD#32 * x (ix2 r k) + ∑ q : Fin 3072, a (ix2 r q) * w (ix2 k q) := by
  rw [add_comm]
  pointwise [k0_pay1]

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0]
    ∧ win0_3.index t = ![t.val, 0] := by
  decide +kernel

/-- The kernel's arguments. -/
abbrev argA : Vec Ideal S8192x3072 .f32 := m (c.tc.loc main_arg0)
abbrev argW : Vec Ideal S1024x3072 .f32 := m (c.tc.loc main_arg1)
abbrev argR : Vec Ideal S8192x1024 .f32 := m (c.tc.loc main_arg2)

theorem lt_rows (t : Fin cfg0.N) (r : Fin 1024) : t.val * 1024 + r.val < 8192 := by
  have := t.isLt; have h : cfg0.N = 8 := N_0; omega
abbrev row (t : Fin cfg0.N) (r : Fin 1024) : Fin 8192 := ⟨t.val * 1024 + r.val, lt_rows t r⟩

theorem blk_r (t : Fin cfg0.N) (r k : Fin 1024) : iblk m c 2 t (ix2 r k) = argR m c (ix2 (row t r) k) := by
  blk_ext [iblk, V, idx t]
theorem blk_a (t : Fin cfg0.N) (r : Fin 1024) (q : Fin 3072) : iblk m c 0 t (ix2 r q) = argA m c (ix2 (row t r) q) := by
  unfold iblk
  rw [View.read_apply]
  show V m c main_v0 _ = _
  entry_read
  pointwise
  blk_ext [idx t]
theorem blk_w (t : Fin cfg0.N) (k : Fin 1024) (q : Fin 3072) : iblk m c 1 t (ix2 k q) = argW m c (ix2 k q) := by
  unfold iblk
  rw [View.read_apply]
  show V m c main_v1 _ = _
  entry_read
  pointwise
  blk_ext [idx t]

/-- The weight has one block of columns, so the body reads it whole. -/
theorem off : ∀ t : Fin cfg0.N, k0_off1 (grid0.coords t) = ![0, 0] := by decide +kernel

theorem read_w (t : Fin cfg0.N) (h) (k : Fin 1024) (q : Fin 3072) :
    View.ld (iblk m c 1 t) (Rect.unit (k0_off1 (grid0.coords t)) ![1024, 3072] h) (ix2 k q) = argW m c (ix2 k q) := by
  refine (congrArg (iblk m c 1 t) (funext fun a => Fin.ext ?_)).trans (blk_w m c t k q)
  show k0_off1 (grid0.coords t) a + 1 * (ix2 k q a).val = (ix2 k q a).val
  rw [off, one_mul]
  match a with
  | ⟨0, _⟩ => exact Nat.zero_add _
  | ⟨1, _⟩ => exact Nat.zero_add _

theorem emb_summed (t : Fin cfg0.N) (r k : Fin 1024) : ((View.whole main_v2).slice (win0_3.rect t)).emb (ix2 r k) = ix2 (row t r) k := by
  blk_ext [idx t]

theorem final_summed : (dats m 0 c).arrAt 3 cfg0.N = summed (argA m c) (argW m c) (argR m c) := by
  refine (dats m 0 c).arrAt_eq_of_covers 3 _ (by decide +kernel) fun t hf y => ?_
  blk_simp
  rw [after0_3]
  obtain ⟨r, k, rfl⟩ : ∃ r k : Fin 1024, y = ix2 r k := ⟨y 0, y 1, eq_ix2 y⟩
  rw [emb_summed]
  unfold outsAt0
  frame_out
  rw [pay_summed]
  simp only [blk_r, blk_a, read_w]
  rfl

/-! ## The reference -/

theorem ref_summed (a : Vec Ideal S8192x3072 .f32) (w : Vec Ideal S1024x3072 .f32) (r : Vec Ideal S8192x1024 .f32) :
    Cert.MmReferenceIdeal.Read.val_main_v3 (F := Ideal) a w r = summed a w r := by
  funext i
  idx_vars i
  pointwise [Cert.MmReferenceIdeal.Read.val_main_v3, Cert.MmReferenceIdeal.Read.val_main_v2, Cert.MmReferenceIdeal.Read.val_main_v1,
    Cert.MmReferenceIdeal.Read.val_main_v0, Cert.MmReferenceIdeal.Read.val_main_cst]
  rfl

/-! ## The claims -/

/-- The reference runs to its end, its results as above and the arguments unchanged. -/
theorem run_reference (m : (ℓ : Loc Cert.MmReferenceIdeal.nD Cert.MmReferenceIdeal.τ Cert.MmReferenceIdeal.sig) → Buf (Elt Ideal) ℓ)
    (ρ : Dev Cert.MmReferenceIdeal.nD → PrngReg) : θ_run (Cert.MmReferenceIdeal.defs (F := Ideal)) (onTc (τ := Cert.MmReferenceIdeal.τ) (Cert.MmReferenceIdeal.main (F := Ideal)))
      ⟨m, fun _ => 0, ρ⟩ (fun r => ∀ c : Dev Cert.MmReferenceIdeal.nD,
        r.2.mem (c.tc.loc Cert.MmReferenceIdeal.main_v3) = summed (m (c.tc.loc Cert.MmReferenceIdeal.main_arg0)) (m (c.tc.loc Cert.MmReferenceIdeal.main_arg1)) (m (c.tc.loc Cert.MmReferenceIdeal.main_arg2))
        ∧ r.2.mem (c.tc.loc Cert.MmReferenceIdeal.main_arg0) = m (c.tc.loc Cert.MmReferenceIdeal.main_arg0)
        ∧ r.2.mem (c.tc.loc Cert.MmReferenceIdeal.main_arg1) = m (c.tc.loc Cert.MmReferenceIdeal.main_arg1)
        ∧ r.2.mem (c.tc.loc Cert.MmReferenceIdeal.main_arg2) = m (c.tc.loc Cert.MmReferenceIdeal.main_arg2)) :=
  (θ_run _ _ _).mono (fun _ h c => ⟨(h c).1.trans ((Cert.MmReferenceIdeal.Read.val_main_v3_eq _ _ _).trans (ref_summed _ _ _)),
    (h c).2⟩) (Cert.MmReferenceIdeal.Value.run m ρ)

/-- The reference runs to its end, its arguments unchanged; it declares no semaphore. -/
theorem frame_reference (m : (ℓ : Loc Cert.MmReferenceIdeal.nD Cert.MmReferenceIdeal.τ Cert.MmReferenceIdeal.sig) → Buf (Elt Ideal) ℓ)
    (ρ : Dev Cert.MmReferenceIdeal.nD → PrngReg) : θ_run (Cert.MmReferenceIdeal.defs (F := Ideal)) (onTc (τ := Cert.MmReferenceIdeal.τ) (Cert.MmReferenceIdeal.main (F := Ideal)))
      ⟨m, fun _ => 0, ρ⟩ (fun r => (∀ c : Dev Cert.MmReferenceIdeal.nD,
        r.2.mem (c.tc.loc Cert.MmReferenceIdeal.main_arg0) = m (c.tc.loc Cert.MmReferenceIdeal.main_arg0)
        ∧ r.2.mem (c.tc.loc Cert.MmReferenceIdeal.main_arg1) = m (c.tc.loc Cert.MmReferenceIdeal.main_arg1)
        ∧ r.2.mem (c.tc.loc Cert.MmReferenceIdeal.main_arg2) = m (c.tc.loc Cert.MmReferenceIdeal.main_arg2)) ∧ r.2.sem = fun _ => 0) :=
  (θ_run _ _ _).mono (fun _ h => ⟨fun c => (h c).2, sem_eq_zero_of_no_sems (by decide) _⟩) (run_reference m ρ)

/-- The kernel's result is the reference's. -/
theorem algebraic : algebraic_MmKernelIdeal_MmReferenceIdeal := by
  pair_intro
  · run_from Cert.MmKernelIdeal.Value.run_blocks m g
  · run_from run_reference m' g'
    · exact (final_summed m c).symm

end Cert.MmValue

end
-- ==== Proof.MmtnValue.lean ====
/- A weight's gradient: the transposed activation times the gradient, over all rows. -/
module

public import proofs.«01_k».proof.Defs
public import proofs.«01_k».proof.Proof.Lift
public import proofs.«01_k».proof.Proof.Gen.MmtnKernelIdeal.Value
public import proofs.«01_k».proof.Proof.Gen.MmtnReferenceIdeal.Run
public import proofs.«01_k».proof.Proof.Gen.MmtnReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MmtnValue

open Cert.MmtnKernelIdeal Cert.MmtnKernelIdeal.Gen

/-- The sum over the rows. -/
def gram (a : Vec Ideal S8192x1024 .f32) (b : Vec Ideal S8192x3072 .f32) : S1024x3072.Idx → EReal :=
  fun i => ∑ r : Fin 8192, a (ix2 r (i 0)) * b (ix2 r (i 1))

/-! ## The kernel -/

section Payloads

variable (r : Fin 1024) (k : Fin 1536)

theorem pay_zero : k0_pay1 (F := Ideal) (ix2 r k) = 0 := by pointwise [k0_pay1]
theorem pay_step (x : Vec Ideal S1024x1536 .f32) (a : Vec Ideal S2048x1024 .bf16) (b : Vec Ideal S2048x1536 .bf16) :
    k0_pay2 (F := Ideal) x a b (ix2 r k) = x (ix2 r k) + ∑ q : Fin 2048, a (ix2 q r) * b (ix2 q k) := by
  pointwise [k0_pay2]
theorem pay_out (x : Vec Ideal S1024x1536 .f32) : k0_pay3 (F := Ideal) x (ix2 r k) = x (ix2 r k) := by pointwise [k0_pay3]

end Payloads

variable (m : (ℓ : Loc nD τ sig) → Buf (Elt Ideal) ℓ) (c : Dev nD)

/-- The windows' block indices: the rows' block is the last coordinate of the grid. -/
theorem idx : ∀ t : Fin cfg0.N, win0_0.index t = ![t.val % 4, 0] ∧ win0_1.index t = ![t.val % 4, t.val / 4]
    ∧ win0_2.index t = ![0, t.val / 4] := by
  decide +kernel

/-- The kernel's arguments. -/
abbrev argA : Vec Ideal S8192x1024 .f32 := m (c.tc.loc main_arg0)
abbrev argB : Vec Ideal S8192x3072 .f32 := m (c.tc.loc main_arg1)

theorem lt_rows (t : Fin cfg0.N) (q : Fin 2048) : t.val % 4 * 2048 + q.val < 8192 := by omega
theorem lt_cols (t : Fin cfg0.N) (k : Fin 1536) : t.val / 4 * 1536 + k.val < 3072 := by
  have := t.isLt; have h : cfg0.N = 8 := N_0; omega
abbrev row (t : Fin cfg0.N) (q : Fin 2048) : Fin 8192 := ⟨t.val % 4 * 2048 + q.val, lt_rows t q⟩
abbrev col (t : Fin cfg0.N) (k : Fin 1536) : Fin 3072 := ⟨t.val / 4 * 1536 + k.val, lt_cols t k⟩

theorem blk_a (t : Fin cfg0.N) (q : Fin 2048) (r : Fin 1024) : iblk m c 0 t (ix2 q r) = argA m c (ix2 (row t q) r) := by
  unfold iblk
  rw [View.read_apply]
  show V m c main_v0 _ = _
  entry_read
  pointwise
  blk_ext [idx t]
theorem blk_b (t : Fin cfg0.N) (q : Fin 2048) (k : Fin 1536) : iblk m c 1 t (ix2 q k) = argB m c (ix2 (row t q) (col t k)) := by
  unfold iblk
  rw [View.read_apply]
  show V m c main_v1 _ = _
  entry_read
  pointwise
  blk_ext [idx t]

theorem emb_out (t : Fin cfg0.N) (r : Fin 1024) (k : Fin 1536) : ((View.whole main_v2).slice (win0_2.rect t)).emb (ix2 r k) = ix2 r (col t k) := by
  blk_ext [idx t]

/-- What one block of the rows adds. -/
def part (t : Fin cfg0.N) (y : S1024x1536.Idx) : EReal :=
  ∑ q : Fin 2048, argA m c (ix2 (row t q) (y 0)) * argB m c (ix2 (row t q) (col t (y 1)))

theorem last (t : Fin cfg0.N) (h : t.val % 4 = 3) (y : S1024x1536.Idx) :
    (outsAt0 m c t.val t.isLt).2 y = ∑ s : Fin 4, part m c ⟨4 * (t.val / 4) + s.val, by have := t.isLt; omega⟩ y := by
  rw [Pipeline.eq_sum_fin_of_reset_step_apply_of_flush (fun n h => (outsAt0 m c n h).2) 4 (fun _ => (0 : EReal)) (part m c) ?_ ?_ t h y]
  · exact zero_add _
  · intro t h j
    rw [outsAt0_A m c t h (by omega)]
    frame_out
    idx_vars j
    rw [pay_step, pay_zero]
    simp only [blk_a, blk_b]
    rfl
  · intro t h j
    by_cases h' : t.val % 4 = 3
    · rw [outsAt0_C m c t h h']
      frame_out
      idx_vars j
      rw [pay_step]
      simp only [blk_a, blk_b]
      exact congrArg (· + _) (congrFun (Memref.IsWhole.read_unread (Memref.isWhole_whole cc0_scratch0) _) _)
    · rw [outsAt0_B m c t h h']
      frame_out
      idx_vars j
      rw [pay_step]
      simp only [blk_a, blk_b]
      exact congrArg (· + _) (congrFun (Memref.IsWhole.read_unread (Memref.isWhole_whole cc0_scratch0) _) _)

/-- At the point that writes a block back, the block is what the scratch holds. -/
theorem out_last (t : Fin cfg0.N) (h : t.val % 4 = 3) (r : Fin 1024) (k : Fin 1536) :
    (outsAt0 m c t.val t.isLt).1 (ix2 r k) = (outsAt0 m c t.val t.isLt).2 (ix2 r k) := by
  rw [outsAt0_C m c t (by omega) h]
  frame_out
  rw [pay_out]

theorem final_gram : (dats m 0 c).arrAt 2 cfg0.N = gram (argA m c) (argB m c) := by
  refine (dats m 0 c).arrAt_eq_of_covers 2 _ (by decide +kernel) fun t hf y => ?_
  blk_simp
  rw [after0_2]
  have h := (flush0_2 t).mp hf
  obtain ⟨r, k, rfl⟩ : ∃ (r : Fin 1024) (k : Fin 1536), y = ix2 r k := ⟨y 0, y 1, eq_ix2 y⟩
  rw [emb_out]
  refine ((out_last m c t h r k).trans (last m c t h _)).trans ?_
  have e : ∀ s : Fin 4, part m c ⟨4 * (t.val / 4) + s.val, by have := t.isLt; omega⟩ (ix2 r k)
      = ∑ q : Fin 2048, argA m c (ix2 ⟨s.val * 2048 + q.val, by omega⟩ r) * argB m c (ix2 ⟨s.val * 2048 + q.val, by omega⟩ (col t k)) := fun s => by
    refine Finset.sum_congr rfl fun q _ => ?_
    have h1 : (4 * (t.val / 4) + s.val) % 4 = s.val := by omega
    have h2 : (4 * (t.val / 4) + s.val) / 4 = t.val / 4 := by omega
    exact congrArg₂ (· * ·) (congrArg (argA m c) (congrArg (ix2 · r) (Fin.ext (by show _ % 4 * 2048 + _ = s.val * 2048 + q.val; rw [h1]))))
      (congrArg (argB m c) (congrArg₂ ix2 (Fin.ext (by show _ % 4 * 2048 + _ = s.val * 2048 + q.val; rw [h1])) (Fin.ext (by show _ / 4 * 1536 + _ = t.val / 4 * 1536 + k.val; rw [h2]; rfl))))
  simp only [e]
  exact Lift.sum_blocks (by norm_num) (fun i => argA m c (ix2 i r) * argB m c (ix2 i (col t k))) _

/-! ## The reference -/

theorem ref_gram (a : Vec Ideal S8192x1024 .f32) (b : Vec Ideal S8192x3072 .f32) :
    Cert.MmtnReferenceIdeal.Read.val_main_v1 (F := Ideal) a b = gram a b := by
  funext i
  idx_vars i
  pointwise [Cert.MmtnReferenceIdeal.Read.val_main_v1, Cert.MmtnReferenceIdeal.Read.val_main_v0]
  rfl

/-! ## The claims -/

/-- The reference runs to its end, its results as above and the arguments unchanged. -/
theorem run_reference (m : (ℓ : Loc Cert.MmtnReferenceIdeal.nD Cert.MmtnReferenceIdeal.τ Cert.MmtnReferenceIdeal.sig) → Buf (Elt Ideal) ℓ)
    (ρ : Dev Cert.MmtnReferenceIdeal.nD → PrngReg) : θ_run (Cert.MmtnReferenceIdeal.defs (F := Ideal)) (onTc (τ := Cert.MmtnReferenceIdeal.τ) (Cert.MmtnReferenceIdeal.main (F := Ideal)))
      ⟨m, fun _ => 0, ρ⟩ (fun r => ∀ c : Dev Cert.MmtnReferenceIdeal.nD,
        r.2.mem (c.tc.loc Cert.MmtnReferenceIdeal.main_v1) = gram (m (c.tc.loc Cert.MmtnReferenceIdeal.main_arg0)) (m (c.tc.loc Cert.MmtnReferenceIdeal.main_arg1))
        ∧ r.2.mem (c.tc.loc Cert.MmtnReferenceIdeal.main_arg0) = m (c.tc.loc Cert.MmtnReferenceIdeal.main_arg0)
        ∧ r.2.mem (c.tc.loc Cert.MmtnReferenceIdeal.main_arg1) = m (c.tc.loc Cert.MmtnReferenceIdeal.main_arg1)) :=
  (θ_run _ _ _).mono (fun _ h c => ⟨(h c).1.trans ((Cert.MmtnReferenceIdeal.Read.val_main_v1_eq _ _).trans (ref_gram _ _)),
    (h c).2⟩) (Cert.MmtnReferenceIdeal.Value.run m ρ)

/-- The reference runs to its end, its arguments unchanged; it declares no semaphore. -/
theorem frame_reference (m : (ℓ : Loc Cert.MmtnReferenceIdeal.nD Cert.MmtnReferenceIdeal.τ Cert.MmtnReferenceIdeal.sig) → Buf (Elt Ideal) ℓ)
    (ρ : Dev Cert.MmtnReferenceIdeal.nD → PrngReg) : θ_run (Cert.MmtnReferenceIdeal.defs (F := Ideal)) (onTc (τ := Cert.MmtnReferenceIdeal.τ) (Cert.MmtnReferenceIdeal.main (F := Ideal)))
      ⟨m, fun _ => 0, ρ⟩ (fun r => (∀ c : Dev Cert.MmtnReferenceIdeal.nD,
        r.2.mem (c.tc.loc Cert.MmtnReferenceIdeal.main_arg0) = m (c.tc.loc Cert.MmtnReferenceIdeal.main_arg0)
        ∧ r.2.mem (c.tc.loc Cert.MmtnReferenceIdeal.main_arg1) = m (c.tc.loc Cert.MmtnReferenceIdeal.main_arg1)) ∧ r.2.sem = fun _ => 0) :=
  (θ_run _ _ _).mono (fun _ h => ⟨fun c => (h c).2, sem_eq_zero_of_no_sems (by decide) _⟩) (run_reference m ρ)

/-- The kernel's result is the reference's. -/
theorem algebraic : algebraic_MmtnKernelIdeal_MmtnReferenceIdeal := by
  pair_intro
  · run_from Cert.MmtnKernelIdeal.Value.run_blocks m g
  · run_from run_reference m' g'
    · exact (final_gram m c).symm

end Cert.MmtnValue

end
-- ==== Proof.AdamValue.lean ====
/- The optimiser's update of the FFN convolution's bias: the eight shards' gradients summed, the two moments moved on, and the
   step that Adam with decay of the weights takes of them. -/
module

public import proofs.«01_k».proof.Defs
public import proofs.«01_k».proof.Proof.Gen.AdamKernelIdeal.Value
public import proofs.«01_k».proof.Proof.Gen.AdamReferenceIdeal.Run
public import proofs.«01_k».proof.Proof.Gen.AdamReferenceIdeal.Read
public import Idealize.ShloMosaic.PureOps.IdealRules
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AdamValue

open Cert.AdamKernelIdeal Cert.AdamKernelIdeal.Gen

/-! ## What is computed, entry by entry -/

/-- The first moment moved on by the gradient. -/
def moved1 (x g : EReal) : EReal := Ideal.ofBits .f32 0x3F666666#32 * x + Ideal.ofBits .f32 0x3DCCCCCD#32 * g
/-- The second moment moved on by the gradient's square. -/
def moved2 (x g : EReal) : EReal := Ideal.ofBits .f32 0x3F7FBE77#32 * x + Ideal.ofBits .f32 0x3A83126F#32 * (g * g)
/-- The step of a weight `w` whose moments are `a` and `b`: each is freed of its bias by a division by 1 - 0.9 ^ 10, 1 - 0.999 ^ 10. -/
def stepped (w a b : EReal) : EReal :=
  Ideal.ofBits .f32 0xBA83126F#32
    * (Ideal.div (Ideal.div a (Ideal.ofBits .f32 0x3F26BD02#32))
        (Ideal.sqrt (Ideal.div b (Ideal.ofBits .f32 0x3C231ACC#32)) + Ideal.ofBits .f32 0x322BCC77#32)
      + Ideal.ofBits .f32 0x3C23D70A#32 * w)

abbrev Parts := Vec Ideal S8x4x5632 .f32
abbrev Rows := Vec Ideal S4x5632 .f32
abbrev Res := S1x4x5632.Idx → EReal

/-- The gradient: the sum of the shards'. -/
def grad (p : Parts) (r : Fin 4) (k : Fin 5632) : EReal := ∑ s : Fin 8, p (ix3 s r k)

def total (p : Parts) : Res := fun i => grad p (i 1) (i 2)
def first (p : Parts) (x : Rows) : Res := fun i => moved1 (x (ix2 (i 1) (i 2))) (grad p (i 1) (i 2))
def second (p : Parts) (y : Rows) : Res := fun i => moved2 (y (ix2 (i 1) (i 2))) (grad p (i 1) (i 2))
def step (p : Parts) (w x y : Rows) : Res := fun i =>
  stepped (w (ix2 (i 1) (i 2))) (moved1 (x (ix2 (i 1) (i 2))) (grad p (i 1) (i 2))) (moved2 (y (ix2 (i 1) (i 2))) (grad p (i 1) (i 2)))

theorem step_of {w w' x x' y y' g g' : EReal} (hw : w = w') (hx : x = x') (hy : y = y') (hg : g = g') :
    stepped w (moved1 x g) (moved2 y g) = stepped w' (moved1 x' g') (moved2 y' g') := by
  rw [hw, hx, hy, hg]

/-! ## The named constants -/

/-- The kernel multiplies by the reciprocal of what the reference divides by. -/
theorem div_bias1 (x : EReal) : Ideal.div x (Ideal.ofBits .f32 0x3F26BD02#32) = x * Named.named (F := Ideal) κ "inv_bias1" (φ := .f32) 0x3FC48605#32 := by
  have h : Ideal.ofBits .f32 0x3F26BD02#32 = ((5463681 / 8388608 : ℝ) : EReal) := by simp [Ideal.ofBits, Ideal.ieee, -EReal.coe_mul]; norm_num
  have e : Named.named (F := Ideal) κ "inv_bias1" (φ := .f32) 0x3FC48605#32 = ((8388608 / 5463681 : ℝ) : EReal) :=
    IdealRules.named_const.ideal_named_scalar _ _ _ _ rfl
  rw [h, e, Ideal.div_coe (by norm_num), one_div_div]

theorem div_bias2 (x : EReal) : Ideal.div x (Ideal.ofBits .f32 0x3C231ACC#32) = x * Named.named (F := Ideal) κ "inv_bias2" (φ := .f32) 0x42C8E6D3#32 := by
  have h : Ideal.ofBits .f32 0x3C231ACC#32 = ((2672307 / 268435456 : ℝ) : EReal) := by simp [Ideal.ofBits, Ideal.ieee, -EReal.coe_mul]; norm_num
  have e : Named.named (F := Ideal) κ "inv_bias2" (φ := .f32) 0x42C8E6D3#32 = ((268435456 / 2672307 : ℝ) : EReal) :=
    IdealRules.named_const.ideal_named_scalar _ _ _ _ rfl
  rw [h, e, Ideal.div_coe (by norm_num), one_div_div]

theorem preserves : preserves_AdamKernel_AdamKernelIdeal :=
  ⟨IdealRules.named_const.statement κ "inv_bias1" .f32 0x3FC48605#32 ((8388608 / 5463681 : ℝ) : EReal) rfl,
    IdealRules.named_const.statement κ "inv_bias2" .f32 0x42C8E6D3#32 ((268435456 / 2672307 : ℝ) : EReal) rfl⟩

/-! ## The kernel -/

section Payloads
variable (a0 a1 a2 a3 a4 a5 a6 a7 x y w : Vec Ideal S1x4x5632 .f32) (g u : FVec Ideal S4x5632 .f32) (z : Fin 1) (r : Fin 4) (k : Fin 5632)

theorem pay_grad : k0_pay2 (F := Ideal) a0 a1 a2 a3 a4 a5 a6 a7 (ix2 r k)
    = a0 (ix3 0 r k) + a1 (ix3 0 r k) + a2 (ix3 0 r k) + a3 (ix3 0 r k) + a4 (ix3 0 r k) + a5 (ix3 0 r k) + a6 (ix3 0 r k) + a7 (ix3 0 r k) := by
  pointwise [k0_pay2]
theorem pay_first : k0_pay3 (F := Ideal) a0 a1 a2 a3 a4 a5 a6 a7 x (ix2 r k)
    = moved1 (x (ix3 0 r k)) (k0_pay2 (F := Ideal) a0 a1 a2 a3 a4 a5 a6 a7 (ix2 r k)) := by
  pointwise [k0_pay3]
  rfl
theorem pay_second : k0_pay4 (F := Ideal) g y (ix2 r k) = moved2 (y (ix3 0 r k)) (g (ix2 r k)) := by
  pointwise [k0_pay4]
  rfl
theorem pay_step : k0_pay8 (F := Ideal) g u y w (ix2 r k) = stepped (w (ix3 0 r k)) (u (ix2 r k)) (moved2 (y (ix3 0 r k)) (g (ix2 r k))) := by
  rw [stepped, div_bias1, div_bias2, ← pay_second]
  pointwise [k0_pay8]
theorem out_total : k0_pay5 (F := Ideal) g (ix3 z r k) = g (ix2 r k) := by
  pointwise [k0_pay5]
theorem out_first : k0_pay6 (F := Ideal) g (ix3 z r k) = g (ix2 r k) := by
  pointwise [k0_pay6]
theorem out_second : k0_pay7 (F := Ideal) g y (ix3 z r k) = k0_pay4 (F := Ideal) g y (ix2 r k) := by
  pointwise [k0_pay7]
theorem out_step : k0_pay1 (F := Ideal) g (ix3 z r k) = g (ix2 r k) := by
  pointwise [k0_pay1]
end Payloads

variable (m : (ℓ : Loc nD τ sig) → Buf (Elt Ideal) ℓ) (c : Dev nD)

/-- The windows' block indices: every array is one block. -/
theorem idx : ∀ t : Fin cfg0.N, (win0_0.index t = ![0, 0, 0] ∧ win0_1.index t = ![0, 0, 0] ∧ win0_2.index t = ![0, 0, 0]
    ∧ win0_3.index t = ![0, 0, 0]) ∧ win0_4.index t = ![0, 0, 0] ∧ win0_5.index t = ![0, 0, 0] ∧ win0_6.index t = ![0, 0, 0]
    ∧ win0_7.index t = ![0, 0, 0] := by
  decide +kernel

/-- The kernel's arguments. -/
abbrev argP : Parts := m (c.tc.loc main_arg0)
abbrev argW : Rows := m (c.tc.loc main_arg1)
abbrev argX : Rows := m (c.tc.loc main_arg2)
abbrev argY : Rows := m (c.tc.loc main_arg3)

theorem blk_p (t : Fin cfg0.N) (s : Fin 8) (r : Fin 4) (k : Fin 5632) : iblk m c 0 t (ix3 s r k) = argP m c (ix3 s r k) := by
  blk_ext [iblk, V, idx t]

/-- One shard's gradient, which the body reads by itself. -/
theorem read_p (t : Fin cfg0.N) (s : Fin 8) (h) (r : Fin 4) (k : Fin 5632) :
    View.ld (iblk m c 0 t) (Rect.unit ![s.val, 0, 0] S1x4x5632.size h) (ix3 0 r k) = argP m c (ix3 s r k) := by
  refine (congrArg (iblk m c 0 t) (funext fun a => Fin.ext ?_)).trans (blk_p m c t s r k)
  match a with
  | ⟨0, _⟩ => show s.val + 1 * 0 = s.val; omega
  | ⟨1, _⟩ => show 0 + 1 * r.val = r.val; omega
  | ⟨2, _⟩ => show 0 + 1 * k.val = k.val; omega

theorem blk_w (t : Fin cfg0.N) (z : Fin 1) (r : Fin 4) (k : Fin 5632) : iblk m c 1 t (ix3 z r k) = argW m c (ix2 r k) := by
  unfold iblk
  rw [View.read_apply]
  show V m c main_v0 _ = _
  entry_read
  pointwise
  blk_ext [idx t]
theorem blk_x (t : Fin cfg0.N) (z : Fin 1) (r : Fin 4) (k : Fin 5632) : iblk m c 2 t (ix3 z r k) = argX m c (ix2 r k) := by
  unfold iblk
  rw [View.read_apply]
  show V m c main_v1 _ = _
  entry_read
  pointwise
  blk_ext [idx t]
theorem blk_y (t : Fin cfg0.N) (z : Fin 1) (r : Fin 4) (k : Fin 5632) : iblk m c 3 t (ix3 z r k) = argY m c (ix2 r k) := by
  unfold iblk
  rw [View.read_apply]
  show V m c main_v2 _ = _
  entry_read
  pointwise
  blk_ext [idx t]

/-- The shards' gradients as the body reads them sum to the gradient. -/
theorem grad_of (t : Fin cfg0.N) (h0 h1 h2 h3 h4 h5 h6 h7) (r : Fin 4) (k : Fin 5632) :
    k0_pay2 (F := Ideal) (View.ld (iblk m c 0 t) (Rect.unit ![0, 0, 0] S1x4x5632.size h0)) (View.ld (iblk m c 0 t) (Rect.unit ![1, 0, 0] S1x4x5632.size h1))
      (View.ld (iblk m c 0 t) (Rect.unit ![2, 0, 0] S1x4x5632.size h2)) (View.ld (iblk m c 0 t) (Rect.unit ![3, 0, 0] S1x4x5632.size h3))
      (View.ld (iblk m c 0 t) (Rect.unit ![4, 0, 0] S1x4x5632.size h4)) (View.ld (iblk m c 0 t) (Rect.unit ![5, 0, 0] S1x4x5632.size h5))
      (View.ld (iblk m c 0 t) (Rect.unit ![6, 0, 0] S1x4x5632.size h6)) (View.ld (iblk m c 0 t) (Rect.unit ![7, 0, 0] S1x4x5632.size h7)) (ix2 r k)
      = grad (argP m c) r k := by
  rw [pay_grad, grad, Fin.sum_univ_eight]
  exact congrArg₂ (· + ·) (congrArg₂ (· + ·) (congrArg₂ (· + ·) (congrArg₂ (· + ·) (congrArg₂ (· + ·) (congrArg₂ (· + ·)
    (congrArg₂ (· + ·) (read_p m c t 0 h0 r k) (read_p m c t 1 h1 r k)) (read_p m c t 2 h2 r k)) (read_p m c t 3 h3 r k))
    (read_p m c t 4 h4 r k)) (read_p m c t 5 h5 r k)) (read_p m c t 6 h6 r k)) (read_p m c t 7 h7 r k)

theorem emb_total (t : Fin cfg0.N) (z : Fin 1) (r : Fin 4) (k : Fin 5632) :
    ((View.whole main_v3_0).slice (win0_4.rect t)).emb (ix3 z r k) = ix3 z r k := by
  blk_ext [idx t]

theorem final_total : (dats m 0 c).arrAt 4 cfg0.N = total (argP m c) := by
  refine (dats m 0 c).arrAt_eq_of_covers 4 _ (by decide +kernel) fun t hf y => ?_
  blk_simp
  rw [after0_4]
  obtain ⟨z, r, k, rfl⟩ : ∃ (z : Fin 1) (r : Fin 4) (k : Fin 5632), y = ix3 z r k := ⟨y 0, y 1, y 2, eq_ix3 y⟩
  rw [emb_total]
  unfold outsAt0
  frame_out
  rw [out_total, grad_of]
  rfl

theorem emb_step (t : Fin cfg0.N) (z : Fin 1) (r : Fin 4) (k : Fin 5632) :
    ((View.whole main_v3_1).slice (win0_5.rect t)).emb (ix3 z r k) = ix3 z r k := by
  blk_ext [idx t]

theorem final_step : (dats m 0 c).arrAt 5 cfg0.N = step (argP m c) (argW m c) (argX m c) (argY m c) := by
  refine (dats m 0 c).arrAt_eq_of_covers 5 _ (by decide +kernel) fun t hf y => ?_
  blk_simp
  rw [after0_5]
  obtain ⟨z, r, k, rfl⟩ : ∃ (z : Fin 1) (r : Fin 4) (k : Fin 5632), y = ix3 z r k := ⟨y 0, y 1, y 2, eq_ix3 y⟩
  rw [emb_step]
  unfold outsAt0
  frame_out
  rw [out_step, pay_step, pay_first]
  exact step_of (blk_w m c t 0 r k) (blk_x m c t 0 r k) (blk_y m c t 0 r k) (grad_of m c t _ _ _ _ _ _ _ _ r k)

theorem emb_first (t : Fin cfg0.N) (z : Fin 1) (r : Fin 4) (k : Fin 5632) :
    ((View.whole main_v3_2).slice (win0_6.rect t)).emb (ix3 z r k) = ix3 z r k := by
  blk_ext [idx t]

theorem final_first : (dats m 0 c).arrAt 6 cfg0.N = first (argP m c) (argX m c) := by
  refine (dats m 0 c).arrAt_eq_of_covers 6 _ (by decide +kernel) fun t hf y => ?_
  blk_simp
  rw [after0_6]
  obtain ⟨z, r, k, rfl⟩ : ∃ (z : Fin 1) (r : Fin 4) (k : Fin 5632), y = ix3 z r k := ⟨y 0, y 1, y 2, eq_ix3 y⟩
  rw [emb_first]
  unfold outsAt0
  frame_out
  rw [out_first, pay_first, grad_of, blk_x]
  rfl

theorem emb_second (t : Fin cfg0.N) (z : Fin 1) (r : Fin 4) (k : Fin 5632) :
    ((View.whole main_v3_3).slice (win0_7.rect t)).emb (ix3 z r k) = ix3 z r k := by
  blk_ext [idx t]

theorem final_second : (dats m 0 c).arrAt 7 cfg0.N = second (argP m c) (argY m c) := by
  refine (dats m 0 c).arrAt_eq_of_covers 7 _ (by decide +kernel) fun t hf y => ?_
  blk_simp
  rw [after0_7]
  obtain ⟨z, r, k, rfl⟩ : ∃ (z : Fin 1) (r : Fin 4) (k : Fin 5632), y = ix3 z r k := ⟨y 0, y 1, y 2, eq_ix3 y⟩
  rw [emb_second]
  unfold outsAt0
  frame_out
  rw [out_second, pay_second, grad_of, blk_y]
  rfl

/-! ## The reference -/

theorem ref_grad (p : Parts) (r : Fin 4) (k : Fin 5632) : Cert.AdamReferenceIdeal.Read.val_main_v0 (F := Ideal) p (ix2 r k) = grad p r k := by
  pointwise [Cert.AdamReferenceIdeal.Read.val_main_v0, Cert.AdamReferenceIdeal.Read.val_main_cst]
  rfl
theorem ref_moved1 (p : Parts) (x : Rows) (r : Fin 4) (k : Fin 5632) :
    Cert.AdamReferenceIdeal.Read.val_main_v5 (F := Ideal) p x (ix2 r k) = moved1 (x (ix2 r k)) (grad p r k) := by
  rw [← ref_grad]
  pointwise [Cert.AdamReferenceIdeal.Read.val_main_v5, Cert.AdamReferenceIdeal.Read.val_main_v4, Cert.AdamReferenceIdeal.Read.val_main_v3, Cert.AdamReferenceIdeal.Read.val_main_v2, Cert.AdamReferenceIdeal.Read.val_main_v1, Cert.AdamReferenceIdeal.Read.val_main_cst_0, Cert.AdamReferenceIdeal.Read.val_main_cst_1]
  rfl
theorem ref_moved2 (p : Parts) (y : Rows) (r : Fin 4) (k : Fin 5632) :
    Cert.AdamReferenceIdeal.Read.val_main_v11 (F := Ideal) p y (ix2 r k) = moved2 (y (ix2 r k)) (grad p r k) := by
  rw [← ref_grad]
  pointwise [Cert.AdamReferenceIdeal.Read.val_main_v11, Cert.AdamReferenceIdeal.Read.val_main_v10, Cert.AdamReferenceIdeal.Read.val_main_v9, Cert.AdamReferenceIdeal.Read.val_main_v8, Cert.AdamReferenceIdeal.Read.val_main_v7, Cert.AdamReferenceIdeal.Read.val_main_v6, Cert.AdamReferenceIdeal.Read.val_main_cst_2, Cert.AdamReferenceIdeal.Read.val_main_cst_3]
  rfl

theorem ref_total (p : Parts) : Cert.AdamReferenceIdeal.Read.val_main_v25 (F := Ideal) p = total p := by
  funext i
  obtain ⟨z, r, k, rfl⟩ : ∃ (z : Fin 1) (r : Fin 4) (k : Fin 5632), i = ix3 z r k := ⟨i 0, i 1, i 2, eq_ix3 i⟩
  refine Eq.trans ?_ (show grad p r k = _ from rfl)
  rw [← ref_grad]
  pointwise [Cert.AdamReferenceIdeal.Read.val_main_v25]

theorem ref_step (p : Parts) (w x y : Rows) : Cert.AdamReferenceIdeal.Read.val_main_v26 (F := Ideal) p w x y = step p w x y := by
  funext i
  obtain ⟨z, r, k, rfl⟩ : ∃ (z : Fin 1) (r : Fin 4) (k : Fin 5632), i = ix3 z r k := ⟨i 0, i 1, i 2, eq_ix3 i⟩
  refine Eq.trans ?_ (show stepped (w (ix2 r k)) (moved1 (x (ix2 r k)) (grad p r k)) (moved2 (y (ix2 r k)) (grad p r k)) = _ from rfl)
  rw [← ref_moved1, ← ref_moved2]
  pointwise [Cert.AdamReferenceIdeal.Read.val_main_v26, Cert.AdamReferenceIdeal.Read.val_main_v12, Cert.AdamReferenceIdeal.Read.val_main_v13, Cert.AdamReferenceIdeal.Read.val_main_v14, Cert.AdamReferenceIdeal.Read.val_main_v15, Cert.AdamReferenceIdeal.Read.val_main_v16, Cert.AdamReferenceIdeal.Read.val_main_v17, Cert.AdamReferenceIdeal.Read.val_main_v18, Cert.AdamReferenceIdeal.Read.val_main_v19, Cert.AdamReferenceIdeal.Read.val_main_v20, Cert.AdamReferenceIdeal.Read.val_main_v21, Cert.AdamReferenceIdeal.Read.val_main_v22, Cert.AdamReferenceIdeal.Read.val_main_v23, Cert.AdamReferenceIdeal.Read.val_main_v24, Cert.AdamReferenceIdeal.Read.val_main_cst_4, Cert.AdamReferenceIdeal.Read.val_main_cst_5, Cert.AdamReferenceIdeal.Read.val_main_cst_6, Cert.AdamReferenceIdeal.Read.val_main_cst_7, Cert.AdamReferenceIdeal.Read.val_main_cst_8]
  rfl

theorem ref_first (p : Parts) (x : Rows) : Cert.AdamReferenceIdeal.Read.val_main_v27 (F := Ideal) p x = first p x := by
  funext i
  obtain ⟨z, r, k, rfl⟩ : ∃ (z : Fin 1) (r : Fin 4) (k : Fin 5632), i = ix3 z r k := ⟨i 0, i 1, i 2, eq_ix3 i⟩
  refine Eq.trans ?_ (show moved1 (x (ix2 r k)) (grad p r k) = _ from rfl)
  rw [← ref_moved1]
  pointwise [Cert.AdamReferenceIdeal.Read.val_main_v27]

theorem ref_second (p : Parts) (y : Rows) : Cert.AdamReferenceIdeal.Read.val_main_v28 (F := Ideal) p y = second p y := by
  funext i
  obtain ⟨z, r, k, rfl⟩ : ∃ (z : Fin 1) (r : Fin 4) (k : Fin 5632), i = ix3 z r k := ⟨i 0, i 1, i 2, eq_ix3 i⟩
  refine Eq.trans ?_ (show moved2 (y (ix2 r k)) (grad p r k) = _ from rfl)
  rw [← ref_moved2]
  pointwise [Cert.AdamReferenceIdeal.Read.val_main_v28]

/-! ## The claims -/

/-- The reference runs to its end, its results as above and the arguments unchanged. -/
theorem run_reference (m : (ℓ : Loc Cert.AdamReferenceIdeal.nD Cert.AdamReferenceIdeal.τ Cert.AdamReferenceIdeal.sig) → Buf (Elt Ideal) ℓ)
    (ρ : Dev Cert.AdamReferenceIdeal.nD → PrngReg) : θ_run (Cert.AdamReferenceIdeal.defs (F := Ideal)) (onTc (τ := Cert.AdamReferenceIdeal.τ) (Cert.AdamReferenceIdeal.main (F := Ideal)))
      ⟨m, fun _ => 0, ρ⟩ (fun r => ∀ c : Dev Cert.AdamReferenceIdeal.nD,
        r.2.mem (c.tc.loc Cert.AdamReferenceIdeal.main_v25) = total (m (c.tc.loc Cert.AdamReferenceIdeal.main_arg0))
        ∧ r.2.mem (c.tc.loc Cert.AdamReferenceIdeal.main_v26) = step (m (c.tc.loc Cert.AdamReferenceIdeal.main_arg0)) (m (c.tc.loc Cert.AdamReferenceIdeal.main_arg1)) (m (c.tc.loc Cert.AdamReferenceIdeal.main_arg2)) (m (c.tc.loc Cert.AdamReferenceIdeal.main_arg3))
        ∧ r.2.mem (c.tc.loc Cert.AdamReferenceIdeal.main_v27) = first (m (c.tc.loc Cert.AdamReferenceIdeal.main_arg0)) (m (c.tc.loc Cert.AdamReferenceIdeal.main_arg2))
        ∧ r.2.mem (c.tc.loc Cert.AdamReferenceIdeal.main_v28) = second (m (c.tc.loc Cert.AdamReferenceIdeal.main_arg0)) (m (c.tc.loc Cert.AdamReferenceIdeal.main_arg3))
        ∧ r.2.mem (c.tc.loc Cert.AdamReferenceIdeal.main_arg0) = m (c.tc.loc Cert.AdamReferenceIdeal.main_arg0)
        ∧ r.2.mem (c.tc.loc Cert.AdamReferenceIdeal.main_arg1) = m (c.tc.loc Cert.AdamReferenceIdeal.main_arg1)
        ∧ r.2.mem (c.tc.loc Cert.AdamReferenceIdeal.main_arg2) = m (c.tc.loc Cert.AdamReferenceIdeal.main_arg2)
        ∧ r.2.mem (c.tc.loc Cert.AdamReferenceIdeal.main_arg3) = m (c.tc.loc Cert.AdamReferenceIdeal.main_arg3)
        ∧ r.2.mem (c.tc.loc Cert.AdamReferenceIdeal.main_arg4) = m (c.tc.loc Cert.AdamReferenceIdeal.main_arg4)
        ∧ r.2.mem (c.tc.loc Cert.AdamReferenceIdeal.main_arg5) = m (c.tc.loc Cert.AdamReferenceIdeal.main_arg5)
        ∧ r.2.mem (c.tc.loc Cert.AdamReferenceIdeal.main_arg6) = m (c.tc.loc Cert.AdamReferenceIdeal.main_arg6)
        ∧ r.2.mem (c.tc.loc Cert.AdamReferenceIdeal.main_arg7) = m (c.tc.loc Cert.AdamReferenceIdeal.main_arg7)) :=
  (θ_run _ _ _).mono (fun _ h c => ⟨(h c).1.trans ((Cert.AdamReferenceIdeal.Read.val_main_v25_eq _).trans (ref_total _)),
    (h c).2.1.trans ((Cert.AdamReferenceIdeal.Read.val_main_v26_eq _ _ _ _).trans (ref_step _ _ _ _)),
    (h c).2.2.1.trans ((Cert.AdamReferenceIdeal.Read.val_main_v27_eq _ _).trans (ref_first _ _)),
    (h c).2.2.2.1.trans ((Cert.AdamReferenceIdeal.Read.val_main_v28_eq _ _).trans (ref_second _ _)),
    (h c).2.2.2.2⟩) (Cert.AdamReferenceIdeal.Value.run m ρ)

/-- The reference runs to its end, its arguments unchanged; it declares no semaphore. -/
theorem frame_reference (m : (ℓ : Loc Cert.AdamReferenceIdeal.nD Cert.AdamReferenceIdeal.τ Cert.AdamReferenceIdeal.sig) → Buf (Elt Ideal) ℓ)
    (ρ : Dev Cert.AdamReferenceIdeal.nD → PrngReg) : θ_run (Cert.AdamReferenceIdeal.defs (F := Ideal)) (onTc (τ := Cert.AdamReferenceIdeal.τ) (Cert.AdamReferenceIdeal.main (F := Ideal)))
      ⟨m, fun _ => 0, ρ⟩ (fun r => (∀ c : Dev Cert.AdamReferenceIdeal.nD,
        r.2.mem (c.tc.loc Cert.AdamReferenceIdeal.main_arg0) = m (c.tc.loc Cert.AdamReferenceIdeal.main_arg0)
        ∧ r.2.mem (c.tc.loc Cert.AdamReferenceIdeal.main_arg1) = m (c.tc.loc Cert.AdamReferenceIdeal.main_arg1)
        ∧ r.2.mem (c.tc.loc Cert.AdamReferenceIdeal.main_arg2) = m (c.tc.loc Cert.AdamReferenceIdeal.main_arg2)
        ∧ r.2.mem (c.tc.loc Cert.AdamReferenceIdeal.main_arg3) = m (c.tc.loc Cert.AdamReferenceIdeal.main_arg3)
        ∧ r.2.mem (c.tc.loc Cert.AdamReferenceIdeal.main_arg4) = m (c.tc.loc Cert.AdamReferenceIdeal.main_arg4)
        ∧ r.2.mem (c.tc.loc Cert.AdamReferenceIdeal.main_arg5) = m (c.tc.loc Cert.AdamReferenceIdeal.main_arg5)
        ∧ r.2.mem (c.tc.loc Cert.AdamReferenceIdeal.main_arg6) = m (c.tc.loc Cert.AdamReferenceIdeal.main_arg6)
        ∧ r.2.mem (c.tc.loc Cert.AdamReferenceIdeal.main_arg7) = m (c.tc.loc Cert.AdamReferenceIdeal.main_arg7)) ∧ r.2.sem = fun _ => 0) :=
  (θ_run _ _ _).mono (fun _ h => ⟨fun c => (h c).2.2.2.2, sem_eq_zero_of_no_sems (by decide) _⟩) (run_reference m ρ)

/-- The kernel's results are the reference's. -/
theorem algebraic : algebraic_AdamKernelIdeal_AdamReferenceIdeal := by
  pair_intro
  · run_from Cert.AdamKernelIdeal.Value.run_blocks m g
  · run_from run_reference m' g'
    · exact (final_total m c).symm
    · exact (final_step m c).symm
    · exact (final_first m c).symm
    · exact (final_second m c).symm

end Cert.AdamValue

end
-- ==== Proof.CastValue.lean ====
/- The weights' casts: each layer of each stack by itself, in the matmuls' number type. The extended reals have no rounding, so a
   cast layer is the layer; two of the stacks are handed over transposed. -/
module

public import proofs.«01_k».proof.Defs
public import proofs.«01_k».proof.Proof.Gen.CastKernelIdeal.Value
public import proofs.«01_k».proof.Proof.Gen.CastReferenceIdeal.Run
public import proofs.«01_k».proof.Proof.Gen.CastReferenceIdeal.Read
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.CastValue

open Cert.CastKernelIdeal Cert.CastKernelIdeal.Gen

/-- One layer of a stack. -/
def layer {n a b : ℕ} (w : (⟨3, ![n, a, b]⟩ : Shape).Idx → EReal) (l : Fin n) : (⟨2, ![a, b]⟩ : Shape).Idx → EReal :=
  fun i => w (ix3 l (i 0) (i 1))
/-- One layer of a stack, transposed. -/
def layerT {n a b : ℕ} (w : (⟨3, ![n, a, b]⟩ : Shape).Idx → EReal) (l : Fin n) : (⟨2, ![b, a]⟩ : Shape).Idx → EReal :=
  fun i => w (ix3 l (i 1) (i 0))

/-- A layer read out of the stack is that layer. -/
theorem layer_ld {n a b : ℕ} (w : Vec Ideal ⟨3, ![n, a, b]⟩ .f32) (l : Fin n) (h) :
    layer (View.ld w (Rect.unit (s := ⟨3, ![n, a, b]⟩) ![l.val, 0, 0] ![1, a, b] h)) (0 : Fin 1) = layer w l := by
  funext i
  refine congrArg w (funext fun x => Fin.ext ?_)
  match x with
  | ⟨0, _⟩ => show l.val + 1 * 0 = l.val; omega
  | ⟨1, _⟩ => show 0 + 1 * (i 0).val = (i 0).val; omega
  | ⟨2, _⟩ => show 0 + 1 * (i 1).val = (i 1).val; omega

/-! ## The kernel -/

/-! What is stored of a layer is the layer. -/

theorem pay_scIn (x : Vec Ideal S1x1024x384 .f32) :
    k0_pay5 (F := Ideal) x = layer x 0 ∧ k0_pay6 (F := Ideal) x = layer x 0 := by
  refine ⟨?_, ?_⟩ <;> (funext i; idx_vars i)
  · pointwise [k0_pay5, layer]; try rfl
  · pointwise [k0_pay6, layer]; try rfl
theorem pay_scOut (x : Vec Ideal S1x128x1024 .f32) :
    k0_pay7 (F := Ideal) x = layer x 0 ∧ k0_pay8 (F := Ideal) x = layer x 0 := by
  refine ⟨?_, ?_⟩ <;> (funext i; idx_vars i)
  · pointwise [k0_pay7, layer]; try rfl
  · pointwise [k0_pay8, layer]; try rfl
theorem pay_lruIn (x : Vec Ideal S1x320x1024 .f32) :
    k0_pay9 (F := Ideal) x = layer x 0 ∧ k0_pay10 (F := Ideal) x = layer x 0 := by
  refine ⟨?_, ?_⟩ <;> (funext i; idx_vars i)
  · pointwise [k0_pay9, layer]; try rfl
  · pointwise [k0_pay10, layer]; try rfl
theorem pay_lruOut (x : Vec Ideal S1x160x1024 .f32) :
    k0_pay11 (F := Ideal) x = layer x 0 ∧ k0_pay12 (F := Ideal) x = layer x 0 := by
  refine ⟨?_, ?_⟩ <;> (funext i; idx_vars i)
  · pointwise [k0_pay11, layer]; try rfl
  · pointwise [k0_pay12, layer]; try rfl
theorem pay_up (x : Vec Ideal S1x704x1024 .f32) :
    k0_pay13 (F := Ideal) x = layer x 0 ∧ k0_pay14 (F := Ideal) x = layer x 0
      ∧ k0_pay15 (F := Ideal) x = layer x 0 ∧ k0_pay16 (F := Ideal) x = layer x 0 := by
  refine ⟨?_, ?_, ?_, ?_⟩ <;> (funext i; idx_vars i)
  · pointwise [k0_pay13, layer]; try rfl
  · pointwise [k0_pay14, layer]; try rfl
  · pointwise [k0_pay15, layer]; try rfl
  · pointwise [k0_pay16, layer]; try rfl
theorem pay_down (x : Vec Ideal S1x352x1024 .f32) :
    k0_pay1 (F := Ideal) x = layer x 0 ∧ k0_pay2 (F := Ideal) x = layer x 0
      ∧ k0_pay3 (F := Ideal) x = layer x 0 ∧ k0_pay4 (F := Ideal) x = layer x 0 := by
  refine ⟨?_, ?_, ?_, ?_⟩ <;> (funext i; idx_vars i)
  · pointwise [k0_pay1, layer]; try rfl
  · pointwise [k0_pay2, layer]; try rfl
  · pointwise [k0_pay3, layer]; try rfl
  · pointwise [k0_pay4, layer]; try rfl

variable (m : (ℓ : Loc nD τ sig) → Buf (Elt Ideal) ℓ) (c : Dev nD)

/-- The windows' block indices: every array is one block. -/
theorem idx_in : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] := by
  decide +kernel
theorem idx_out : ∀ t : Fin cfg0.N, win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0] := by
  decide +kernel

/-- The kernel's arguments. -/
abbrev argScIn : Vec Ideal S2x1024x384 .f32 := m (c.tc.loc main_arg0)
abbrev argScOut : Vec Ideal S2x128x1024 .f32 := m (c.tc.loc main_arg1)
abbrev argLruIn : Vec Ideal S2x1024x320 .f32 := m (c.tc.loc main_arg2)
abbrev argLruOut : Vec Ideal S2x160x1024 .f32 := m (c.tc.loc main_arg3)
abbrev argUp : Vec Ideal S4x1024x704 .f32 := m (c.tc.loc main_arg4)
abbrev argDown : Vec Ideal S4x352x1024 .f32 := m (c.tc.loc main_arg5)

/-! Every stack is one block; the two transposed ones are transposed before the call. -/

theorem blk_scIn (t : Fin cfg0.N) (l : Fin 2) : layer (n := 2) (a := 1024) (b := 384) (iblk m c 0 t) l = layer (argScIn m c) l := by
  funext i
  idx_vars i
  unfold layer iblk
  blk_ext [V, idx_in t]
theorem blk_scOut (t : Fin cfg0.N) (l : Fin 2) : layer (n := 2) (a := 128) (b := 1024) (iblk m c 1 t) l = layer (argScOut m c) l := by
  funext i
  idx_vars i
  unfold layer iblk
  blk_ext [V, idx_in t]
theorem blk_lruIn (t : Fin cfg0.N) (l : Fin 2) : layer (n := 2) (a := 320) (b := 1024) (iblk m c 2 t) l = layerT (argLruIn m c) l := by
  funext i
  idx_vars i
  unfold layer layerT iblk
  rw [View.read_apply]
  show V m c main_v0 _ = _
  entry_read
  pointwise
  blk_ext [idx_in t]
theorem blk_lruOut (t : Fin cfg0.N) (l : Fin 2) : layer (n := 2) (a := 160) (b := 1024) (iblk m c 3 t) l = layer (argLruOut m c) l := by
  funext i
  idx_vars i
  unfold layer iblk
  blk_ext [V, idx_in t]
theorem blk_up (t : Fin cfg0.N) (l : Fin 4) : layer (n := 4) (a := 704) (b := 1024) (iblk m c 4 t) l = layerT (argUp m c) l := by
  funext i
  idx_vars i
  unfold layer layerT iblk
  rw [View.read_apply]
  show V m c main_v1 _ = _
  entry_read
  pointwise
  blk_ext [idx_in t]
theorem blk_down (t : Fin cfg0.N) (l : Fin 4) : layer (n := 4) (a := 352) (b := 1024) (iblk m c 5 t) l = layer (argDown m c) l := by
  funext i
  idx_vars i
  unfold layer iblk
  blk_ext [V, idx_in t]

theorem final_scIn0 : (dats m 0 c).arrAt 6 cfg0.N = layer (argScIn m c) 0 := by
  refine (dats m 0 c).arrAt_eq_of_covers 6 _ (by decide +kernel) fun t hf y => ?_
  blk_simp
  rw [after0_6]
  have e : ((View.whole main_v2_0).slice (win0_6.rect t)).emb y = y := by
    idx_vars y
    blk_ext [idx_out t]
  rw [e, ← blk_scIn m c t 0]
  unfold out0_6
  frame_out
  exact congrFun ((pay_scIn _).1.trans (layer_ld (iblk m c 0 t) (0 : Fin 2) _)) y

theorem final_scIn1 : (dats m 0 c).arrAt 7 cfg0.N = layer (argScIn m c) 1 := by
  refine (dats m 0 c).arrAt_eq_of_covers 7 _ (by decide +kernel) fun t hf y => ?_
  blk_simp
  rw [after0_7]
  have e : ((View.whole main_v2_1).slice (win0_7.rect t)).emb y = y := by
    idx_vars y
    blk_ext [idx_out t]
  rw [e, ← blk_scIn m c t 1]
  unfold out0_7
  frame_out
  exact congrFun ((pay_scIn _).2.trans (layer_ld (iblk m c 0 t) (1 : Fin 2) _)) y

theorem final_scOut0 : (dats m 0 c).arrAt 8 cfg0.N = layer (argScOut m c) 0 := by
  refine (dats m 0 c).arrAt_eq_of_covers 8 _ (by decide +kernel) fun t hf y => ?_
  blk_simp
  rw [after0_8]
  have e : ((View.whole main_v2_2).slice (win0_8.rect t)).emb y = y := by
    idx_vars y
    blk_ext [idx_out t]
  rw [e, ← blk_scOut m c t 0]
  unfold out0_8
  frame_out
  exact congrFun ((pay_scOut _).1.trans (layer_ld (iblk m c 1 t) (0 : Fin 2) _)) y

theorem final_scOut1 : (dats m 0 c).arrAt 9 cfg0.N = layer (argScOut m c) 1 := by
  refine (dats m 0 c).arrAt_eq_of_covers 9 _ (by decide +kernel) fun t hf y => ?_
  blk_simp
  rw [after0_9]
  have e : ((View.whole main_v2_3).slice (win0_9.rect t)).emb y = y := by
    idx_vars y
    blk_ext [idx_out t]
  rw [e, ← blk_scOut m c t 1]
  unfold out0_9
  frame_out
  exact congrFun ((pay_scOut _).2.trans (layer_ld (iblk m c 1 t) (1 : Fin 2) _)) y

theorem final_lruIn0 : (dats m 0 c).arrAt 10 cfg0.N = layerT (argLruIn m c) 0 := by
  refine (dats m 0 c).arrAt_eq_of_covers 10 _ (by decide +kernel) fun t hf y => ?_
  blk_simp
  rw [after0_10]
  have e : ((View.whole main_v2_4).slice (win0_10.rect t)).emb y = y := by
    idx_vars y
    blk_ext [idx_out t]
  rw [e, ← blk_lruIn m c t 0]
  unfold out0_10
  frame_out
  exact congrFun ((pay_lruIn _).1.trans (layer_ld (iblk m c 2 t) (0 : Fin 2) _)) y

theorem final_lruIn1 : (dats m 0 c).arrAt 11 cfg0.N = layerT (argLruIn m c) 1 := by
  refine (dats m 0 c).arrAt_eq_of_covers 11 _ (by decide +kernel) fun t hf y => ?_
  blk_simp
  rw [after0_11]
  have e : ((View.whole main_v2_5).slice (win0_11.rect t)).emb y = y := by
    idx_vars y
    blk_ext [idx_out t]
  rw [e, ← blk_lruIn m c t 1]
  unfold out0_11
  frame_out
  exact congrFun ((pay_lruIn _).2.trans (layer_ld (iblk m c 2 t) (1 : Fin 2) _)) y

theorem final_lruOut0 : (dats m 0 c).arrAt 12 cfg0.N = layer (argLruOut m c) 0 := by
  refine (dats m 0 c).arrAt_eq_of_covers 12 _ (by decide +kernel) fun t hf y => ?_
  blk_simp
  rw [after0_12]
  have e : ((View.whole main_v2_6).slice (win0_12.rect t)).emb y = y := by
    idx_vars y
    blk_ext [idx_out t]
  rw [e, ← blk_lruOut m c t 0]
  unfold out0_12
  frame_out
  exact congrFun ((pay_lruOut _).1.trans (layer_ld (iblk m c 3 t) (0 : Fin 2) _)) y

theorem final_lruOut1 : (dats m 0 c).arrAt 13 cfg0.N = layer (argLruOut m c) 1 := by
  refine (dats m 0 c).arrAt_eq_of_covers 13 _ (by decide +kernel) fun t hf y => ?_
  blk_simp
  rw [after0_13]
  have e : ((View.whole main_v2_7).slice (win0_13.rect t)).emb y = y := by
    idx_vars y
    blk_ext [idx_out t]
  rw [e, ← blk_lruOut m c t 1]
  unfold out0_13
  frame_out
  exact congrFun ((pay_lruOut _).2.trans (layer_ld (iblk m c 3 t) (1 : Fin 2) _)) y

theorem final_up0 : (dats m 0 c).arrAt 14 cfg0.N = layerT (argUp m c) 0 := by
  refine (dats m 0 c).arrAt_eq_of_covers 14 _ (by decide +kernel) fun t hf y => ?_
  blk_simp
  rw [after0_14]
  have e : ((View.whole main_v2_8).slice (win0_14.rect t)).emb y = y := by
    idx_vars y
    blk_ext [idx_out t]
  rw [e, ← blk_up m c t 0]
  unfold out0_14
  frame_out
  exact congrFun ((pay_up _).1.trans (layer_ld (iblk m c 4 t) (0 : Fin 4) _)) y

theorem final_up1 : (dats m 0 c).arrAt 15 cfg0.N = layerT (argUp m c) 1 := by
  refine (dats m 0 c).arrAt_eq_of_covers 15 _ (by decide +kernel) fun t hf y => ?_
  blk_simp
  rw [after0_15]
  have e : ((View.whole main_v2_9).slice (win0_15.rect t)).emb y = y := by
    idx_vars y
    blk_ext [idx_out t]
  rw [e, ← blk_up m c t 1]
  unfold out0_15
  frame_out
  exact congrFun ((pay_up _).2.1.trans (layer_ld (iblk m c 4 t) (1 : Fin 4) _)) y

theorem final_up2 : (dats m 0 c).arrAt 16 cfg0.N = layerT (argUp m c) 2 := by
  refine (dats m 0 c).arrAt_eq_of_covers 16 _ (by decide +kernel) fun t hf y => ?_
  blk_simp
  rw [after0_16]
  have e : ((View.whole main_v2_10).slice (win0_16.rect t)).emb y = y := by
    idx_vars y
    blk_ext [idx_out t]
  rw [e, ← blk_up m c t 2]
  unfold out0_16
  frame_out
  exact congrFun ((pay_up _).2.2.1.trans (layer_ld (iblk m c 4 t) (2 : Fin 4) _)) y

theorem final_up3 : (dats m 0 c).arrAt 17 cfg0.N = layerT (argUp m c) 3 := by
  refine (dats m 0 c).arrAt_eq_of_covers 17 _ (by decide +kernel) fun t hf y => ?_
  blk_simp
  rw [after0_17]
  have e : ((View.whole main_v2_11).slice (win0_17.rect t)).emb y = y := by
    idx_vars y
    blk_ext [idx_out t]
  rw [e, ← blk_up m c t 3]
  unfold out0_17
  frame_out
  exact congrFun ((pay_up _).2.2.2.trans (layer_ld (iblk m c 4 t) (3 : Fin 4) _)) y

theorem final_down0 : (dats m 0 c).arrAt 18 cfg0.N = layer (argDown m c) 0 := by
  refine (dats m 0 c).arrAt_eq_of_covers 18 _ (by decide +kernel) fun t hf y => ?_
  blk_simp
  rw [after0_18]
  have e : ((View.whole main_v2_12).slice (win0_18.rect t)).emb y = y := by
    idx_vars y
    blk_ext [idx_out t]
  rw [e, ← blk_down m c t 0]
  unfold out0_18
  frame_out
  exact congrFun ((pay_down _).1.trans (layer_ld (iblk m c 5 t) (0 : Fin 4) _)) y

theorem final_down1 : (dats m 0 c).arrAt 19 cfg0.N = layer (argDown m c) 1 := by
  refine (dats m 0 c).arrAt_eq_of_covers 19 _ (by decide +kernel) fun t hf y => ?_
  blk_simp
  rw [after0_19]
  have e : ((View.whole main_v2_13).slice (win0_19.rect t)).emb y = y := by
    idx_vars y
    blk_ext [idx_out t]
  rw [e, ← blk_down m c t 1]
  unfold out0_19
  frame_out
  exact congrFun ((pay_down _).2.1.trans (layer_ld (iblk m c 5 t) (1 : Fin 4) _)) y

theorem final_down2 : (dats m 0 c).arrAt 20 cfg0.N = layer (argDown m c) 2 := by
  refine (dats m 0 c).arrAt_eq_of_covers 20 _ (by decide +kernel) fun t hf y => ?_
  blk_simp
  rw [after0_20]
  have e : ((View.whole main_v2_14).slice (win0_20.rect t)).emb y = y := by
    idx_vars y
    blk_ext [idx_out t]
  rw [e, ← blk_down m c t 2]
  unfold out0_20
  frame_out
  exact congrFun ((pay_down _).2.2.1.trans (layer_ld (iblk m c 5 t) (2 : Fin 4) _)) y

theorem final_down3 : (dats m 0 c).arrAt 21 cfg0.N = layer (argDown m c) 3 := by
  refine (dats m 0 c).arrAt_eq_of_covers 21 _ (by decide +kernel) fun t hf y => ?_
  blk_simp
  rw [after0_21]
  have e : ((View.whole main_v2_15).slice (win0_21.rect t)).emb y = y := by
    idx_vars y
    blk_ext [idx_out t]
  rw [e, ← blk_down m c t 3]
  unfold out0_21
  frame_out
  exact congrFun ((pay_down _).2.2.2.trans (layer_ld (iblk m c 5 t) (3 : Fin 4) _)) y

/-! ## The reference -/

open Cert.CastReferenceIdeal.Read in
theorem ref_scIn0 (w : Vec Ideal S2x1024x384 .f32) : val_main_v4 (F := Ideal) w = layer w 0 := by
  funext i; idx_vars i; pointwise [val_main_v4, val_main_v3, val_main_v2, layer]; try rfl
open Cert.CastReferenceIdeal.Read in
theorem ref_scIn1 (w : Vec Ideal S2x1024x384 .f32) : val_main_v7 (F := Ideal) w = layer w 1 := by
  funext i; idx_vars i; pointwise [val_main_v7, val_main_v6, val_main_v5, layer]; try rfl
open Cert.CastReferenceIdeal.Read in
theorem ref_scOut0 (w : Vec Ideal S2x128x1024 .f32) : val_main_v10 (F := Ideal) w = layer w 0 := by
  funext i; idx_vars i; pointwise [val_main_v10, val_main_v9, val_main_v8, layer]; try rfl
open Cert.CastReferenceIdeal.Read in
theorem ref_scOut1 (w : Vec Ideal S2x128x1024 .f32) : val_main_v13 (F := Ideal) w = layer w 1 := by
  funext i; idx_vars i; pointwise [val_main_v13, val_main_v12, val_main_v11, layer]; try rfl
open Cert.CastReferenceIdeal.Read in
theorem ref_lruIn0 (w : Vec Ideal S2x1024x320 .f32) : val_main_v16 (F := Ideal) w = layerT w 0 := by
  funext i; idx_vars i; pointwise [val_main_v16, val_main_v15, val_main_v14, val_main_v0, layerT]; try rfl
open Cert.CastReferenceIdeal.Read in
theorem ref_lruIn1 (w : Vec Ideal S2x1024x320 .f32) : val_main_v19 (F := Ideal) w = layerT w 1 := by
  funext i; idx_vars i; pointwise [val_main_v19, val_main_v18, val_main_v17, val_main_v0, layerT]; try rfl
open Cert.CastReferenceIdeal.Read in
theorem ref_lruOut0 (w : Vec Ideal S2x160x1024 .f32) : val_main_v22 (F := Ideal) w = layer w 0 := by
  funext i; idx_vars i; pointwise [val_main_v22, val_main_v21, val_main_v20, layer]; try rfl
open Cert.CastReferenceIdeal.Read in
theorem ref_lruOut1 (w : Vec Ideal S2x160x1024 .f32) : val_main_v25 (F := Ideal) w = layer w 1 := by
  funext i; idx_vars i; pointwise [val_main_v25, val_main_v24, val_main_v23, layer]; try rfl
open Cert.CastReferenceIdeal.Read in
theorem ref_up0 (w : Vec Ideal S4x1024x704 .f32) : val_main_v28 (F := Ideal) w = layerT w 0 := by
  funext i; idx_vars i; pointwise [val_main_v28, val_main_v27, val_main_v26, val_main_v1, layerT]; try rfl
open Cert.CastReferenceIdeal.Read in
theorem ref_up1 (w : Vec Ideal S4x1024x704 .f32) : val_main_v31 (F := Ideal) w = layerT w 1 := by
  funext i; idx_vars i; pointwise [val_main_v31, val_main_v30, val_main_v29, val_main_v1, layerT]; try rfl
open Cert.CastReferenceIdeal.Read in
theorem ref_up2 (w : Vec Ideal S4x1024x704 .f32) : val_main_v34 (F := Ideal) w = layerT w 2 := by
  funext i; idx_vars i; pointwise [val_main_v34, val_main_v33, val_main_v32, val_main_v1, layerT]; try rfl
open Cert.CastReferenceIdeal.Read in
theorem ref_up3 (w : Vec Ideal S4x1024x704 .f32) : val_main_v37 (F := Ideal) w = layerT w 3 := by
  funext i; idx_vars i; pointwise [val_main_v37, val_main_v36, val_main_v35, val_main_v1, layerT]; try rfl
open Cert.CastReferenceIdeal.Read in
theorem ref_down0 (w : Vec Ideal S4x352x1024 .f32) : val_main_v40 (F := Ideal) w = layer w 0 := by
  funext i; idx_vars i; pointwise [val_main_v40, val_main_v39, val_main_v38, layer]; try rfl
open Cert.CastReferenceIdeal.Read in
theorem ref_down1 (w : Vec Ideal S4x352x1024 .f32) : val_main_v43 (F := Ideal) w = layer w 1 := by
  funext i; idx_vars i; pointwise [val_main_v43, val_main_v42, val_main_v41, layer]; try rfl
open Cert.CastReferenceIdeal.Read in
theorem ref_down2 (w : Vec Ideal S4x352x1024 .f32) : val_main_v46 (F := Ideal) w = layer w 2 := by
  funext i; idx_vars i; pointwise [val_main_v46, val_main_v45, val_main_v44, layer]; try rfl
open Cert.CastReferenceIdeal.Read in
theorem ref_down3 (w : Vec Ideal S4x352x1024 .f32) : val_main_v49 (F := Ideal) w = layer w 3 := by
  funext i; idx_vars i; pointwise [val_main_v49, val_main_v48, val_main_v47, layer]; try rfl

/-! ## The claims -/

/-- The reference runs to its end, its results as above and the arguments unchanged. -/
theorem run_reference (m : (ℓ : Loc Cert.CastReferenceIdeal.nD Cert.CastReferenceIdeal.τ Cert.CastReferenceIdeal.sig) → Buf (Elt Ideal) ℓ)
    (ρ : Dev Cert.CastReferenceIdeal.nD → PrngReg) : θ_run (Cert.CastReferenceIdeal.defs (F := Ideal)) (onTc (τ := Cert.CastReferenceIdeal.τ) (Cert.CastReferenceIdeal.main (F := Ideal)))
      ⟨m, fun _ => 0, ρ⟩ (fun r => ∀ c : Dev Cert.CastReferenceIdeal.nD,
        r.2.mem (c.tc.loc Cert.CastReferenceIdeal.main_v4) = layer (m (c.tc.loc Cert.CastReferenceIdeal.main_arg0)) 0
        ∧ r.2.mem (c.tc.loc Cert.CastReferenceIdeal.main_v7) = layer (m (c.tc.loc Cert.CastReferenceIdeal.main_arg0)) 1
        ∧ r.2.mem (c.tc.loc Cert.CastReferenceIdeal.main_v10) = layer (m (c.tc.loc Cert.CastReferenceIdeal.main_arg1)) 0
        ∧ r.2.mem (c.tc.loc Cert.CastReferenceIdeal.main_v13) = layer (m (c.tc.loc Cert.CastReferenceIdeal.main_arg1)) 1
        ∧ r.2.mem (c.tc.loc Cert.CastReferenceIdeal.main_v16) = layerT (m (c.tc.loc Cert.CastReferenceIdeal.main_arg2)) 0
        ∧ r.2.mem (c.tc.loc Cert.CastReferenceIdeal.main_v19) = layerT (m (c.tc.loc Cert.CastReferenceIdeal.main_arg2)) 1
        ∧ r.2.mem (c.tc.loc Cert.CastReferenceIdeal.main_v22) = layer (m (c.tc.loc Cert.CastReferenceIdeal.main_arg3)) 0
        ∧ r.2.mem (c.tc.loc Cert.CastReferenceIdeal.main_v25) = layer (m (c.tc.loc Cert.CastReferenceIdeal.main_arg3)) 1
        ∧ r.2.mem (c.tc.loc Cert.CastReferenceIdeal.main_v28) = layerT (m (c.tc.loc Cert.CastReferenceIdeal.main_arg4)) 0
        ∧ r.2.mem (c.tc.loc Cert.CastReferenceIdeal.main_v31) = layerT (m (c.tc.loc Cert.CastReferenceIdeal.main_arg4)) 1
        ∧ r.2.mem (c.tc.loc Cert.CastReferenceIdeal.main_v34) = layerT (m (c.tc.loc Cert.CastReferenceIdeal.main_arg4)) 2
        ∧ r.2.mem (c.tc.loc Cert.CastReferenceIdeal.main_v37) = layerT (m (c.tc.loc Cert.CastReferenceIdeal.main_arg4)) 3
        ∧ r.2.mem (c.tc.loc Cert.CastReferenceIdeal.main_v40) = layer (m (c.tc.loc Cert.CastReferenceIdeal.main_arg5)) 0
        ∧ r.2.mem (c.tc.loc Cert.CastReferenceIdeal.main_v43) = layer (m (c.tc.loc Cert.CastReferenceIdeal.main_arg5)) 1
        ∧ r.2.mem (c.tc.loc Cert.CastReferenceIdeal.main_v46) = layer (m (c.tc.loc Cert.CastReferenceIdeal.main_arg5)) 2
        ∧ r.2.mem (c.tc.loc Cert.CastReferenceIdeal.main_v49) = layer (m (c.tc.loc Cert.CastReferenceIdeal.main_arg5)) 3
        ∧ r.2.mem (c.tc.loc Cert.CastReferenceIdeal.main_arg0) = m (c.tc.loc Cert.CastReferenceIdeal.main_arg0)
        ∧ r.2.mem (c.tc.loc Cert.CastReferenceIdeal.main_arg1) = m (c.tc.loc Cert.CastReferenceIdeal.main_arg1)
        ∧ r.2.mem (c.tc.loc Cert.CastReferenceIdeal.main_arg2) = m (c.tc.loc Cert.CastReferenceIdeal.main_arg2)
        ∧ r.2.mem (c.tc.loc Cert.CastReferenceIdeal.main_arg3) = m (c.tc.loc Cert.CastReferenceIdeal.main_arg3)
        ∧ r.2.mem (c.tc.loc Cert.CastReferenceIdeal.main_arg4) = m (c.tc.loc Cert.CastReferenceIdeal.main_arg4)
        ∧ r.2.mem (c.tc.loc Cert.CastReferenceIdeal.main_arg5) = m (c.tc.loc Cert.CastReferenceIdeal.main_arg5)) :=
  (θ_run _ _ _).mono (fun _ h c => ⟨(h c).1.trans ((Cert.CastReferenceIdeal.Read.val_main_v4_eq _).trans (ref_scIn0 _)),
    (h c).2.1.trans ((Cert.CastReferenceIdeal.Read.val_main_v7_eq _).trans (ref_scIn1 _)),
    (h c).2.2.1.trans ((Cert.CastReferenceIdeal.Read.val_main_v10_eq _).trans (ref_scOut0 _)),
    (h c).2.2.2.1.trans ((Cert.CastReferenceIdeal.Read.val_main_v13_eq _).trans (ref_scOut1 _)),
    (h c).2.2.2.2.1.trans ((Cert.CastReferenceIdeal.Read.val_main_v16_eq _).trans (ref_lruIn0 _)),
    (h c).2.2.2.2.2.1.trans ((Cert.CastReferenceIdeal.Read.val_main_v19_eq _).trans (ref_lruIn1 _)),
    (h c).2.2.2.2.2.2.1.trans ((Cert.CastReferenceIdeal.Read.val_main_v22_eq _).trans (ref_lruOut0 _)),
    (h c).2.2.2.2.2.2.2.1.trans ((Cert.CastReferenceIdeal.Read.val_main_v25_eq _).trans (ref_lruOut1 _)),
    (h c).2.2.2.2.2.2.2.2.1.trans ((Cert.CastReferenceIdeal.Read.val_main_v28_eq _).trans (ref_up0 _)),
    (h c).2.2.2.2.2.2.2.2.2.1.trans ((Cert.CastReferenceIdeal.Read.val_main_v31_eq _).trans (ref_up1 _)),
    (h c).2.2.2.2.2.2.2.2.2.2.1.trans ((Cert.CastReferenceIdeal.Read.val_main_v34_eq _).trans (ref_up2 _)),
    (h c).2.2.2.2.2.2.2.2.2.2.2.1.trans ((Cert.CastReferenceIdeal.Read.val_main_v37_eq _).trans (ref_up3 _)),
    (h c).2.2.2.2.2.2.2.2.2.2.2.2.1.trans ((Cert.CastReferenceIdeal.Read.val_main_v40_eq _).trans (ref_down0 _)),
    (h c).2.2.2.2.2.2.2.2.2.2.2.2.2.1.trans ((Cert.CastReferenceIdeal.Read.val_main_v43_eq _).trans (ref_down1 _)),
    (h c).2.2.2.2.2.2.2.2.2.2.2.2.2.2.1.trans ((Cert.CastReferenceIdeal.Read.val_main_v46_eq _).trans (ref_down2 _)),
    (h c).2.2.2.2.2.2.2.2.2.2.2.2.2.2.2.1.trans ((Cert.CastReferenceIdeal.Read.val_main_v49_eq _).trans (ref_down3 _)),
    (h c).2.2.2.2.2.2.2.2.2.2.2.2.2.2.2.2⟩) (Cert.CastReferenceIdeal.Value.run m ρ)

/-- The reference runs to its end, its arguments unchanged; it declares no semaphore. -/
theorem frame_reference (m : (ℓ : Loc Cert.CastReferenceIdeal.nD Cert.CastReferenceIdeal.τ Cert.CastReferenceIdeal.sig) → Buf (Elt Ideal) ℓ)
    (ρ : Dev Cert.CastReferenceIdeal.nD → PrngReg) : θ_run (Cert.CastReferenceIdeal.defs (F := Ideal)) (onTc (τ := Cert.CastReferenceIdeal.τ) (Cert.CastReferenceIdeal.main (F := Ideal)))
      ⟨m, fun _ => 0, ρ⟩ (fun r => (∀ c : Dev Cert.CastReferenceIdeal.nD,
        r.2.mem (c.tc.loc Cert.CastReferenceIdeal.main_arg0) = m (c.tc.loc Cert.CastReferenceIdeal.main_arg0)
        ∧ r.2.mem (c.tc.loc Cert.CastReferenceIdeal.main_arg1) = m (c.tc.loc Cert.CastReferenceIdeal.main_arg1)
        ∧ r.2.mem (c.tc.loc Cert.CastReferenceIdeal.main_arg2) = m (c.tc.loc Cert.CastReferenceIdeal.main_arg2)
        ∧ r.2.mem (c.tc.loc Cert.CastReferenceIdeal.main_arg3) = m (c.tc.loc Cert.CastReferenceIdeal.main_arg3)
        ∧ r.2.mem (c.tc.loc Cert.CastReferenceIdeal.main_arg4) = m (c.tc.loc Cert.CastReferenceIdeal.main_arg4)
        ∧ r.2.mem (c.tc.loc Cert.CastReferenceIdeal.main_arg5) = m (c.tc.loc Cert.CastReferenceIdeal.main_arg5)) ∧ r.2.sem = fun _ => 0) :=
  (θ_run _ _ _).mono (fun _ h => ⟨fun c => (h c).2.2.2.2.2.2.2.2.2.2.2.2.2.2.2.2, sem_eq_zero_of_no_sems (by decide) _⟩) (run_reference m ρ)

/-- The kernel's results are the reference's. -/
theorem algebraic : algebraic_CastKernelIdeal_CastReferenceIdeal := by
  pair_intro
  · run_from Cert.CastKernelIdeal.Value.run_blocks m g
  · run_from run_reference m' g'
    · exact (final_scIn0 m c).symm
    · exact (final_scIn1 m c).symm
    · exact (final_scOut0 m c).symm
    · exact (final_scOut1 m c).symm
    · exact (final_lruIn0 m c).symm
    · exact (final_lruIn1 m c).symm
    · exact (final_lruOut0 m c).symm
    · exact (final_lruOut1 m c).symm
    · exact (final_up0 m c).symm
    · exact (final_up1 m c).symm
    · exact (final_up2 m c).symm
    · exact (final_up3 m c).symm
    · exact (final_down0 m c).symm
    · exact (final_down1 m c).symm
    · exact (final_down2 m c).symm
    · exact (final_down3 m c).symm

end Cert.CastValue
-- ==== Proof.LrubFrame.lean ====
/- The recurrence's gradient kernel runs to its end and leaves its arguments as they were, at any values. What it leaves in its
   results is not described: every window it writes is held at some contents, at each point and between points. -/
module

public import proofs.«01_k».proof.Defs
public import proofs.«01_k».proof.Proof.Gen.LrubKernel
public import proofs.«01_k».proof.Proof.Gen.LrubKernelIdeal.Skeleton
public import proofs.«01_k».proof.Proof.Gen.LrubKernelIdeal.Frame
public import Idealize.ShloMosaic.Lib.VecWindow
public import Idealize.ShloMosaic.Lib.Claim
public import Idealize.ShloMosaic.Lib.Quiescent
import Idealize.ShloMosaic.Lib.Tactic.ProgEq

@[expose] public section

set_option maxRecDepth 16384

noncomputable section

namespace Cert.LrubFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.LrubKernelIdeal Cert.LrubKernelIdeal.Gen

variable {F : FTy → Type} [FloatOps F]

local notation "𝕄" => MT nD τ sig Unit (Elt F) ℕ (UR sig nD τ) ℕ

/-! ## The body -/

section Body

variable (c : Dev nD) (i : grid0.Coords)
  (g : Memref sig .tc .vmem S1x2048x128 .f32) (hg : g.IsWhole) (r : Memref sig .tc .vmem S1x2048x128 .f32) (hr : r.IsWhole) (cw : Memref sig .tc .vmem S4x128 .f32) (hcw : cw.IsWhole) (wg : Memref sig .tc .vmem S1x128x256 .bf16) (hwg : wg.IsWhole)
  (lam : Memref sig .tc .vmem S1x128 .f32) (hlam : lam.IsWhole) (sv : Memref sig .tc .vmem S6x1x2048x128 .f32) (hsv : sv.IsWhole) (dy : Memref sig .tc .vmem S1x2048x128 .f32) (hdy : dy.IsWhole) (dh : Memref sig .tc .vmem S1x2048x128 .bf16) (hdh : dh.IsWhole)
  (dcw : Memref sig .tc .vmem S4x128 .f32) (hdcw : dcw.IsWhole) (dcb : Memref sig .tc .vmem S1x128 .f32) (hdcb : dcb.IsWhole) (dwg : Memref sig .tc .vmem S1x128x256 .f32) (hdwg : dwg.IsWhole) (dbg : Memref sig .tc .vmem S1x1x256 .f32) (hdbg : dbg.IsWhole)
  (dlam : Memref sig .tc .vmem S1x128 .f32) (hdlam : dlam.IsWhole) (sg : Memref sig .tc .vmem S1x128 .f32) (hsg : sg.IsWhole) (sr : Memref sig .tc .vmem S1x128 .f32) (hsr : sr.IsWhole) (parts : Memref sig .tc .vmem S2x2048x128 .bf16) (hparts : parts.IsWhole)
  (x0 : Vec F S1x2048x128 .f32) (x1 : Vec F S1x2048x128 .f32) (x2 : Vec F S4x128 .f32) (x3 : Vec F S1x128x256 .bf16) (x4 : Vec F S1x128 .f32) (x5 : Vec F S6x1x2048x128 .f32) (x6 : Vec F S1x2048x128 .f32)

/-- The seven inputs held at their contents. -/
abbrev Inputs : sProp 𝕄 :=
  iprop(owns (c : Thread nD τ) g fullShare x0 ∗ owns (c : Thread nD τ) r fullShare x1 ∗ owns (c : Thread nD τ) cw fullShare x2
    ∗ owns (c : Thread nD τ) wg fullShare x3 ∗ owns (c : Thread nD τ) lam fullShare x4 ∗ owns (c : Thread nD τ) sv fullShare x5
    ∗ owns (c : Thread nD τ) dy fullShare x6)

/-- The eight results and the scratch, each held at some contents. -/
abbrev Rest : sProp 𝕄 :=
  iprop((∃ d, owns (c : Thread nD τ) dh fullShare d) ∗ (∃ d, owns (c : Thread nD τ) dcw fullShare d) ∗ (∃ d, owns (c : Thread nD τ) dcb fullShare d)
    ∗ (∃ d, owns (c : Thread nD τ) dwg fullShare d) ∗ (∃ d, owns (c : Thread nD τ) dbg fullShare d) ∗ (∃ d, owns (c : Thread nD τ) dlam fullShare d)
    ∗ (∃ d, owns (c : Thread nD τ) sg fullShare d) ∗ (∃ d, owns (c : Thread nD τ) sr fullShare d) ∗ (∃ d, owns (c : Thread nD τ) parts fullShare d))

set_option maxHeartbeats 4000000 in
/-- The second point of a strip only hands out the part saved at the first. -/
theorem run_second (hc : ¬ k0_cond1 i = 1#1) (E : Set ℕ) (K : PUnit → sProp 𝕄) :
    iprop(Inputs c g r cw wg lam sv dy x0 x1 x2 x3 x4 x5 x6 ∗ Rest c dh dcw dcb dwg dbg dlam sg sr parts
        ∗ (iprop(Inputs c g r cw wg lam sv dy x0 x1 x2 x3 x4 x5 x6 ∗ Rest c dh dcw dcb dwg dbg dlam sg sr parts) -∗ K ⟨⟩))
      ⊢ wp frame (wpE (defs₀ (F := F)) Variants.none c none) E
          (cc0_lru_mix_bwd i g hg r hr cw hcw wg hwg lam hlam sv hsv dy hdy dh hdh dcw hdcw dcb hdcb dwg hdwg dbg hdbg dlam hdlam sg hsg sr hsr parts hparts) K := by
  simp only [cc0_lru_mix_bwd_eq_skeleton]; unfold cc0_lru_mix_bwd_skel
  unfold Inputs Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩⟩, Hk⟩
  sl_exec (disch := first | sl_exact hc)
  sl_step
  iapply Hk
  isplitl [H0 H1 H2 H3 H4 H5 H6]
  · subst hf0 hf1 hf2 hf3 hf4 hf5 hf6
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact HS
  ipureintro; rfl

set_option maxHeartbeats 4000000 in
/-- The first point of a head's first strip stores the sums. -/
theorem run_fresh (hc1 : k0_cond1 i = 1#1) (hc2 : k0_cond2 i = 1#1) (hc3 : ¬ k0_cond3 i = 1#1)
    (E : Set ℕ) (K : PUnit → sProp 𝕄) :
    iprop(Inputs c g r cw wg lam sv dy x0 x1 x2 x3 x4 x5 x6 ∗ Rest c dh dcw dcb dwg dbg dlam sg sr parts
        ∗ (iprop(Inputs c g r cw wg lam sv dy x0 x1 x2 x3 x4 x5 x6 ∗ Rest c dh dcw dcb dwg dbg dlam sg sr parts) -∗ K ⟨⟩))
      ⊢ wp frame (wpE (defs₀ (F := F)) Variants.none c none) E
          (cc0_lru_mix_bwd i g hg r hr cw hcw wg hwg lam hlam sv hsv dy hdy dh hdh dcw hdcw dcb hdcb dwg hdwg dbg hdbg dlam hdlam sg hsg sr hsr parts hparts) K := by
  simp only [cc0_lru_mix_bwd_eq_skeleton]; unfold cc0_lru_mix_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold Inputs Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩⟩, Hk⟩
  sl_exec (disch := first | sl_exact hc1 | sl_exact hc2 | sl_exact hc3)
  sl_step
  iapply Hk
  isplitl [H0 H1 H2 H3 H4 H5 H6]
  · subst hf0 hf1 hf2 hf3 hf4 hf5 hf6
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact HS
  ipureintro; rfl

set_option maxHeartbeats 4000000 in
/-- The first point of a later strip adds to the sums. -/
theorem run_more (hc1 : k0_cond1 i = 1#1) (hc2 : ¬ k0_cond2 i = 1#1) (hc3 : k0_cond3 i = 1#1)
    (E : Set ℕ) (K : PUnit → sProp 𝕄) :
    iprop(Inputs c g r cw wg lam sv dy x0 x1 x2 x3 x4 x5 x6 ∗ Rest c dh dcw dcb dwg dbg dlam sg sr parts
        ∗ (iprop(Inputs c g r cw wg lam sv dy x0 x1 x2 x3 x4 x5 x6 ∗ Rest c dh dcw dcb dwg dbg dlam sg sr parts) -∗ K ⟨⟩))
      ⊢ wp frame (wpE (defs₀ (F := F)) Variants.none c none) E
          (cc0_lru_mix_bwd i g hg r hr cw hcw wg hwg lam hlam sv hsv dy hdy dh hdh dcw hdcw dcb hdcb dwg hdwg dbg hdbg dlam hdlam sg hsg sr hsr parts hparts) K := by
  simp only [cc0_lru_mix_bwd_eq_skeleton]; unfold cc0_lru_mix_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold Inputs Rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩⟩, Hk⟩
  sl_exec (disch := first | sl_exact hc1 | sl_exact hc2 | sl_exact hc3)
  sl_step
  iapply Hk
  isplitl [H0 H1 H2 H3 H4 H5 H6]
  · subst hf0 hf1 hf2 hf3 hf4 hf5 hf6
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact HS
  ipureintro; rfl

end Body

/-! ## The run -/

variable (m : (ℓ : Loc nD τ sig) → Buf (Elt F) ℓ) (ρ : Dev nD → PrngReg) (c : Dev nD)

/-- A head's sums are stored at the points of its first strip and added to at those of the others. -/
theorem sums (t : Fin cfg0.N) : k0_cond3 (grid0.coords t) = 1#1 ↔ ¬ k0_cond2 (grid0.coords t) = 1#1 :=
  (by decide +kernel : ∀ t : Fin grid0.N, k0_cond3 (grid0.coords t) = 1#1 ↔ ¬ k0_cond2 (grid0.coords t) = 1#1) t

/-- The inputs' windows hold their blocks. The results' windows are forgotten below: what is named for them is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ _ := Pipeline.ΦA spec0 c
  q w := Pipeline.shareOf spec0 w
  owed _ := 0

/-- The results' windows. -/
def forgotten (w : Fin cfg0.W) : Bool := (cfg0.win w).isOut

theorem forgotten_0 : forgotten 0 = false := rfl
theorem forgotten_1 : forgotten 1 = false := rfl
theorem forgotten_2 : forgotten 2 = false := rfl
theorem forgotten_3 : forgotten 3 = false := rfl
theorem forgotten_4 : forgotten 4 = false := rfl
theorem forgotten_5 : forgotten 5 = false := rfl
theorem forgotten_6 : forgotten 6 = false := rfl
theorem forgotten_7 : forgotten 7 = true := rfl
theorem forgotten_8 : forgotten 8 = true := rfl
theorem forgotten_9 : forgotten 9 = true := rfl
theorem forgotten_10 : forgotten 10 = true := rfl
theorem forgotten_11 : forgotten 11 = true := rfl
theorem forgotten_12 : forgotten 12 = true := rfl
theorem forgotten_13 : forgotten 13 = true := rfl
theorem forgotten_14 : forgotten 14 = true := rfl

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = iblk m c 6 t := by dsimp only [dats]

theorem before0 (t : Fin cfg0.N) (d) : (dats m 0 c).before 0 t d = iblk m c 0 t := before0_0_of m _ (A_eq m c 0) (after0 m c) t d
theorem before1 (t : Fin cfg0.N) (d) : (dats m 0 c).before 1 t d = iblk m c 1 t := before0_1_of m _ (A_eq m c 1) (after1 m c) t d
theorem before2 (t : Fin cfg0.N) (d) : (dats m 0 c).before 2 t d = iblk m c 2 t := before0_2_of m _ (A_eq m c 2) (after2 m c) t d
theorem before3 (t : Fin cfg0.N) (d) : (dats m 0 c).before 3 t d = iblk m c 3 t := before0_3_of m _ (A_eq m c 3) (after3 m c) t d
theorem before4 (t : Fin cfg0.N) (d) : (dats m 0 c).before 4 t d = iblk m c 4 t := before0_4_of m _ (A_eq m c 4) (after4 m c) t d
theorem before5 (t : Fin cfg0.N) (d) : (dats m 0 c).before 5 t d = iblk m c 5 t := before0_5_of m _ (A_eq m c 5) (after5 m c) t d
theorem before6 (t : Fin cfg0.N) (d) : (dats m 0 c).before 6 t d = iblk m c 6 t := before0_6_of m _ (A_eq m c 6) (after6 m c) t d

abbrev ms0 (t : Fin cfg0.N) : Memref sig .tc .vmem S1x2048x128 .f32 := win0_0.stage (cfg0.slots t 0)
abbrev ms1 (t : Fin cfg0.N) : Memref sig .tc .vmem S1x2048x128 .f32 := win0_1.stage (cfg0.slots t 1)
abbrev ms2 (t : Fin cfg0.N) : Memref sig .tc .vmem S4x128 .f32 := win0_2.stage (cfg0.slots t 2)
abbrev ms3 (t : Fin cfg0.N) : Memref sig .tc .vmem S1x128x256 .bf16 := win0_3.stage (cfg0.slots t 3)
abbrev ms4 (t : Fin cfg0.N) : Memref sig .tc .vmem S1x128 .f32 := win0_4.stage (cfg0.slots t 4)
abbrev ms5 (t : Fin cfg0.N) : Memref sig .tc .vmem S6x1x2048x128 .f32 := win0_5.stage (cfg0.slots t 5)
abbrev ms6 (t : Fin cfg0.N) : Memref sig .tc .vmem S1x2048x128 .f32 := win0_6.stage (cfg0.slots t 6)
abbrev ms7 (t : Fin cfg0.N) : Memref sig .tc .vmem S1x2048x128 .bf16 := win0_7.stage (cfg0.slots t 7)
abbrev ms8 (t : Fin cfg0.N) : Memref sig .tc .vmem S4x128 .f32 := win0_8.stage (cfg0.slots t 8)
abbrev ms9 (t : Fin cfg0.N) : Memref sig .tc .vmem S1x128 .f32 := win0_9.stage (cfg0.slots t 9)
abbrev ms10 (t : Fin cfg0.N) : Memref sig .tc .vmem S1x128x256 .f32 := win0_10.stage (cfg0.slots t 10)
abbrev ms11 (t : Fin cfg0.N) : Memref sig .tc .vmem S1x1x256 .f32 := win0_11.stage (cfg0.slots t 11)
abbrev ms12 (t : Fin cfg0.N) : Memref sig .tc .vmem S1x128 .f32 := win0_12.stage (cfg0.slots t 12)
abbrev ms13 (t : Fin cfg0.N) : Memref sig .tc .vmem S1x128 .f32 := win0_13.stage (cfg0.slots t 13)
abbrev ms14 (t : Fin cfg0.N) : Memref sig .tc .vmem S1x128 .f32 := win0_14.stage (cfg0.slots t 14)

/-- What the body finds at a point. -/
def pre (t : Fin cfg0.N) : sProp 𝕄 :=
  iprop((Pipeline.ΦA spec0 c : sProp 𝕄) ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)) ∗ (∃ d, owns (c : Thread nD τ) (ms7 t) fullShare d)
    ∗ (∃ d, owns (c : Thread nD τ) (ms8 t) fullShare d) ∗ (∃ d, owns (c : Thread nD τ) (ms9 t) fullShare d)
    ∗ (∃ d, owns (c : Thread nD τ) (ms10 t) fullShare d) ∗ (∃ d, owns (c : Thread nD τ) (ms11 t) fullShare d)
    ∗ (∃ d, owns (c : Thread nD τ) (ms12 t) fullShare d) ∗ (∃ d, owns (c : Thread nD τ) (ms13 t) fullShare d)
    ∗ (∃ d, owns (c : Thread nD τ) (ms14 t) fullShare d))

/-- What the body leaves at a point. -/
def post (t : Fin cfg0.N) : sProp 𝕄 :=
  iprop((Pipeline.ΦA spec0 c : sProp 𝕄) ∗ (dats m 0 c).owesAt () t.castSucc
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare (iblk m c 4 t) ∗ owns (c : Thread nD τ) (ms5 t) fullShare (iblk m c 5 t)
    ∗ owns (c : Thread nD τ) (ms6 t) fullShare (iblk m c 6 t) ∗ (∃ d, owns (c : Thread nD τ) (ms7 t) fullShare d)
    ∗ (∃ d, owns (c : Thread nD τ) (ms8 t) fullShare d) ∗ (∃ d, owns (c : Thread nD τ) (ms9 t) fullShare d)
    ∗ (∃ d, owns (c : Thread nD τ) (ms10 t) fullShare d) ∗ (∃ d, owns (c : Thread nD τ) (ms11 t) fullShare d)
    ∗ (∃ d, owns (c : Thread nD τ) (ms12 t) fullShare d) ∗ (∃ d, owns (c : Thread nD τ) (ms13 t) fullShare d)
    ∗ (∃ d, owns (c : Thread nD τ) (ms14 t) fullShare d))

theorem scratch_eq : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

/-- What the body hands back. -/
abbrev Left (t : Fin cfg0.N) : sProp 𝕄 :=
  iprop(Inputs c (ms0 t) (ms1 t) (ms2 t) (ms3 t) (ms4 t) (ms5 t) (ms6 t)
      (iblk m c 0 t) (iblk m c 1 t) (iblk m c 2 t) (iblk m c 3 t) (iblk m c 4 t) (iblk m c 5 t) (iblk m c 6 t)
    ∗ Rest c (ms7 t) (ms8 t) (ms9 t) (ms10 t) (ms11 t) (ms12 t) (ms13 t) (ms14 t) (Memref.whole cc0_scratch0))

theorem left_post (t : Fin cfg0.N) :
    iprop((∃ r, prngReg c r) ∗ (dats m 0 c).owesAt () t.castSucc ∗ Left m c t) ⊢ (post m c t : sProp 𝕄) := by
  unfold post Left Inputs Rest
  rw [scratch_eq]
  iintro ⟨Hg, Ho, ⟨H0, H1, H2, H3, H4, H5, H6⟩, ⟨H7, H8, H9, H10, H11, H12, H13, H14, HS⟩⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem pre_left (t : Fin cfg0.N) :
    pre m c t ⊢ (iprop((∃ r, prngReg c r) ∗ (dats m 0 c).owesAt () t.castSucc ∗ Left m c t) : sProp 𝕄) := by
  unfold pre Left Inputs Rest
  simp only [before0, before1, before2, before3, before4, before5, before6]
  rw [scratch_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, H14⟩
  isplitl [Hg]; · iexact Hg
  isplitl [Ho]; · iexact Ho
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HS

/-- The body at any point. -/
theorem sound (t : Fin cfg0.N) :
    pre m c t ⊢ wp frame (wpE (defs₀ (F := F)) Variants.none c none) Set.univ (bodyAt0 t) (fun _ => post m c t) := by
  refine (pre_left m c t).trans ?_
  unfold bodyAt0
  iintro ⟨Hg, Ho, HI, HR⟩
  by_cases h1 : k0_cond1 (grid0.coords t) = 1#1
  · by_cases h2 : k0_cond2 (grid0.coords t) = 1#1
    · iapply ((run_fresh c (grid0.coords t) _ _ _ _ _ _ _ _ _ _ _ _ _ _ _ _ _ _ _ _ _ _ _ _ _ _ _ _ _ _ _ _
        (iblk m c 0 t) (iblk m c 1 t) (iblk m c 2 t) (iblk m c 3 t) (iblk m c 4 t) (iblk m c 5 t) (iblk m c 6 t) h1 h2 (fun h => (sums t).mp h h2) Set.univ _))
      isplitl [HI]; · iexact HI
      isplitl [HR]; · iexact HR
      iintro HL
      iapply (left_post m c t)
      isplitl [Hg]; · iexact Hg
      isplitl [Ho]; · iexact Ho
      iexact HL
    · iapply ((run_more c (grid0.coords t) _ _ _ _ _ _ _ _ _ _ _ _ _ _ _ _ _ _ _ _ _ _ _ _ _ _ _ _ _ _ _ _
        (iblk m c 0 t) (iblk m c 1 t) (iblk m c 2 t) (iblk m c 3 t) (iblk m c 4 t) (iblk m c 5 t) (iblk m c 6 t) h1 h2 ((sums t).mpr h2) Set.univ _))
      isplitl [HI]; · iexact HI
      isplitl [HR]; · iexact HR
      iintro HL
      iapply (left_post m c t)
      isplitl [Hg]; · iexact Hg
      isplitl [Ho]; · iexact Ho
      iexact HL
  · iapply ((run_second c (grid0.coords t) _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) h1 Set.univ _))
    isplitl [HI]; · iexact HI
    isplitl [HR]; · iexact HR
    iintro HL
    iapply (left_post m c t)
    isplitl [Hg]; · iexact Hg
    isplitl [Ho]; · iexact Ho
    iexact HL

theorem row (t : Fin cfg0.N) : defs₀ (F := F) .tc cfg0.body (cfg0.bodyArgs t (cfg0.slots t)) = bodyAt0 t := by
  unfold defs₀; rw [Defs.onTc_tc]

/-- A window stored into at every point is left at its contents. -/
theorem leaves_input (w : Fin cfg0.W) (t : Fin cfg0.N) (X : (cfg0.win w).block.Idx → Elt F (cfg0.win w).elt)
    (ha : (dats m 0 c).after w t = X) (hi : cfg0.idle w (grid0.coords t) = false) :
    owns (c : Thread nD τ) ((cfg0.win w).stage (cfg0.slots t w)) fullShare X ⊢ ((dats m 0 c).leavesExact w t : sProp 𝕄) := by
  unfold Dat.leavesExact
  rw [show cfg0.idle w (cfg0.grid.coords t) = false from hi]
  show _ ⊢ owns _ _ _ _
  rw [ha]

theorem obligation : BodyObligation (dats (F := F) m 0 c) (defs₀ (F := F)) Variants.none () Set.univ forgotten := fun t => by
  rw [bigSep_W0, bigSep_W0, row]
  refine triple_restated (sound m c t) rfl .rfl fun _ => ?_
  simp only [forgotten_0, forgotten_1, forgotten_2, forgotten_3, forgotten_4, forgotten_5, forgotten_6, forgotten_7, forgotten_8, forgotten_9, forgotten_10, forgotten_11, forgotten_12, forgotten_13, forgotten_14]
  unfold post
  iintro ⟨HΦ, Ho, H0, H1, H2, H3, H4, H5, H6, H7, H8, H9, H10, H11, H12, H13, H14⟩
  isplitl [HΦ]; · iapply (show (Pipeline.ΦA spec0 c : sProp 𝕄) ⊢ (dats m 0 c).Φ t.succ from .rfl); iexact HΦ
  isplitl [Ho]; · iapply (show ((dats m 0 c).owesAt () t.castSucc : sProp 𝕄) ⊢ (dats m 0 c).owesAt () t.succ from .rfl); iexact Ho
  isplitl [H0]; · iapply (leaves_input m c 0 t _ (after0 m c t) rfl); iexact H0
  isplitl [H1]; · iapply (leaves_input m c 1 t _ (after1 m c t) rfl); iexact H1
  isplitl [H2]; · iapply (leaves_input m c 2 t _ (after2 m c t) rfl); iexact H2
  isplitl [H3]; · iapply (leaves_input m c 3 t _ (after3 m c t) rfl); iexact H3
  isplitl [H4]; · iapply (leaves_input m c 4 t _ (after4 m c t) rfl); iexact H4
  isplitl [H5]; · iapply (leaves_input m c 5 t _ (after5 m c t) rfl); iexact H5
  isplitl [H6]; · iapply (leaves_input m c 6 t _ (after6 m c t) rfl); iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The run, every semaphore back at zero. -/
theorem run_quiescent : θ_run defs (onTc (τ := τ) (main (F := F))) (s₀ m ρ)
    (fun r => Pipeline.RDat.FramePost (cfgs 0) (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (obligation m c).loose) (hq := fun _ _ _ => rfl) (howed := fun _ _ => rfl) (V := V m) (hmain := hmain m Variants.none)
    (hA := A_eq m) (hΦ := fun _ _ => rfl)

/-- The arguments end as they were, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 1 rfl).trans (V_main_arg0 m c), (h.1.arr_in c 5 rfl).trans (V_main_arg1 m c),
      (h.1.arr_in c 6 rfl).trans (V_main_arg2 m c), (h.1.arr_in c 2 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_quiescent m ρ)

/-! ## On machine words -/

section Words

attribute [local instance] Cert.LrubKernel.Gen.facts

/-- The kernel's frame on machine words: the run does not depend on the floats. -/
theorem frame_kernel (m : (ℓ : Loc Cert.LrubKernel.nD Cert.LrubKernel.τ Cert.LrubKernel.sig) → Buf (Elt Bits) ℓ) (g : Dev Cert.LrubKernel.nD → PrngReg) :
    θ_run (Cert.LrubKernel.defs (F := Bits)) (onTc (τ := Cert.LrubKernel.τ) (Cert.LrubKernel.main (F := Bits))) ⟨m, fun _ => 0, g⟩ (fun r => (∀ c : Dev Cert.LrubKernel.nD,
      r.2.mem ((c.tc : Thread Cert.LrubKernel.nD Cert.LrubKernel.τ).loc Cert.LrubKernel.main_arg0) = m ((c.tc : Thread Cert.LrubKernel.nD Cert.LrubKernel.τ).loc Cert.LrubKernel.main_arg0)
      ∧ r.2.mem ((c.tc : Thread Cert.LrubKernel.nD Cert.LrubKernel.τ).loc Cert.LrubKernel.main_arg1) = m ((c.tc : Thread Cert.LrubKernel.nD Cert.LrubKernel.τ).loc Cert.LrubKernel.main_arg1)
      ∧ r.2.mem ((c.tc : Thread Cert.LrubKernel.nD Cert.LrubKernel.τ).loc Cert.LrubKernel.main_arg2) = m ((c.tc : Thread Cert.LrubKernel.nD Cert.LrubKernel.τ).loc Cert.LrubKernel.main_arg2)
      ∧ r.2.mem ((c.tc : Thread Cert.LrubKernel.nD Cert.LrubKernel.τ).loc Cert.LrubKernel.main_arg3) = m ((c.tc : Thread Cert.LrubKernel.nD Cert.LrubKernel.τ).loc Cert.LrubKernel.main_arg3)
      ∧ r.2.mem ((c.tc : Thread Cert.LrubKernel.nD Cert.LrubKernel.τ).loc Cert.LrubKernel.main_arg4) = m ((c.tc : Thread Cert.LrubKernel.nD Cert.LrubKernel.τ).loc Cert.LrubKernel.main_arg4)
      ∧ r.2.mem ((c.tc : Thread Cert.LrubKernel.nD Cert.LrubKernel.τ).loc Cert.LrubKernel.main_arg5) = m ((c.tc : Thread Cert.LrubKernel.nD Cert.LrubKernel.τ).loc Cert.LrubKernel.main_arg5))
      ∧ r.2.sem = fun _ => 0) :=
  cast (by sl_kernel_rfl) (Cert.LrubFrame.frame (F := Bits) m g)

end Words

end Cert.LrubFrame
end
-- ==== Proof.lean ====
module

public import proofs.«01_k».proof.Defs
public import proofs.«01_k».proof.Proof.Gen.LnKernel
public import proofs.«01_k».proof.Proof.Gen.LnKernel.Skeleton
public import proofs.«01_k».proof.Proof.Gen.LnKernel.Launch
public import proofs.«01_k».proof.Proof.Gen.LnKernel.Points
public import proofs.«01_k».proof.Proof.Gen.LnKernel.Frame
public import proofs.«01_k».proof.Proof.Gen.LnKernelIdeal
public import proofs.«01_k».proof.Proof.Gen.LnKernelIdeal.Skeleton
public import proofs.«01_k».proof.Proof.Gen.LnKernelIdeal.Launch
public import proofs.«01_k».proof.Proof.Gen.LnKernelIdeal.Points
public import proofs.«01_k».proof.Proof.Gen.LnKernelIdeal.Frame
public import proofs.«01_k».proof.Proof.Gen.LnReferenceIdeal
public import proofs.«01_k».proof.Proof.Gen.LnKernelIdeal.Value
public import proofs.«01_k».proof.Proof.Gen.LnReferenceIdeal.Run
public import proofs.«01_k».proof.Proof.Gen.LnReferenceIdeal.Read
public import proofs.«01_k».proof.Proof.Gen.Pre_finite_ln
public import proofs.«01_k».proof.Proof.LnValue
public import proofs.«01_k».proof.Proof.Gen.ScKernel
public import proofs.«01_k».proof.Proof.Gen.ScKernel.Skeleton
public import proofs.«01_k».proof.Proof.Gen.ScKernel.Launch
public import proofs.«01_k».proof.Proof.Gen.ScKernel.Points
public import proofs.«01_k».proof.Proof.Gen.ScKernel.Frame
public import proofs.«01_k».proof.Proof.Gen.ScKernelIdeal
public import proofs.«01_k».proof.Proof.Gen.ScKernelIdeal.Skeleton
public import proofs.«01_k».proof.Proof.Gen.ScKernelIdeal.Launch
public import proofs.«01_k».proof.Proof.Gen.ScKernelIdeal.Points
public import proofs.«01_k».proof.Proof.Gen.ScKernelIdeal.Frame
public import proofs.«01_k».proof.Proof.Gen.ScReferenceIdeal
public import proofs.«01_k».proof.Proof.Gen.ScReferenceIdeal.Run
public import proofs.«01_k».proof.Proof.Gen.ScReferenceIdeal.Read
public import proofs.«01_k».proof.Proof.ScClaim
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite_ffn
public import proofs.«01_k».proof.Proof.FfnClaim
public import proofs.«01_k».proof.Proof.Gen.UpKernel
public import proofs.«01_k».proof.Proof.Gen.UpKernelIdeal
public import proofs.«01_k».proof.Proof.Gen.UpKernel.Skeleton
public import proofs.«01_k».proof.Proof.Gen.UpKernelIdeal.Skeleton
public import proofs.«01_k».proof.Proof.Gen.UpKernel.Launch
public import proofs.«01_k».proof.Proof.Gen.UpKernelIdeal.Launch
public import proofs.«01_k».proof.Proof.Gen.UpKernel.Points
public import proofs.«01_k».proof.Proof.Gen.UpKernelIdeal.Points
public import proofs.«01_k».proof.Proof.Gen.UpKernel.Frame
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpValue
public import proofs.«01_k».proof.Proof.Gen.MixrKernel
public import proofs.«01_k».proof.Proof.Gen.MixrKernelIdeal
public import proofs.«01_k».proof.Proof.Gen.MixrKernel.Skeleton
public import proofs.«01_k».proof.Proof.Gen.MixrKernelIdeal.Skeleton
public import proofs.«01_k».proof.Proof.Gen.MixrKernel.Launch
public import proofs.«01_k».proof.Proof.Gen.MixrKernelIdeal.Launch
public import proofs.«01_k».proof.Proof.Gen.MixrKernel.Points
public import proofs.«01_k».proof.Proof.Gen.MixrKernelIdeal.Points
public import proofs.«01_k».proof.Proof.Gen.MixrKernel.Frame
public import proofs.«01_k».proof.Proof.Gen.MixrKernelIdeal.Frame
public import proofs.«01_k».proof.Proof.Gen.MixrKernelIdeal.Value
public import proofs.«01_k».proof.Proof.Gen.MixrReferenceIdeal
public import proofs.«01_k».proof.Proof.Gen.MixrReferenceIdeal.Run
public import proofs.«01_k».proof.Proof.Gen.MixrReferenceIdeal.Read
public import proofs.«01_k».proof.Proof.MixrValue
public import proofs.«01_k».proof.Proof.Gen.MixcKernel
public import proofs.«01_k».proof.Proof.Gen.MixcKernelIdeal
public import proofs.«01_k».proof.Proof.Gen.MixcKernel.Skeleton
public import proofs.«01_k».proof.Proof.Gen.MixcKernelIdeal.Skeleton
public import proofs.«01_k».proof.Proof.Gen.MixcKernel.Launch
public import proofs.«01_k».proof.Proof.Gen.MixcKernelIdeal.Launch
public import proofs.«01_k».proof.Proof.Gen.MixcKernel.Points
public import proofs.«01_k».proof.Proof.Gen.MixcKernelIdeal.Points
public import proofs.«01_k».proof.Proof.Gen.MixcKernel.Frame
public import proofs.«01_k».proof.Proof.Gen.MixcKernelIdeal.Frame
public import proofs.«01_k».proof.Proof.Gen.MixcKernelIdeal.Value
public import proofs.«01_k».proof.Proof.Gen.MixcReferenceIdeal
public import proofs.«01_k».proof.Proof.Gen.MixcReferenceIdeal.Run
public import proofs.«01_k».proof.Proof.Gen.MixcReferenceIdeal.Read
public import proofs.«01_k».proof.Proof.MixcValue
public import proofs.«01_k».proof.Proof.Gen.LhKernel
public import proofs.«01_k».proof.Proof.Gen.LhKernelIdeal
public import proofs.«01_k».proof.Proof.Gen.LhKernel.Skeleton
public import proofs.«01_k».proof.Proof.Gen.LhKernelIdeal.Skeleton
public import proofs.«01_k».proof.Proof.Gen.LhKernel.Launch
public import proofs.«01_k».proof.Proof.Gen.LhKernelIdeal.Launch
public import proofs.«01_k».proof.Proof.Gen.LhKernel.Points
public import proofs.«01_k».proof.Proof.Gen.LhKernelIdeal.Points
public import proofs.«01_k».proof.Proof.Gen.LhKernel.Frame
public import proofs.«01_k».proof.Proof.Gen.LhKernelIdeal.Frame
public import proofs.«01_k».proof.Proof.Gen.LhKernelIdeal.Value
public import proofs.«01_k».proof.Proof.Gen.LhReferenceIdeal
public import proofs.«01_k».proof.Proof.Gen.LhReferenceIdeal.Run
public import proofs.«01_k».proof.Proof.Gen.LhReferenceIdeal.Read
public import proofs.«01_k».proof.Proof.LhValue
public import proofs.«01_k».proof.Proof.Gen.Pre_finite_up
public import proofs.«01_k».proof.Proof.Gen.Pre_finite_mixr
public import proofs.«01_k».proof.Proof.Gen.Pre_finite_mixc
public import proofs.«01_k».proof.Proof.Gen.OutaKernel
public import proofs.«01_k».proof.Proof.Gen.OutaKernel.Skeleton
public import proofs.«01_k».proof.Proof.Gen.OutaKernel.Launch
public import proofs.«01_k».proof.Proof.Gen.OutaKernel.Points
public import proofs.«01_k».proof.Proof.Gen.OutaKernel.Frame
public import proofs.«01_k».proof.Proof.Gen.OutaKernelIdeal
public import proofs.«01_k».proof.Proof.Gen.OutaKernelIdeal.Skeleton
public import proofs.«01_k».proof.Proof.Gen.OutaKernelIdeal.Launch
public import proofs.«01_k».proof.Proof.Gen.OutaKernelIdeal.Points
public import proofs.«01_k».proof.Proof.Gen.OutaKernelIdeal.Frame
public import proofs.«01_k».proof.Proof.Gen.OutaKernelIdeal.Value
public import proofs.«01_k».proof.Proof.Gen.OutaReferenceIdeal
public import proofs.«01_k».proof.Proof.Gen.OutaReferenceIdeal.Run
public import proofs.«01_k».proof.Proof.Gen.OutaReferenceIdeal.Read
public import proofs.«01_k».proof.Proof.Gen.OutcKernel
public import proofs.«01_k».proof.Proof.Gen.OutcKernel.Skeleton
public import proofs.«01_k».proof.Proof.Gen.OutcKernel.Launch
public import proofs.«01_k».proof.Proof.Gen.OutcKernel.Points
public import proofs.«01_k».proof.Proof.Gen.OutcKernel.Frame
public import proofs.«01_k».proof.Proof.Gen.OutcKernelIdeal
public import proofs.«01_k».proof.Proof.Gen.OutcKernelIdeal.Skeleton
public import proofs.«01_k».proof.Proof.Gen.OutcKernelIdeal.Launch
public import proofs.«01_k».proof.Proof.Gen.OutcKernelIdeal.Points
public import proofs.«01_k».proof.Proof.Gen.OutcKernelIdeal.Frame
public import proofs.«01_k».proof.Proof.Gen.OutcKernelIdeal.Value
public import proofs.«01_k».proof.Proof.Gen.OutcReferenceIdeal
public import proofs.«01_k».proof.Proof.Gen.OutcReferenceIdeal.Run
public import proofs.«01_k».proof.Proof.Gen.OutcReferenceIdeal.Read
public import proofs.«01_k».proof.Proof.Gen.OutrKernel
public import proofs.«01_k».proof.Proof.Gen.OutrKernel.Skeleton
public import proofs.«01_k».proof.Proof.Gen.OutrKernel.Launch
public import proofs.«01_k».proof.Proof.Gen.OutrKernel.Points
public import proofs.«01_k».proof.Proof.Gen.OutrKernel.Frame
public import proofs.«01_k».proof.Proof.Gen.OutrKernelIdeal
public import proofs.«01_k».proof.Proof.Gen.OutrKernelIdeal.Skeleton
public import proofs.«01_k».proof.Proof.Gen.OutrKernelIdeal.Launch
public import proofs.«01_k».proof.Proof.Gen.OutrKernelIdeal.Points
public import proofs.«01_k».proof.Proof.Gen.OutrKernelIdeal.Frame
public import proofs.«01_k».proof.Proof.Gen.OutrKernelIdeal.Value
public import proofs.«01_k».proof.Proof.Gen.OutrReferenceIdeal
public import proofs.«01_k».proof.Proof.Gen.OutrReferenceIdeal.Run
public import proofs.«01_k».proof.Proof.Gen.OutrReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.ScfKernel
public import proofs.«01_k».proof.Proof.Gen.ScfKernel.Skeleton
public import proofs.«01_k».proof.Proof.Gen.ScfKernel.Launch
public import proofs.«01_k».proof.Proof.Gen.ScfKernel.Points
public import proofs.«01_k».proof.Proof.Gen.ScfKernel.Frame
public import proofs.«01_k».proof.Proof.Gen.ScfKernelIdeal
public import proofs.«01_k».proof.Proof.Gen.ScfKernelIdeal.Skeleton
public import proofs.«01_k».proof.Proof.Gen.ScfKernelIdeal.Launch
public import proofs.«01_k».proof.Proof.Gen.ScfKernelIdeal.Points
public import proofs.«01_k».proof.Proof.Gen.ScfKernelIdeal.Frame
public import proofs.«01_k».proof.Proof.Gen.ScfKernelIdeal.Value
public import proofs.«01_k».proof.Proof.Gen.ScfReferenceIdeal
public import proofs.«01_k».proof.Proof.Gen.ScfReferenceIdeal.Run
public import proofs.«01_k».proof.Proof.Gen.ScfReferenceIdeal.Read
public import proofs.«01_k».proof.Proof.Gen.FupKernel
public import proofs.«01_k».proof.Proof.Gen.FupKernel.Skeleton
public import proofs.«01_k».proof.Proof.Gen.FupKernel.Launch
public import proofs.«01_k».proof.Proof.Gen.FupKernel.Points
public import proofs.«01_k».proof.Proof.Gen.FupKernel.Frame
public import proofs.«01_k».proof.Proof.Gen.FupKernelIdeal
public import proofs.«01_k».proof.Proof.Gen.FupKernelIdeal.Skeleton
public import proofs.«01_k».proof.Proof.Gen.FupKernelIdeal.Launch
public import proofs.«01_k».proof.Proof.Gen.FupKernelIdeal.Points
public import proofs.«01_k».proof.Proof.Gen.FupKernelIdeal.Frame
public import proofs.«01_k».proof.Proof.Gen.FupKernelIdeal.Value
public import proofs.«01_k».proof.Proof.Gen.FupReferenceIdeal
public import proofs.«01_k».proof.Proof.Gen.FupReferenceIdeal.Run
public import proofs.«01_k».proof.Proof.Gen.FupReferenceIdeal.Read
public import proofs.«01_k».proof.Proof.OutaValue
public import proofs.«01_k».proof.Proof.OutcValue
public import proofs.«01_k».proof.Proof.OutrValue
public import proofs.«01_k».proof.Proof.DownValue
public import proofs.«01_k».proof.Proof.ScfValue
public import proofs.«01_k».proof.Proof.FupValue
public import proofs.«01_k».proof.Proof.Gen.LrufKernel
public import proofs.«01_k».proof.Proof.Gen.LrufKernel.Skeleton
public import proofs.«01_k».proof.Proof.Gen.LrufKernel.Launch
public import proofs.«01_k».proof.Proof.Gen.LrufKernel.Points
public import proofs.«01_k».proof.Proof.Gen.LrufKernel.Frame
public import proofs.«01_k».proof.Proof.Gen.LrufKernelIdeal
public import proofs.«01_k».proof.Proof.Gen.LrufKernelIdeal.Skeleton
public import proofs.«01_k».proof.Proof.Gen.LrufKernelIdeal.Launch
public import proofs.«01_k».proof.Proof.Gen.LrufKernelIdeal.Points
public import proofs.«01_k».proof.Proof.Gen.LrufKernelIdeal.Frame
public import proofs.«01_k».proof.Proof.Gen.MmKernel
public import proofs.«01_k».proof.Proof.Gen.MmKernel.Skeleton
public import proofs.«01_k».proof.Proof.Gen.MmKernel.Launch
public import proofs.«01_k».proof.Proof.Gen.MmKernel.Points
public import proofs.«01_k».proof.Proof.Gen.MmKernel.Frame
public import proofs.«01_k».proof.Proof.Gen.MmKernelIdeal
public import proofs.«01_k».proof.Proof.Gen.MmKernelIdeal.Skeleton
public import proofs.«01_k».proof.Proof.Gen.MmKernelIdeal.Launch
public import proofs.«01_k».proof.Proof.Gen.MmKernelIdeal.Points
public import proofs.«01_k».proof.Proof.Gen.MmKernelIdeal.Frame
public import proofs.«01_k».proof.Proof.Gen.MmKernelIdeal.Value
public import proofs.«01_k».proof.Proof.Gen.MmReferenceIdeal
public import proofs.«01_k».proof.Proof.Gen.MmReferenceIdeal.Run
public import proofs.«01_k».proof.Proof.Gen.MmReferenceIdeal.Read
public import proofs.«01_k».proof.Proof.MmValue
public import proofs.«01_k».proof.Proof.Gen.MmtnKernel
public import proofs.«01_k».proof.Proof.Gen.MmtnKernel.Skeleton
public import proofs.«01_k».proof.Proof.Gen.MmtnKernel.Launch
public import proofs.«01_k».proof.Proof.Gen.MmtnKernel.Points
public import proofs.«01_k».proof.Proof.Gen.MmtnKernel.Frame
public import proofs.«01_k».proof.Proof.Gen.MmtnKernelIdeal
public import proofs.«01_k».proof.Proof.Gen.MmtnKernelIdeal.Skeleton
public import proofs.«01_k».proof.Proof.Gen.MmtnKernelIdeal.Launch
public import proofs.«01_k».proof.Proof.Gen.MmtnKernelIdeal.Points
public import proofs.«01_k».proof.Proof.Gen.MmtnKernelIdeal.Frame
public import proofs.«01_k».proof.Proof.Gen.MmtnKernelIdeal.Value
public import proofs.«01_k».proof.Proof.Gen.MmtnReferenceIdeal
public import proofs.«01_k».proof.Proof.Gen.MmtnReferenceIdeal.Run
public import proofs.«01_k».proof.Proof.Gen.MmtnReferenceIdeal.Read
public import proofs.«01_k».proof.Proof.MmtnValue
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.AdamValue
public import proofs.«01_k».proof.Proof.Gen.CastKernel
public import proofs.«01_k».proof.Proof.Gen.CastKernel.Skeleton
public import proofs.«01_k».proof.Proof.Gen.CastKernel.Launch
public import proofs.«01_k».proof.Proof.Gen.CastKernel.Points
public import proofs.«01_k».proof.Proof.Gen.CastKernel.Frame
public import proofs.«01_k».proof.Proof.Gen.CastKernelIdeal
public import proofs.«01_k».proof.Proof.Gen.CastKernelIdeal.Skeleton
public import proofs.«01_k».proof.Proof.Gen.CastKernelIdeal.Launch
public import proofs.«01_k».proof.Proof.Gen.CastKernelIdeal.Points
public import proofs.«01_k».proof.Proof.Gen.CastKernelIdeal.Frame
public import proofs.«01_k».proof.Proof.Gen.CastKernelIdeal.Value
public import proofs.«01_k».proof.Proof.Gen.CastReferenceIdeal
public import proofs.«01_k».proof.Proof.Gen.CastReferenceIdeal.Run
public import proofs.«01_k».proof.Proof.Gen.CastReferenceIdeal.Read
public import proofs.«01_k».proof.Proof.CastValue
public import proofs.«01_k».proof.Proof.Gen.LrubKernel
public import proofs.«01_k».proof.Proof.Gen.LrubKernel.Skeleton
public import proofs.«01_k».proof.Proof.Gen.LrubKernel.Launch
public import proofs.«01_k».proof.Proof.Gen.LrubKernel.Points
public import proofs.«01_k».proof.Proof.Gen.LrubKernel.Frame
public import proofs.«01_k».proof.Proof.Gen.LrubKernelIdeal
public import proofs.«01_k».proof.Proof.Gen.LrubKernelIdeal.Skeleton
public import proofs.«01_k».proof.Proof.Gen.LrubKernelIdeal.Launch
public import proofs.«01_k».proof.Proof.Gen.LrubKernelIdeal.Points
public import proofs.«01_k».proof.Proof.Gen.LrubKernelIdeal.Frame
public import proofs.«01_k».proof.Proof.LrubFrame
public import Idealize.ShloMosaic.Adequacy
public import Idealize.ShloMosaic.Init

@[expose] public section

noncomputable section

namespace Cert.Proof

open Idealize.ShloMosaic Idealize.SL.Sem Cert.LnKernel

theorem claim : Cert.Claim :=
  ⟨Cert.LnKernel.Gen.facts, Cert.LnKernelIdeal.Gen.facts, Cert.LnReferenceIdeal.Gen.facts,
    Cert.ScKernel.Gen.facts, Cert.ScKernelIdeal.Gen.facts, Cert.ScReferenceIdeal.Gen.facts,
    Cert.FfnKernel.Gen.facts, Cert.FfnKernelIdeal.Gen.facts, Cert.FfnReferenceIdeal.Gen.facts,
    Cert.UpKernel.Gen.facts, Cert.UpKernelIdeal.Gen.facts, Cert.UpReferenceIdeal.Gen.facts,
    Cert.MixrKernel.Gen.facts, Cert.MixrKernelIdeal.Gen.facts, Cert.MixrReferenceIdeal.Gen.facts,
    Cert.MixcKernel.Gen.facts, Cert.MixcKernelIdeal.Gen.facts, Cert.MixcReferenceIdeal.Gen.facts,
    Cert.LhKernel.Gen.facts, Cert.LhKernelIdeal.Gen.facts, Cert.LhReferenceIdeal.Gen.facts,
    Cert.OutaKernel.Gen.facts, Cert.OutaKernelIdeal.Gen.facts, Cert.OutaReferenceIdeal.Gen.facts,
    Cert.OutcKernel.Gen.facts, Cert.OutcKernelIdeal.Gen.facts, Cert.OutcReferenceIdeal.Gen.facts,
    Cert.OutrKernel.Gen.facts, Cert.OutrKernelIdeal.Gen.facts, Cert.OutrReferenceIdeal.Gen.facts,
    Cert.DownKernel.Gen.facts, Cert.DownKernelIdeal.Gen.facts, Cert.DownReferenceIdeal.Gen.facts,
    Cert.ScfKernel.Gen.facts, Cert.ScfKernelIdeal.Gen.facts, Cert.ScfReferenceIdeal.Gen.facts,
    Cert.FupKernel.Gen.facts, Cert.FupKernelIdeal.Gen.facts, Cert.FupReferenceIdeal.Gen.facts,
    Cert.LrufKernel.Gen.facts, Cert.LrufKernelIdeal.Gen.facts,
    Cert.MmKernel.Gen.facts, Cert.MmKernelIdeal.Gen.facts, Cert.MmReferenceIdeal.Gen.facts,
    Cert.MmtnKernel.Gen.facts, Cert.MmtnKernelIdeal.Gen.facts, Cert.MmtnReferenceIdeal.Gen.facts,
    Cert.AdamKernel.Gen.facts, Cert.AdamKernelIdeal.Gen.facts, Cert.AdamReferenceIdeal.Gen.facts,
    Cert.CastKernel.Gen.facts, Cert.CastKernelIdeal.Gen.facts, Cert.CastReferenceIdeal.Gen.facts,
    Cert.LrubKernel.Gen.facts, Cert.LrubKernelIdeal.Gen.facts,
    Cert.Pre_finite_ln.Gen.facts, Cert.Pre_finite_ffn.Gen.facts, Cert.Pre_finite_up.Gen.facts, Cert.Pre_finite_mixr.Gen.facts, Cert.Pre_finite_mixc.Gen.facts,
    fun m ρ _ => Cert.LnKernel.Gen.frame m ρ,
    fun m ρ _ => Cert.LnKernelIdeal.Gen.frame m ρ,
    fun m ρ _ => Cert.LnKernelIdeal.Gen.frame m ρ,
    fun m ρ _ => Cert.LnValue.frame_reference m ρ,
    fun m ρ _ => Cert.LnValue.frame_reference m ρ,
    fun m ρ _ => Cert.ScClaim.frame_kernel m ρ,
    fun m ρ _ => Cert.ScFrame.frame m ρ,
    fun m ρ _ => Cert.ScClaim.frame_reference m ρ,
    fun m ρ _ => Cert.FfnClaim.frame_kernel m ρ,
    fun m ρ _ => Cert.FfnFrame.frame m ρ,
    fun m ρ _ => Cert.FfnFrame.frame m ρ,
    fun m ρ _ => Cert.FfnClaim.frame_reference m ρ,
    fun m ρ _ => Cert.FfnClaim.frame_reference m ρ,
    fun m ρ _ => Cert.UpKernel.Gen.frame m ρ,
    fun m ρ _ => Cert.UpKernelIdeal.Gen.frame m ρ,
    fun m ρ _ => Cert.UpKernelIdeal.Gen.frame m ρ,
    fun m ρ _ => Cert.UpValue.frame_reference m ρ,
    fun m ρ _ => Cert.UpValue.frame_reference m ρ,
    fun m ρ _ => Cert.MixrKernel.Gen.frame m ρ,
    fun m ρ _ => Cert.MixrKernelIdeal.Gen.frame m ρ,
    fun m ρ _ => Cert.MixrKernelIdeal.Gen.frame m ρ,
    fun m ρ _ => Cert.MixrValue.frame_reference m ρ,
    fun m ρ _ => Cert.MixrValue.frame_reference m ρ,
    fun m ρ _ => Cert.MixcKernel.Gen.frame m ρ,
    fun m ρ _ => Cert.MixcKernelIdeal.Gen.frame m ρ,
    fun m ρ _ => Cert.MixcKernelIdeal.Gen.frame m ρ,
    fun m ρ _ => Cert.MixcValue.frame_reference m ρ,
    fun m ρ _ => Cert.MixcValue.frame_reference m ρ,
    fun m ρ _ => Cert.LhKernel.Gen.frame m ρ,
    fun m ρ _ => Cert.LhKernelIdeal.Gen.frame m ρ,
    fun m ρ _ => Cert.LhValue.frame_reference m ρ,
    fun m ρ _ => Cert.OutaKernel.Gen.frame m ρ,
    fun m ρ _ => Cert.OutaKernelIdeal.Gen.frame m ρ,
    fun m ρ _ => Cert.OutaValue.frame_reference m ρ,
    fun m ρ _ => Cert.OutcKernel.Gen.frame m ρ,
    fun m ρ _ => Cert.OutcKernelIdeal.Gen.frame m ρ,
    fun m ρ _ => Cert.OutcValue.frame_reference m ρ,
    fun m ρ _ => Cert.OutrKernel.Gen.frame m ρ,
    fun m ρ _ => Cert.OutrKernelIdeal.Gen.frame m ρ,
    fun m ρ _ => Cert.OutrValue.frame_reference m ρ,
    fun m ρ _ => Cert.DownKernel.Gen.frame m ρ,
    fun m ρ _ => Cert.DownKernelIdeal.Gen.frame m ρ,
    fun m ρ _ => Cert.DownValue.frame_reference m ρ,
    fun m ρ _ => Cert.ScfKernel.Gen.frame m ρ,
    fun m ρ _ => Cert.ScfKernelIdeal.Gen.frame m ρ,
    fun m ρ _ => Cert.ScfValue.frame_reference m ρ,
    fun m ρ _ => Cert.FupKernel.Gen.frame m ρ,
    fun m ρ _ => Cert.FupKernelIdeal.Gen.frame m ρ,
    fun m ρ _ => Cert.FupValue.frame_reference m ρ,
    fun m ρ _ => Cert.LrufKernel.Gen.frame m ρ,
    fun m ρ _ => Cert.LrufKernelIdeal.Gen.frame m ρ,
    fun m ρ _ => Cert.MmKernel.Gen.frame m ρ,
    fun m ρ _ => Cert.MmKernelIdeal.Gen.frame m ρ,
    fun m ρ _ => Cert.MmValue.frame_reference m ρ,
    fun m ρ _ => Cert.MmtnKernel.Gen.frame m ρ,
    fun m ρ _ => Cert.MmtnKernelIdeal.Gen.frame m ρ,
    fun m ρ _ => Cert.MmtnValue.frame_reference m ρ,
    fun m ρ _ => Cert.AdamKernel.Gen.frame m ρ,
    fun m ρ _ => Cert.AdamKernelIdeal.Gen.frame m ρ,
    fun m ρ _ => Cert.AdamValue.frame_reference m ρ,
    fun m ρ _ => Cert.CastKernel.Gen.frame m ρ,
    fun m ρ _ => Cert.CastKernelIdeal.Gen.frame m ρ,
    fun m ρ _ => Cert.CastValue.frame_reference m ρ,
    fun m ρ _ => Cert.LrubFrame.frame_kernel m ρ,
    fun m ρ _ => Cert.LrubFrame.frame m ρ,
    trivial,
    Cert.LnValue.algebraic,
    trivial,
    Cert.ScClaim.algebraic,
    trivial,
    Cert.FfnClaim.algebraic,
    trivial,
    Cert.UpValue.algebraic,
    trivial,
    Cert.MixrValue.algebraic,
    trivial,
    Cert.MixcValue.algebraic,
    trivial,
    Cert.LhValue.algebraic,
    trivial,
    Cert.OutaValue.algebraic,
    trivial,
    Cert.OutcValue.algebraic,
    trivial,
    Cert.OutrValue.algebraic,
    trivial,
    Cert.DownValue.algebraic,
    trivial,
    Cert.ScfValue.algebraic,
    trivial,
    Cert.FupValue.algebraic,
    trivial,
    trivial,
    Cert.MmValue.algebraic,
    trivial,
    Cert.MmtnValue.algebraic,
    Cert.AdamValue.preserves,
    Cert.AdamValue.algebraic,
    trivial,
    Cert.CastValue.algebraic,
    trivial⟩

end Cert.Proof

end
